-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixRefIdeal (m : (ℓ : Loc Cert.PreMixRefIdeal.nD Cert.PreMixRefIdeal.τ Cert.PreMixRefIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixRefIdeal (m : (ℓ : Loc Cert.PostMixRefIdeal.nD Cert.PostMixRefIdeal.τ Cert.PostMixRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))) = (fun _ => 1#1)

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_stick_finite [hPre_stick_finite : Cert.Pre_stick_finite.Facts] (m : (ℓ : Loc Cert.StickIdeal.nD Cert.StickIdeal.τ Cert.StickIdeal.sig) → Buf (Elt Ideal) ℓ) : Prop :=
  ∀ c : Dev Cert.StickIdeal.nD,
    (Cert.Pre_stick_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2)) (m ((c.tc : Thread Cert.StickRefIdeal.nD Cert.StickRefIdeal.τ).loc Cert.StickRefIdeal.main_arg3))) = (fun _ => 1#1)

def Pre_StickOut (m : (ℓ : Loc Cert.StickOut.nD Cert.StickOut.τ Cert.StickOut.sig) → Buf (Elt Bits) ℓ) : Prop :=
  True

def Pre_StickOutIdeal (m : (ℓ : Loc Cert.StickOutIdeal.nD Cert.StickOutIdeal.τ Cert.StickOutIdeal.sig) → Buf (Elt Ideal) ℓ) : Prop :=
  True

def Pre_StickOutIdeal_scores_finite [hPre_scores_finite : Cert.Pre_scores_finite.Facts] (m : (ℓ : Loc Cert.StickOutIdeal.nD Cert.StickOutIdeal.τ Cert.StickOutIdeal.sig) → Buf (Elt Ideal) ℓ) : Prop :=
  ∀ c : Dev Cert.StickOutIdeal.nD,
    (Cert.Pre_scores_finite.fn (F := Ideal) (m ((c.tc : Thread Cert.StickOutIdeal.nD Cert.StickOutIdeal.τ).loc Cert.StickOutIdeal.main_arg0)) (m ((c.tc : Thread Cert.StickOutIdeal.nD Cert.StickOutIdeal.τ).loc Cert.StickOutIdeal.main_arg1)) (m ((c.tc : Thread Cert.StickOutIdeal.nD Cert.StickOutIdeal.τ).loc Cert.StickOutIdeal.main_arg2))) = (fun _ => 1#1)

def Pre_StickOutRefIdeal (m : (ℓ : Loc Cert.StickOutRefIdeal.nD Cert.StickOutRefIdeal.τ Cert.StickOutRefIdeal.sig) → Buf (Elt Ideal) ℓ) : Prop :=
  True

def Pre_StickOutRefIdeal_scores_finite [hPre_scores_finite : Cert.Pre_scores_finite.Facts] (m : (ℓ : Loc Cert.StickOutRefIdeal.nD Cert.StickOutRefIdeal.τ Cert.StickOutRefIdeal.sig) → Buf (Elt Ideal) ℓ) : Prop :=
  ∀ c : Dev Cert.StickOutRefIdeal.nD,
    (Cert.Pre_scores_finite.fn (F := Ideal) (m ((c.tc : Thread Cert.StickOutRefIdeal.nD Cert.StickOutRefIdeal.τ).loc Cert.StickOutRefIdeal.main_arg0)) (m ((c.tc : Thread Cert.StickOutRefIdeal.nD Cert.StickOutRefIdeal.τ).loc Cert.StickOutRefIdeal.main_arg1)) (m ((c.tc : Thread Cert.StickOutRefIdeal.nD Cert.StickOutRefIdeal.τ).loc Cert.StickOutRefIdeal.main_arg2))) = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_TwoNorms (m : (ℓ : Loc Cert.TwoNorms.nD Cert.TwoNorms.τ Cert.TwoNorms.sig) → Buf (Elt Bits) ℓ) : Prop :=
  True

def Pre_TwoNormsIdeal (m : (ℓ : Loc Cert.TwoNormsIdeal.nD Cert.TwoNormsIdeal.τ Cert.TwoNormsIdeal.sig) → Buf (Elt Ideal) ℓ) : Prop :=
  True

def Pre_TwoNormsRefIdeal (m : (ℓ : Loc Cert.TwoNormsRefIdeal.nD Cert.TwoNormsRefIdeal.τ Cert.TwoNormsRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def Pre_ProjBack (m : (ℓ : Loc Cert.ProjBack.nD Cert.ProjBack.τ Cert.ProjBack.sig) → Buf (Elt Bits) ℓ) : Prop :=
  True

def Pre_ProjBackIdeal (m : (ℓ : Loc Cert.ProjBackIdeal.nD Cert.ProjBackIdeal.τ Cert.ProjBackIdeal.sig) → Buf (Elt Ideal) ℓ) : Prop :=
  True

def Pre_ProjBackRefIdeal (m : (ℓ : Loc Cert.ProjBackRefIdeal.nD Cert.ProjBackRefIdeal.τ Cert.ProjBackRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2)
      ∧ r.2.mem ((c.tc : Thread Cert.PreMix.nD Cert.PreMix.τ).loc Cert.PreMix.main_arg3) = m ((c.tc : Thread Cert.PreMix.nD Cert.PreMix.τ).loc Cert.PreMix.main_arg3))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
      ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3))
      ∧ r.2.sem = fun _ => 0)

def quiescent_PreMixRefIdeal [hPreMixRefIdeal : Cert.PreMixRefIdeal.Facts] : Prop :=
  ∀ (m : (ℓ : Loc Cert.PreMixRefIdeal.nD Cert.PreMixRefIdeal.τ Cert.PreMixRefIdeal.sig) → Buf (Elt Ideal) ℓ) (g : Dev Cert.PreMixRefIdeal.nD → PrngReg), Pre_PreMixRefIdeal m →
    θ_run (Cert.PreMixRefIdeal.defs (F := Ideal)) (onTc (τ := Cert.PreMixRefIdeal.τ) (Cert.PreMixRefIdeal.main (F := Ideal))) ⟨m, fun _ => 0, g⟩ (fun r => (∀ c : Dev Cert.PreMixRefIdeal.nD,
      r.2.mem ((c.tc : Thread Cert.PreMixRefIdeal.nD Cert.PreMixRefIdeal.τ).loc Cert.PreMixRefIdeal.main_arg0) = m ((c.tc : Thread Cert.PreMixRefIdeal.nD Cert.PreMixRefIdeal.τ).loc Cert.PreMixRefIdeal.main_arg0)
      ∧ r.2.mem ((c.tc : Thread Cert.PreMixRefIdeal.nD Cert.PreMixRefIdeal.τ).loc Cert.PreMixRefIdeal.main_arg1) = m ((c.tc : Thread Cert.PreMixRefIdeal.nD Cert.PreMixRefIdeal.τ).loc Cert.PreMixRefIdeal.main_arg1)
      ∧ r.2.mem ((c.tc : Thread Cert.PreMixRefIdeal.nD Cert.PreMixRefIdeal.τ).loc Cert.PreMixRefIdeal.main_arg2) = m ((c.tc : Thread Cert.PreMixRefIdeal.nD Cert.PreMixRefIdeal.τ).loc Cert.PreMixRefIdeal.main_arg2)
      ∧ r.2.mem ((c.tc : Thread Cert.PreMixRefIdeal.nD Cert.PreMixRefIdeal.τ).loc Cert.PreMixRefIdeal.main_arg3) = m ((c.tc : Thread Cert.PreMixRefIdeal.nD Cert.PreMixRefIdeal.τ).loc Cert.PreMixRefIdeal.main_arg3))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3)
      ∧ r.2.mem ((c.tc : Thread Cert.PostMix.nD Cert.PostMix.τ).loc Cert.PostMix.main_arg4) = m ((c.tc : Thread Cert.PostMix.nD Cert.PostMix.τ).loc Cert.PostMix.main_arg4)
      ∧ r.2.mem ((c.tc : Thread Cert.PostMix.nD Cert.PostMix.τ).loc Cert.PostMix.main_arg5) = m ((c.tc : Thread Cert.PostMix.nD Cert.PostMix.τ).loc Cert.PostMix.main_arg5))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
      ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
      ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5))
      ∧ r.2.sem = fun _ => 0)

def quiescent_PostMixRefIdeal [hPostMixRefIdeal : Cert.PostMixRefIdeal.Facts] : Prop :=
  ∀ (m : (ℓ : Loc Cert.PostMixRefIdeal.nD Cert.PostMixRefIdeal.τ Cert.PostMixRefIdeal.sig) → Buf (Elt Ideal) ℓ) (g : Dev Cert.PostMixRefIdeal.nD → PrngReg), Pre_PostMixRefIdeal m →
    θ_run (Cert.PostMixRefIdeal.defs (F := Ideal)) (onTc (τ := Cert.PostMixRefIdeal.τ) (Cert.PostMixRefIdeal.main (F := Ideal))) ⟨m, fun _ => 0, g⟩ (fun r => (∀ c : Dev Cert.PostMixRefIdeal.nD,
      r.2.mem ((c.tc : Thread Cert.PostMixRefIdeal.nD Cert.PostMixRefIdeal.τ).loc Cert.PostMixRefIdeal.main_arg0) = m ((c.tc : Thread Cert.PostMixRefIdeal.nD Cert.PostMixRefIdeal.τ).loc Cert.PostMixRefIdeal.main_arg0)
      ∧ r.2.mem ((c.tc : Thread Cert.PostMixRefIdeal.nD Cert.PostMixRefIdeal.τ).loc Cert.PostMixRefIdeal.main_arg1) = m ((c.tc : Thread Cert.PostMixRefIdeal.nD Cert.PostMixRefIdeal.τ).loc Cert.PostMixRefIdeal.main_arg1)
      ∧ r.2.mem ((c.tc : Thread Cert.PostMixRefIdeal.nD Cert.PostMixRefIdeal.τ).loc Cert.PostMixRefIdeal.main_arg2) = m ((c.tc : Thread Cert.PostMixRefIdeal.nD Cert.PostMixRefIdeal.τ).loc Cert.PostMixRefIdeal.main_arg2)
      ∧ r.2.mem ((c.tc : Thread Cert.PostMixRefIdeal.nD Cert.PostMixRefIdeal.τ).loc Cert.PostMixRefIdeal.main_arg3) = m ((c.tc : Thread Cert.PostMixRefIdeal.nD Cert.PostMixRefIdeal.τ).loc Cert.PostMixRefIdeal.main_arg3)
      ∧ r.2.mem ((c.tc : Thread Cert.PostMixRefIdeal.nD Cert.PostMixRefIdeal.τ).loc Cert.PostMixRefIdeal.main_arg4) = m ((c.tc : Thread Cert.PostMixRefIdeal.nD Cert.PostMixRefIdeal.τ).loc Cert.PostMixRefIdeal.main_arg4)
      ∧ r.2.mem ((c.tc : Thread Cert.PostMixRefIdeal.nD Cert.PostMixRefIdeal.τ).loc Cert.PostMixRefIdeal.main_arg5) = m ((c.tc : Thread Cert.PostMixRefIdeal.nD Cert.PostMixRefIdeal.τ).loc Cert.PostMixRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2)
      ∧ r.2.mem ((c.tc : Thread Cert.Stick.nD Cert.Stick.τ).loc Cert.Stick.main_arg3) = m ((c.tc : Thread Cert.Stick.nD Cert.Stick.τ).loc Cert.Stick.main_arg3))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickIdeal_pre_stick_finite [hStickIdeal : Cert.StickIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_stick_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_StickOut [hStickOut : Cert.StickOut.Facts] : Prop :=
  ∀ (m : (ℓ : Loc Cert.StickOut.nD Cert.StickOut.τ Cert.StickOut.sig) → Buf (Elt Bits) ℓ) (g : Dev Cert.StickOut.nD → PrngReg), Pre_StickOut m →
    θ_run (Cert.StickOut.defs (F := Bits)) (onTc (τ := Cert.StickOut.τ) (Cert.StickOut.main (F := Bits))) ⟨m, fun _ => 0, g⟩ (fun r => (∀ c : Dev Cert.StickOut.nD,
      r.2.mem ((c.tc : Thread Cert.StickOut.nD Cert.StickOut.τ).loc Cert.StickOut.main_arg0) = m ((c.tc : Thread Cert.StickOut.nD Cert.StickOut.τ).loc Cert.StickOut.main_arg0)
      ∧ r.2.mem ((c.tc : Thread Cert.StickOut.nD Cert.StickOut.τ).loc Cert.StickOut.main_arg1) = m ((c.tc : Thread Cert.StickOut.nD Cert.StickOut.τ).loc Cert.StickOut.main_arg1)
      ∧ r.2.mem ((c.tc : Thread Cert.StickOut.nD Cert.StickOut.τ).loc Cert.StickOut.main_arg2) = m ((c.tc : Thread Cert.StickOut.nD Cert.StickOut.τ).loc Cert.StickOut.main_arg2))
      ∧ r.2.sem = fun _ => 0)

def quiescent_StickOutIdeal [hStickOutIdeal : Cert.StickOutIdeal.Facts] : Prop :=
  ∀ (m : (ℓ : Loc Cert.StickOutIdeal.nD Cert.StickOutIdeal.τ Cert.StickOutIdeal.sig) → Buf (Elt Ideal) ℓ) (g : Dev Cert.StickOutIdeal.nD → PrngReg), Pre_StickOutIdeal m →
    θ_run (Cert.StickOutIdeal.defs (F := Ideal)) (onTc (τ := Cert.StickOutIdeal.τ) (Cert.StickOutIdeal.main (F := Ideal))) ⟨m, fun _ => 0, g⟩ (fun r => (∀ c : Dev Cert.StickOutIdeal.nD,
      r.2.mem ((c.tc : Thread Cert.StickOutIdeal.nD Cert.StickOutIdeal.τ).loc Cert.StickOutIdeal.main_arg0) = m ((c.tc : Thread Cert.StickOutIdeal.nD Cert.StickOutIdeal.τ).loc Cert.StickOutIdeal.main_arg0)
      ∧ r.2.mem ((c.tc : Thread Cert.StickOutIdeal.nD Cert.StickOutIdeal.τ).loc Cert.StickOutIdeal.main_arg1) = m ((c.tc : Thread Cert.StickOutIdeal.nD Cert.StickOutIdeal.τ).loc Cert.StickOutIdeal.main_arg1)
      ∧ r.2.mem ((c.tc : Thread Cert.StickOutIdeal.nD Cert.StickOutIdeal.τ).loc Cert.StickOutIdeal.main_arg2) = m ((c.tc : Thread Cert.StickOutIdeal.nD Cert.StickOutIdeal.τ).loc Cert.StickOutIdeal.main_arg2))
      ∧ r.2.sem = fun _ => 0)

def quiescent_StickOutIdeal_pre_scores_finite [hStickOutIdeal : Cert.StickOutIdeal.Facts] [hPre_scores_finite : Cert.Pre_scores_finite.Facts] : Prop :=
  ∀ (m : (ℓ : Loc Cert.StickOutIdeal.nD Cert.StickOutIdeal.τ Cert.StickOutIdeal.sig) → Buf (Elt Ideal) ℓ) (g : Dev Cert.StickOutIdeal.nD → PrngReg), Pre_StickOutIdeal_scores_finite m →
    θ_run (Cert.StickOutIdeal.defs (F := Ideal)) (onTc (τ := Cert.StickOutIdeal.τ) (Cert.StickOutIdeal.main (F := Ideal))) ⟨m, fun _ => 0, g⟩ (fun r => (∀ c : Dev Cert.StickOutIdeal.nD,
      r.2.mem ((c.tc : Thread Cert.StickOutIdeal.nD Cert.StickOutIdeal.τ).loc Cert.StickOutIdeal.main_arg0) = m ((c.tc : Thread Cert.StickOutIdeal.nD Cert.StickOutIdeal.τ).loc Cert.StickOutIdeal.main_arg0)
      ∧ r.2.mem ((c.tc : Thread Cert.StickOutIdeal.nD Cert.StickOutIdeal.τ).loc Cert.StickOutIdeal.main_arg1) = m ((c.tc : Thread Cert.StickOutIdeal.nD Cert.StickOutIdeal.τ).loc Cert.StickOutIdeal.main_arg1)
      ∧ r.2.mem ((c.tc : Thread Cert.StickOutIdeal.nD Cert.StickOutIdeal.τ).loc Cert.StickOutIdeal.main_arg2) = m ((c.tc : Thread Cert.StickOutIdeal.nD Cert.StickOutIdeal.τ).loc Cert.StickOutIdeal.main_arg2))
      ∧ r.2.sem = fun _ => 0)

def quiescent_StickOutRefIdeal [hStickOutRefIdeal : Cert.StickOutRefIdeal.Facts] : Prop :=
  ∀ (m : (ℓ : Loc Cert.StickOutRefIdeal.nD Cert.StickOutRefIdeal.τ Cert.StickOutRefIdeal.sig) → Buf (Elt Ideal) ℓ) (g : Dev Cert.StickOutRefIdeal.nD → PrngReg), Pre_StickOutRefIdeal m →
    θ_run (Cert.StickOutRefIdeal.defs (F := Ideal)) (onTc (τ := Cert.StickOutRefIdeal.τ) (Cert.StickOutRefIdeal.main (F := Ideal))) ⟨m, fun _ => 0, g⟩ (fun r => (∀ c : Dev Cert.StickOutRefIdeal.nD,
      r.2.mem ((c.tc : Thread Cert.StickOutRefIdeal.nD Cert.StickOutRefIdeal.τ).loc Cert.StickOutRefIdeal.main_arg0) = m ((c.tc : Thread Cert.StickOutRefIdeal.nD Cert.StickOutRefIdeal.τ).loc Cert.StickOutRefIdeal.main_arg0)
      ∧ r.2.mem ((c.tc : Thread Cert.StickOutRefIdeal.nD Cert.StickOutRefIdeal.τ).loc Cert.StickOutRefIdeal.main_arg1) = m ((c.tc : Thread Cert.StickOutRefIdeal.nD Cert.StickOutRefIdeal.τ).loc Cert.StickOutRefIdeal.main_arg1)
      ∧ r.2.mem ((c.tc : Thread Cert.StickOutRefIdeal.nD Cert.StickOutRefIdeal.τ).loc Cert.StickOutRefIdeal.main_arg2) = m ((c.tc : Thread Cert.StickOutRefIdeal.nD Cert.StickOutRefIdeal.τ).loc Cert.StickOutRefIdeal.main_arg2))
      ∧ r.2.sem = fun _ => 0)

def quiescent_StickOutRefIdeal_pre_scores_finite [hStickOutRefIdeal : Cert.StickOutRefIdeal.Facts] [hPre_scores_finite : Cert.Pre_scores_finite.Facts] : Prop :=
  ∀ (m : (ℓ : Loc Cert.StickOutRefIdeal.nD Cert.StickOutRefIdeal.τ Cert.StickOutRefIdeal.sig) → Buf (Elt Ideal) ℓ) (g : Dev Cert.StickOutRefIdeal.nD → PrngReg), Pre_StickOutRefIdeal_scores_finite m →
    θ_run (Cert.StickOutRefIdeal.defs (F := Ideal)) (onTc (τ := Cert.StickOutRefIdeal.τ) (Cert.StickOutRefIdeal.main (F := Ideal))) ⟨m, fun _ => 0, g⟩ (fun r => (∀ c : Dev Cert.StickOutRefIdeal.nD,
      r.2.mem ((c.tc : Thread Cert.StickOutRefIdeal.nD Cert.StickOutRefIdeal.τ).loc Cert.StickOutRefIdeal.main_arg0) = m ((c.tc : Thread Cert.StickOutRefIdeal.nD Cert.StickOutRefIdeal.τ).loc Cert.StickOutRefIdeal.main_arg0)
      ∧ r.2.mem ((c.tc : Thread Cert.StickOutRefIdeal.nD Cert.StickOutRefIdeal.τ).loc Cert.StickOutRefIdeal.main_arg1) = m ((c.tc : Thread Cert.StickOutRefIdeal.nD Cert.StickOutRefIdeal.τ).loc Cert.StickOutRefIdeal.main_arg1)
      ∧ r.2.mem ((c.tc : Thread Cert.StickOutRefIdeal.nD Cert.StickOutRefIdeal.τ).loc Cert.StickOutRefIdeal.main_arg2) = m ((c.tc : Thread Cert.StickOutRefIdeal.nD Cert.StickOutRefIdeal.τ).loc Cert.StickOutRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_TwoNorms [hTwoNorms : Cert.TwoNorms.Facts] : Prop :=
  ∀ (m : (ℓ : Loc Cert.TwoNorms.nD Cert.TwoNorms.τ Cert.TwoNorms.sig) → Buf (Elt Bits) ℓ) (g : Dev Cert.TwoNorms.nD → PrngReg), Pre_TwoNorms m →
    θ_run (Cert.TwoNorms.defs (F := Bits)) (onTc (τ := Cert.TwoNorms.τ) (Cert.TwoNorms.main (F := Bits))) ⟨m, fun _ => 0, g⟩ (fun r => (∀ c : Dev Cert.TwoNorms.nD,
      r.2.mem ((c.tc : Thread Cert.TwoNorms.nD Cert.TwoNorms.τ).loc Cert.TwoNorms.main_arg0) = m ((c.tc : Thread Cert.TwoNorms.nD Cert.TwoNorms.τ).loc Cert.TwoNorms.main_arg0)
      ∧ r.2.mem ((c.tc : Thread Cert.TwoNorms.nD Cert.TwoNorms.τ).loc Cert.TwoNorms.main_arg1) = m ((c.tc : Thread Cert.TwoNorms.nD Cert.TwoNorms.τ).loc Cert.TwoNorms.main_arg1)
      ∧ r.2.mem ((c.tc : Thread Cert.TwoNorms.nD Cert.TwoNorms.τ).loc Cert.TwoNorms.main_arg2) = m ((c.tc : Thread Cert.TwoNorms.nD Cert.TwoNorms.τ).loc Cert.TwoNorms.main_arg2)
      ∧ r.2.mem ((c.tc : Thread Cert.TwoNorms.nD Cert.TwoNorms.τ).loc Cert.TwoNorms.main_arg3) = m ((c.tc : Thread Cert.TwoNorms.nD Cert.TwoNorms.τ).loc Cert.TwoNorms.main_arg3))
      ∧ r.2.sem = fun _ => 0)

def quiescent_TwoNormsIdeal [hTwoNormsIdeal : Cert.TwoNormsIdeal.Facts] : Prop :=
  ∀ (m : (ℓ : Loc Cert.TwoNormsIdeal.nD Cert.TwoNormsIdeal.τ Cert.TwoNormsIdeal.sig) → Buf (Elt Ideal) ℓ) (g : Dev Cert.TwoNormsIdeal.nD → PrngReg), Pre_TwoNormsIdeal m →
    θ_run (Cert.TwoNormsIdeal.defs (F := Ideal)) (onTc (τ := Cert.TwoNormsIdeal.τ) (Cert.TwoNormsIdeal.main (F := Ideal))) ⟨m, fun _ => 0, g⟩ (fun r => (∀ c : Dev Cert.TwoNormsIdeal.nD,
      r.2.mem ((c.tc : Thread Cert.TwoNormsIdeal.nD Cert.TwoNormsIdeal.τ).loc Cert.TwoNormsIdeal.main_arg0) = m ((c.tc : Thread Cert.TwoNormsIdeal.nD Cert.TwoNormsIdeal.τ).loc Cert.TwoNormsIdeal.main_arg0)
      ∧ r.2.mem ((c.tc : Thread Cert.TwoNormsIdeal.nD Cert.TwoNormsIdeal.τ).loc Cert.TwoNormsIdeal.main_arg1) = m ((c.tc : Thread Cert.TwoNormsIdeal.nD Cert.TwoNormsIdeal.τ).loc Cert.TwoNormsIdeal.main_arg1)
      ∧ r.2.mem ((c.tc : Thread Cert.TwoNormsIdeal.nD Cert.TwoNormsIdeal.τ).loc Cert.TwoNormsIdeal.main_arg2) = m ((c.tc : Thread Cert.TwoNormsIdeal.nD Cert.TwoNormsIdeal.τ).loc Cert.TwoNormsIdeal.main_arg2)
      ∧ r.2.mem ((c.tc : Thread Cert.TwoNormsIdeal.nD Cert.TwoNormsIdeal.τ).loc Cert.TwoNormsIdeal.main_arg3) = m ((c.tc : Thread Cert.TwoNormsIdeal.nD Cert.TwoNormsIdeal.τ).loc Cert.TwoNormsIdeal.main_arg3))
      ∧ r.2.sem = fun _ => 0)

def quiescent_TwoNormsRefIdeal [hTwoNormsRefIdeal : Cert.TwoNormsRefIdeal.Facts] : Prop :=
  ∀ (m : (ℓ : Loc Cert.TwoNormsRefIdeal.nD Cert.TwoNormsRefIdeal.τ Cert.TwoNormsRefIdeal.sig) → Buf (Elt Ideal) ℓ) (g : Dev Cert.TwoNormsRefIdeal.nD → PrngReg), Pre_TwoNormsRefIdeal m →
    θ_run (Cert.TwoNormsRefIdeal.defs (F := Ideal)) (onTc (τ := Cert.TwoNormsRefIdeal.τ) (Cert.TwoNormsRefIdeal.main (F := Ideal))) ⟨m, fun _ => 0, g⟩ (fun r => (∀ c : Dev Cert.TwoNormsRefIdeal.nD,
      r.2.mem ((c.tc : Thread Cert.TwoNormsRefIdeal.nD Cert.TwoNormsRefIdeal.τ).loc Cert.TwoNormsRefIdeal.main_arg0) = m ((c.tc : Thread Cert.TwoNormsRefIdeal.nD Cert.TwoNormsRefIdeal.τ).loc Cert.TwoNormsRefIdeal.main_arg0)
      ∧ r.2.mem ((c.tc : Thread Cert.TwoNormsRefIdeal.nD Cert.TwoNormsRefIdeal.τ).loc Cert.TwoNormsRefIdeal.main_arg1) = m ((c.tc : Thread Cert.TwoNormsRefIdeal.nD Cert.TwoNormsRefIdeal.τ).loc Cert.TwoNormsRefIdeal.main_arg1)
      ∧ r.2.mem ((c.tc : Thread Cert.TwoNormsRefIdeal.nD Cert.TwoNormsRefIdeal.τ).loc Cert.TwoNormsRefIdeal.main_arg2) = m ((c.tc : Thread Cert.TwoNormsRefIdeal.nD Cert.TwoNormsRefIdeal.τ).loc Cert.TwoNormsRefIdeal.main_arg2)
      ∧ r.2.mem ((c.tc : Thread Cert.TwoNormsRefIdeal.nD Cert.TwoNormsRefIdeal.τ).loc Cert.TwoNormsRefIdeal.main_arg3) = m ((c.tc : Thread Cert.TwoNormsRefIdeal.nD Cert.TwoNormsRefIdeal.τ).loc Cert.TwoNormsRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2))
      ∧ r.2.sem = fun _ => 0)

def quiescent_ProjBack [hProjBack : Cert.ProjBack.Facts] : Prop :=
  ∀ (m : (ℓ : Loc Cert.ProjBack.nD Cert.ProjBack.τ Cert.ProjBack.sig) → Buf (Elt Bits) ℓ) (g : Dev Cert.ProjBack.nD → PrngReg), Pre_ProjBack m →
    θ_run (Cert.ProjBack.defs (F := Bits)) (onTc (τ := Cert.ProjBack.τ) (Cert.ProjBack.main (F := Bits))) ⟨m, fun _ => 0, g⟩ (fun r => (∀ c : Dev Cert.ProjBack.nD,
      r.2.mem ((c.tc : Thread Cert.ProjBack.nD Cert.ProjBack.τ).loc Cert.ProjBack.main_arg0) = m ((c.tc : Thread Cert.ProjBack.nD Cert.ProjBack.τ).loc Cert.ProjBack.main_arg0)
      ∧ r.2.mem ((c.tc : Thread Cert.ProjBack.nD Cert.ProjBack.τ).loc Cert.ProjBack.main_arg1) = m ((c.tc : Thread Cert.ProjBack.nD Cert.ProjBack.τ).loc Cert.ProjBack.main_arg1))
      ∧ r.2.sem = fun _ => 0)

def quiescent_ProjBackIdeal [hProjBackIdeal : Cert.ProjBackIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg), Pre_ProjBackIdeal m →
    θ_run (Cert.ProjBackIdeal.defs (F := Ideal)) (onTc (τ := Cert.ProjBackIdeal.τ) (Cert.ProjBackIdeal.main (F := Ideal))) ⟨m, fun _ => 0, g⟩ (fun r => (∀ c : Dev Cert.ProjBackIdeal.nD,
      r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
      ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1))
      ∧ r.2.sem = fun _ => 0)

def quiescent_ProjBackRefIdeal [hProjBackRefIdeal : Cert.ProjBackRefIdeal.Facts] : Prop :=
  ∀ (m : (ℓ : Loc Cert.ProjBackRefIdeal.nD Cert.ProjBackRefIdeal.τ Cert.ProjBackRefIdeal.sig) → Buf (Elt Ideal) ℓ) (g : Dev Cert.ProjBackRefIdeal.nD → PrngReg), Pre_ProjBackRefIdeal m →
    θ_run (Cert.ProjBackRefIdeal.defs (F := Ideal)) (onTc (τ := Cert.ProjBackRefIdeal.τ) (Cert.ProjBackRefIdeal.main (F := Ideal))) ⟨m, fun _ => 0, g⟩ (fun r => (∀ c : Dev Cert.ProjBackRefIdeal.nD,
      r.2.mem ((c.tc : Thread Cert.ProjBackRefIdeal.nD Cert.ProjBackRefIdeal.τ).loc Cert.ProjBackRefIdeal.main_arg0) = m ((c.tc : Thread Cert.ProjBackRefIdeal.nD Cert.ProjBackRefIdeal.τ).loc Cert.ProjBackRefIdeal.main_arg0)
      ∧ r.2.mem ((c.tc : Thread Cert.ProjBackRefIdeal.nD Cert.ProjBackRefIdeal.τ).loc Cert.ProjBackRefIdeal.main_arg1) = m ((c.tc : Thread Cert.ProjBackRefIdeal.nD Cert.ProjBackRefIdeal.τ).loc Cert.ProjBackRefIdeal.main_arg1))
      ∧ r.2.sem = fun _ => 0)

def preserves_Merge_MergeIdeal : Prop :=
  True

def algebraic_MergeIdeal_MergeRefIdeal_on_gate_columns [hMergeIdeal : Cert.MergeIdeal.Facts] [hMergeRefIdeal : Cert.MergeRefIdeal.Facts] [hOn_gate_columns : Cert.On_gate_columns.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8448, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).1 i = 1#1 → r.2.mem ((c.tc : Thread Cert.MergeIdeal.nD Cert.MergeIdeal.τ).loc Cert.MergeIdeal.main_v0_0) i = v0 c i)
          ∧ (∀ i : (⟨2, ![8448, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.1 i = 1#1 → r.2.mem ((c.tc : Thread Cert.MergeIdeal.nD Cert.MergeIdeal.τ).loc Cert.MergeIdeal.main_v0_1) i = v1 c i)
          ∧ (∀ i : (⟨2, ![8448, 11264]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.2 i = 1#1 → r.2.mem ((c.tc : Thread Cert.MergeIdeal.nD Cert.MergeIdeal.τ).loc Cert.MergeIdeal.main_v0_2) i = v2 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8448, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).1 i = 1#1 → r.2.mem ((c.tc : Thread Cert.MergeRefIdeal.nD Cert.MergeRefIdeal.τ).loc Cert.MergeRefIdeal.main_v36) i = v0 c i)
          ∧ (∀ i : (⟨2, ![8448, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.1 i = 1#1 → r.2.mem ((c.tc : Thread Cert.MergeRefIdeal.nD Cert.MergeRefIdeal.τ).loc Cert.MergeRefIdeal.main_v37) i = v1 c i)
          ∧ (∀ i : (⟨2, ![8448, 11264]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.2 i = 1#1 → r.2.mem ((c.tc : Thread Cert.MergeRefIdeal.nD Cert.MergeRefIdeal.τ).loc Cert.MergeRefIdeal.main_v38) i = v2 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_PreMix_PreMixIdeal : Prop :=
  True

def algebraic_PreMixIdeal_PreMixRefIdeal [hPreMixIdeal : Cert.PreMixIdeal.Facts] [hPreMixRefIdeal : Cert.PreMixRefIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixRefIdeal.nD Cert.PreMixRefIdeal.τ Cert.PreMixRefIdeal.sig) → Buf (Elt Ideal) ℓ) (g' : Dev Cert.PreMixRefIdeal.nD → PrngReg), Pre_PreMixIdeal m →
    (∀ c : Dev Cert.PreMixIdeal.nD,
      m' ((c.tc : Thread Cert.PreMixRefIdeal.nD Cert.PreMixRefIdeal.τ).loc Cert.PreMixRefIdeal.main_arg0) = m ((c.tc : Thread Cert.PreMixIdeal.nD Cert.PreMixIdeal.τ).loc Cert.PreMixIdeal.main_arg0)
      ∧ m' ((c.tc : Thread Cert.PreMixRefIdeal.nD Cert.PreMixRefIdeal.τ).loc Cert.PreMixRefIdeal.main_arg1) = m ((c.tc : Thread Cert.PreMixIdeal.nD Cert.PreMixIdeal.τ).loc Cert.PreMixIdeal.main_arg1)
      ∧ m' ((c.tc : Thread Cert.PreMixRefIdeal.nD Cert.PreMixRefIdeal.τ).loc Cert.PreMixRefIdeal.main_arg2) = m ((c.tc : Thread Cert.PreMixIdeal.nD Cert.PreMixIdeal.τ).loc Cert.PreMixIdeal.main_arg2)
      ∧ m' ((c.tc : Thread Cert.PreMixRefIdeal.nD Cert.PreMixRefIdeal.τ).loc Cert.PreMixRefIdeal.main_arg3) = m ((c.tc : Thread Cert.PreMixIdeal.nD Cert.PreMixIdeal.τ).loc Cert.PreMixIdeal.main_arg3)) →
    ∃ (v0 : (c : Dev Cert.PreMixIdeal.nD) → Buf (Elt Ideal) ((c.tc : Thread Cert.PreMixIdeal.nD Cert.PreMixIdeal.τ).loc Cert.PreMixIdeal.main_v0_0)) (v1 : (c : Dev Cert.PreMixIdeal.nD) → Buf (Elt Ideal) ((c.tc : Thread Cert.PreMixIdeal.nD Cert.PreMixIdeal.τ).loc Cert.PreMixIdeal.main_v0_1)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v0_0) = v0 c
          ∧ r.2.mem ((c.tc : Thread Cert.PreMixIdeal.nD Cert.PreMixIdeal.τ).loc Cert.PreMixIdeal.main_v0_1) = v1 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
          ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3))
      ∧ θ_run (Cert.PreMixRefIdeal.defs (F := Ideal)) (onTc (τ := Cert.PreMixRefIdeal.τ) (Cert.PreMixRefIdeal.main (F := Ideal))) ⟨m', fun _ => 0, g'⟩ (fun r => ∀ c : Dev Cert.PreMixRefIdeal.nD,
          r.2.mem ((c.tc : Thread Cert.PreMixRefIdeal.nD Cert.PreMixRefIdeal.τ).loc Cert.PreMixRefIdeal.main_v35) = v0 c
          ∧ r.2.mem ((c.tc : Thread Cert.PreMixRefIdeal.nD Cert.PreMixRefIdeal.τ).loc Cert.PreMixRefIdeal.main_v36) = v1 c
          ∧ r.2.mem ((c.tc : Thread Cert.PreMixRefIdeal.nD Cert.PreMixRefIdeal.τ).loc Cert.PreMixRefIdeal.main_arg0) = m' ((c.tc : Thread Cert.PreMixRefIdeal.nD Cert.PreMixRefIdeal.τ).loc Cert.PreMixRefIdeal.main_arg0)
          ∧ r.2.mem ((c.tc : Thread Cert.PreMixRefIdeal.nD Cert.PreMixRefIdeal.τ).loc Cert.PreMixRefIdeal.main_arg1) = m' ((c.tc : Thread Cert.PreMixRefIdeal.nD Cert.PreMixRefIdeal.τ).loc Cert.PreMixRefIdeal.main_arg1)
          ∧ r.2.mem ((c.tc : Thread Cert.PreMixRefIdeal.nD Cert.PreMixRefIdeal.τ).loc Cert.PreMixRefIdeal.main_arg2) = m' ((c.tc : Thread Cert.PreMixRefIdeal.nD Cert.PreMixRefIdeal.τ).loc Cert.PreMixRefIdeal.main_arg2)
          ∧ r.2.mem ((c.tc : Thread Cert.PreMixRefIdeal.nD Cert.PreMixRefIdeal.τ).loc Cert.PreMixRefIdeal.main_arg3) = m' ((c.tc : Thread Cert.PreMixRefIdeal.nD Cert.PreMixRefIdeal.τ).loc Cert.PreMixRefIdeal.main_arg3))

def preserves_PostMix_PostMixIdeal : Prop :=
  True

def algebraic_PostMixIdeal_PostMixRefIdeal [hPostMixIdeal : Cert.PostMixIdeal.Facts] [hPostMixRefIdeal : Cert.PostMixRefIdeal.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixRefIdeal.nD Cert.PostMixRefIdeal.τ Cert.PostMixRefIdeal.sig) → Buf (Elt Ideal) ℓ) (g' : Dev Cert.PostMixRefIdeal.nD → PrngReg), Pre_PostMixIdeal m →
    (∀ c : Dev Cert.PostMixIdeal.nD,
      m' ((c.tc : Thread Cert.PostMixRefIdeal.nD Cert.PostMixRefIdeal.τ).loc Cert.PostMixRefIdeal.main_arg0) = m ((c.tc : Thread Cert.PostMixIdeal.nD Cert.PostMixIdeal.τ).loc Cert.PostMixIdeal.main_arg0)
      ∧ m' ((c.tc : Thread Cert.PostMixRefIdeal.nD Cert.PostMixRefIdeal.τ).loc Cert.PostMixRefIdeal.main_arg1) = m ((c.tc : Thread Cert.PostMixIdeal.nD Cert.PostMixIdeal.τ).loc Cert.PostMixIdeal.main_arg1)
      ∧ m' ((c.tc : Thread Cert.PostMixRefIdeal.nD Cert.PostMixRefIdeal.τ).loc Cert.PostMixRefIdeal.main_arg2) = m ((c.tc : Thread Cert.PostMixIdeal.nD Cert.PostMixIdeal.τ).loc Cert.PostMixIdeal.main_arg2)
      ∧ m' ((c.tc : Thread Cert.PostMixRefIdeal.nD Cert.PostMixRefIdeal.τ).loc Cert.PostMixRefIdeal.main_arg3) = m ((c.tc : Thread Cert.PostMixIdeal.nD Cert.PostMixIdeal.τ).loc Cert.PostMixIdeal.main_arg3)
      ∧ m' ((c.tc : Thread Cert.PostMixRefIdeal.nD Cert.PostMixRefIdeal.τ).loc Cert.PostMixRefIdeal.main_arg4) = m ((c.tc : Thread Cert.PostMixIdeal.nD Cert.PostMixIdeal.τ).loc Cert.PostMixIdeal.main_arg4)
      ∧ m' ((c.tc : Thread Cert.PostMixRefIdeal.nD Cert.PostMixRefIdeal.τ).loc Cert.PostMixRefIdeal.main_arg5) = m ((c.tc : Thread Cert.PostMixIdeal.nD Cert.PostMixIdeal.τ).loc Cert.PostMixIdeal.main_arg5)) →
    ∃ (v0 : (c : Dev Cert.PostMixIdeal.nD) → Buf (Elt Ideal) ((c.tc : Thread Cert.PostMixIdeal.nD Cert.PostMixIdeal.τ).loc Cert.PostMixIdeal.main_v14_0)) (v1 : (c : Dev Cert.PostMixIdeal.nD) → Buf (Elt Ideal) ((c.tc : Thread Cert.PostMixIdeal.nD Cert.PostMixIdeal.τ).loc Cert.PostMixIdeal.main_v14_1)) (v2 : (c : Dev Cert.PostMixIdeal.nD) → Buf (Elt Ideal) ((c.tc : Thread Cert.PostMixIdeal.nD Cert.PostMixIdeal.τ).loc Cert.PostMixIdeal.main_v14_2)) (v3 : (c : Dev Cert.PostMixIdeal.nD) → Buf (Elt Ideal) ((c.tc : Thread Cert.PostMixIdeal.nD Cert.PostMixIdeal.τ).loc Cert.PostMixIdeal.main_v14_3)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v14_0) = v0 c
          ∧ r.2.mem ((c.tc : Thread Cert.PostMixIdeal.nD Cert.PostMixIdeal.τ).loc Cert.PostMixIdeal.main_v14_1) = v1 c
          ∧ r.2.mem ((c.tc : Thread Cert.PostMixIdeal.nD Cert.PostMixIdeal.τ).loc Cert.PostMixIdeal.main_v14_2) = v2 c
          ∧ r.2.mem ((c.tc : Thread Cert.PostMixIdeal.nD Cert.PostMixIdeal.τ).loc Cert.PostMixIdeal.main_v14_3) = v3 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3)
          ∧ r.2.mem ((c.tc : Thread Cert.PostMixIdeal.nD Cert.PostMixIdeal.τ).loc Cert.PostMixIdeal.main_arg4) = m ((c.tc : Thread Cert.PostMixIdeal.nD Cert.PostMixIdeal.τ).loc Cert.PostMixIdeal.main_arg4)
          ∧ r.2.mem ((c.tc : Thread Cert.PostMixIdeal.nD Cert.PostMixIdeal.τ).loc Cert.PostMixIdeal.main_arg5) = m ((c.tc : Thread Cert.PostMixIdeal.nD Cert.PostMixIdeal.τ).loc Cert.PostMixIdeal.main_arg5))
      ∧ θ_run (Cert.PostMixRefIdeal.defs (F := Ideal)) (onTc (τ := Cert.PostMixRefIdeal.τ) (Cert.PostMixRefIdeal.main (F := Ideal))) ⟨m', fun _ => 0, g'⟩ (fun r => ∀ c : Dev Cert.PostMixRefIdeal.nD,
          r.2.mem ((c.tc : Thread Cert.PostMixRefIdeal.nD Cert.PostMixRefIdeal.τ).loc Cert.PostMixRefIdeal.main_v52) = v0 c
          ∧ r.2.mem ((c.tc : Thread Cert.PostMixRefIdeal.nD Cert.PostMixRefIdeal.τ).loc Cert.PostMixRefIdeal.main_v73) = v1 c
          ∧ r.2.mem ((c.tc : Thread Cert.PostMixRefIdeal.nD Cert.PostMixRefIdeal.τ).loc Cert.PostMixRefIdeal.main_v74) = v2 c
          ∧ r.2.mem ((c.tc : Thread Cert.PostMixRefIdeal.nD Cert.PostMixRefIdeal.τ).loc Cert.PostMixRefIdeal.main_v75) = v3 c
          ∧ r.2.mem ((c.tc : Thread Cert.PostMixRefIdeal.nD Cert.PostMixRefIdeal.τ).loc Cert.PostMixRefIdeal.main_arg0) = m' ((c.tc : Thread Cert.PostMixRefIdeal.nD Cert.PostMixRefIdeal.τ).loc Cert.PostMixRefIdeal.main_arg0)
          ∧ r.2.mem ((c.tc : Thread Cert.PostMixRefIdeal.nD Cert.PostMixRefIdeal.τ).loc Cert.PostMixRefIdeal.main_arg1) = m' ((c.tc : Thread Cert.PostMixRefIdeal.nD Cert.PostMixRefIdeal.τ).loc Cert.PostMixRefIdeal.main_arg1)
          ∧ r.2.mem ((c.tc : Thread Cert.PostMixRefIdeal.nD Cert.PostMixRefIdeal.τ).loc Cert.PostMixRefIdeal.main_arg2) = m' ((c.tc : Thread Cert.PostMixRefIdeal.nD Cert.PostMixRefIdeal.τ).loc Cert.PostMixRefIdeal.main_arg2)
          ∧ r.2.mem ((c.tc : Thread Cert.PostMixRefIdeal.nD Cert.PostMixRefIdeal.τ).loc Cert.PostMixRefIdeal.main_arg3) = m' ((c.tc : Thread Cert.PostMixRefIdeal.nD Cert.PostMixRefIdeal.τ).loc Cert.PostMixRefIdeal.main_arg3)
          ∧ r.2.mem ((c.tc : Thread Cert.PostMixRefIdeal.nD Cert.PostMixRefIdeal.τ).loc Cert.PostMixRefIdeal.main_arg4) = m' ((c.tc : Thread Cert.PostMixRefIdeal.nD Cert.PostMixRefIdeal.τ).loc Cert.PostMixRefIdeal.main_arg4)
          ∧ r.2.mem ((c.tc : Thread Cert.PostMixRefIdeal.nD Cert.PostMixRefIdeal.τ).loc Cert.PostMixRefIdeal.main_arg5) = m' ((c.tc : Thread Cert.PostMixRefIdeal.nD Cert.PostMixRefIdeal.τ).loc Cert.PostMixRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v33) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v55) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v11) = v0 c
          ∧ r.2.mem ((c.tc : Thread Cert.SwigluRefIdeal.nD Cert.SwigluRefIdeal.τ).loc Cert.SwigluRefIdeal.main_v12) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_Stick_StickIdeal : Prop :=
  IdealRules.named_const.Statement Cert.StickIdeal.κ "dead" .f32 0xC2D00000#32 ⊥

def algebraic_StickIdeal_StickRefIdeal_pre_stick_finite [hStickIdeal : Cert.StickIdeal.Facts] [hStickRefIdeal : Cert.StickRefIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_stick_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)
      ∧ m' ((c.tc : Thread Cert.StickRefIdeal.nD Cert.StickRefIdeal.τ).loc Cert.StickRefIdeal.main_arg3) = m ((c.tc : Thread Cert.StickIdeal.nD Cert.StickIdeal.τ).loc Cert.StickIdeal.main_arg3)) →
    ∃ (v0 : (c : Dev Cert.StickIdeal.nD) → Buf (Elt Ideal) ((c.tc : Thread Cert.StickIdeal.nD Cert.StickIdeal.τ).loc Cert.StickIdeal.main_v32_0)) (v1 : (c : Dev Cert.StickIdeal.nD) → Buf (Elt Ideal) ((c.tc : Thread Cert.StickIdeal.nD Cert.StickIdeal.τ).loc Cert.StickIdeal.main_v32_1)) (v2 : (c : Dev Cert.StickIdeal.nD) → Buf (Elt Ideal) ((c.tc : Thread Cert.StickIdeal.nD Cert.StickIdeal.τ).loc Cert.StickIdeal.main_v32_2)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v32_0) = v0 c
          ∧ r.2.mem ((c.tc : Thread Cert.StickIdeal.nD Cert.StickIdeal.τ).loc Cert.StickIdeal.main_v32_1) = v1 c
          ∧ r.2.mem ((c.tc : Thread Cert.StickIdeal.nD Cert.StickIdeal.τ).loc Cert.StickIdeal.main_v32_2) = v2 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
          ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v54) = v0 c
          ∧ r.2.mem ((c.tc : Thread Cert.StickRefIdeal.nD Cert.StickRefIdeal.τ).loc Cert.StickRefIdeal.main_v56) = v1 c
          ∧ r.2.mem ((c.tc : Thread Cert.StickRefIdeal.nD Cert.StickRefIdeal.τ).loc Cert.StickRefIdeal.main_v58) = v2 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2)
          ∧ r.2.mem ((c.tc : Thread Cert.StickRefIdeal.nD Cert.StickRefIdeal.τ).loc Cert.StickRefIdeal.main_arg3) = m' ((c.tc : Thread Cert.StickRefIdeal.nD Cert.StickRefIdeal.τ).loc Cert.StickRefIdeal.main_arg3))

def preserves_StickOut_StickOutIdeal : Prop :=
  IdealRules.named_const.Statement Cert.StickOutIdeal.κ "dead" .f32 0xC2D00000#32 ⊥

def algebraic_StickOutIdeal_StickOutRefIdeal_pre_scores_finite [hStickOutIdeal : Cert.StickOutIdeal.Facts] [hStickOutRefIdeal : Cert.StickOutRefIdeal.Facts] [hPre_scores_finite : Cert.Pre_scores_finite.Facts] : Prop :=
  ∀ (m : (ℓ : Loc Cert.StickOutIdeal.nD Cert.StickOutIdeal.τ Cert.StickOutIdeal.sig) → Buf (Elt Ideal) ℓ) (g : Dev Cert.StickOutIdeal.nD → PrngReg)
    (m' : (ℓ : Loc Cert.StickOutRefIdeal.nD Cert.StickOutRefIdeal.τ Cert.StickOutRefIdeal.sig) → Buf (Elt Ideal) ℓ) (g' : Dev Cert.StickOutRefIdeal.nD → PrngReg), Pre_StickOutIdeal_scores_finite m →
    (∀ c : Dev Cert.StickOutIdeal.nD,
      m' ((c.tc : Thread Cert.StickOutRefIdeal.nD Cert.StickOutRefIdeal.τ).loc Cert.StickOutRefIdeal.main_arg0) = m ((c.tc : Thread Cert.StickOutIdeal.nD Cert.StickOutIdeal.τ).loc Cert.StickOutIdeal.main_arg0)
      ∧ m' ((c.tc : Thread Cert.StickOutRefIdeal.nD Cert.StickOutRefIdeal.τ).loc Cert.StickOutRefIdeal.main_arg1) = m ((c.tc : Thread Cert.StickOutIdeal.nD Cert.StickOutIdeal.τ).loc Cert.StickOutIdeal.main_arg1)
      ∧ m' ((c.tc : Thread Cert.StickOutRefIdeal.nD Cert.StickOutRefIdeal.τ).loc Cert.StickOutRefIdeal.main_arg2) = m ((c.tc : Thread Cert.StickOutIdeal.nD Cert.StickOutIdeal.τ).loc Cert.StickOutIdeal.main_arg2)) →
    ∃ (v0 : (c : Dev Cert.StickOutIdeal.nD) → Buf (Elt Ideal) ((c.tc : Thread Cert.StickOutIdeal.nD Cert.StickOutIdeal.τ).loc Cert.StickOutIdeal.main_v2_0)) (v1 : (c : Dev Cert.StickOutIdeal.nD) → Buf (Elt Ideal) ((c.tc : Thread Cert.StickOutIdeal.nD Cert.StickOutIdeal.τ).loc Cert.StickOutIdeal.main_v2_1)),
      θ_run (Cert.StickOutIdeal.defs (F := Ideal)) (onTc (τ := Cert.StickOutIdeal.τ) (Cert.StickOutIdeal.main (F := Ideal))) ⟨m, fun _ => 0, g⟩ (fun r => ∀ c : Dev Cert.StickOutIdeal.nD,
          r.2.mem ((c.tc : Thread Cert.StickOutIdeal.nD Cert.StickOutIdeal.τ).loc Cert.StickOutIdeal.main_v2_0) = v0 c
          ∧ r.2.mem ((c.tc : Thread Cert.StickOutIdeal.nD Cert.StickOutIdeal.τ).loc Cert.StickOutIdeal.main_v2_1) = v1 c
          ∧ r.2.mem ((c.tc : Thread Cert.StickOutIdeal.nD Cert.StickOutIdeal.τ).loc Cert.StickOutIdeal.main_arg0) = m ((c.tc : Thread Cert.StickOutIdeal.nD Cert.StickOutIdeal.τ).loc Cert.StickOutIdeal.main_arg0)
          ∧ r.2.mem ((c.tc : Thread Cert.StickOutIdeal.nD Cert.StickOutIdeal.τ).loc Cert.StickOutIdeal.main_arg1) = m ((c.tc : Thread Cert.StickOutIdeal.nD Cert.StickOutIdeal.τ).loc Cert.StickOutIdeal.main_arg1)
          ∧ r.2.mem ((c.tc : Thread Cert.StickOutIdeal.nD Cert.StickOutIdeal.τ).loc Cert.StickOutIdeal.main_arg2) = m ((c.tc : Thread Cert.StickOutIdeal.nD Cert.StickOutIdeal.τ).loc Cert.StickOutIdeal.main_arg2))
      ∧ θ_run (Cert.StickOutRefIdeal.defs (F := Ideal)) (onTc (τ := Cert.StickOutRefIdeal.τ) (Cert.StickOutRefIdeal.main (F := Ideal))) ⟨m', fun _ => 0, g'⟩ (fun r => ∀ c : Dev Cert.StickOutRefIdeal.nD,
          r.2.mem ((c.tc : Thread Cert.StickOutRefIdeal.nD Cert.StickOutRefIdeal.τ).loc Cert.StickOutRefIdeal.main_v28) = v0 c
          ∧ r.2.mem ((c.tc : Thread Cert.StickOutRefIdeal.nD Cert.StickOutRefIdeal.τ).loc Cert.StickOutRefIdeal.main_v29) = v1 c
          ∧ r.2.mem ((c.tc : Thread Cert.StickOutRefIdeal.nD Cert.StickOutRefIdeal.τ).loc Cert.StickOutRefIdeal.main_arg0) = m' ((c.tc : Thread Cert.StickOutRefIdeal.nD Cert.StickOutRefIdeal.τ).loc Cert.StickOutRefIdeal.main_arg0)
          ∧ r.2.mem ((c.tc : Thread Cert.StickOutRefIdeal.nD Cert.StickOutRefIdeal.τ).loc Cert.StickOutRefIdeal.main_arg1) = m' ((c.tc : Thread Cert.StickOutRefIdeal.nD Cert.StickOutRefIdeal.τ).loc Cert.StickOutRefIdeal.main_arg1)
          ∧ r.2.mem ((c.tc : Thread Cert.StickOutRefIdeal.nD Cert.StickOutRefIdeal.τ).loc Cert.StickOutRefIdeal.main_arg2) = m' ((c.tc : Thread Cert.StickOutRefIdeal.nD Cert.StickOutRefIdeal.τ).loc Cert.StickOutRefIdeal.main_arg2))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v21) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_TwoNorms_TwoNormsIdeal : Prop :=
  True

def algebraic_TwoNormsIdeal_TwoNormsRefIdeal [hTwoNormsIdeal : Cert.TwoNormsIdeal.Facts] [hTwoNormsRefIdeal : Cert.TwoNormsRefIdeal.Facts] : Prop :=
  ∀ (m : (ℓ : Loc Cert.TwoNormsIdeal.nD Cert.TwoNormsIdeal.τ Cert.TwoNormsIdeal.sig) → Buf (Elt Ideal) ℓ) (g : Dev Cert.TwoNormsIdeal.nD → PrngReg)
    (m' : (ℓ : Loc Cert.TwoNormsRefIdeal.nD Cert.TwoNormsRefIdeal.τ Cert.TwoNormsRefIdeal.sig) → Buf (Elt Ideal) ℓ) (g' : Dev Cert.TwoNormsRefIdeal.nD → PrngReg), Pre_TwoNormsIdeal m →
    (∀ c : Dev Cert.TwoNormsIdeal.nD,
      m' ((c.tc : Thread Cert.TwoNormsRefIdeal.nD Cert.TwoNormsRefIdeal.τ).loc Cert.TwoNormsRefIdeal.main_arg0) = m ((c.tc : Thread Cert.TwoNormsIdeal.nD Cert.TwoNormsIdeal.τ).loc Cert.TwoNormsIdeal.main_arg0)
      ∧ m' ((c.tc : Thread Cert.TwoNormsRefIdeal.nD Cert.TwoNormsRefIdeal.τ).loc Cert.TwoNormsRefIdeal.main_arg1) = m ((c.tc : Thread Cert.TwoNormsIdeal.nD Cert.TwoNormsIdeal.τ).loc Cert.TwoNormsIdeal.main_arg1)
      ∧ m' ((c.tc : Thread Cert.TwoNormsRefIdeal.nD Cert.TwoNormsRefIdeal.τ).loc Cert.TwoNormsRefIdeal.main_arg2) = m ((c.tc : Thread Cert.TwoNormsIdeal.nD Cert.TwoNormsIdeal.τ).loc Cert.TwoNormsIdeal.main_arg2)
      ∧ m' ((c.tc : Thread Cert.TwoNormsRefIdeal.nD Cert.TwoNormsRefIdeal.τ).loc Cert.TwoNormsRefIdeal.main_arg3) = m ((c.tc : Thread Cert.TwoNormsIdeal.nD Cert.TwoNormsIdeal.τ).loc Cert.TwoNormsIdeal.main_arg3)) →
    ∃ (v0 : (c : Dev Cert.TwoNormsIdeal.nD) → Buf (Elt Ideal) ((c.tc : Thread Cert.TwoNormsIdeal.nD Cert.TwoNormsIdeal.τ).loc Cert.TwoNormsIdeal.main_v0_0)) (v1 : (c : Dev Cert.TwoNormsIdeal.nD) → Buf (Elt Ideal) ((c.tc : Thread Cert.TwoNormsIdeal.nD Cert.TwoNormsIdeal.τ).loc Cert.TwoNormsIdeal.main_v0_1)),
      θ_run (Cert.TwoNormsIdeal.defs (F := Ideal)) (onTc (τ := Cert.TwoNormsIdeal.τ) (Cert.TwoNormsIdeal.main (F := Ideal))) ⟨m, fun _ => 0, g⟩ (fun r => ∀ c : Dev Cert.TwoNormsIdeal.nD,
          r.2.mem ((c.tc : Thread Cert.TwoNormsIdeal.nD Cert.TwoNormsIdeal.τ).loc Cert.TwoNormsIdeal.main_v0_0) = v0 c
          ∧ r.2.mem ((c.tc : Thread Cert.TwoNormsIdeal.nD Cert.TwoNormsIdeal.τ).loc Cert.TwoNormsIdeal.main_v0_1) = v1 c
          ∧ r.2.mem ((c.tc : Thread Cert.TwoNormsIdeal.nD Cert.TwoNormsIdeal.τ).loc Cert.TwoNormsIdeal.main_arg0) = m ((c.tc : Thread Cert.TwoNormsIdeal.nD Cert.TwoNormsIdeal.τ).loc Cert.TwoNormsIdeal.main_arg0)
          ∧ r.2.mem ((c.tc : Thread Cert.TwoNormsIdeal.nD Cert.TwoNormsIdeal.τ).loc Cert.TwoNormsIdeal.main_arg1) = m ((c.tc : Thread Cert.TwoNormsIdeal.nD Cert.TwoNormsIdeal.τ).loc Cert.TwoNormsIdeal.main_arg1)
          ∧ r.2.mem ((c.tc : Thread Cert.TwoNormsIdeal.nD Cert.TwoNormsIdeal.τ).loc Cert.TwoNormsIdeal.main_arg2) = m ((c.tc : Thread Cert.TwoNormsIdeal.nD Cert.TwoNormsIdeal.τ).loc Cert.TwoNormsIdeal.main_arg2)
          ∧ r.2.mem ((c.tc : Thread Cert.TwoNormsIdeal.nD Cert.TwoNormsIdeal.τ).loc Cert.TwoNormsIdeal.main_arg3) = m ((c.tc : Thread Cert.TwoNormsIdeal.nD Cert.TwoNormsIdeal.τ).loc Cert.TwoNormsIdeal.main_arg3))
      ∧ θ_run (Cert.TwoNormsRefIdeal.defs (F := Ideal)) (onTc (τ := Cert.TwoNormsRefIdeal.τ) (Cert.TwoNormsRefIdeal.main (F := Ideal))) ⟨m', fun _ => 0, g'⟩ (fun r => ∀ c : Dev Cert.TwoNormsRefIdeal.nD,
          r.2.mem ((c.tc : Thread Cert.TwoNormsRefIdeal.nD Cert.TwoNormsRefIdeal.τ).loc Cert.TwoNormsRefIdeal.main_v13) = v0 c
          ∧ r.2.mem ((c.tc : Thread Cert.TwoNormsRefIdeal.nD Cert.TwoNormsRefIdeal.τ).loc Cert.TwoNormsRefIdeal.main_v26) = v1 c
          ∧ r.2.mem ((c.tc : Thread Cert.TwoNormsRefIdeal.nD Cert.TwoNormsRefIdeal.τ).loc Cert.TwoNormsRefIdeal.main_arg0) = m' ((c.tc : Thread Cert.TwoNormsRefIdeal.nD Cert.TwoNormsRefIdeal.τ).loc Cert.TwoNormsRefIdeal.main_arg0)
          ∧ r.2.mem ((c.tc : Thread Cert.TwoNormsRefIdeal.nD Cert.TwoNormsRefIdeal.τ).loc Cert.TwoNormsRefIdeal.main_arg1) = m' ((c.tc : Thread Cert.TwoNormsRefIdeal.nD Cert.TwoNormsRefIdeal.τ).loc Cert.TwoNormsRefIdeal.main_arg1)
          ∧ r.2.mem ((c.tc : Thread Cert.TwoNormsRefIdeal.nD Cert.TwoNormsRefIdeal.τ).loc Cert.TwoNormsRefIdeal.main_arg2) = m' ((c.tc : Thread Cert.TwoNormsRefIdeal.nD Cert.TwoNormsRefIdeal.τ).loc Cert.TwoNormsRefIdeal.main_arg2)
          ∧ r.2.mem ((c.tc : Thread Cert.TwoNormsRefIdeal.nD Cert.TwoNormsRefIdeal.τ).loc Cert.TwoNormsRefIdeal.main_arg3) = m' ((c.tc : Thread Cert.TwoNormsRefIdeal.nD Cert.TwoNormsRefIdeal.τ).loc Cert.TwoNormsRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v1_0)) (v1 : (c : Dev Cert.FfnInIdeal.nD) → Buf (Elt Ideal) ((c.tc : Thread Cert.FfnInIdeal.nD Cert.FfnInIdeal.τ).loc Cert.FfnInIdeal.main_v1_1)) (v2 : (c : Dev Cert.FfnInIdeal.nD) → Buf (Elt Ideal) ((c.tc : Thread Cert.FfnInIdeal.nD Cert.FfnInIdeal.τ).loc Cert.FfnInIdeal.main_v1_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1_0) = v0 c
          ∧ r.2.mem ((c.tc : Thread Cert.FfnInIdeal.nD Cert.FfnInIdeal.τ).loc Cert.FfnInIdeal.main_v1_1) = v1 c
          ∧ r.2.mem ((c.tc : Thread Cert.FfnInIdeal.nD Cert.FfnInIdeal.τ).loc Cert.FfnInIdeal.main_v1_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_v9) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v201_0)) (v1 : (c : Dev Cert.RetIdeal.nD) → Buf (Elt Ideal) ((c.tc : Thread Cert.RetIdeal.nD Cert.RetIdeal.τ).loc Cert.RetIdeal.main_v201_1)) (v2 : (c : Dev Cert.RetIdeal.nD) → Buf (Elt Ideal) ((c.tc : Thread Cert.RetIdeal.nD Cert.RetIdeal.τ).loc Cert.RetIdeal.main_v201_2)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v201_0) = v0 c
          ∧ r.2.mem ((c.tc : Thread Cert.RetIdeal.nD Cert.RetIdeal.τ).loc Cert.RetIdeal.main_v201_1) = v1 c
          ∧ r.2.mem ((c.tc : Thread Cert.RetIdeal.nD Cert.RetIdeal.τ).loc Cert.RetIdeal.main_v201_2) = v2 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v169) = v0 c
          ∧ r.2.mem ((c.tc : Thread Cert.RetRefIdeal.nD Cert.RetRefIdeal.τ).loc Cert.RetRefIdeal.main_v170) = v1 c
          ∧ r.2.mem ((c.tc : Thread Cert.RetRefIdeal.nD Cert.RetRefIdeal.τ).loc Cert.RetRefIdeal.main_v172) = v2 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v24) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v26) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v1) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v4) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)) →
    ∃ (v0 : (c : Dev Cert.FfnBackIdeal.nD) → Buf (Elt Ideal) ((c.tc : Thread Cert.FfnBackIdeal.nD Cert.FfnBackIdeal.τ).loc Cert.FfnBackIdeal.main_v1)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v1) = v0 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v5) = v0 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2))

def preserves_ProjBack_ProjBackIdeal : Prop :=
  True

def algebraic_ProjBackIdeal_ProjBackRefIdeal [hProjBackIdeal : Cert.ProjBackIdeal.Facts] [hProjBackRefIdeal : Cert.ProjBackRefIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg)
    (m' : (ℓ : Loc Cert.ProjBackRefIdeal.nD Cert.ProjBackRefIdeal.τ Cert.ProjBackRefIdeal.sig) → Buf (Elt Ideal) ℓ) (g' : Dev Cert.ProjBackRefIdeal.nD → PrngReg), Pre_ProjBackIdeal m →
    (∀ c : Dev Cert.ProjBackIdeal.nD,
      m' ((c.tc : Thread Cert.ProjBackRefIdeal.nD Cert.ProjBackRefIdeal.τ).loc Cert.ProjBackRefIdeal.main_arg0) = m ((c.tc : Thread Cert.ProjBackIdeal.nD Cert.ProjBackIdeal.τ).loc Cert.ProjBackIdeal.main_arg0)
      ∧ m' ((c.tc : Thread Cert.ProjBackRefIdeal.nD Cert.ProjBackRefIdeal.τ).loc Cert.ProjBackRefIdeal.main_arg1) = m ((c.tc : Thread Cert.ProjBackIdeal.nD Cert.ProjBackIdeal.τ).loc Cert.ProjBackIdeal.main_arg1)) →
    ∃ (v0 : (c : Dev Cert.ProjBackIdeal.nD) → Buf (Elt Ideal) ((c.tc : Thread Cert.ProjBackIdeal.nD Cert.ProjBackIdeal.τ).loc Cert.ProjBackIdeal.main_v1)),
      θ_run (Cert.ProjBackIdeal.defs (F := Ideal)) (onTc (τ := Cert.ProjBackIdeal.τ) (Cert.ProjBackIdeal.main (F := Ideal))) ⟨m, fun _ => 0, g⟩ (fun r => ∀ c : Dev Cert.ProjBackIdeal.nD,
          r.2.mem ((c.tc : Thread Cert.ProjBackIdeal.nD Cert.ProjBackIdeal.τ).loc Cert.ProjBackIdeal.main_v1) = v0 c
          ∧ r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
          ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1))
      ∧ θ_run (Cert.ProjBackRefIdeal.defs (F := Ideal)) (onTc (τ := Cert.ProjBackRefIdeal.τ) (Cert.ProjBackRefIdeal.main (F := Ideal))) ⟨m', fun _ => 0, g'⟩ (fun r => ∀ c : Dev Cert.ProjBackRefIdeal.nD,
          r.2.mem ((c.tc : Thread Cert.ProjBackRefIdeal.nD Cert.ProjBackRefIdeal.τ).loc Cert.ProjBackRefIdeal.main_v4) = v0 c
          ∧ r.2.mem ((c.tc : Thread Cert.ProjBackRefIdeal.nD Cert.ProjBackRefIdeal.τ).loc Cert.ProjBackRefIdeal.main_arg0) = m' ((c.tc : Thread Cert.ProjBackRefIdeal.nD Cert.ProjBackRefIdeal.τ).loc Cert.ProjBackRefIdeal.main_arg0)
          ∧ r.2.mem ((c.tc : Thread Cert.ProjBackRefIdeal.nD Cert.ProjBackRefIdeal.τ).loc Cert.ProjBackRefIdeal.main_arg1) = m' ((c.tc : Thread Cert.ProjBackRefIdeal.nD Cert.ProjBackRefIdeal.τ).loc Cert.ProjBackRefIdeal.main_arg1))

def Claim : Prop :=
  ∃ (hMerge : Cert.Merge.Facts) (hMergeIdeal : Cert.MergeIdeal.Facts) (hMergeRefIdeal : Cert.MergeRefIdeal.Facts) (hPreMix : Cert.PreMix.Facts) (hPreMixIdeal : Cert.PreMixIdeal.Facts) (hPreMixRefIdeal : Cert.PreMixRefIdeal.Facts) (hPostMix : Cert.PostMix.Facts) (hPostMixIdeal : Cert.PostMixIdeal.Facts) (hPostMixRefIdeal : Cert.PostMixRefIdeal.Facts) (hLossHead : Cert.LossHead.Facts) (hLossHeadIdeal : Cert.LossHeadIdeal.Facts) (hLossHeadRefIdeal : Cert.LossHeadRefIdeal.Facts) (hSwiglu : Cert.Swiglu.Facts) (hSwigluIdeal : Cert.SwigluIdeal.Facts) (hSwigluRefIdeal : Cert.SwigluRefIdeal.Facts) (hStick : Cert.Stick.Facts) (hStickIdeal : Cert.StickIdeal.Facts) (hStickRefIdeal : Cert.StickRefIdeal.Facts) (hStickOut : Cert.StickOut.Facts) (hStickOutIdeal : Cert.StickOutIdeal.Facts) (hStickOutRefIdeal : Cert.StickOutRefIdeal.Facts) (hPreNorm : Cert.PreNorm.Facts) (hPreNormIdeal : Cert.PreNormIdeal.Facts) (hPreNormRefIdeal : Cert.PreNormRefIdeal.Facts) (hGates : Cert.Gates.Facts) (hGatesIdeal : Cert.GatesIdeal.Facts) (hGatesRefIdeal : Cert.GatesRefIdeal.Facts) (hTwoNorms : Cert.TwoNorms.Facts) (hTwoNormsIdeal : Cert.TwoNormsIdeal.Facts) (hTwoNormsRefIdeal : Cert.TwoNormsRefIdeal.Facts) (hFfnIn : Cert.FfnIn.Facts) (hFfnInIdeal : Cert.FfnInIdeal.Facts) (hFfnInRefIdeal : Cert.FfnInRefIdeal.Facts) (hRet : Cert.Ret.Facts) (hRetIdeal : Cert.RetIdeal.Facts) (hRetRefIdeal : Cert.RetRefIdeal.Facts) (hProj : Cert.Proj.Facts) (hProjIdeal : Cert.ProjIdeal.Facts) (hProjRefIdeal : Cert.ProjRefIdeal.Facts) (hAdamW : Cert.AdamW.Facts) (hAdamWIdeal : Cert.AdamWIdeal.Facts) (hAdamWRefIdeal : Cert.AdamWRefIdeal.Facts) (hSlots : Cert.Slots.Facts) (hSlotsIdeal : Cert.SlotsIdeal.Facts) (hSlotsRefIdeal : Cert.SlotsRefIdeal.Facts) (hWeightGrad : Cert.WeightGrad.Facts) (hWeightGradIdeal : Cert.WeightGradIdeal.Facts) (hWeightGradRefIdeal : Cert.WeightGradRefIdeal.Facts) (hFfnBack : Cert.FfnBack.Facts) (hFfnBackIdeal : Cert.FfnBackIdeal.Facts) (hFfnBackRefIdeal : Cert.FfnBackRefIdeal.Facts) (hProjBack : Cert.ProjBack.Facts) (hProjBackIdeal : Cert.ProjBackIdeal.Facts) (hProjBackRefIdeal : Cert.ProjBackRefIdeal.Facts) (hPre_swiglu_finite : Cert.Pre_swiglu_finite.Facts) (hPre_stick_finite : Cert.Pre_stick_finite.Facts) (hPre_scores_finite : Cert.Pre_scores_finite.Facts) (hOn_gate_columns : Cert.On_gate_columns.Facts),
    quiescent_Merge (hMerge := hMerge)
    ∧ quiescent_MergeIdeal (hMergeIdeal := hMergeIdeal)
    ∧ quiescent_MergeRefIdeal (hMergeRefIdeal := hMergeRefIdeal)
    ∧ quiescent_PreMix (hPreMix := hPreMix)
    ∧ quiescent_PreMixIdeal (hPreMixIdeal := hPreMixIdeal)
    ∧ quiescent_PreMixRefIdeal (hPreMixRefIdeal := hPreMixRefIdeal)
    ∧ quiescent_PostMix (hPostMix := hPostMix)
    ∧ quiescent_PostMixIdeal (hPostMixIdeal := hPostMixIdeal)
    ∧ quiescent_PostMixRefIdeal (hPostMixRefIdeal := hPostMixRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_Stick (hStick := hStick)
    ∧ quiescent_StickIdeal (hStickIdeal := hStickIdeal)
    ∧ quiescent_StickIdeal_pre_stick_finite (hStickIdeal := hStickIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ quiescent_StickOut (hStickOut := hStickOut)
    ∧ quiescent_StickOutIdeal (hStickOutIdeal := hStickOutIdeal)
    ∧ quiescent_StickOutIdeal_pre_scores_finite (hStickOutIdeal := hStickOutIdeal) (hPre_scores_finite := hPre_scores_finite)
    ∧ quiescent_StickOutRefIdeal (hStickOutRefIdeal := hStickOutRefIdeal)
    ∧ quiescent_StickOutRefIdeal_pre_scores_finite (hStickOutRefIdeal := hStickOutRefIdeal) (hPre_scores_finite := hPre_scores_finite)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_Gates (hGates := hGates)
    ∧ quiescent_GatesIdeal (hGatesIdeal := hGatesIdeal)
    ∧ quiescent_GatesRefIdeal (hGatesRefIdeal := hGatesRefIdeal)
    ∧ quiescent_TwoNorms (hTwoNorms := hTwoNorms)
    ∧ quiescent_TwoNormsIdeal (hTwoNormsIdeal := hTwoNormsIdeal)
    ∧ quiescent_TwoNormsRefIdeal (hTwoNormsRefIdeal := hTwoNormsRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Ret (hRet := hRet)
    ∧ quiescent_RetIdeal (hRetIdeal := hRetIdeal)
    ∧ quiescent_RetRefIdeal (hRetRefIdeal := hRetRefIdeal)
    ∧ quiescent_Proj (hProj := hProj)
    ∧ quiescent_ProjIdeal (hProjIdeal := hProjIdeal)
    ∧ quiescent_ProjRefIdeal (hProjRefIdeal := hProjRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ quiescent_ProjBack (hProjBack := hProjBack)
    ∧ quiescent_ProjBackIdeal (hProjBackIdeal := hProjBackIdeal)
    ∧ quiescent_ProjBackRefIdeal (hProjBackRefIdeal := hProjBackRefIdeal)
    ∧ preserves_Merge_MergeIdeal
    ∧ algebraic_MergeIdeal_MergeRefIdeal_on_gate_columns (hMergeIdeal := hMergeIdeal) (hMergeRefIdeal := hMergeRefIdeal) (hOn_gate_columns := hOn_gate_columns)
    ∧ preserves_PreMix_PreMixIdeal
    ∧ algebraic_PreMixIdeal_PreMixRefIdeal (hPreMixIdeal := hPreMixIdeal) (hPreMixRefIdeal := hPreMixRefIdeal)
    ∧ preserves_PostMix_PostMixIdeal
    ∧ algebraic_PostMixIdeal_PostMixRefIdeal (hPostMixIdeal := hPostMixIdeal) (hPostMixRefIdeal := hPostMixRefIdeal)
    ∧ preserves_LossHead_LossHeadIdeal
    ∧ algebraic_LossHeadIdeal_LossHeadRefIdeal (hLossHeadIdeal := hLossHeadIdeal) (hLossHeadRefIdeal := hLossHeadRefIdeal)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_Stick_StickIdeal
    ∧ algebraic_StickIdeal_StickRefIdeal_pre_stick_finite (hStickIdeal := hStickIdeal) (hStickRefIdeal := hStickRefIdeal) (hPre_stick_finite := hPre_stick_finite)
    ∧ preserves_StickOut_StickOutIdeal
    ∧ algebraic_StickOutIdeal_StickOutRefIdeal_pre_scores_finite (hStickOutIdeal := hStickOutIdeal) (hStickOutRefIdeal := hStickOutRefIdeal) (hPre_scores_finite := hPre_scores_finite)
    ∧ preserves_PreNorm_PreNormIdeal
    ∧ algebraic_PreNormIdeal_PreNormRefIdeal (hPreNormIdeal := hPreNormIdeal) (hPreNormRefIdeal := hPreNormRefIdeal)
    ∧ preserves_Gates_GatesIdeal
    ∧ algebraic_GatesIdeal_GatesRefIdeal (hGatesIdeal := hGatesIdeal) (hGatesRefIdeal := hGatesRefIdeal)
    ∧ preserves_TwoNorms_TwoNormsIdeal
    ∧ algebraic_TwoNormsIdeal_TwoNormsRefIdeal (hTwoNormsIdeal := hTwoNormsIdeal) (hTwoNormsRefIdeal := hTwoNormsRefIdeal)
    ∧ preserves_FfnIn_FfnInIdeal
    ∧ algebraic_FfnInIdeal_FfnInRefIdeal (hFfnInIdeal := hFfnInIdeal) (hFfnInRefIdeal := hFfnInRefIdeal)
    ∧ preserves_Ret_RetIdeal
    ∧ algebraic_RetIdeal_RetRefIdeal (hRetIdeal := hRetIdeal) (hRetRefIdeal := hRetRefIdeal)
    ∧ preserves_Proj_ProjIdeal
    ∧ algebraic_ProjIdeal_ProjRefIdeal (hProjIdeal := hProjIdeal) (hProjRefIdeal := hProjRefIdeal)
    ∧ preserves_AdamW_AdamWIdeal
    ∧ algebraic_AdamWIdeal_AdamWRefIdeal (hAdamWIdeal := hAdamWIdeal) (hAdamWRefIdeal := hAdamWRefIdeal)
    ∧ preserves_Slots_SlotsIdeal
    ∧ algebraic_SlotsIdeal_SlotsRefIdeal (hSlotsIdeal := hSlotsIdeal) (hSlotsRefIdeal := hSlotsRefIdeal)
    ∧ preserves_WeightGrad_WeightGradIdeal
    ∧ algebraic_WeightGradIdeal_WeightGradRefIdeal (hWeightGradIdeal := hWeightGradIdeal) (hWeightGradRefIdeal := hWeightGradRefIdeal)
    ∧ preserves_FfnBack_FfnBackIdeal
    ∧ algebraic_FfnBackIdeal_FfnBackRefIdeal (hFfnBackIdeal := hFfnBackIdeal) (hFfnBackRefIdeal := hFfnBackRefIdeal)
    ∧ preserves_ProjBack_ProjBackIdeal
    ∧ algebraic_ProjBackIdeal_ProjBackRefIdeal (hProjBackIdeal := hProjBackIdeal) (hProjBackRefIdeal := hProjBackRefIdeal)
-- ==== On_gate_columns.lean ====
abbrev S8448x11264 : Shape := ⟨2, ![8448, 11264]⟩
abbrev S8448x1024 : Shape := ⟨2, ![8448, 1024]⟩
abbrev S_ : Shape := ⟨0, ![]⟩

class Facts : Prop where
  bcast_S_S8448x1024 : S_.BroadcastsInDim S8448x1024 (![] : Fin 0 → Fin S8448x1024.rank)
  bcast_S_S8448x11264 : S_.BroadcastsInDim S8448x11264 (![] : Fin 0 → Fin S8448x11264.rank)

variable [Facts]

def fn {F : FTy → Type} [FloatOps F] (main_arg0 : FVec F S8448x11264 .bf16) (main_arg1 : FVec F S8448x1024 .bf16) (main_arg2 : FVec F S8448x1024 .bf16) (main_arg3 : FVec F S8448x1024 .bf16) : IVec S8448x1024 1 × IVec S8448x1024 1 × IVec S8448x11264 1 :=
  let main_v0 : IVec S8448x1024 32 := iotaInDim S8448x1024 32 1
  let main_c : IVec S_ 32 := constantI S_ 32 0#32
  let main_v1 : IVec S8448x1024 32 := broadcastInDim S8448x1024 ![] bcast_S_S8448x1024 main_c
  let main_v2 : IVec S8448x1024 1 := cmpi .sge main_v0 main_v1
  let main_v3 : IVec S8448x11264 32 := iotaInDim S8448x11264 32 1
  let main_c_0 : IVec S_ 32 := constantI S_ 32 9216#32
  let main_v4 : IVec S8448x11264 32 := broadcastInDim S8448x11264 ![] bcast_S_S8448x11264 main_c_0
  let main_v5 : IVec S8448x11264 1 := cmpi .sge main_v3 main_v4
  (main_v2, main_v2, main_v5)
-- ==== Pre_scores_finite.lean ====
abbrev S8208x1024 : Shape := ⟨2, ![8208, 1024]⟩
abbrev S_ : Shape := ⟨0, ![]⟩

class Facts : Prop where
  bitsLt_bf16_f32 : FTy.bits .bf16 < FTy.bits .f32
  bcast_S_S8208x1024 : S_.BroadcastsInDim S8208x1024 (![] : Fin 0 → Fin S8208x1024.rank)
  reducesTo_S8208x1024_S_d0_1 : S8208x1024.ReducesTo [0, 1] S_
  h_S_ : 0 < S_.numel

variable [Facts]

def fn {F : FTy → Type} [FloatOps F] (main_arg0 : FVec F S8208x1024 .bf16) (main_arg1 : FVec F S8208x1024 .bf16) (main_arg2 : FVec F S8208x1024 .bf16) : IVec S_ 1 :=
  let main_v0 : FVec F S8208x1024 .f32 := (extf .f32 · bitsLt_bf16_f32) main_arg0
  let main_v1 : FVec F S8208x1024 .f32 := Host.absf main_v0
  let main_cst : FVec F S_ .f32 := constant S_ .f32 0x7F800000#32
  let main_v2 : FVec F S8208x1024 .f32 := broadcastInDim S8208x1024 ![] bcast_S_S8208x1024 main_cst
  let main_v3 : IVec S8208x1024 1 := cmpf .olt main_v1 main_v2
  let main_c : IVec S_ 1 := constantI S_ 1 1#1
  let main_v4 : IVec S_ 1 := (fun x v => Host.reduce IntOp.andi x v reducesTo_S8208x1024_S_d0_1 h_S_) main_v3 main_c
  let main_v5 : FVec F S8208x1024 .f32 := (extf .f32 · bitsLt_bf16_f32) main_arg1
  let main_v6 : FVec F S8208x1024 .f32 := Host.absf main_v5
  let main_cst_0 : FVec F S_ .f32 := constant S_ .f32 0x7F800000#32
  let main_v7 : FVec F S8208x1024 .f32 := broadcastInDim S8208x1024 ![] bcast_S_S8208x1024 main_cst_0
  let main_v8 : IVec S8208x1024 1 := cmpf .olt main_v6 main_v7
  let main_c_1 : IVec S_ 1 := constantI S_ 1 1#1
  let main_v9 : IVec S_ 1 := (fun x v => Host.reduce IntOp.andi x v reducesTo_S8208x1024_S_d0_1 h_S_) main_v8 main_c_1
  let main_v10 : IVec S_ 1 := andi main_v4 main_v9
  main_v10
-- ==== Pre_stick_finite.lean ====
abbrev S8208x1024 : Shape := ⟨2, ![8208, 1024]⟩
abbrev S_ : Shape := ⟨0, ![]⟩

class Facts : Prop where
  bitsLt_bf16_f32 : FTy.bits .bf16 < FTy.bits .f32
  bcast_S_S8208x1024 : S_.BroadcastsInDim S8208x1024 (![] : Fin 0 → Fin S8208x1024.rank)
  reducesTo_S8208x1024_S_d0_1 : S8208x1024.ReducesTo [0, 1] S_
  h_S_ : 0 < S_.numel

variable [Facts]

def fn_part1 {F : FTy → Type} [FloatOps F] (main_v16 : IVec S_ 1) (main_v17 : FVec F S8208x1024 .f32) : IVec S_ 1 :=
  let main_v18 : FVec F S8208x1024 .f32 := Host.absf main_v17
  let main_cst_4 : FVec F S_ .f32 := constant S_ .f32 0x7F800000#32
  let main_v19 : FVec F S8208x1024 .f32 := broadcastInDim S8208x1024 ![] bcast_S_S8208x1024 main_cst_4
  let main_v20 : IVec S8208x1024 1 := cmpf .olt main_v18 main_v19
  let main_c_5 : IVec S_ 1 := constantI S_ 1 1#1
  let main_v21 : IVec S_ 1 := (fun x v => Host.reduce IntOp.andi x v reducesTo_S8208x1024_S_d0_1 h_S_) main_v20 main_c_5
  let main_v22 : IVec S_ 1 := andi main_v16 main_v21
  main_v22

def fn {F : FTy → Type} [FloatOps F] (main_arg0 : FVec F S8208x1024 .bf16) (main_arg1 : FVec F S8208x1024 .bf16) (main_arg2 : FVec F S8208x1024 .bf16) (main_arg3 : FVec F S8208x1024 .bf16) : IVec S_ 1 :=
  let main_v0 : FVec F S8208x1024 .f32 := (extf .f32 · bitsLt_bf16_f32) main_arg0
  let main_v1 : FVec F S8208x1024 .f32 := Host.absf main_v0
  let main_cst : FVec F S_ .f32 := constant S_ .f32 0x7F800000#32
  let main_v2 : FVec F S8208x1024 .f32 := broadcastInDim S8208x1024 ![] bcast_S_S8208x1024 main_cst
  let main_v3 : IVec S8208x1024 1 := cmpf .olt main_v1 main_v2
  let main_c : IVec S_ 1 := constantI S_ 1 1#1
  let main_v4 : IVec S_ 1 := (fun x v => Host.reduce IntOp.andi x v reducesTo_S8208x1024_S_d0_1 h_S_) main_v3 main_c
  let main_v5 : FVec F S8208x1024 .f32 := (extf .f32 · bitsLt_bf16_f32) main_arg1
  let main_v6 : FVec F S8208x1024 .f32 := Host.absf main_v5
  let main_cst_0 : FVec F S_ .f32 := constant S_ .f32 0x7F800000#32
  let main_v7 : FVec F S8208x1024 .f32 := broadcastInDim S8208x1024 ![] bcast_S_S8208x1024 main_cst_0
  let main_v8 : IVec S8208x1024 1 := cmpf .olt main_v6 main_v7
  let main_c_1 : IVec S_ 1 := constantI S_ 1 1#1
  let main_v9 : IVec S_ 1 := (fun x v => Host.reduce IntOp.andi x v reducesTo_S8208x1024_S_d0_1 h_S_) main_v8 main_c_1
  let main_v10 : IVec S_ 1 := andi main_v4 main_v9
  let main_v11 : FVec F S8208x1024 .f32 := (extf .f32 · bitsLt_bf16_f32) main_arg2
  let main_v12 : FVec F S8208x1024 .f32 := Host.absf main_v11
  let main_cst_2 : FVec F S_ .f32 := constant S_ .f32 0x7F800000#32
  let main_v13 : FVec F S8208x1024 .f32 := broadcastInDim S8208x1024 ![] bcast_S_S8208x1024 main_cst_2
  let main_v14 : IVec S8208x1024 1 := cmpf .olt main_v12 main_v13
  let main_c_3 : IVec S_ 1 := constantI S_ 1 1#1
  let main_v15 : IVec S_ 1 := (fun x v => Host.reduce IntOp.andi x v reducesTo_S8208x1024_S_d0_1 h_S_) main_v14 main_c_3
  let main_v16 : IVec S_ 1 := andi main_v10 main_v15
  let main_v17 : FVec F S8208x1024 .f32 := (extf .f32 · bitsLt_bf16_f32) main_arg3
  fn_part1 (F := F) main_v16 main_v17
-- ==== Pre_swiglu_finite.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8448x2816 : S_.BroadcastsInDim S8448x2816 (![] : Fin 0 → Fin S8448x2816.rank)
  reducesTo_S8448x2816_S_d0_1 : S8448x2816.ReducesTo [0, 1] S_

variable [Facts]

def fn {F : FTy → Type} [FloatOps F] (main_arg0 : FVec F S8448x1024 .bf16) (main_arg1 : FVec F S2816x1024 .bf16) (main_arg2 : FVec F S8448x2816 .bf16) (main_arg3 : FVec F S8448x2816 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8448x2816 .f32 := (extf .f32 · bitsLt_bf16_f32) main_arg3
  let main_v12 : FVec F S8448x2816 .f32 := Host.absf main_v11
  let main_cst_2 : FVec F S_ .f32 := constant S_ .f32 0x7F800000#32
  let main_v13 : FVec F S8448x2816 .f32 := broadcastInDim S8448x2816 ![] bcast_S_S8448x2816 main_cst_2
  let main_v14 : IVec S8448x2816 1 := cmpf .olt main_v12 main_v13
  let main_c_3 : IVec S_ 1 := constantI S_ 1 1#1
  let main_v15 : IVec S_ 1 := (fun x v => Host.reduce IntOp.andi x v reducesTo_S8448x2816_S_d0_1 h_S_) main_v14 main_c_3
  let main_v16 : IVec S_ 1 := andi main_v10 main_v15
  main_v16
-- ==== Merge.lean ====
abbrev S8448x11264 : Shape := ⟨2, ![8448, 11264]⟩
abbrev S8448x1024 : Shape := ⟨2, ![8448, 1024]⟩
abbrev S768x1024 : Shape := ⟨2, ![768, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .hbm, ⟨5, _⟩ => ⟨S8448x1024, .bf16⟩
  | .hbm, ⟨6, _⟩ => ⟨S8448x11264, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_5 : BitVec 32 := 0#32
  let v13 : BitVec 1 := Scalar.cmpi .ne v12 c0_i32_5
  v13

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8448x11264 : Shape := ⟨2, ![8448, 11264]⟩
abbrev S8448x1024 : Shape := ⟨2, ![8448, 1024]⟩
abbrev S_ : Shape := ⟨0, ![]⟩
abbrev S8448x9216 : Shape := ⟨2, ![8448, 9216]⟩

abbrev nBuf : Space → Nat
  | .hbm => 50
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .bf16⟩
  | .hbm, ⟨5, _⟩ => ⟨S8448x1024, .f32⟩
  | .hbm, ⟨6, _⟩ => ⟨S8448x1024, .bf16⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S_, .f32⟩
  | .hbm, ⟨45, _⟩ => ⟨S8448x9216, .f32⟩
  | .hbm, ⟨46, _⟩ => ⟨S8448x11264, .f32⟩
  | .hbm, ⟨47, _⟩ => ⟨S8448x1024, .bf16⟩
  | .hbm, ⟨48, _⟩ => ⟨S8448x1024, .bf16⟩
  | .hbm, ⟨49, _⟩ => ⟨S8448x11264, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== PreMix.lean ====
abbrev S8448x1024 : Shape := ⟨2, ![8448, 1024]⟩
abbrev S1x1024 : Shape := ⟨2, ![1, 1024]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8448x1024, .f32⟩
  | .hbm, ⟨4, _⟩ => ⟨S8448x1024, .f32⟩
  | .hbm, ⟨5, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreMixRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S8x1024 : Shape := ⟨2, ![8, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1, .f32⟩
  | .hbm, ⟨38, _⟩ => ⟨S_, .f32⟩
  | .hbm, ⟨39, _⟩ => ⟨S8448x1, .f32⟩
  | .hbm, ⟨40, _⟩ => ⟨S8448x1, .f32⟩
  | .hbm, ⟨41, _⟩ => ⟨S_, .f32⟩
  | .hbm, ⟨42, _⟩ => ⟨S8448, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== PostMix.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S8x1024 : Shape := ⟨2, ![8, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 27
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8448x1024, .f32⟩
  | .hbm, ⟨4, _⟩ => ⟨S8448x1024, .bf16⟩
  | .hbm, ⟨5, _⟩ => ⟨S1x1024, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .bf16⟩
  | .hbm, ⟨25, _⟩ => ⟨S8x1024, .f32⟩
  | .hbm, ⟨26, _⟩ => ⟨S8x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .bf16⟩
  | .local _ .vmem, ⟨8, _⟩ => ⟨S384x1024, .bf16⟩
  | .local _ .vmem, ⟨9, _⟩ => ⟨S1x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .bf16⟩
  | .local _ .vmem, ⟨13, _⟩ => ⟨S384x1024, .bf16⟩
  | .local _ .vmem, ⟨14, _⟩ => ⟨S8x1024, .f32⟩
  | .local _ .vmem, ⟨15, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostMixRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8448x1024, .f32⟩
  | .hbm, ⟨4, _⟩ => ⟨S8448x1024, .bf16⟩
  | .hbm, ⟨5, _⟩ => ⟨S1x1024, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448x1, .f32⟩
  | .hbm, ⟨41, _⟩ => ⟨S8448x1, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S8448, .f32⟩
  | .hbm, ⟨56, _⟩ => ⟨S8448x1, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1, .f32⟩
  | .hbm, ⟨61, _⟩ => ⟨S_, .f32⟩
  | .hbm, ⟨62, _⟩ => ⟨S8448x1, .f32⟩
  | .hbm, ⟨63, _⟩ => ⟨S8448x1, .f32⟩
  | .hbm, ⟨64, _⟩ => ⟨S_, .f32⟩
  | .hbm, ⟨65, _⟩ => ⟨S8448, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8448x1024, .f32⟩
  | .hbm, ⟨77, _⟩ => ⟨S8448x1024, .f32⟩
  | .hbm, ⟨78, _⟩ => ⟨S8448x1024, .f32⟩
  | .hbm, ⟨79, _⟩ => ⟨S_, .f32⟩
  | .hbm, ⟨80, _⟩ => ⟨S8448, .f32⟩
  | .hbm, ⟨81, _⟩ => ⟨S8448x1, .f32⟩
  | .hbm, ⟨82, _⟩ => ⟨S8448x1024, .f32⟩
  | .hbm, ⟨83, _⟩ => ⟨S8448x1024, .f32⟩
  | .hbm, ⟨84, _⟩ => ⟨S8448x1, .f32⟩
  | .hbm, ⟨85, _⟩ => ⟨S_, .f32⟩
  | .hbm, ⟨86, _⟩ => ⟨S8448x1, .f32⟩
  | .hbm, ⟨87, _⟩ => ⟨S8448x1, .f32⟩
  | .hbm, ⟨88, _⟩ => ⟨S_, .f32⟩
  | .hbm, ⟨89, _⟩ => ⟨S8448, .f32⟩
  | .hbm, ⟨90, _⟩ => ⟨S8448x1024, .f32⟩
  | .hbm, ⟨91, _⟩ => ⟨S8448x1024, .f32⟩
  | .hbm, ⟨92, _⟩ => ⟨S8448x1024, .f32⟩
  | .hbm, ⟨93, _⟩ => ⟨S8448x1024, .f32⟩
  | .hbm, ⟨94, _⟩ => ⟨S8448x1024, .f32⟩
  | .hbm, ⟨95, _⟩ => ⟨S8448x1024, .bf16⟩
  | .hbm, ⟨96, _⟩ => ⟨S8x1024, .f32⟩
  | .hbm, ⟨97, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== LossHead.lean ====
abbrev S8448x1024 : Shape := ⟨2, ![8448, 1024]⟩
abbrev S1x1024 : Shape := ⟨2, ![1, 1024]⟩
abbrev S8192x1024 : Shape := ⟨2, ![8192, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8192x1024, .f32⟩
  | .hbm, ⟨4, _⟩ => ⟨S8x128, .f32⟩
  | .hbm, ⟨5, _⟩ => ⟨S8448x1024, .f32⟩
  | .hbm, ⟨6, _⟩ => ⟨S8448x1024, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x128, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S8448x1024 : Shape := ⟨2, ![8448, 1024]⟩
abbrev S1x1024 : Shape := ⟨2, ![1, 1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S8192 : Shape := ⟨1, ![8192]⟩
abbrev S1024 : Shape := ⟨1, ![1024]⟩
abbrev S8x128 : Shape := ⟨2, ![8, 128]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8192x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8448x1024, .f32⟩
  | .hbm, ⟨51, _⟩ => ⟨S8448x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S_, .f32⟩
  | .hbm, ⟨59, _⟩ => ⟨S8448, .f32⟩
  | .hbm, ⟨60, _⟩ => ⟨S8448x1, .f32⟩
  | .hbm, ⟨61, _⟩ => ⟨S8448x1024, .f32⟩
  | .hbm, ⟨62, _⟩ => ⟨S8448x1024, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S_, .f32⟩
  | .hbm, ⟨68, _⟩ => ⟨S8448, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8x128, .f32⟩
  | .hbm, ⟨75, _⟩ => ⟨S8448x1024, .bf16⟩
  | .hbm, ⟨76, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Swiglu.lean ====
abbrev S8448x1024 : Shape := ⟨2, ![8448, 1024]⟩
abbrev S2816x1024 : Shape := ⟨2, ![2816, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩
abbrev S256x1024 : Shape := ⟨2, ![256, 1024]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .hbm, ⟨5, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1408x1024, .bf16⟩
  | .local _ .vmem, ⟨3, _⟩ => ⟨S1408x1024, .bf16⟩
  | .local _ .vmem, ⟨4, _⟩ => ⟨S768x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S2816x1024, .f32⟩
  | .hbm, ⟨21, _⟩ => ⟨S8448x1024, .f32⟩
  | .hbm, ⟨22, _⟩ => ⟨S8448x1024, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .bf16⟩
  | .hbm, ⟨31, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Stick.lean ====
abbrev S8208x1024 : Shape := ⟨2, ![8208, 1024]⟩
abbrev S8208x3072 : Shape := ⟨2, ![8208, 3072]⟩
abbrev S_ : Shape := ⟨0, ![]⟩
abbrev S8448x11264 : Shape := ⟨2, ![8448, 11264]⟩
abbrev S8208x16x64 : Shape := ⟨3, ![8208, 16, 64]⟩
abbrev S16x8208x64 : Shape := ⟨3, ![16, 8208, 64]⟩
abbrev S16x8208x8208 : Shape := ⟨3, ![16, 8208, 8208]⟩
abbrev S8448x1024 : Shape := ⟨2, ![8448, 1024]⟩
abbrev S256x128 : Shape := ⟨2, ![256, 128]⟩
abbrev S8448x128 : Shape := ⟨2, ![8448, 128]⟩
abbrev S2x256x128 : Shape := ⟨3, ![2, 256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 85
  | .vmem => 19
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .bf16⟩
  | .hbm, ⟨2, _⟩ => ⟨S8208x1024, .bf16⟩
  | .hbm, ⟨3, _⟩ => ⟨S8208x1024, .bf16⟩
  | .hbm, ⟨4, _⟩ => ⟨S8208x3072, .bf16⟩
  | .hbm, ⟨5, _⟩ => ⟨S_, .i32⟩
  | .hbm, ⟨6, _⟩ => ⟨S_, .bf16⟩
  | .hbm, ⟨7, _⟩ => ⟨S8448x11264, .bf16⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S8208x16x64, .f32⟩
  | .hbm, ⟨12, _⟩ => ⟨S16x8208x64, .f32⟩
  | .hbm, ⟨13, _⟩ => ⟨S8208x16x64, .f32⟩
  | .hbm, ⟨14, _⟩ => ⟨S16x8208x64, .f32⟩
  | .hbm, ⟨15, _⟩ => ⟨S8208x16x64, .f32⟩
  | .hbm, ⟨16, _⟩ => ⟨S16x8208x64, .f32⟩
  | .hbm, ⟨17, _⟩ => ⟨S16x8208x8208, .f32⟩
  | .hbm, ⟨18, _⟩ => ⟨S_, .f32⟩
  | .hbm, ⟨19, _⟩ => ⟨S16x8208x8208, .f32⟩
  | .hbm, ⟨20, _⟩ => ⟨S16x8208x8208, .f32⟩
  | .hbm, ⟨21, _⟩ => ⟨S16x8208x8208, .i32⟩
  | .hbm, ⟨22, _⟩ => ⟨S16x8208x8208, .i32⟩
  | .hbm, ⟨23, _⟩ => ⟨S16x8208x8208, .i1⟩
  | .hbm, ⟨24, _⟩ => ⟨S16x8208x8208, .f32⟩
  | .hbm, ⟨25, _⟩ => ⟨S16x8208x8208, .f32⟩
  | .hbm, ⟨26, _⟩ => ⟨S_, .f32⟩
  | .hbm, ⟨27, _⟩ => ⟨S16x8208x8208, .f32⟩
  | .hbm, ⟨28, _⟩ => ⟨S16x8208x8208, .f32⟩
  | .hbm, ⟨29, _⟩ => ⟨S16x8208x8208, .f32⟩
  | .hbm, ⟨30, _⟩ => ⟨S16x8208x8208, .f32⟩
  | .hbm, ⟨31, _⟩ => ⟨S16x8208x8208, .i1⟩
  | .hbm, ⟨32, _⟩ => ⟨S16x8208x8208, .f32⟩
  | .hbm, ⟨33, _⟩ => ⟨S16x8208x8208, .f32⟩
  | .hbm, ⟨34, _⟩ => ⟨S16x8208x8208, .f32⟩
  | .hbm, ⟨35, _⟩ => ⟨S16x8208x8208, .f32⟩
  | .hbm, ⟨36, _⟩ => ⟨S16x8208x8208, .f32⟩
  | .hbm, ⟨37, _⟩ => ⟨S16x8208x8208, .f32⟩
  | .hbm, ⟨38, _⟩ => ⟨S16x8208x8208, .f32⟩
  | .hbm, ⟨39, _⟩ => ⟨S16x8208x8208, .f32⟩
  | .hbm, ⟨40, _⟩ => ⟨S16x8208x8208, .f32⟩
  | .hbm, ⟨41, _⟩ => ⟨S_, .f32⟩
  | .hbm, ⟨42, _⟩ => ⟨S_, .f32⟩
  | .hbm, ⟨43, _⟩ => ⟨S16x8208x8208, .f32⟩
  | .hbm, ⟨44, _⟩ => ⟨S16x8208x8208, .f32⟩
  | .hbm, ⟨45, _⟩ => ⟨S_, .f32⟩
  | .hbm, ⟨46, _⟩ => ⟨S_, .f32⟩
  | .hbm, ⟨47, _⟩ => ⟨S16x8208x8208, .f32⟩
  | .hbm, ⟨48, _⟩ => ⟨S16x8208x8208, .f32⟩
  | .hbm, ⟨49, _⟩ => ⟨S16x8208x8208, .f32⟩
  | .hbm, ⟨50, _⟩ => ⟨S_, .f32⟩
  | .hbm, ⟨51, _⟩ => ⟨S16x8208x8208, .f32⟩
  | .hbm, ⟨52, _⟩ => ⟨S16x8208x8208, .f32⟩
  | .hbm, ⟨53, _⟩ => ⟨S16x8208x8208, .f32⟩
  | .hbm, ⟨54, _⟩ => ⟨S16x8208x8208, .f32⟩
  | .hbm, ⟨55, _⟩ => ⟨S16x8208x8208, .i1⟩
  | .hbm, ⟨56, _⟩ => ⟨S16x8208x8208, .f32⟩
  | .hbm, ⟨57, _⟩ => ⟨S16x8208x8208, .f32⟩
  | .hbm, ⟨58, _⟩ => ⟨S16x8208x8208, .f32⟩
  | .hbm, ⟨59, _⟩ => ⟨S16x8208x8208, .f32⟩
  | .hbm, ⟨60, _⟩ => ⟨S16x8208x8208, .f32⟩
  | .hbm, ⟨61, _⟩ => ⟨S16x8208x8208, .f32⟩
  | .hbm, ⟨62, _⟩ => ⟨S16x8208x8208, .f32⟩
  | .hbm, ⟨63, _⟩ => ⟨S16x8208x8208, .f32⟩
  | .hbm, ⟨64, _⟩ => ⟨S16x8208x8208, .f32⟩
  | .hbm, ⟨65, _⟩ => ⟨S16x8208x8208, .f32⟩
  | .hbm, ⟨66, _⟩ => ⟨S16x8208x8208, .f32⟩
  | .hbm, ⟨67, _⟩ => ⟨S_, .f32⟩
  | .hbm, ⟨68, _⟩ => ⟨S_, .f32⟩
  | .hbm, ⟨69, _⟩ => ⟨S16x8208x8208, .f32⟩
  | .hbm, ⟨70, _⟩ => ⟨S16x8208x8208, .f32⟩
  | .hbm, ⟨71, _⟩ => ⟨S16x8208x64, .f32⟩
  | .hbm, ⟨72, _⟩ => ⟨S8208x16x64, .f32⟩
  | .hbm, ⟨73, _⟩ => ⟨S8208x1024, .f32⟩
  | .hbm, ⟨74, _⟩ => ⟨S_, .i32⟩
  | .hbm, ⟨75, _⟩ => ⟨S_, .f32⟩
  | .hbm, ⟨76, _⟩ => ⟨S8448x1024, .f32⟩
  | .hbm, ⟨77, _⟩ => ⟨S_, .i32⟩
  | .hbm, ⟨78, _⟩ => ⟨S_, .bf16⟩
  | .hbm, ⟨79, _⟩ => ⟨S8448x1024, .bf16⟩
  | .hbm, ⟨80, _⟩ => ⟨S_, .bf16⟩
  | .hbm, ⟨81, _⟩ => ⟨S8448x11264, .bf16⟩
  | .hbm, ⟨82, _⟩ => ⟨S8448x11264, .bf16⟩
  | .hbm, ⟨83, _⟩ => ⟨S8448x1024, .bf16⟩
  | .hbm, ⟨84, _⟩ => ⟨S8448x1024, .bf16⟩
  | .local _ .vmem, ⟨0, _⟩ => ⟨S256x128, .bf16⟩
  | .local _ .vmem, ⟨1, _⟩ => ⟨S256x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S8448x128, .bf16⟩
  | .local _ .vmem, ⟨13, _⟩ => ⟨S8448x128, .bf16⟩
  | .local _ .vmem, ⟨14, _⟩ => ⟨S8448x128, .bf16⟩
  | .local _ .vmem, ⟨15, _⟩ => ⟨S8448x128, .bf16⟩
  | .local _ .vmem, ⟨16, _⟩ => ⟨S2x256x128, .f32⟩
  | .local _ .vmem, ⟨17, _⟩ => ⟨S8448x128, .f32⟩
  | .local _ .vmem, ⟨18, _⟩ => ⟨S8448x128, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call1_v0 : Ref sig .tc := ⟨.hbm, 25, rfl⟩
abbrev main_call1_call0_cst : Ref sig .tc := ⟨.hbm, 26, rfl⟩
abbrev main_call1_call0_v0 : Ref sig .tc := ⟨.hbm, 27, rfl⟩
abbrev main_call1_call0_v1 : Ref sig .tc := ⟨.hbm, 28, rfl⟩
abbrev main_call1_call0_v2 : Ref sig .tc := ⟨.hbm, 29, rfl⟩
abbrev main_call1_call0_v3 : Ref sig .tc := ⟨.hbm, 30, rfl⟩
abbrev main_call1_call0_v4 : Ref sig .tc := ⟨.hbm, 31, rfl⟩
abbrev main_call1_call0_v5 : Ref sig .tc := ⟨.hbm, 32, rfl⟩
abbrev main_call1_call0_v6 : Ref sig .tc := ⟨.hbm, 33, rfl⟩
abbrev main_call1_call0_v7 : Ref sig .tc := ⟨.hbm, 34, rfl⟩
abbrev main_call1_call0_v8 : Ref sig .tc := ⟨.hbm, 35, rfl⟩
abbrev main_call1_call0_v9 : Ref sig .tc := ⟨.hbm, 36, rfl⟩
abbrev main_call1_call0_v10 : Ref sig .tc := ⟨.hbm, 37, rfl⟩
abbrev main_call1_call0_v11 : Ref sig .tc := ⟨.hbm, 38, rfl⟩
abbrev main_call1_v1 : Ref sig .tc := ⟨.hbm, 39, rfl⟩
abbrev main_v18 : Ref sig .tc := ⟨.hbm, 40, rfl⟩
abbrev main_cst_0 : Ref sig .tc := ⟨.hbm, 41, rfl⟩
abbrev main_call2_v0 : Ref sig .tc := ⟨.hbm, 42, rfl⟩
abbrev main_call2_v1 : Ref sig .tc := ⟨.hbm, 43, rfl⟩
abbrev main_v19 : Ref sig .tc := ⟨.hbm, 44, rfl⟩
abbrev main_call3_cst : Ref sig .tc := ⟨.hbm, 45, rfl⟩
abbrev main_call3_v0 : Ref sig .tc := ⟨.hbm, 46, rfl⟩
abbrev main_v20 : Ref sig .tc := ⟨.hbm, 47, rfl⟩
abbrev main_v21 : Ref sig .tc := ⟨.hbm, 48, rfl⟩
abbrev main_call4_v0 : Ref sig .tc := ⟨.hbm, 49, rfl⟩
abbrev main_call4_call0_cst : Ref sig .tc := ⟨.hbm, 50, rfl⟩
abbrev main_call4_call0_v0 : Ref sig .tc := ⟨.hbm, 51, rfl⟩
abbrev main_call4_call0_v1 : Ref sig .tc := ⟨.hbm, 52, rfl⟩
abbrev main_call4_call0_v2 : Ref sig .tc := ⟨.hbm, 53, rfl⟩
abbrev main_call4_call0_v3 : Ref sig .tc := ⟨.hbm, 54, rfl⟩
abbrev main_call4_call0_v4 : Ref sig .tc := ⟨.hbm, 55, rfl⟩
abbrev main_call4_call0_v5 : Ref sig .tc := ⟨.hbm, 56, rfl⟩
abbrev main_call4_call0_v6 : Ref sig .tc := ⟨.hbm, 57, rfl⟩
abbrev main_call4_call0_v7 : Ref sig .tc := ⟨.hbm, 58, rfl⟩
abbrev main_call4_call0_v8 : Ref sig .tc := ⟨.hbm, 59, rfl⟩
abbrev main_call4_call0_v9 : Ref sig .tc := ⟨.hbm, 60, rfl⟩
abbrev main_call4_call0_v10 : Ref sig .tc := ⟨.hbm, 61, rfl⟩
abbrev main_call4_call0_v11 : Ref sig .tc := ⟨.hbm, 62, rfl⟩
abbrev main_call4_v1 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_1 : Ref sig .tc := ⟨.hbm, 67, rfl⟩
abbrev main_call5_v0 : Ref sig .tc := ⟨.hbm, 68, rfl⟩
abbrev main_call5_v1 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_c_2 : Ref sig .tc := ⟨.hbm, 74, rfl⟩
abbrev main_call6_v0 : Ref sig .tc := ⟨.hbm, 75, rfl⟩
abbrev main_v29 : Ref sig .tc := ⟨.hbm, 76, rfl⟩
abbrev main_c_3 : Ref sig .tc := ⟨.hbm, 77, rfl⟩
abbrev main_call7_v0 : Ref sig .tc := ⟨.hbm, 78, rfl⟩
abbrev main_v30 : Ref sig .tc := ⟨.hbm, 79, rfl⟩
abbrev main_cst_4 : Ref sig .tc := ⟨.hbm, 80, rfl⟩
abbrev main_v31 : Ref sig .tc := ⟨.hbm, 81, rfl⟩
abbrev main_v32_0 : Ref sig .tc := ⟨.hbm, 82, rfl⟩
abbrev main_v32_1 : Ref sig .tc := ⟨.hbm, 83, rfl⟩
abbrev main_v32_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 33], ![false, false]⟩

def k0_mult1 (i : grid0.Coords) : BitVec 32 :=
  let arg1 : BitVec 32 := BitVec.ofNat 32 (i 1).val
  let c256_i32 : BitVec 32 := 256#32
  let v58 : BitVec 32 := Scalar.muli arg1 c256_i32
  v58
def k0_off1 (i : grid0.Coords) : Fin 2 → Nat :=
  let arg1 : BitVec 32 := BitVec.ofNat 32 (i 1).val
  let c256_i32 : BitVec 32 := 256#32
  let v58 : BitVec 32 := Scalar.muli arg1 c256_i32
  let v59 : BitVec 32 := v58
  let v60 : Index := Scalar.indexCast v59
  let c0_16 : Index := 0#32
  ![v60.toNat, 0]
def k0_mult2 (arg14 : BitVec 32) : BitVec 32 :=
  let c256_i32_85 : BitVec 32 := 256#32
  let v241 : BitVec 32 := Scalar.muli arg14 c256_i32_85
  v241

def k0_off2 (arg14 : BitVec 32) : Fin 2 → Nat :=
  let c256_i32_85 : BitVec 32 := 256#32
  let v241 : BitVec 32 := Scalar.muli arg14 c256_i32_85
  let v242 : BitVec 32 := v241
  let v243 : Index := Scalar.indexCast v242
  let c0_86 : Index := 0#32
  ![v243.toNat, 0]

def k0_chk1 (arg14 : BitVec 32) : Prop :=
  (256 ∣ (k0_mult2 arg14).toNat) ∧
  (∀ a, (k0_off2 arg14) a + S256x128.size a ≤ S8448x128.size a)
theorem k0_mult2_dvd : ∀ (arg14 : BitVec 32) (k0_hw1 : k0_chk1 arg14), 256 ∣ (k0_mult2 arg14).toNat := fun arg14 k0_hw1 => k0_hw1.1
theorem k0_off2_inb : ∀ (arg14 : BitVec 32) (k0_hw1 : k0_chk1 arg14), ∀ a, (k0_off2 arg14) a + S256x128.size a ≤ S8448x128.size a := fun arg14 k0_hw1 => k0_hw1.2

def k0_cond3 (i : grid0.Coords) : BitVec 1 :=
  let arg1 : BitVec 32 := BitVec.ofNat 32 (i 1).val
  let c32_i32 : BitVec 32 := 32#32
  let v238 : BitVec 1 := Scalar.cmpi .eq arg1 c32_i32
  let v239 : BitVec 32 := Scalar.extui v238
  let c0_i32_84 : BitVec 32 := 0#32
  let v240 : BitVec 1 := Scalar.cmpi .ne v239 c0_i32_84
  v240

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8448x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickIdeal.lean ====
variable {F : FTy → Type} [FloatOps F] [Named F]
def κ : String → Option EReal := fun
  | "dead" => some ⊥
  | _ => none
-- ==== StickRefIdeal.lean ====
abbrev S8208x1024 : Shape := ⟨2, ![8208, 1024]⟩
abbrev S8208x16x64 : Shape := ⟨3, ![8208, 16, 64]⟩
abbrev S16x8208x64 : Shape := ⟨3, ![16, 8208, 64]⟩
abbrev S16x8208x8208 : Shape := ⟨3, ![16, 8208, 8208]⟩
abbrev S_ : Shape := ⟨0, ![]⟩
abbrev S16x64x8208 : Shape := ⟨3, ![16, 64, 8208]⟩
abbrev S8448x11264 : Shape := ⟨2, ![8448, 11264]⟩
abbrev S8448x1024 : Shape := ⟨2, ![8448, 1024]⟩

abbrev nBuf : Space → Nat
  | .hbm => 187
  | .vmem => 0
  | .smem => 0
  | _ => 0

abbrev hbmTy0_0 (i : Nat) : BufTy := match i % 128 with
  | 0 => ⟨S8208x1024, .bf16⟩
  | 1 => ⟨S8208x1024, .bf16⟩
  | 2 => ⟨S8208x1024, .bf16⟩
  | 3 => ⟨S8208x1024, .bf16⟩
  | 4 => ⟨S8208x1024, .f32⟩
  | 5 => ⟨S8208x1024, .f32⟩
  | 6 => ⟨S8208x1024, .f32⟩
  | 7 => ⟨S8208x16x64, .f32⟩
  | 8 => ⟨S16x8208x64, .f32⟩
  | 9 => ⟨S8208x16x64, .f32⟩
  | 10 => ⟨S16x8208x64, .f32⟩
  | 11 => ⟨S8208x16x64, .f32⟩
  | 12 => ⟨S16x8208x64, .f32⟩
  | 13 => ⟨S16x8208x8208, .f32⟩
  | 14 => ⟨S_, .f32⟩
  | 15 => ⟨S16x8208x8208, .f32⟩
  | 16 => ⟨S16x8208x8208, .f32⟩
  | 17 => ⟨S16x8208x8208, .i32⟩
  | 18 => ⟨S16x8208x8208, .i32⟩
  | 19 => ⟨S16x8208x8208, .i1⟩
  | 20 => ⟨S16x8208x8208, .f32⟩
  | 21 => ⟨S16x8208x8208, .f32⟩
  | 22 => ⟨S_, .f32⟩
  | 23 => ⟨S16x8208x8208, .f32⟩
  | 24 => ⟨S16x8208x8208, .f32⟩
  | 25 => ⟨S16x8208x8208, .f32⟩
  | 26 => ⟨S16x8208x8208, .f32⟩
  | 27 => ⟨S16x8208x8208, .i1⟩
  | 28 => ⟨S16x8208x8208, .f32⟩
  | 29 => ⟨S16x8208x8208, .f32⟩
  | 30 => ⟨S16x8208x8208, .f32⟩
  | 31 => ⟨S16x8208x8208, .f32⟩
  | 32 => ⟨S16x8208x8208, .f32⟩
  | 33 => ⟨S16x8208x8208, .f32⟩
  | 34 => ⟨S16x8208x8208, .f32⟩
  | 35 => ⟨S16x8208x8208, .f32⟩
  | 36 => ⟨S_, .f32⟩
  | 37 => ⟨S16x8208x8208, .f32⟩
  | 38 => ⟨S16x8208x8208, .i1⟩
  | 39 => ⟨S_, .f32⟩
  | 40 => ⟨S16x8208x8208, .f32⟩
  | 41 => ⟨S16x8208x8208, .f32⟩
  | 42 => ⟨S_, .f32⟩
  | 43 => ⟨S16x8208x8208, .f32⟩
  | 44 => ⟨S16x8208x8208, .i1⟩
  | 45 => ⟨S_, .f32⟩
  | 46 => ⟨S16x8208x8208, .f32⟩
  | 47 => ⟨S16x8208x8208, .f32⟩
  | 48 => ⟨S16x8208x8208, .f32⟩
  | 49 => ⟨S16x8208x8208, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x8208x8208, .f32⟩
  | 58 => ⟨S16x8208x8208, .i1⟩
  | 59 => ⟨S_, .f32⟩
  | 60 => ⟨S16x8208x8208, .f32⟩
  | 61 => ⟨S16x8208x8208, .f32⟩
  | 62 => ⟨S16x8208x8208, .f32⟩
  | 63 => ⟨S16x8208x8208, .f32⟩
  | 64 => ⟨S16x8208x8208, .f32⟩
  | 65 => ⟨S_, .f32⟩
  | 66 => ⟨S16x8208x8208, .f32⟩
  | 67 => ⟨S16x8208x8208, .f32⟩
  | 68 => ⟨S16x8208x8208, .f32⟩
  | 69 => ⟨S_, .f32⟩
  | 70 => ⟨S_, .f32⟩
  | 71 => ⟨S16x8208x8208, .f32⟩
  | 72 => ⟨S16x8208x8208, .f32⟩
  | 73 => ⟨S_, .f32⟩
  | 74 => ⟨S16x8208x8208, .f32⟩
  | 75 => ⟨S_, .f32⟩
  | 76 => ⟨S_, .f32⟩
  | 77 => ⟨S16x8208x8208, .f32⟩
  | 78 => ⟨S16x8208x8208, .f32⟩
  | 79 => ⟨S16x8208x8208, .f32⟩
  | 80 => ⟨S_, .f32⟩
  | 81 => ⟨S16x8208x8208, .f32⟩
  | 82 => ⟨S16x8208x8208, .f32⟩
  | 83 => ⟨S16x8208x8208, .f32⟩
  | 84 => ⟨S16x8208x8208, .f32⟩
  | 85 => ⟨S16x8208x8208, .i1⟩
  | 86 => ⟨S16x8208x8208, .f32⟩
  | 87 => ⟨S16x8208x8208, .f32⟩
  | 88 => ⟨S16x8208x8208, .f32⟩
  | 89 => ⟨S16x8208x8208, .f32⟩
  | 90 => ⟨S16x8208x8208, .f32⟩
  | 91 => ⟨S16x8208x8208, .f32⟩
  | 92 => ⟨S16x8208x8208, .f32⟩
  | 93 => ⟨S16x8208x8208, .f32⟩
  | 94 => ⟨S_, .f32⟩
  | 95 => ⟨S16x8208x8208, .f32⟩
  | 96 => ⟨S16x8208x8208, .i1⟩
  | 97 => ⟨S_, .f32⟩
  | 98 => ⟨S16x8208x8208, .f32⟩
  | 99 => ⟨S16x8208x8208, .f32⟩
  | 100 => ⟨S_, .f32⟩
  | 101 => ⟨S16x8208x8208, .f32⟩
  | 102 => ⟨S16x8208x8208, .i1⟩
  | 103 => ⟨S_, .f32⟩
  | 104 => ⟨S16x8208x8208, .f32⟩
  | 105 => ⟨S16x8208x8208, .f32⟩
  | 106 => ⟨S16x8208x8208, .f32⟩
  | 107 => ⟨S16x8208x8208, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S16x8208x8208, .f32⟩
  | 116 => ⟨S16x8208x8208, .i1⟩
  | 117 => ⟨S_, .f32⟩
  | 118 => ⟨S16x8208x8208, .f32⟩
  | 119 => ⟨S16x8208x8208, .f32⟩
  | 120 => ⟨S16x8208x8208, .f32⟩
  | 121 => ⟨S16x8208x8208, .f32⟩
  | 122 => ⟨S16x8208x8208, .f32⟩
  | 123 => ⟨S_, .f32⟩
  | 124 => ⟨S16x8208x8208, .f32⟩
  | 125 => ⟨S16x8208x8208, .f32⟩
  | 126 => ⟨S16x8208x8208, .f32⟩
  | 127 => ⟨S16x8208x8208, .f32⟩
  | _ => ⟨S8208x1024, .bf16⟩

abbrev hbmTy0_1 (i : Nat) : BufTy := match i % 128 with
  | 0 => ⟨S16x8208x8208, .f32⟩
  | 1 => ⟨S_, .f32⟩
  | 2 => ⟨S_, .f32⟩
  | 3 => ⟨S16x8208x8208, .f32⟩
  | 4 => ⟨S16x8208x8208, .f32⟩
  | 5 => ⟨S_, .f32⟩
  | 6 => ⟨S16x8208x8208, .f32⟩
  | 7 => ⟨S16x8208x64, .f32⟩
  | 8 => ⟨S8208x16x64, .f32⟩
  | 9 => ⟨S8208x1024, .f32⟩
  | 10 => ⟨S8208x1024, .f32⟩
  | 11 => ⟨S8208x16x64, .f32⟩
  | 12 => ⟨S16x8208x64, .f32⟩
  | 13 => ⟨S16x64x8208, .f32⟩
  | 14 => ⟨S16x8208x64, .f32⟩
  | 15 => ⟨S16x8208x8208, .f32⟩
  | 16 => ⟨S_, .f32⟩
  | 17 => ⟨S16x8208x8208, .f32⟩
  | 18 => ⟨S16x8208x8208, .f32⟩
  | 19 => ⟨S16x8208x8208, .f32⟩
  | 20 => ⟨S16x8208x8208, .f32⟩
  | 21 => ⟨S16x8208x8208, .f32⟩
  | 22 => ⟨S16x8208x8208, .f32⟩
  | 23 => ⟨S16x8208x8208, .f32⟩
  | 24 => ⟨S_, .f32⟩
  | 25 => ⟨S_, .f32⟩
  | 26 => ⟨S16x8208x8208, .f32⟩
  | 27 => ⟨S16x8208x8208, .f32⟩
  | 28 => ⟨S_, .f32⟩
  | 29 => ⟨S16x8208x8208, .f32⟩
  | 30 => ⟨S16x8208x8208, .f32⟩
  | 31 => ⟨S16x8208x8208, .f32⟩
  | 32 => ⟨S16x8208x8208, .f32⟩
  | 33 => ⟨S16x8208x8208, .f32⟩
  | 34 => ⟨S16x8208x8208, .f32⟩
  | 35 => ⟨S16x8208x8208, .f32⟩
  | 36 => ⟨S_, .f32⟩
  | 37 => ⟨S16x8208x8208, .f32⟩
  | 38 => ⟨S16x8208x8208, .f32⟩
  | 39 => ⟨S16x8208x64, .f32⟩
  | 40 => ⟨S16x8208x64, .f32⟩
  | 41 => ⟨S8208x16x64, .f32⟩
  | 42 => ⟨S8208x1024, .f32⟩
  | 43 => ⟨S8208x16x64, .f32⟩
  | 44 => ⟨S8208x1024, .f32⟩
  | 45 => ⟨S8208x16x64, .f32⟩
  | 46 => ⟨S8208x1024, .f32⟩
  | 47 => ⟨S8208x1024, .bf16⟩
  | 48 => ⟨S_, .i32⟩
  | 49 => ⟨S_, .bf16⟩
  | 50 => ⟨S8448x11264, .bf16⟩
  | 51 => ⟨S8208x1024, .bf16⟩
  | 52 => ⟨S_, .i32⟩
  | 53 => ⟨S_, .bf16⟩
  | 54 => ⟨S8448x1024, .bf16⟩
  | 55 => ⟨S8208x1024, .bf16⟩
  | 56 => ⟨S_, .i32⟩
  | 57 => ⟨S_, .bf16⟩
  | 58 => ⟨S8448x1024, .bf16⟩
  | _ => ⟨S8208x1024, .bf16⟩

abbrev hbmTy (i : Nat) : BufTy := match i / 128 with
  | 0 => hbmTy0_0 i
  | 1 => hbmTy0_1 i
  | _ => ⟨S8208x1024, .bf16⟩

abbrev bufTy : (tb : Table) → Fin (tcTables nBuf tb) → BufTy
  | .hbm, ⟨i, _⟩ => hbmTy i
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_call1_v1 : Ref sig .tc := ⟨.hbm, 71, rfl⟩
abbrev main_v17_0 : Ref sig .tc := ⟨.hbm, 72, rfl⟩
abbrev main_call1_cst : Ref sig .tc := ⟨.hbm, 73, rfl⟩
abbrev main_v17_1 : Ref sig .tc := ⟨.hbm, 74, rfl⟩
abbrev main_call2_cst : Ref sig .tc := ⟨.hbm, 75, rfl⟩
abbrev main_call2_v0 : Ref sig .tc := ⟨.hbm, 76, rfl⟩
abbrev main_v18 : Ref sig .tc := ⟨.hbm, 77, rfl⟩
abbrev main_v19 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v20_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v20_2 : Ref sig .tc := ⟨.hbm, 125, rfl⟩
abbrev main_v20_0 : Ref sig .tc := ⟨.hbm, 126, rfl⟩
abbrev main_v21 : Ref sig .tc := ⟨.hbm, 127, rfl⟩
abbrev main_v22 : Ref sig .tc := ⟨.hbm, 128, rfl⟩
abbrev main_cst_1 : Ref sig .tc := ⟨.hbm, 129, rfl⟩
abbrev main_call4_v0 : Ref sig .tc := ⟨.hbm, 130, rfl⟩
abbrev main_call4_v1 : Ref sig .tc := ⟨.hbm, 131, rfl⟩
abbrev main_v23_0 : Ref sig .tc := ⟨.hbm, 132, rfl⟩
abbrev main_call4_cst : Ref sig .tc := ⟨.hbm, 133, rfl⟩
abbrev main_v23_1 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_call9_v0 : Ref sig .tc := ⟨.hbm, 159, rfl⟩
abbrev main_call9_v1 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_cst_2 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_c : Ref sig .tc := ⟨.hbm, 176, rfl⟩
abbrev main_call10_v0 : Ref sig .tc := ⟨.hbm, 177, rfl⟩
abbrev main_v54 : Ref sig .tc := ⟨.hbm, 178, rfl⟩
abbrev main_v55 : Ref sig .tc := ⟨.hbm, 179, rfl⟩
abbrev main_c_3 : Ref sig .tc := ⟨.hbm, 180, rfl⟩
abbrev main_call11_v0 : Ref sig .tc := ⟨.hbm, 181, rfl⟩
abbrev main_v56 : Ref sig .tc := ⟨.hbm, 182, rfl⟩
abbrev main_v57 : Ref sig .tc := ⟨.hbm, 183, rfl⟩
abbrev main_c_4 : Ref sig .tc := ⟨.hbm, 184, rfl⟩
abbrev main_call12_v0 : Ref sig .tc := ⟨.hbm, 185, rfl⟩
abbrev main_v58 : Ref sig .tc := ⟨.hbm, 186, rfl⟩

abbrev nD : Nat := 1
abbrev τ : Topo := Topo.v7x

variable {F : FTy → Type} [FloatOps F]
-- ==== StickOut.lean ====
abbrev S8208x1024 : Shape := ⟨2, ![8208, 1024]⟩
abbrev S8208x3072 : Shape := ⟨2, ![8208, 3072]⟩
abbrev S_ : Shape := ⟨0, ![]⟩
abbrev S8448x11264 : Shape := ⟨2, ![8448, 11264]⟩
abbrev S8448x1024 : Shape := ⟨2, ![8448, 1024]⟩
abbrev S256x128 : Shape := ⟨2, ![256, 128]⟩
abbrev S8448x128 : Shape := ⟨2, ![8448, 128]⟩
abbrev S2x256x128 : Shape := ⟨3, ![2, 256, 128]⟩
abbrev S1x128 : Shape := ⟨2, ![1, 128]⟩
abbrev S256x256 : Shape := ⟨2, ![256, 256]⟩
abbrev S512x128 : Shape := ⟨2, ![512, 128]⟩
abbrev S512x1 : Shape := ⟨2, ![512, 1]⟩
abbrev S512x256 : Shape := ⟨2, ![512, 256]⟩
abbrev S1x256x128 : Shape := ⟨3, ![1, 256, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 11
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .bf16⟩
  | .hbm, ⟨2, _⟩ => ⟨S8208x1024, .bf16⟩
  | .hbm, ⟨3, _⟩ => ⟨S8208x3072, .bf16⟩
  | .hbm, ⟨4, _⟩ => ⟨S_, .i32⟩
  | .hbm, ⟨5, _⟩ => ⟨S_, .bf16⟩
  | .hbm, ⟨6, _⟩ => ⟨S8448x11264, .bf16⟩
  | .hbm, ⟨7, _⟩ => ⟨S8448x1024, .bf16⟩
  | .hbm, ⟨8, _⟩ => ⟨S8448x1024, .f32⟩
  | .local _ .vmem, ⟨0, _⟩ => ⟨S256x128, .bf16⟩
  | .local _ .vmem, ⟨1, _⟩ => ⟨S256x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S2x256x128, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def k0_mult1 (i : grid0.Coords) : BitVec 32 :=
  let arg1 : BitVec 32 := BitVec.ofNat 32 (i 1).val
  let c256_i32 : BitVec 32 := 256#32
  let v28 : BitVec 32 := Scalar.muli arg1 c256_i32
  v28
def k0_off1 (i : grid0.Coords) : Fin 2 → Nat :=
  let arg1 : BitVec 32 := BitVec.ofNat 32 (i 1).val
  let c256_i32 : BitVec 32 := 256#32
  let v28 : BitVec 32 := Scalar.muli arg1 c256_i32
  let v29 : BitVec 32 := v28
  let v30 : Index := Scalar.indexCast v29
  let c0_7 : Index := 0#32
  ![v30.toNat, 0]
def k0_mult2 (arg8 : BitVec 32) : BitVec 32 :=
  let c256_i32_46 : BitVec 32 := 256#32
  let v114 : BitVec 32 := Scalar.muli arg8 c256_i32_46
  v114

def k0_off2 (arg8 : BitVec 32) : Fin 2 → Nat :=
  let c256_i32_46 : BitVec 32 := 256#32
  let v114 : BitVec 32 := Scalar.muli arg8 c256_i32_46
  let v115 : BitVec 32 := v114
  let v116 : Index := Scalar.indexCast v115
  let c0_47 : Index := 0#32
  ![v116.toNat, 0]

def k0_chk1 (arg8 : BitVec 32) : Prop :=
  (256 ∣ (k0_mult2 arg8).toNat) ∧
  (∀ a, (k0_off2 arg8) a + S256x128.size a ≤ S8448x128.size a)
theorem k0_mult2_dvd : ∀ (arg8 : BitVec 32) (k0_hw1 : k0_chk1 arg8), 256 ∣ (k0_mult2 arg8).toNat := fun arg8 k0_hw1 => k0_hw1.1
theorem k0_off2_inb : ∀ (arg8 : BitVec 32) (k0_hw1 : k0_chk1 arg8), ∀ a, (k0_off2 arg8) a + S256x128.size a ≤ S8448x128.size a := fun arg8 k0_hw1 => k0_hw1.2

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickOutIdeal.lean ====
variable {F : FTy → Type} [FloatOps F] [Named F]
def κ : String → Option EReal := fun
  | "dead" => some ⊥
  | _ => none
-- ==== StickOutRefIdeal.lean ====
abbrev S8208x1024 : Shape := ⟨2, ![8208, 1024]⟩
abbrev S8208x16x64 : Shape := ⟨3, ![8208, 16, 64]⟩
abbrev S16x8208x64 : Shape := ⟨3, ![16, 8208, 64]⟩
abbrev S16x8208x8208 : Shape := ⟨3, ![16, 8208, 8208]⟩
abbrev S_ : Shape := ⟨0, ![]⟩
abbrev S8448x1024 : Shape := ⟨2, ![8448, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .bf16⟩
  | .hbm, ⟨2, _⟩ => ⟨S8208x1024, .bf16⟩
  | .hbm, ⟨3, _⟩ => ⟨S8208x1024, .f32⟩
  | .hbm, ⟨4, _⟩ => ⟨S8208x1024, .f32⟩
  | .hbm, ⟨5, _⟩ => ⟨S8208x1024, .f32⟩
  | .hbm, ⟨6, _⟩ => ⟨S8208x16x64, .f32⟩
  | .hbm, ⟨7, _⟩ => ⟨S16x8208x64, .f32⟩
  | .hbm, ⟨8, _⟩ => ⟨S8208x16x64, .f32⟩
  | .hbm, ⟨9, _⟩ => ⟨S16x8208x64, .f32⟩
  | .hbm, ⟨10, _⟩ => ⟨S8208x16x64, .f32⟩
  | .hbm, ⟨11, _⟩ => ⟨S16x8208x64, .f32⟩
  | .hbm, ⟨12, _⟩ => ⟨S16x8208x8208, .f32⟩
  | .hbm, ⟨13, _⟩ => ⟨S_, .f32⟩
  | .hbm, ⟨14, _⟩ => ⟨S16x8208x8208, .f32⟩
  | .hbm, ⟨15, _⟩ => ⟨S16x8208x8208, .f32⟩
  | .hbm, ⟨16, _⟩ => ⟨S16x8208x8208, .i32⟩
  | .hbm, ⟨17, _⟩ => ⟨S16x8208x8208, .i32⟩
  | .hbm, ⟨18, _⟩ => ⟨S16x8208x8208, .i1⟩
  | .hbm, ⟨19, _⟩ => ⟨S16x8208x8208, .f32⟩
  | .hbm, ⟨20, _⟩ => ⟨S16x8208x8208, .f32⟩
  | .hbm, ⟨21, _⟩ => ⟨S_, .f32⟩
  | .hbm, ⟨22, _⟩ => ⟨S16x8208x8208, .f32⟩
  | .hbm, ⟨23, _⟩ => ⟨S16x8208x8208, .f32⟩
  | .hbm, ⟨24, _⟩ => ⟨S16x8208x8208, .f32⟩
  | .hbm, ⟨25, _⟩ => ⟨S16x8208x8208, .f32⟩
  | .hbm, ⟨26, _⟩ => ⟨S16x8208x8208, .i1⟩
  | .hbm, ⟨27, _⟩ => ⟨S16x8208x8208, .f32⟩
  | .hbm, ⟨28, _⟩ => ⟨S16x8208x8208, .f32⟩
  | .hbm, ⟨29, _⟩ => ⟨S16x8208x8208, .f32⟩
  | .hbm, ⟨30, _⟩ => ⟨S16x8208x8208, .f32⟩
  | .hbm, ⟨31, _⟩ => ⟨S16x8208x8208, .f32⟩
  | .hbm, ⟨32, _⟩ => ⟨S16x8208x8208, .f32⟩
  | .hbm, ⟨33, _⟩ => ⟨S16x8208x8208, .f32⟩
  | .hbm, ⟨34, _⟩ => ⟨S16x8208x8208, .f32⟩
  | .hbm, ⟨35, _⟩ => ⟨S16x8208x8208, .f32⟩
  | .hbm, ⟨36, _⟩ => ⟨S_, .f32⟩
  | .hbm, ⟨37, _⟩ => ⟨S_, .f32⟩
  | .hbm, ⟨38, _⟩ => ⟨S16x8208x8208, .f32⟩
  | .hbm, ⟨39, _⟩ => ⟨S16x8208x8208, .f32⟩
  | .hbm, ⟨40, _⟩ => ⟨S_, .f32⟩
  | .hbm, ⟨41, _⟩ => ⟨S_, .f32⟩
  | .hbm, ⟨42, _⟩ => ⟨S16x8208x8208, .f32⟩
  | .hbm, ⟨43, _⟩ => ⟨S16x8208x8208, .f32⟩
  | .hbm, ⟨44, _⟩ => ⟨S16x8208x8208, .f32⟩
  | .hbm, ⟨45, _⟩ => ⟨S_, .f32⟩
  | .hbm, ⟨46, _⟩ => ⟨S16x8208x8208, .f32⟩
  | .hbm, ⟨47, _⟩ => ⟨S16x8208x8208, .f32⟩
  | .hbm, ⟨48, _⟩ => ⟨S16x8208x8208, .f32⟩
  | .hbm, ⟨49, _⟩ => ⟨S16x8208x8208, .f32⟩
  | .hbm, ⟨50, _⟩ => ⟨S16x8208x8208, .i1⟩
  | .hbm, ⟨51, _⟩ => ⟨S16x8208x8208, .f32⟩
  | .hbm, ⟨52, _⟩ => ⟨S16x8208x8208, .f32⟩
  | .hbm, ⟨53, _⟩ => ⟨S16x8208x8208, .f32⟩
  | .hbm, ⟨54, _⟩ => ⟨S16x8208x8208, .f32⟩
  | .hbm, ⟨55, _⟩ => ⟨S16x8208x8208, .f32⟩
  | .hbm, ⟨56, _⟩ => ⟨S16x8208x8208, .f32⟩
  | .hbm, ⟨57, _⟩ => ⟨S16x8208x8208, .f32⟩
  | .hbm, ⟨58, _⟩ => ⟨S16x8208x8208, .f32⟩
  | .hbm, ⟨59, _⟩ => ⟨S16x8208x8208, .f32⟩
  | .hbm, ⟨60, _⟩ => ⟨S16x8208x8208, .f32⟩
  | .hbm, ⟨61, _⟩ => ⟨S16x8208x8208, .f32⟩
  | .hbm, ⟨62, _⟩ => ⟨S_, .f32⟩
  | .hbm, ⟨63, _⟩ => ⟨S_, .f32⟩
  | .hbm, ⟨64, _⟩ => ⟨S16x8208x8208, .f32⟩
  | .hbm, ⟨65, _⟩ => ⟨S16x8208x8208, .f32⟩
  | .hbm, ⟨66, _⟩ => ⟨S16x8208x64, .f32⟩
  | .hbm, ⟨67, _⟩ => ⟨S8208x16x64, .f32⟩
  | .hbm, ⟨68, _⟩ => ⟨S8208x1024, .f32⟩
  | .hbm, ⟨69, _⟩ => ⟨S8208x1024, .bf16⟩
  | .hbm, ⟨70, _⟩ => ⟨S_, .i32⟩
  | .hbm, ⟨71, _⟩ => ⟨S_, .bf16⟩
  | .hbm, ⟨72, _⟩ => ⟨S8448x1024, .bf16⟩
  | .hbm, ⟨73, _⟩ => ⟨S_, .i32⟩
  | .hbm, ⟨74, _⟩ => ⟨S_, .f32⟩
  | .hbm, ⟨75, _⟩ => ⟨S8448x1024, .f32⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c : Ref sig .tc := ⟨.hbm, 70, rfl⟩
abbrev main_call5_v0 : Ref sig .tc := ⟨.hbm, 71, rfl⟩
abbrev main_v28 : Ref sig .tc := ⟨.hbm, 72, rfl⟩
abbrev main_c_2 : Ref sig .tc := ⟨.hbm, 73, rfl⟩
abbrev main_call6_v0 : Ref sig .tc := ⟨.hbm, 74, rfl⟩
abbrev main_v29 : Ref sig .tc := ⟨.hbm, 75, rfl⟩

abbrev nD : Nat := 1
abbrev τ : Topo := Topo.v7x

variable {F : FTy → Type} [FloatOps F]
-- ==== PreNorm.lean ====
abbrev S8448x1024 : Shape := ⟨2, ![8448, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gates.lean ====
abbrev S8448x11264 : Shape := ⟨2, ![8448, 11264]⟩
abbrev S8448x1024 : Shape := ⟨2, ![8448, 1024]⟩
abbrev S384x1024 : Shape := ⟨2, ![384, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesRefIdeal.lean ====
abbrev S8448x11264 : Shape := ⟨2, ![8448, 11264]⟩
abbrev S8448x1024 : Shape := ⟨2, ![8448, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x1024, .f32⟩
  | .hbm, ⟨5, _⟩ => ⟨S8448x1024, .bf16⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== TwoNorms.lean ====
abbrev S8448x1024 : Shape := ⟨2, ![8448, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== TwoNormsRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== FfnIn.lean ====
abbrev S8448x1024 : Shape := ⟨2, ![8448, 1024]⟩
abbrev S1024x5632 : Shape := ⟨2, ![1024, 5632]⟩
abbrev S5632x1024 : Shape := ⟨2, ![5632, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩
abbrev S256x1024 : Shape := ⟨2, ![256, 1024]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S5632x1024, .bf16⟩
  | .hbm, ⟨3, _⟩ => ⟨S8448x2816, .bf16⟩
  | .hbm, ⟨4, _⟩ => ⟨S8448x2816, .bf16⟩
  | .hbm, ⟨5, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .bf16⟩
  | .hbm, ⟨8, _⟩ => ⟨S8448x2816, .bf16⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Ret.lean ====
abbrev S8208x1024 : Shape := ⟨2, ![8208, 1024]⟩
abbrev S8208x2048 : Shape := ⟨2, ![8208, 2048]⟩
abbrev S8208x6144 : Shape := ⟨2, ![8208, 6144]⟩
abbrev S_ : Shape := ⟨0, ![]⟩
abbrev S8448x11264 : Shape := ⟨2, ![8448, 11264]⟩
abbrev S8448 : Shape := ⟨1, ![8448]⟩
abbrev S8448x1 : Shape := ⟨2, ![8448, 1]⟩
abbrev S128 : Shape := ⟨1, ![128]⟩
abbrev S1x128 : Shape := ⟨2, ![1, 128]⟩
abbrev S8448x128 : Shape := ⟨2, ![8448, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x16 : Shape := ⟨3, ![4, 128, 16]⟩
abbrev S8448x2048 : Shape := ⟨2, ![8448, 2048]⟩
abbrev S66x4x256x512 : Shape := ⟨4, ![66, 4, 256, 512]⟩
abbrev S128x6144 : Shape := ⟨2, ![128, 6144]⟩
abbrev S128x2048 : Shape := ⟨2, ![128, 2048]⟩
abbrev S1x4x256x512 : Shape := ⟨4, ![1, 4, 256, 512]⟩
abbrev S4x256x512 : Shape := ⟨3, ![4, 256, 512]⟩
abbrev S128x256 : Shape := ⟨2, ![128, 256]⟩
abbrev S128x512 : Shape := ⟨2, ![128, 512]⟩
abbrev S1x128x1 : Shape := ⟨3, ![1, 128, 1]⟩
abbrev S1x1x1 : Shape := ⟨3, ![1, 1, 1]⟩
abbrev S1x1 : Shape := ⟨2, ![1, 1]⟩
abbrev S1x256x512 : Shape := ⟨3, ![1, 256, 512]⟩
abbrev S256x512 : Shape := ⟨2, ![256, 512]⟩
abbrev S1x1x256x512 : Shape := ⟨4, ![1, 1, 256, 512]⟩

abbrev nBuf : Space → Nat
  | .hbm => 225
  | .vmem => 15
  | .smem => 0
  | _ => 0

abbrev hbmTy0_0 (i : Nat) : BufTy := match i % 128 with
  | 0 => ⟨S8208x1024, .bf16⟩
  | 1 => ⟨S8208x1024, .bf16⟩
  | 2 => ⟨S8208x2048, .bf16⟩
  | 3 => ⟨S8208x2048, .bf16⟩
  | 4 => ⟨S8208x6144, .bf16⟩
  | 5 => ⟨S_, .i32⟩
  | 6 => ⟨S_, .bf16⟩
  | 7 => ⟨S8448x11264, .bf16⟩
  | 8 => ⟨S8448, .f32⟩
  | 9 => ⟨S_, .f32⟩
  | 10 => ⟨S8448, .f32⟩
  | 11 => ⟨S8448, .f32⟩
  | 12 => ⟨S8448x1, .f32⟩
  | 13 => ⟨S128, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S1x128, .f32⟩
  | 22 => ⟨S8448x128, .f32⟩
  | 23 => ⟨S8448x128, .f32⟩
  | 24 => ⟨S8448x128, .f32⟩
  | 25 => ⟨S8448x128, .f32⟩
  | 26 => ⟨S8448x128, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S4, .f32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S4x1x1, .f32⟩
  | 46 => ⟨S_, .f32⟩
  | 47 => ⟨S128x128, .f32⟩
  | 48 => ⟨S128x128, .f32⟩
  | 49 => ⟨S1x128x128, .f32⟩
  | 50 => ⟨S4x128x128, .f32⟩
  | 51 => ⟨S4x128x128, .f32⟩
  | 52 => ⟨S4x128x128, .f32⟩
  | 53 => ⟨S4x128x128, .f32⟩
  | 54 => ⟨S_, .f32⟩
  | 55 => ⟨S_, .f32⟩
  | 56 => ⟨S4x128x128, .i1⟩
  | 57 => ⟨S4x128x128, .f32⟩
  | 58 => ⟨S4x128x128, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S4x1, .f32⟩
  | 69 => ⟨S_, .f32⟩
  | 70 => ⟨S128, .f32⟩
  | 71 => ⟨S128, .f32⟩
  | 72 => ⟨S1x128, .f32⟩
  | 73 => ⟨S4x128, .f32⟩
  | 74 => ⟨S4x128, .f32⟩
  | 75 => ⟨S4x128, .f32⟩
  | 76 => ⟨S4x128, .f32⟩
  | 77 => ⟨S_, .f32⟩
  | 78 => ⟨S4, .f32⟩
  | 79 => ⟨S4, .f32⟩
  | 80 => ⟨S4, .f32⟩
  | 81 => ⟨S4x1, .f32⟩
  | 82 => ⟨S4x128, .f32⟩
  | 83 => ⟨S_, .f32⟩
  | 84 => ⟨S4x128, .f32⟩
  | 85 => ⟨S4x128x1, .f32⟩
  | 86 => ⟨S4x128x1, .f32⟩
  | 87 => ⟨S4x128x1, .f32⟩
  | 88 => ⟨S4x128x1, .f32⟩
  | 89 => ⟨S4x128x1, .f32⟩
  | 90 => ⟨S4x128x1, .f32⟩
  | 91 => ⟨S4x128x1, .f32⟩
  | 92 => ⟨S4x128x1, .f32⟩
  | 93 => ⟨S4x128x1, .f32⟩
  | 94 => ⟨S4x128x1, .f32⟩
  | 95 => ⟨S4x128x1, .f32⟩
  | 96 => ⟨S4x128x1, .f32⟩
  | 97 => ⟨S4x128x1, .f32⟩
  | 98 => ⟨S4x128x1, .f32⟩
  | 99 => ⟨S4x128x1, .f32⟩
  | 100 => ⟨S4x128x1, .f32⟩
  | 101 => ⟨S4x128x1, .f32⟩
  | 102 => ⟨S4x128x1, .f32⟩
  | 103 => ⟨S4x128x1, .f32⟩
  | 104 => ⟨S4x128x1, .f32⟩
  | 105 => ⟨S4x128x1, .f32⟩
  | 106 => ⟨S4x128x1, .f32⟩
  | 107 => ⟨S4x128x1, .f32⟩
  | 108 => ⟨S4x128x1, .f32⟩
  | 109 => ⟨S4x128x1, .f32⟩
  | 110 => ⟨S4x128x1, .f32⟩
  | 111 => ⟨S4x128x1, .f32⟩
  | 112 => ⟨S4x128x1, .f32⟩
  | 113 => ⟨S4x128x1, .f32⟩
  | 114 => ⟨S4x128x1, .f32⟩
  | 115 => ⟨S4x128x1, .f32⟩
  | 116 => ⟨S4x128x1, .f32⟩
  | 117 => ⟨S4x128x1, .f32⟩
  | 118 => ⟨S4x128x1, .f32⟩
  | 119 => ⟨S4x128x1, .f32⟩
  | 120 => ⟨S4x128x1, .f32⟩
  | 121 => ⟨S4x128x1, .f32⟩
  | 122 => ⟨S4x128x1, .f32⟩
  | 123 => ⟨S4x128x1, .f32⟩
  | 124 => ⟨S4x128x1, .f32⟩
  | 125 => ⟨S4x128x1, .f32⟩
  | 126 => ⟨S4x128x1, .f32⟩
  | 127 => ⟨S4x128x1, .f32⟩
  | _ => ⟨S8208x1024, .bf16⟩

abbrev hbmTy0_1 (i : Nat) : BufTy := match i % 128 with
  | 0 => ⟨S4x128x1, .f32⟩
  | 1 => ⟨S4x128x1, .f32⟩
  | 2 => ⟨S4x128x1, .f32⟩
  | 3 => ⟨S4x128x1, .f32⟩
  | 4 => ⟨S4x128x1, .f32⟩
  | 5 => ⟨S4x128x1, .f32⟩
  | 6 => ⟨S4x128x1, .f32⟩
  | 7 => ⟨S4x128x1, .f32⟩
  | 8 => ⟨S4x128x1, .f32⟩
  | 9 => ⟨S4x128x1, .f32⟩
  | 10 => ⟨S4x128x1, .f32⟩
  | 11 => ⟨S4x128x1, .f32⟩
  | 12 => ⟨S4x128x1, .f32⟩
  | 13 => ⟨S4x128x1, .f32⟩
  | 14 => ⟨S4x128x1, .f32⟩
  | 15 => ⟨S4x128x1, .f32⟩
  | 16 => ⟨S4x128x1, .f32⟩
  | 17 => ⟨S4x128x1, .f32⟩
  | 18 => ⟨S4x128x1, .f32⟩
  | 19 => ⟨S4x128x1, .f32⟩
  | 20 => ⟨S4x128x1, .f32⟩
  | 21 => ⟨S4x128x1, .f32⟩
  | 22 => ⟨S4x128x1, .f32⟩
  | 23 => ⟨S4x128x1, .f32⟩
  | 24 => ⟨S4x128x1, .f32⟩
  | 25 => ⟨S4x128x1, .f32⟩
  | 26 => ⟨S4x128x1, .f32⟩
  | 27 => ⟨S4x128x1, .f32⟩
  | 28 => ⟨S4x128x1, .f32⟩
  | 29 => ⟨S4x128x1, .f32⟩
  | 30 => ⟨S4x128x1, .f32⟩
  | 31 => ⟨S4x128x1, .f32⟩
  | 32 => ⟨S4x128x1, .f32⟩
  | 33 => ⟨S4x128x1, .f32⟩
  | 34 => ⟨S4x128x1, .f32⟩
  | 35 => ⟨S4x128x1, .f32⟩
  | 36 => ⟨S4x128x1, .f32⟩
  | 37 => ⟨S4x128x1, .f32⟩
  | 38 => ⟨S4x128x1, .f32⟩
  | 39 => ⟨S4x128x1, .f32⟩
  | 40 => ⟨S4x128x1, .f32⟩
  | 41 => ⟨S4x128x1, .f32⟩
  | 42 => ⟨S4x128x1, .f32⟩
  | 43 => ⟨S4x128x1, .f32⟩
  | 44 => ⟨S4x128x1, .f32⟩
  | 45 => ⟨S4x128x1, .f32⟩
  | 46 => ⟨S4x128x1, .f32⟩
  | 47 => ⟨S4x128x1, .f32⟩
  | 48 => ⟨S4x128x1, .f32⟩
  | 49 => ⟨S4x128x1, .f32⟩
  | 50 => ⟨S4x128x1, .f32⟩
  | 51 => ⟨S4x128x1, .f32⟩
  | 52 => ⟨S4x128x1, .f32⟩
  | 53 => ⟨S4x128x1, .f32⟩
  | 54 => ⟨S4x128x1, .f32⟩
  | 55 => ⟨S4x128x1, .f32⟩
  | 56 => ⟨S4x128x1, .f32⟩
  | 57 => ⟨S4x128x1, .f32⟩
  | 58 => ⟨S4x128x1, .f32⟩
  | 59 => ⟨S4x128x1, .f32⟩
  | 60 => ⟨S4x128x1, .f32⟩
  | 61 => ⟨S4x128x1, .f32⟩
  | 62 => ⟨S4x128x1, .f32⟩
  | 63 => ⟨S4x128x1, .f32⟩
  | 64 => ⟨S4x128x1, .f32⟩
  | 65 => ⟨S4x128x1, .f32⟩
  | 66 => ⟨S4x128x1, .f32⟩
  | 67 => ⟨S4x128x1, .f32⟩
  | 68 => ⟨S4x128x1, .f32⟩
  | 69 => ⟨S4x128x1, .f32⟩
  | 70 => ⟨S4x128x1, .f32⟩
  | 71 => ⟨S4x128x1, .f32⟩
  | 72 => ⟨S4x128x1, .f32⟩
  | 73 => ⟨S4x128x1, .f32⟩
  | 74 => ⟨S4x128x1, .f32⟩
  | 75 => ⟨S4x128x1, .f32⟩
  | 76 => ⟨S4x128x1, .f32⟩
  | 77 => ⟨S4x128x1, .f32⟩
  | 78 => ⟨S4x128x1, .f32⟩
  | 79 => ⟨S4x128x1, .f32⟩
  | 80 => ⟨S4x128x1, .f32⟩
  | 81 => ⟨S4x128x1, .f32⟩
  | 82 => ⟨S4x128x1, .f32⟩
  | 83 => ⟨S4x128x1, .f32⟩
  | 84 => ⟨S4x128x1, .f32⟩
  | 85 => ⟨S4x128x16, .f32⟩
  | 86 => ⟨S4x128x16, .f32⟩
  | 87 => ⟨S4x128x16, .f32⟩
  | 88 => ⟨S4x128x16, .f32⟩
  | 89 => ⟨S4x128x16, .f32⟩
  | 90 => ⟨S4x128x16, .f32⟩
  | 91 => ⟨S4x128x16, .f32⟩
  | 92 => ⟨S4x128x16, .f32⟩
  | 93 => ⟨S4x128x128, .f32⟩
  | 94 => ⟨S8448x2048, .f32⟩
  | 95 => ⟨S8448x2048, .bf16⟩
  | 96 => ⟨S66x4x256x512, .bf16⟩
  | _ => ⟨S8208x1024, .bf16⟩

abbrev hbmTy (i : Nat) : BufTy := match i / 128 with
  | 0 => hbmTy0_0 i
  | 1 => hbmTy0_1 i
  | _ => ⟨S8208x1024, .bf16⟩

abbrev bufTy : (tb : Table) → Fin (tcTables nBuf tb) → BufTy
  | .hbm, ⟨i, _⟩ => hbmTy i
  | .local _ .vmem, ⟨0, _⟩ => ⟨S128x6144, .bf16⟩
  | .local _ .vmem, ⟨1, _⟩ => ⟨S128x6144, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S4x128x128, .f32⟩
  | .local _ .vmem, ⟨7, _⟩ => ⟨S4x128x128, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S1x4x256x512, .bf16⟩
  | .local _ .vmem, ⟨13, _⟩ => ⟨S1x4x256x512, .bf16⟩
  | .local _ .vmem, ⟨14, _⟩ => ⟨S4x256x512, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201_0 : Ref sig .tc := ⟨.hbm, 222, rfl⟩
abbrev main_v201_1 : Ref sig .tc := ⟨.hbm, 223, rfl⟩
abbrev main_v201_2 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RetRefIdeal.lean ====
abbrev S8208x1024 : Shape := ⟨2, ![8208, 1024]⟩
abbrev S8208x2048 : Shape := ⟨2, ![8208, 2048]⟩
abbrev S8320 : Shape := ⟨1, ![8320]⟩
abbrev S_ : Shape := ⟨0, ![]⟩
abbrev S8208x4x256 : Shape := ⟨3, ![8208, 4, 256]⟩
abbrev S4x8208x256 : Shape := ⟨3, ![4, 8208, 256]⟩
abbrev S4x8320x256 : Shape := ⟨3, ![4, 8320, 256]⟩
abbrev S128 : Shape := ⟨1, ![128]⟩
abbrev S8320x1 : Shape := ⟨2, ![8320, 1]⟩
abbrev S1x128 : Shape := ⟨2, ![1, 128]⟩
abbrev S8320x128 : Shape := ⟨2, ![8320, 128]⟩
abbrev S4x8320x128 : Shape := ⟨3, ![4, 8320, 128]⟩
abbrev S1x8320x128 : Shape := ⟨3, ![1, 8320, 128]⟩
abbrev S8208x4x512 : Shape := ⟨3, ![8208, 4, 512]⟩
abbrev S4x8208x512 : Shape := ⟨3, ![4, 8208, 512]⟩
abbrev S4x8320x512 : Shape := ⟨3, ![4, 8320, 512]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x65x128x256 : Shape := ⟨4, ![4, 65, 128, 256]⟩
abbrev S65x4x128x256 : Shape := ⟨4, ![65, 4, 128, 256]⟩
abbrev S4x65x128x512 : Shape := ⟨4, ![4, 65, 128, 512]⟩
abbrev S65x4x128x512 : Shape := ⟨4, ![65, 4, 128, 512]⟩
abbrev S4x256x512 : Shape := ⟨3, ![4, 256, 512]⟩
abbrev S65x4x256x512 : Shape := ⟨4, ![65, 4, 256, 512]⟩
abbrev S65 : Shape := ⟨1, ![65]⟩
abbrev S65x1 : Shape := ⟨2, ![65, 1]⟩
abbrev S1x65 : Shape := ⟨2, ![1, 65]⟩
abbrev S65x65 : Shape := ⟨2, ![65, 65]⟩
abbrev S1x4x128x256 : Shape := ⟨4, ![1, 4, 128, 256]⟩
abbrev S4x128x256 : Shape := ⟨3, ![4, 128, 256]⟩
abbrev S1x4x128x512 : Shape := ⟨4, ![1, 4, 128, 512]⟩
abbrev S4x128x512 : Shape := ⟨3, ![4, 128, 512]⟩
abbrev S65x1x1x1 : Shape := ⟨4, ![65, 1, 1, 1]⟩
abbrev S4x8320 : Shape := ⟨2, ![4, 8320]⟩
abbrev S4x8320x1 : Shape := ⟨3, ![4, 8320, 1]⟩
abbrev S8320x4x512 : Shape := ⟨3, ![8320, 4, 512]⟩
abbrev S8320x2048 : Shape := ⟨2, ![8320, 2048]⟩
abbrev S8448x2048 : Shape := ⟨2, ![8448, 2048]⟩
abbrev S66x4x256x512 : Shape := ⟨4, ![66, 4, 256, 512]⟩

abbrev nBuf : Space → Nat
  | .hbm => 277
  | .vmem => 0
  | .smem => 0
  | _ => 0

abbrev hbmTy0_0 (i : Nat) : BufTy := match i % 128 with
  | 0 => ⟨S8208x1024, .bf16⟩
  | 1 => ⟨S8208x1024, .bf16⟩
  | 2 => ⟨S8208x2048, .bf16⟩
  | 3 => ⟨S8208x2048, .bf16⟩
  | 4 => ⟨S8320, .f32⟩
  | 5 => ⟨S_, .f32⟩
  | 6 => ⟨S8320, .f32⟩
  | 7 => ⟨S8320, .f32⟩
  | 8 => ⟨S8208x4x256, .bf16⟩
  | 9 => ⟨S4x8208x256, .bf16⟩
  | 10 => ⟨S4x8208x256, .f32⟩
  | 11 => ⟨S_, .i32⟩
  | 12 => ⟨S_, .f32⟩
  | 13 => ⟨S4x8320x256, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S8320x1, .f32⟩
  | 23 => ⟨S1x128, .f32⟩
  | 24 => ⟨S8320x128, .f32⟩
  | 25 => ⟨S8320x128, .f32⟩
  | 26 => ⟨S8320x128, .f32⟩
  | 27 => ⟨S8320x128, .f32⟩
  | 28 => ⟨S8320x128, .f32⟩
  | 29 => ⟨S4x8320x128, .f32⟩
  | 30 => ⟨S4x8320x128, .f32⟩
  | 31 => ⟨S1x8320x128, .f32⟩
  | 32 => ⟨S4x8320x128, .f32⟩
  | 33 => ⟨S4x8320x128, .f32⟩
  | 34 => ⟨S1x8320x128, .f32⟩
  | 35 => ⟨S4x8320x128, .f32⟩
  | 36 => ⟨S4x8320x128, .f32⟩
  | 37 => ⟨S4x8320x128, .f32⟩
  | 38 => ⟨S1x8320x128, .f32⟩
  | 39 => ⟨S4x8320x128, .f32⟩
  | 40 => ⟨S4x8320x128, .f32⟩
  | 41 => ⟨S1x8320x128, .f32⟩
  | 42 => ⟨S4x8320x128, .f32⟩
  | 43 => ⟨S4x8320x128, .f32⟩
  | 44 => ⟨S4x8320x128, .f32⟩
  | 45 => ⟨S4x8320x256, .f32⟩
  | 46 => ⟨S_, .f32⟩
  | 47 => ⟨S4x8320x256, .f32⟩
  | 48 => ⟨S4x8320x256, .f32⟩
  | 49 => ⟨S8208x4x256, .bf16⟩
  | 50 => ⟨S4x8208x256, .bf16⟩
  | 51 => ⟨S4x8208x256, .f32⟩
  | 52 => ⟨S_, .i32⟩
  | 53 => ⟨S_, .f32⟩
  | 54 => ⟨S4x8320x256, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S8320x1, .f32⟩
  | 64 => ⟨S1x128, .f32⟩
  | 65 => ⟨S8320x128, .f32⟩
  | 66 => ⟨S8320x128, .f32⟩
  | 67 => ⟨S8320x128, .f32⟩
  | 68 => ⟨S8320x128, .f32⟩
  | 69 => ⟨S8320x128, .f32⟩
  | 70 => ⟨S4x8320x128, .f32⟩
  | 71 => ⟨S4x8320x128, .f32⟩
  | 72 => ⟨S1x8320x128, .f32⟩
  | 73 => ⟨S4x8320x128, .f32⟩
  | 74 => ⟨S4x8320x128, .f32⟩
  | 75 => ⟨S1x8320x128, .f32⟩
  | 76 => ⟨S4x8320x128, .f32⟩
  | 77 => ⟨S4x8320x128, .f32⟩
  | 78 => ⟨S4x8320x128, .f32⟩
  | 79 => ⟨S1x8320x128, .f32⟩
  | 80 => ⟨S4x8320x128, .f32⟩
  | 81 => ⟨S4x8320x128, .f32⟩
  | 82 => ⟨S1x8320x128, .f32⟩
  | 83 => ⟨S4x8320x128, .f32⟩
  | 84 => ⟨S4x8320x128, .f32⟩
  | 85 => ⟨S4x8320x128, .f32⟩
  | 86 => ⟨S4x8320x256, .f32⟩
  | 87 => ⟨S8208x4x512, .bf16⟩
  | 88 => ⟨S4x8208x512, .bf16⟩
  | 89 => ⟨S4x8208x512, .f32⟩
  | 90 => ⟨S_, .i32⟩
  | 91 => ⟨S_, .f32⟩
  | 92 => ⟨S4x8320x512, .f32⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S4, .f32⟩
  | 101 => ⟨S4, .f32⟩
  | 102 => ⟨S128, .f32⟩
  | 103 => ⟨S128x1, .f32⟩
  | 104 => ⟨S1x128, .f32⟩
  | 105 => ⟨S128x128, .f32⟩
  | 106 => ⟨S128x128, .f32⟩
  | 107 => ⟨S128x128, .f32⟩
  | 108 => ⟨S_, .f32⟩
  | 109 => ⟨S128x128, .f32⟩
  | 110 => ⟨S128x128, .i1⟩
  | 111 => ⟨S4x1x1, .f32⟩
  | 112 => ⟨S_, .f32⟩
  | 113 => ⟨S128x128, .f32⟩
  | 114 => ⟨S128x128, .f32⟩
  | 115 => ⟨S1x128x128, .f32⟩
  | 116 => ⟨S4x128x128, .f32⟩
  | 117 => ⟨S4x128x128, .f32⟩
  | 118 => ⟨S4x128x128, .f32⟩
  | 119 => ⟨S4x128x128, .f32⟩
  | 120 => ⟨S_, .f32⟩
  | 121 => ⟨S_, .f32⟩
  | 122 => ⟨S4x128x128, .i1⟩
  | 123 => ⟨S4x128x128, .f32⟩
  | 124 => ⟨S4x128x128, .f32⟩
  | 125 => ⟨S4x1, .f32⟩
  | 126 => ⟨S_, .f32⟩
  | 127 => ⟨S128, .f32⟩
  | _ => ⟨S8208x1024, .bf16⟩

abbrev hbmTy0_1 (i : Nat) : BufTy := match i % 128 with
  | 0 => ⟨S128, .f32⟩
  | 1 => ⟨S1x128, .f32⟩
  | 2 => ⟨S4x128, .f32⟩
  | 3 => ⟨S4x128, .f32⟩
  | 4 => ⟨S4x128, .f32⟩
  | 5 => ⟨S4x128, .f32⟩
  | 6 => ⟨S4x128x1, .f32⟩
  | 7 => ⟨S4x1, .f32⟩
  | 8 => ⟨S_, .f32⟩
  | 9 => ⟨S128, .f32⟩
  | 10 => ⟨S128, .f32⟩
  | 11 => ⟨S1x128, .f32⟩
  | 12 => ⟨S4x128, .f32⟩
  | 13 => ⟨S4x128, .f32⟩
  | 14 => ⟨S4x128, .f32⟩
  | 15 => ⟨S4x128, .f32⟩
  | 16 => ⟨S4x128x1, .f32⟩
  | 17 => ⟨S_, .f32⟩
  | 18 => ⟨S4, .f32⟩
  | 19 => ⟨S4, .f32⟩
  | 20 => ⟨S4, .f32⟩
  | 21 => ⟨S4x1x1, .f32⟩
  | 22 => ⟨S4x65x128x256, .f32⟩
  | 23 => ⟨S65x4x128x256, .f32⟩
  | 24 => ⟨S4x65x128x256, .f32⟩
  | 25 => ⟨S65x4x128x256, .f32⟩
  | 26 => ⟨S4x65x128x512, .f32⟩
  | 27 => ⟨S65x4x128x512, .f32⟩
  | 28 => ⟨S_, .f32⟩
  | 29 => ⟨S4x256x512, .f32⟩
  | 30 => ⟨S_, .f32⟩
  | 31 => ⟨S65x4x128x512, .f32⟩
  | 32 => ⟨S_, .f32⟩
  | 33 => ⟨S65x4x256x512, .f32⟩
  | 34 => ⟨S65, .i32⟩
  | 35 => ⟨S65x1, .i32⟩
  | 36 => ⟨S65, .i32⟩
  | 37 => ⟨S1x65, .i32⟩
  | 38 => ⟨S65x65, .i32⟩
  | 39 => ⟨S65x65, .i32⟩
  | 40 => ⟨S65x65, .i1⟩
  | 41 => ⟨S_, .i32⟩
  | 42 => ⟨S65x65, .i1⟩
  | 43 => ⟨S65x4x128x256, .f32⟩
  | 44 => ⟨S65x4x128x256, .f32⟩
  | 45 => ⟨S65x4x128x512, .f32⟩
  | 46 => ⟨S4x128x128, .f32⟩
  | 47 => ⟨S4x128x1, .f32⟩
  | 48 => ⟨S4x1x1, .f32⟩
  | 49 => ⟨S4x128x1, .f32⟩
  | 50 => ⟨S_, .i32⟩
  | 51 => ⟨S4x256x512, .f32⟩
  | 52 => ⟨S65x4x128x512, .f32⟩
  | 53 => ⟨S65x4x256x512, .f32⟩
  | 54 => ⟨S_, .i32⟩
  | 55 => ⟨S_, .i1⟩
  | 56 => ⟨S_, .i32⟩
  | 57 => ⟨S1x65, .i1⟩
  | 58 => ⟨S65, .i1⟩
  | 59 => ⟨S_, .i32⟩
  | 60 => ⟨S_, .i32⟩
  | 61 => ⟨S_, .i32⟩
  | 62 => ⟨S1x4x128x256, .f32⟩
  | 63 => ⟨S4x128x256, .f32⟩
  | 64 => ⟨S_, .i32⟩
  | 65 => ⟨S_, .i32⟩
  | 66 => ⟨S_, .i32⟩
  | 67 => ⟨S1x4x128x256, .f32⟩
  | 68 => ⟨S4x128x256, .f32⟩
  | 69 => ⟨S_, .i32⟩
  | 70 => ⟨S_, .i32⟩
  | 71 => ⟨S_, .i32⟩
  | 72 => ⟨S1x4x128x512, .f32⟩
  | 73 => ⟨S4x128x512, .f32⟩
  | 74 => ⟨S4x128x128, .f32⟩
  | 75 => ⟨S4x128x128, .f32⟩
  | 76 => ⟨S4x128x512, .f32⟩
  | 77 => ⟨S4x128x512, .f32⟩
  | 78 => ⟨S4x128x512, .f32⟩
  | 79 => ⟨S4x128x512, .f32⟩
  | 80 => ⟨S65x1x1x1, .i1⟩
  | 81 => ⟨S4x128x512, .f32⟩
  | 82 => ⟨S65x4x128x512, .i1⟩
  | 83 => ⟨S65x4x128x512, .f32⟩
  | 84 => ⟨S65x4x128x512, .f32⟩
  | 85 => ⟨S65x1x1x1, .i1⟩
  | 86 => ⟨S65x4x256x512, .i1⟩
  | 87 => ⟨S65x4x256x512, .f32⟩
  | 88 => ⟨S65x4x256x512, .f32⟩
  | 89 => ⟨S4x256x512, .f32⟩
  | 90 => ⟨S4x256x512, .f32⟩
  | 91 => ⟨S4x128x512, .f32⟩
  | 92 => ⟨S4x128x512, .f32⟩
  | 93 => ⟨S4x256x512, .f32⟩
  | 94 => ⟨S4x256x512, .f32⟩
  | 95 => ⟨S_, .i32⟩
  | 96 => ⟨S_, .i32⟩
  | 97 => ⟨S4x65x128x512, .f32⟩
  | 98 => ⟨S4x8320x512, .f32⟩
  | 99 => ⟨S_, .f32⟩
  | 100 => ⟨S4x8320, .f32⟩
  | 101 => ⟨S4x8320x1, .f32⟩
  | 102 => ⟨S_, .f32⟩
  | 103 => ⟨S4x8320x1, .f32⟩
  | 104 => ⟨S4x8320x1, .f32⟩
  | 105 => ⟨S4x8320x512, .f32⟩
  | 106 => ⟨S4x8320x512, .f32⟩
  | 107 => ⟨S4x8320x512, .f32⟩
  | 108 => ⟨S_, .f32⟩
  | 109 => ⟨S4x8320, .f32⟩
  | 110 => ⟨S4x8320x1, .f32⟩
  | 111 => ⟨S_, .f32⟩
  | 112 => ⟨S4x8320x1, .f32⟩
  | 113 => ⟨S4x8320x1, .f32⟩
  | 114 => ⟨S4x8320x512, .f32⟩
  | 115 => ⟨S4x8320x512, .f32⟩
  | 116 => ⟨S_, .f32⟩
  | 117 => ⟨S4x8320x1, .f32⟩
  | 118 => ⟨S4x8320x1, .f32⟩
  | 119 => ⟨S4x8320x1, .f32⟩
  | 120 => ⟨S4x8320x512, .f32⟩
  | 121 => ⟨S4x8320x512, .f32⟩
  | 122 => ⟨S4x8208x512, .f32⟩
  | 123 => ⟨S8208x4x512, .f32⟩
  | 124 => ⟨S8208x2048, .f32⟩
  | 125 => ⟨S8208x2048, .f32⟩
  | 126 => ⟨S8208x2048, .f32⟩
  | 127 => ⟨S8208x2048, .f32⟩
  | _ => ⟨S8208x1024, .bf16⟩

abbrev hbmTy0_2 (i : Nat) : BufTy := match i % 128 with
  | 0 => ⟨S_, .f32⟩
  | 1 => ⟨S8208x2048, .f32⟩
  | 2 => ⟨S8208x2048, .f32⟩
  | 3 => ⟨S_, .f32⟩
  | 4 => ⟨S8208x2048, .f32⟩
  | 5 => ⟨S8208x2048, .f32⟩
  | 6 => ⟨S8208x2048, .f32⟩
  | 7 => ⟨S8208x2048, .f32⟩
  | 8 => ⟨S8208x2048, .bf16⟩
  | 9 => ⟨S8320x4x512, .f32⟩
  | 10 => ⟨S8320x2048, .f32⟩
  | 11 => ⟨S_, .i32⟩
  | 12 => ⟨S_, .f32⟩
  | 13 => ⟨S8448x2048, .f32⟩
  | 14 => ⟨S_, .i32⟩
  | 15 => ⟨S_, .bf16⟩
  | 16 => ⟨S8448x2048, .bf16⟩
  | 17 => ⟨S65x4x256x512, .bf16⟩
  | 18 => ⟨S_, .i32⟩
  | 19 => ⟨S_, .bf16⟩
  | 20 => ⟨S66x4x256x512, .bf16⟩
  | _ => ⟨S8208x1024, .bf16⟩

abbrev hbmTy (i : Nat) : BufTy := match i / 128 with
  | 0 => hbmTy0_0 i
  | 1 => hbmTy0_1 i
  | 2 => hbmTy0_2 i
  | _ => ⟨S8208x1024, .bf16⟩

abbrev bufTy : (tb : Table) → Fin (tcTables nBuf tb) → BufTy
  | .hbm, ⟨i, _⟩ => hbmTy i
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_3 : Ref sig .tc := ⟨.hbm, 52, rfl⟩
abbrev main_call1_v0 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c_6 : Ref sig .tc := ⟨.hbm, 90, rfl⟩
abbrev main_call2_v0 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_9 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_11 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v100 : Ref sig .tc := ⟨.hbm, 124, rfl⟩
abbrev main_v101 : Ref sig .tc := ⟨.hbm, 125, rfl⟩
abbrev main_cst_12 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_13 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_14 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_15 : Ref sig .tc := ⟨.hbm, 156, rfl⟩
abbrev main_v129 : Ref sig .tc := ⟨.hbm, 157, rfl⟩
abbrev main_cst_16 : Ref sig .tc := ⟨.hbm, 158, rfl⟩
abbrev main_v130 : Ref sig .tc := ⟨.hbm, 159, rfl⟩
abbrev main_cst_17 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_c_18 : Ref sig .tc := ⟨.hbm, 169, rfl⟩
abbrev main_v139_0 : Ref sig .tc := ⟨.hbm, 170, rfl⟩
abbrev main_v139_1 : Ref sig .tc := ⟨.hbm, 171, rfl⟩
abbrev main_v139_2 : Ref sig .tc := ⟨.hbm, 172, rfl⟩
abbrev main_v139_3 : Ref sig .tc := ⟨.hbm, 173, rfl⟩
abbrev main_v139_4 : Ref sig .tc := ⟨.hbm, 174, rfl⟩
abbrev main_v139_5 : Ref sig .tc := ⟨.hbm, 175, rfl⟩
abbrev main_v139_6 : Ref sig .tc := ⟨.hbm, 176, rfl⟩
abbrev main_v139_7 : Ref sig .tc := ⟨.hbm, 177, rfl⟩
abbrev main_v139_8 : Ref sig .tc := ⟨.hbm, 178, rfl⟩
abbrev main_v139_9 : Ref sig .tc := ⟨.hbm, 179, rfl⟩
abbrev main_v139_10 : Ref sig .tc := ⟨.hbm, 180, rfl⟩
abbrev main_v139_11 : Ref sig .tc := ⟨.hbm, 181, rfl⟩
abbrev main_while0c_c_38 : Ref sig .tc := ⟨.hbm, 182, rfl⟩
abbrev main_while0c_v173 : Ref sig .tc := ⟨.hbm, 183, rfl⟩
abbrev main_while0b_call4_c : Ref sig .tc := ⟨.hbm, 184, rfl⟩
abbrev main_while0b_call4_v0 : Ref sig .tc := ⟨.hbm, 185, rfl⟩
abbrev main_while0b_v173 : Ref sig .tc := ⟨.hbm, 186, rfl⟩
abbrev main_while0b_call5_c : Ref sig .tc := ⟨.hbm, 187, rfl⟩
abbrev main_while0b_call5_c_0 : Ref sig .tc := ⟨.hbm, 188, rfl⟩
abbrev main_while0b_call5_c_1 : Ref sig .tc := ⟨.hbm, 189, rfl⟩
abbrev main_while0b_call5_v0 : Ref sig .tc := ⟨.hbm, 190, rfl⟩
abbrev main_while0b_v174 : Ref sig .tc := ⟨.hbm, 191, rfl⟩
abbrev main_while0b_call6_c : Ref sig .tc := ⟨.hbm, 192, rfl⟩
abbrev main_while0b_call6_c_0 : Ref sig .tc := ⟨.hbm, 193, rfl⟩
abbrev main_while0b_call6_c_1 : Ref sig .tc := ⟨.hbm, 194, rfl⟩
abbrev main_while0b_call6_v0 : Ref sig .tc := ⟨.hbm, 195, rfl⟩
abbrev main_while0b_v175 : Ref sig .tc := ⟨.hbm, 196, rfl⟩
abbrev main_while0b_call7_c : Ref sig .tc := ⟨.hbm, 197, rfl⟩
abbrev main_while0b_call7_c_0 : Ref sig .tc := ⟨.hbm, 198, rfl⟩
abbrev main_while0b_call7_c_1 : Ref sig .tc := ⟨.hbm, 199, rfl⟩
abbrev main_while0b_call7_v0 : Ref sig .tc := ⟨.hbm, 200, rfl⟩
abbrev main_while0b_v176 : Ref sig .tc := ⟨.hbm, 201, rfl⟩
abbrev main_while0b_v177 : Ref sig .tc := ⟨.hbm, 202, rfl⟩
abbrev main_while0b_v178 : Ref sig .tc := ⟨.hbm, 203, rfl⟩
abbrev main_while0b_v179 : Ref sig .tc := ⟨.hbm, 204, rfl⟩
abbrev main_while0b_v180 : Ref sig .tc := ⟨.hbm, 205, rfl⟩
abbrev main_while0b_v181 : Ref sig .tc := ⟨.hbm, 206, rfl⟩
abbrev main_while0b_v182 : Ref sig .tc := ⟨.hbm, 207, rfl⟩
abbrev main_while0b_v183 : Ref sig .tc := ⟨.hbm, 208, rfl⟩
abbrev main_while0b_v184 : Ref sig .tc := ⟨.hbm, 209, rfl⟩
abbrev main_while0b_call8_v0 : Ref sig .tc := ⟨.hbm, 210, rfl⟩
abbrev main_while0b_call8_v1 : Ref sig .tc := ⟨.hbm, 211, rfl⟩
abbrev main_while0b_v185 : Ref sig .tc := ⟨.hbm, 212, rfl⟩
abbrev main_while0b_v186 : Ref sig .tc := ⟨.hbm, 213, rfl⟩
abbrev main_while0b_call9_v0 : Ref sig .tc := ⟨.hbm, 214, rfl⟩
abbrev main_while0b_call9_v1 : Ref sig .tc := ⟨.hbm, 215, rfl⟩
abbrev main_while0b_v187 : Ref sig .tc := ⟨.hbm, 216, rfl⟩
abbrev main_while0b_v188 : Ref sig .tc := ⟨.hbm, 217, rfl⟩
abbrev main_while0b_v189 : Ref sig .tc := ⟨.hbm, 218, rfl⟩
abbrev main_while0b_v190 : Ref sig .tc := ⟨.hbm, 219, rfl⟩
abbrev main_while0b_v191 : Ref sig .tc := ⟨.hbm, 220, rfl⟩
abbrev main_while0b_v192 : Ref sig .tc := ⟨.hbm, 221, rfl⟩
abbrev main_while0b_v193 : Ref sig .tc := ⟨.hbm, 222, rfl⟩
abbrev main_while0b_c_38 : Ref sig .tc := ⟨.hbm, 223, rfl⟩
abbrev main_while0b_v194 : Ref sig .tc := ⟨.hbm, 224, rfl⟩
abbrev main_v140 : Ref sig .tc := ⟨.hbm, 225, rfl⟩
abbrev main_v141 : Ref sig .tc := ⟨.hbm, 226, rfl⟩
abbrev main_cst_19 : Ref sig .tc := ⟨.hbm, 227, rfl⟩
abbrev main_v142 : Ref sig .tc := ⟨.hbm, 228, rfl⟩
abbrev main_v143 : Ref sig .tc := ⟨.hbm, 229, rfl⟩
abbrev main_cst_20 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_cst_21 : Ref sig .tc := ⟨.hbm, 236, rfl⟩
abbrev main_v149 : Ref sig .tc := ⟨.hbm, 237, rfl⟩
abbrev main_v150 : Ref sig .tc := ⟨.hbm, 238, rfl⟩
abbrev main_cst_22 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_cst_23 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_call10_v0 : Ref sig .tc := ⟨.hbm, 254, rfl⟩
abbrev main_call10_v1 : Ref sig .tc := ⟨.hbm, 255, rfl⟩
abbrev main_call10_cst : Ref sig .tc := ⟨.hbm, 256, rfl⟩
abbrev main_call10_v2 : Ref sig .tc := ⟨.hbm, 257, rfl⟩
abbrev main_call10_v3 : Ref sig .tc := ⟨.hbm, 258, rfl⟩
abbrev main_call10_cst_0 : Ref sig .tc := ⟨.hbm, 259, rfl⟩
abbrev main_call10_v4 : Ref sig .tc := ⟨.hbm, 260, rfl⟩
abbrev main_call10_v5 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_c_24 : Ref sig .tc := ⟨.hbm, 267, rfl⟩
abbrev main_call11_v0 : Ref sig .tc := ⟨.hbm, 268, rfl⟩
abbrev main_v169 : Ref sig .tc := ⟨.hbm, 269, rfl⟩
abbrev main_c_25 : Ref sig .tc := ⟨.hbm, 270, rfl⟩
abbrev main_call12_v0 : Ref sig .tc := ⟨.hbm, 271, rfl⟩
abbrev main_v170 : Ref sig .tc := ⟨.hbm, 272, rfl⟩
abbrev main_v171 : Ref sig .tc := ⟨.hbm, 273, rfl⟩
abbrev main_c_26 : Ref sig .tc := ⟨.hbm, 274, rfl⟩
abbrev main_call13_v0 : Ref sig .tc := ⟨.hbm, 275, rfl⟩
abbrev main_v172 : Ref sig .tc := ⟨.hbm, 276, rfl⟩

abbrev nD : Nat := 1
abbrev τ : Topo := Topo.v7x

variable {F : FTy → Type} [FloatOps F]

abbrev main_while0_count : Scf.Loop 32 := ⟨0#32, 65#32, 1#32⟩
-- ==== Proj.lean ====
abbrev S8448x1024 : Shape := ⟨2, ![8448, 1024]⟩
abbrev S1024x11264 : Shape := ⟨2, ![1024, 11264]⟩
abbrev S11264x1024 : Shape := ⟨2, ![11264, 1024]⟩
abbrev S8448x11264 : Shape := ⟨2, ![8448, 11264]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x11264, .bf16⟩
  | .hbm, ⟨2, _⟩ => ⟨S11264x1024, .bf16⟩
  | .hbm, ⟨3, _⟩ => ⟨S8448x11264, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8448x1024 : Shape := ⟨2, ![8448, 1024]⟩
abbrev S1024x11264 : Shape := ⟨2, ![1024, 11264]⟩
abbrev S8448x11264 : Shape := ⟨2, ![8448, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x11264, .bf16⟩
  | .hbm, ⟨2, _⟩ => ⟨S8448x1024, .f32⟩
  | .hbm, ⟨3, _⟩ => ⟨S1024x11264, .f32⟩
  | .hbm, ⟨4, _⟩ => ⟨S8448x11264, .f32⟩
  | .hbm, ⟨5, _⟩ => ⟨S8448x11264, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamW.lean ====
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S1x1024x1408 : Shape := ⟨3, ![1, 1024, 1408]⟩
abbrev S_ : Shape := ⟨0, ![]⟩
abbrev S1024x1408 : Shape := ⟨2, ![1024, 1408]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S_, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | .hbm, ⟨37, _⟩ => ⟨S1024x1408, .f32⟩
  | .hbm, ⟨38, _⟩ => ⟨S1024x1408, .f32⟩
  | .hbm, ⟨39, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Slots.lean ====
abbrev S8x1408x1024 : Shape := ⟨3, ![8, 1408, 1024]⟩
abbrev S1408x1024 : Shape := ⟨2, ![1408, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsRefIdeal.lean ====
abbrev S8x1408x1024 : Shape := ⟨3, ![8, 1408, 1024]⟩
abbrev S_ : Shape := ⟨0, ![]⟩
abbrev S1408x1024 : Shape := ⟨2, ![1408, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1408x1024, .bf16⟩
  | .hbm, ⟨1, _⟩ => ⟨S8x1408x1024, .f32⟩
  | .hbm, ⟨2, _⟩ => ⟨S_, .f32⟩
  | .hbm, ⟨3, _⟩ => ⟨S1408x1024, .f32⟩
  | _, _ => ⟨S8x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WeightGrad.lean ====
abbrev S8448x11264 : Shape := ⟨2, ![8448, 11264]⟩
abbrev S8448x1024 : Shape := ⟨2, ![8448, 1024]⟩
abbrev S11264x1024 : Shape := ⟨2, ![11264, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S11264x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 6], ![false, false]⟩

def k0_cond3 (i : grid0.Coords) : BitVec 1 :=
  let arg1 : BitVec 32 := BitVec.ofNat 32 (i 1).val
  let c5_i32_3 : BitVec 32 := 5#32
  let v8 : BitVec 1 := Scalar.cmpi .eq arg1 c5_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightGradRefIdeal.lean ====
abbrev S8448x11264 : Shape := ⟨2, ![8448, 11264]⟩
abbrev S8448x1024 : Shape := ⟨2, ![8448, 1024]⟩
abbrev S11264x8448 : Shape := ⟨2, ![11264, 8448]⟩
abbrev S11264x1024 : Shape := ⟨2, ![11264, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8448x1024, .bf16⟩
  | .hbm, ⟨2, _⟩ => ⟨S8448x11264, .f32⟩
  | .hbm, ⟨3, _⟩ => ⟨S11264x8448, .f32⟩
  | .hbm, ⟨4, _⟩ => ⟨S8448x1024, .f32⟩
  | .hbm, ⟨5, _⟩ => ⟨S11264x1024, .f32⟩
  | .hbm, ⟨6, _⟩ => ⟨S11264x1024, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnBack.lean ====
abbrev S8448x2816 : Shape := ⟨2, ![8448, 2816]⟩
abbrev S1024x5632 : Shape := ⟨2, ![1024, 5632]⟩
abbrev S5632x1024 : Shape := ⟨2, ![5632, 1024]⟩
abbrev S8448x1024 : Shape := ⟨2, ![8448, 1024]⟩
abbrev S768x2816 : Shape := ⟨2, ![768, 2816]⟩
abbrev S2816x1024 : Shape := ⟨2, ![2816, 1024]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .bf16⟩
  | .hbm, ⟨3, _⟩ => ⟨S5632x1024, .bf16⟩
  | .hbm, ⟨4, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S768x2816, .bf16⟩
  | .local _ .vmem, ⟨3, _⟩ => ⟨S768x2816, .bf16⟩
  | .local _ .vmem, ⟨4, _⟩ => ⟨S2816x1024, .bf16⟩
  | .local _ .vmem, ⟨5, _⟩ => ⟨S2816x1024, .bf16⟩
  | .local _ .vmem, ⟨6, _⟩ => ⟨S768x1024, .bf16⟩
  | .local _ .vmem, ⟨7, _⟩ => ⟨S768x1024, .bf16⟩
  | .local _ .vmem, ⟨8, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnBackRefIdeal.lean ====
abbrev S8448x2816 : Shape := ⟨2, ![8448, 2816]⟩
abbrev S1024x5632 : Shape := ⟨2, ![1024, 5632]⟩
abbrev S8448x5632 : Shape := ⟨2, ![8448, 5632]⟩
abbrev S5632x1024 : Shape := ⟨2, ![5632, 1024]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .bf16⟩
  | .hbm, ⟨3, _⟩ => ⟨S8448x5632, .bf16⟩
  | .hbm, ⟨4, _⟩ => ⟨S8448x5632, .f32⟩
  | .hbm, ⟨5, _⟩ => ⟨S1024x5632, .f32⟩
  | .hbm, ⟨6, _⟩ => ⟨S5632x1024, .f32⟩
  | .hbm, ⟨7, _⟩ => ⟨S8448x1024, .f32⟩
  | .hbm, ⟨8, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBack.lean ====
abbrev S8448x11264 : Shape := ⟨2, ![8448, 11264]⟩
abbrev S1024x11264 : Shape := ⟨2, ![1024, 11264]⟩
abbrev S11264x1024 : Shape := ⟨2, ![11264, 1024]⟩
abbrev S8448x1024 : Shape := ⟨2, ![8448, 1024]⟩
abbrev S768x2816 : Shape := ⟨2, ![768, 2816]⟩
abbrev S2816x1024 : Shape := ⟨2, ![2816, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S1024x11264, .bf16⟩
  | .hbm, ⟨2, _⟩ => ⟨S11264x1024, .bf16⟩
  | .hbm, ⟨3, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S2816x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjBackRefIdeal.lean ====
abbrev S8448x11264 : Shape := ⟨2, ![8448, 11264]⟩
abbrev S1024x11264 : Shape := ⟨2, ![1024, 11264]⟩
abbrev S11264x1024 : Shape := ⟨2, ![11264, 1024]⟩
abbrev S8448x1024 : Shape := ⟨2, ![8448, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S1024x11264, .bf16⟩
  | .hbm, ⟨2, _⟩ => ⟨S8448x11264, .f32⟩
  | .hbm, ⟨3, _⟩ => ⟨S1024x11264, .f32⟩
  | .hbm, ⟨4, _⟩ => ⟨S11264x1024, .f32⟩
  | .hbm, ⟨5, _⟩ => ⟨S8448x1024, .f32⟩
  | .hbm, ⟨6, _⟩ => ⟨S8448x1024, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Norm.lean ====
/- The RMS norm and its gradient on one row of extended reals.

   The kernels compute the gradient of a normalised row as `r (u − x̂ · mean (u · x̂))`. Differentiating the forward lines
   gives the same number as a sum of three terms. Both are stated here for every row, infinite elements included. -/
module

public import Idealize.ShloMosaic.PureOps.Ideal.Laws
public import Idealize.ShloMosaic.Lib.IdealHost

@[expose] public section

noncomputable section

namespace Cert.Norm

open Idealize.ShloMosaic

/-- A nonnegative real factor distributes over a sum of two extended reals. -/
theorem coe_mul_add (a : ℝ) (ha : 0 ≤ a) (x y : EReal) : (a : EReal) * (x + y) = a * x + a * y :=
  EReal.left_distrib_of_nonneg_of_ne_top (EReal.coe_nonneg.mpr ha) (EReal.coe_ne_top a) x y

/-- A nonnegative real factor distributes over a finite sum. -/
theorem coe_mul_sum {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert i s hi ih => rw [Finset.sum_insert hi, Finset.sum_insert hi, coe_mul_add a ha, ih]

/-- A finite sum of real numbers, seen as an extended real. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- A value added to itself is twice it. -/
theorem add_self (x : EReal) : x + x = ((2 : ℝ) : EReal) * x := by
  induction x with
  | bot => simp [EReal.coe_mul_bot_of_pos]
  | top => simp [EReal.coe_mul_top_of_pos]
  | coe r => rw [← EReal.coe_add, ← EReal.coe_mul, two_mul]

/-- Division by a nonzero real is the product with its reciprocal. -/
theorem div_coe (n : ℝ) (hn : n ≠ 0) (x : EReal) : Ideal.div x (n : EReal) = ((n⁻¹ : ℝ) : EReal) * x := by
  rw [Ideal.div, if_neg (by exact_mod_cast hn), ← EReal.coe_inv, mul_comm]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The number `1e-6` as the programs carry it. -/
abbrev eps : ℝ := 8796093 * 2 ^ (-43 : ℤ)

theorem ofBits_eps : Ideal.ofBits .f32 0x358637BD#32 = ((eps : ℝ) : EReal) := by
  simp [Ideal.ofBits, Ideal.ieee, -EReal.coe_mul]

theorem eps_pos : 0 < eps := by norm_num [eps]

section Row

variable {n : ℕ} (x u : Fin n → EReal)

/-- Mean square plus `1e-6`. -/
def ms : EReal := Ideal.div (∑ k, x k * x k) ((1024 : ℝ) : EReal) + (eps : EReal)

/-- The reciprocal root of it. -/
def rstd : EReal := Ideal.rsqrt (ms x)

/-- The gradient as the kernels write it. -/
def back (j : Fin n) : EReal :=
  rstd x * (u j - x j * rstd x * Ideal.div (∑ k, u k * (x k * rstd x)) ((1024 : ℝ) : EReal))

/-- The part of the gradient that goes through the reciprocal root. -/
def through : EReal :=
  Ideal.div ((∑ k, x k * u k) * (((-(1 / 2) : ℝ) : EReal) * Ideal.div (rstd x) (ms x))) ((1024 : ℝ) : EReal)

theorem sq_nonneg' (a : EReal) : 0 ≤ a * a := by
  rcases le_total 0 a with h | h
  · exact mul_nonneg h h
  · simpa using mul_nonneg (EReal.neg_nonneg.mpr h) (EReal.neg_nonneg.mpr h)

theorem sum_sq_nonneg : 0 ≤ ∑ k, x k * x k := Finset.sum_nonneg fun k _ => sq_nonneg' (x k)

/-- A row is real, with a positive root, or its mean square is infinite and the root is zero. -/
theorem ms_cases : (∃ (y : Fin n → ℝ) (v : ℝ), (∀ k, x k = y k) ∧ 0 < v ∧ ms x = (v : EReal)
      ∧ rstd x = (((Real.sqrt v)⁻¹ : ℝ) : EReal)) ∨ (ms x = ⊤ ∧ rstd x = 0) := by
  by_cases h : ∀ k, x k ≠ ⊤ ∧ x k ≠ ⊥
  · left
    have hs : ∑ k, x k * x k = ((∑ k, (x k).toReal * (x k).toReal : ℝ) : EReal) := by
      rw [coe_sum]
      exact Finset.sum_congr rfl fun k _ => by
        rw [EReal.coe_mul, EReal.coe_toReal (h k).1 (h k).2]
    have h0 : (0 : ℝ) ≤ ∑ k, (x k).toReal * (x k).toReal := Finset.sum_nonneg fun k _ => mul_self_nonneg _
    have hv : (0 : ℝ) < (1024 : ℝ)⁻¹ * (∑ k, (x k).toReal * (x k).toReal) + eps := by
      have := eps_pos; positivity
    have hm : ms x = (((1024 : ℝ)⁻¹ * (∑ k, (x k).toReal * (x k).toReal) + eps : ℝ) : EReal) := by
      rw [ms, hs, div_coe _ (by norm_num), ← EReal.coe_mul, ← EReal.coe_add]
    refine ⟨fun k => (x k).toReal, _, fun k => (EReal.coe_toReal (h k).1 (h k).2).symm, hv, hm, ?_⟩
    rw [rstd, hm]
    show (if _ < (0 : ℝ) then (⊥ : EReal) else if _ = (0 : ℝ) then ⊤ else _) = _
    rw [if_neg (not_lt.mpr hv.le), if_neg hv.ne']
  · right
    obtain ⟨k, hk⟩ := not_forall.mp h
    have hk' : x k * x k = ⊤ := by
      generalize x k = a at hk
      induction a with
      | bot => exact EReal.bot_mul_bot
      | top => exact EReal.top_mul_top
      | coe r => exact absurd ⟨EReal.coe_ne_top r, EReal.coe_ne_bot r⟩ hk
    have hs : ∑ k, x k * x k = ⊤ :=
      top_le_iff.mp (hk' ▸ Finset.single_le_sum (f := fun k => x k * x k) (fun i _ => sq_nonneg' (x i)) (Finset.mem_univ k))
    have hm : ms x = ⊤ := by
      rw [ms, hs, div_coe _ (by norm_num), EReal.coe_mul_top_of_pos (by norm_num), EReal.top_add_coe]
    exact ⟨hm, by rw [rstd, hm]; rfl⟩

/-- THE GRADIENT OF A NORMALISED ROW. What the kernels compute is what differentiating the forward lines gives. -/
theorem back_eq (j : Fin n) : back x u j = u j * rstd x + (x j * through x u + through x u * x j) := by
  rcases ms_cases x with ⟨y, v, hy, hv, hm, hr⟩ | ⟨hm, hr⟩
  · have hroot : 0 < (Real.sqrt v)⁻¹ := inv_pos.mpr (Real.sqrt_pos.mpr hv)
    have hw : (∑ k, u k * (x k * rstd x)) = (((Real.sqrt v)⁻¹ : ℝ) : EReal) * ∑ k, x k * u k := by
      rw [coe_mul_sum _ _ hroot.le]
      exact Finset.sum_congr rfl fun k _ => by rw [hr]; ac_rfl
    rw [back, through, hw, hm, hr, hy j]
    generalize (∑ k, x k * u k) = S
    generalize hs : (Real.sqrt v)⁻¹ = s at *
    rw [div_coe _ hv.ne', div_coe _ (by norm_num : (1024 : ℝ) ≠ 0), div_coe _ (by norm_num : (1024 : ℝ) ≠ 0)]
    have hv' : v⁻¹ = s * s := by
      rw [← hs, ← mul_inv, Real.mul_self_sqrt hv.le]
    rw [sub_eq_add_neg, coe_mul_add s hroot.le, mul_comm (s : EReal) (u j)]
    congr 1
    have e : ∀ z : EReal, (y j : EReal) * z + z * (y j : EReal) = ((2 : ℝ) : EReal) * ((y j : EReal) * z) := fun z => by
      rw [mul_comm z, add_self]
    rw [e, ← EReal.neg_mul]
    rw [hv']
    have e1 : (s : EReal) * (-((y j : EReal) * s) * ((((1024 : ℝ)⁻¹ : ℝ) : EReal) * (s * S)))
        = ((s * (-(y j * s)) * ((1024 : ℝ)⁻¹ * s) : ℝ) : EReal) * S := by
      push_cast; simp only [mul_assoc]
    have e2 : ((2 : ℝ) : EReal) * ((y j : EReal) * ((((1024 : ℝ)⁻¹ : ℝ) : EReal) * (S * (((-(1 / 2) : ℝ) : EReal) * (((s * s : ℝ) : EReal) * s)))))
        = ((2 * (y j * ((1024 : ℝ)⁻¹ * (-(1 / 2) * (s * s * s)))) : ℝ) : EReal) * S := by
      push_cast; ac_rfl
    rw [e1, e2]
    congr 2
    ring
  · have ht : through x u = 0 := by
      have h0 : Ideal.div 0 (ms x) = 0 := by rw [hm]; simp [Ideal.div]
      rw [through, hr, h0, mul_zero, mul_zero, div_coe _ (by norm_num), mul_zero]
    rw [back, ht, hr]; simp

end Row

end Cert.Norm

end
-- ==== Proof.Finite.lean ====
/- What a precondition of finiteness says at the ideal numbers: an array whose absolute values are all below infinity holds
   real numbers. -/
module

public import Idealize.ShloMosaic.Lib.ReduceAll
public import Idealize.ShloMosaic.Lib.Tactic
public import Idealize.ShloMosaic.Lib.Affine
public import Idealize.ShloMosaic.Lib.Pointwise

@[expose] public section

noncomputable section

open Idealize.ShloMosaic

namespace Cert.Finite

/-- The one index of a scalar. -/
abbrev S_ : Shape := ⟨0, ![]⟩

instance : Subsingleton S_.Idx := ⟨fun _ _ => funext fun k => k.elim0⟩

theorem inf_bits : Ideal.ofBits .f32 0x7F800000#32 = ⊤ := by
  simp [Ideal.ofBits, Ideal.ieee]

theorem real_of_abs (x : EReal) (h : max x (-x) < ⊤) : ∃ r : ℝ, x = r := by
  induction x with
  | bot => simp at h
  | top => simp at h
  | coe r => exact ⟨r, rfl⟩

/-- Every element of `x` is a real number where the reduction of the comparisons is true. -/
theorem real_of_all {s : Shape} {axes : List (Fin s.rank)} (x : FVec Ideal s .f32) (init : IVec S_ 1)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32))) init h hu j = 1#1)
    (i : s.Idx) : ∃ r : ℝ, x i = r := by
  have := Host.reduce_andi_all _ _ h hu j e i
  pointwise at this
  rw [inf_bits] at this
  refine real_of_abs _ ?_
  by_contra hn
  simp [hn, Ideal.absf_def] at this

end Cert.Finite

end
-- ==== Proof.Swiglu.lean ====
/- The gated activation of the feed-forward part and the product behind it, backward: what the kernel leaves in its two
   result arrays, index by index, and that differentiating the forward lines gives the same arrays. -/
module

public import proofs.«01_k».proof.Proof.Norm
public import proofs.«01_k».proof.Proof.Gen.SwigluIdeal.Value
public import proofs.«01_k».proof.Proof.Gen.SwigluRefIdeal.Read
public import proofs.«01_k».proof.Proof.Gen.Pre_swiglu_finite
public import proofs.«01_k».proof.Proof.Finite
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Blocks

open Cert.SwigluIdeal Cert.SwigluIdeal.Gen

/-- The logistic function as both programs spell it. -/
def logis (a : EReal) : EReal := Ideal.div 1 (1 + Ideal.exp (-a))

/-- The cotangent of the product in front of the activation's output projection. -/
def innerCot (d : Vec Ideal S8448x1024 .bf16) (w : Vec Ideal S2816x1024 .bf16) (r : Fin 8448) (l : Fin 2816) : EReal :=
  ∑ x : Fin 1024, d (ix2 r x) * w (ix2 l x)

/-- The gradient of the gate. -/
def gradA (d : Vec Ideal S8448x1024 .bf16) (w : Vec Ideal S2816x1024 .bf16) (a b : Vec Ideal S8448x2816 .bf16)
    (r : Fin 8448) (l : Fin 2816) : EReal :=
  innerCot d w r l * b (ix2 r l) * logis (a (ix2 r l)) * (1 + a (ix2 r l) * (1 - logis (a (ix2 r l))))

/-- The gradient of the gated value. -/
def gradB (d : Vec Ideal S8448x1024 .bf16) (w : Vec Ideal S2816x1024 .bf16) (a : Vec Ideal S8448x2816 .bf16)
    (r : Fin 8448) (l : Fin 2816) : EReal :=
  innerCot d w r l * a (ix2 r l) * logis (a (ix2 r l))

/-- The logistic function is a real number everywhere, and it is zero or one at the infinities. -/
theorem logis_cases (a : EReal) : (∃ r s : ℝ, a = r ∧ logis a = s) ∨ (a = ⊤ ∧ logis a = 1) ∨ (a = ⊥ ∧ logis a = 0) := by
  induction a with
  | bot => exact .inr (.inr ⟨rfl, by
      have h : (1 : EReal) + ⊤ = ⊤ := EReal.coe_add_top 1
      simp [logis, Ideal.div, h]⟩)
  | top => exact .inr (.inl ⟨rfl, by simp [logis, Ideal.div]⟩)
  | coe r =>
    refine .inl ⟨r, (1 + Real.exp (-r))⁻¹, rfl, ?_⟩
    have h : (1 + Real.exp (-r)) ≠ 0 := by positivity
    rw [logis, ← EReal.coe_neg, Ideal.exp_coe, ← EReal.coe_one, ← EReal.coe_add, Norm.div_coe _ h, EReal.coe_one, mul_one]

/-- The derivative of the gate taken as one factor is the sum of the two terms of the product rule, for a real cotangent. -/
theorem split (x : ℝ) (a : EReal) :
    (x : EReal) * logis a * (1 + a * (1 - logis a)) = (x : EReal) * logis a + a * (x : EReal) * (logis a * (1 - logis a)) := by
  rcases logis_cases a with ⟨r, s, rfl, h⟩ | ⟨rfl, h⟩ | ⟨rfl, h⟩
  · rw [h]
    norm_cast
    ring
  · have e : (1 : EReal) - 1 = 0 := by rw [← EReal.coe_one, ← EReal.coe_sub, sub_self, EReal.coe_zero]
    simp [h, e]
  · simp [h]

section Payloads
variable (w : Vec Ideal S1408x1024 .bf16) (d : Vec Ideal S256x1024 .bf16) (a b : Vec Ideal S256x1408 .bf16)
  (r : Fin 256) (l : Fin 1408)

theorem pay6_apply : k0_pay6 w d a b (ix2 r l) = (∑ x : Fin 1024, d (ix2 r x) * w (ix2 l x)) * b (ix2 r l) * logis (a (ix2 r l))
    * (1 + a (ix2 r l) * (1 - logis (a (ix2 r l)))) := by
  pointwise [k0_pay6, k0_pay5, k0_pay4, k0_pay3]
  simp only [logis, zero_sub]

theorem pay11_apply : k0_pay11 (k0_pay8 w d) (k0_pay9 (F := Ideal) a) (Scalar.ofBits .f32 0x00000000#32) b (ix2 r l)
    = k0_pay6 w d a b (ix2 r l) := by
  rw [pay6_apply]
  pointwise [k0_pay11, k0_pay10, k0_pay9, k0_pay8]
  simp only [logis, zero_sub]

theorem pay1_apply : k0_pay1 (k0_pay14 (F := Ideal) a) (k0_pay15 (F := Ideal) a) (k0_pay16 w d a b) (ix2 r l)
    = k0_pay6 w d a b (ix2 r l) := by
  rw [pay6_apply]
  pointwise [k0_pay1, k0_pay16, k0_pay15, k0_pay14, k0_pay13]
  simp only [logis, zero_sub]

theorem pay7_apply : k0_pay7 w d a (ix2 r l) = (∑ x : Fin 1024, d (ix2 r x) * w (ix2 l x)) * a (ix2 r l) * logis (a (ix2 r l)) := by
  pointwise [k0_pay7, k0_pay5, k0_pay4, k0_pay3]
  simp only [logis, zero_sub]

theorem pay12_apply : k0_pay12 (k0_pay8 w d) (k0_pay9 (F := Ideal) a) (Scalar.ofBits .f32 0x00000000#32) (ix2 r l)
    = k0_pay7 w d a (ix2 r l) := by
  rw [pay7_apply]
  pointwise [k0_pay12, k0_pay10, k0_pay9, k0_pay8]
  simp only [logis, zero_sub]

theorem pay2_apply : k0_pay2 (k0_pay13 w d) (k0_pay14 (F := Ideal) a) (k0_pay15 (F := Ideal) a) (ix2 r l)
    = k0_pay7 w d a (ix2 r l) := by
  rw [pay7_apply]
  pointwise [k0_pay2, k0_pay15, k0_pay14, k0_pay13]
  simp only [logis, zero_sub]

end Payloads

section Block
variable (d : Vec Ideal S768x1024 .bf16) (w : Vec Ideal S1408x1024 .bf16) (a b : Vec Ideal S768x1408 .bf16)

/-- One block of the gate's gradient at an index. -/
def blockA (y : S768x1408.Idx) : EReal := (∑ x : Fin 1024, d (ix2 (y 0) x) * w (ix2 (y 1) x)) * b y * logis (a y)
    * (1 + a y * (1 - logis (a y)))

/-- One block of the gated value's gradient at an index. -/
def blockB (y : S768x1408.Idx) : EReal := (∑ x : Fin 1024, d (ix2 (y 0) x) * w (ix2 (y 1) x)) * a y * logis (a y)

/-- The three pieces of rows of the gate's gradient are stored as one function of the block's index. -/
theorem out4_eq : out0_4 d w a b = blockA d w a b := by
  funext y
  unfold_out out0_4
  refine View.canon_apply_of_pieces (Val := Elt Ideal) (blockA d w a b) _ ?_ y (cover0_4 _ _ _ y)
  simp only [List.mem_cons, List.not_mem_nil, or_false, forall_eq_or_imp, forall_eq]
  refine ⟨fun x => ?_, fun x => ?_, fun x => ?_⟩ <;> idx_vars x
  · rw [pay1_apply, pay6_apply]
    blk_point [blockA, r0_0, r0_5, r0_6]
  · rw [pay11_apply, pay6_apply]
    blk_point [blockA, r0_0, r0_3, r0_4]
  · rw [pay6_apply]
    blk_point [blockA, r0_0, r0_1, r0_2]

theorem out5_eq : out0_5 d w a b = blockB d w a := by
  funext y
  unfold_out out0_5
  refine View.canon_apply_of_pieces (Val := Elt Ideal) (blockB d w a) _ ?_ y (cover0_5 _ _ _ y)
  simp only [List.mem_cons, List.not_mem_nil, or_false, forall_eq_or_imp, forall_eq]
  refine ⟨fun x => ?_, fun x => ?_, fun x => ?_⟩ <;> idx_vars x
  · rw [pay2_apply, pay7_apply]
    blk_point [blockB, r0_0, r0_5, r0_6]
  · rw [pay12_apply, pay7_apply]
    blk_point [blockB, r0_0, r0_3, r0_4]
  · rw [pay7_apply]
    blk_point [blockB, r0_0, r0_1, r0_2]

/-- Blocks that hold rows `ρ` and columns `κ` of whole arrays give those rows and columns of the gradients. -/
theorem blocks_eq (D : Vec Ideal S8448x1024 .bf16) (W : Vec Ideal S2816x1024 .bf16) (A B : Vec Ideal S8448x2816 .bf16) (ρ : Fin 768 → Fin 8448)
    (κ : Fin 1408 → Fin 2816) (hd : ∀ r x, d (ix2 r x) = D (ix2 (ρ r) x)) (hw : ∀ l x, w (ix2 l x) = W (ix2 (κ l) x))
    (ha : ∀ r l, a (ix2 r l) = A (ix2 (ρ r) (κ l))) (hb : ∀ r l, b (ix2 r l) = B (ix2 (ρ r) (κ l))) (r : Fin 768) (l : Fin 1408) :
    blockA d w a b (ix2 r l) = gradA D W A B (ρ r) (κ l) ∧ blockB d w a (ix2 r l) = gradB D W A (ρ r) (κ l) := by
  show (∑ x : Fin 1024, d (ix2 r x) * w (ix2 l x)) * b (ix2 r l) * logis (a (ix2 r l)) * (1 + a (ix2 r l) * (1 - logis (a (ix2 r l)))) = _
    ∧ (∑ x : Fin 1024, d (ix2 r x) * w (ix2 l x)) * a (ix2 r l) * logis (a (ix2 r l)) = _
  simp only [hd, hw, ha, hb]
  exact ⟨rfl, rfl⟩

end Block

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, win0_0.index t = ![t.val / 2, 0] ∧ win0_1.index t = ![t.val % 2, 0]
    ∧ win0_2.index t = ![t.val / 2, t.val % 2] ∧ win0_3.index t = ![t.val / 2, t.val % 2] ∧ win0_4.index t = ![t.val / 2, t.val % 2]
    ∧ win0_5.index t = ![t.val / 2, t.val % 2])

theorem points : cfg0.N = 22 := by decide +kernel

/-- Row `r` of the block of point `t` in the whole array. -/
def rowAt (t : Fin cfg0.N) (r : Fin 768) : Fin 8448 := ⟨t.val / 2 * 768 + r.val, by have := t.isLt; have := points; omega⟩

/-- Column `l` of the block of point `t` in the whole array. -/
def colAt (t : Fin cfg0.N) (l : Fin 1408) : Fin 2816 := ⟨t.val % 2 * 1408 + l.val, by have := l.isLt; omega⟩

section Inputs
variable (c : Dev nD) (t : Fin cfg0.N) (r : Fin 768) (l : Fin 1408) (x : Fin 1024)

theorem iblk0 : iblk m c 0 t (ix2 r x) = m ((c : Thread nD τ).loc main_arg0) (ix2 (rowAt t r) x) := by
  obtain ⟨e, -⟩ := idx t
  simp only [rowAt]
  blk_point [iblk, V, e]

theorem iblk1 : iblk m c 1 t (ix2 l x) = m ((c : Thread nD τ).loc main_arg1) (ix2 (colAt t l) x) := by
  obtain ⟨-, e, -⟩ := idx t
  simp only [colAt]
  blk_point [iblk, V, e]

theorem iblk2 : iblk m c 2 t (ix2 r l) = m ((c : Thread nD τ).loc main_arg2) (ix2 (rowAt t r) (colAt t l)) := by
  obtain ⟨-, -, e, -⟩ := idx t
  simp only [rowAt, colAt]
  blk_point [iblk, V, e]

theorem iblk3 : iblk m c 3 t (ix2 r l) = m ((c : Thread nD τ).loc main_arg3) (ix2 (rowAt t r) (colAt t l)) := by
  obtain ⟨-, -, -, e, -⟩ := idx t
  simp only [rowAt, colAt]
  blk_point [iblk, V, e]

end Inputs

/-- The gate's gradient as the kernel leaves it. -/
theorem final4 (c : Dev nD) : (dats m 0 c).arrAt 4 cfg0.N = fun i => gradA (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have key (y : S768x1408.Idx) : out0_4 (iblk m c 0 t) (iblk m c 1 t) (iblk m c 2 t) (iblk m c 3 t) y
      = gradA (m ((c : Thread nD τ).loc main_arg0)) (m ((c : Thread nD τ).loc main_arg1)) (m ((c : Thread nD τ).loc main_arg2))
        (m ((c : Thread nD τ).loc main_arg3)) (((View.whole main_v0_0).slice (win0_4.rect t)).emb y 0)
        (((View.whole main_v0_0).slice (win0_4.rect t)).emb y 1) := by
    obtain ⟨-, -, -, -, e, -⟩ := idx t
    rw [out4_eq]
    idx_vars y
    rw [(blocks_eq _ _ _ _ _ _ _ _ (rowAt t) (colAt t) (iblk0 m c t) (iblk1 m c t) (iblk2 m c t) (iblk3 m c t) y0 y1).1]
    refine congrArg₂ (gradA _ _ _ _) (Fin.ext ?_) (Fin.ext ?_) <;> blk_simp [rowAt, colAt, e]
  blk_simp
  rw [after0_4]
  exact key y

/-- The gated value's gradient as the kernel leaves it. -/
theorem final5 (c : Dev nD) : (dats m 0 c).arrAt 5 cfg0.N = fun i => gradB (m ((c : Thread nD τ).loc main_arg0))
    (m ((c : Thread nD τ).loc main_arg1)) (m ((c : Thread nD τ).loc main_arg2)) (i 0) (i 1) := by
  refine (dats m 0 c).arrAt_eq_of_covers 5 _ (by decide +kernel) fun t hf y => ?_
  have key (y : S768x1408.Idx) : out0_5 (iblk m c 0 t) (iblk m c 1 t) (iblk m c 2 t) (iblk m c 3 t) y
      = gradB (m ((c : Thread nD τ).loc main_arg0)) (m ((c : Thread nD τ).loc main_arg1)) (m ((c : Thread nD τ).loc main_arg2))
        (((View.whole main_v0_1).slice (win0_5.rect t)).emb y 0) (((View.whole main_v0_1).slice (win0_5.rect t)).emb y 1) := by
    obtain ⟨-, -, -, -, -, e⟩ := idx t
    rw [out5_eq]
    idx_vars y
    rw [(blocks_eq _ _ _ _ _ _ _ _ (rowAt t) (colAt t) (iblk0 m c t) (iblk1 m c t) (iblk2 m c t) (iblk3 m c t) y0 y1).2]
    refine congrArg₂ (gradB _ _ _) (Fin.ext ?_) (Fin.ext ?_) <;> blk_simp [rowAt, colAt, e]
  blk_simp
  rw [after0_5]
  exact key y

end Cert.SwigluIdeal.Blocks

namespace Cert.SwigluRefIdeal.Gradient

open Cert.SwigluRefIdeal Cert.SwigluRefIdeal.Read Cert.SwigluIdeal.Blocks

variable (d : Vec Ideal S8448x1024 .bf16) (w : Vec Ideal S2816x1024 .bf16) (a b : Vec Ideal S8448x2816 .bf16)

/-- What the precondition says: the incoming cotangent, the projection's weights and the gated value are real numbers. -/
theorem finite (h : Cert.Pre_swiglu_finite.fn (F := Ideal) d w a b = fun _ => 1#1) :
    (∀ i, ∃ x : ℝ, d i = x) ∧ (∀ i, ∃ x : ℝ, w i = x) ∧ ∀ i, ∃ x : ℝ, b i = x := by
  have h := congrFun h (fun k => k.elim0)
  simp only [Cert.Pre_swiglu_finite.fn] at h
  obtain ⟨h, h3⟩ := IntOp.andi_eq_one.mp h
  obtain ⟨h1, h2⟩ := IntOp.andi_eq_one.mp h
  exact ⟨Finite.real_of_all _ _ _ _ _ _ h1, Finite.real_of_all _ _ _ _ _ _ h2, Finite.real_of_all _ _ _ _ _ _ h3⟩

theorem first (hd : ∀ i, ∃ x : ℝ, d i = x) (hw : ∀ i, ∃ x : ℝ, w i = x) (hb : ∀ i, ∃ x : ℝ, b i = x) (r : Fin 8448) (l : Fin 2816) :
    val_main_v11 d w a b (ix2 r l) = gradA d w a b r l := by
  pointwise [val_main_v0, val_main_v1, val_main_call0_v0, val_main_call0_v1, val_main_call0_cst, val_main_call0_v2,
    val_main_call0_v3, val_main_call0_cst_0, val_main_call0_v4, val_main_v2_2, val_main_call0_cst_1, val_main_call0_v6,
    val_main_call0_v7, val_main_v2_1, val_main_v2_0, val_main_v3, val_main_v4, val_main_v5, val_main_v6, val_main_v7,
    val_main_v8, val_main_v9, val_main_call1_v0, val_main_call1_v1, val_main_call1_v2, val_main_v10, val_main_v11,
    val_main_v12]
  obtain ⟨x, hx⟩ : ∃ x : ℝ, (∑ k, d (ix2 r k) * w (ix2 l k)) * b (ix2 r l) = x := by
    choose d' hd using hd
    choose w' hw using hw
    choose b' hb using hb
    exact ⟨(∑ k, d' (ix2 r k) * w' (ix2 l k)) * b' (ix2 r l), by
      simp only [hd, hw, hb]; rw [EReal.coe_mul, Norm.coe_sum]; simp only [EReal.coe_mul]⟩
  rw [gradA, innerCot, hx, split]
  rfl

theorem second (r : Fin 8448) (l : Fin 2816) : val_main_v12 d w a (ix2 r l) = gradB d w a r l := by
  pointwise [val_main_v0, val_main_v1, val_main_call0_v0, val_main_call0_v1, val_main_call0_cst, val_main_call0_v2,
    val_main_call0_v3, val_main_call0_cst_0, val_main_call0_v4, val_main_v2_2, val_main_call0_cst_1, val_main_call0_v6,
    val_main_call0_v7, val_main_v2_1, val_main_v2_0, val_main_v3, val_main_v4, val_main_v5, val_main_v6, val_main_v7,
    val_main_v8, val_main_v9, val_main_call1_v0, val_main_call1_v1, val_main_call1_v2, val_main_v10, val_main_v11,
    val_main_v12]
  rw [gradB, innerCot, logis, mul_comm, mul_assoc]

end Cert.SwigluRefIdeal.Gradient

end
-- ==== Proof.MergeIdealFrame.lean ====
module

public import proofs.«01_k».proof.Proof.Gen.MergeIdeal.Frame
public import proofs.«01_k».proof.Proof.Gen.MergeIdeal.Skeleton
public import Idealize.ShloMosaic.Lib.Pipeline.TableIdle
public import Idealize.ShloMosaic.Lib.Claim

/-! # The frame of the backward pass of the gated sum

The kernel visits every block of rows twice. On the first visit (an even point) it stores the cotangent of the
retention branch and the gradient of that branch's gate, on the second (an odd point) the cotangent of the
attention branch and the gradient of the other gate. So the first output is left alone at odd points and the
second at even ones; the pipeline writes both back at the odd points. -/

@[expose] public section

set_option maxRecDepth 16384

noncomputable section

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The whole staging block. -/
abbrev whole : Rect S768x1024 := Rect.unit (s := S768x1024) ![0, 0] S768x1024.size inb_S768x1024_S768x1024_0_0

/-- A store of the whole block covers it. -/
theorem cover_whole (p : Vec F S768x1024 .bf16) (y : S768x1024.Idx) :
    ∃ pc ∈ ([⟨whole, p⟩] : List (View.Piece (Elt F) S768x1024 .bf16)), y ∈ pc.1.set :=
  View.cover_of_tiled [⟨whole, p⟩] S768x1024.size (by rfl) y

/-- The cotangent of the retention branch, from the gate's and the cotangent's blocks. -/
def leftRet (gate d : Vec F S768x1024 .bf16) : Vec F S768x1024 .bf16 :=
  View.canon [⟨whole, k0_pay3 (View.ld d whole) (View.ld gate whole)⟩]

/-- The gradient of the retention branch's gate. -/
def leftGateRet (gate y d : Vec F S768x1024 .bf16) : Vec F S768x1024 .bf16 :=
  View.canon [⟨whole, k0_pay4 (View.ld d whole) (View.ld gate whole) (View.ld y whole)⟩]

/-- The cotangent of the attention branch. -/
def leftAttn (gate d : Vec F S768x1024 .bf16) : Vec F S768x1024 .bf16 :=
  View.canon [⟨whole, k0_pay5 (View.ld d whole) (View.ld gate whole)⟩]

/-- The gradient of the attention branch's gate. -/
def leftGateAttn (gate y d : Vec F S768x1024 .bf16) : Vec F S768x1024 .bf16 :=
  View.canon [⟨whole, k0_pay6 (View.ld d whole) (View.ld gate whole) (View.ld y whole)⟩]

/-! ## The body at the two kinds of points -/

set_option maxHeartbeats 1000000 in
/-- The body on the first visit of a block of rows: the second output is handed back as it was found. -/
theorem sound_first (c : Dev nD) (E : Set ℕ) (i : grid0.Coords) (arg2 : Memref sig .tc .vmem S768x1024 .bf16) (harg2 : arg2.IsWhole) (arg3 : Memref sig .tc .vmem S768x1024 .bf16) (harg3 : arg3.IsWhole) (arg4 : Memref sig .tc .vmem S768x1024 .bf16) (harg4 : arg4.IsWhole) (arg5 : Memref sig .tc .vmem S768x1024 .bf16) (harg5 : arg5.IsWhole) (arg6 : Memref sig .tc .vmem S768x1024 .bf16) (harg6 : arg6.IsWhole) (arg7 : Memref sig .tc .vmem S768x1024 .bf16) (harg7 : arg7.IsWhole) (arg8 : Memref sig .tc .vmem S768x1024 .bf16) (harg8 : arg8.IsWhole)
    (hc1 : k0_cond1 i = 1#1) (hc2 : ¬k0_cond2 i = 1#1) (x0 x1 x2 x3 : Vec F S768x1024 .bf16) (y5 : Vec F S768x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (leftRet x0 x3) ∗ owns (c : Thread nD τ) arg7 fullShare y5 ∗ owns (c : Thread nD τ) arg8 fullShare (leftGateRet x0 x1 x3)) -∗ K ⟨⟩))
      ⊢ wp frame (wpE (defs₀ (F := F)) Variants.none c none) E (cc0_merge_bwd i arg2 harg2 arg3 harg3 arg4 harg4 arg5 harg5 arg6 harg6 arg7 harg7 arg8 harg8) K := by
  simp only [cc0_merge_bwd_eq_skeleton]; unfold cc0_merge_bwd_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, Hk⟩
  subst hf0 hf1 hf2 hf3 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_whole _)
  isplitl [H5]
  · iexists f5; isplitr; · ipureintro; rfl
    iexact H5
  iexists _; isplitr
  swap; · iexact H6
  ipureintro
  exact View.read_writes_eq_canon _ _ _ (cover_whole _)

set_option maxHeartbeats 1000000 in
/-- The body on the second visit: the first output is handed back as it was found. -/
theorem sound_second (c : Dev nD) (E : Set ℕ) (i : grid0.Coords) (arg2 : Memref sig .tc .vmem S768x1024 .bf16) (harg2 : arg2.IsWhole) (arg3 : Memref sig .tc .vmem S768x1024 .bf16) (harg3 : arg3.IsWhole) (arg4 : Memref sig .tc .vmem S768x1024 .bf16) (harg4 : arg4.IsWhole) (arg5 : Memref sig .tc .vmem S768x1024 .bf16) (harg5 : arg5.IsWhole) (arg6 : Memref sig .tc .vmem S768x1024 .bf16) (harg6 : arg6.IsWhole) (arg7 : Memref sig .tc .vmem S768x1024 .bf16) (harg7 : arg7.IsWhole) (arg8 : Memref sig .tc .vmem S768x1024 .bf16) (harg8 : arg8.IsWhole)
    (hc1 : ¬k0_cond1 i = 1#1) (hc2 : k0_cond2 i = 1#1) (x0 x1 x2 x3 : Vec F S768x1024 .bf16) (y4 : Vec F S768x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare (leftAttn x0 x3) ∗ owns (c : Thread nD τ) arg8 fullShare (leftGateAttn x0 x2 x3)) -∗ K ⟨⟩))
      ⊢ wp frame (wpE (defs₀ (F := F)) Variants.none c none) E (cc0_merge_bwd i arg2 harg2 arg3 harg3 arg4 harg4 arg5 harg5 arg6 harg6 arg7 harg7 arg8 harg8) K := by
  simp only [cc0_merge_bwd_eq_skeleton]; unfold cc0_merge_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  iexists _; isplitr
  swap; · iexact H6
  ipureintro
  exact View.read_writes_eq_canon _ _ _ (cover_whole _)

/-! ## The points -/

/-- The branch conditions and the idle windows at even and at odd points, decided on the grid. -/
theorem at_even : ∀ t : Fin cfg0.N, t.val % 2 = 0 → k0_cond1 (grid0.coords t) = 1#1 ∧ ¬k0_cond2 (grid0.coords t) = 1#1
    ∧ cfg0.idle 4 (cfg0.grid.coords t) = false ∧ cfg0.idle 5 (cfg0.grid.coords t) = true ∧ cfg0.idle 6 (cfg0.grid.coords t) = false := by
  decide +kernel

theorem at_odd : ∀ t : Fin cfg0.N, ¬t.val % 2 = 0 → ¬k0_cond1 (grid0.coords t) = 1#1 ∧ k0_cond2 (grid0.coords t) = 1#1
    ∧ cfg0.idle 4 (cfg0.grid.coords t) = true ∧ cfg0.idle 5 (cfg0.grid.coords t) = false ∧ cfg0.idle 6 (cfg0.grid.coords t) = false := by
  decide +kernel

/-- The first visit of the block of rows the point `t` works on. -/
def first (t : Fin cfg0.N) : Fin cfg0.N := ⟨t.val / 2 * 2, Nat.lt_of_le_of_lt (Nat.div_mul_le_self _ _) t.isLt⟩

theorem first_even (t : Fin cfg0.N) (h : t.val % 2 = 0) : first t = t := Fin.ext (by simp only [first]; omega)
theorem first_odd (t : Fin cfg0.N) (h : ¬t.val % 2 = 0) :
    first t = first ⟨t.val - 1, Nat.lt_of_le_of_lt (Nat.sub_le _ _) t.isLt⟩ := Fin.ext (by simp only [first]; omega)

/-! ## The proof data -/

/-- What the body leaves in the last output, whose block moves at every point. -/
def gateAt (c : Dev nD) (t : Fin cfg0.N) : Vec F S768x1024 .bf16 :=
  if t.val % 2 = 0 then leftGateRet (iblk m c 0 t) (iblk m c 1 t) (iblk m c 3 t)
  else leftGateAttn (iblk m c 0 t) (iblk m c 2 t) (iblk m c 3 t)

/-- The arrays as the region finds them; after the body each input's buffer at its block, the first output's at
    what the first visit of these rows stored, the second's at what the second visit stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftRet (iblk m c 0 (first t)) (iblk m c 3 (first t))
    | ⟨5, _⟩ => leftAttn (iblk m c 0 t) (iblk m c 3 t)
    | ⟨6, _⟩ => gateAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = leftRet (iblk m c 0 (first t)) (iblk m c 3 (first t)) := by
  dsimp only [dats]
theorem after0_5 (c : Dev nD) (t : Fin cfg0.N) : (dats m 0 c).after 5 t = leftAttn (iblk m c 0 t) (iblk m c 3 t) := by dsimp only [dats]
theorem after0_6 (c : Dev nD) (t : Fin cfg0.N) : (dats m 0 c).after 6 t = gateAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At an odd point the first output's buffer still holds what the point before left. -/
theorem before0_4 (c : Dev nD) (t : Fin cfg0.N) (h : ¬t.val % 2 = 0) (d) : (dats m 0 c).before 4 t d = (dats m 0 c).after 4 t := by
  have hcarry : ∀ t : Fin cfg0.N, ¬t.val % 2 = 0 →
      (dats m 0 c).after 4 t = (dats m 0 c).after 4 ⟨t.val - 1, Nat.lt_of_le_of_lt (Nat.sub_le _ _) t.isLt⟩ := fun t h => by
    rw [after0_4, after0_4, first_odd t h]
  have hfresh : cfg0.fresh 4 t.val = false := by
    obtain ⟨n, hn⟩ : ∃ n, t.val = n + 1 := ⟨t.val - 1, by omega⟩
    have hlt : n < cfg0.N := by have := t.isLt; omega
    have hf : (cfg0.win 4).flush ⟨n, hlt⟩ = false := Bool.eq_false_iff.mpr fun hf => by
      have := (flush0_4 ⟨n, hlt⟩).mp hf; dsimp only at this; omega
    rw [hn, Cfg.fresh_succ cfg0 4 n hlt, (at_even ⟨n, hlt⟩ (show n % 2 = 0 by omega)).2.2.1, hf]
    rfl
  rw [(dats m 0 c).before_out_traj 4 rfl (fun _ _ => rfl) (fun t h0 hi _ => hcarry t fun he => by
      rw [(at_even t he).2.2.1] at hi; exact Bool.false_ne_true hi) t.val t rfl d, hfresh, hcarry t h]
  rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- what it returns on a first visit, -/
def bodyPostFirst (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare ((dats m 0 c).before 5 t d))
    ∗ owns (c : Thread nD τ) (st0_6 t) fullShare ((dats m 0 c).after 6 t))

/-- and what on a second. -/
def bodyPostSecond (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_even (c : Dev nD) (t : Fin cfg0.N) (h : t.val % 2 = 0) :
    bodyPre m c t ⊢ wp frame (wpE (defs₀ (F := F)) Variants.none c none) Set.univ (bodyAt0 t) (fun _ => bodyPostFirst m c t) := by
  unfold bodyPre bodyPostFirst bodyAt0
  obtain ⟨hc1, hc2, -⟩ := at_even t h
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_6, first_even t h, gateAt, if_pos h]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_first c Set.univ (grid0.coords t) _ _ _ _ _ _ _ _ _ _ _ _ _ _ hc1 hc2 (iblk m c 0 t) (iblk m c 1 t) (iblk m c 2 t) (iblk m c 3 t) _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexact H6

theorem sound_odd (c : Dev nD) (t : Fin cfg0.N) (h : ¬t.val % 2 = 0) :
    bodyPre m c t ⊢ wp frame (wpE (defs₀ (F := F)) Variants.none c none) Set.univ (bodyAt0 t) (fun _ => bodyPostSecond m c t) := by
  unfold bodyPre bodyPostSecond bodyAt0
  obtain ⟨hc1, hc2, -⟩ := at_odd t h
  simp only [before0_0, before0_1, before0_2, before0_3, before0_4 m c t h]
  rw [show (dats m 0 c).Φ t.succ = (dats m 0 c).Φ t.castSucc from rfl,
    show (dats m 0 c).owesAt () t.succ = (dats m 0 c).owesAt () t.castSucc from rfl,
    after0_0, after0_1, after0_2, after0_3, after0_5, after0_6, gateAt, if_neg h]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_second c Set.univ (grid0.coords t) _ _ _ _ _ _ _ _ _ _ _ _ _ _ hc1 hc2 (iblk m c 0 t) (iblk m c 1 t) (iblk m c 2 t) (iblk m c 3 t) _ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  by_cases h : t.val % 2 = 0
  · obtain ⟨-, -, i4, i5, i6⟩ := at_even t h
    have f5 : (cfg0.win 5).flush t = false := Bool.eq_false_iff.mpr fun hf => by have := (flush0_5 t).mp hf; omega
    rw [i4, i5, i6, f5]
    exact triple_restated (sound_even m c t h) rfl .rfl fun _ => .rfl
  · obtain ⟨-, -, i4, i5, i6⟩ := at_odd t h
    have f4 : (cfg0.win 4).flush t = true := (flush0_4 t).mpr (by omega)
    rw [i4, i5, i6, f4]
    exact triple_restated (sound_odd m c t h) rfl .rfl fun _ => .rfl

/-! ## The run and the frame -/

set_option backward.isDefEq.respectTransparency.types false in
/-- The launch: every array at what the library computes from the proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.MergeIdeal.Gen

end
-- ==== Proof.Merge.lean ====
/- The gated sum of the two mixers, backward: what the kernel leaves in its three result arrays, index by index, and that
   differentiating the forward lines gives the same arrays. -/
module

public import proofs.«01_k».proof.Proof.Swiglu
public import proofs.«01_k».proof.Proof.MergeIdealFrame
public import proofs.«01_k».proof.Proof.Gen.MergeRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Blocks

open Cert.MergeIdeal Cert.MergeIdeal.Gen
open Cert.SwigluIdeal.Blocks (logis)

/-- The cotangent of a mixer's output, its gate in the columns from `g * 1024` on. -/
def gradMixer (p : Vec Ideal S8448x11264 .bf16) (d : Vec Ideal S8448x1024 .bf16) (g : Fin 11) (r : Fin 8448) (l : Fin 1024) : EReal :=
  d (ix2 r l) * logis (p (ix2 r ⟨g.val * 1024 + l.val, by omega⟩))

/-- The gradient of a gate from its own logit, the cotangent and what it multiplies. -/
def gradLogit (d y a : EReal) : EReal := d * y * logis a * (1 - logis a)

/-- The column of a mixer's output that the gate in column `l` multiplies. -/
def within (l : Fin 11264) : Fin 1024 := ⟨l.val % 1024, Nat.mod_lt _ (by decide)⟩

/-- The gradient of the gates, the retention branch's in the columns before 10240 and the attention's behind them. -/
def gradGate (p : Vec Ideal S8448x11264 .bf16) (yr ys d : Vec Ideal S8448x1024 .bf16) (r : Fin 8448) (l : Fin 11264) : EReal :=
  gradLogit (d (ix2 r (within l))) (if l.val < 10240 then yr (ix2 r (within l)) else ys (ix2 r (within l))) (p (ix2 r l))

section Block
variable (gate y d : Vec Ideal S768x1024 .bf16)

theorem pay3_apply (r : Fin 768) (l : Fin 1024) : k0_pay3 d gate (ix2 r l) = d (ix2 r l) * logis (gate (ix2 r l)) := by
  pointwise [k0_pay3, k0_pay1, k0_pay2]
  simp only [logis, zero_sub]

theorem pay5_apply (r : Fin 768) (l : Fin 1024) : k0_pay5 d gate (ix2 r l) = d (ix2 r l) * logis (gate (ix2 r l)) := by
  pointwise [k0_pay5, k0_pay1, k0_pay2]
  simp only [logis, zero_sub]

theorem pay4_apply (r : Fin 768) (l : Fin 1024) :
    k0_pay4 d gate y (ix2 r l) = gradLogit (d (ix2 r l)) (y (ix2 r l)) (gate (ix2 r l)) := by
  pointwise [k0_pay4, k0_pay1, k0_pay2]
  simp only [gradLogit, logis, zero_sub]

theorem pay6_apply (r : Fin 768) (l : Fin 1024) :
    k0_pay6 d gate y (ix2 r l) = gradLogit (d (ix2 r l)) (y (ix2 r l)) (gate (ix2 r l)) := by
  pointwise [k0_pay6, k0_pay1, k0_pay2]
  simp only [gradLogit, logis, zero_sub]

/-- One stored block, at every index of it. -/
theorem stored (p : Vec Ideal S768x1024 .bf16) : View.canon (Val := Elt Ideal) [⟨whole, p⟩] = p := by
  funext y
  refine View.canon_apply_of_pieces (Val := Elt Ideal) p _ ?_ y (cover_whole _ y)
  simp only [List.mem_cons, List.not_mem_nil, or_false, forall_eq]
  intro x
  idx_vars x
  blk_point [whole]

/-- A load of the whole block. -/
theorem loaded : View.ld (Val := Elt Ideal) y whole = y :=
  View.ld_unit_zero (S := S768x1024) (funext fun a => by fin_cases a <;> rfl) _ y

theorem leftRet_apply (r : Fin 768) (l : Fin 1024) : leftRet gate d (ix2 r l) = d (ix2 r l) * logis (gate (ix2 r l)) := by
  rw [leftRet, stored, pay3_apply]
  rw [loaded, loaded]

theorem leftAttn_apply (r : Fin 768) (l : Fin 1024) : leftAttn gate d (ix2 r l) = d (ix2 r l) * logis (gate (ix2 r l)) := by
  rw [leftAttn, stored, pay5_apply]
  rw [loaded, loaded]

theorem leftGateRet_apply (r : Fin 768) (l : Fin 1024) :
    leftGateRet gate y d (ix2 r l) = gradLogit (d (ix2 r l)) (y (ix2 r l)) (gate (ix2 r l)) := by
  rw [leftGateRet, stored, pay4_apply]
  rw [loaded, loaded, loaded]

theorem leftGateAttn_apply (r : Fin 768) (l : Fin 1024) :
    leftGateAttn gate y d (ix2 r l) = gradLogit (d (ix2 r l)) (y (ix2 r l)) (gate (ix2 r l)) := by
  rw [leftGateAttn, stored, pay6_apply]
  rw [loaded, loaded, loaded]

end Block

variable (m : (ℓ : Loc nD τ sig) → Buf (Elt Ideal) ℓ)

theorem idx : ∀ t : Fin cfg0.N, win0_0.index t = ![t.val / 2, 9 + t.val % 2] ∧ win0_1.index t = ![t.val / 2, 0]
    ∧ win0_2.index t = ![t.val / 2, 0] ∧ win0_3.index t = ![t.val / 2, 0] ∧ win0_4.index t = ![t.val / 2, 0]
    ∧ win0_5.index t = ![t.val / 2, 0] ∧ win0_6.index t = ![t.val / 2, 9 + t.val % 2] :=
  (by decide +kernel : ∀ t : Fin grid0.N, win0_0.index t = ![t.val / 2, 9 + t.val % 2] ∧ win0_1.index t = ![t.val / 2, 0]
    ∧ win0_2.index t = ![t.val / 2, 0] ∧ win0_3.index t = ![t.val / 2, 0] ∧ win0_4.index t = ![t.val / 2, 0]
    ∧ win0_5.index t = ![t.val / 2, 0] ∧ win0_6.index t = ![t.val / 2, 9 + t.val % 2])

theorem points : cfg0.N = 22 := by decide +kernel

/-- Row `r` of the block of point `t` in the whole array. -/
def rowAt (t : Fin cfg0.N) (r : Fin 768) : Fin 8448 := ⟨t.val / 2 * 768 + r.val, by have := t.isLt; have := points; omega⟩

/-- Column `l` of the gate's block of point `t` in the whole array. -/
def colAt (t : Fin cfg0.N) (l : Fin 1024) : Fin 11264 := ⟨(9 + t.val % 2) * 1024 + l.val, by have := l.isLt; omega⟩

theorem within_colAt (t : Fin cfg0.N) (l : Fin 1024) : within (colAt t l) = l := Fin.ext (by
  show ((9 + t.val % 2) * 1024 + l.val) % 1024 = l.val
  have := l.isLt
  omega)

section Inputs
variable (c : Dev nD) (t : Fin cfg0.N) (r : Fin 768) (l : Fin 1024)

theorem iblk0 : iblk m c 0 t (ix2 r l) = m ((c : Thread nD τ).loc main_arg0) (ix2 (rowAt t r) (colAt t l)) := by
  obtain ⟨e, -⟩ := idx t
  simp only [rowAt, colAt]
  blk_point [iblk, V, e]

theorem iblk1 : iblk m c 1 t (ix2 r l) = m ((c : Thread nD τ).loc main_arg1) (ix2 (rowAt t r) l) := by
  obtain ⟨-, e, -⟩ := idx t
  simp only [rowAt]
  blk_point [iblk, V, e]

theorem iblk2 : iblk m c 2 t (ix2 r l) = m ((c : Thread nD τ).loc main_arg2) (ix2 (rowAt t r) l) := by
  obtain ⟨-, -, e, -⟩ := idx t
  simp only [rowAt]
  blk_point [iblk, V, e]

theorem iblk3 : iblk m c 3 t (ix2 r l) = m ((c : Thread nD τ).loc main_arg3) (ix2 (rowAt t r) l) := by
  obtain ⟨-, -, -, e, -⟩ := idx t
  simp only [rowAt]
  blk_point [iblk, V, e]

end Inputs

/-- Blocks that hold the rows and gate columns of a point give those of the gradient. -/
theorem gate_eq (gate y d : Vec Ideal S768x1024 .bf16) (P : Vec Ideal S8448x11264 .bf16) (YR YS D : Vec Ideal S8448x1024 .bf16)
    (t : Fin cfg0.N) (hg : ∀ r l, gate (ix2 r l) = P (ix2 (rowAt t r) (colAt t l))) (hd : ∀ r l, d (ix2 r l) = D (ix2 (rowAt t r) l))
    (hy : ∀ r l, y (ix2 r l) = if t.val % 2 = 0 then YR (ix2 (rowAt t r) l) else YS (ix2 (rowAt t r) l)) (r : Fin 768) (l : Fin 1024) :
    gradLogit (d (ix2 r l)) (y (ix2 r l)) (gate (ix2 r l)) = gradGate P YR YS D (rowAt t r) (colAt t l) := by
  have hl := l.isLt
  have hc : ((colAt t l).val < 10240) = (t.val % 2 = 0) := by
    show ((9 + t.val % 2) * 1024 + l.val < 10240) = (t.val % 2 = 0)
    exact propext (by omega)
  simp only [gradGate, within_colAt, hg, hd, hy, hc]

/-- The cotangent of the retention branch as the kernel leaves it. -/
theorem final4 (c : Dev nD) : (dats m 0 c).arrAt 4 cfg0.N = fun i => gradMixer (m ((c : Thread nD τ).loc main_arg0))
    (m ((c : Thread nD τ).loc main_arg3)) 9 (i 0) (i 1) := by
  refine (dats m 0 c).arrAt_eq_of_covers 4 _ (by decide +kernel) fun t hf y => ?_
  have key (y : S768x1024.Idx) : leftRet (iblk m c 0 (first t)) (iblk m c 3 (first t)) y
      = gradMixer (m ((c : Thread nD τ).loc main_arg0)) (m ((c : Thread nD τ).loc main_arg3)) 9
        (((View.whole main_v0_0).slice (win0_4.rect t)).emb y 0) (((View.whole main_v0_0).slice (win0_4.rect t)).emb y 1) := by
    obtain ⟨-, -, -, -, e, -⟩ := idx t
    idx_vars y
    have hr : rowAt (first t) y0 = rowAt t y0 := Fin.ext (by simp only [rowAt, first]; omega)
    have hc : colAt (first t) y1 = ⟨9 * 1024 + y1.val, by have := y1.isLt; omega⟩ := Fin.ext (by simp only [colAt, first]; omega)
    rw [leftRet_apply, iblk0, iblk3, hr, hc]
    show gradMixer (m ((c : Thread nD τ).loc main_arg0)) (m ((c : Thread nD τ).loc main_arg3)) 9 (rowAt t y0) y1 = _
    refine congrArg₂ (gradMixer _ _ _) (Fin.ext ?_) (Fin.ext ?_) <;> blk_simp [rowAt, e]
  blk_simp
  rw [after0_4]
  exact key y

/-- The cotangent of the attention branch as the kernel leaves it. -/
theorem final5 (c : Dev nD) : (dats m 0 c).arrAt 5 cfg0.N = fun i => gradMixer (m ((c : Thread nD τ).loc main_arg0))
    (m ((c : Thread nD τ).loc main_arg3)) 10 (i 0) (i 1) := by
  refine (dats m 0 c).arrAt_eq_of_covers 5 _ (by decide +kernel) fun t hf y => ?_
  have key (y : S768x1024.Idx) : leftAttn (iblk m c 0 t) (iblk m c 3 t) y
      = gradMixer (m ((c : Thread nD τ).loc main_arg0)) (m ((c : Thread nD τ).loc main_arg3)) 10
        (((View.whole main_v0_1).slice (win0_5.rect t)).emb y 0) (((View.whole main_v0_1).slice (win0_5.rect t)).emb y 1) := by
    obtain ⟨-, -, -, -, -, e, -⟩ := idx t
    idx_vars y
    have ho := (flush0_5 t).mp hf
    have hc : colAt t y1 = ⟨10 * 1024 + y1.val, by have := y1.isLt; omega⟩ := Fin.ext (by simp only [colAt]; omega)
    rw [leftAttn_apply, iblk0, iblk3, hc]
    show gradMixer (m ((c : Thread nD τ).loc main_arg0)) (m ((c : Thread nD τ).loc main_arg3)) 10 (rowAt t y0) y1 = _
    refine congrArg₂ (gradMixer _ _ _) (Fin.ext ?_) (Fin.ext ?_) <;> blk_simp [rowAt, e]
  blk_simp
  rw [after0_5]
  exact key y

/-- The gradient of the gates as the kernel leaves it; the columns in front of them keep what they held. -/
theorem final6 (c : Dev nD) : (dats m 0 c).arrAt 6 cfg0.N = fun i => if 9 ≤ (i 1 : ℕ) / 1024 then
    gradGate (m ((c : Thread nD τ).loc main_arg0)) (m ((c : Thread nD τ).loc main_arg1)) (m ((c : Thread nD τ).loc main_arg2))
      (m ((c : Thread nD τ).loc main_arg3)) (i 0) (i 1) else V m c main_v0_2 i := by
  refine (dats m 0 c).arrAt_eq_of_coversWhere 6 (fun i => gradGate (m ((c : Thread nD τ).loc main_arg0))
    (m ((c : Thread nD τ).loc main_arg1)) (m ((c : Thread nD τ).loc main_arg2)) (m ((c : Thread nD τ).loc main_arg3)) (i 0) (i 1))
    (fun β => 9 ≤ β (1 : Fin _)) (by decide +kernel) (fun t hf y => ?_) (fun j => Iff.rfl)
  have key (y : S768x1024.Idx) : gateAt m c t y
      = gradGate (m ((c : Thread nD τ).loc main_arg0)) (m ((c : Thread nD τ).loc main_arg1)) (m ((c : Thread nD τ).loc main_arg2))
        (m ((c : Thread nD τ).loc main_arg3)) (((View.whole main_v0_2).slice (win0_6.rect t)).emb y 0)
        (((View.whole main_v0_2).slice (win0_6.rect t)).emb y 1) := by
    obtain ⟨-, -, -, -, -, -, e⟩ := idx t
    idx_vars y
    trans gradGate (m ((c : Thread nD τ).loc main_arg0)) (m ((c : Thread nD τ).loc main_arg1)) (m ((c : Thread nD τ).loc main_arg2))
        (m ((c : Thread nD τ).loc main_arg3)) (rowAt t y0) (colAt t y1)
    · by_cases h : t.val % 2 = 0
      · rw [gateAt, if_pos h, leftGateRet_apply]
        exact gate_eq _ _ _ _ _ _ _ t (iblk0 m c t) (iblk3 m c t) (fun r l => by rw [if_pos h]; exact iblk1 m c t r l) y0 y1
      · rw [gateAt, if_neg h, leftGateAttn_apply]
        exact gate_eq _ _ _ _ _ _ _ t (iblk0 m c t) (iblk3 m c t) (fun r l => by rw [if_neg h]; exact iblk2 m c t r l) y0 y1
    · refine congrArg₂ (gradGate _ _ _ _) (Fin.ext ?_) (Fin.ext ?_) <;> blk_simp [rowAt, colAt, e]
  blk_simp
  rw [after0_6]
  exact key y

/-- The kernel's run with its three results named. -/
theorem run (ρ : Dev nD → PrngReg) : θ_run defs (onTc (τ := τ) (main (F := Ideal))) ⟨m, fun _ => 0, ρ⟩ fun r => ∀ c : Dev nD,
    r.2.mem ((c : Thread nD τ).loc main_v0_0) = (dats m 0 c).arrAt 4 cfg0.N
    ∧ r.2.mem ((c : Thread nD τ).loc main_v0_1) = (dats m 0 c).arrAt 5 cfg0.N
    ∧ r.2.mem ((c : Thread nD τ).loc main_v0_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨(h.1 c).1 4, (h.1 c).1 5, (h.1 c).1 6, h.2 c⟩)
    (θ_run_and (run_main m ρ) (frame_of m ρ (dats m) (A_eq m) (run_main m ρ)))

end Cert.MergeIdeal.Blocks

namespace Cert.MergeRefIdeal.Gradient

open Cert.MergeRefIdeal Cert.MergeRefIdeal.Read Cert.MergeIdeal.Blocks
open Cert.SwigluIdeal.Blocks (logis)

variable (p : Vec Ideal S8448x11264 .bf16) (yr ys d : Vec Ideal S8448x1024 .bf16)

theorem ret (r : Fin 8448) (l : Fin 1024) : val_main_v36 p d (ix2 r l) = gradMixer p d 9 r l := by
  pointwise [val_main_v0, val_main_v1, val_main_v2, val_main_v3, val_main_v4, val_main_v5, val_main_v6, val_main_v7,
    val_main_cst, val_main_v8, val_main_v9, val_main_cst_0, val_main_v10, val_main_v11, val_main_cst_1,
    val_main_v12, val_main_v13, val_main_v14, val_main_v15, val_main_v16, val_main_v17, val_main_cst_2,
    val_main_v18, val_main_v19, val_main_cst_3, val_main_v20, val_main_v21, val_main_cst_4, val_main_v22,
    val_main_v23, val_main_v24, val_main_v25, val_main_v26, val_main_v27, val_main_v28, val_main_v29,
    val_main_v30, val_main_v31, val_main_v32, val_main_v33, val_main_v36, val_main_v37]
  rw [gradMixer, logis, mul_comm]
  rfl

theorem attn (r : Fin 8448) (l : Fin 1024) : val_main_v37 p d (ix2 r l) = gradMixer p d 10 r l := by
  pointwise [val_main_v0, val_main_v1, val_main_v2, val_main_v3, val_main_v4, val_main_v5, val_main_v6, val_main_v7,
    val_main_cst, val_main_v8, val_main_v9, val_main_cst_0, val_main_v10, val_main_v11, val_main_cst_1,
    val_main_v12, val_main_v13, val_main_v14, val_main_v15, val_main_v16, val_main_v17, val_main_cst_2,
    val_main_v18, val_main_v19, val_main_cst_3, val_main_v20, val_main_v21, val_main_cst_4, val_main_v22,
    val_main_v23, val_main_v24, val_main_v25, val_main_v26, val_main_v27, val_main_v28, val_main_v29,
    val_main_v30, val_main_v31, val_main_v32, val_main_v33, val_main_v36, val_main_v37]
  rw [gradMixer, logis, mul_comm]
  rfl

theorem gates (r : Fin 8448) (l : Fin 11264) (h : 9216 ≤ l.val) : val_main_v38 p yr ys d (ix2 r l) = gradGate p yr ys d r l := by
  pointwise [val_main_v0, val_main_v1, val_main_v2, val_main_v3, val_main_v4, val_main_v5, val_main_v6, val_main_v7,
    val_main_cst, val_main_v8, val_main_v9, val_main_cst_0, val_main_v10, val_main_v11, val_main_cst_1,
    val_main_v12, val_main_v13, val_main_v14, val_main_v15, val_main_v16, val_main_v17, val_main_cst_2,
    val_main_v18, val_main_v19, val_main_cst_3, val_main_v20, val_main_v21, val_main_cst_4, val_main_v22,
    val_main_v23, val_main_v24, val_main_v25, val_main_v26, val_main_v27, val_main_v28, val_main_v29,
    val_main_v30, val_main_v31, val_main_v32, val_main_v33, val_main_cst_5, val_main_v34, val_main_v35,
    val_main_v36, val_main_v37, val_main_v38]
  have hl := l.isLt
  rw [dif_neg (by omega), gradGate, gradLogit, logis, mul_assoc (d _ * _)]
  by_cases hs : l.val < 10240
  · have e : (⟨l.val - 9216, by omega⟩ : Fin 1024) = within l := Fin.ext (by simp only [within]; omega)
    have e' : (⟨9216 + (l.val - 9216), by omega⟩ : Fin 11264) = l := Fin.ext (by simp only; omega)
    rw [dif_pos (by omega), if_pos hs]
    simp only [e, e']
  · have e : (⟨l.val - 9216 - 1024, by omega⟩ : Fin 1024) = within l := Fin.ext (by simp only [within]; omega)
    have e' : (⟨10240 + (l.val - 9216 - 1024), by omega⟩ : Fin 11264) = l := Fin.ext (by simp only; omega)
    rw [dif_neg (by omega), if_neg hs]
    simp only [e, e']

end Cert.MergeRefIdeal.Gradient

end
-- ==== Proof.MergeClaims.lean ====
/- The gated sum of the two mixers, backward: the claims. -/
module

public import proofs.«01_k».proof.Defs
public import proofs.«01_k».proof.Proof.Merge
public import proofs.«01_k».proof.Proof.MergeIdealFrame
public import proofs.«01_k».proof.Proof.Gen.Merge.Frame
public import proofs.«01_k».proof.Proof.Gen.MergeRefIdeal.Run
public import proofs.«01_k».proof.Proof.Gen.On_gate_columns
public import Idealize.ShloMosaic.Lib.Quiescent
public import Idealize.ShloMosaic.Lib.WordCmp

@[expose] public section

set_option maxRecDepth 16384

noncomputable section

open Idealize.ShloMosaic Idealize.ShloMosaic.TcCoe Idealize.SL.Sem

namespace Cert.MergeClaims

theorem frame : Cert.quiescent_Merge := fun m ρ _ => Eq.mp (by sl_kernel_rfl) (Cert.MergeIdeal.Gen.frame (F := Bits) m ρ)

theorem frame_ideal : Cert.quiescent_MergeIdeal := fun m ρ _ => Cert.MergeIdeal.Gen.frame m ρ

theorem frame_ref : Cert.quiescent_MergeRefIdeal := fun m ρ _ =>
  (θ_run Cert.MergeRefIdeal.defs _ _).mono (fun r h => ⟨fun c => (h c).2.2.2,
      Idealize.ShloMosaic.sem_eq_zero_of_no_sems (by decide) r.2⟩)
    (Cert.MergeRefIdeal.Value.run (F := Ideal) m ρ)

theorem preserves : Cert.preserves_Merge_MergeIdeal := trivial

/-- The columns the claim speaks of are the gates'. -/
theorem gate_column {x0 : FVec Ideal Cert.On_gate_columns.S8448x11264 .bf16} {x1 x2 x3 : FVec Ideal Cert.On_gate_columns.S8448x1024 .bf16}
    (r : Fin 8448) (l : Fin 11264) (h : (Cert.On_gate_columns.fn (F := Ideal) x0 x1 x2 x3).2.2 (ix2 r l) = 1#1) : 9216 ≤ l.val := by
  have hl := l.isLt
  exact (WordCmp.cmpi_sge_ofNat_eq_one_iff (w := 32) (by omega) (by omega)).mp h

open Cert.MergeIdeal.Blocks Cert.MergeRefIdeal.Gradient in
theorem algebraic : Cert.algebraic_MergeIdeal_MergeRefIdeal_on_gate_columns := by
  intro m ρ m' ρ' hpre hagree
  refine ⟨fun c => (Cert.MergeIdeal.Gen.dats m 0 c).arrAt 4 Cert.MergeIdeal.cfg0.N,
    fun c => (Cert.MergeIdeal.Gen.dats m 0 c).arrAt 5 Cert.MergeIdeal.cfg0.N, fun c i => gradGate (m ((c.tc : Thread _ _).loc Cert.MergeIdeal.main_arg0)) (m ((c.tc : Thread _ _).loc Cert.MergeIdeal.main_arg1))
    (m ((c.tc : Thread _ _).loc Cert.MergeIdeal.main_arg2)) (m ((c.tc : Thread _ _).loc Cert.MergeIdeal.main_arg3)) (i 0) (i 1),
    (θ_run Cert.MergeIdeal.defs _ _).mono (fun r h c => ?_) (Cert.MergeIdeal.Blocks.run m ρ),
    (θ_run Cert.MergeRefIdeal.defs _ _).mono (fun r h c => ?_) (Cert.MergeRefIdeal.Value.run (F := Ideal) m' ρ')⟩
  · obtain ⟨h0, h1, h2, kept⟩ := h c
    refine ⟨fun i _ => congrFun h0 i, fun i _ => congrFun h1 i, fun i hi => ?_, kept⟩
    beta_reduce
    rw [h2, final6]
    idx_vars i
    have := gate_column i0 i1 hi
    exact if_pos (show 9 ≤ i1.val / 1024 by omega)
  · obtain ⟨a0, a1, a2, a3⟩ := hagree c
    obtain ⟨h0, h1, h2, kept⟩ := h c
    refine ⟨fun i _ => ?_, fun i _ => ?_, fun i hi => ?_, kept⟩
    · beta_reduce
      rw [h0, final4, Cert.MergeRefIdeal.Read.val_main_v36_eq, a0, a3]
      idx_vars i
      exact ret _ _ _ _
    · beta_reduce
      rw [h1, final5, Cert.MergeRefIdeal.Read.val_main_v37_eq, a0, a3]
      idx_vars i
      exact attn _ _ _ _
    · beta_reduce
      rw [h2, Cert.MergeRefIdeal.Read.val_main_v38_eq, a0, a1, a2, a3]
      idx_vars i
      exact gates _ _ _ _ _ _ (gate_column i0 i1 hi)

end Cert.MergeClaims

end
-- ==== Proof.PreMix.lean ====
/- The norm in front of the mixers, backward: what the kernel leaves in its two result arrays, index by index, and that
   differentiating the forward lines gives the same arrays. -/
module

public import proofs.«01_k».proof.Proof.Norm
public import proofs.«01_k».proof.Proof.Gen.PreMixIdeal.Value
public import proofs.«01_k».proof.Proof.Gen.PreMixRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PreMixIdeal.Blocks

open Cert.PreMixIdeal Cert.PreMixIdeal.Gen

/-- The gradient at the norm's input: the residual path plus the norm's own. -/
def gradH (h : Vec Ideal S8448x1024 .f32) (dn : Vec Ideal S8448x1024 .bf16) (g : Vec Ideal S1x1024 .f32)
    (d : Vec Ideal S8448x1024 .f32) (r : Fin 8448) (l : Fin 1024) : EReal :=
  d (ix2 r l) + Norm.back (fun k => h (ix2 r k)) (fun k => dn (ix2 r k) * g (ix2 0 k)) l

/-- One row's part of the gradient at the gain. -/
def gainRow (h : Vec Ideal S8448x1024 .f32) (dn : Vec Ideal S8448x1024 .bf16) (r : Fin 8448) (l : Fin 1024) : EReal :=
  dn (ix2 r l) * (h (ix2 r l) * Norm.rstd fun k => h (ix2 r k))

theorem pay6_apply (h : Vec Ideal S384x1024 .f32) (dn : Vec Ideal S384x1024 .bf16) (d : Vec Ideal S384x1024 .f32)
    (g : Vec Ideal S1x1024 .f32) (r : Fin 384) (l : Fin 1024) :
    k0_pay6 h dn d g (ix2 r l)
      = d (ix2 r l) + Norm.back (fun k => h (ix2 r k)) (fun k => dn (ix2 r k) * g (ix2 0 k)) l := by
  pointwise [k0_pay6, k0_pay5, k0_pay4, k0_pay3]
  simp only [Norm.back, Norm.rstd, Norm.ms, Norm.ofBits_1024, Norm.ofBits_eps]

theorem pay8_apply (h : Vec Ideal S384x1024 .f32) (dn : Vec Ideal S384x1024 .bf16) (l : Fin 1024) :
    k0_pay8 h dn (ix2 0 l) = ∑ r : Fin 384, dn (ix2 r l) * (h (ix2 r l) * Norm.rstd fun k => h (ix2 r k)) := by
  pointwise [k0_pay8, k0_pay5, k0_pay4, k0_pay3]
  simp only [Norm.rstd, Norm.ms, Norm.ofBits_1024, Norm.ofBits_eps]

theorem pay1_apply (a : Vec Ideal S8x1024 .f32) (s : Vec Ideal S1x1024 .f32) (i : S8x1024.Idx) :
    k0_pay1 (k0_pay7 a) s i = a i + s (ix2 0 (i 1)) := by
  pointwise [k0_pay1, k0_pay7]

theorem pay2_apply (i : S8x1024.Idx) : k0_pay2 (F := Ideal) i = 0 := by
  pointwise [k0_pay2]

variable (m : (ℓ : Loc nD τ sig) → Buf (Elt Ideal) ℓ) (ρ : Dev nD → PrngReg)

theorem idx : ∀ t : Fin cfg0.N, win0_0.index t = ![t.val, 0] ∧ win0_1.index t = ![t.val, 0]
    ∧ win0_2.index t = ![0, 0] ∧ win0_3.index t = ![t.val, 0] ∧ win0_4.index t = ![t.val, 0] :=
  (by decide +kernel : ∀ t : Fin grid0.N, win0_0.index t = ![t.val, 0] ∧ win0_1.index t = ![t.val, 0]
    ∧ win0_2.index t = ![0, 0] ∧ win0_3.index t = ![t.val, 0] ∧ win0_4.index t = ![t.val, 0])

/-- The array of the first result after the run. -/
theorem final4 (c : Dev nD) : (dats m 0 c).arrAt 4 cfg0.N = fun i => gradH (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  obtain ⟨e0, e1, e2, e3, e4⟩ := idx t
  blk_simp
  rw [after0_4]
  have key : k0_pay6 (iblk m c 0 t) (iblk m c 1 t) (iblk m c 3 t) (iblk m c 2 t) y =
      gradH (m ((c : Thread nD τ).loc main_arg0)) (m ((c : Thread nD τ).loc main_arg1)) (m ((c : Thread nD τ).loc main_arg2))
        (m ((c : Thread nD τ).loc main_arg3)) (((View.whole main_v0_0).slice (win0_4.rect t)).emb y 0)
        (((View.whole main_v0_0).slice (win0_4.rect t)).emb y 1) := by
    idx_vars y
    erw [pay6_apply]
    simp only [gradH]
    blk_point [iblk, V, e0, e1, e2, e3, e4]
  by_cases h0 : t.val % 22 = 0
  · rw [outsAt0_A m c t h0]; frame_out; exact key
  · rw [outsAt0_B m c t h0]; frame_out; exact key

theorem points : cfg0.N = 22 := by decide +kernel

/-- The last grid point. -/
def last : Fin cfg0.N := ⟨21, by decide +kernel⟩

/-- A grid point's part of the gradient at the gain. -/
theorem step (c : Dev nD) (t : Fin cfg0.N) (l : Fin 1024) : k0_pay8 (iblk m c 0 t) (iblk m c 1 t) (ix2 0 l)
    = ∑ r : Fin 384, gainRow (m ((c : Thread nD τ).loc main_arg0)) (m ((c : Thread nD τ).loc main_arg1))
        ⟨t.val * 384 + r.val, by have := t.isLt; have := points; omega⟩ l := by
  obtain ⟨e0, e1, e2, e3, e4⟩ := idx t
  erw [pay8_apply]
  simp only [gainRow]
  blk_point [iblk, V, e0, e1, e2, e3, e4]

/-- The second result: the column sums over all rows. -/
theorem final5 (c : Dev nD) : (dats m 0 c).arrAt 5 cfg0.N = fun i => ∑ r : Fin 8448, gainRow (m ((c : Thread nD τ).loc main_arg0))
    (m ((c : Thread nD τ).loc main_arg1)) r (i 1) := by
  refine (dats m 0 c).arrAt_eq_of_after_last 5 last (by decide +kernel) _ fun j => ?_
  blk_simp
  rw [after0_5]
  refine (Pipeline.eq_sum_fin_of_reset_step_apply_last (fun n h => (outsAt0 m c n h).2) 22
    (fun _ => 0) (fun t j => k0_pay8 (iblk m c 0 t) (iblk m c 1 t) (ix2 0 (j 1))) ?_ ?_ ?_ last rfl j).trans ?_
  · intro t h i
    rw [outsAt0_A m c t h]
    frame_out
    rw [pay1_apply, pay2_apply]
  · intro t h i
    rw [outsAt0_B m c t h]
    frame_out
    rw [pay1_apply]
  · exact points.le
  · rw [zero_add]
    refine (Finset.sum_congr rfl fun t _ => step m c t (j 1)).trans ?_
    exact Fin.sum_mul_add_congr (fun t r hl => rfl) (by rw [points])

end Cert.PreMixIdeal.Blocks

namespace Cert.PreMixRefIdeal.Gradient

open Cert.PreMixRefIdeal Cert.PreMixRefIdeal.Read

theorem first (h : Vec Ideal S8448x1024 .f32) (dn : Vec Ideal S8448x1024 .bf16) (g : Vec Ideal S1x1024 .f32)
    (d : Vec Ideal S8448x1024 .f32) (r : Fin 8448) (l : Fin 1024) :
    val_main_v35 h dn g d (ix2 r l) = Cert.PreMixIdeal.Blocks.gradH h dn g d r l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Cert.PreMixIdeal.Blocks.gradH, Norm.back_eq, Norm.through, Norm.rstd, Norm.ms, Norm.ofBits_1024, Norm.ofBits_eps,
    Norm.ofBits_neg_half, Fin.sum_univ_one, add_assoc]

theorem second (h : Vec Ideal S8448x1024 .f32) (dn : Vec Ideal S8448x1024 .bf16) (i : S8x1024.Idx) :
    val_main_v36 h dn i = ∑ r : Fin 8448, Cert.PreMixIdeal.Blocks.gainRow h dn r (i 1) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Cert.PreMixIdeal.Blocks.gainRow, Norm.rstd, Norm.ms, Norm.ofBits_1024, Norm.ofBits_eps]
  exact Finset.sum_congr rfl fun r _ => mul_comm _ _

end Cert.PreMixRefIdeal.Gradient

end
-- ==== Proof.PreMixClaims.lean ====
/- The norm in front of the mixers, backward: the claims. -/
module

public import proofs.«01_k».proof.Defs
public import proofs.«01_k».proof.Proof.PreMix
public import proofs.«01_k».proof.Proof.Gen.PreMix.Frame
public import proofs.«01_k».proof.Proof.Gen.PreMixRefIdeal.Run
public import Idealize.ShloMosaic.Lib.Quiescent

@[expose] public section

set_option maxRecDepth 16384

noncomputable section

open Idealize.ShloMosaic Idealize.ShloMosaic.TcCoe Idealize.SL.Sem

namespace Cert.PreMixClaims

theorem frame : Cert.quiescent_PreMix := fun m ρ _ => Cert.PreMix.Gen.frame m ρ

theorem frame_ideal : Cert.quiescent_PreMixIdeal := fun m ρ _ => Cert.PreMixIdeal.Gen.frame m ρ

theorem frame_ref : Cert.quiescent_PreMixRefIdeal := fun m ρ _ =>
  (θ_run Cert.PreMixRefIdeal.defs _ _).mono (fun r h => ⟨fun c => (h c).2.2,
      Idealize.ShloMosaic.sem_eq_zero_of_no_sems (by decide) r.2⟩)
    (Cert.PreMixRefIdeal.Value.run (F := Ideal) m ρ)

theorem preserves : Cert.preserves_PreMix_PreMixIdeal := trivial

open Cert.PreMixIdeal.Blocks Cert.PreMixRefIdeal.Gradient in
theorem algebraic : Cert.algebraic_PreMixIdeal_PreMixRefIdeal := by
  intro m ρ m' ρ' _ hagree
  refine ⟨_, _, Cert.PreMixIdeal.Value.run_blocks m ρ, ?_⟩
  refine (θ_run Cert.PreMixRefIdeal.defs _ _).mono (fun r h c => ?_) (Cert.PreMixRefIdeal.Value.run (F := Ideal) m' ρ')
  obtain ⟨a0, a1, a2, a3⟩ := hagree c
  obtain ⟨h0, h1, kept⟩ := h c
  refine ⟨?_, ?_, kept⟩
  · rw [h0, final4, Cert.PreMixRefIdeal.Read.val_main_v35_eq, a0, a1, a2, a3]
    exact funext fun i => by idx_vars i; exact first _ _ _ _ _ _
  · rw [h1, final5, Cert.PreMixRefIdeal.Read.val_main_v36_eq, a0, a1]
    exact funext fun i => second _ _ i

end Cert.PreMixClaims

end
-- ==== Proof.PostMix.lean ====
/- The norm behind the mixers and the norm in front of the feed-forward part, backward: what the kernel leaves in its four
   result arrays, index by index, and that differentiating the forward lines gives the same arrays. -/
module

public import proofs.«01_k».proof.Proof.Norm
public import proofs.«01_k».proof.Proof.Gen.PostMixIdeal.Value
public import proofs.«01_k».proof.Proof.Gen.PostMixRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostMixIdeal.Blocks

open Cert.PostMixIdeal Cert.PostMixIdeal.Gen

/-- The hidden state behind the mixers: the residual path plus the normed mixer output. -/
def mid (h : Vec Ideal S8448x1024 .f32) (mix : Vec Ideal S8448x1024 .bf16) (gq : Vec Ideal S1x1024 .f32)
    (r : Fin 8448) (l : Fin 1024) : EReal :=
  h (ix2 r l) + mix (ix2 r l) * (Norm.rstd fun k => mix (ix2 r k)) * gq (ix2 0 l)

/-- The gradient at a hidden state `x` that a norm with the gain `g` reads: the residual path plus the norm's own. -/
def gradMid (x : Fin 8448 → Fin 1024 → EReal) (dn : Vec Ideal S8448x1024 .bf16) (g : Vec Ideal S1x1024 .f32)
    (d : Vec Ideal S8448x1024 .f32) (r : Fin 8448) (l : Fin 1024) : EReal :=
  d (ix2 r l) + Norm.back (x r) (fun k => dn (ix2 r k) * g (ix2 0 k)) l

/-- The gradient at the mixer output, `d` the gradient at its norm. -/
def gradMix (mix : Vec Ideal S8448x1024 .bf16) (g : Vec Ideal S1x1024 .f32) (d : Fin 8448 → Fin 1024 → EReal)
    (r : Fin 8448) (l : Fin 1024) : EReal :=
  Norm.back (fun k => mix (ix2 r k)) (fun k => d r k * g (ix2 0 k)) l

/-- One row's part of the gradient at the gain of the norm of `x`, `d` the gradient at the norm. -/
def gainRow (x d : Fin 8448 → Fin 1024 → EReal) (r : Fin 8448) (l : Fin 1024) : EReal :=
  d r l * (x r l * Norm.rstd (x r))

theorem pay7_apply (h : Vec Ideal S384x1024 .f32) (dn : Vec Ideal S384x1024 .bf16) (d : Vec Ideal S384x1024 .f32)
    (g : Vec Ideal S1x1024 .f32) (r : Fin 384) (l : Fin 1024) :
    k0_pay7 h dn d g (ix2 r l)
      = d (ix2 r l) + Norm.back (fun k => h (ix2 r k)) (fun k => dn (ix2 r k) * g (ix2 0 k)) l := by
  pointwise [k0_pay7, k0_pay6, k0_pay5, k0_pay4, k0_pay3]
  simp only [Norm.back, Norm.rstd, Norm.ms, Norm.ofBits_1024, Norm.ofBits_eps]

theorem pay14_apply (d : Vec Ideal S384x1024 .f32) (x : Vec Ideal S384x1024 .bf16) (g : Vec Ideal S1x1024 .f32)
    (r : Fin 384) (l : Fin 1024) :
    k0_pay14 d x g (ix2 r l) = Norm.back (fun k => x (ix2 r k)) (fun k => d (ix2 r k) * g (ix2 0 k)) l := by
  pointwise [k0_pay14, k0_pay13, k0_pay12, k0_pay11]
  simp only [Norm.back, Norm.rstd, Norm.ms, Norm.ofBits_1024, Norm.ofBits_eps]

theorem pay10_apply (a : Vec Ideal S8x1024 .f32) (h : Vec Ideal S384x1024 .f32) (dn : Vec Ideal S384x1024 .bf16)
    (i : S8x1024.Idx) : k0_pay10 (k0_pay8 a) (k0_pay9 h dn) i
      = a i + ∑ r : Fin 384, dn (ix2 r (i 1)) * (h (ix2 r (i 1)) * Norm.rstd fun k => h (ix2 r k)) := by
  pointwise [k0_pay10, k0_pay8, k0_pay9, k0_pay6, k0_pay5, k0_pay4, k0_pay3]
  simp only [Norm.rstd, Norm.ms, Norm.ofBits_1024, Norm.ofBits_eps]

theorem pay15_apply (d : Vec Ideal S384x1024 .f32) (x : Vec Ideal S384x1024 .bf16) (a : Vec Ideal S8x1024 .f32)
    (q : Fin 8) (l : Fin 1024) : k0_pay15 d x a (ix2 q l)
      = a (ix2 q l) + ∑ r : Fin 384, d (ix2 r l) * (x (ix2 r l) * Norm.rstd fun k => x (ix2 r k)) := by
  pointwise [k0_pay15, k0_pay13, k0_pay12, k0_pay11]
  simp only [Norm.rstd, Norm.ms, Norm.ofBits_1024, Norm.ofBits_eps]

theorem pay1_apply (i : S8x1024.Idx) : k0_pay1 (F := Ideal) i = 0 := by
  pointwise [k0_pay1]

theorem pay2_apply (i : S8x1024.Idx) : k0_pay2 (F := Ideal) i = 0 := by
  pointwise [k0_pay2]

variable (m : (ℓ : Loc nD τ sig) → Buf (Elt Ideal) ℓ) (ρ : Dev nD → PrngReg)

/-- What the host lines in front of the kernel leave in its first operand. -/
theorem mid_eq (c : Dev nD) : (fun r l => V m c main_v13 (ix2 r l))
    = mid (m ((c : Thread nD τ).loc main_arg0)) (m ((c : Thread nD τ).loc main_arg4)) (m ((c : Thread nD τ).loc main_arg5)) := by
  funext r l
  entry_read
  pointwise [mid]
  simp only [Norm.rstd, Norm.ms, Norm.ofBits_1024, Norm.ofBits_eps]

theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, 0]
    ∧ win0_6.index t = ![t.val, 0] ∧ win0_7.index t = ![t.val, 0] :=
  (by decide +kernel : ∀ t : Fin grid0.N, win0_0.index t = ![t.val, 0] ∧ win0_1.index t = ![t.val, 0]
    ∧ win0_2.index t = ![0, 0] ∧ win0_3.index t = ![t.val, 0] ∧ win0_4.index t = ![t.val, 0] ∧ win0_5.index t = ![0, 0]
    ∧ win0_6.index t = ![t.val, 0] ∧ win0_7.index t = ![t.val, 0])

theorem points : cfg0.N = 22 := by decide +kernel

/-- The last grid point. -/
def last : Fin cfg0.N := ⟨21, by decide +kernel⟩

/-- The array row that row `r` of grid point `t`'s blocks is. -/
def rowAt (t : Fin cfg0.N) (r : Fin 384) : Fin 8448 := ⟨t.val * 384 + r.val, by have := t.isLt; have := points; omega⟩

/-- The kernel's gradient at the hidden state, on all rows. -/
def dMid (c : Dev nD) : Fin 8448 → Fin 1024 → EReal :=
  gradMid (fun r l => V m c main_v13 (ix2 r l)) (m ((c : Thread nD τ).loc main_arg1)) (m ((c : Thread nD τ).loc main_arg2))
    (m ((c : Thread nD τ).loc main_arg3))

/-- A grid point's block of the gradient at the hidden state. -/
theorem block (c : Dev nD) (t : Fin cfg0.N) (r : Fin 384) (l : Fin 1024) :
    k0_pay7 (iblk m c 0 t) (iblk m c 1 t) (iblk m c 3 t) (iblk m c 2 t) (ix2 r l) = dMid m c (rowAt t r) l := by
  obtain ⟨e0, e1, e2, e3, e4, e5, e6, e7⟩ := idx t
  erw [pay7_apply]
  simp only [dMid, gradMid, rowAt]
  blk_point [iblk, V, e0, e1, e2, e3, e4]

/-- A grid point's block of the mixer output. -/
theorem mix_block (c : Dev nD) (t : Fin cfg0.N) (r : Fin 384) (l : Fin 1024) :
    iblk m c 4 t (ix2 r l) = m ((c : Thread nD τ).loc main_arg4) (ix2 (rowAt t r) l) := by
  obtain ⟨e0, e1, e2, e3, e4, e5, e6, e7⟩ := idx t
  simp only [rowAt]
  blk_point [iblk, V, e4]

/-- A grid point's block of the gain. -/
theorem gain_block (c : Dev nD) (t : Fin cfg0.N) (l : Fin 1024) :
    iblk m c 5 t (ix2 0 l) = m ((c : Thread nD τ).loc main_arg5) (ix2 0 l) := by
  obtain ⟨e0, e1, e2, e3, e4, e5, e6, e7⟩ := idx t
  blk_point [iblk, V, e5]

/-- The array of the first result after the run. -/
theorem final6 (c : Dev nD) : (dats m 0 c).arrAt 6 cfg0.N = fun i => dMid m c (i 0) (i 1) := by
  refine (dats m 0 c).arrAt_eq_of_covers 6 _ (by decide +kernel) fun t hf y => ?_
  have key (y : S384x1024.Idx) : k0_pay7 (iblk m c 0 t) (iblk m c 1 t) (iblk m c 3 t) (iblk m c 2 t) y
      = dMid m c (((View.whole main_v14_0).slice (win0_6.rect t)).emb y 0) (((View.whole main_v14_0).slice (win0_6.rect t)).emb y 1) := by
    obtain ⟨e0, e1, e2, e3, e4, e5, e6, e7⟩ := idx t
    idx_vars y
    rw [block]
    refine congrArg₂ (dMid m c) (Fin.ext ?_) (Fin.ext ?_) <;> blk_simp [rowAt, e6]
  blk_simp
  rw [after0_6]
  by_cases h0 : t.val % 22 = 0
  · rw [outsAt0_A m c t h0]; frame_out; exact key y
  · rw [outsAt0_B m c t h0]; frame_out; exact key y

/-- The array of the second result after the run. -/
theorem final7 (c : Dev nD) : (dats m 0 c).arrAt 7 cfg0.N = fun i => gradMix (m ((c : Thread nD τ).loc main_arg4))
    (m ((c : Thread nD τ).loc main_arg5)) (dMid m c) (i 0) (i 1) := by
  refine (dats m 0 c).arrAt_eq_of_covers 7 _ (by decide +kernel) fun t hf y => ?_
  have key (y : S384x1024.Idx) : k0_pay14 (k0_pay7 (iblk m c 0 t) (iblk m c 1 t) (iblk m c 3 t) (iblk m c 2 t)) (iblk m c 4 t) (iblk m c 5 t) y
      = gradMix (m ((c : Thread nD τ).loc main_arg4)) (m ((c : Thread nD τ).loc main_arg5)) (dMid m c)
        (((View.whole main_v14_1).slice (win0_7.rect t)).emb y 0) (((View.whole main_v14_1).slice (win0_7.rect t)).emb y 1) := by
    obtain ⟨e0, e1, e2, e3, e4, e5, e6, e7⟩ := idx t
    idx_vars y
    rw [pay14_apply]
    simp only [block, mix_block, gain_block]
    refine congrArg₂ (gradMix _ _ (dMid m c)) (Fin.ext ?_) (Fin.ext ?_) <;> blk_simp [rowAt, e7]
  blk_simp
  rw [after0_7]
  by_cases h0 : t.val % 22 = 0
  · rw [outsAt0_A m c t h0]; frame_out; exact key y
  · rw [outsAt0_B m c t h0]; frame_out; exact key y

/-- A grid point's part of the gradient at the first gain. -/
theorem step8 (c : Dev nD) (t : Fin cfg0.N) (a : Vec Ideal S8x1024 .f32) (i : S8x1024.Idx) :
    k0_pay10 (k0_pay8 a) (k0_pay9 (iblk m c 0 t) (iblk m c 1 t)) i = a i + ∑ r : Fin 384,
      gainRow (fun r l => V m c main_v13 (ix2 r l)) (fun r l => m ((c : Thread nD τ).loc main_arg1) (ix2 r l)) (rowAt t r) (i 1) := by
  obtain ⟨e0, e1, e2, e3, e4, e5, e6, e7⟩ := idx t
  idx_vars i
  rw [pay10_apply]
  simp only [gainRow, rowAt]
  blk_point [iblk, V, e0, e1]

/-- The third result: the column sums over all rows. -/
theorem final8 (c : Dev nD) : (dats m 0 c).arrAt 8 cfg0.N = fun i => ∑ r : Fin 8448, gainRow (fun r l => V m c main_v13 (ix2 r l))
    (fun r l => m ((c : Thread nD τ).loc main_arg1) (ix2 r l)) r (i 1) := by
  refine (dats m 0 c).arrAt_eq_of_after_last 8 last (by decide +kernel) _ fun j => ?_
  blk_simp
  rw [after0_8]
  refine (Pipeline.eq_sum_fin_of_reset_step_apply_last (fun n h => (outsAt0 m c n h).2.2.1) 22 (fun _ => 0)
    (fun t j => ∑ r : Fin 384, gainRow (fun r l => V m c main_v13 (ix2 r l))
      (fun r l => m ((c : Thread nD τ).loc main_arg1) (ix2 r l)) (rowAt t r) (j 1)) ?_ ?_ points.le last rfl j).trans ?_
  · intro t h i
    rw [outsAt0_A m c t h]
    frame_out
    rw [step8, pay1_apply]
  · intro t h i
    rw [outsAt0_B m c t h]
    frame_out
    exact step8 m c t _ i
  · rw [zero_add]
    exact Fin.sum_mul_add_congr (fun t r hl => rfl) (by rw [points])

/-- A grid point's part of the gradient at the second gain. -/
theorem step9 (c : Dev nD) (t : Fin cfg0.N) (a : Vec Ideal S8x1024 .f32) (i : S8x1024.Idx) :
    k0_pay15 (k0_pay7 (iblk m c 0 t) (iblk m c 1 t) (iblk m c 3 t) (iblk m c 2 t)) (iblk m c 4 t) a i = a i + ∑ r : Fin 384,
      gainRow (fun r l => m ((c : Thread nD τ).loc main_arg4) (ix2 r l)) (dMid m c) (rowAt t r) (i 1) := by
  idx_vars i
  rw [pay15_apply]
  simp only [gainRow, block, mix_block]

/-- The fourth result: the column sums over all rows. -/
theorem final9 (c : Dev nD) : (dats m 0 c).arrAt 9 cfg0.N = fun i => ∑ r : Fin 8448,
    gainRow (fun r l => m ((c : Thread nD τ).loc main_arg4) (ix2 r l)) (dMid m c) r (i 1) := by
  refine (dats m 0 c).arrAt_eq_of_after_last 9 last (by decide +kernel) _ fun j => ?_
  blk_simp
  rw [after0_9]
  refine (Pipeline.eq_sum_fin_of_reset_step_apply_last (fun n h => (outsAt0 m c n h).2.2.2) 22 (fun _ => 0)
    (fun t j => ∑ r : Fin 384, gainRow (fun r l => m ((c : Thread nD τ).loc main_arg4) (ix2 r l)) (dMid m c)
      (rowAt t r) (j 1)) ?_ ?_ points.le last rfl j).trans ?_
  · intro t h i
    rw [outsAt0_A m c t h]
    frame_out
    rw [step9, pay2_apply]
  · intro t h i
    rw [outsAt0_B m c t h]
    frame_out
    exact step9 m c t _ i
  · rw [zero_add]
    exact Fin.sum_mul_add_congr (fun t r hl => rfl) (by rw [points])

end Cert.PostMixIdeal.Blocks

namespace Cert.PostMixRefIdeal.Gradient

open Cert.PostMixRefIdeal Cert.PostMixRefIdeal.Read Cert.PostMixIdeal.Blocks

variable (h : Vec Ideal S8448x1024 .f32) (dn : Vec Ideal S8448x1024 .bf16) (g : Vec Ideal S1x1024 .f32)
  (d : Vec Ideal S8448x1024 .f32) (mix : Vec Ideal S8448x1024 .bf16) (gq : Vec Ideal S1x1024 .f32)

theorem middle (r : Fin 8448) (l : Fin 1024) : val_main_v16 h mix gq (ix2 r l) = mid h mix gq r l := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_cst_3, val_main_v18,
    val_main_v19, val_main_cst_4, val_main_v20, val_main_v21, val_main_cst_5, val_main_v22, val_main_v23, val_main_v24,
    val_main_v25, val_main_cst_6, val_main_v26, val_main_v27, val_main_v28, val_main_v29, val_main_v30, val_main_v31,
    val_main_v32, val_main_v33, val_main_cst_7, val_main_v34, val_main_v35, val_main_v36, val_main_v37, val_main_v38,
    val_main_cst_8, val_main_v39, val_main_v40, val_main_v41, val_main_v42, val_main_v43, val_main_v44, val_main_cst_9,
    val_main_v45, val_main_v46, val_main_cst_10, val_main_v47, val_main_v48, val_main_v49, val_main_v50, val_main_v51,
    val_main_v52, val_main_v53, val_main_v54, val_main_cst_11, val_main_v55, val_main_v56, val_main_v57, val_main_v58,
    val_main_v59, val_main_cst_12, val_main_v60, val_main_v61, val_main_v62, val_main_v63, val_main_v64, val_main_cst_13,
    val_main_v65, val_main_v66, val_main_cst_14, val_main_v67, val_main_v68, val_main_v69, val_main_v70, val_main_v71,
    val_main_v72, val_main_v73, val_main_v74, val_main_v75]
  simp only [mid, Norm.rstd, Norm.ms, Norm.ofBits_1024, Norm.ofBits_eps]

theorem first (r : Fin 8448) (l : Fin 1024) :
    val_main_v52 h dn g d mix gq (ix2 r l) = gradMid (mid h mix gq) dn g d r l := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v17, val_main_cst_3, val_main_v18, val_main_v19,
    val_main_cst_4, val_main_v20, val_main_v21, val_main_cst_5, val_main_v22, val_main_v23, val_main_v24, val_main_v25,
    val_main_cst_6, val_main_v26, val_main_v27, val_main_v28, val_main_v29, val_main_v30, val_main_v31, val_main_v32,
    val_main_v33, val_main_cst_7, val_main_v34, val_main_v35, val_main_v36, val_main_v37, val_main_v38, val_main_cst_8,
    val_main_v39, val_main_v40, val_main_v41, val_main_v42, val_main_v43, val_main_v44, val_main_cst_9, val_main_v45,
    val_main_v46, val_main_cst_10, val_main_v47, val_main_v48, val_main_v49, val_main_v50, val_main_v51, val_main_v52,
    val_main_v53, val_main_v54, val_main_cst_11, val_main_v55, val_main_v56, val_main_v57, val_main_v58, val_main_v59,
    val_main_cst_12, val_main_v60, val_main_v61, val_main_v62, val_main_v63, val_main_v64, val_main_cst_13, val_main_v65,
    val_main_v66, val_main_cst_14, val_main_v67, val_main_v68, val_main_v69, val_main_v70, val_main_v71, val_main_v72,
    val_main_v73, val_main_v74, val_main_v75]
  simp only [middle, gradMid, Norm.back_eq, Norm.through, Norm.rstd, Norm.ms, Norm.ofBits_1024, Norm.ofBits_eps,
    Norm.ofBits_neg_half, Fin.sum_univ_one, add_assoc]

theorem second (r : Fin 8448) (l : Fin 1024) :
    val_main_v73 h dn g d mix gq (ix2 r l) = gradMix mix gq (gradMid (mid h mix gq) dn g d) r l := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v17, val_main_cst_3, val_main_v18, val_main_v19,
    val_main_cst_4, val_main_v20, val_main_v21, val_main_cst_5, val_main_v22, val_main_v23, val_main_v24, val_main_v25,
    val_main_cst_6, val_main_v26, val_main_v27, val_main_v28, val_main_v29, val_main_v30, val_main_v31, val_main_v32,
    val_main_v33, val_main_cst_7, val_main_v34, val_main_v35, val_main_v36, val_main_v37, val_main_v38, val_main_cst_8,
    val_main_v39, val_main_v40, val_main_v41, val_main_v42, val_main_v43, val_main_v44, val_main_cst_9, val_main_v45,
    val_main_v46, val_main_cst_10, val_main_v47, val_main_v48, val_main_v49, val_main_v50, val_main_v51, val_main_v53,
    val_main_v54, val_main_cst_11, val_main_v55, val_main_v56, val_main_v57, val_main_v58, val_main_v59, val_main_cst_12,
    val_main_v60, val_main_v61, val_main_v62, val_main_v63, val_main_v64, val_main_cst_13, val_main_v65, val_main_v66,
    val_main_cst_14, val_main_v67, val_main_v68, val_main_v69, val_main_v70, val_main_v71, val_main_v72, val_main_v73,
    val_main_v74, val_main_v75]
  simp only [first, gradMix, Norm.back_eq, Norm.through, Norm.rstd, Norm.ms, Norm.ofBits_1024, Norm.ofBits_eps,
    Norm.ofBits_neg_half, Fin.sum_univ_one, add_assoc]

theorem third (i : S8x1024.Idx) : val_main_v74 h dn mix gq i
    = ∑ r : Fin 8448, gainRow (mid h mix gq) (fun r l => dn (ix2 r l)) r (i 1) := by
  idx_vars i
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v17, val_main_cst_3, val_main_v18, val_main_v19,
    val_main_cst_4, val_main_v20, val_main_v21, val_main_cst_5, val_main_v22, val_main_v23, val_main_v24, val_main_v25,
    val_main_cst_6, val_main_v26, val_main_v27, val_main_v28, val_main_v29, val_main_v30, val_main_v31, val_main_v32,
    val_main_v33, val_main_cst_7, val_main_v34, val_main_v35, val_main_v36, val_main_v37, val_main_v38, val_main_cst_8,
    val_main_v39, val_main_v40, val_main_v41, val_main_v42, val_main_v43, val_main_v44, val_main_cst_9, val_main_v45,
    val_main_v46, val_main_cst_10, val_main_v47, val_main_v48, val_main_v49, val_main_v50, val_main_v51, val_main_v52,
    val_main_v53, val_main_v54, val_main_cst_11, val_main_v55, val_main_v56, val_main_v57, val_main_v58, val_main_v59,
    val_main_cst_12, val_main_v60, val_main_v61, val_main_v62, val_main_v63, val_main_v64, val_main_cst_13, val_main_v65,
    val_main_v66, val_main_cst_14, val_main_v67, val_main_v68, val_main_v69, val_main_v70, val_main_v71, val_main_v72,
    val_main_v73, val_main_v74, val_main_v75]
  simp only [middle, gainRow, Norm.rstd, Norm.ms, Norm.ofBits_1024, Norm.ofBits_eps]
  exact Finset.sum_congr rfl fun r _ => mul_comm _ _

theorem fourth (i : S8x1024.Idx) : val_main_v75 h dn g d mix gq i
    = ∑ r : Fin 8448, gainRow (fun r l => mix (ix2 r l)) (gradMid (mid h mix gq) dn g d) r (i 1) := by
  idx_vars i
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v17, val_main_cst_3, val_main_v18, val_main_v19,
    val_main_cst_4, val_main_v20, val_main_v21, val_main_cst_5, val_main_v22, val_main_v23, val_main_v24, val_main_v25,
    val_main_cst_6, val_main_v26, val_main_v27, val_main_v28, val_main_v29, val_main_v30, val_main_v31, val_main_v32,
    val_main_v33, val_main_cst_7, val_main_v34, val_main_v35, val_main_v36, val_main_v37, val_main_v38, val_main_cst_8,
    val_main_v39, val_main_v40, val_main_v41, val_main_v42, val_main_v43, val_main_v44, val_main_cst_9, val_main_v45,
    val_main_v46, val_main_cst_10, val_main_v47, val_main_v48, val_main_v49, val_main_v50, val_main_v51, val_main_v53,
    val_main_v54, val_main_cst_11, val_main_v55, val_main_v56, val_main_v57, val_main_v58, val_main_v59, val_main_cst_12,
    val_main_v60, val_main_v61, val_main_v62, val_main_v63, val_main_v64, val_main_cst_13, val_main_v65, val_main_v66,
    val_main_cst_14, val_main_v67, val_main_v68, val_main_v69, val_main_v70, val_main_v71, val_main_v72, val_main_v73,
    val_main_v74, val_main_v75]
  simp only [first, gainRow, Norm.rstd, Norm.ms, Norm.ofBits_1024, Norm.ofBits_eps]
  exact Finset.sum_congr rfl fun r _ => mul_comm _ _

end Cert.PostMixRefIdeal.Gradient

end
-- ==== Proof.PostMixClaims.lean ====
/- The norm behind the mixers and the norm in front of the feed-forward part, backward: the claims. -/
module

public import proofs.«01_k».proof.Defs
public import proofs.«01_k».proof.Proof.PostMix
public import proofs.«01_k».proof.Proof.Gen.PostMix.Frame
public import proofs.«01_k».proof.Proof.Gen.PostMixRefIdeal.Run
public import Idealize.ShloMosaic.Lib.Quiescent

@[expose] public section

set_option maxRecDepth 16384

noncomputable section

open Idealize.ShloMosaic Idealize.ShloMosaic.TcCoe Idealize.SL.Sem

namespace Cert.PostMixClaims

theorem frame : Cert.quiescent_PostMix := fun m ρ _ => Cert.PostMix.Gen.frame m ρ

theorem frame_ideal : Cert.quiescent_PostMixIdeal := fun m ρ _ => Cert.PostMixIdeal.Gen.frame m ρ

theorem frame_ref : Cert.quiescent_PostMixRefIdeal := fun m ρ _ =>
  (θ_run Cert.PostMixRefIdeal.defs _ _).mono (fun r h => ⟨fun c => (h c).2.2.2.2,
      Idealize.ShloMosaic.sem_eq_zero_of_no_sems (by decide) r.2⟩)
    (Cert.PostMixRefIdeal.Value.run (F := Ideal) m ρ)

theorem preserves : Cert.preserves_PostMix_PostMixIdeal := trivial

open Cert.PostMixIdeal.Blocks Cert.PostMixRefIdeal.Gradient in
theorem algebraic : Cert.algebraic_PostMixIdeal_PostMixRefIdeal := by
  intro m ρ m' ρ' _ hagree
  refine ⟨_, _, _, _, Cert.PostMixIdeal.Value.run_blocks m ρ, ?_⟩
  refine (θ_run Cert.PostMixRefIdeal.defs _ _).mono (fun r h c => ?_) (Cert.PostMixRefIdeal.Value.run (F := Ideal) m' ρ')
  obtain ⟨a0, a1, a2, a3, a4, a5⟩ := hagree c
  obtain ⟨h0, h1, h2, h3, kept⟩ := h c
  refine ⟨?_, ?_, ?_, ?_, kept⟩
  · rw [h0, final6, Cert.PostMixRefIdeal.Read.val_main_v52_eq, a0, a1, a2, a3, a4, a5]
    exact funext fun i => by idx_vars i; rw [first]; simp only [dMid, mid_eq]
  · rw [h1, final7, Cert.PostMixRefIdeal.Read.val_main_v73_eq, a0, a1, a2, a3, a4, a5]
    exact funext fun i => by idx_vars i; rw [second]; simp only [dMid, mid_eq]
  · rw [h2, final8, Cert.PostMixRefIdeal.Read.val_main_v74_eq, a0, a1, a4, a5]
    exact funext fun i => by rw [third]; simp only [mid_eq]
  · rw [h3, final9, Cert.PostMixRefIdeal.Read.val_main_v75_eq, a0, a1, a2, a3, a4, a5]
    exact funext fun i => by rw [fourth]; simp only [dMid, mid_eq]

end Cert.PostMixClaims

end
-- ==== Proof.LossHead.lean ====
/- The last norm and the loss: what the kernel leaves in its four result arrays, index by index, and that the loss and its
   derivative give the same arrays. -/
module

public import proofs.«01_k».proof.Proof.Norm
public import proofs.«01_k».proof.Proof.Gen.LossHeadIdeal.Value
public import proofs.«01_k».proof.Proof.Gen.LossHeadRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossHeadIdeal.Blocks

open Cert.LossHeadIdeal Cert.LossHeadIdeal.Gen

/-- The residual `y − target` on the rows of the batch; the front rows, which have no target, count as zero. -/
def diff (h : Vec Ideal S8448x1024 .f32) (ff : Vec Ideal S8448x1024 .bf16) (g : Vec Ideal S1x1024 .f32)
    (x : Vec Ideal S8192x1024 .f32) (r : Fin 8448) (l : Fin 1024) : EReal :=
  if hr : 256 ≤ r.val then
    h (ix2 r l) + ff (ix2 r l) * (Norm.rstd fun k => ff (ix2 r k)) * g (ix2 0 l) - x (ix2 ⟨r.val - 256, by omega⟩ l)
  else 0

/-- The gradient at the output of the step. -/
def gradY (h : Vec Ideal S8448x1024 .f32) (ff : Vec Ideal S8448x1024 .bf16) (g : Vec Ideal S1x1024 .f32)
    (x : Vec Ideal S8192x1024 .f32) (r : Fin 8448) (l : Fin 1024) : EReal :=
  Ideal.div (diff h ff g x r l) ((1024 : ℝ) : EReal)

/-- The gradient at the feed-forward output. -/
def gradFf (h : Vec Ideal S8448x1024 .f32) (ff : Vec Ideal S8448x1024 .bf16) (g : Vec Ideal S1x1024 .f32)
    (x : Vec Ideal S8192x1024 .f32) (r : Fin 8448) (l : Fin 1024) : EReal :=
  Norm.back (fun k => ff (ix2 r k)) (fun k => gradY h ff g x r k * g (ix2 0 k)) l

/-- One row's part of the gradient at the gain. -/
def gainRow (h : Vec Ideal S8448x1024 .f32) (ff : Vec Ideal S8448x1024 .bf16) (g : Vec Ideal S1x1024 .f32)
    (x : Vec Ideal S8192x1024 .f32) (r : Fin 8448) (l : Fin 1024) : EReal :=
  gradY h ff g x r l * (ff (ix2 r l) * Norm.rstd fun k => ff (ix2 r k))

/-- One row's part of the loss. -/
def lossRow (h : Vec Ideal S8448x1024 .f32) (ff : Vec Ideal S8448x1024 .bf16) (g : Vec Ideal S1x1024 .f32)
    (x : Vec Ideal S8192x1024 .f32) (r : Fin 8448) : EReal :=
  ((1024⁻¹ * (1 / 2) : ℝ) : EReal) * ∑ l, diff h ff g x r l * diff h ff g x r l

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem pay9_apply (i : grid0.Coords) (g : Vec Ideal S1x1024 .f32) (f : Vec Ideal S256x1024 .bf16) (h x : Vec Ideal S256x1024 .f32)
    (r : Fin 256) (l : Fin 1024) : k0_pay9 i g f h x (ix2 r l)
      = (h (ix2 r l) + f (ix2 r l) * (Norm.rstd fun k => f (ix2 r k)) * g (ix2 0 l) - x (ix2 r l))
        * (((Scalar.extui (Scalar.cmpi .sge (BitVec.ofNat 32 (i 0).val) 1#32) : BitVec 32).toInt : ℝ) : EReal) := by
  pointwise [k0_pay9, k0_pay8, k0_pay7, k0_pay6]
  simp only [Norm.rstd, Norm.ms, Norm.ofBits_1024, Norm.ofBits_eps]

theorem pay10_apply (i : grid0.Coords) (g : Vec Ideal S1x1024 .f32) (f : Vec Ideal S256x1024 .bf16) (h x : Vec Ideal S256x1024 .f32)
    (a : Vec Ideal S8x128 .f32) (j : S8x128.Idx) : k0_pay10 i g f h x a j
      = a j + Ideal.div (((1 / 2 : ℝ) : EReal) * ∑ r : Fin 256, ∑ l : Fin 1024, k0_pay9 i g f h x (ix2 r l) * k0_pay9 i g f h x (ix2 r l))
        ((1024 : ℝ) : EReal) := by
  pointwise [k0_pay10]
  simp only [Norm.ofBits_1024, ofBits_half]

theorem pay1_apply (v : Vec Ideal S256x1024 .f32) (r : Fin 256) (l : Fin 1024) :
    k0_pay1 (F := Ideal) v (ix2 r l) = Ideal.div (v (ix2 r l)) ((1024 : ℝ) : EReal) := by
  pointwise [k0_pay1]
  simp only [Norm.ofBits_1024]

theorem pay2_apply (g : Vec Ideal S1x1024 .f32) (f : Vec Ideal S256x1024 .bf16) (v : Vec Ideal S256x1024 .f32)
    (r : Fin 256) (l : Fin 1024) : k0_pay2 g (k0_pay7 f) (k0_pay8 f) v (ix2 r l)
      = Norm.back (fun k => f (ix2 r k)) (fun k => Ideal.div (v (ix2 r k)) ((1024 : ℝ) : EReal) * g (ix2 0 k)) l := by
  pointwise [k0_pay2, k0_pay1, k0_pay8, k0_pay7, k0_pay6]
  simp only [Norm.back, Norm.rstd, Norm.ms, Norm.ofBits_1024, Norm.ofBits_eps]

theorem pay3_apply (f : Vec Ideal S256x1024 .bf16) (v : Vec Ideal S256x1024 .f32) (a : Vec Ideal S8x1024 .f32)
    (q : Fin 8) (l : Fin 1024) : k0_pay3 (k0_pay8 f) v a (ix2 q l) = a (ix2 q l)
      + ∑ r : Fin 256, Ideal.div (v (ix2 r l)) ((1024 : ℝ) : EReal) * (f (ix2 r l) * Norm.rstd fun k => f (ix2 r k)) := by
  pointwise [k0_pay3, k0_pay1, k0_pay8, k0_pay7, k0_pay6]
  simp only [Norm.rstd, Norm.ms, Norm.ofBits_1024, Norm.ofBits_eps]

theorem pay4_apply (i : S8x128.Idx) : k0_pay4 (F := Ideal) i = 0 := by
  pointwise [k0_pay4]

theorem pay5_apply (i : S8x1024.Idx) : k0_pay5 (F := Ideal) i = 0 := by
  pointwise [k0_pay5]

variable (m : (ℓ : Loc nD τ sig) → Buf (Elt Ideal) ℓ) (ρ : Dev nD → PrngReg)

theorem idx : ∀ t : Fin cfg0.N, win0_0.index t = ![t.val, 0] ∧ win0_1.index t = ![t.val, 0]
    ∧ win0_2.index t = ![0, 0] ∧ win0_3.index t = ![t.val - 1, 0] ∧ win0_5.index t = ![t.val, 0] ∧ win0_6.index t = ![t.val, 0] :=
  (by decide +kernel : ∀ t : Fin grid0.N, win0_0.index t = ![t.val, 0] ∧ win0_1.index t = ![t.val, 0]
    ∧ win0_2.index t = ![0, 0] ∧ win0_3.index t = ![t.val - 1, 0] ∧ win0_5.index t = ![t.val, 0] ∧ win0_6.index t = ![t.val, 0])

/-- The factor that leaves the front block out. -/
theorem flag : ∀ t : Fin cfg0.N, (Scalar.extui (Scalar.cmpi .sge (BitVec.ofNat 32 (grid0.coords t 0).val) 1#32) : BitVec 32).toInt
    = if t.val = 0 then 0 else 1 :=
  (by decide +kernel : ∀ t : Fin grid0.N, (Scalar.extui (Scalar.cmpi .sge (BitVec.ofNat 32 (grid0.coords t 0).val) 1#32) : BitVec 32).toInt
    = if t.val = 0 then 0 else 1)

theorem points : cfg0.N = 33 := by decide +kernel

/-- The last grid point. -/
def last : Fin cfg0.N := ⟨32, by decide +kernel⟩

/-- The array row that row `r` of grid point `t`'s blocks is. -/
def rowAt (t : Fin cfg0.N) (r : Fin 256) : Fin 8448 := ⟨t.val * 256 + r.val, by have := t.isLt; have := points; omega⟩

/-- A grid point's block of the residual. -/
theorem diff_block (c : Dev nD) (t : Fin cfg0.N) (r : Fin 256) (l : Fin 1024) :
    k0_pay9 (grid0.coords t) (iblk m c 2 t) (iblk m c 1 t) (iblk m c 0 t) (iblk m c 3 t) (ix2 r l)
      = diff (m ((c : Thread nD τ).loc main_arg0)) (m ((c : Thread nD τ).loc main_arg1))
        (m ((c : Thread nD τ).loc main_arg2)) (m ((c : Thread nD τ).loc main_arg3)) (rowAt t r) l := by
  obtain ⟨e0, e1, e2, e3, e5, e6⟩ := idx t
  rw [pay9_apply, flag]
  by_cases h0 : t.val = 0
  · rw [if_pos h0, diff, dif_neg (by simp only [rowAt]; omega)]
    simp
  · rw [if_neg h0, diff, dif_pos (by simp only [rowAt]; omega)]
    simp only [Int.cast_one, EReal.coe_one, mul_one, rowAt]
    blk_point [iblk, V, e0, e1, e2, e3]

/-- A grid point's block of the feed-forward output. -/
theorem ff_block (c : Dev nD) (t : Fin cfg0.N) (r : Fin 256) (l : Fin 1024) :
    iblk m c 1 t (ix2 r l) = m ((c : Thread nD τ).loc main_arg1) (ix2 (rowAt t r) l) := by
  obtain ⟨e0, e1, e2, e3, e5, e6⟩ := idx t
  simp only [rowAt]
  blk_point [iblk, V, e1]

/-- The gain, read at a grid point. -/
theorem gain_block (c : Dev nD) (t : Fin cfg0.N) (l : Fin 1024) :
    iblk m c 2 t (ix2 0 l) = m ((c : Thread nD τ).loc main_arg2) (ix2 0 l) := by
  obtain ⟨e0, e1, e2, e3, e5, e6⟩ := idx t
  blk_point [iblk, V, e2]

/-- The array of the gradient at the hidden state after the run. -/
theorem final5 (c : Dev nD) : (dats m 0 c).arrAt 5 cfg0.N = fun i => gradY (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 5 _ (by decide +kernel) fun t hf y => ?_
  have key (y : S256x1024.Idx) :
      k0_pay1 (k0_pay9 (grid0.coords t) (iblk m c 2 t) (iblk m c 1 t) (iblk m c 0 t) (iblk m c 3 t)) y
      = gradY (m ((c : Thread nD τ).loc main_arg0)) (m ((c : Thread nD τ).loc main_arg1))
        (m ((c : Thread nD τ).loc main_arg2)) (m ((c : Thread nD τ).loc main_arg3)) (((View.whole main_v0_1).slice (win0_5.rect t)).emb y 0) (((View.whole main_v0_1).slice (win0_5.rect t)).emb y 1) := by
    obtain ⟨e0, e1, e2, e3, e5, e6⟩ := idx t
    idx_vars y
    rw [pay1_apply, diff_block]
    refine congrArg₂ (gradY _ _ _ _) (Fin.ext ?_) (Fin.ext ?_) <;> blk_simp [rowAt, e5]
  blk_simp
  rw [after0_5]
  by_cases h0 : t.val % 33 = 0
  · rw [outsAt0_A m c t h0]; frame_out; exact key y
  · rw [outsAt0_B m c t h0]; frame_out; exact key y

/-- The array of the gradient at the feed-forward output after the run. -/
theorem final6 (c : Dev nD) : (dats m 0 c).arrAt 6 cfg0.N = fun i => gradFf (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 6 _ (by decide +kernel) fun t hf y => ?_
  have key (y : S256x1024.Idx) :
      k0_pay2 (iblk m c 2 t) (k0_pay7 (iblk m c 1 t)) (k0_pay8 (iblk m c 1 t))
        (k0_pay9 (grid0.coords t) (iblk m c 2 t) (iblk m c 1 t) (iblk m c 0 t) (iblk m c 3 t)) y
      = gradFf (m ((c : Thread nD τ).loc main_arg0)) (m ((c : Thread nD τ).loc main_arg1))
        (m ((c : Thread nD τ).loc main_arg2)) (m ((c : Thread nD τ).loc main_arg3)) (((View.whole main_v0_2).slice (win0_6.rect t)).emb y 0) (((View.whole main_v0_2).slice (win0_6.rect t)).emb y 1) := by
    obtain ⟨e0, e1, e2, e3, e5, e6⟩ := idx t
    idx_vars y
    rw [pay2_apply]
    simp only [diff_block, ff_block, gain_block]
    refine congrArg₂ (gradFf _ _ _ _) (Fin.ext ?_) (Fin.ext ?_) <;> blk_simp [rowAt, e6]
  blk_simp
  rw [after0_6]
  by_cases h0 : t.val % 33 = 0
  · rw [outsAt0_A m c t h0]; frame_out; exact key y
  · rw [outsAt0_B m c t h0]; frame_out; exact key y

/-- A grid point's part of the gradient at the gain. -/
theorem step7 (c : Dev nD) (t : Fin cfg0.N) (a : Vec Ideal S8x1024 .f32) (i : S8x1024.Idx) :
    k0_pay3 (k0_pay8 (iblk m c 1 t)) (k0_pay9 (grid0.coords t) (iblk m c 2 t) (iblk m c 1 t) (iblk m c 0 t) (iblk m c 3 t)) a i
      = a i + ∑ r : Fin 256, gainRow (m ((c : Thread nD τ).loc main_arg0)) (m ((c : Thread nD τ).loc main_arg1))
        (m ((c : Thread nD τ).loc main_arg2)) (m ((c : Thread nD τ).loc main_arg3)) (rowAt t r) (i 1) := by
  idx_vars i
  rw [pay3_apply]
  simp only [diff_block, ff_block, gainRow, gradY]

/-- The gradient at the gain: the column sums over all rows. -/
theorem final7 (c : Dev nD) : (dats m 0 c).arrAt 7 cfg0.N = fun i => ∑ r : Fin 8448, gainRow (m ((c : Thread nD τ).loc main_arg0)) (m ((c : Thread nD τ).loc main_arg1))
        (m ((c : Thread nD τ).loc main_arg2)) (m ((c : Thread nD τ).loc main_arg3)) r (i 1) := by
  refine (dats m 0 c).arrAt_eq_of_after_last 7 last (by decide +kernel) _ fun j => ?_
  blk_simp
  rw [after0_7]
  refine (Pipeline.eq_sum_fin_of_reset_step_apply_last (fun n h => (outsAt0 m c n h).2.2.2) 33 (fun _ => 0)
    (fun t j => ∑ r : Fin 256, gainRow (m ((c : Thread nD τ).loc main_arg0)) (m ((c : Thread nD τ).loc main_arg1))
        (m ((c : Thread nD τ).loc main_arg2)) (m ((c : Thread nD τ).loc main_arg3)) (rowAt t r) (j 1)) ?_ ?_ points.le last rfl j).trans ?_
  · intro t h i
    rw [outsAt0_A m c t h]
    frame_out
    rw [step7, pay5_apply]
  · intro t h i
    rw [outsAt0_B m c t h]
    frame_out
    exact step7 m c t _ i
  · rw [zero_add]
    exact Fin.sum_mul_add_congr (fun t r hl => rfl) (by rw [points])

/-- A grid point's part of the loss. -/
theorem step4 (c : Dev nD) (t : Fin cfg0.N) (a : Vec Ideal S8x128 .f32) (i : S8x128.Idx) :
    k0_pay10 (grid0.coords t) (iblk m c 2 t) (iblk m c 1 t) (iblk m c 0 t) (iblk m c 3 t) a i
      = a i + ∑ r : Fin 256, lossRow (m ((c : Thread nD τ).loc main_arg0)) (m ((c : Thread nD τ).loc main_arg1))
        (m ((c : Thread nD τ).loc main_arg2)) (m ((c : Thread nD τ).loc main_arg3)) (rowAt t r) := by
  rw [pay10_apply]
  simp only [diff_block, lossRow]
  rw [Norm.div_coe 1024 (by norm_num), ← mul_assoc, ← EReal.coe_mul, Norm.coe_mul_sum _ _ (by norm_num)]

/-- The loss. -/
theorem final4 (c : Dev nD) : (dats m 0 c).arrAt 4 cfg0.N = fun i => ∑ r : Fin 8448, lossRow (m ((c : Thread nD τ).loc main_arg0)) (m ((c : Thread nD τ).loc main_arg1))
        (m ((c : Thread nD τ).loc main_arg2)) (m ((c : Thread nD τ).loc main_arg3)) r := by
  refine (dats m 0 c).arrAt_eq_of_after_last 4 last (by decide +kernel) _ fun j => ?_
  blk_simp
  rw [after0_4]
  refine (Pipeline.eq_sum_fin_of_reset_step_apply_last (fun n h => (outsAt0 m c n h).1) 33 (fun _ => 0)
    (fun t j => ∑ r : Fin 256, lossRow (m ((c : Thread nD τ).loc main_arg0)) (m ((c : Thread nD τ).loc main_arg1))
        (m ((c : Thread nD τ).loc main_arg2)) (m ((c : Thread nD τ).loc main_arg3)) (rowAt t r)) ?_ ?_ points.le last rfl j).trans ?_
  · intro t h i
    rw [outsAt0_A m c t h]
    frame_out
    rw [step4, pay4_apply]
  · intro t h i
    rw [outsAt0_B m c t h]
    frame_out
    exact step4 m c t _ i
  · rw [zero_add]
    exact Fin.sum_mul_add_congr (fun t r hl => rfl) (by rw [points])

end Cert.LossHeadIdeal.Blocks

namespace Cert.LossHeadRefIdeal.Gradient

open Cert.LossHeadRefIdeal Cert.LossHeadRefIdeal.Read Cert.LossHeadIdeal.Blocks

variable (h : Vec Ideal S8448x1024 .f32) (ff : Vec Ideal S8448x1024 .bf16) (g : Vec Ideal S1x1024 .f32)
  (x : Vec Ideal S8192x1024 .f32)

/-- Half the derivative of a square, over the row length. -/
theorem scale (y : EReal) : Ideal.div ((1 / 2 : ℝ) : EReal) ((1024 : ℝ) : EReal) * (((2 : ℝ) : EReal) * y)
    = Ideal.div y ((1024 : ℝ) : EReal) := by
  rw [Norm.div_coe 1024 (by norm_num), Norm.div_coe 1024 (by norm_num), ← mul_assoc, ← EReal.coe_mul, ← EReal.coe_mul]
  norm_num

theorem first (r : Fin 8448) (l : Fin 1024) : val_main_v33 h ff g x (ix2 r l) = gradY h ff g x r l := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_cst_4, val_main_v22, val_main_cst_5, val_main_v23, val_main_v24,
    val_main_cst_6, val_main_v25, val_main_cst_7, val_main_v26, val_main_cst_8, val_main_cst_9, val_main_v27, val_main_v28,
    val_main_cst_10, val_main_v29, val_main_v30, val_main_v31, val_main_v32, val_main_cst_11, val_main_v33, val_main_v34,
    val_main_cst_12, val_main_v35, val_main_v36, val_main_v37, val_main_v38, val_main_v39, val_main_cst_13, val_main_v40,
    val_main_v41, val_main_v42, val_main_v43, val_main_v44, val_main_cst_14, val_main_v45, val_main_v46, val_main_cst_15,
    val_main_v47, val_main_v48, val_main_v49, val_main_v50, val_main_v51, val_main_v52, val_main_v53, val_main_v54,
    val_main_v55]
  simp only [Norm.ofBits_1024, Norm.ofBits_eps, ofBits_half, ofBits_two]
  by_cases hr : 256 ≤ r.val
  · have hc : 256 ≤ r.val ∧ r.val - 256 < 8192 := ⟨hr, by omega⟩
    have e (p : 256 + (r.val - 256) < 8448) : (⟨256 + (r.val - 256), p⟩ : Fin 8448) = r := Fin.ext (Nat.add_sub_cancel' hr)
    rw [dif_pos hc, scale, gradY, diff, dif_pos hr]
    simp only [e]
    simp only [Norm.rstd, Norm.ms]
  · rw [dif_neg (fun h => hr h.1), gradY, diff, dif_neg hr, Norm.div_coe 1024 (by norm_num), mul_zero]

theorem second (r : Fin 8448) (l : Fin 1024) : val_main_v54 h ff g x (ix2 r l) = gradFf h ff g x r l := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_cst_4, val_main_v22, val_main_cst_5, val_main_v23, val_main_v24,
    val_main_cst_6, val_main_v25, val_main_cst_7, val_main_v26, val_main_cst_8, val_main_cst_9, val_main_v27, val_main_v28,
    val_main_cst_10, val_main_v29, val_main_v30, val_main_v31, val_main_v32, val_main_cst_11, val_main_v34, val_main_cst_12,
    val_main_v35, val_main_v36, val_main_v37, val_main_v38, val_main_v39, val_main_cst_13, val_main_v40, val_main_v41,
    val_main_v42, val_main_v43, val_main_v44, val_main_cst_14, val_main_v45, val_main_v46, val_main_cst_15, val_main_v47,
    val_main_v48, val_main_v49, val_main_v50, val_main_v51, val_main_v52, val_main_v53, val_main_v54, val_main_v55]
  simp only [first, gradFf, Norm.back_eq, Norm.through, Norm.rstd, Norm.ms, Norm.ofBits_1024, Norm.ofBits_eps,
    Norm.ofBits_neg_half, Fin.sum_univ_one, add_assoc]

theorem third (i : S8x1024.Idx) : val_main_v55 h ff g x i = ∑ r : Fin 8448, gainRow h ff g x r (i 1) := by
  idx_vars i
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_cst_4, val_main_v22, val_main_cst_5, val_main_v23, val_main_v24,
    val_main_cst_6, val_main_v25, val_main_cst_7, val_main_v26, val_main_cst_8, val_main_cst_9, val_main_v27, val_main_v28,
    val_main_cst_10, val_main_v29, val_main_v30, val_main_v31, val_main_v32, val_main_cst_11, val_main_v34, val_main_cst_12,
    val_main_v35, val_main_v36, val_main_v37, val_main_v38, val_main_v39, val_main_cst_13, val_main_v40, val_main_v41,
    val_main_v42, val_main_v43, val_main_v44, val_main_cst_14, val_main_v45, val_main_v46, val_main_cst_15, val_main_v47,
    val_main_v48, val_main_v49, val_main_v50, val_main_v51, val_main_v52, val_main_v53, val_main_v54, val_main_v55]
  simp only [first, gainRow, Norm.rstd, Norm.ms, Norm.ofBits_1024, Norm.ofBits_eps]
  exact Finset.sum_congr rfl fun r _ => mul_comm _ _

/-- A sum over all rows whose front rows are zero. -/
theorem sum_rows (f : Fin 8448 → EReal) (h0 : ∀ r : Fin 8448, r.val < 256 → f r = 0) :
    ∑ r, f r = ∑ r : Fin 8192, f ⟨256 + r.val, by omega⟩ := by
  rw [← Fin.sum_congr' f (show 256 + 8192 = 8448 by norm_num), Fin.sum_univ_add, Finset.sum_eq_zero, zero_add]
  · exact Finset.sum_congr rfl fun r _ => congrArg f (Fin.ext rfl)
  · exact fun r _ => h0 _ r.isLt

theorem lossRow_front (r : Fin 8448) (hr : r.val < 256) : lossRow h ff g x r = 0 := by
  have z (l : Fin 1024) : diff h ff g x r l = 0 := by rw [diff, dif_neg (by omega)]
  simp only [lossRow, z, mul_zero, Finset.sum_const_zero]

theorem loss (i : S8x128.Idx) : val_main_v53 h ff g x i = ∑ r : Fin 8448, lossRow h ff g x r := by
  rw [sum_rows _ (lossRow_front h ff g x)]
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_cst_4, val_main_v22, val_main_cst_5, val_main_v23, val_main_v24,
    val_main_cst_6, val_main_v25, val_main_cst_7, val_main_v26, val_main_cst_8, val_main_cst_9, val_main_v27, val_main_v28,
    val_main_cst_10, val_main_v29, val_main_v30, val_main_v31, val_main_v32, val_main_cst_11, val_main_v33, val_main_v34,
    val_main_cst_12, val_main_v35, val_main_v36, val_main_v37, val_main_v38, val_main_v39, val_main_cst_13, val_main_v40,
    val_main_v41, val_main_v42, val_main_v43, val_main_v44, val_main_cst_14, val_main_v45, val_main_v46, val_main_cst_15,
    val_main_v47, val_main_v48, val_main_v49, val_main_v50, val_main_v51, val_main_v52, val_main_v53, val_main_v54,
    val_main_v55]
  simp only [Norm.ofBits_1024, Norm.ofBits_eps, ofBits_half]
  rw [Norm.coe_mul_sum _ _ (by norm_num)]
  refine Finset.sum_congr rfl fun r _ => ?_
  have hr (l : Fin 1024) : diff h ff g x ⟨256 + r.val, by omega⟩ l = h (ix2 ⟨256 + r.val, by omega⟩ l)
      + ff (ix2 ⟨256 + r.val, by omega⟩ l) * (Norm.rstd fun k => ff (ix2 ⟨256 + r.val, by omega⟩ k)) * g (ix2 0 l) - x (ix2 r l) := by
    rw [diff, dif_pos (Nat.le_add_right _ _)]
    simp only [Nat.add_sub_cancel_left]
  simp only [lossRow, hr]
  rw [Norm.div_coe 1024 (by norm_num) (∑ l, _), ← mul_assoc, ← EReal.coe_mul, mul_comm (1 / 2 : ℝ)]
  rfl

end Cert.LossHeadRefIdeal.Gradient

end
-- ==== Proof.LossHeadClaims.lean ====
/- The last norm and the loss, forward and backward: the claims. -/
module

public import proofs.«01_k».proof.Defs
public import proofs.«01_k».proof.Proof.LossHead
public import proofs.«01_k».proof.Proof.Gen.LossHead.Frame
public import proofs.«01_k».proof.Proof.Gen.LossHeadRefIdeal.Run
public import Idealize.ShloMosaic.Lib.Quiescent

@[expose] public section

set_option maxRecDepth 16384

noncomputable section

open Idealize.ShloMosaic Idealize.ShloMosaic.TcCoe Idealize.SL.Sem

namespace Cert.LossHeadClaims

theorem frame : Cert.quiescent_LossHead := fun m ρ _ => Cert.LossHead.Gen.frame m ρ

theorem frame_ideal : Cert.quiescent_LossHeadIdeal := fun m ρ _ => Cert.LossHeadIdeal.Gen.frame m ρ

theorem frame_ref : Cert.quiescent_LossHeadRefIdeal := fun m ρ _ =>
  (θ_run Cert.LossHeadRefIdeal.defs _ _).mono (fun r h => ⟨fun c => (h c).2.2.2.2,
      Idealize.ShloMosaic.sem_eq_zero_of_no_sems (by decide) r.2⟩)
    (Cert.LossHeadRefIdeal.Value.run (F := Ideal) m ρ)

theorem preserves : Cert.preserves_LossHead_LossHeadIdeal := trivial

open Cert.LossHeadIdeal.Blocks Cert.LossHeadRefIdeal.Gradient in
theorem algebraic : Cert.algebraic_LossHeadIdeal_LossHeadRefIdeal := by
  intro m ρ m' ρ' _ hagree
  refine ⟨_, _, _, _, Cert.LossHeadIdeal.Value.run_blocks m ρ, ?_⟩
  refine (θ_run Cert.LossHeadRefIdeal.defs _ _).mono (fun r h c => ?_) (Cert.LossHeadRefIdeal.Value.run (F := Ideal) m' ρ')
  obtain ⟨a0, a1, a2, a3⟩ := hagree c
  obtain ⟨h0, h1, h2, h3, kept⟩ := h c
  refine ⟨?_, ?_, ?_, ?_, kept⟩
  · rw [h0, final4, Cert.LossHeadRefIdeal.Read.val_main_v53_eq, a0, a1, a2, a3]
    exact funext fun i => loss _ _ _ _ i
  · rw [h1, final5, Cert.LossHeadRefIdeal.Read.val_main_v33_eq, a0, a1, a2, a3]
    exact funext fun i => by idx_vars i; exact first _ _ _ _ _ _
  · rw [h2, final6, Cert.LossHeadRefIdeal.Read.val_main_v54_eq, a0, a1, a2, a3]
    exact funext fun i => by idx_vars i; exact second _ _ _ _ _ _
  · rw [h3, final7, Cert.LossHeadRefIdeal.Read.val_main_v55_eq, a0, a1, a2, a3]
    exact funext fun i => third _ _ _ _ i

end Cert.LossHeadClaims

end
-- ==== Proof.SwigluClaims.lean ====
/- The gated activation of the feed-forward part and the product behind it, backward: the claims. -/
module

public import proofs.«01_k».proof.Defs
public import proofs.«01_k».proof.Proof.Swiglu
public import proofs.«01_k».proof.Proof.Gen.Swiglu.Frame
public import proofs.«01_k».proof.Proof.Gen.SwigluRefIdeal.Run
public import Idealize.ShloMosaic.Lib.Quiescent

@[expose] public section

set_option maxRecDepth 16384

noncomputable section

open Idealize.ShloMosaic Idealize.ShloMosaic.TcCoe Idealize.SL.Sem

namespace Cert.SwigluClaims

theorem frame : Cert.quiescent_Swiglu := fun m ρ _ => Cert.Swiglu.Gen.frame m ρ

theorem frame_ideal : Cert.quiescent_SwigluIdeal := fun m ρ _ => Cert.SwigluIdeal.Gen.frame m ρ

theorem frame_ideal_finite : Cert.quiescent_SwigluIdeal_pre_swiglu_finite := fun m ρ _ => Cert.SwigluIdeal.Gen.frame m ρ

theorem frame_ref : Cert.quiescent_SwigluRefIdeal := fun m ρ _ =>
  (θ_run Cert.SwigluRefIdeal.defs _ _).mono (fun r h => ⟨fun c => (h c).2.2,
      Idealize.ShloMosaic.sem_eq_zero_of_no_sems (by decide) r.2⟩)
    (Cert.SwigluRefIdeal.Value.run (F := Ideal) m ρ)

theorem frame_ref_finite : Cert.quiescent_SwigluRefIdeal_pre_swiglu_finite := fun m ρ _ =>
  (θ_run Cert.SwigluRefIdeal.defs _ _).mono (fun r h => ⟨fun c => (h c).2.2,
      Idealize.ShloMosaic.sem_eq_zero_of_no_sems (by decide) r.2⟩)
    (Cert.SwigluRefIdeal.Value.run (F := Ideal) m ρ)

theorem preserves : Cert.preserves_Swiglu_SwigluIdeal := trivial

open Cert.SwigluIdeal.Blocks Cert.SwigluRefIdeal.Gradient in
theorem algebraic : Cert.algebraic_SwigluIdeal_SwigluRefIdeal_pre_swiglu_finite := by
  intro m ρ m' ρ' hpre hagree
  refine ⟨_, _, Cert.SwigluIdeal.Value.run_blocks m ρ, ?_⟩
  refine (θ_run Cert.SwigluRefIdeal.defs _ _).mono (fun r h c => ?_) (Cert.SwigluRefIdeal.Value.run (F := Ideal) m' ρ')
  obtain ⟨hd, hw, hb⟩ := finite _ _ _ _ (hpre c)
  obtain ⟨a0, a1, a2, a3⟩ := hagree c
  obtain ⟨h0, h1, kept⟩ := h c
  refine ⟨?_, ?_, kept⟩
  · rw [h0, final4, Cert.SwigluRefIdeal.Read.val_main_v11_eq, a0, a1, a2, a3]
    exact funext fun i => by idx_vars i; exact first _ _ _ _ hd hw hb _ _
  · rw [h1, final5, Cert.SwigluRefIdeal.Read.val_main_v12_eq, a0, a1, a2]
    exact funext fun i => by idx_vars i; exact second _ _ _ _ _

end Cert.SwigluClaims

end
-- ==== Proof.Owned.lean ====
/-
  Loads and stores of a staging or scratch buffer that is held at KNOWN values: what a load through a rectangle of unit
  stride gives, and what the buffer holds after a store through one, said of the values rather than of the buffer's
  bytes.  A kernel's body is then a chain of these two steps, and what it leaves behind is written with `VecWindow.window`
  and `VecWindow.put` alone.
-/
module

public import Idealize.ShloMosaic.Lib.VecWindow
public import Idealize.ShloMosaic.Lib.Memref
public import Idealize.ShloMosaic.Rules.Step
public import Idealize.ShloMosaic.Lib.Tactic
public import Idealize.ShloMosaic.Lib.Exec.Geometry
public import Idealize.ShloMosaic.Lib.ReshapeSlab

@[expose] public section

noncomputable section

namespace Cert.Owned

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}
variable {Ix : Type} [DecidableEq Ix] {Name : Type} [DecidableEq Name] {U : Type} [URA U] {Lvl : Type} [Preorder Lvl] [WellFoundedLT Lvl]
variable {Λ : Labels} {defs : Defs nD τ sig Val Λ} (𝒱 : Variants) (c : Thread nD τ) (bd : Option 𝒱.V) (E : Set Name)
variable {α : Type} {Q : α → sProp (MT nD τ sig Ix Val Name U Lvl)}
variable {s : Shape} {e : EltTy}

local notation "𝕄" => MT nD τ sig Ix Val Name U Lvl

/-- A load through a rectangle of unit stride of a buffer held at the values `X` continues at the window of `X`. -/
theorem wp_load_owned {cs : CoreSpace} {m : Memref sig c.2.kind cs s e} {off size : Fin s.rank → ℕ} {inb : ∀ a, off a + size a ≤ s.size a}
    {hl : m.view.LoadsAt (Rect.unit off size inb).toLoadRect} {k : ((Rect.unit off size inb).shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  iintro H Hk
  unfold owns
  icases H with ⟨%f, %hf, H⟩
  subst hf
  iapply (wp_load 𝒱 c bd E (m := m) (m.view.setOn_subset_set _)) $$ H
  iintro H
  rw [View.readAt_unit m.view f inb rfl inb]
  iapply Hk
  iexists f
  isplitr; · ipureintro; rfl
  iexact H

/-- A load of the whole of a buffer held at the values `X` continues at `X`. -/
theorem wp_load_all {cs : CoreSpace} {m : Memref sig c.2.kind cs s e} {off : Fin s.rank → ℕ} {inb : ∀ a, off a + s.size a ≤ s.size a}
    {hl : m.view.LoadsAt (Rect.unit off s.size inb).toLoadRect} {k : ((Rect.unit off s.size inb).shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  iintro H Hk
  unfold owns
  icases H with ⟨%f, %hf, H⟩
  subst hf
  iapply (wp_load 𝒱 c bd E (m := m) (m.view.setOn_subset_set _)) $$ H
  iintro H
  rw [View.readAt_full m.view f inb]
  iapply Hk
  iexists f
  isplitr; · ipureintro; rfl
  iexact H

/-- A store through a rectangle of unit stride of a buffer held at the values `X` leaves it at `X` with the stored values put there. -/
theorem wp_store_owned {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  iintro H Hk
  unfold owns
  icases H with ⟨%f, %hf, H⟩
  subst hf
  iapply (wp_store 𝒱 c bd E (m := m) (r := Rect.unit off size inb) (Mk := Finset.univ) (m.view.set_slice_subset _)) $$ H
  iintro H
  iapply Hk
  iexists _
  isplitr [H]; swap; · iexact H
  ipureintro
  exact View.read_writes_cons_put m.view f inb w [] rfl

/-- A store of the whole of a buffer leaves it at the stored values. -/
theorem wp_store_all {cs : CoreSpace} {m : Memref sig c.2.kind cs s e} {off : Fin s.rank → ℕ} {inb : ∀ a, off a + s.size a ≤ s.size a}
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  iintro H Hk
  unfold owns
  icases H with ⟨%f, %hf, H⟩
  subst hf
  iapply (wp_store 𝒱 c bd E (m := m) (r := Rect.unit off s.size inb) (Mk := Finset.univ) (m.view.set_slice_subset _)) $$ H
  iintro H
  iapply Hk
  iexists _
  isplitr [H]; swap; · iexact H
  ipureintro
  exact View.read_writes_full m.view f inb w []

end Cert.Owned
-- ==== Proof.Sticks.lean ====
module

public import Idealize.ShloMosaic.PureOps.Ideal.Laws
public import Idealize.ShloMosaic.Lib.IdealHost

/-! # The weights of stick-breaking attention and their gradient, over the reals

One query sees the keys at positions `C` where `ok C`. Its weight on a key is the part it breaks off, `σ(z)`, of what the later
keys left, so the logarithm of a weight is `ls z` and the sum of `ls z - z` over the later keys. Here a row of weights and the
row of the gradients of the scores are written as the kernel computes them: from sums over the later blocks, and a block's own. -/

@[expose] public section

noncomputable section

namespace Stick

open Finset

/-- The number of positions. -/
abbrev N : ℕ := 8448

/-- The logarithm of the sigmoid. -/
def ls (x : ℝ) : ℝ := min x 0 - Real.log (1 + Real.exp (-|x|))

variable (ok : ℕ → Prop) [DecidablePred ok] (z w : ℕ → ℝ)

/-- The logarithm of what a key leaves. -/
def gone (C : ℕ) : ℝ := if ok C then ls (z C) - z C else 0

/-- The logarithm of what the keys after `C` leave. -/
def after (C : ℕ) : ℝ := ∑ x ∈ Ico (C + 1) N, gone ok z x

/-- The weight of a key. -/
def wt (C : ℕ) : ℝ := if ok C then Real.exp (ls (z C) + after ok z C) else 0

/-- A weight times its cotangent. -/
def pr (C : ℕ) : ℝ := wt ok z C * w C

/-- The sum of the products up to a key. -/
def upto (C : ℕ) : ℝ := ∑ x ∈ range (C + 1), pr ok z w x

/-- The cotangent of a score. -/
def dz (C : ℕ) : ℝ := if ok C then pr ok z w C - Real.exp (ls (z C)) * upto ok z w C else 0

/-- A sum over a block. -/
theorem sum_block {M : Type} [AddCommMonoid M] (f : ℕ → M) (b : ℕ) : ∑ l : Fin 256, f (b + l.val) = ∑ x ∈ Ico b (b + 256), f x := by
  rw [Fin.sum_univ_eq_sum_range (fun x => f (b + x)) 256, range_eq_Ico, Finset.sum_Ico_add f 0 256 b, zero_add, add_comm]

/-- A sum from a block on. -/
theorem sum_from {M : Type} [AddCommMonoid M] (f : ℕ → M) (b : ℕ) (hb : b + 256 ≤ N) : ∑ x ∈ Ico b N, f x = ∑ x ∈ Ico (b + 256) N, f x + ∑ l : Fin 256, f (b + l.val) := by
  rw [sum_block, add_comm, sum_Ico_consecutive f (by omega) hb]

/-- What the keys after one of a block leave: those of the block, and those of the later blocks. -/
theorem after_block (b : ℕ) (hb : b + 256 ≤ N) (l : Fin 256) :
    after ok z (b + l.val) = ∑ x : Fin 256, gone ok z (b + x.val) * (if l < x then 1 else 0) + ∑ x ∈ Ico (b + 256) N, gone ok z x := by
  have h := l.isLt
  rw [after, ← sum_Ico_consecutive _ (by omega : b + l.val + 1 ≤ b + 256) hb]
  congr 1
  simp only [mul_ite, mul_one, mul_zero, Fin.lt_def]
  rw [Fin.sum_univ_eq_sum_range (fun x => if l.val < x then gone ok z (b + x) else 0) 256, ← sum_filter,
    show (range 256).filter (fun x => l.val < x) = Ico (l.val + 1) 256 by ext; simp only [mem_filter, mem_range, mem_Ico]; omega,
    Finset.sum_Ico_add _ _ _ b]
  congr 1
  congr 1 <;> omega

/-- The sum of the products up to a key: all but those of the later blocks and the block's own, and those of the block up to it. -/
theorem upto_block (b : ℕ) (hb : b + 256 ≤ N) (l : Fin 256) :
    upto ok z w (b + l.val) = (∑ x ∈ range N, pr ok z w x - ∑ x ∈ Ico (b + 256) N, pr ok z w x - ∑ x : Fin 256, pr ok z w (b + x.val))
      + ∑ x : Fin 256, pr ok z w (b + x.val) * (if x ≤ l then 1 else 0) := by
  have h := l.isLt
  rw [upto, range_eq_Ico, ← sum_Ico_consecutive _ (by omega : 0 ≤ b) (by omega : b ≤ b + l.val + 1)]
  rw [range_eq_Ico, ← sum_Ico_consecutive _ (by omega : 0 ≤ b) (by omega : b ≤ N), sum_from _ b hb]
  have e : ∑ x : Fin 256, pr ok z w (b + x.val) * (if x ≤ l then 1 else 0) = ∑ x ∈ Ico b (b + l.val + 1), pr ok z w x := by
    simp only [mul_ite, mul_one, mul_zero, Fin.le_def]
    rw [Fin.sum_univ_eq_sum_range (fun x => if x ≤ l.val then pr ok z w (b + x) else 0) 256, ← sum_filter,
      show (range 256).filter (fun x => x ≤ l.val) = Ico 0 (l.val + 1) by ext; simp only [mem_filter, mem_range, mem_Ico]; omega,
      Finset.sum_Ico_add _ _ _ b]
    congr 1
    congr 1 <;> omega
  rw [e]; ring

end Stick
-- ==== Proof.StickArrays.lean ====
module

public import proofs.«01_k».proof.Proof.Sticks

/-! # The gradients of stick-breaking attention, over the reals

The arrays have 8208 rows of 16 heads of 64 columns; the positions of the kernel's rows start with 240 of padding. -/

@[expose] public section

noncomputable section

namespace Stick

open Finset

/-- An array by position and column, zero on the padding. -/
def pad (x : Fin 8208 → Fin 1024 → ℝ) (R c : ℕ) : ℝ :=
  if h : (240 ≤ R ∧ R < 8448) ∧ c < 1024 then x ⟨R - 240, by omega⟩ ⟨c, h.2⟩ else 0

/-- The positions a row sees: no padding, and before its own. -/
def Sees (R C : ℕ) : Prop := 240 ≤ C ∧ C < R
instance (R : ℕ) : DecidablePred (Sees R) := fun _ => by unfold Sees; infer_instance

/-- Queries, keys, values, and the cotangent of the output. -/
structure Arrays where
  q : Fin 8208 → Fin 1024 → ℝ
  k : Fin 8208 → Fin 1024 → ℝ
  v : Fin 8208 → Fin 1024 → ℝ
  g : Fin 8208 → Fin 1024 → ℝ

namespace Arrays
variable (A : Arrays)

/-- The scores of head `H`, -/
def z (H R C : ℕ) : ℝ := ∑ e : Fin 64, pad A.q R (64 * H + e.val) * pad A.k C (64 * H + e.val) * (1 / 8)
/-- and the cotangents of its weights. -/
def w (H R C : ℕ) : ℝ := ∑ e : Fin 64, pad A.g R (64 * H + e.val) * pad A.v C (64 * H + e.val)
def wt (H R C : ℕ) : ℝ := Stick.wt (Sees R) (A.z H R) C
def pr (H R C : ℕ) : ℝ := Stick.pr (Sees R) (A.z H R) (A.w H R) C
def dz (H R C : ℕ) : ℝ := Stick.dz (Sees R) (A.z H R) (A.w H R) C
/-- The output, -/
def o (R c : ℕ) : ℝ := ∑ C ∈ range N, A.wt (c / 64) R C * pad A.v C c
/-- and the gradients of the queries, -/
def dq (R c : ℕ) : ℝ := (∑ C ∈ range N, A.dz (c / 64) R C * pad A.k C c) * (1 / 8)
/-- of the keys, -/
def dk (C c : ℕ) : ℝ := ∑ R ∈ range N, A.dz (c / 64) R C * (pad A.q R c * (1 / 8))
/-- and of the values. -/
def dv (C c : ℕ) : ℝ := ∑ R ∈ range N, A.wt (c / 64) R C * pad A.g R c

end Arrays

/-- A sum over a pair of heads of what is one head's. -/
theorem sum_half (f : ℕ → ℝ) (h : Fin 2) : ∑ d : Fin 128, (if d.val / 64 = h.val then f d.val else 0) = ∑ e : Fin 64, f (64 * h.val + e.val) := by
  rw [Fin.sum_univ_eq_sum_range (fun d => if d / 64 = h.val then f d else 0) 128, Fin.sum_univ_eq_sum_range (fun e => f (64 * h.val + e)) 64,
    ← sum_filter, show (range 128).filter (fun d => d / 64 = h.val) = Ico (0 + 64 * h.val) (64 + 64 * h.val) by
      ext; simp only [mem_filter, mem_range, mem_Ico]; omega, range_eq_Ico, sum_Ico_add f]

/-- A sum over the blocks of 256 rows. -/
theorem sum_blocks (f : ℕ → ℝ) : ∀ n, ∑ i ∈ range n, ∑ r : Fin 256, f (256 * i + r.val) = ∑ R ∈ range (256 * n), f R
  | 0 => rfl
  | n + 1 => by
    rw [sum_range_succ, sum_blocks f n, sum_block f (256 * n), range_eq_Ico, sum_Ico_consecutive f (by omega) (by omega), range_eq_Ico]; rfl

end Stick
-- ==== Proof.StickIdealModel.lean ====
module

public import proofs.«01_k».proof.Proof.Gen.StickIdeal.Launch
public import proofs.«01_k».proof.Proof.Gen.StickIdeal.Points
public import proofs.«01_k».proof.Proof.Gen.StickIdeal.Skeleton
public import Idealize.ShloMosaic.Lib.VecWindow

/-! # What the backward pass of stick-breaking attention computes

At a point of the grid the kernel has one block of 256 queries of a pair of heads. It visits the blocks of keys from its own
block downwards to block 0, and carries two running sums for each head: of the log-survivals and of the products of a weight
and its cotangent. Of every block it adds to the gradient of its queries, and to the rows of the gradients of the keys and the
values that belong to the block. Here this is written with functions of values alone: the visit of the block of its own
(`own`), of an inner block (`inner`, walked down by `walk`), and of block 0 (`last`). -/

@[expose] public section

noncomputable section

namespace Cert.StickIdeal.Gen

open Idealize.ShloMosaic Idealize.ShloMosaic.TcCoe
open Idealize.ShloMosaic.VecWindow (window put)

variable {F : FTy → Type} [FloatOps F] [Named F]

/-- What changes as the blocks of keys are visited: the gradient of the queries, those of the keys and the values, and each
    head's two running sums. -/
structure St (F : FTy → Type) where
  acc : Vec F S2x256x128 .f32
  dk : Vec F S8448x128 .f32
  dv : Vec F S8448x128 .f32
  ln0 : FVec F S256x1 .f32
  e0 : FVec F S256x1 .f32
  ln1 : FVec F S256x1 .f32
  e1 : FVec F S256x1 .f32

/-- What stays: the keys and the values of the pair of heads, the two triangles of ones, and of each head the queries, the
    cotangent and the sum of the products of cotangent and output. -/
structure Row (F : FTy → Type) where
  k : Vec F S8448x128 .bf16
  v : Vec F S8448x128 .bf16
  past : FVec F S256x256 .bf16
  upto : FVec F S256x256 .bf16
  q0 : FVec F S256x128 .bf16
  q1 : FVec F S256x128 .bf16
  d0 : FVec F S256x128 .bf16
  d1 : FVec F S256x128 .bf16
  s0 : FVec F S256x1 .f32
  s1 : FVec F S256x1 .f32

/-- The values of a point whose blocks of queries, outputs and cotangents are `q`, `o` and `g`. -/
def row (q : Vec F S256x128 .bf16) (k v : Vec F S8448x128 .bf16) (o : Vec F S256x128 .f32) (g : Vec F S256x128 .bf16) : Row F where
  k := k
  v := v
  past := k0_pay32
  upto := k0_pay33
  q0 := k0_pay37 q
  q1 := k0_pay38 q
  d0 := k0_pay39 g
  d1 := k0_pay40 g
  s0 := k0_pay43 (k0_pay42 g o)
  s1 := k0_pay44 k0_pay31 (k0_pay41 g o)

/-- The threshold below which a row of weights is taken to be spent. -/
abbrev dead : F .f32 := Named.named κ "dead" 0xC2D00000#32

/-- The visit of an inner block of keys, number `j`. -/
def inner (R : Row F) (j : BitVec 32) (h : k0_chk1 j) (s : St F) : St F :=
  let kj := window R.k (k0_off2 j) S256x128.size (k0_off2_inb j h)
  let vj := window R.v (k0_off2 j) S256x128.size (k0_off2_inb j h)
  let t0 := k0_pay84 R.q0 R.past R.d0 R.s0 R.upto s.ln0 s.e0 kj vj
  let a1 := put s.acc ![0, 0, 0] S1x256x128.size (k0_pay86 (k0_pay76 kj) t0 (k0_pay85 (window s.acc ![0, 0, 0] S1x256x128.size inb_S2x256x128_S1x256x128_0_0_0)) (constant S256x128 .f32 0x00000000#32))
  let dk1 := put s.dk (k0_off2 j) S256x128.size (k0_pay87 R.q0 t0 (window s.dk (k0_off2 j) S256x128.size (k0_off2_inb j h)))
  let dv1 := put s.dv (k0_off2 j) S256x128.size (k0_pay88 R.d0 (k0_pay81 R.q0 R.past s.ln0 kj) (window s.dv (k0_off2 j) S256x128.size (k0_off2_inb j h)))
  let z1 := k0_pay92 R.q1 (k0_pay76 kj)
  let l1 := k0_pay94 R.past R.q1 s.ln1 (k0_pay76 kj)
  { acc := put a1 ![1, 0, 0] S1x256x128.size (k0_pay99 R.upto R.d1 R.s1 s.e1 (k0_pay76 kj) (k0_pay77 vj) z1 l1 (window a1 ![1, 0, 0] S1x256x128.size inb_S2x256x128_S1x256x128_1_0_0))
    dk := put dk1 (k0_off2 j) S256x128.size (k0_pay100 R.upto R.q1 R.d1 R.s1 s.e1 (k0_pay77 vj) z1 l1 (window dk1 (k0_off2 j) S256x128.size (k0_off2_inb j h)))
    dv := put dv1 (k0_off2 j) S256x128.size (k0_pay101 R.d1 l1 (window dv1 (k0_off2 j) S256x128.size (k0_off2_inb j h)))
    ln0 := k0_pay89 s.ln0 (k0_pay80 R.q0 kj)
    e0 := k0_pay90 s.e0 (k0_pay83 R.q0 R.past R.d0 s.ln0 kj vj)
    ln1 := k0_pay7 s.ln1 (k0_pay93 R.q1 (k0_pay76 kj))
    e1 := k0_pay8 s.e1 (k0_pay97 R.d1 (k0_pay77 vj) l1) }

/-- Whether after the visit of an inner block some row's weights are not yet spent, as the word the loop carries. -/
def alive (R : Row F) (j : BitVec 32) (h : k0_chk1 j) (s : St F) : BitVec 32 :=
  let kj := window R.k (k0_off2 j) S256x128.size (k0_off2_inb j h)
  Scalar.extui (Scalar.cmpf .ogt (k0_pay9 s.ln1 (k0_pay89 s.ln0 (k0_pay80 R.q0 kj)) (k0_pay93 R.q1 (k0_pay76 kj))) (dead (F := F)))

/-- Every block number of the loop addresses a block of keys. -/
theorem block_inb : ∀ n : Fin 33, k0_chk1 (BitVec.ofNat 32 n.val) := by decide +kernel

/-- The walk from block `n` down to block 1, as long as some row is not spent. -/
def walk (R : Row F) : (n : ℕ) → n < 33 → BitVec 32 → St F → BitVec 32 × St F
  | 0, _, go, s => (go, s)
  | n + 1, h, go, s =>
    if Scalar.cmpi .sgt go 0#32 = 1#1 then
      walk R n (by omega) (alive R (BitVec.ofNat 32 (n + 1)) (block_inb ⟨n + 1, h⟩) s) (inner R (BitVec.ofNat 32 (n + 1)) (block_inb ⟨n + 1, h⟩) s)
    else (go, s)

/-- The numbers of the rows and of the columns of a block. -/
abbrev rows : IVec S256x256 32 := iota .tc S256x256 32 [0] iota_S256x256_d0_w32
abbrev cols : IVec S256x256 32 := iota .tc S256x256 32 [1] iota_S256x256_d1_w32

/-- The visit of the point's own block of keys, with nothing gathered yet but the rows of the gradients of the keys and the
    values. -/
def own (R : Row F) (i : grid0.Coords) (dk dv : Vec F S8448x128 .f32) : St F :=
  let kj := k0_pay47 (window R.k (k0_off1 i) S256x128.size (k0_off1_inb i))
  let vj := k0_pay48 (window R.v (k0_off1 i) S256x128.size (k0_off1_inb i))
  let b := BitVec.ofNat 32 (i 1).val
  let z := k0_pay46 (F := F)
  let ok := k0_pay49 b rows cols
  let x79 := k0_pay50 R.q0 (window R.k (k0_off1 i) S256x128.size (k0_off1_inb i))
  let x81 := k0_pay51 R.q0 (window R.k (k0_off1 i) S256x128.size (k0_off1_inb i))
  let x85 := k0_pay52 R.q0 (window R.k (k0_off1 i) S256x128.size (k0_off1_inb i))
  let t0 := k0_pay58 R.past R.upto R.d0 R.s0 z vj ok x79 x81 x85
  let a0 := k0_pay45 (F := F)
  let a1 := put a0 ![0, 0, 0] S1x256x128.size (k0_pay59 R.past R.upto R.d0 R.s0 z kj vj ok x79 x81 x85 (window a0 ![0, 0, 0] S1x256x128.size inb_S2x256x128_S1x256x128_0_0_0))
  let dk1 := put dk (k0_off1 i) S256x128.size (k0_pay60 R.q0 t0 (window dk (k0_off1 i) S256x128.size (k0_off1_inb i)) (constant S256x128 .f32 0x00000000#32))
  let dv1 := put dv (k0_off1 i) S256x128.size (k0_pay61 R.d0 (k0_pay55 R.past z ok x79 x81 x85) (window dv (k0_off1 i) S256x128.size (k0_off1_inb i)))
  let x156 := k0_pay65 R.q1 kj
  let x171 := k0_pay68 R.past R.q1 R.d1 z kj vj ok
  { acc := put a1 ![1, 0, 0] S1x256x128.size (k0_pay71 R.upto R.s1 z kj ok x156 x171 (window a1 ![1, 0, 0] S1x256x128.size inb_S2x256x128_S1x256x128_1_0_0))
    dk := put dk1 (k0_off1 i) S256x128.size (k0_pay72 R.upto R.q1 R.s1 z ok x156 x171 (window dk1 (k0_off1 i) S256x128.size (k0_off1_inb i)))
    dv := put dv1 (k0_off1 i) S256x128.size (k0_pay73 R.d1 (k0_pay67 R.past R.q1 z kj ok) (window dv1 (k0_off1 i) S256x128.size (k0_off1_inb i)))
    ln0 := k0_pay62 z (k0_pay54 ok x79 x81 x85)
    e0 := k0_pay63 z (k0_pay57 R.past R.d0 z vj ok x79 x81 x85)
    ln1 := k0_pay74 z (k0_pay66 R.q1 kj ok)
    e1 := k0_pay75 z x171 }

/-- Whether after the visit of its own block some row's weights are not yet spent. -/
def alive0 (s : St F) : BitVec 32 := Scalar.extui (Scalar.cmpf .ogt (k0_pay1 s.ln0 s.ln1) (dead (F := F)))

/-- The visit of block 0, whose first columns are padding. -/
def last (R : Row F) (i : grid0.Coords) (s : St F) : St F :=
  let k0 := window R.k ![0, 0] S256x128.size inb_S8448x128_S256x128_0_0
  let v0 := window R.v ![0, 0] S256x128.size inb_S8448x128_S256x128_0_0
  let b := BitVec.ofNat 32 (i 1).val
  let kj := k0_pay10 k0
  let vj := k0_pay11 v0
  let ok := k0_pay12 b rows cols
  let x266 := k0_pay14 R.q0 k0
  let x278 := k0_pay15 b rows cols R.past R.q0 s.ln0 k0
  let x281 := k0_pay16 b rows cols R.past R.q0 R.d0 s.ln0 k0 v0
  let x283 := k0_pay17 b rows cols R.past R.q0 R.d0 s.ln0 k0 v0
  let a1 := put s.acc ![0, 0, 0] S1x256x128.size (k0_pay19 R.upto R.s0 s.e0 kj ok x266 x281 x283 (window s.acc ![0, 0, 0] S1x256x128.size inb_S2x256x128_S1x256x128_0_0_0))
  let dk1 := put s.dk ![0, 0] S256x128.size (k0_pay20 R.upto R.q0 R.s0 s.e0 ok x266 x281 x283 (window s.dk ![0, 0] S256x128.size inb_S8448x128_S256x128_0_0))
  let dv1 := put s.dv ![0, 0] S256x128.size (k0_pay21 R.d0 x278 (window s.dv ![0, 0] S256x128.size inb_S8448x128_S256x128_0_0))
  let x315 := k0_pay22 R.q1 kj
  let x317 := k0_pay23 R.q1 kj
  let x318 := k0_pay24 R.q1 kj
  let zr : F .f32 := Scalar.ofBits .f32 0x00000000#32
  { s with
    acc := put a1 ![1, 0, 0] S1x256x128.size (k0_pay28 R.past R.upto R.d1 R.s1 s.ln1 s.e1 kj vj ok x315 x317 x318 zr (window a1 ![1, 0, 0] S1x256x128.size inb_S2x256x128_S1x256x128_1_0_0))
    dk := put dk1 ![0, 0] S256x128.size (k0_pay2 R.q1 (k0_pay27 R.past R.upto R.d1 R.s1 s.ln1 s.e1 vj ok x315 x317 x318 zr) (window dk1 ![0, 0] S256x128.size inb_S8448x128_S256x128_0_0))
    dv := put dv1 ![0, 0] S256x128.size (k0_pay3 R.d1 (k0_pay26 R.past s.ln1 ok x315 x317 x318 zr) (window dv1 ![0, 0] S256x128.size inb_S8448x128_S256x128_0_0)) }

/-- The number of the last inner block below the point's own: one less than its own number. -/
def below (i : grid0.Coords) : ℕ := (i 1).val - 1

theorem below_lt (i : grid0.Coords) : below i < 33 := by have := (i 1).isLt; unfold below; change (i 1).val < 33 at this; omega

/-- The walk down from the point's own block. -/
def walked (R : Row F) (i : grid0.Coords) (dk dv : Vec F S8448x128 .f32) : BitVec 32 × St F :=
  walk R (below i) (below_lt i) (alive0 (own R i dk dv)) (own R i dk dv)

/-- Whether block 0 is visited apart: it is not the point's own, and some row is not spent. -/
def toLast (i : grid0.Coords) (go : BitVec 32) : Prop :=
  Scalar.cmpi .ne (Scalar.extui (Scalar.andi (Scalar.cmpi .sgt (BitVec.ofNat 32 (i 1).val) 0#32) (Scalar.cmpi .sgt go 0#32))) 0#32 = 1#1

instance (i : grid0.Coords) (go : BitVec 32) : Decidable (toLast i go) := by unfold toLast; infer_instance

/-- All that a point does, from the gradients of the keys and the values as it finds them. -/
def point (R : Row F) (i : grid0.Coords) (dk dv : Vec F S8448x128 .f32) : St F :=
  if toLast i (walked R i dk dv).1 then last R i (walked R i dk dv).2 else (walked R i dk dv).2

/-- The gradients of the keys and the values as a point starts from them: zero at the first of a pair of heads. -/
def start (i : grid0.Coords) (z x : Vec F S8448x128 .f32) : Vec F S8448x128 .f32 := if (i 1).val = 0 then z else x

/-- The block of the gradient of the queries a point stores. -/
def dqOf (s : St F) : Vec F S256x128 .bf16 :=
  k0_pay4 k0_pay31 (window s.acc ![0, 0, 0] S1x256x128.size inb_S2x256x128_S1x256x128_0_0_0) (window s.acc ![1, 0, 0] S1x256x128.size inb_S2x256x128_S1x256x128_1_0_0)

end Cert.StickIdeal.Gen
-- ==== Proof.StickHead.lean ====
module

public import proofs.«01_k».proof.Proof.StickIdealModel
public import Idealize.ShloMosaic.Lib.Tactic
public import Idealize.ShloMosaic.Lib.Pointwise

/-! # One visit of a block of keys, written once

The kernel's body has the visit of a block of keys written out three times for each of two heads: for the block of the point's
own, for an inner block and for block 0. The visits differ in the mask alone, so here the visit is written once, with the mask
as a function `sel` (the identity at an inner block), and the three visits are told by it. -/

@[expose] public section

set_option maxRecDepth 16384

noncomputable section

namespace Cert.StickIdeal.Gen

open Idealize.ShloMosaic Idealize.ShloMosaic.TcCoe
open Idealize.ShloMosaic.VecWindow (window put)

variable {F : FTy → Type} [FloatOps F] [Named F]

/-- The scores of a block: rows of queries against rows of keys. -/
def hZ (q k : FVec F S256x128 .bf16) : FVec F S256x256 .f32 :=
  matmul dot_S256x128_S256x128_S256x256_1_1_0_0_n_n none q k (constant S256x256 .f32 0x00000000#32)

/-- The logarithm of the sigmoid. -/
def hLs (z : FVec F S256x256 .f32) : FVec F S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- The log-survivals. -/
def hGone (sel : FVec F S256x256 .f32 → FVec F S256x256 .f32) (z : FVec F S256x256 .f32) : FVec F S256x256 .f32 := sel (subf (hLs z) z)

/-- The weights, from the sum `ln` of the log-survivals of the later blocks. -/
def hWt (sel : FVec F S256x256 .f32 → FVec F S256x256 .f32) (past : FVec F S256x256 .bf16) (z : FVec F S256x256 .f32) (ln : FVec F S256x1 .f32) : FVec F S256x256 .bf16 :=
  truncf .bf16 (sel (exp (addf (addf (hLs z)
    (matmul dot_S256x256_S256x256_S256x256_1_0_0_1_n_n none (truncf .bf16 (hGone sel z) bitsLt_bf16_f32) past (constant S256x256 .f32 0x00000000#32)))
    (broadcastTo S256x256 ln broadcasts_S256x1_S256x256)))) bitsLt_bf16_f32

/-- The weights times their cotangents. -/
def hPr (a : FVec F S256x256 .bf16) (d v : FVec F S256x128 .bf16) : FVec F S256x256 .f32 :=
  mulf (extf .f32 a bitsLt_bf16_f32) (hZ d v)

/-- The sum of each row. -/
def hSum (x : FVec F S256x256 .f32) : FVec F S256x1 .f32 :=
  shapeCast S256x1 (multiReduction .add [1] S256 x 0x00000000#32 reduces_S256x256_S256 (.inl rfl) rfl) shapeCasts_S256_S256x1

/-- The cotangents of the scores, from the sums `s` of all products and `e` of those of the later blocks. -/
def hDz (sel : FVec F S256x256 .f32 → FVec F S256x256 .f32) (upto : FVec F S256x256 .bf16) (z p : FVec F S256x256 .f32) (s e : FVec F S256x1 .f32) : FVec F S256x256 .bf16 :=
  truncf .bf16 (sel (subf p (mulf (exp (hLs z))
    (addf (broadcastTo S256x256 (subf (subf s e) (hSum p)) broadcasts_S256x1_S256x256)
      (matmul dot_S256x256_S256x256_S256x256_1_0_0_1_n_n none (truncf .bf16 p bitsLt_bf16_f32) upto (constant S256x256 .f32 0x00000000#32)))))) bitsLt_bf16_f32

/-- What is added to the gradient of the queries. -/
def hAcc (d : FVec F S256x256 .bf16) (k : FVec F S256x128 .bf16) (a : FVec F S1x256x128 .f32) : FVec F S1x256x128 .f32 :=
  shapeCast S1x256x128 (addf (shapeCast S256x128 a shapeCasts_S1x256x128_S256x128)
    (matmul dot_S256x256_S256x128_S256x128_1_0_0_1_n_n none d k (constant S256x128 .f32 0x00000000#32))) shapeCasts_S256x128_S1x256x128

/-- What is added to the rows of the gradient of the keys or the values. -/
def hGrad (x : FVec F S256x256 .bf16) (q : FVec F S256x128 .bf16) (w : FVec F S256x128 .f32) : FVec F S256x128 .f32 :=
  shapeCast S256x128 (addf w (matmul dot_S256x256_S256x128_S256x128_0_0_1_1_n_n none x q (constant S256x128 .f32 0x00000000#32))) shapeCasts_S256x128_S256x128

/-- The visit of the block of keys at `off`. -/
def gvisit (sel : FVec F S256x256 .f32 → FVec F S256x256 .f32) (R : Row F) (off : Fin 2 → ℕ)
    (inb : ∀ a, off a + S256x128.size a ≤ S8448x128.size a) (s : St F) : St F :=
  let k := shapeCast S256x128 (window R.k off S256x128.size inb) shapeCasts_S256x128_S256x128
  let v := shapeCast S256x128 (window R.v off S256x128.size inb) shapeCasts_S256x128_S256x128
  let z0 := hZ R.q0 k
  let a0 := hWt sel R.past z0 s.ln0
  let p0 := hPr a0 R.d0 v
  let t0 := hDz sel R.upto z0 p0 R.s0 s.e0
  let acc1 := put s.acc ![0, 0, 0] S1x256x128.size (hAcc t0 k (window s.acc ![0, 0, 0] S1x256x128.size inb_S2x256x128_S1x256x128_0_0_0))
  let dk1 := put s.dk off S256x128.size (hGrad t0 R.q0 (window s.dk off S256x128.size inb))
  let dv1 := put s.dv off S256x128.size (hGrad a0 R.d0 (window s.dv off S256x128.size inb))
  let z1 := hZ R.q1 k
  let a1 := hWt sel R.past z1 s.ln1
  let p1 := hPr a1 R.d1 v
  let t1 := hDz sel R.upto z1 p1 R.s1 s.e1
  { acc := put acc1 ![1, 0, 0] S1x256x128.size (hAcc t1 k (window acc1 ![1, 0, 0] S1x256x128.size inb_S2x256x128_S1x256x128_1_0_0))
    dk := put dk1 off S256x128.size (hGrad t1 R.q1 (window dk1 off S256x128.size inb))
    dv := put dv1 off S256x128.size (hGrad a1 R.d1 (window dv1 off S256x128.size inb))
    ln0 := addf s.ln0 (hSum (hGone sel z0))
    e0 := addf s.e0 (hSum p0)
    ln1 := addf s.ln1 (hSum (hGone sel z1))
    e1 := addf s.e1 (hSum p1) }

/-- The mask `ok`. -/
def masked (ok : IVec S256x256 1) (x : FVec F S256x256 .f32) : FVec F S256x256 .f32 :=
  select ok x (broadcast S256x256 (Scalar.ofBits .f32 0x00000000#32))

theorem own_eq (R : Row F) (i : grid0.Coords) (dk dv : Vec F S8448x128 .f32) :
    own R i dk dv = gvisit (masked (k0_pay49 (BitVec.ofNat 32 (i 1).val) rows cols)) R (k0_off1 i) (k0_off1_inb i)
      { acc := k0_pay45, dk := dk, dv := dv, ln0 := k0_pay46, e0 := k0_pay46, ln1 := k0_pay46, e1 := k0_pay46 } := rfl

theorem inner_eq (R : Row F) (j : BitVec 32) (h : k0_chk1 j) (s : St F) :
    inner R j h s = gvisit id R (k0_off2 j) (k0_off2_inb j h) s := rfl

theorem last_eq (R : Row F) (i : grid0.Coords) (s : St F) :
    last R i s = { gvisit (masked (k0_pay12 (BitVec.ofNat 32 (i 1).val) rows cols)) R ![0, 0] inb_S8448x128_S256x128_0_0 s with
      ln0 := s.ln0, e0 := s.e0, ln1 := s.ln1, e1 := s.e1 } := rfl

/-- Whether some row is not spent, by its two sums of log-survivals. -/
theorem alive_eq (R : Row F) (j : BitVec 32) (h : k0_chk1 j) (s : St F) : alive R j h s = alive0 (inner R j h s) := rfl

end Cert.StickIdeal.Gen
-- ==== Proof.StickReal.lean ====
module

public import proofs.«01_k».proof.Proof.Norm
public import proofs.«01_k».proof.Proof.Sticks
public import proofs.«01_k».proof.Proof.StickHead

/-! # A visit over the reals

Where a visit finds real numbers it leaves real numbers: those of the row of weights and the row of the gradients of the scores
(`Sticks`), at the positions of the block. -/

@[expose] public section

set_option maxRecDepth 16384

noncomputable section

namespace Cert.StickIdeal.Gen

open Idealize.ShloMosaic Idealize.ShloMosaic.TcCoe
open Idealize.ShloMosaic.VecWindow (window put)
open Stick (ls)

theorem coe_max (x y : ℝ) : max (x : EReal) y = ((max x y : ℝ) : EReal) := (EReal.coe_strictMono.monotone.map_max).symm
theorem coe_min (x y : ℝ) : min (x : EReal) y = ((min x y : ℝ) : EReal) := (EReal.coe_strictMono.monotone.map_min).symm

/-- The logarithm of the sigmoid as the kernel computes it. -/
theorem ls_coe (x : ℝ) : min (x : EReal) 0 - Ideal.log (1 + Ideal.exp (0 - max (x : EReal) (-x))) = (ls x : EReal) := by
  have e : (0 : EReal) - max (x : EReal) (-x) = ((-|x| : ℝ) : EReal) := by
    rw [← EReal.coe_neg, coe_max, ← EReal.coe_zero, ← EReal.coe_sub, zero_sub, abs]
  have h : ¬(1 + Real.exp (-|x|)) ≤ 0 := by have := Real.exp_pos (-|x|); linarith
  rw [e, Ideal.exp_coe, ← EReal.coe_one, ← EReal.coe_add, Ideal.log_coe, if_neg h, ← EReal.coe_zero, coe_min, ← EReal.coe_sub]; rfl

section
variable {sel : FVec Ideal S256x256 .f32 → FVec Ideal S256x256 .f32} {ok : Fin 256 → Fin 256 → Prop} [∀ r l, Decidable (ok r l)]
  (hsel : ∀ x r l, sel x (ix2 r l) = if ok r l then x (ix2 r l) else 0)

theorem hZ_real {q k : FVec Ideal S256x128 .bf16} {Q K : Fin 256 → Fin 128 → ℝ} (hq : ∀ r d, q (ix2 r d) = (Q r d : EReal))
    (hk : ∀ r d, k (ix2 r d) = (K r d : EReal)) (r l : Fin 256) : hZ q k (ix2 r l) = ((∑ d, Q r d * K l d : ℝ) : EReal) := by
  pointwise [hZ]
  rw [Norm.coe_sum]
  exact Finset.sum_congr rfl fun d _ => by rw [hq, hk, EReal.coe_mul]

theorem hLs_real {z : FVec Ideal S256x256 .f32} {Z : Fin 256 → Fin 256 → ℝ} (hz : ∀ r l, z (ix2 r l) = (Z r l : EReal)) (r l : Fin 256) :
    hLs z (ix2 r l) = (ls (Z r l) : EReal) := by
  pointwise [hLs]
  rw [hz, Ideal.absf_def, ls_coe]

include hsel in
theorem hGone_real {z : FVec Ideal S256x256 .f32} {Z : Fin 256 → Fin 256 → ℝ} (hz : ∀ r l, z (ix2 r l) = (Z r l : EReal)) (r l : Fin 256) :
    hGone sel z (ix2 r l) = ((if ok r l then ls (Z r l) - Z r l else 0 : ℝ) : EReal) := by
  rw [hGone, hsel]
  split
  · show hLs z (ix2 r l) - z (ix2 r l) = _
    rw [hLs_real hz, hz, ← EReal.coe_sub]
  · rfl

include hsel in
theorem hWt_real {past : FVec Ideal S256x256 .bf16} (hpast : ∀ r l, past (ix2 r l) = ((if l < r then 1 else 0 : ℝ) : EReal))
    {z : FVec Ideal S256x256 .f32} {Z : Fin 256 → Fin 256 → ℝ} (hz : ∀ r l, z (ix2 r l) = (Z r l : EReal))
    {ln : FVec Ideal S256x1 .f32} {L : Fin 256 → ℝ} (hl : ∀ r, ln (ix2 r 0) = (L r : EReal)) (r l : Fin 256) :
    hWt sel past z ln (ix2 r l) = ((if ok r l then Real.exp (ls (Z r l)
      + (∑ x, (if ok r x then ls (Z r x) - Z r x else 0) * (if l < x then 1 else 0) + L r)) else 0 : ℝ) : EReal) := by
  have e : hWt sel past z ln (ix2 r l) = sel (exp (addf (addf (hLs z)
    (matmul dot_S256x256_S256x256_S256x256_1_0_0_1_n_n none (truncf .bf16 (hGone sel z) bitsLt_bf16_f32) past (constant S256x256 .f32 0x00000000#32)))
    (broadcastTo S256x256 ln broadcasts_S256x1_S256x256))) (ix2 r l) := by pointwise [hWt]
  rw [e, hsel]
  split
  · pointwise []
    simp only [hLs_real hz, hGone_real hsel hz, hpast, hl, ← EReal.coe_mul, ← Norm.coe_sum, ← EReal.coe_add, Ideal.exp_coe]
    rw [add_assoc]
  · rfl

theorem hPr_real {a : FVec Ideal S256x256 .bf16} {A : Fin 256 → Fin 256 → ℝ} (ha : ∀ r l, a (ix2 r l) = (A r l : EReal))
    {q k : FVec Ideal S256x128 .bf16} {Q K : Fin 256 → Fin 128 → ℝ} (hq : ∀ r d, q (ix2 r d) = (Q r d : EReal))
    (hk : ∀ r d, k (ix2 r d) = (K r d : EReal)) (r l : Fin 256) : hPr a q k (ix2 r l) = ((A r l * ∑ d, Q r d * K l d : ℝ) : EReal) := by
  pointwise [hPr]
  rw [hZ_real hq hk, ha, ← EReal.coe_mul]

theorem hSum_real {x : FVec Ideal S256x256 .f32} {X : Fin 256 → Fin 256 → ℝ} (hx : ∀ r l, x (ix2 r l) = (X r l : EReal)) (r : Fin 256) :
    hSum x (ix2 r 0) = ((∑ l, X r l : ℝ) : EReal) := by
  pointwise [hSum]
  rw [Norm.coe_sum]
  exact Finset.sum_congr rfl fun l _ => by rw [hx]

include hsel in
theorem hDz_real {upto : FVec Ideal S256x256 .bf16} (hupto : ∀ r l, upto (ix2 r l) = ((if r ≤ l then 1 else 0 : ℝ) : EReal))
    {z p : FVec Ideal S256x256 .f32} {Z P : Fin 256 → Fin 256 → ℝ} (hz : ∀ r l, z (ix2 r l) = (Z r l : EReal)) (hp : ∀ r l, p (ix2 r l) = (P r l : EReal))
    {s e : FVec Ideal S256x1 .f32} {S E : Fin 256 → ℝ} (hs : ∀ r, s (ix2 r 0) = (S r : EReal)) (he : ∀ r, e (ix2 r 0) = (E r : EReal)) (r l : Fin 256) :
    hDz sel upto z p s e (ix2 r l) = ((if ok r l then P r l - Real.exp (ls (Z r l))
      * ((S r - E r - ∑ x, P r x) + ∑ x, P r x * (if x ≤ l then 1 else 0)) else 0 : ℝ) : EReal) := by
  have e : hDz sel upto z p s e (ix2 r l) = sel (subf p (mulf (exp (hLs z))
    (addf (broadcastTo S256x256 (subf (subf s e) (hSum p)) broadcasts_S256x1_S256x256)
      (matmul dot_S256x256_S256x256_S256x256_1_0_0_1_n_n none (truncf .bf16 p bitsLt_bf16_f32) upto (constant S256x256 .f32 0x00000000#32))))) (ix2 r l) := by
    pointwise [hDz]
  rw [e, hsel]
  split
  · pointwise []
    simp only [hLs_real hz, hp, hupto, hs, he, hSum_real hp, ← EReal.coe_mul, ← Norm.coe_sum, ← EReal.coe_add, ← EReal.coe_sub, Ideal.exp_coe]
  · rfl
end

theorem hAcc_real {d : FVec Ideal S256x256 .bf16} {D : Fin 256 → Fin 256 → ℝ} (hd : ∀ r l, d (ix2 r l) = (D r l : EReal))
    {k : FVec Ideal S256x128 .bf16} {K : Fin 256 → Fin 128 → ℝ} (hk : ∀ r d, k (ix2 r d) = (K r d : EReal))
    {a : FVec Ideal S1x256x128 .f32} {A : Fin 256 → Fin 128 → ℝ} (ha : ∀ r d, a (ix3 0 r d) = (A r d : EReal)) (r : Fin 256) (l : Fin 128) :
    hAcc d k a (ix3 0 r l) = ((A r l + ∑ x, D r x * K x l : ℝ) : EReal) := by
  pointwise [hAcc]
  simp only [hd, hk, ha, ← EReal.coe_mul, ← Norm.coe_sum, ← EReal.coe_add]

theorem hGrad_real {d : FVec Ideal S256x256 .bf16} {D : Fin 256 → Fin 256 → ℝ} (hd : ∀ r l, d (ix2 r l) = (D r l : EReal))
    {k : FVec Ideal S256x128 .bf16} {K : Fin 256 → Fin 128 → ℝ} (hk : ∀ r d, k (ix2 r d) = (K r d : EReal))
    {a : FVec Ideal S256x128 .f32} {A : Fin 256 → Fin 128 → ℝ} (ha : ∀ r d, a (ix2 r d) = (A r d : EReal)) (r : Fin 256) (l : Fin 128) :
    hGrad d k a (ix2 r l) = ((A r l + ∑ x, D x r * K x l : ℝ) : EReal) := by
  pointwise [hGrad]
  simp only [hd, hk, ha, ← EReal.coe_mul, ← Norm.coe_sum, ← EReal.coe_add]

/-! ## Blocks of rows -/

/-- The block of rows from `b` on. -/
theorem window_rows {α : Type} (x : S8448x128.Idx → α) (off : Fin 2 → ℕ) (inb : ∀ a, off a + S256x128.size a ≤ S8448x128.size a) (b : ℕ)
    (h0 : off 0 = b) (h1 : off 1 = 0) (hb : b + 256 ≤ 8448) (r : Fin 256) (d : Fin 128) :
    window x off S256x128.size inb (ix2 r d) = x (ix2 ⟨b + r.val, by omega⟩ d) := by
  unfold window
  congr 1
  funext a
  refine Fin.ext ?_
  match a with
  | ⟨0, _⟩ => show off 0 + 1 * r.val = _; rw [h0, one_mul]; rfl
  | ⟨1, _⟩ => show off 1 + 1 * d.val = _; rw [h1, one_mul, zero_add]; rfl

/-- Replacing the block of rows from `b` on. -/
theorem put_rows {α : Type} (x : S8448x128.Idx → α) (off : Fin 2 → ℕ) (w : S256x128.Idx → α) (b : ℕ)
    (h0 : off 0 = b) (h1 : off 1 = 0) (C : Fin 8448) (d : Fin 128) :
    put x off S256x128.size w (ix2 C d) = if h : b ≤ C.val ∧ C.val < b + 256 then w (ix2 ⟨C.val - b, by omega⟩ d) else x (ix2 C d) := by
  unfold put
  by_cases h : b ≤ C.val ∧ C.val < b + 256
  · have h' : ∀ a : Fin S8448x128.rank, off a ≤ (ix2 C d a).val ∧ (ix2 C d a).val < off a + S256x128.size a := fun a => by
      match a with
      | ⟨0, _⟩ => show off 0 ≤ C.val ∧ C.val < off 0 + 256; rw [h0]; exact h
      | ⟨1, _⟩ => show off 1 ≤ d.val ∧ d.val < off 1 + 128; rw [h1]; have := d.isLt; omega
    rw [dif_pos h', dif_pos h]
    congr 1
    funext a
    refine Fin.ext ?_
    match a with
    | ⟨0, _⟩ => show C.val - off 0 = C.val - b; rw [h0]
    | ⟨1, _⟩ => show d.val - off 1 = d.val; rw [h1]; rfl
  · rw [dif_neg h, dif_neg]
    intro h'
    have := h' 0
    rw [h0] at this
    exact h this

/-- One head's part of the gradient of the queries, -/
theorem window_head {α : Type} (x : S2x256x128.Idx → α) (h : Fin 2) (off : Fin 3 → ℕ) (ho : off = ![h.val, 0, 0])
    (inb : ∀ a, off a + S1x256x128.size a ≤ S2x256x128.size a) (r : Fin 256) (d : Fin 128) :
    window x off S1x256x128.size inb (ix3 0 r d) = x (ix3 h r d) := by
  subst ho
  unfold window
  congr 1
  funext a
  refine Fin.ext ?_
  match a with
  | ⟨0, _⟩ => show h.val + 1 * 0 = _; rfl
  | ⟨1, _⟩ => show 0 + 1 * r.val = _; rw [one_mul, zero_add]; rfl
  | ⟨2, _⟩ => show 0 + 1 * d.val = _; rw [one_mul, zero_add]; rfl

/-- and its replacement. -/
theorem put_head {α : Type} (x : S2x256x128.Idx → α) (h : Fin 2) (off : Fin 3 → ℕ) (ho : off = ![h.val, 0, 0])
    (w : S1x256x128.Idx → α) (h' : Fin 2) (r : Fin 256) (d : Fin 128) :
    put x off S1x256x128.size w (ix3 h' r d) = if h' = h then w (ix3 0 r d) else x (ix3 h' r d) := by
  subst ho
  unfold put
  by_cases e : h' = h
  · subst e
    have h2 : ∀ a : Fin S2x256x128.rank, (![h'.val, 0, 0] : Fin 3 → ℕ) a ≤ (ix3 h' r d a).val ∧ (ix3 h' r d a).val < (![h'.val, 0, 0] : Fin 3 → ℕ) a + S1x256x128.size a := fun a => by
      match a with
      | ⟨0, _⟩ => show h'.val ≤ h'.val ∧ h'.val < h'.val + 1; omega
      | ⟨1, _⟩ => show 0 ≤ r.val ∧ r.val < 0 + 256; omega
      | ⟨2, _⟩ => show 0 ≤ d.val ∧ d.val < 0 + 128; omega
    rw [dif_pos h2, if_pos rfl]
    congr 1
    funext a
    refine Fin.ext ?_
    match a with
    | ⟨0, _⟩ => show h'.val - h'.val = 0; omega
    | ⟨1, _⟩ => show r.val - 0 = r.val; omega
    | ⟨2, _⟩ => show d.val - 0 = d.val; omega
  · rw [if_neg e, dif_neg]
    intro h2
    have := h2 0
    change h.val ≤ h'.val ∧ h'.val < h.val + 1 at this
    exact e (Fin.ext (by omega))

end Cert.StickIdeal.Gen
-- ==== Proof.StickVisit.lean ====
module

public import proofs.«01_k».proof.Proof.StickReal

/-! # What a visit gathers

A point has gathered the keys from position `c` on (`Gathered`, `Running`) when the gradient of its queries, those of the keys and the
values and the running sums are the sums over these keys. The visit of the block at `b` takes a point that has gathered the keys from
`b + 256` on to one that has gathered those from `b` on. -/

@[expose] public section

set_option maxRecDepth 16384

noncomputable section

namespace Cert.StickIdeal.Gen

open Idealize.ShloMosaic Idealize.ShloMosaic.TcCoe
open Idealize.ShloMosaic.VecWindow (window put)
open Finset
open Stick (N)

/-- The numbers of a point: the keys and values at all positions, each head's queries and cotangents, and the positions a row sees. -/
structure Nums where
  K : ℕ → Fin 128 → ℝ
  V : ℕ → Fin 128 → ℝ
  Q : Fin 2 → Fin 256 → Fin 128 → ℝ
  D : Fin 2 → Fin 256 → Fin 128 → ℝ
  row : ℕ

namespace Nums
variable (P : Nums) (h : Fin 2) (r : Fin 256)

/-- The positions row `r` sees: no padding, and before its own. -/
def ok (C : ℕ) : Prop := 240 ≤ C ∧ C < P.row + r.val
instance : DecidablePred (P.ok r) := fun _ => by unfold ok; infer_instance
/-- The scores of a row, -/
def z (C : ℕ) : ℝ := ∑ d, P.Q h r d * P.K C d
/-- and the cotangents of its weights. -/
def w (C : ℕ) : ℝ := ∑ d, P.D h r d * P.V C d
def gone (C : ℕ) : ℝ := Stick.gone (P.ok r) (P.z h r) C
def wt (C : ℕ) : ℝ := Stick.wt (P.ok r) (P.z h r) C
def pr (C : ℕ) : ℝ := Stick.pr (P.ok r) (P.z h r) (P.w h r) C
def dz (C : ℕ) : ℝ := Stick.dz (P.ok r) (P.z h r) (P.w h r) C

/-- What the point's queries add to the gradient of a key, -/
def addK (C : ℕ) (d : Fin 128) : ℝ := ∑ r, P.dz 0 r C * P.Q 0 r d + ∑ r, P.dz 1 r C * P.Q 1 r d
/-- and to that of a value. -/
def addV (C : ℕ) (d : Fin 128) : ℝ := ∑ r, P.wt 0 r C * P.D 0 r d + ∑ r, P.wt 1 r C * P.D 1 r d
end Nums

/-- The values of a point are its numbers. -/
structure RowReal (R : Row Ideal) (P : Nums) : Prop where
  k : ∀ (C : Fin 8448) d, R.k (ix2 C d) = (P.K C.val d : EReal)
  v : ∀ (C : Fin 8448) d, R.v (ix2 C d) = (P.V C.val d : EReal)
  past : ∀ r l, R.past (ix2 r l) = ((if l < r then 1 else 0 : ℝ) : EReal)
  upto : ∀ r l, R.upto (ix2 r l) = ((if r ≤ l then 1 else 0 : ℝ) : EReal)
  q0 : ∀ r d, R.q0 (ix2 r d) = (P.Q 0 r d : EReal)
  q1 : ∀ r d, R.q1 (ix2 r d) = (P.Q 1 r d : EReal)
  d0 : ∀ r d, R.d0 (ix2 r d) = (P.D 0 r d : EReal)
  d1 : ∀ r d, R.d1 (ix2 r d) = (P.D 1 r d : EReal)
  s0 : ∀ r, R.s0 (ix2 r 0) = ((∑ x ∈ range N, P.pr 0 r x : ℝ) : EReal)
  s1 : ∀ r, R.s1 (ix2 r 0) = ((∑ x ∈ range N, P.pr 1 r x : ℝ) : EReal)

/-- The gradients, with the keys from `c` on gathered: `DK` and `DV` are those of the points before. -/
structure Gathered (P : Nums) (DK DV : ℕ → Fin 128 → ℝ) (c : ℕ) (s : St Ideal) : Prop where
  acc : ∀ h r d, s.acc (ix3 h r d) = ((∑ x ∈ Ico c N, P.dz h r x * P.K x d : ℝ) : EReal)
  dk : ∀ (C : Fin 8448) d, s.dk (ix2 C d) = ((DK C.val d + if c ≤ C.val then P.addK C.val d else 0 : ℝ) : EReal)
  dv : ∀ (C : Fin 8448) d, s.dv (ix2 C d) = ((DV C.val d + if c ≤ C.val then P.addV C.val d else 0 : ℝ) : EReal)

/-- The running sums, likewise. -/
structure Running (P : Nums) (c : ℕ) (s : St Ideal) : Prop where
  ln0 : ∀ r, s.ln0 (ix2 r 0) = ((∑ x ∈ Ico c N, P.gone 0 r x : ℝ) : EReal)
  e0 : ∀ r, s.e0 (ix2 r 0) = ((∑ x ∈ Ico c N, P.pr 0 r x : ℝ) : EReal)
  ln1 : ∀ r, s.ln1 (ix2 r 0) = ((∑ x ∈ Ico c N, P.gone 1 r x : ℝ) : EReal)
  e1 : ∀ r, s.e1 (ix2 r 0) = ((∑ x ∈ Ico c N, P.pr 1 r x : ℝ) : EReal)

/-- What a visit computes of one head. -/
theorem head_real (P : Nums) (h : Fin 2) (b : ℕ) (hb : b + 256 ≤ N) {sel : FVec Ideal S256x256 .f32 → FVec Ideal S256x256 .f32}
    (hsel : ∀ x (r l : Fin 256), sel x (ix2 r l) = if P.ok r (b + l.val) then x (ix2 r l) else 0)
    {q d k v : FVec Ideal S256x128 .bf16} (hq : ∀ r l, q (ix2 r l) = (P.Q h r l : EReal)) (hd : ∀ r l, d (ix2 r l) = (P.D h r l : EReal))
    (hk : ∀ (l : Fin 256) c, k (ix2 l c) = (P.K (b + l.val) c : EReal)) (hv : ∀ (l : Fin 256) c, v (ix2 l c) = (P.V (b + l.val) c : EReal))
    {past upto : FVec Ideal S256x256 .bf16} (hpast : ∀ r l, past (ix2 r l) = ((if l < r then 1 else 0 : ℝ) : EReal))
    (hupto : ∀ r l, upto (ix2 r l) = ((if r ≤ l then 1 else 0 : ℝ) : EReal))
    {s ln e : FVec Ideal S256x1 .f32} (hs : ∀ r, s (ix2 r 0) = ((∑ x ∈ range N, P.pr h r x : ℝ) : EReal))
    (hln : ∀ r, ln (ix2 r 0) = ((∑ x ∈ Ico (b + 256) N, P.gone h r x : ℝ) : EReal))
    (he : ∀ r, e (ix2 r 0) = ((∑ x ∈ Ico (b + 256) N, P.pr h r x : ℝ) : EReal)) :
    (∀ r l : Fin 256, hWt sel past (hZ q k) ln (ix2 r l) = (P.wt h r (b + l.val) : EReal))
      ∧ (∀ r l : Fin 256, hDz sel upto (hZ q k) (hPr (hWt sel past (hZ q k) ln) d v) s e (ix2 r l) = (P.dz h r (b + l.val) : EReal))
      ∧ (∀ r, addf ln (hSum (hGone sel (hZ q k))) (ix2 r 0) = ((∑ x ∈ Ico b N, P.gone h r x : ℝ) : EReal))
      ∧ ∀ r, addf e (hSum (hPr (hWt sel past (hZ q k) ln) d v)) (ix2 r 0) = ((∑ x ∈ Ico b N, P.pr h r x : ℝ) : EReal) := by
  have hz : ∀ r l : Fin 256, hZ q k (ix2 r l) = (P.z h r (b + l.val) : EReal) := hZ_real hq hk
  have hg : ∀ r l : Fin 256, hGone sel (hZ q k) (ix2 r l) = (P.gone h r (b + l.val) : EReal) := fun r l => hGone_real hsel hz r l
  have ha : ∀ r l : Fin 256, hWt sel past (hZ q k) ln (ix2 r l) = (P.wt h r (b + l.val) : EReal) := fun r l => by
    rw [hWt_real hsel hpast hz hln]
    unfold Nums.wt Stick.wt
    rw [Stick.after_block _ _ b hb]; rfl
  have hp : ∀ r l : Fin 256, hPr (hWt sel past (hZ q k) ln) d v (ix2 r l) = (P.pr h r (b + l.val) : EReal) := hPr_real ha hd hv
  refine ⟨ha, fun r l => ?_, fun r => ?_, fun r => ?_⟩
  · rw [hDz_real hsel hupto hz hp hs he]
    unfold Nums.dz Stick.dz
    rw [Stick.upto_block _ _ _ b hb]; rfl
  · show ln (ix2 r 0) + hSum _ (ix2 r 0) = _
    rw [hSum_real hg, hln, ← EReal.coe_add, Stick.sum_from _ b hb]
  · show e (ix2 r 0) + hSum _ (ix2 r 0) = _
    rw [hSum_real hp, he, ← EReal.coe_add, Stick.sum_from _ b hb]

/-- The rows of a gradient, after both heads' parts of a block are added. -/
theorem grad_real (b : ℕ) (hb : b + 256 ≤ N) {x : Vec Ideal S8448x128 .f32} {off : Fin 2 → ℕ} (inb : ∀ a, off a + S256x128.size a ≤ S8448x128.size a)
    (h0 : off 0 = b) (h1 : off 1 = 0) (T : Fin 2 → Fin 256 → ℕ → ℝ) (Q : Fin 2 → Fin 256 → Fin 128 → ℝ) (DK : ℕ → Fin 128 → ℝ)
    (hx : ∀ (C : Fin 8448) d, x (ix2 C d) = ((DK C.val d + if b + 256 ≤ C.val then ∑ r, T 0 r C.val * Q 0 r d + ∑ r, T 1 r C.val * Q 1 r d else 0 : ℝ) : EReal))
    {t0 t1 : FVec Ideal S256x256 .bf16} {q0 q1 : FVec Ideal S256x128 .bf16}
    (ht0 : ∀ r l : Fin 256, t0 (ix2 r l) = (T 0 r (b + l.val) : EReal)) (ht1 : ∀ r l : Fin 256, t1 (ix2 r l) = (T 1 r (b + l.val) : EReal))
    (hq0 : ∀ r d, q0 (ix2 r d) = (Q 0 r d : EReal)) (hq1 : ∀ r d, q1 (ix2 r d) = (Q 1 r d : EReal)) (C : Fin 8448) (d : Fin 128) :
    put (put x off S256x128.size (hGrad t0 q0 (window x off S256x128.size inb))) off S256x128.size
        (hGrad t1 q1 (window (put x off S256x128.size (hGrad t0 q0 (window x off S256x128.size inb))) off S256x128.size inb)) (ix2 C d)
      = ((DK C.val d + if b ≤ C.val then ∑ r, T 0 r C.val * Q 0 r d + ∑ r, T 1 r C.val * Q 1 r d else 0 : ℝ) : EReal) := by
  have w0 : ∀ (l : Fin 256) (d : Fin 128), window x off S256x128.size inb (ix2 l d) = (DK (b + l.val) d : EReal) := fun l d => by
    rw [window_rows x off inb b h0 h1 hb, hx]
    have : ¬b + 256 ≤ b + l.val := by omega
    simp only [if_neg this, add_zero]
  have g0 := hGrad_real ht0 hq0 (a := window x off S256x128.size inb) w0
  have w1 : ∀ (l : Fin 256) (d : Fin 128), window (put x off S256x128.size (hGrad t0 q0 (window x off S256x128.size inb))) off S256x128.size inb (ix2 l d)
      = ((DK (b + l.val) d + ∑ r, T 0 r (b + l.val) * Q 0 r d : ℝ) : EReal) := fun l d => by
    rw [window_rows _ off inb b h0 h1 hb, put_rows _ _ _ b h0 h1, dif_pos (show b ≤ b + l.val ∧ b + l.val < b + 256 by omega), ← g0]
    congr 2
    exact Fin.ext (by show b + l.val - b = l.val; omega)
  have g1 := hGrad_real ht1 hq1 w1
  by_cases hC : b ≤ C.val ∧ C.val < b + 256
  · have e : b + (C.val - b) = C.val := by omega
    rw [put_rows _ _ _ b h0 h1, dif_pos hC, g1, if_pos hC.1]
    simp only [e, add_assoc]
  · rw [put_rows _ _ _ b h0 h1, dif_neg hC, put_rows _ _ _ b h0 h1, dif_neg hC, hx]
    have : (b + 256 ≤ C.val) ↔ b ≤ C.val := by omega
    simp only [this]

/-- The gradient of the queries, after both heads' parts of a block are added. -/
theorem acc_real (b : ℕ) (hb : b + 256 ≤ N) {x : Vec Ideal S2x256x128 .f32} (T : Fin 2 → Fin 256 → ℕ → ℝ) (K : ℕ → Fin 128 → ℝ)
    (hx : ∀ h r d, x (ix3 h r d) = ((∑ x ∈ Ico (b + 256) N, T h r x * K x d : ℝ) : EReal)) {t0 t1 : FVec Ideal S256x256 .bf16} {k : FVec Ideal S256x128 .bf16}
    (ht0 : ∀ r l : Fin 256, t0 (ix2 r l) = (T 0 r (b + l.val) : EReal)) (ht1 : ∀ r l : Fin 256, t1 (ix2 r l) = (T 1 r (b + l.val) : EReal))
    (hk : ∀ (l : Fin 256) c, k (ix2 l c) = (K (b + l.val) c : EReal)) (h : Fin 2) (r : Fin 256) (d : Fin 128) :
    put (put x ![0, 0, 0] S1x256x128.size (hAcc t0 k (window x ![0, 0, 0] S1x256x128.size inb_S2x256x128_S1x256x128_0_0_0))) ![1, 0, 0] S1x256x128.size
        (hAcc t1 k (window (put x ![0, 0, 0] S1x256x128.size (hAcc t0 k (window x ![0, 0, 0] S1x256x128.size inb_S2x256x128_S1x256x128_0_0_0)))
          ![1, 0, 0] S1x256x128.size inb_S2x256x128_S1x256x128_1_0_0)) (ix3 h r d)
      = ((∑ x ∈ Ico b N, T h r x * K x d : ℝ) : EReal) := by
  have g0 := hAcc_real (a := window x ![0, 0, 0] S1x256x128.size inb_S2x256x128_S1x256x128_0_0_0) ht0 hk
    fun r d => (window_head x 0 _ rfl _ r d).trans (hx 0 r d)
  have w1 : ∀ (r : Fin 256) (d : Fin 128), window (put x ![0, 0, 0] S1x256x128.size (hAcc t0 k (window x ![0, 0, 0] S1x256x128.size inb_S2x256x128_S1x256x128_0_0_0)))
      ![1, 0, 0] S1x256x128.size inb_S2x256x128_S1x256x128_1_0_0 (ix3 0 r d) = _ :=
    fun r d => (window_head _ 1 _ rfl _ r d).trans ((put_head x 0 _ rfl _ 1 r d).trans ((if_neg (by decide)).trans (hx 1 r d)))
  have g1 := hAcc_real ht1 hk w1
  rw [put_head _ 1 ![1, 0, 0] rfl]
  by_cases e : h = 1
  · subst e
    rw [if_pos rfl, g1, ← Stick.sum_from (fun x => T 1 r x * K x d) b hb]
  · obtain rfl : h = 0 := by omega
    rw [if_neg e, put_head _ 0 ![0, 0, 0] rfl, if_pos rfl, g0, ← Stick.sum_from (fun x => T 0 r x * K x d) b hb]

/-- The visit of the block at `b`. -/
theorem gvisit_real {R : Row Ideal} {P : Nums} (hR : RowReal R P) {DK DV : ℕ → Fin 128 → ℝ} (b : ℕ) (hb : b + 256 ≤ N)
    {sel : FVec Ideal S256x256 .f32 → FVec Ideal S256x256 .f32}
    (hsel : ∀ x (r l : Fin 256), sel x (ix2 r l) = if P.ok r (b + l.val) then x (ix2 r l) else 0)
    {off : Fin 2 → ℕ} (inb : ∀ a, off a + S256x128.size a ≤ S8448x128.size a) (h0 : off 0 = b) (h1 : off 1 = 0) {s : St Ideal}
    (hg : Gathered P DK DV (b + 256) s) (hr : Running P (b + 256) s) :
    Gathered P DK DV b (gvisit sel R off inb s) ∧ Running P b (gvisit sel R off inb s) := by
  have hk : ∀ (l : Fin 256) (c : Fin 128), shapeCast S256x128 (window R.k off S256x128.size inb) shapeCasts_S256x128_S256x128 (ix2 l c) = (P.K (b + l.val) c : EReal) :=
    fun l c => by pointwise []; rw [window_rows _ off inb b h0 h1 hb, hR.k]
  have hv : ∀ (l : Fin 256) (c : Fin 128), shapeCast S256x128 (window R.v off S256x128.size inb) shapeCasts_S256x128_S256x128 (ix2 l c) = (P.V (b + l.val) c : EReal) :=
    fun l c => by pointwise []; rw [window_rows _ off inb b h0 h1 hb, hR.v]
  obtain ⟨a0, t0, l0, e0⟩ := head_real P 0 b hb hsel hR.q0 hR.d0 hk hv hR.past hR.upto hR.s0 hr.ln0 hr.e0
  obtain ⟨a1, t1, l1, e1⟩ := head_real P 1 b hb hsel hR.q1 hR.d1 hk hv hR.past hR.upto hR.s1 hr.ln1 hr.e1
  exact ⟨⟨acc_real b hb P.dz P.K hg.acc t0 t1 hk, grad_real b hb inb h0 h1 P.dz P.Q DK hg.dk t0 t1 hR.q0 hR.q1,
    grad_real b hb inb h0 h1 P.wt P.D DV hg.dv a0 a1 hR.d0 hR.d1⟩, ⟨l0, e0, l1, e1⟩⟩

end Cert.StickIdeal.Gen
-- ==== Proof.StickWalk.lean ====
module

public import proofs.«01_k».proof.Proof.StickVisit
public import Idealize.ShloMosaic.Lib.WordCmp

/-! # What a point gathers

Over the extended reals the threshold of the walk is minus infinity, and a sum of log-survivals is a real number, so the walk is
never cut short: a point visits its own block, every block below it, and block 0. -/

@[expose] public section

set_option maxRecDepth 16384

noncomputable section

namespace Cert.StickIdeal.Gen

open Idealize.ShloMosaic Idealize.ShloMosaic.TcCoe
open Finset
open Stick (N)

/-! ## Masks -/

theorem word (i l : ℕ) : IntOp.addi (BitVec.ofNat 32 l) (Scalar.muli (BitVec.ofNat 32 i) 256#32) = BitVec.ofNat 32 (l + i * 256) := by
  rw [BitVec.ofNat_add, BitVec.ofNat_mul]; rfl

theorem word0 (l : ℕ) : IntOp.addi (BitVec.ofNat 32 l) 0#32 = BitVec.ofNat 32 l := by
  show BitVec.ofNat 32 l + 0#32 = _; rw [BitVec.add_zero]

/-- The mask of the point's own block: past the padding, and before the row's own position. -/
theorem own_mask (i : ℕ) (hi : i < 33) (x : FVec Ideal S256x256 .f32) (r l : Fin 256) :
    masked (k0_pay49 (BitVec.ofNat 32 i) rows cols) x (ix2 r l) = if 240 ≤ 256 * i + l.val ∧ 256 * i + l.val < 256 * i + r.val then x (ix2 r l) else 0 := by
  have h1 := r.isLt
  have h2 := l.isLt
  pointwise [masked, k0_pay49, rows, cols]
  rw [word, word, show (240#32) = BitVec.ofNat 32 240 from rfl, WordCmp.cmpi_slt_ofNat (by omega) (by omega), WordCmp.cmpi_sge_ofNat (by omega) (by omega),
    WordCmp.andi_ofBool, WordCmp.select_ofBool]
  refine if_congr ?_ rfl rfl
  simp only [Bool.and_eq_true, decide_eq_true_eq]
  omega

/-- The mask of block 0. -/
theorem last_mask (i : ℕ) (hi : i < 33) (x : FVec Ideal S256x256 .f32) (r l : Fin 256) :
    masked (k0_pay12 (BitVec.ofNat 32 i) rows cols) x (ix2 r l) = if 240 ≤ 0 + l.val ∧ 0 + l.val < 256 * i + r.val then x (ix2 r l) else 0 := by
  have h1 := r.isLt
  have h2 := l.isLt
  pointwise [masked, k0_pay12, rows, cols]
  rw [word, word0, show (240#32) = BitVec.ofNat 32 240 from rfl, WordCmp.cmpi_slt_ofNat (by omega) (by omega), WordCmp.cmpi_sge_ofNat (by omega) (by omega),
    WordCmp.andi_ofBool, WordCmp.select_ofBool]
  refine if_congr ?_ rfl rfl
  simp only [Bool.and_eq_true, decide_eq_true_eq]
  omega

theorem sitofp_ofBool (b : Bool) : FloatOps.sitofp (F := Ideal) .f32 (BitVec.setWidth 32 (BitVec.ofBool b)) = ((if b then 1 else 0 : ℝ) : EReal) := by
  cases b
  · show (((BitVec.setWidth 32 (0#1)).toInt : ℝ) : EReal) = _; simp
  · show (((BitVec.setWidth 32 (1#1)).toInt : ℝ) : EReal) = _; simp

/-- The two triangles of ones. -/
theorem past_real (r l : Fin 256) : k0_pay32 (F := Ideal) (ix2 r l) = ((if l < r then 1 else 0 : ℝ) : EReal) := by
  have h1 := r.isLt
  have h2 := l.isLt
  pointwise [k0_pay32]
  rw [WordCmp.cmpi_sgt_ofNat (by omega) (by omega), sitofp_ofBool]
  simp only [decide_eq_true_eq, Fin.lt_def]

theorem upto_real (r l : Fin 256) : k0_pay33 (F := Ideal) (ix2 r l) = ((if r ≤ l then 1 else 0 : ℝ) : EReal) := by
  have h1 := r.isLt
  have h2 := l.isLt
  pointwise [k0_pay33]
  rw [WordCmp.cmpi_sle_ofNat (by omega) (by omega), sitofp_ofBool]
  simp only [decide_eq_true_eq, Fin.le_def]

/-! ## The walk -/

/-- The threshold is minus infinity. -/
theorem dead_eq : (dead (F := Ideal) : EReal) = ⊥ := IdealRules.named_const.ideal_named_scalar _ _ _ _ rfl

/-- A point whose running sums are real goes on. -/
theorem alive0_eq {P : Nums} {c : ℕ} {s : St Ideal} (h : Running P c s) : alive0 s = 1#32 := by
  have e : k0_pay1 s.ln0 s.ln1 > (⊥ : EReal) := by
    pointwise [k0_pay1]
    rw [gt_iff_lt, Finset.lt_fold_max]
    refine .inr ⟨⟨0, ⟨0, by decide⟩⟩, mem_univ _, ?_⟩
    rw [h.ln0 0]
    exact lt_max_of_lt_left (EReal.bot_lt_coe _)
  have : Scalar.cmpf (F := Ideal) (φ := .f32) .ogt (k0_pay1 s.ln0 s.ln1) (dead (F := Ideal)) = 1#1 := by
    rw [dead_eq]
    exact (Ideal.cmp_ogt_eq_one _ _).mpr e
  unfold alive0
  rw [this]; rfl

/-- Nothing is gathered past a point's own block. -/
theorem dz_far (P : Nums) (h : Fin 2) (r : Fin 256) (C : ℕ) (hC : P.row + 256 ≤ C) : P.dz h r C = 0 := if_neg fun a => by
  have := r.isLt; have := a.2; omega
theorem wt_far (P : Nums) (h : Fin 2) (r : Fin 256) (C : ℕ) (hC : P.row + 256 ≤ C) : P.wt h r C = 0 := if_neg fun a => by
  have := r.isLt; have := a.2; omega
theorem gone_far (P : Nums) (h : Fin 2) (r : Fin 256) (C : ℕ) (hC : P.row + 256 ≤ C) : P.gone h r C = 0 := if_neg fun a => by
  have := r.isLt; have := a.2; omega
theorem pr_far (P : Nums) (h : Fin 2) (r : Fin 256) (C : ℕ) (hC : P.row + 256 ≤ C) : P.pr h r C = 0 := by
  show P.wt h r C * _ = 0; rw [wt_far P h r C hC, zero_mul]

theorem off1_rows : ∀ i : Fin 33, k0_off2 (BitVec.ofNat 32 i.val) 0 = 256 * i.val := by decide +kernel

/-- The visit of a point's own block. -/
theorem own_real {R : Row Ideal} {P : Nums} (hR : RowReal R P) {DK DV : ℕ → Fin 128 → ℝ} (i : grid0.Coords) (hi : P.row = 256 * (i 1).val)
    {dk dv : Vec Ideal S8448x128 .f32} (hdk : ∀ (C : Fin 8448) d, dk (ix2 C d) = (DK C.val d : EReal)) (hdv : ∀ (C : Fin 8448) d, dv (ix2 C d) = (DV C.val d : EReal)) :
    Gathered P DK DV (256 * (i 1).val) (own R i dk dv) ∧ Running P (256 * (i 1).val) (own R i dk dv) := by
  have h33 : (i 1).val < 33 := (i 1).isLt
  rw [own_eq]
  refine gvisit_real hR _ (by show 256 * (i 1).val + 256 ≤ 8448; omega) (fun x r l => ?_) _ ?_ rfl ⟨fun h r d => ?_, fun C d => ?_, fun C d => ?_⟩ ⟨fun r => ?_, fun r => ?_, fun r => ?_, fun r => ?_⟩
  · rw [own_mask _ h33]
    exact if_congr (by unfold Nums.ok; rw [hi]) rfl rfl
  · exact off1_rows (i 1)
  · rw [sum_eq_zero fun x hx => by rw [dz_far P h r x (by rw [hi]; exact (mem_Ico.mp hx).1), zero_mul]]
    pointwise [k0_pay45]; rfl
  · refine (hdk C d).trans (congrArg _ ?_)
    split
    · rw [Nums.addK, sum_eq_zero fun r _ => by rw [dz_far P 0 r _ (by omega), zero_mul], sum_eq_zero fun r _ => by rw [dz_far P 1 r _ (by omega), zero_mul], add_zero, add_zero]
    · rw [add_zero]
  · refine (hdv C d).trans (congrArg _ ?_)
    split
    · rw [Nums.addV, sum_eq_zero fun r _ => by rw [wt_far P 0 r _ (by omega), zero_mul], sum_eq_zero fun r _ => by rw [wt_far P 1 r _ (by omega), zero_mul], add_zero, add_zero]
    · rw [add_zero]
  · rw [sum_eq_zero fun x hx => gone_far P 0 r x (by rw [hi]; exact (mem_Ico.mp hx).1)]
    pointwise [k0_pay46]; rfl
  · rw [sum_eq_zero fun x hx => pr_far P 0 r x (by rw [hi]; exact (mem_Ico.mp hx).1)]
    pointwise [k0_pay46]; rfl
  · rw [sum_eq_zero fun x hx => gone_far P 1 r x (by rw [hi]; exact (mem_Ico.mp hx).1)]
    pointwise [k0_pay46]; rfl
  · rw [sum_eq_zero fun x hx => pr_far P 1 r x (by rw [hi]; exact (mem_Ico.mp hx).1)]
    pointwise [k0_pay46]; rfl

theorem off2_rows : ∀ n : Fin 33, k0_off2 (BitVec.ofNat 32 n.val) 0 = 256 * n.val ∧ k0_off2 (BitVec.ofNat 32 n.val) 1 = 0 := by decide +kernel

/-- The walk down to block 1 visits every block. -/
theorem walk_real {R : Row Ideal} {P : Nums} (hR : RowReal R P) {DK DV : ℕ → Fin 128 → ℝ} : ∀ (n : ℕ) (h : n < 33), 256 * (n + 1) ≤ P.row → ∀ s : St Ideal,
    Gathered P DK DV (256 * (n + 1)) s → Running P (256 * (n + 1)) s → (walk R n h 1#32 s).1 = 1#32
      ∧ Gathered P DK DV 256 (walk R n h 1#32 s).2 ∧ Running P 256 (walk R n h 1#32 s).2
  | 0, _, _, s, hg, hr => ⟨rfl, hg, hr⟩
  | n + 1, h, hrow, s, hg, hr => by
    obtain ⟨o0, o1⟩ := off2_rows ⟨n + 1, h⟩
    have v := gvisit_real hR (256 * (n + 1)) (by show 256 * (n + 1) + 256 ≤ 8448; omega) (sel := id) (fun x r l => (if_pos ⟨by omega, by omega⟩).symm)
      (k0_off2_inb (BitVec.ofNat 32 (n + 1)) (block_inb ⟨n + 1, h⟩)) o0 o1 hg hr
    rw [← inner_eq] at v
    have w := walk_real hR n (by omega) (by omega) _ v.1 v.2
    have a : alive R (BitVec.ofNat 32 (n + 1)) (block_inb ⟨n + 1, h⟩) s = 1#32 := by rw [alive_eq]; exact alive0_eq v.2
    unfold walk
    rw [if_pos (by decide), a]
    exact w

theorem toLast_iff : ∀ i : Fin 33, (Scalar.cmpi .ne (Scalar.extui (Scalar.andi (Scalar.cmpi .sgt (BitVec.ofNat 32 i.val) 0#32) (Scalar.cmpi .sgt 1#32 0#32))) 0#32 = 1#1) ↔ 0 < i.val := by
  decide +kernel

/-- A point gathers all keys. -/
theorem point_real {R : Row Ideal} {P : Nums} (hR : RowReal R P) {DK DV : ℕ → Fin 128 → ℝ} (i : grid0.Coords) (hi : P.row = 256 * (i 1).val)
    {dk dv : Vec Ideal S8448x128 .f32} (hdk : ∀ (C : Fin 8448) d, dk (ix2 C d) = (DK C.val d : EReal)) (hdv : ∀ (C : Fin 8448) d, dv (ix2 C d) = (DV C.val d : EReal)) :
    Gathered P DK DV 0 (point R i dk dv) := by
  have h33 : (i 1).val < 33 := (i 1).isLt
  obtain ⟨og, or⟩ := own_real hR i hi hdk hdv
  have g := alive0_eq or
  unfold point walked
  rw [g]
  rcases Nat.eq_zero_or_pos (i 1).val with h | h
  · have e : ∀ (n : ℕ) (hn : n < 33) (s : St Ideal), n = 0 → walk R n hn 1#32 s = (1#32, s) := fun n hn s h0 => by subst h0; rfl
    have t : ¬toLast i 1#32 := fun a => by have := (toLast_iff (i 1)).mp a; omega
    rw [e _ (below_lt i) _ (by unfold below; omega), if_neg t]
    rw [h] at og
    exact og
  · have b : below i + 1 = (i 1).val := by unfold below; omega
    obtain ⟨w1, w2, w3⟩ := walk_real hR (DK := DK) (DV := DV) (below i) (below_lt i) (by rw [b, hi]) (own R i dk dv) (by rw [b]; exact og) (by rw [b]; exact or)
    have t : toLast i 1#32 := (toLast_iff (i 1)).mpr h
    rw [w1, if_pos t, last_eq]
    have v := (gvisit_real hR 0 (by decide) (sel := masked (k0_pay12 (BitVec.ofNat 32 (i 1).val) rows cols)) (fun x r l => by rw [last_mask _ h33]; exact if_congr (by unfold Nums.ok; rw [hi]) rfl rfl)
      inb_S8448x128_S256x128_0_0 rfl rfl w2 w3).1
    exact ⟨v.acc, v.dk, v.dv⟩

end Cert.StickIdeal.Gen
-- ==== Proof.StickRow.lean ====
module

public import proofs.«01_k».proof.Proof.StickArrays
public import proofs.«01_k».proof.Proof.StickWalk

/-! # The values of a point

At block `i` of the queries of a pair of heads `p`, a point's values are numbers of the arrays: each head's queries and cotangents
are its half of the columns, and the sum over columns of cotangent and output is the sum over all keys of weight and its
cotangent. -/

@[expose] public section

set_option maxRecDepth 16384

noncomputable section

namespace Cert.StickIdeal.Gen

open Idealize.ShloMosaic Idealize.ShloMosaic.TcCoe
open Finset
open Stick (N pad Arrays)

/-- The numbers of block `i` of the queries of the pair of heads `p`. -/
def nums (A : Arrays) (p i : ℕ) : Nums where
  K C d := pad A.k C (128 * p + d.val)
  V C d := pad A.v C (128 * p + d.val)
  Q h r d := if d.val / 64 = h.val then pad A.q (256 * i + r.val) (128 * p + d.val) * (1 / 8) else 0
  D h r d := if d.val / 64 = h.val then pad A.g (256 * i + r.val) (128 * p + d.val) else 0
  row := 256 * i

variable (A : Arrays) (p i : ℕ)

theorem nums_z (h : Fin 2) (r : Fin 256) : (nums A p i).z h r = A.z (2 * p + h.val) (256 * i + r.val) := funext fun C => by
  show ∑ d : Fin 128, (if d.val / 64 = h.val then pad A.q (256 * i + r.val) (128 * p + d.val) * (1 / 8) else 0) * pad A.k C (128 * p + d.val) = _
  simp only [ite_mul, zero_mul]
  rw [Stick.sum_half (fun d => pad A.q (256 * i + r.val) (128 * p + d) * (1 / 8) * pad A.k C (128 * p + d))]
  refine sum_congr rfl fun e _ => ?_
  rw [show 128 * p + (64 * h.val + e.val) = 64 * (2 * p + h.val) + e.val by ring]
  ring

theorem nums_w (h : Fin 2) (r : Fin 256) : (nums A p i).w h r = A.w (2 * p + h.val) (256 * i + r.val) := funext fun C => by
  show ∑ d : Fin 128, (if d.val / 64 = h.val then pad A.g (256 * i + r.val) (128 * p + d.val) else 0) * pad A.v C (128 * p + d.val) = _
  simp only [ite_mul, zero_mul]
  rw [Stick.sum_half (fun d => pad A.g (256 * i + r.val) (128 * p + d) * pad A.v C (128 * p + d))]
  refine sum_congr rfl fun e _ => ?_
  rw [show 128 * p + (64 * h.val + e.val) = 64 * (2 * p + h.val) + e.val by ring]

theorem nums_wt (h : Fin 2) (r : Fin 256) (C : ℕ) : (nums A p i).wt h r C = A.wt (2 * p + h.val) (256 * i + r.val) C := by
  unfold Nums.wt; rw [nums_z]; rfl
theorem nums_pr (h : Fin 2) (r : Fin 256) (C : ℕ) : (nums A p i).pr h r C = A.pr (2 * p + h.val) (256 * i + r.val) C := by
  unfold Nums.pr; rw [nums_z, nums_w]; rfl
theorem nums_dz (h : Fin 2) (r : Fin 256) (C : ℕ) : (nums A p i).dz h r C = A.dz (2 * p + h.val) (256 * i + r.val) C := by
  unfold Nums.dz; rw [nums_z, nums_w]; rfl

/-- The products of cotangent and output, summed over a head's columns, are those of weight and its cotangent, summed over the keys. -/
theorem sum_output (h : Fin 2) (r : Fin 256) :
    ∑ d : Fin 128, (if d.val / 64 = h.val then A.o (256 * i + r.val) (128 * p + d.val) * pad A.g (256 * i + r.val) (128 * p + d.val) else 0)
      = ∑ x ∈ range N, (nums A p i).pr h r x := by
  rw [Stick.sum_half (fun d => A.o (256 * i + r.val) (128 * p + d) * pad A.g (256 * i + r.val) (128 * p + d))]
  simp only [nums_pr]
  have e : ∀ e : Fin 64, (128 * p + (64 * h.val + e.val)) / 64 = 2 * p + h.val := fun e => by omega
  simp only [Arrays.o, e, Finset.sum_mul]
  rw [Finset.sum_comm]
  refine sum_congr rfl fun C _ => ?_
  show _ = A.wt _ _ C * A.w _ _ C
  rw [Arrays.w, Finset.mul_sum]
  refine sum_congr rfl fun e _ => ?_
  rw [show 128 * p + (64 * h.val + e.val) = 64 * (2 * p + h.val) + e.val by ring]
  ring

theorem eighth : Ideal.ofBits .f32 0x3E000000#32 = ((1 / 8 : ℝ) : EReal) := by
  simp [Ideal.ofBits, Ideal.ieee, -EReal.coe_mul]; norm_num

/-- The choice between the two heads' columns. -/
theorem half (x y : EReal) (l : Fin 128) : Scalar.select (IntOp.cmpi .slt (BitVec.ofNat 32 l.val) 64#32) x y = if l.val / 64 = 0 then x else y := by
  have := l.isLt
  rw [show (64#32) = BitVec.ofNat 32 64 from rfl, WordCmp.cmpi_slt_ofNat (by omega) (by omega), WordCmp.select_ofBool]
  refine if_congr ?_ rfl rfl
  rw [decide_eq_true_eq]; omega

theorem one_iff (l : Fin 128) : l.val / 64 = 1 ↔ ¬l.val / 64 = 0 := by have := l.isLt; omega

variable {q g : Vec Ideal S256x128 .bf16} {k v : Vec Ideal S8448x128 .bf16} {o : Vec Ideal S256x128 .f32}

/-- The values of a point. -/
theorem row_real (hq : ∀ (r : Fin 256) (d : Fin 128), q (ix2 r d) = (pad A.q (256 * i + r.val) (128 * p + d.val) : EReal))
    (hk : ∀ (C : Fin 8448) (d : Fin 128), k (ix2 C d) = (pad A.k C.val (128 * p + d.val) : EReal))
    (hv : ∀ (C : Fin 8448) (d : Fin 128), v (ix2 C d) = (pad A.v C.val (128 * p + d.val) : EReal))
    (ho : ∀ (r : Fin 256) (d : Fin 128), o (ix2 r d) = (A.o (256 * i + r.val) (128 * p + d.val) : EReal))
    (hg : ∀ (r : Fin 256) (d : Fin 128), g (ix2 r d) = (pad A.g (256 * i + r.val) (128 * p + d.val) : EReal)) :
    RowReal (row q k v o g) (nums A p i) where
  k := hk
  v := hv
  past := past_real
  upto := upto_real
  q0 r d := by
    show k0_pay37 q (ix2 r d) = _
    pointwise [k0_pay37, k0_pay34, k0_pay36, k0_pay31]
    rw [half, hq, eighth, ← EReal.coe_mul]
    exact (apply_ite _ _ _ _).symm
  q1 r d := by
    show k0_pay38 q (ix2 r d) = _
    pointwise [k0_pay38, k0_pay34, k0_pay36, k0_pay31]
    rw [half, hq, eighth, ← EReal.coe_mul, ← ite_not]
    exact (if_congr (one_iff d).symm rfl rfl).trans (apply_ite _ _ _ _).symm
  d0 r d := by
    show k0_pay39 g (ix2 r d) = _
    pointwise [k0_pay39, k0_pay35, k0_pay36, k0_pay31]
    rw [half, hg]
    exact (apply_ite _ _ _ _).symm
  d1 r d := by
    show k0_pay40 g (ix2 r d) = _
    pointwise [k0_pay40, k0_pay35, k0_pay36, k0_pay31]
    rw [half, hg, ← ite_not]
    exact (if_congr (one_iff d).symm rfl rfl).trans (apply_ite _ _ _ _).symm
  s0 r := by
    show k0_pay43 (k0_pay42 g o) (ix2 r 0) = _
    pointwise [k0_pay43, k0_pay42, k0_pay41, k0_pay35, k0_pay31]
    rw [← sum_output, Norm.coe_sum]
    refine sum_congr rfl fun d _ => ?_
    rw [half, hg, ho, ← EReal.coe_mul]
    exact (apply_ite _ _ _ _).symm
  s1 r := by
    show k0_pay44 k0_pay31 (k0_pay41 g o) (ix2 r 0) = _
    pointwise [k0_pay44, k0_pay41, k0_pay35, k0_pay31]
    rw [← sum_output, Norm.coe_sum]
    refine sum_congr rfl fun d _ => ?_
    rw [half, hg, ho, ← EReal.coe_mul, ← ite_not]
    exact (if_congr (one_iff d).symm rfl rfl).trans (apply_ite _ _ _ _).symm

/-- What a point adds to the gradients, column by column. -/
theorem nums_addK (C : ℕ) (d : Fin 128) : (nums A p i).addK C d
    = ∑ r : Fin 256, A.dz ((128 * p + d.val) / 64) (256 * i + r.val) C * (pad A.q (256 * i + r.val) (128 * p + d.val) * (1 / 8)) := by
  have := d.isLt
  have e : ∀ h : Fin 2, ∑ r : Fin 256, (nums A p i).dz h r C * (nums A p i).Q h r d = if d.val / 64 = h.val then
      ∑ r : Fin 256, A.dz ((128 * p + d.val) / 64) (256 * i + r.val) C * (pad A.q (256 * i + r.val) (128 * p + d.val) * (1 / 8)) else 0 := fun h => by
    split
    next hd => exact sum_congr rfl fun r _ => by rw [nums_dz, show 2 * p + h.val = (128 * p + d.val) / 64 by omega]; exact congrArg _ (if_pos hd)
    next hd => exact sum_eq_zero fun r _ => by rw [show (nums A p i).Q h r d = 0 from if_neg hd, mul_zero]
  rw [Nums.addK, e, e]
  rcases (show d.val / 64 = 0 ∨ d.val / 64 = 1 by omega) with h | h
  · rw [h]; simp
  · rw [h]; simp

theorem nums_addV (C : ℕ) (d : Fin 128) : (nums A p i).addV C d
    = ∑ r : Fin 256, A.wt ((128 * p + d.val) / 64) (256 * i + r.val) C * pad A.g (256 * i + r.val) (128 * p + d.val) := by
  have := d.isLt
  have e : ∀ h : Fin 2, ∑ r : Fin 256, (nums A p i).wt h r C * (nums A p i).D h r d = if d.val / 64 = h.val then
      ∑ r : Fin 256, A.wt ((128 * p + d.val) / 64) (256 * i + r.val) C * pad A.g (256 * i + r.val) (128 * p + d.val) else 0 := fun h => by
    split
    next hd => exact sum_congr rfl fun r _ => by rw [nums_wt, show 2 * p + h.val = (128 * p + d.val) / 64 by omega]; exact congrArg _ (if_pos hd)
    next hd => exact sum_eq_zero fun r _ => by rw [show (nums A p i).D h r d = 0 from if_neg hd, mul_zero]
  rw [Nums.addV, e, e]
  rcases (show d.val / 64 = 0 ∨ d.val / 64 = 1 by omega) with h | h
  · rw [h]; simp
  · rw [h]; simp

/-- The block of the gradient of the queries. -/
theorem dqOf_real {DK DV : ℕ → Fin 128 → ℝ} {s : St Ideal} (hs : Gathered (nums A p i) DK DV 0 s) (r : Fin 256) (d : Fin 128) :
    dqOf s (ix2 r d) = (A.dq (256 * i + r.val) (128 * p + d.val) : EReal) := by
  have := d.isLt
  have w : ∀ (h : Fin 2), s.acc (ix3 h r d) = ((∑ x ∈ range N, A.dz (2 * p + h.val) (256 * i + r.val) x * pad A.k x (128 * p + d.val) : ℝ) : EReal) := fun h => by
    rw [hs.acc h r d, range_eq_Ico]
    simp only [nums_dz]; rfl
  unfold dqOf
  pointwise [k0_pay4, k0_pay31]
  rw [half, window_head _ 0 ![0, 0, 0] rfl, window_head _ 1 ![1, 0, 0] rfl, eighth, w, w]
  rcases (show d.val / 64 = 0 ∨ d.val / 64 = 1 by omega) with h | h
  · rw [if_pos h, ← EReal.coe_mul, Arrays.dq, show (128 * p + d.val) / 64 = 2 * p + (0 : Fin 2).val by show _ = 2 * p + 0; omega]
  · rw [if_neg (by omega), ← EReal.coe_mul, Arrays.dq, show (128 * p + d.val) / 64 = 2 * p + (1 : Fin 2).val by show _ = 2 * p + 1; omega]

end Cert.StickIdeal.Gen
-- ==== Proof.StickIdealLabel.lean ====
module

public import proofs.«01_k».proof.Proof.StickIdealModel
public import proofs.«01_k».proof.Proof.Owned
public import Idealize.ShloMosaic.Lib.Tactic
public import Idealize.ShloMosaic.Lib.Pipeline.Sound

/-! # The walk over the inner blocks of keys is the function `walk`

The kernel's loop is answered by one specification: given the buffers at the values of a state, it leaves them at those of
the state `walk` ends with, and gives back that state's running sums and the word that says whether some row is still not
spent. It is met by induction on the number of the block. -/

@[expose] public section

set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned

variable {F : FTy → Type} [FloatOps F] [Named F]

local notation "𝕄" => MT nD τ sig Unit (Elt F) ℕ (UR sig nD τ) ℕ

/-- The buffers the loop reads and writes: the keys and the values as they are, the three gradients at those of a state. -/
def held (c : Dev nD) (arg3 arg4 : Memref sig .tc .vmem S8448x128 .bf16) (arg11 : Memref sig .tc .vmem S2x256x128 .f32)
    (arg12 arg13 : Memref sig .tc .vmem S8448x128 .f32) (R : Row F) (s : St F) : sProp 𝕄 :=
  iprop(owns (c : Thread nD τ) arg3 fullShare R.k ∗ owns (c : Thread nD τ) arg4 fullShare R.v ∗ owns (c : Thread nD τ) arg11 fullShare s.acc
    ∗ owns (c : Thread nD τ) arg12 fullShare s.dk ∗ owns (c : Thread nD τ) arg13 fullShare s.dv)

/-- What the loop gives back besides the block it stopped at. -/
def given (r : BitVec 32 × St F) : BitVec 32 × FVec F S256x1 .f32 × FVec F S256x1 .f32 × FVec F S256x1 .f32 × FVec F S256x1 .f32 :=
  (r.1, r.2.ln0, r.2.e0, r.2.ln1, r.2.e1)

section Label

variable (c : Dev nD) (arg3 arg4 : Memref sig .tc .vmem S8448x128 .bf16) (arg11 : Memref sig .tc .vmem S2x256x128 .f32)
  (arg12 arg13 : Memref sig .tc .vmem S8448x128 .f32) (R : Row F)

/-- The loop entered at block `n`: from a state's buffers it leaves those of the state the walk ends with. -/
def spec (n : ℕ) (hn : n < 33) (go : BitVec 32) (s : St F) :
    sWPT 𝕄 (BitVec 32 × BitVec 32 × FVec F S256x1 .f32 × FVec F S256x1 .f32 × FVec F S256x1 .f32 × FVec F S256x1 .f32) := do
  sWPT.consume (held c arg3 arg4 arg11 arg12 arg13 R s)
  let r ← sWPT.arbitrary
  sWPT.assume (r.2 = given (walk R n hn go s))
  sWPT.produce (held c arg3 arg4 arg11 arg12 arg13 R (walk R n hn go s).2)
  pure r

theorem spec_apply (n : ℕ) (hn : n < 33) (go : BitVec 32) (s : St F)
    (K : BitVec 32 × BitVec 32 × FVec F S256x1 .f32 × FVec F S256x1 .f32 × FVec F S256x1 .f32 × FVec F S256x1 .f32 → sProp 𝕄) :
    spec c arg3 arg4 arg11 arg12 arg13 R n hn go s K
      = iprop(held c arg3 arg4 arg11 arg12 arg13 R s ∗ ∀ r : BitVec 32 × BitVec 32 × FVec F S256x1 .f32 × FVec F S256x1 .f32 × FVec F S256x1 .f32 × FVec F S256x1 .f32,
          ⌜r.2 = given (walk R n hn go s)⌝ -∗ (held c arg3 arg4 arg11 arg12 arg13 R (walk R n hn go s).2 -∗ K r)) := rfl

/-- The loop's counter one block down. -/
theorem down : ∀ n : Fin 32, Scalar.subi (BitVec.ofNat 32 (n.val + 1)) 1#32 = BitVec.ofNat 32 n.val := by decide

/-- The loop's first test passes at every block but block 0. -/
theorem above : ∀ n : Fin 32, Scalar.cmpi .sge (BitVec.ofNat 32 (n.val + 1)) 1#32 = 1#1 := by decide

/-- The counter the walk starts with, one below the point's own block, is its number, or stops the loop at once. -/
theorem counter : ∀ n : Fin 33, (n.val - 1 = 0 → Scalar.cmpi .sge (Scalar.subi (BitVec.ofNat 32 n.val) 1#32) 1#32 = 0#1)
    ∧ (n.val - 1 ≠ 0 → Scalar.subi (BitVec.ofNat 32 n.val) 1#32 = BitVec.ofNat 32 (n.val - 1)) := by decide

theorem one_and (b : BitVec 1) : Scalar.andi 1#1 b = b := by revert b; decide

theorem zero_and (b : BitVec 1) : Scalar.andi 0#1 b = 0#1 := by revert b; decide

variable (harg3 : arg3.IsWhole) (harg4 : arg4.IsWhole) (harg11 : arg11.IsWhole) (harg12 : arg12.IsWhole) (harg13 : arg13.IsWhole)

theorem spec_le (i : grid0.Coords) (E : Set ℕ) :
    ∀ n (hn : n < 33) (j : BitVec 32) (hj : (n = 0 → Scalar.cmpi .sge j 1#32 = 0#1) ∧ (n ≠ 0 → j = BitVec.ofNat 32 n)) (go : BitVec 32) (s : St F) K, spec c arg3 arg4 arg11 arg12 arg13 R n hn go s K
      ⊢ wp frame (wpE (defs₀ (F := F)) Variants.nat (c : Thread nD τ) (some n)) E
          (defs₀ (F := F) .tc 1 ⟨i, arg3, harg3, arg4, harg4, R.q0, R.past, R.d0, R.s0, R.upto, arg11, harg11, arg12, harg12, arg13, harg13,
            R.q1, R.d1, R.s1, j, go, s.ln0, s.e0, s.ln1, s.e1⟩) K := by
  intro n
  induction n with
  | zero =>
    intro hn j hj go s K
    rw [spec_apply]
    show _ ⊢ wp frame (wpE (defs₀ (F := F)) Variants.nat (c : Thread nD τ) (some 0)) E
      (cc0_while1 i arg3 harg3 arg4 harg4 R.q0 R.past R.d0 R.s0 R.upto arg11 harg11 arg12 harg12 arg13 harg13
            R.q1 R.d1 R.s1 j go s.ln0 s.e0 s.ln1 s.e1) K
    simp only [cc0_while1_eq_skeleton]; unfold cc0_while1_skel
    have h0 : Scalar.cmpi .sge j 1#32 = 0#1 := hj.1 rfl
    have h1 : ¬ (0#1 : BitVec 1) = 1#1 := by decide
    simp only [h0, zero_and, h1, ↓reduceIte, Prog.pure_eq_ret]
    iintro ⟨H, Hk⟩
    rw [wp_ret]; imodintro
    iapply Hk
    · ipureintro; rfl
    · iexact H
  | succ n ih =>
    intro hn j hj go s K
    obtain rfl : j = BitVec.ofNat 32 (n + 1) := hj.2 (Nat.succ_ne_zero n)
    rw [spec_apply]
    show _ ⊢ wp frame (wpE (defs₀ (F := F)) Variants.nat (c : Thread nD τ) (some (n + 1))) E
      (cc0_while1 i arg3 harg3 arg4 harg4 R.q0 R.past R.d0 R.s0 R.upto arg11 harg11 arg12 harg12 arg13 harg13
            R.q1 R.d1 R.s1 (BitVec.ofNat 32 (n + 1)) go s.ln0 s.e0 s.ln1 s.e1) K
    simp only [cc0_while1_eq_skeleton]; unfold cc0_while1_skel
    have h0 : Scalar.cmpi .sge (BitVec.ofNat 32 (n + 1)) 1#32 = 1#1 := above ⟨n, by omega⟩
    simp only [h0, one_and]
    by_cases hg : Scalar.cmpi .sgt go 0#32 = 1#1
    · have hw : walk R (n + 1) hn go s = walk R n (by omega) (alive R (BitVec.ofNat 32 (n + 1)) (block_inb ⟨n + 1, hn⟩) s) (inner R (BitVec.ofNat 32 (n + 1)) (block_inb ⟨n + 1, hn⟩) s) := by
        rw [walk, if_pos hg]
      rw [hw]
      simp only [hg, ↓reduceIte, k0_part9_eq_skeleton, k0_part10_eq_skeleton, k0_part11_eq_skeleton]
      unfold k0_part9_skel k0_part10_skel k0_part11_skel
      simp only [Prog.lift, Prog.bind_op, Prog.bind_ret, Prog.pure_eq_ret]
      unfold held
      iintro ⟨⟨H3, H4, H11, H12, H13⟩, Hk⟩
      iapply (wp_assume Variants.nat (c : Thread nD τ) (some (n + 1)) E (block_inb ⟨n + 1, hn⟩))
      iapply (wp_load_owned Variants.nat (c : Thread nD τ) (some (n + 1)) E (m := arg3)) $$ H3; iintro H3
      iapply (wp_load_owned Variants.nat (c : Thread nD τ) (some (n + 1)) E (m := arg4)) $$ H4; iintro H4
      iapply (wp_load_owned Variants.nat (c : Thread nD τ) (some (n + 1)) E (m := arg11)) $$ H11; iintro H11
      iapply (wp_load_owned Variants.nat (c : Thread nD τ) (some (n + 1)) E (m := arg11)) $$ H11; iintro H11
      iapply (wp_store_owned Variants.nat (c : Thread nD τ) (some (n + 1)) E (m := arg11)) $$ H11; iintro H11
      iapply (wp_load_owned Variants.nat (c : Thread nD τ) (some (n + 1)) E (m := arg12)) $$ H12; iintro H12
      iapply (wp_load_owned Variants.nat (c : Thread nD τ) (some (n + 1)) E (m := arg12)) $$ H12; iintro H12
      iapply (wp_store_owned Variants.nat (c : Thread nD τ) (some (n + 1)) E (m := arg12)) $$ H12; iintro H12
      iapply (wp_load_owned Variants.nat (c : Thread nD τ) (some (n + 1)) E (m := arg13)) $$ H13; iintro H13
      iapply (wp_load_owned Variants.nat (c : Thread nD τ) (some (n + 1)) E (m := arg13)) $$ H13; iintro H13
      iapply (wp_store_owned Variants.nat (c : Thread nD τ) (some (n + 1)) E (m := arg13)) $$ H13; iintro H13
      iapply (wp_load_owned Variants.nat (c : Thread nD τ) (some (n + 1)) E (m := arg11)) $$ H11; iintro H11
      iapply (wp_load_owned Variants.nat (c : Thread nD τ) (some (n + 1)) E (m := arg11)) $$ H11; iintro H11
      iapply (wp_store_owned Variants.nat (c : Thread nD τ) (some (n + 1)) E (m := arg11)) $$ H11; iintro H11
      iapply (wp_load_owned Variants.nat (c : Thread nD τ) (some (n + 1)) E (m := arg12)) $$ H12; iintro H12
      iapply (wp_load_owned Variants.nat (c : Thread nD τ) (some (n + 1)) E (m := arg12)) $$ H12; iintro H12
      iapply (wp_store_owned Variants.nat (c : Thread nD τ) (some (n + 1)) E (m := arg12)) $$ H12; iintro H12
      iapply (wp_load_owned Variants.nat (c : Thread nD τ) (some (n + 1)) E (m := arg13)) $$ H13; iintro H13
      iapply (wp_load_owned Variants.nat (c : Thread nD τ) (some (n + 1)) E (m := arg13)) $$ H13; iintro H13
      iapply (wp_store_owned Variants.nat (c : Thread nD τ) (some (n + 1)) E (m := arg13)) $$ H13; iintro H13
      rw [down ⟨n, by omega⟩]
      iapply (wp_call_spec Variants.nat (c : Thread nD τ) (some (n + 1)) E
        (spec c arg3 arg4 arg11 arg12 arg13 R n (by omega) (alive R (BitVec.ofNat 32 (n + 1)) (block_inb ⟨n + 1, hn⟩) s) (inner R (BitVec.ofNat 32 (n + 1)) (block_inb ⟨n + 1, hn⟩) s)) n
        (fun u hu => by cases hu; exact Nat.lt_succ_self n)
        (ih (by omega) (BitVec.ofNat 32 n) ⟨fun h => by subst h; decide, fun _ => rfl⟩ (alive R (BitVec.ofNat 32 (n + 1)) (block_inb ⟨n + 1, hn⟩) s) (inner R (BitVec.ofNat 32 (n + 1)) (block_inb ⟨n + 1, hn⟩) s)))
      rw [spec_apply]; unfold held
      isplitl [H3 H4 H11 H12 H13]
      · isplitl [H3]; · iexact H3
        isplitl [H4]; · iexact H4
        isplitl [H11]; · iexact H11
        isplitl [H12]; · iexact H12
        iexact H13
      iintro %r %hr H
      rw [wp_ret]; imodintro
      iapply Hk
      · ipureintro; exact hr
      · iexact H
    · have hw : walk R (n + 1) hn go s = (go, s) := by rw [walk, if_neg hg]
      rw [hw]
      simp only [hg, ↓reduceIte, Prog.pure_eq_ret]
      iintro ⟨H, Hk⟩
      rw [wp_ret]; imodintro
      iapply Hk
      · ipureintro; rfl
      · iexact H

end Label

end Cert.StickIdeal.Gen
-- ==== Proof.StickIdealBody.lean ====
module

public import proofs.«01_k».proof.Proof.StickIdealLabel

/-! # The kernel's body at a point is the function `point`

The staging and scratch buffers are held at known values; the body leaves the block of the gradient of the queries and the
scratch rows of the gradients of the keys and the values as `point` says. At the last block of queries of a pair of heads it
also stores these rows, rounded, into the two result blocks, which it leaves alone at the other points. -/

@[expose] public section

set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned

variable {F : FTy → Type} [FloatOps F] [Named F]

local notation "𝕄" => MT nD τ sig Unit (Elt F) ℕ (UR sig nD τ) ℕ

/-- The first block of queries of a pair of heads is the point where the scratch rows are cleared. -/
theorem first_iff (i : grid0.Coords) :
    Scalar.cmpi .ne (Scalar.extui (Scalar.cmpi .eq (BitVec.ofNat 32 (i 1).val) 0#32)) 0#32 = 1#1 ↔ (i 1).val = 0 := by
  have h : ∀ n : Fin 33, Scalar.cmpi .ne (Scalar.extui (Scalar.cmpi .eq (BitVec.ofNat 32 n.val) 0#32)) 0#32 = 1#1 ↔ n.val = 0 := by decide
  exact h (i 1)

variable (c : Dev nD) (E : Set ℕ) (i : grid0.Coords)
  (arg2 : Memref sig .tc .vmem S256x128 .bf16) (harg2 : arg2.IsWhole) (arg3 : Memref sig .tc .vmem S8448x128 .bf16) (harg3 : arg3.IsWhole)
  (arg4 : Memref sig .tc .vmem S8448x128 .bf16) (harg4 : arg4.IsWhole) (arg5 : Memref sig .tc .vmem S256x128 .f32) (harg5 : arg5.IsWhole)
  (arg6 : Memref sig .tc .vmem S256x128 .bf16) (harg6 : arg6.IsWhole) (arg7 : Memref sig .tc .hbm S8448x11264 .bf16) (harg7 : arg7.IsWhole)
  (arg8 : Memref sig .tc .vmem S256x128 .bf16) (harg8 : arg8.IsWhole) (arg9 : Memref sig .tc .vmem S8448x128 .bf16) (harg9 : arg9.IsWhole)
  (arg10 : Memref sig .tc .vmem S8448x128 .bf16) (harg10 : arg10.IsWhole) (arg11 : Memref sig .tc .vmem S2x256x128 .f32) (harg11 : arg11.IsWhole)
  (arg12 : Memref sig .tc .vmem S8448x128 .f32) (harg12 : arg12.IsWhole) (arg13 : Memref sig .tc .vmem S8448x128 .f32) (harg13 : arg13.IsWhole)

/-- The start of the body: the scratch rows cleared at the first block of queries, then the blocks of the point read. -/
theorem wp_start {β : Type} {Q : β → sProp 𝕄} (q g : Vec F S256x128 .bf16) (o : Vec F S256x128 .f32) (dk dv : Vec F S8448x128 .f32)
    (k : (Σ' (arg1 : BitVec 32) (v5 : IVec S1x128 1) (v6 : IVec S256x256 32) (v7 : IVec S256x256 32) (v11 : FVec F S256x256 .bf16) (v15 : FVec F S256x256 .bf16) (v27 : FVec F S256x128 .bf16) (v30 : FVec F S256x128 .bf16) (v33 : FVec F S256x128 .bf16) (v36 : FVec F S256x128 .bf16) (v40 : FVec F S256x128 .f32), FVec F S256x128 .f32)
      → Prog (TpuEff nD τ sig (Elt F) (Λ₀ F) .tc) β) :
    iprop((owns (c : Thread nD τ) arg2 fullShare q ∗ owns (c : Thread nD τ) arg5 fullShare o ∗ owns (c : Thread nD τ) arg6 fullShare g
        ∗ owns (c : Thread nD τ) arg12 fullShare dk ∗ owns (c : Thread nD τ) arg13 fullShare dv)
      ∗ (iprop(owns (c : Thread nD τ) arg2 fullShare q ∗ owns (c : Thread nD τ) arg5 fullShare o ∗ owns (c : Thread nD τ) arg6 fullShare g
        ∗ owns (c : Thread nD τ) arg12 fullShare (start i k0_pay29 dk) ∗ owns (c : Thread nD τ) arg13 fullShare (start i k0_pay30 dv))
        -∗ wp frame (wpE (defs₀ (F := F)) Variants.nat (c : Thread nD τ) none) E
          (k ⟨BitVec.ofNat 32 (i 1).val, k0_pay31, rows, cols, k0_pay32, k0_pay33, k0_pay37 q, k0_pay38 q, k0_pay39 g, k0_pay40 g, k0_pay41 g o, k0_pay42 g o⟩) Q))
      ⊢ wp frame (wpE (defs₀ (F := F)) Variants.nat (c : Thread nD τ) none) E
          (k0_part4 i arg2 harg2 arg3 harg3 arg4 harg4 arg5 harg5 arg6 harg6 arg7 harg7 arg8 harg8 arg9 harg9 arg10 harg10 arg11 harg11 arg12 harg12 arg13 harg13 >>= k) Q := by
  simp only [k0_part4_eq_skeleton]; unfold k0_part4_skel
  unfold start
  by_cases h0 : (i 1).val = 0
  · have h1 := (first_iff i).mpr h0
    simp only [h0, ↓reduceIte, if_pos]
    rw [h0] at h1
    simp only [h1, ↓reduceDIte, Prog.lift, Prog.bind_op, Prog.bind_ret, Prog.pure_eq_ret]
    iintro ⟨⟨H2, H5, H6, H12, H13⟩, Hk⟩
    iapply (wp_load_all Variants.nat (c : Thread nD τ) none E (m := arg12)) $$ H12; iintro H12
    iapply (wp_store_all Variants.nat (c : Thread nD τ) none E (m := arg12)) $$ H12; iintro H12
    iapply (wp_load_all Variants.nat (c : Thread nD τ) none E (m := arg13)) $$ H13; iintro H13
    iapply (wp_store_all Variants.nat (c : Thread nD τ) none E (m := arg13)) $$ H13; iintro H13
    iapply (wp_load_all Variants.nat (c : Thread nD τ) none E (m := arg2)) $$ H2; iintro H2
    iapply (wp_load_all Variants.nat (c : Thread nD τ) none E (m := arg6)) $$ H6; iintro H6
    iapply (wp_load_all Variants.nat (c : Thread nD τ) none E (m := arg5)) $$ H5; iintro H5
    iapply Hk
    isplitl [H2]; · iexact H2
    isplitl [H5]; · iexact H5
    isplitl [H6]; · iexact H6
    isplitl [H12]; · iexact H12
    iexact H13
  · have h1 := mt (first_iff i).mp h0
    simp only [h0, ↓reduceIte, h1, ↓reduceDIte, Prog.lift, Prog.bind_op, Prog.bind_ret, Prog.pure_eq_ret]
    iintro ⟨⟨H2, H5, H6, H12, H13⟩, Hk⟩
    iapply (wp_load_all Variants.nat (c : Thread nD τ) none E (m := arg2)) $$ H2; iintro H2
    iapply (wp_load_all Variants.nat (c : Thread nD τ) none E (m := arg6)) $$ H6; iintro H6
    iapply (wp_load_all Variants.nat (c : Thread nD τ) none E (m := arg5)) $$ H5; iintro H5
    iapply Hk
    isplitl [H2]; · iexact H2
    isplitl [H5]; · iexact H5
    isplitl [H6]; · iexact H6
    isplitl [H12]; · iexact H12
    iexact H13

/-- What a result block of the gradients of the keys or the values holds after a point. -/
def flushed (i : grid0.Coords) (w x : Vec F S8448x128 .bf16) : Vec F S8448x128 .bf16 := if k0_cond3 i = 1#1 then w else x

set_option maxHeartbeats 4000000 in
/-- The body at a point. -/
theorem sound (q g : Vec F S256x128 .bf16) (k v : Vec F S8448x128 .bf16) (o : Vec F S256x128 .f32) (x8 : Vec F S256x128 .bf16)
    (x9 x10 : Vec F S8448x128 .bf16) (x11 : Vec F S2x256x128 .f32) (dk dv : Vec F S8448x128 .f32) (s : St F)
    (hs : s = point (row q k v o g) i (start i k0_pay29 dk) (start i k0_pay30 dv)) (K : PUnit → sProp 𝕄) :
    iprop((owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg8 fullShare x8
        ∗ owns (c : Thread nD τ) arg9 fullShare x9 ∗ owns (c : Thread nD τ) arg10 fullShare x10 ∗ owns (c : Thread nD τ) arg11 fullShare x11
        ∗ owns (c : Thread nD τ) arg12 fullShare dk ∗ owns (c : Thread nD τ) arg13 fullShare dv)
      ∗ (iprop(owns (c : Thread nD τ) arg2 fullShare q ∗ owns (c : Thread nD τ) arg3 fullShare k ∗ owns (c : Thread nD τ) arg4 fullShare v
        ∗ owns (c : Thread nD τ) arg5 fullShare o ∗ owns (c : Thread nD τ) arg6 fullShare g ∗ owns (c : Thread nD τ) arg8 fullShare (dqOf s)
        ∗ owns (c : Thread nD τ) arg9 fullShare (flushed i (k0_pay5 s.dk) x9) ∗ owns (c : Thread nD τ) arg10 fullShare (flushed i (k0_pay6 s.dv) x10)
        ∗ owns (c : Thread nD τ) arg11 fullShare s.acc ∗ owns (c : Thread nD τ) arg12 fullShare s.dk ∗ owns (c : Thread nD τ) arg13 fullShare s.dv)
        -∗ K ⟨⟩))
      ⊢ wp frame (wpE (defs₀ (F := F)) Variants.nat (c : Thread nD τ) none) E
          (cc0_sb_bwd i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]; unfold cc0_sb_bwd_skel
  iintro ⟨⟨H2, H3, H4, H5, H6, H8, H9, H10, H11, H12, H13⟩, Hk⟩
  iapply (wp_start c E i arg2 harg2 arg3 harg3 arg4 harg4 arg5 harg5 arg6 harg6 arg7 harg7 arg8 harg8 arg9 harg9 arg10 harg10 arg11 harg11 arg12 harg12 arg13 harg13 q g o dk dv)
  isplitl [H2 H5 H6 H12 H13]
  · isplitl [H2]; · iexact H2
    isplitl [H5]; · iexact H5
    isplitl [H6]; · iexact H6
    isplitl [H12]; · iexact H12
    iexact H13
  iintro ⟨H2, H5, H6, H12, H13⟩
  generalize start i k0_pay29 dk = dk0 at hs ⊢
  generalize start i k0_pay30 dv = dv0 at hs ⊢
  simp only [k0_part5_eq_skeleton, k0_part6_eq_skeleton, k0_part7_eq_skeleton, k0_part8_eq_skeleton]
  unfold k0_part5_skel k0_part6_skel k0_part7_skel k0_part8_skel
  simp only [Prog.lift, Prog.bind_op, Prog.bind_ret, Prog.pure_eq_ret]
  iapply (wp_load_all Variants.nat (c : Thread nD τ) none E (m := arg11)) $$ H11; iintro H11
  iapply (wp_store_all Variants.nat (c : Thread nD τ) none E (m := arg11)) $$ H11; iintro H11
  iapply (wp_load_owned Variants.nat (c : Thread nD τ) none E (m := arg3)) $$ H3; iintro H3
  iapply (wp_load_owned Variants.nat (c : Thread nD τ) none E (m := arg4)) $$ H4; iintro H4
  iapply (wp_load_owned Variants.nat (c : Thread nD τ) none E (m := arg11)) $$ H11; iintro H11
  iapply (wp_load_owned Variants.nat (c : Thread nD τ) none E (m := arg11)) $$ H11; iintro H11
  iapply (wp_store_owned Variants.nat (c : Thread nD τ) none E (m := arg11)) $$ H11; iintro H11
  iapply (wp_load_owned Variants.nat (c : Thread nD τ) none E (m := arg12)) $$ H12; iintro H12
  iapply (wp_load_owned Variants.nat (c : Thread nD τ) none E (m := arg12)) $$ H12; iintro H12
  iapply (wp_store_owned Variants.nat (c : Thread nD τ) none E (m := arg12)) $$ H12; iintro H12
  iapply (wp_load_owned Variants.nat (c : Thread nD τ) none E (m := arg13)) $$ H13; iintro H13
  iapply (wp_load_owned Variants.nat (c : Thread nD τ) none E (m := arg13)) $$ H13; iintro H13
  iapply (wp_store_owned Variants.nat (c : Thread nD τ) none E (m := arg13)) $$ H13; iintro H13
  iapply (wp_load_owned Variants.nat (c : Thread nD τ) none E (m := arg11)) $$ H11; iintro H11
  iapply (wp_load_owned Variants.nat (c : Thread nD τ) none E (m := arg11)) $$ H11; iintro H11
  iapply (wp_store_owned Variants.nat (c : Thread nD τ) none E (m := arg11)) $$ H11; iintro H11
  iapply (wp_load_owned Variants.nat (c : Thread nD τ) none E (m := arg12)) $$ H12; iintro H12
  iapply (wp_load_owned Variants.nat (c : Thread nD τ) none E (m := arg12)) $$ H12; iintro H12
  iapply (wp_store_owned Variants.nat (c : Thread nD τ) none E (m := arg12)) $$ H12; iintro H12
  iapply (wp_load_owned Variants.nat (c : Thread nD τ) none E (m := arg13)) $$ H13; iintro H13
  iapply (wp_load_owned Variants.nat (c : Thread nD τ) none E (m := arg13)) $$ H13; iintro H13
  iapply (wp_store_owned Variants.nat (c : Thread nD τ) none E (m := arg13)) $$ H13; iintro H13
  iapply (wp_call_spec Variants.nat (c : Thread nD τ) none E
    (spec c arg3 arg4 arg11 arg12 arg13 (row q k v o g) (below i) (below_lt i) (alive0 (own (row q k v o g) i dk0 dv0)) (own (row q k v o g) i dk0 dv0)) (below i)
    (fun u hu => nomatch hu)
    (spec_le c arg3 arg4 arg11 arg12 arg13 (row q k v o g) harg3 harg4 harg11 harg12 harg13 i E (below i) (below_lt i)
      (Scalar.subi (BitVec.ofNat 32 (i 1).val) 1#32) (counter (i 1)) (alive0 (own (row q k v o g) i dk0 dv0)) (own (row q k v o g) i dk0 dv0)))
  rw [spec_apply]; unfold held
  isplitl [H3 H4 H11 H12 H13]
  · isplitl [H3]; · iexact H3
    isplitl [H4]; · iexact H4
    isplitl [H11]; · iexact H11
    isplitl [H12]; · iexact H12
    iexact H13
  iintro %r %hr ⟨H3, H4, H11, H12, H13⟩
  obtain ⟨r0, r'⟩ := r
  dsimp only at hr
  subst hr
  unfold point walked at hs
  generalize walk (row q k v o g) (below i) (below_lt i) (alive0 (own (row q k v o g) i dk0 dv0)) (own (row q k v o g) i dk0 dv0) = w at hs ⊢
  obtain ⟨go, w⟩ := w
  dsimp only [given] at hs ⊢
  rcases Classical.em (toLast i go) with hl | hl
  case' inl =>
    rw [if_pos hl] at hs
    unfold toLast at hl
    simp only [hl, ↓reduceIte, k0_part1_eq_skeleton, k0_part2_eq_skeleton, k0_part3_eq_skeleton]
    unfold k0_part1_skel k0_part2_skel k0_part3_skel
    simp only [Prog.lift, Prog.bind_op, Prog.bind_ret, Prog.pure_eq_ret]
    iapply (wp_load_owned Variants.nat (c : Thread nD τ) none E (m := arg3)) $$ H3; iintro H3
    iapply (wp_load_owned Variants.nat (c : Thread nD τ) none E (m := arg4)) $$ H4; iintro H4
    iapply (wp_load_owned Variants.nat (c : Thread nD τ) none E (m := arg11)) $$ H11; iintro H11
    iapply (wp_load_owned Variants.nat (c : Thread nD τ) none E (m := arg11)) $$ H11; iintro H11
    iapply (wp_store_owned Variants.nat (c : Thread nD τ) none E (m := arg11)) $$ H11; iintro H11
    iapply (wp_load_owned Variants.nat (c : Thread nD τ) none E (m := arg12)) $$ H12; iintro H12
    iapply (wp_load_owned Variants.nat (c : Thread nD τ) none E (m := arg12)) $$ H12; iintro H12
    iapply (wp_store_owned Variants.nat (c : Thread nD τ) none E (m := arg12)) $$ H12; iintro H12
    iapply (wp_load_owned Variants.nat (c : Thread nD τ) none E (m := arg13)) $$ H13; iintro H13
    iapply (wp_load_owned Variants.nat (c : Thread nD τ) none E (m := arg13)) $$ H13; iintro H13
    iapply (wp_store_owned Variants.nat (c : Thread nD τ) none E (m := arg13)) $$ H13; iintro H13
    iapply (wp_load_owned Variants.nat (c : Thread nD τ) none E (m := arg11)) $$ H11; iintro H11
    iapply (wp_load_owned Variants.nat (c : Thread nD τ) none E (m := arg11)) $$ H11; iintro H11
    iapply (wp_store_owned Variants.nat (c : Thread nD τ) none E (m := arg11)) $$ H11; iintro H11
    iapply (wp_load_owned Variants.nat (c : Thread nD τ) none E (m := arg12)) $$ H12; iintro H12
    iapply (wp_load_owned Variants.nat (c : Thread nD τ) none E (m := arg12)) $$ H12; iintro H12
    iapply (wp_store_owned Variants.nat (c : Thread nD τ) none E (m := arg12)) $$ H12; iintro H12
    iapply (wp_load_owned Variants.nat (c : Thread nD τ) none E (m := arg13)) $$ H13; iintro H13
    iapply (wp_load_owned Variants.nat (c : Thread nD τ) none E (m := arg13)) $$ H13; iintro H13
    iapply (wp_store_owned Variants.nat (c : Thread nD τ) none E (m := arg13)) $$ H13; iintro H13

  case' inr =>
    rw [if_neg hl] at hs
    unfold toLast at hl
    simp only [hl, ↓reduceIte, Prog.lift, Prog.bind_op, Prog.bind_ret, Prog.pure_eq_ret]
  all_goals
    subst hs
    unfold flushed
    iapply (wp_load_owned Variants.nat (c : Thread nD τ) none E (m := arg11)) $$ H11; iintro H11
    iapply (wp_load_owned Variants.nat (c : Thread nD τ) none E (m := arg11)) $$ H11; iintro H11
    iapply (wp_load_all Variants.nat (c : Thread nD τ) none E (m := arg8)) $$ H8; iintro H8
    iapply (wp_store_all Variants.nat (c : Thread nD τ) none E (m := arg8)) $$ H8; iintro H8
    rcases Classical.em (k0_cond3 i = 1#1) with h3 | h3
    case' inl =>
      simp only [h3, ↓reduceIte, ↓reduceDIte, Prog.lift, Prog.bind_op, Prog.bind_ret, Prog.pure_eq_ret]
      iapply (wp_load_all Variants.nat (c : Thread nD τ) none E (m := arg12)) $$ H12; iintro H12
      iapply (wp_load_all Variants.nat (c : Thread nD τ) none E (m := arg9)) $$ H9; iintro H9
      iapply (wp_store_all Variants.nat (c : Thread nD τ) none E (m := arg9)) $$ H9; iintro H9
      iapply (wp_load_all Variants.nat (c : Thread nD τ) none E (m := arg13)) $$ H13; iintro H13
      iapply (wp_load_all Variants.nat (c : Thread nD τ) none E (m := arg10)) $$ H10; iintro H10
      iapply (wp_store_all Variants.nat (c : Thread nD τ) none E (m := arg10)) $$ H10; iintro H10

    case' inr =>
      simp only [h3, ↓reduceIte, ↓reduceDIte, Prog.lift, Prog.bind_op, Prog.bind_ret, Prog.pure_eq_ret]
    all_goals
      rw [wp_ret]; imodintro
      iapply Hk
      isplitl [H2]; · iexact H2
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      isplitl [H12]; · iexact H12
      iexact H13

end Cert.StickIdeal.Gen
-- ==== Proof.StickIdealData.lean ====
module

public import proofs.«01_k».proof.Proof.StickIdealBody
public import Idealize.ShloMosaic.Lib.Pipeline.Frame
public import Idealize.ShloMosaic.Lib.Pipeline.FrameBody
public import Idealize.ShloMosaic.Lib.Pipeline.TableIdle
public import Idealize.ShloMosaic.Lib.Claim

/-! # The points of the backward pass of stick-breaking attention, and what they carry

The scratch rows of the gradients of the keys and the values pass from a point to the next; they are cleared at the first
block of queries of each pair of heads, so what they hold after a point is told by `scr`, a recursion over the points. -/

@[expose] public section

set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the kernel -/

/-- The host operations, in order. -/
abbrev stretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- What a buffer holds when the kernel starts. -/
abbrev V (c : Dev nD) (b : Ref sig .tc) : Buf (Elt F) ((c : Thread nD τ).loc b) := StableHlo.after stretches.flatten (fun b => m (c, b)) b

theorem stretches_fresh : (stretches : List (List (HloOp τ sig (Elt F)))).Forall fun ops => ops.Forall fun op => op.fresh = ∅ := by
  simp only [stretches, List.Forall]; repeat' constructor

set_option maxHeartbeats 4000000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩ stretches_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- The block of a window at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The point number `n`. -/
def pt (n : ℕ) : Fin (cfg0 (F := F)).N := ⟨n % 264, Nat.lt_of_lt_of_eq (Nat.mod_lt _ (by decide)) N_0.symm⟩

theorem pt_val (t : Fin (cfg0 (F := F)).N) : pt t.val = t :=
  Fin.ext (Nat.mod_eq_of_lt (Nat.lt_of_lt_of_eq t.isLt N_0))

/-- The values a point works on. -/
def rowAt (c : Dev nD) (t : Fin (cfg0 (F := F)).N) : Row F := row (iblk m c 0 t) (iblk m c 1 t) (iblk m c 2 t) (iblk m c 3 t) (iblk m c 4 t)

/-- What a point does from the scratch rows it finds. -/
def visit (c : Dev nD) (t : Fin (cfg0 (F := F)).N) (dk dv : Vec F S8448x128 .f32) : St F :=
  point (rowAt m c t) (grid0.coords t) (start (grid0.coords t) k0_pay29 dk) (start (grid0.coords t) k0_pay30 dv)

/-- What the scratch holds after point `n`. -/
def scr (c : Dev nD) : ℕ → St F
  | 0 => visit m c (pt 0) k0_pay29 k0_pay30
  | n + 1 => visit m c (pt (n + 1)) (scr c n).dk (scr c n).dv

theorem coords_row : ∀ t : Fin grid0.N, (grid0.coords t 1).val = t.val % 33 := by decide +kernel

/-- A point leaves what `scr` says, if it finds what `scr` says the point before left: at the first block of queries it may
    find anything. -/
theorem visit_eq (c : Dev nD) (t : Fin (cfg0 (F := F)).N) (dk dv : Vec F S8448x128 .f32)
    (h : t.val % 33 ≠ 0 → dk = (scr m c (t.val - 1)).dk ∧ dv = (scr m c (t.val - 1)).dv) : scr m c t.val = visit m c t dk dv := by
  by_cases h0 : t.val % 33 = 0
  · have hz : (grid0.coords t 1).val = 0 := (coords_row t).trans h0
    have any : ∀ x y x' y' : Vec F S8448x128 .f32, visit m c t x y = visit m c t x' y' := fun x y x' y' => by
      unfold visit start; rw [if_pos hz, if_pos hz, if_pos hz, if_pos hz]
    have ht : t = pt t.val := (pt_val t).symm
    generalize t.val = n at ht
    subst ht
    cases n with
    | zero => exact any _ _ _ _
    | succ n => exact any _ _ _ _
  · obtain ⟨n, hn⟩ : ∃ n, t.val = n + 1 := ⟨t.val - 1, by omega⟩
    obtain ⟨rfl, rfl⟩ := h h0
    rw [show t.val - 1 = n by omega, hn]
    have ht : pt (n + 1) = t := by rw [← hn]; exact pt_val t
    show visit m c (pt (n + 1)) _ _ = _
    rw [ht]

/-- The points where the gradients of the keys and the values are stored, and the windows idle elsewhere. -/
theorem at_end : ∀ t : Fin grid0.N, t.val % 33 = 32 → k0_cond3 (grid0.coords t) = 1#1
    ∧ idle0 6 (grid0.coords t) = false ∧ idle0 7 (grid0.coords t) = false := by
  decide +kernel

theorem at_inner : ∀ t : Fin grid0.N, ¬t.val % 33 = 32 → ¬k0_cond3 (grid0.coords t) = 1#1
    ∧ idle0 6 (grid0.coords t) = true ∧ idle0 7 (grid0.coords t) = true := by
  decide +kernel

/-! ## The proof data -/

/-- What is carried between points: the scratch rows as `scr` says, but at the first block of queries anything; and the scratch of
    the gradient of the queries and the generator's register at anything. -/
def carried (c : Dev nD) (p : ℕ) : sProp 𝕄 :=
  iprop((∃ x11, owns (c : Thread nD τ) (Memref.whole cc0_scratch0) fullShare x11)
    ∗ (∃ dk dv, ⌜p % 33 ≠ 0 → dk = (scr m c (p - 1)).dk ∧ dv = (scr m c (p - 1)).dv⌝
      ∗ owns (c : Thread nD τ) (Memref.whole cc0_scratch1) fullShare dk ∗ owns (c : Thread nD τ) (Memref.whole cc0_scratch2) fullShare dv)
    ∗ ∃ r, prngReg c r)

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOf (scr m c t.val)
    | ⟨6, _⟩ => k0_pay5 (scr m c t.val).dk
    | ⟨7, _⟩ => k0_pay6 (scr m c t.val).dv
  Φ p := carried m c p.val
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = dqOf (scr m c t.val) := rfl
theorem after0_6 (c : Dev nD) (t : Fin (cfg0 (F := F)).N) : (dats m 0 c).after 6 t = k0_pay5 (scr m c t.val).dk := rfl
theorem after0_7 (c : Dev nD) (t : Fin (cfg0 (F := F)).N) : (dats m 0 c).after 7 t = k0_pay6 (scr m c t.val).dv := rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- what it returns at the last block of queries of a pair of heads, -/
def bodyPostEnd (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- and what it returns at the other points. -/
def bodyPostInner (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare ((dats m 0 c).before 6 t d))
    ∗ (∃ d, owns (c : Thread nD τ) (st0_7 t) fullShare ((dats m 0 c).before 7 t d)))

/-- The body at a point, the scratch told by `scr`. -/
theorem sound_point (c : Dev nD) (t : Fin (cfg0 (F := F)).N) (x6 x7 : Vec F S8448x128 .bf16) (x5 : Vec F S256x128 .bf16) (y6 y7 : Vec F S8448x128 .bf16)
    (h6 : flushed (grid0.coords t) (k0_pay5 (scr m c t.val).dk) x6 = y6) (h7 : flushed (grid0.coords t) (k0_pay6 (scr m c t.val).dv) x7 = y7)
    (K : PUnit → sProp 𝕄) :
    iprop((carried m c t.val
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare x5 ∗ owns (c : Thread nD τ) (st0_6 t) fullShare x6 ∗ owns (c : Thread nD τ) (st0_7 t) fullShare x7)
    ∗ (iprop(carried m c (t.val + 1)
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (dqOf (scr m c t.val))
    ∗ owns (c : Thread nD τ) (st0_6 t) fullShare y6
    ∗ owns (c : Thread nD τ) (st0_7 t) fullShare y7) -∗ K ⟨⟩))
      ⊢ wp frame (wpE (defs₀ (F := F)) Variants.nat (c : Thread nD τ) none) Set.univ (bodyAt0 t) K := by
  subst h6 h7
  unfold carried bodyAt0
  iintro ⟨⟨⟨⟨%x11, H11⟩, ⟨%dk, %dv, %hd, H12, H13⟩, Hp⟩, H0, H1, H2, H3, H4, H5, H6, H7⟩, Hk⟩
  iapply (sound c Set.univ (grid0.coords t) (win0_0.stage ((cfg0 (F := F)).slots t 0)) _ (win0_1.stage ((cfg0 (F := F)).slots t 1)) _
    (win0_2.stage ((cfg0 (F := F)).slots t 2)) _ (win0_3.stage ((cfg0 (F := F)).slots t 3)) _ (win0_4.stage ((cfg0 (F := F)).slots t 4)) _ (Memref.whole main_v31) _
    (win0_5.stage ((cfg0 (F := F)).slots t 5)) _ (win0_6.stage ((cfg0 (F := F)).slots t 6)) _ (win0_7.stage ((cfg0 (F := F)).slots t 7)) _
    (Memref.whole cc0_scratch0) _ (Memref.whole cc0_scratch1) _ (Memref.whole cc0_scratch2) _
    (iblk m c 0 t) (iblk m c 4 t) (iblk m c 1 t) (iblk m c 2 t) (iblk m c 3 t) x5 x6 x7 x11 dk dv (scr m c t.val) (visit_eq m c t dk dv hd) K)
  isplitl [H0 H1 H2 H3 H4 H5 H6 H7 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H12]; · iexact H12
    iexact H13
  iintro ⟨H0, H1, H2, H3, H4, H5, H6, H7, H11, H12, H13⟩
  iapply Hk
  isplitl [H11 H12 H13 Hp]
  · isplitl [H11]; · iexists _; iexact H11
    isplitl [H12 H13]
    · iexists _, _
      isplitr; · ipureintro; exact fun _ => ⟨rfl, rfl⟩
      isplitl [H12]; · iexact H12
      iexact H13
    iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.StickIdeal.Gen
-- ==== Proof.StickIdealFrame.lean ====
module

public import proofs.«01_k».proof.Proof.StickIdealData

/-! # The frame of the backward pass of stick-breaking attention -/

@[expose] public section

set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What stands between two points is the scratch. -/
theorem stands (c : Dev nD) (p : Fin ((cfg0 (F := F)).N + 1)) : (dats m 0 c).Φ p = carried m c p.val := rfl

set_option maxHeartbeats 1000000 in
theorem sound_end (c : Dev nD) (t : Fin (cfg0 (F := F)).N) (h : t.val % 33 = 32) :
    bodyPre m c t ⊢ wp frame (wpE (defs₀ (F := F)) Variants.nat (c : Thread nD τ) none) Set.univ (bodyAt0 t) (fun _ => bodyPostEnd m c t) := by
  unfold bodyPre bodyPostEnd
  have hf : ∀ w x : Vec F S8448x128 .bf16, flushed (grid0.coords t) w x = w := fun w x => if_pos (at_end t h).1
  simp only [before0_0, before0_1, before0_2, before0_3, before0_4]
  rw [stands, stands, Fin.val_castSucc, Fin.val_succ,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_point m c t ((dats m 0 c).before 6 t d6) ((dats m 0 c).before 7 t d7) ((dats m 0 c).before 5 t d5) _ _ (hf _ _) (hf _ _))
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
theorem sound_inner (c : Dev nD) (t : Fin (cfg0 (F := F)).N) (h : ¬t.val % 33 = 32) :
    bodyPre m c t ⊢ wp frame (wpE (defs₀ (F := F)) Variants.nat (c : Thread nD τ) none) Set.univ (bodyAt0 t) (fun _ => bodyPostInner m c t) := by
  unfold bodyPre bodyPostInner
  have hf : ∀ w x : Vec F S8448x128 .bf16, flushed (grid0.coords t) w x = x := fun w x => if_neg (at_inner t h).1
  simp only [before0_0, before0_1, before0_2, before0_3, before0_4]
  rw [stands, stands, Fin.val_castSucc, Fin.val_succ,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_point m c t ((dats m 0 c).before 6 t d6) ((dats m 0 c).before 7 t d7) ((dats m 0 c).before 5 t d5) _ _ (hf _ _) (hf _ _))
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists d6; iexact H6
  iexists d7; iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- A window the body leaves written, and one it leaves alone. -/
theorem left_written {i : Bool} (f : Bool) (A B : sProp 𝕄) (h : i = false) :
    B ⊢ match (generalizing := false) i with | true => (match (generalizing := false) f with | false => A | true => B) | false => B := by
  subst h; exact .rfl

theorem left_alone {i f : Bool} (A B : sProp 𝕄) (h : i = true) (h' : f = false) :
    A ⊢ match (generalizing := false) i with | true => (match (generalizing := false) f with | false => A | true => B) | false => B := by
  subst h h'; exact .rfl

set_option maxHeartbeats 1000000 in
/-- The library's body obligation, at every point. -/
theorem body_obligation (c : Dev nD) : BodyObligation (dats (F := F) m 0 c) (defs₀ (F := F)) Variants.nat () Set.univ := fun t => by
  rw [bigSep_W0, bigSep_W0, defs₀_row]
  by_cases h : t.val % 33 = 32
  · obtain ⟨-, i6, i7⟩ := at_end t h
    refine triple_restated (sound_end m c t h) rfl .rfl fun _ => ?_
    unfold bodyPostEnd
    have r : ∀ P : sProp 𝕄, P ⊢ P := fun _ => .rfl
    refine Idealize.SL.BI.sep_mono (r _) (Idealize.SL.BI.sep_mono (r _) (Idealize.SL.BI.sep_mono (r _) (Idealize.SL.BI.sep_mono (r _) (Idealize.SL.BI.sep_mono (r _) (Idealize.SL.BI.sep_mono (r _) (Idealize.SL.BI.sep_mono (r _) (Idealize.SL.BI.sep_mono (r _)
      (Idealize.SL.BI.sep_mono (left_written _ _ _ i6) (left_written _ _ _ i7)))))))))
  · obtain ⟨-, i6, i7⟩ := at_inner t h
    have f6 : ((cfg0 (F := F)).win 6).flush t = false := Bool.eq_false_iff.mpr fun hf => h ((flush0_6 t).mp hf)
    have f7 : ((cfg0 (F := F)).win 7).flush t = false := Bool.eq_false_iff.mpr fun hf => h ((flush0_7 t).mp hf)
    refine triple_restated (sound_inner m c t h) rfl .rfl fun _ => ?_
    unfold bodyPostInner
    have r : ∀ P : sProp 𝕄, P ⊢ P := fun _ => .rfl
    refine Idealize.SL.BI.sep_mono (r _) (Idealize.SL.BI.sep_mono (r _) (Idealize.SL.BI.sep_mono (r _) (Idealize.SL.BI.sep_mono (r _) (Idealize.SL.BI.sep_mono (r _) (Idealize.SL.BI.sep_mono (r _) (Idealize.SL.BI.sep_mono (r _) (Idealize.SL.BI.sep_mono (r _)
      (Idealize.SL.BI.sep_mono (left_alone _ _ i6 f6) (left_alone _ _ i7 f7)))))))))

/-! ## The run and the frame -/

theorem carried_in (c : Dev nD) : Pipeline.ΦA spec0 c ⊢ (dats (F := F) m 0 c).Φ 0 := by
  rw [show (dats m 0 c).Φ 0 = carried m c 0 from rfl]
  unfold Pipeline.ΦA carried
  rw [scopedRest0_eq]
  simp only [owns_whole]
  iintro ⟨⟨⟨%f0, H0⟩, ⟨%f1, H1⟩, ⟨%f2, H2⟩⟩, Hp⟩
  isplitl [H0]; · iexists f0; iexact H0
  isplitl [H1 H2]
  · iexists f1, f2
    isplitr; · ipureintro; exact fun h => absurd rfl h
    isplitl [H1]; · iexact H1
    iexact H2
  iexact Hp

theorem carried_out (c : Dev nD) : (dats (F := F) m 0 c).Φ (Fin.last (cfg0 (F := F)).N) ⊢ Pipeline.ΦA spec0 c := by
  rw [show (dats m 0 c).Φ (Fin.last (cfg0 (F := F)).N) = carried m c (cfg0 (F := F)).N from rfl]
  unfold Pipeline.ΦA carried
  rw [scopedRest0_eq]
  simp only [owns_whole]
  iintro ⟨⟨%f0, H0⟩, ⟨%f1, %f2, -, H1, H2⟩, Hp⟩
  isplitl [H0 H1 H2]
  · isplitl [H0]; · iexists f0; iexact H0
    isplitl [H1]; · iexists f1; iexact H1
    iexists f2; iexact H2
  iexact Hp

set_option backward.isDefEq.respectTransparency.types false in
/-- The launch: every array at what the library computes from the proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun c w _ => rfl)
    (howed := fun _ _ => rfl) (V := V m) (hmain := hmain m Variants.nat) (hA := A_eq m) (hin := carried_in m) (hout := carried_out m)

theorem run_main : θ_run defs (onTc (τ := τ) (main (F := F))) (s₀ m ρ) (Pipeline.FramePost cfgs (dats m) 0 (V m)) :=
  (θ_run defs _ _).mono (fun _ h => h.1) (run_main_quiescent m ρ)

/-- No window stages an argument. -/
theorem not_staged : ∀ w : Fin 8, (spec0 w).arr.view.ref ≠ main_arg0 ∧ (spec0 w).arr.view.ref ≠ main_arg1
    ∧ (spec0 w).arr.view.ref ≠ main_arg2 ∧ (spec0 w).arr.view.ref ≠ main_arg3 := by decide

theorem rest_eq {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) fun w => (not_staged w).1)).trans (V_main_arg0 m c),
   ((h c).2 main_arg1 (Pipeline.mem_restRefs_of main_arg1 (by decide) fun w => (not_staged w).2.1)).trans (V_main_arg1 m c),
   ((h c).2 main_arg2 (Pipeline.mem_restRefs_of main_arg2 (by decide) fun w => (not_staged w).2.2.1)).trans (V_main_arg2 m c),
   ((h c).2 main_arg3 (Pipeline.mem_restRefs_of main_arg3 (by decide) fun w => (not_staged w).2.2.2)).trans (V_main_arg3 m c)⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => rest_eq m h.1 c, h.2⟩) (run_main_quiescent m ρ)

end Cert.StickIdeal.Gen
-- ==== Proof.StickPoints.lean ====
module

public import proofs.«01_k».proof.Proof.StickRow
public import proofs.«01_k».proof.Proof.StickIdealFrame
public import Idealize.ShloMosaic.Lib.Pipeline.ValueKit

/-! # What the points leave

Point `33 p + i` has block `i` of the queries of the pair of heads `p`. The gradients of the keys and the values of a pair of heads
gather over its points, and stand at the last of them; the gradient of the queries stands at each. -/

@[expose] public section

set_option maxRecDepth 16384

noncomputable section

namespace Cert.StickIdeal.Gen

open Idealize.ShloMosaic Idealize.ShloMosaic.TcCoe Idealize.SL.Sem
open Idealize.ShloMosaic.Pipeline (Dat)
open Finset
open Stick (N pad Arrays)

variable (m : (ℓ : Loc nD τ sig) → Buf (Elt Ideal) ℓ)

theorem idx : ∀ t : Fin (cfg0 (F := Ideal)).N, win0_0.index t = ![t.val % 33, 48 + t.val / 33] ∧ win0_1.index t = ![0, 56 + t.val / 33]
    ∧ win0_2.index t = ![0, 64 + t.val / 33] ∧ win0_3.index t = ![t.val % 33, t.val / 33] ∧ win0_4.index t = ![t.val % 33, t.val / 33]
    ∧ win0_5.index t = ![t.val % 33, 48 + t.val / 33] ∧ win0_6.index t = ![0, t.val / 33] ∧ win0_7.index t = ![0, t.val / 33] :=
  (by decide +kernel : ∀ t : Fin grid0.N, win0_0.index t = ![t.val % 33, 48 + t.val / 33] ∧ win0_1.index t = ![0, 56 + t.val / 33]
    ∧ win0_2.index t = ![0, 64 + t.val / 33] ∧ win0_3.index t = ![t.val % 33, t.val / 33] ∧ win0_4.index t = ![t.val % 33, t.val / 33]
    ∧ win0_5.index t = ![t.val % 33, 48 + t.val / 33] ∧ win0_6.index t = ![0, t.val / 33] ∧ win0_7.index t = ![0, t.val / 33])

theorem points (t : Fin (cfg0 (F := Ideal)).N) : t.val < 264 := Nat.lt_of_lt_of_eq t.isLt N_0

/-- What the kernel starts from: the padded projections, cotangent, output, and zeros. -/
structure Starts (A : Arrays) (c : Dev nD) : Prop where
  q : ∀ (R : Fin 8448) (l : Fin 1024), V m c main_v1 (ix2 R ⟨6144 + l.val, by omega⟩) = (pad A.q R.val l.val : EReal)
  k : ∀ (R : Fin 8448) (l : Fin 1024), V m c main_v1 (ix2 R ⟨7168 + l.val, by omega⟩) = (pad A.k R.val l.val : EReal)
  v : ∀ (R : Fin 8448) (l : Fin 1024), V m c main_v1 (ix2 R ⟨8192 + l.val, by omega⟩) = (pad A.v R.val l.val : EReal)
  o : ∀ (R : Fin 8448) (l : Fin 1024), V m c main_v29 (ix2 R l) = (A.o R.val l.val : EReal)
  g : ∀ (R : Fin 8448) (l : Fin 1024), V m c main_v30 (ix2 R l) = (pad A.g R.val l.val : EReal)

variable {m} {A : Arrays} {c : Dev nD} (hA : Starts m A c) (t : Fin (cfg0 (F := Ideal)).N)

include hA

theorem iblk0_real (r : Fin 256) (d : Fin 128) : iblk m c 0 t (ix2 r d) = (pad A.q (256 * (t.val % 33) + r.val) (128 * (t.val / 33) + d.val) : EReal) := by
  have ht := points t
  obtain ⟨e, -⟩ := idx t
  have h := hA.q ⟨256 * (t.val % 33) + r.val, by omega⟩ ⟨128 * (t.val / 33) + d.val, by omega⟩
  rw [← h]
  show V m c main_v1 _ = V m c main_v1 _
  generalize V m c main_v1 = x
  blk_point [e]

theorem iblk1_real (C : Fin 8448) (d : Fin 128) : iblk m c 1 t (ix2 C d) = (pad A.k C.val (128 * (t.val / 33) + d.val) : EReal) := by
  have ht := points t
  obtain ⟨-, e, -⟩ := idx t
  have h := hA.k C ⟨128 * (t.val / 33) + d.val, by omega⟩
  rw [← h]
  show V m c main_v1 _ = V m c main_v1 _
  generalize V m c main_v1 = x
  blk_point [e]

theorem iblk2_real (C : Fin 8448) (d : Fin 128) : iblk m c 2 t (ix2 C d) = (pad A.v C.val (128 * (t.val / 33) + d.val) : EReal) := by
  have ht := points t
  obtain ⟨-, -, e, -⟩ := idx t
  have h := hA.v C ⟨128 * (t.val / 33) + d.val, by omega⟩
  rw [← h]
  show V m c main_v1 _ = V m c main_v1 _
  generalize V m c main_v1 = x
  blk_point [e]

theorem iblk3_real (r : Fin 256) (d : Fin 128) : iblk m c 3 t (ix2 r d) = (A.o (256 * (t.val % 33) + r.val) (128 * (t.val / 33) + d.val) : EReal) := by
  have ht := points t
  obtain ⟨-, -, -, e, -⟩ := idx t
  have h := hA.o ⟨256 * (t.val % 33) + r.val, by omega⟩ ⟨128 * (t.val / 33) + d.val, by omega⟩
  rw [← h]
  show V m c main_v29 _ = V m c main_v29 _
  generalize V m c main_v29 = x
  blk_point [e]

theorem iblk4_real (r : Fin 256) (d : Fin 128) : iblk m c 4 t (ix2 r d) = (pad A.g (256 * (t.val % 33) + r.val) (128 * (t.val / 33) + d.val) : EReal) := by
  have ht := points t
  obtain ⟨-, -, -, -, e, -⟩ := idx t
  have h := hA.g ⟨256 * (t.val % 33) + r.val, by omega⟩ ⟨128 * (t.val / 33) + d.val, by omega⟩
  rw [← h]
  show V m c main_v30 _ = V m c main_v30 _
  generalize V m c main_v30 = x
  blk_point [e]

/-- A point's values are numbers of the arrays. -/
theorem rowAt_real : RowReal (rowAt m c t) (nums A (t.val / 33) (t.val % 33)) :=
  row_real A _ _ (iblk0_real hA t) (iblk1_real hA t) (iblk2_real hA t) (iblk3_real hA t) (iblk4_real hA t)

omit hA in
theorem coords_block : (grid0.coords t 1).val = t.val % 33 := coords_row t

/-- What the points of a pair of heads before block `i` have added to the gradients. -/
def sumK (A : Arrays) (p i C : ℕ) (d : Fin 128) : ℝ := ∑ x ∈ range i, (nums A p x).addK C d
def sumV (A : Arrays) (p i C : ℕ) (d : Fin 128) : ℝ := ∑ x ∈ range i, (nums A p x).addV C d

/-- A point that finds what the points before have added gathers all keys. -/
theorem visit_real {dk dv : Vec Ideal S8448x128 .f32} (hdk : t.val % 33 ≠ 0 → ∀ (C : Fin 8448) d, dk (ix2 C d) = (sumK A (t.val / 33) (t.val % 33) C.val d : EReal))
    (hdv : t.val % 33 ≠ 0 → ∀ (C : Fin 8448) d, dv (ix2 C d) = (sumV A (t.val / 33) (t.val % 33) C.val d : EReal)) :
    Gathered (nums A (t.val / 33) (t.val % 33)) (sumK A (t.val / 33) (t.val % 33)) (sumV A (t.val / 33) (t.val % 33)) 0 (visit m c t dk dv) := by
  refine point_real (rowAt_real hA t) _ (by rw [coords_block]; rfl) (fun C d => ?_) fun C d => ?_
  · unfold start
    rw [coords_block]
    split
    next h => rw [h]; pointwise [k0_pay29]; rfl
    next h => exact hdk h C d
  · unfold start
    rw [coords_block]
    split
    next h => rw [h]; pointwise [k0_pay30]; rfl
    next h => exact hdv h C d

/-- What the scratch holds after a point. -/
theorem scr_real : ∀ n, n < 264 → Gathered (nums A (n / 33) (n % 33)) (sumK A (n / 33) (n % 33)) (sumV A (n / 33) (n % 33)) 0 (scr m c n)
  | 0, _ => visit_real hA (pt 0) (fun h => absurd rfl h) fun h => absurd rfl h
  | n + 1, hn => by
    have g := scr_real n (by omega)
    have ht : (pt (F := Ideal) (n + 1)).val = n + 1 := Nat.mod_eq_of_lt hn
    have v := visit_real hA (pt (n + 1)) (dk := (scr m c n).dk) (dv := (scr m c n).dv) (fun h C d => ?_) fun h C d => ?_
    · rw [ht] at v; exact v
    · rw [ht] at h ⊢
      rw [g.dk C d, if_pos (Nat.zero_le _), show (n + 1) / 33 = n / 33 by omega, show (n + 1) % 33 = n % 33 + 1 by omega, sumK, sumK, sum_range_succ]
    · rw [ht] at h ⊢
      rw [g.dv C d, if_pos (Nat.zero_le _), show (n + 1) / 33 = n / 33 by omega, show (n + 1) % 33 = n % 33 + 1 by omega, sumV, sumV, sum_range_succ]

/-- At the last point of a pair of heads the gradients of the keys and the values are complete. -/
theorem dk_real (h : t.val % 33 = 32) (C : Fin 8448) (d : Fin 128) :
    k0_pay5 (scr m c t.val).dk (ix2 C d) = (A.dk C.val (128 * (t.val / 33) + d.val) : EReal) := by
  pointwise [k0_pay5]
  rw [(scr_real hA t.val (points t)).dk, if_pos (Nat.zero_le _), sumK, h, ← sum_range_succ]
  simp only [nums_addK]
  rw [Stick.sum_blocks (fun R => A.dz ((128 * (t.val / 33) + d.val) / 64) R C.val * (pad A.q R (128 * (t.val / 33) + d.val) * (1 / 8)))]; rfl

theorem dv_real (h : t.val % 33 = 32) (C : Fin 8448) (d : Fin 128) :
    k0_pay6 (scr m c t.val).dv (ix2 C d) = (A.dv C.val (128 * (t.val / 33) + d.val) : EReal) := by
  pointwise [k0_pay6]
  rw [(scr_real hA t.val (points t)).dv, if_pos (Nat.zero_le _), sumV, h, ← sum_range_succ]
  simp only [nums_addV]
  rw [Stick.sum_blocks (fun R => A.wt ((128 * (t.val / 33) + d.val) / 64) R C.val * pad A.g R (128 * (t.val / 33) + d.val))]; rfl

theorem dq_real (r : Fin 256) (d : Fin 128) :
    dqOf (scr m c t.val) (ix2 r d) = (A.dq (256 * (t.val % 33) + r.val) (128 * (t.val / 33) + d.val) : EReal) :=
  dqOf_real A _ _ (scr_real hA t.val (points t)) r d

end Cert.StickIdeal.Gen
-- ==== Proof.StickFinal.lean ====
module

public import proofs.«01_k».proof.Proof.StickPoints
public import Idealize.ShloMosaic.Lib.Pipeline.ValueKit

/-! # The gradients of stick-breaking attention after the run -/

@[expose] public section

set_option maxRecDepth 16384

noncomputable section

namespace Cert.StickIdeal.Gen

open Idealize.ShloMosaic Idealize.ShloMosaic.TcCoe Idealize.SL.Sem
open Idealize.ShloMosaic.Pipeline (Dat)
open Finset
open Stick (N pad Arrays)

variable (m : (ℓ : Loc nD τ sig) → Buf (Elt Ideal) ℓ)

variable {m} {A : Arrays} {c : Dev nD} (hA : Starts m A c) (hz : ∀ i, V m c main_v32_0 i = (0 : EReal))

include hA

/-- The gradient of the keys. -/
theorem final6 : (dats m 0 c).arrAt 6 (cfg0 (F := Ideal)).N = fun i => (A.dk (i 0).val (i 1).val : EReal) := by
  refine (dats m 0 c).arrAt_eq_of_covers 6 _ (by decide +kernel) fun t hf y => ?_
  have h : t.val % 33 = 32 := (flush0_6 t).mp hf
  have key (y : S8448x128.Idx) : k0_pay5 (scr m c t.val).dk (y) = (A.dk (win0_6.index t 0 * 8448 + (y 0).val) (win0_6.index t 1 * 128 + (y 1).val) : EReal) := by
    obtain ⟨-, -, -, -, -, -, e, -⟩ := idx t
    idx_vars y
    refine (dk_real hA t h y0 y1).trans (congrArg _ (congrArg₂ A.dk ?_ ?_)) <;> blk_simp [e]
    exact congrArg (· + _) (Nat.mul_comm _ _)
  blk_simp
  rw [after0_6]
  exact key y

/-- The gradient of the values. -/
theorem final7 : (dats m 0 c).arrAt 7 (cfg0 (F := Ideal)).N = fun i => (A.dv (i 0).val (i 1).val : EReal) := by
  refine (dats m 0 c).arrAt_eq_of_covers 7 _ (by decide +kernel) fun t hf y => ?_
  have h : t.val % 33 = 32 := (flush0_7 t).mp hf
  have key (y : S8448x128.Idx) : k0_pay6 (scr m c t.val).dv (y) = (A.dv (win0_7.index t 0 * 8448 + (y 0).val) (win0_7.index t 1 * 128 + (y 1).val) : EReal) := by
    obtain ⟨-, -, -, -, -, -, -, e⟩ := idx t
    idx_vars y
    refine (dv_real hA t h y0 y1).trans (congrArg _ (congrArg₂ A.dv ?_ ?_)) <;> blk_simp [e]
    exact congrArg (· + _) (Nat.mul_comm _ _)
  blk_simp
  rw [after0_7]
  exact key y

include hz in
/-- The gradient of the queries: in their columns of the gradient of the projection, zero elsewhere. -/
theorem final5 : (dats m 0 c).arrAt 5 (cfg0 (F := Ideal)).N = fun i => if 6144 ≤ (i 1).val ∧ (i 1).val < 7168 then (A.dq (i 0).val ((i 1).val - 6144) : EReal) else 0 := by
  refine ((dats m 0 c).arrAt_eq_of_coversWhere 5 (fun i => (A.dq (i 0).val ((i 1).val - 6144) : EReal)) (P := fun i => 48 ≤ (i 1).val / 128 ∧ (i 1).val / 128 < 56)
    (fun β => 48 ≤ β (1 : Fin _) ∧ β (1 : Fin _) < 56) (by decide +kernel) (fun t hf y => ?_) (fun j => Iff.rfl)).trans (funext fun i => ?_)
  · have key (y : S256x128.Idx) : dqOf (scr m c t.val) y = (A.dq (win0_5.index t 0 * 256 + (y 0).val) ((win0_5.index t 1 * 128 + (y 1).val) - 6144) : EReal) := by
      obtain ⟨-, -, -, -, -, e, -⟩ := idx t
      idx_vars y
      refine (dq_real hA t y0 y1).trans (congrArg _ (congrArg₂ A.dq ?_ ?_)) <;> blk_simp [e]
      all_goals omega
    blk_simp
    rw [after0_5]
    exact key y
  · have e : (48 ≤ (i 1).val / 128 ∧ (i 1).val / 128 < 56) ↔ 6144 ≤ (i 1).val ∧ (i 1).val < 7168 := by omega
    by_cases h : 6144 ≤ (i 1).val ∧ (i 1).val < 7168
    · rw [if_pos h, if_pos (e.mpr h)]
    · rw [if_neg h, if_neg (fun k => h (e.mp k)), A_eq]
      exact hz i

end Cert.StickIdeal.Gen
-- ==== Proof.RunSum.lean ====
module

public import Idealize.ShloMosaic.PureOps.Ideal.Laws
public import Idealize.ShloMosaic.Lib.IdealHost
public import Idealize.ShloMosaic.Lib.ValueIdxCore

/-! # Running sums

`cumsum` along the last axis of a stack of matrices prints as a window of the whole length over the row, padded by one less on the
side where the sum starts. On a row of real numbers it is the sum of the entries up to its own (padded in front) or from its own on
(padded behind). -/

@[expose] public section
set_option maxRecDepth 16384

noncomputable section

namespace RunSum

open Idealize.ShloMosaic Idealize.ShloMosaic.ValueIdx
open Finset

/-- Reals added one after the other to a real make their sum. -/
theorem foldl_add {ι : Type} (l : List ι) (g : ι → EReal) (f : ι → ℝ) (hg : ∀ a, g a = (f a : EReal)) (z : ℝ) :
    l.foldl (fun r a => r + g a) (z : EReal) = ((z + (l.map f).sum : ℝ) : EReal) := by
  induction l generalizing z with
  | nil => simp
  | cons a l ih => rw [List.foldl_cons, hg, ← EReal.coe_add, ih, List.map_cons, List.sum_cons, add_assoc]

/-- A row has as many elements as it is long. -/
theorem numel3 (n : Nat) : (⟨3, ![1, 1, n]⟩ : Shape).numel = n := by
  show ∏ a : Fin 3, (![1, 1, n] : Fin 3 → Nat) a = n
  rw [Fin.prod_univ_three]
  show 1 * 1 * n = n
  omega

/-- Position `k` of a row is its index `(0, 0, k)`. -/
theorem symm3 {n : Nat} (k : Fin (⟨3, ![1, 1, n]⟩ : Shape).numel) :
    (⟨3, ![1, 1, n]⟩ : Shape).rowMajor.symm k = ix3 (0 : Fin 1) (0 : Fin 1) (k.cast (numel3 n)) :=
  ((⟨3, ![1, 1, n]⟩ : Shape).rowMajor.symm_apply_eq).2 (Fin.ext (by
    rw [Shape.rowMajor_val_three]
    show k.val = (0 * 1 + 0) * n + k.val
    omega))

/-- A function of the place, summed over the positions of a row. -/
theorem sum_row (n : Nat) (f : Nat → ℝ) :
    ((List.finRange (⟨3, ![1, 1, n]⟩ : Shape).numel).map fun k => f k.val).sum = ∑ k ∈ range n, f k := by
  rw [← List.ofFn_eq_map, List.sum_ofFn, Fin.sum_univ_eq_sum_range (fun k => f k), numel3]

variable {B M n d : Nat}

/-- The running sum from an entry on. -/
theorem behind (hn : d + 1 = n) (x : (⟨3, ![B, M, n]⟩ : Shape).Idx → EReal) (init : (⟨0, ![]⟩ : Shape).Idx → EReal) (f : Nat → ℝ)
    (b : Fin B) (r : Fin M) (hx : ∀ u : Fin n, x (ix3 b r u) = (f u.val : EReal)) (hi : ∀ i, init i = 0)
    (h : (⟨3, ![B, M, n]⟩ : Shape).ReduceWindows (![1, 1, n] : Fin 3 → Nat) ![1, 1, 1] ![0, 0, 0] ![0, 0, d] ⟨3, ![B, M, n]⟩)
    (hu : 0 < (⟨0, ![]⟩ : Shape).numel) (j : Fin n) :
    Host.reduceWindowAdd (F := Ideal) (φ := .f32) ![1, 1, n] ![1, 1, 1] ![0, 0, 0] ![0, 0, d] x init h hu (ix3 b r j)
      = ((∑ u ∈ Ico j.val n, f u : ℝ) : EReal) := by
  have hj := j.isLt
  unfold Host.reduceWindowAdd
  rw [Ideal.hostReduceWindowAdd_def, hi]
  unfold Ideal.hostReduceWindowAdd Host.reduceWindow
  refine (foldl_add _ _ (fun k => if j.val + k.val < n then f (j.val + k.val) else 0) (fun k => ?_) 0).trans ?_
  · have hk : k.val < n := (k.cast (numel3 n)).isLt
    have h0 : ((⟨3, ![1, 1, n]⟩ : Shape).rowMajor.symm k 0).val = 0 := by rw [symm3]; rfl
    have h1 : ((⟨3, ![1, 1, n]⟩ : Shape).rowMajor.symm k 1).val = 0 := by rw [symm3]; rfl
    have h2 : ((⟨3, ![1, 1, n]⟩ : Shape).rowMajor.symm k 2).val = k.val := by rw [symm3]; rfl
    dsimp only
    split
    · next hin =>
      have h3 := (hin 2).2
      change j.val * 1 + ((⟨3, ![1, 1, n]⟩ : Shape).rowMajor.symm k 2).val - 0 < n at h3
      rw [h2] at h3
      rw [if_pos (by omega)]
      refine (congrArg x (funext fun a => Fin.ext ?_)).trans (hx ⟨j.val + k.val, by omega⟩)
      match a with
      | ⟨0, _⟩ => show b.val * 1 + ((⟨3, ![1, 1, n]⟩ : Shape).rowMajor.symm k 0).val - 0 = b.val; omega
      | ⟨1, _⟩ => show r.val * 1 + ((⟨3, ![1, 1, n]⟩ : Shape).rowMajor.symm k 1).val - 0 = r.val; omega
      | ⟨2, _⟩ => show j.val * 1 + ((⟨3, ![1, 1, n]⟩ : Shape).rowMajor.symm k 2).val - 0 = j.val + k.val; omega
    · next hin =>
      rw [if_neg fun hlt => hin fun a => by
        match a with
        | ⟨0, _⟩ =>
          show 0 ≤ b.val * 1 + ((⟨3, ![1, 1, n]⟩ : Shape).rowMajor.symm k 0).val ∧ b.val * 1 + ((⟨3, ![1, 1, n]⟩ : Shape).rowMajor.symm k 0).val - 0 < B
          have := b.isLt
          omega
        | ⟨1, _⟩ =>
          show 0 ≤ r.val * 1 + ((⟨3, ![1, 1, n]⟩ : Shape).rowMajor.symm k 1).val ∧ r.val * 1 + ((⟨3, ![1, 1, n]⟩ : Shape).rowMajor.symm k 1).val - 0 < M
          have := r.isLt
          omega
        | ⟨2, _⟩ =>
          show 0 ≤ j.val * 1 + ((⟨3, ![1, 1, n]⟩ : Shape).rowMajor.symm k 2).val ∧ j.val * 1 + ((⟨3, ![1, 1, n]⟩ : Shape).rowMajor.symm k 2).val - 0 < n
          omega]
      rfl
  · rw [zero_add, sum_row n fun k => if j.val + k < n then f (j.val + k) else 0, sum_Ico_eq_sum_range, ← sum_filter]
    exact congrArg _ (sum_congr (by ext k; simp only [mem_filter, mem_range]; omega) fun _ _ => rfl)

/-- The running sum up to an entry. -/
theorem before (hn : d + 1 = n) (x : (⟨3, ![B, M, n]⟩ : Shape).Idx → EReal) (init : (⟨0, ![]⟩ : Shape).Idx → EReal) (f : Nat → ℝ)
    (b : Fin B) (r : Fin M) (hx : ∀ u : Fin n, x (ix3 b r u) = (f u.val : EReal)) (hi : ∀ i, init i = 0)
    (h : (⟨3, ![B, M, n]⟩ : Shape).ReduceWindows (![1, 1, n] : Fin 3 → Nat) ![1, 1, 1] ![0, 0, d] ![0, 0, 0] ⟨3, ![B, M, n]⟩)
    (hu : 0 < (⟨0, ![]⟩ : Shape).numel) (j : Fin n) :
    Host.reduceWindowAdd (F := Ideal) (φ := .f32) ![1, 1, n] ![1, 1, 1] ![0, 0, d] ![0, 0, 0] x init h hu (ix3 b r j)
      = ((∑ u ∈ range (j.val + 1), f u : ℝ) : EReal) := by
  have hj := j.isLt
  unfold Host.reduceWindowAdd
  rw [Ideal.hostReduceWindowAdd_def, hi]
  unfold Ideal.hostReduceWindowAdd Host.reduceWindow
  refine (foldl_add _ _ (fun k => if d ≤ j.val + k.val then f (j.val + k.val - d) else 0) (fun k => ?_) 0).trans ?_
  · have hk : k.val < n := (k.cast (numel3 n)).isLt
    have h0 : ((⟨3, ![1, 1, n]⟩ : Shape).rowMajor.symm k 0).val = 0 := by rw [symm3]; rfl
    have h1 : ((⟨3, ![1, 1, n]⟩ : Shape).rowMajor.symm k 1).val = 0 := by rw [symm3]; rfl
    have h2 : ((⟨3, ![1, 1, n]⟩ : Shape).rowMajor.symm k 2).val = k.val := by rw [symm3]; rfl
    dsimp only
    split
    · next hin =>
      have h3 := hin 2
      change d ≤ j.val * 1 + ((⟨3, ![1, 1, n]⟩ : Shape).rowMajor.symm k 2).val ∧ j.val * 1 + ((⟨3, ![1, 1, n]⟩ : Shape).rowMajor.symm k 2).val - d < n at h3
      rw [h2] at h3
      rw [if_pos (by omega)]
      refine (congrArg x (funext fun a => Fin.ext ?_)).trans (hx ⟨j.val + k.val - d, by omega⟩)
      match a with
      | ⟨0, _⟩ => show b.val * 1 + ((⟨3, ![1, 1, n]⟩ : Shape).rowMajor.symm k 0).val - 0 = b.val; omega
      | ⟨1, _⟩ => show r.val * 1 + ((⟨3, ![1, 1, n]⟩ : Shape).rowMajor.symm k 1).val - 0 = r.val; omega
      | ⟨2, _⟩ => show j.val * 1 + ((⟨3, ![1, 1, n]⟩ : Shape).rowMajor.symm k 2).val - d = j.val + k.val - d; omega
    · next hin =>
      rw [if_neg fun hlt => hin fun a => by
        match a with
        | ⟨0, _⟩ =>
          show 0 ≤ b.val * 1 + ((⟨3, ![1, 1, n]⟩ : Shape).rowMajor.symm k 0).val ∧ b.val * 1 + ((⟨3, ![1, 1, n]⟩ : Shape).rowMajor.symm k 0).val - 0 < B
          have := b.isLt
          omega
        | ⟨1, _⟩ =>
          show 0 ≤ r.val * 1 + ((⟨3, ![1, 1, n]⟩ : Shape).rowMajor.symm k 1).val ∧ r.val * 1 + ((⟨3, ![1, 1, n]⟩ : Shape).rowMajor.symm k 1).val - 0 < M
          have := r.isLt
          omega
        | ⟨2, _⟩ =>
          show d ≤ j.val * 1 + ((⟨3, ![1, 1, n]⟩ : Shape).rowMajor.symm k 2).val ∧ j.val * 1 + ((⟨3, ![1, 1, n]⟩ : Shape).rowMajor.symm k 2).val - d < n
          omega]
      rfl
  · rw [zero_add, sum_row n fun k => if d ≤ j.val + k then f (j.val + k - d) else 0, ← sum_filter]
    refine congrArg _ (sum_bij' (fun k _ => j.val + k - d) (fun u _ => u + d - j.val) ?_ ?_ ?_ ?_ ?_)
    all_goals intro k hk
    all_goals simp only [mem_filter, mem_range] at hk ⊢
    all_goals omega

end RunSum
-- ==== Proof.StickHost.lean ====
module

public import proofs.«01_k».proof.Proof.StickPoints
public import proofs.«01_k».proof.Proof.RunSum
public import Idealize.ShloMosaic.Lib.Claim

/-! # What the host hands to the kernel of stick-breaking attention

The host packs queries, keys and values into the columns of the projection, runs the forward lines for the saved output, and puts the
padding in front. -/

@[expose] public section
set_option maxRecDepth 16384

noncomputable section

namespace Cert.StickIdeal.Gen

open Idealize.ShloMosaic Idealize.ShloMosaic.TcCoe Idealize.SL.Sem

/-- The heads of a matrix. -/
def heads (x : FVec Ideal S8208x1024 .bf16) : FVec Ideal S16x8208x64 .f32 :=
  transpose S16x8208x64 [1, 0, 2] (shapeCast S8208x16x64 (extf .f32 x bitsLt_bf16_f32) shapeCasts_S8208x1024_S8208x16x64) transposes_S8208x16x64_S16x8208x64_1_0_2

/-- A number at every place. -/
def fill (w : BitVec 32) : FVec Ideal S16x8208x8208 .f32 := broadcastInDim S16x8208x8208 ![] bcast_S_S16x8208x8208 (constant S_ .f32 w)

/-- The scores. -/
def score (q k : FVec Ideal S8208x1024 .bf16) : FVec Ideal S16x8208x8208 .f32 :=
  mulf (Host.dotGeneral dot_S16x8208x64_S16x8208x64_S16x8208x8208_2_2_1_1_0_0 none (heads q) (heads k)) (fill 0x3E000000#32)

/-- The logarithm of the sigmoid as it prints. -/
def logSigmoid (x : FVec Ideal S16x8208x8208 .f32) : FVec Ideal S16x8208x8208 .f32 :=
  Host.negf (select (cmpf .une (subf (Host.negf x) (fill 0#32)) (subf (Host.negf x) (fill 0#32))) (addf (Host.negf x) (fill 0#32))
    (addf (maximumf (Host.negf x) (fill 0#32)) (Host.log1p (Host.exp (Host.negf (Host.absf (subf (Host.negf x) (fill 0#32))))))))

/-- Zero where a row does not look. -/
def unseen (x : FVec Ideal S16x8208x8208 .f32) : FVec Ideal S16x8208x8208 .f32 :=
  select (cmpi .slt (iotaInDim S16x8208x8208 32 2) (iotaInDim S16x8208x8208 32 1)) x (fill 0#32)

/-- What the keys behind leave. -/
def behind (x : FVec Ideal S16x8208x8208 .f32) : FVec Ideal S16x8208x8208 .f32 :=
  subf (Host.reduceWindowAdd ![1, 1, 8208] ![1, 1, 1] ![0, 0, 0] ![0, 0, 8207] x (broadcastInDim S_ ![] bcast_S_S_ (constant S_ .f32 0#32))
    reduceWindows_S16x8208x8208_S16x8208x8208_w1s1p0_0_w1s1p0_0_w8208s1p0_8207 h_S_) x

/-- The weights. -/
def weights (q k : FVec Ideal S8208x1024 .bf16) : FVec Ideal S16x8208x8208 .f32 :=
  unseen (Host.exp (addf (logSigmoid (score q k)) (behind (unseen (logSigmoid (Host.negf (score q k)))))))

/-- The output of the forward lines. -/
def output (q k v : FVec Ideal S8208x1024 .bf16) : FVec Ideal S8208x1024 .f32 :=
  shapeCast S8208x1024 (transpose S8208x16x64 [1, 0, 2]
    (Host.dotGeneral dot_S16x8208x8208_S16x8208x64_S16x8208x64_2_1_1_2_0_0 none (weights q k) (heads v)) transposes_S16x8208x64_S8208x16x64_1_0_2)
    shapeCasts_S8208x16x64_S8208x1024

variable (m : (ℓ : Loc nD τ sig) → Buf (Elt Ideal) ℓ) (c : Dev nD)

theorem projection_eq : V m c main_v1 = pad S8448x11264 ![240, 6144] ![0, 2048] ![0, 0]
    (concatenate S8208x3072 1 [⟨S8208x1024, m (c, Proc.tc.devRef main_arg0)⟩, ⟨S8208x1024, m (c, Proc.tc.devRef main_arg1)⟩, ⟨S8208x1024, m (c, Proc.tc.devRef main_arg2)⟩]
      concatenates_S8208x1024_S8208x1024_S8208x1024_S8208x3072_d1) (sitofp (F := Ideal) .bf16 (constantI S_ 32 0#32))
    pads_S8208x3072_S8448x11264_24000_614420480 h_S_ := by
  simp only [V, stretches, List.flatten_cons, List.flatten_nil, List.append_nil, List.cons_append, List.nil_append]
  entry_read
  rfl

theorem cotangent_eq : V m c main_v30 = pad S8448x1024 ![240, 0] ![0, 0] ![0, 0] (m (c, Proc.tc.devRef main_arg3))
    (sitofp (F := Ideal) .bf16 (constantI S_ 32 0#32)) pads_S8208x1024_S8448x1024_24000_000 h_S_ := by
  simp only [V, stretches, List.flatten_cons, List.flatten_nil, List.append_nil, List.cons_append, List.nil_append]
  entry_read
  rfl

theorem zeros_eq : V m c main_v32_0 = broadcastInDim S8448x11264 ![] bcast_S_S8448x11264 (constant (F := Ideal) S_ .bf16 0#16) := by
  simp only [V, stretches, List.flatten_cons, List.flatten_nil, List.append_nil, List.cons_append, List.nil_append]
  entry_read
  rfl

theorem saved_eq : V m c main_v29 = pad S8448x1024 ![240, 0] ![0, 0] ![0, 0]
    (output (m (c, Proc.tc.devRef main_arg0)) (m (c, Proc.tc.devRef main_arg1)) (m (c, Proc.tc.devRef main_arg2)))
    (sitofp (F := Ideal) .f32 (constantI S_ 32 0#32)) pads_S8208x1024_S8448x1024_24000_000 h_S_ := by
  simp only [V, stretches, List.flatten_cons, List.flatten_nil, List.append_nil, List.cons_append, List.nil_append]
  entry_read
  simp only [StableHlo.TRef.ofBuf_toBuf]
  rfl

end Cert.StickIdeal.Gen
-- ==== Proof.StickPositions.lean ====
module

public import proofs.«01_k».proof.Proof.StickArrays
public import proofs.«01_k».proof.Proof.StickReal

/-! # Stick-breaking attention: positions with and without the padding in front

Position `t` of the sequence is position `240 + t` of the padded one, and no row sees the padding: sums over the sequence are sums over
the padded one. -/

@[expose] public section

noncomputable section

namespace Stick

open Idealize.ShloMosaic Finset
open Cert.StickIdeal.Gen (coe_max)

/-- A matrix behind its padding, -/
theorem pad_at (x : Fin 8208 → Fin 1024 → ℝ) (t : Fin 8208) {c : ℕ} (h : c < 1024) : pad x (240 + t.val) c = x t ⟨c, h⟩ := by
  rw [pad, dif_pos ⟨by omega, h⟩]
  congr 1
  exact Fin.ext (by show 240 + t.val - 240 = t.val; omega)
/-- and in it. -/
theorem pad_front (x : Fin 8208 → Fin 1024 → ℝ) {R : ℕ} (h : R < 240) (c : ℕ) : pad x R c = 0 := by
  rw [pad, dif_neg (by omega)]

/-- A matrix of extended real numbers by position and column, zero on the padding. -/
def wide (x : Fin 8208 → Fin 1024 → EReal) (R c : ℕ) : EReal :=
  if h : (240 ≤ R ∧ R < 8448) ∧ c < 1024 then x ⟨R - 240, by omega⟩ ⟨c, h.2⟩ else 0
theorem wide_coe (x : Fin 8208 → Fin 1024 → ℝ) (R c : ℕ) : wide (fun t c => (x t c : EReal)) R c = (pad x R c : EReal) := by
  unfold pad wide; split <;> rfl
theorem wide_at (x : Fin 8208 → Fin 1024 → EReal) (t : Fin 8208) {c : ℕ} (h : c < 1024) : wide x (240 + t.val) c = x t ⟨c, h⟩ := by
  rw [wide, dif_pos ⟨by omega, h⟩]
  congr 1
  exact Fin.ext (by show 240 + t.val - 240 = t.val; omega)
theorem wide_front (x : Fin 8208 → Fin 1024 → EReal) {R : ℕ} (h : R < 240) (c : ℕ) : wide x R c = 0 := by
  rw [wide, dif_neg (by omega)]

theorem sees_iff (t s : ℕ) : Sees (240 + t) (240 + s) ↔ s < t := by unfold Sees; omega
theorem not_sees_key {R C : ℕ} (h : C < 240) : ¬Sees R C := by unfold Sees; omega
theorem not_sees_row {R C : ℕ} (h : R < 240) : ¬Sees R C := by unfold Sees; omega

/-- A sum over the sequence. -/
theorem sum_positions {M : Type} [AddCommMonoid M] (f : ℕ → M) (hf : ∀ x < 240, f x = 0) : ∑ s : Fin 8208, f (240 + s.val) = ∑ x ∈ range N, f x := by
  rw [Fin.sum_univ_eq_sum_range (fun s => f (240 + s)), range_eq_Ico, range_eq_Ico, sum_Ico_add f 0 8208 240,
    ← sum_Ico_consecutive f (by omega : 0 ≤ 240) (by decide : 240 ≤ N), sum_eq_zero (s := Ico 0 240) fun x hx => hf x (mem_Ico.mp hx).2, zero_add, zero_add]

/-- What the keys behind leave, from the running sum from a key on. -/
theorem after_at (ok : ℕ → Prop) [DecidablePred ok] (z : ℕ → ℝ) (s : Fin 8208) :
    ∑ u ∈ Ico s.val 8208, gone ok z (240 + u) - gone ok z (240 + s.val) = after ok z (240 + s.val) := by
  have h := s.isLt
  rw [sum_Ico_add (gone ok z) s.val 8208 240, after, sum_eq_sum_Ico_succ_bot (by omega : s.val + 240 < 8208 + 240), Nat.add_comm s.val 240]
  exact add_sub_cancel_left _ _

/-- The sum of the products up to a key. -/
theorem upto_at (ok : ℕ → Prop) [DecidablePred ok] (z w : ℕ → ℝ) (hok : ∀ x < 240, ¬ok x) (s : ℕ) :
    ∑ u ∈ range (s + 1), pr ok z w (240 + u) = upto ok z w (240 + s) := by
  rw [upto, range_eq_Ico, range_eq_Ico, sum_Ico_add (pr ok z w) 0 (s + 1) 240, ← sum_Ico_consecutive _ (by omega : 0 ≤ 240) (by omega : 240 ≤ 240 + s + 1),
    sum_eq_zero (s := Ico 0 240) fun x hx => by rw [pr, wt, if_neg (hok x (mem_Ico.mp hx).2), zero_mul], zero_add, zero_add,
    show s + 1 + 240 = 240 + s + 1 by omega]

/-- What is zero in the padding is its part behind the padding, padded. -/
theorem pad_grad (f : ℕ → ℕ → ℝ) {R c : ℕ} (hR : R < N) (hc : c < 1024) (hf : ∀ R < 240, ∀ c, f R c = 0) :
    pad (fun t c => f (240 + t.val) c.val) R c = f R c := by
  by_cases h : 240 ≤ R
  · obtain ⟨t, rfl⟩ := Nat.exists_eq_add_of_le h
    exact pad_at _ ⟨t, by unfold N at hR; omega⟩ hc
  · rw [pad_front _ (by omega), hf R (by omega)]

/-- The output behind its padding: the rows of the padding see nothing. -/
theorem pad_output (A : Arrays) {R c : ℕ} (hR : R < N) (hc : c < 1024) : pad (fun t c => A.o (240 + t.val) c.val) R c = A.o R c :=
  pad_grad A.o hR hc fun R h c => sum_eq_zero fun C _ => by rw [Arrays.wt, wt, if_neg (not_sees_row h), zero_mul]

theorem ls_neg (x : ℝ) : ls (-x) = ls x - x := by
  unfold ls
  rw [abs_neg]
  rcases le_total x 0 with h | h
  · rw [min_eq_right (by linarith), min_eq_left h]; ring
  · rw [min_eq_left (by linarith), min_eq_right h]; ring

/-- The sigmoid and what it leaves of one. -/
theorem exp_ls (x : ℝ) : Real.exp (ls x) + Real.exp (ls x - x) = 1 := by
  have e (y : ℝ) : Real.exp (ls y) = Real.exp (min y 0) / (1 + Real.exp (-|y|)) := by
    rw [ls, Real.exp_sub, Real.exp_log (by positivity)]
  rw [← ls_neg, e, e, abs_neg, ← add_div, div_eq_one_iff_eq (by positivity)]
  rcases le_total x 0 with h | h
  · rw [min_eq_left h, min_eq_right (by linarith : (0 : ℝ) ≤ -x), abs_of_nonpos h, neg_neg, Real.exp_zero, add_comm]
  · rw [min_eq_right h, min_eq_left (by linarith : -x ≤ 0), abs_of_nonneg h, Real.exp_zero]

/-- The larger part of the logarithm of the sigmoid as the host computes it. -/
theorem softplus_coe (x : ℝ) : max (x : EReal) 0 + Ideal.log1p (Ideal.exp (-(max (x : EReal) (-x)))) = ((-ls (-x) : ℝ) : EReal) := by
  have h : ¬(1 + Real.exp (-|x|)) ≤ 0 := by have := Real.exp_pos (-|x|); linarith
  rw [Ideal.log1p, ← EReal.coe_neg, coe_max, ← EReal.coe_neg, Ideal.exp_coe, ← EReal.coe_one, ← EReal.coe_add, Ideal.log_coe]
  rw [show max x (-x) = |x| from rfl, if_neg h, ← EReal.coe_zero, coe_max, ← EReal.coe_add, ls, abs_neg]
  congr 1
  rcases le_total x 0 with h | h
  · rw [max_eq_right h, min_eq_right (by linarith)]; ring
  · rw [max_eq_left h, min_eq_left (by linarith)]; ring

end Stick
-- ==== Proof.StickForward.lean ====
module

public import proofs.«01_k».proof.Proof.StickHost
public import proofs.«01_k».proof.Proof.StickPositions
public import Idealize.ShloMosaic.Lib.Tactic
public import Idealize.ShloMosaic.Lib.Pointwise
public import Idealize.ShloMosaic.Lib.WordCmp

/-! # The forward lines of stick-breaking attention on the host

On finite queries, keys, values and cotangents, what the host hands to the kernel holds the real numbers of `Stick.Arrays`. -/

@[expose] public section
set_option maxRecDepth 16384

noncomputable section

namespace Cert.StickIdeal.Gen

open Idealize.ShloMosaic Idealize.ShloMosaic.TcCoe Idealize.SL.Sem
open Stick (ls N pad_at Sees Arrays)
open Finset

/-- Four matrices of real numbers. -/
structure Holds (A : Arrays) (q k v g : S8208x1024.Idx → EReal) : Prop where
  q : ∀ t c, q (ix2 t c) = (A.q t c : EReal)
  k : ∀ t c, k (ix2 t c) = (A.k t c : EReal)
  v : ∀ t c, v (ix2 t c) = (A.v t c : EReal)
  g : ∀ t c, g (ix2 t c) = (A.g t c : EReal)

theorem logSigmoid_real {x : FVec Ideal S16x8208x8208 .f32} {i : Fin 16} {t s : Fin 8208} {r : ℝ} (h : x (ix3 i t s) = (r : EReal)) :
    logSigmoid x (ix3 i t s) = (ls r : EReal) := by
  pointwise [logSigmoid, fill]
  rw [if_neg (by simp), h, Ideal.absf_def, ← EReal.coe_neg, Stick.softplus_coe, ← EReal.coe_neg, neg_neg, neg_neg]

theorem seen (s t : Fin 8208) (x y : EReal) :
    Scalar.select (IntOp.cmpi CmpIPredicate.slt (BitVec.ofNat 32 s.val) (BitVec.ofNat 32 t.val)) x y = if Sees (240 + t.val) (240 + s.val) then x else y := by
  have hs := s.isLt
  have ht := t.isLt
  rw [WordCmp.cmpi_slt_ofNat (by omega) (by omega), WordCmp.select_ofBool]
  exact if_congr (by rw [decide_eq_true_eq, Stick.sees_iff]) rfl rfl

theorem unseen_real {x : FVec Ideal S16x8208x8208 .f32} {i : Fin 16} {t s : Fin 8208} {r : ℝ} (h : x (ix3 i t s) = (r : EReal)) :
    unseen x (ix3 i t s) = ((if Sees (240 + t.val) (240 + s.val) then r else 0 : ℝ) : EReal) := by
  pointwise [unseen, fill]
  rw [seen, h, ← EReal.coe_zero]
  exact (apply_ite _ _ _ _).symm

variable {A : Arrays} {q k v g : S8208x1024.Idx → EReal} (H : Holds A q k v g)

include H

theorem score_real (i : Fin 16) (t s : Fin 8208) : score q k (ix3 i t s) = (A.z i.val (240 + t.val) (240 + s.val) : EReal) := by
  pointwise [score, fill, heads]
  rw [eighth, Arrays.z, ← Finset.sum_mul, EReal.coe_mul, Norm.coe_sum]
  congr 1
  refine Finset.sum_congr rfl fun e _ => ?_
  have h : 64 * i.val + e.val = i.val * 64 + e.val := by rw [Nat.mul_comm]
  rw [H.q, H.k, ← EReal.coe_mul, h, pad_at A.q t (by omega), pad_at A.k s (by omega)]

theorem gone_real (i : Fin 16) (t s : Fin 8208) : unseen (logSigmoid (Host.negf (score q k))) (ix3 i t s)
    = (Stick.gone (Sees (240 + t.val)) (A.z i.val (240 + t.val)) (240 + s.val) : EReal) := by
  refine (unseen_real (logSigmoid_real (r := -A.z i.val (240 + t.val) (240 + s.val)) ?_)).trans ?_
  · pointwise []
    rw [score_real H, EReal.coe_neg]
  · rw [Stick.ls_neg, Stick.gone]

theorem weights_real (i : Fin 16) (t s : Fin 8208) : weights q k (ix3 i t s) = (A.wt i.val (240 + t.val) (240 + s.val) : EReal) := by
  refine (unseen_real (r := Real.exp (ls (A.z i.val (240 + t.val) (240 + s.val)) + Stick.after (Sees (240 + t.val)) (A.z i.val (240 + t.val)) (240 + s.val))) ?_).trans ?_
  · pointwise [behind]
    have e : Host.reduceWindowAdd ![1, 1, 8208] ![1, 1, 1] ![0, 0, 0] ![0, 0, 8207] (unseen (logSigmoid (Host.negf (score q k))))
        (broadcastInDim S_ ![] bcast_S_S_ (constant (F := Ideal) S_ .f32 0#32)) reduceWindows_S16x8208x8208_S16x8208x8208_w1s1p0_0_w1s1p0_0_w8208s1p0_8207 h_S_ (ix3 i t s)
        = ((∑ u ∈ Ico s.val 8208, Stick.gone (Sees (240 + t.val)) (A.z i.val (240 + t.val)) (240 + u) : ℝ) : EReal) :=
      RunSum.behind (n := 8208) (d := 8207) rfl _ _ _ i t (fun u => gone_real H i t u) (fun _ => Ideal.ofBits_zero_f32) _ _ s
    rw [logSigmoid_real (score_real H i t s), gone_real H, e, ← EReal.coe_sub, Stick.after_at, ← EReal.coe_add, Ideal.exp_coe]
  · rfl

theorem output_real (t : Fin 8208) (c : Fin 1024) : output q k v (ix2 t c) = (A.o (240 + t.val) c.val : EReal) := by
  pointwise [output, heads]
  rw [Arrays.o, ← Stick.sum_positions _ fun x hx => ?_, Norm.coe_sum]
  · refine Finset.sum_congr rfl fun s _ => ?_
    rw [weights_real H, H.v, ← EReal.coe_mul, pad_at A.v s c.isLt]
  · rw [Arrays.wt, Stick.wt, if_neg (Stick.not_sees_key hx), zero_mul]

omit H in
/-- A padded matrix. -/
theorem front_at {x : S8208x1024.Idx → EReal} {f : Fin 8208 → Fin 1024 → EReal} (hx : ∀ t c, x (ix2 t c) = f t c) {v : S_.Idx → EReal} (hv : ∀ i, v i = 0)
    (h : S8208x1024.Pads ![240, 0] ![0, 0] ![0, 0] S8448x1024) (hu : 0 < S_.numel) (R : Fin 8448) (l : Fin 1024) :
    pad S8448x1024 ![240, 0] ![0, 0] ![0, 0] x v h hu (ix2 R l) = Stick.wide f R.val l.val := by
  unfold pad
  pointwise []
  by_cases hR : 240 ≤ R.val
  · rw [dif_pos ⟨hR, by omega⟩, Stick.wide, dif_pos ⟨⟨hR, R.isLt⟩, l.isLt⟩, ← hx]
    refine congrArg x (funext fun a => Fin.ext ?_)
    match a with
    | ⟨0, _⟩ => show (R.val - 240) / 1 = R.val - 240; omega
    | ⟨1, _⟩ => show (l.val - 0) / 1 = l.val; omega
  · rw [dif_neg fun h => hR h.1, Stick.wide_front _ (by omega), hv]

omit H in
theorem front_real {x : S8208x1024.Idx → EReal} {f : Fin 8208 → Fin 1024 → ℝ} (hx : ∀ t c, x (ix2 t c) = (f t c : EReal)) {v : S_.Idx → EReal} (hv : ∀ i, v i = 0)
    (h : S8208x1024.Pads ![240, 0] ![0, 0] ![0, 0] S8448x1024) (hu : 0 < S_.numel) (R : Fin 8448) (l : Fin 1024) :
    pad S8448x1024 ![240, 0] ![0, 0] ![0, 0] x v h hu (ix2 R l) = (Stick.pad f R.val l.val : EReal) :=
  (front_at hx hv h hu R l).trans (Stick.wide_coe f _ _)

omit H in
/-- A matrix in its columns of the projection. -/
theorem columns_at {y : S8208x3072.Idx → EReal} {f : Fin 8208 → Fin 1024 → EReal} (b : Nat) (hb : b + 1024 ≤ 3072) (hx : ∀ t (c : Fin 1024), y (ix2 t ⟨b + c.val, by omega⟩) = f t c)
    {v : S_.Idx → EReal} (hv : ∀ i, v i = 0)
    (h : S8208x3072.Pads ![240, 6144] ![0, 2048] ![0, 0] S8448x11264) (hu : 0 < S_.numel) (R : Fin 8448) (l : Fin 1024) :
    pad S8448x11264 ![240, 6144] ![0, 2048] ![0, 0] y v h hu (ix2 R ⟨6144 + b + l.val, by omega⟩) = Stick.wide f R.val l.val := by
  unfold pad
  pointwise []
  by_cases hR : 240 ≤ R.val
  · rw [dif_pos (by omega), Stick.wide, dif_pos ⟨⟨hR, R.isLt⟩, l.isLt⟩, ← hx]
    refine congrArg y (funext fun a => Fin.ext ?_)
    match a with
    | ⟨0, _⟩ => show (R.val - 240) / 1 = R.val - 240; omega
    | ⟨1, _⟩ => show (6144 + b + l.val - 6144) / 1 = b + l.val; omega
  · rw [dif_neg (by omega), Stick.wide_front _ (by omega), hv]

omit H in
theorem columns_real {y : S8208x3072.Idx → EReal} {f : Fin 8208 → Fin 1024 → ℝ} (b : Nat) (hb : b + 1024 ≤ 3072) (hx : ∀ t (c : Fin 1024), y (ix2 t ⟨b + c.val, by omega⟩) = (f t c : EReal))
    {v : S_.Idx → EReal} (hv : ∀ i, v i = 0)
    (h : S8208x3072.Pads ![240, 6144] ![0, 2048] ![0, 0] S8448x11264) (hu : 0 < S_.numel) (R : Fin 8448) (l : Fin 1024) :
    pad S8448x11264 ![240, 6144] ![0, 2048] ![0, 0] y v h hu (ix2 R ⟨6144 + b + l.val, by omega⟩) = (Stick.pad f R.val l.val : EReal) :=
  (columns_at b hb hx hv h hu R l).trans (Stick.wide_coe f _ _)

omit H in
theorem nothing (φ : FTy) (i) : sitofp (F := Ideal) φ (constantI S_ 32 0#32) i = (0 : EReal) := by
  show (((0#32 : BitVec 32).toInt : ℝ) : EReal) = 0
  simp

/-- The queries among the columns. -/
theorem columns_q (t : Fin 8208) (e : Fin 1024) : concatenate S8208x3072 1 [⟨S8208x1024, q⟩, ⟨S8208x1024, k⟩, ⟨S8208x1024, v⟩]
    concatenates_S8208x1024_S8208x1024_S8208x1024_S8208x3072_d1 (ix2 t ⟨0 + e.val, by omega⟩) = (A.q t e : EReal) := by
  pointwise []
  exact H.q t e

/-- The keys among the columns. -/
theorem columns_k (t : Fin 8208) (e : Fin 1024) : concatenate S8208x3072 1 [⟨S8208x1024, q⟩, ⟨S8208x1024, k⟩, ⟨S8208x1024, v⟩]
    concatenates_S8208x1024_S8208x1024_S8208x1024_S8208x3072_d1 (ix2 t ⟨1024 + e.val, by omega⟩) = (A.k t e : EReal) := by
  pointwise []
  exact H.k t e

/-- The values among the columns. -/
theorem columns_v (t : Fin 8208) (e : Fin 1024) : concatenate S8208x3072 1 [⟨S8208x1024, q⟩, ⟨S8208x1024, k⟩, ⟨S8208x1024, v⟩]
    concatenates_S8208x1024_S8208x1024_S8208x1024_S8208x3072_d1 (ix2 t ⟨2048 + e.val, by omega⟩) = (A.v t e : EReal) := by
  pointwise []
  rw [dif_neg (by omega), dif_neg (by omega)]
  refine (congrArg v (congrArg (ix2 t) (Fin.ext ?_))).trans (H.v t e)
  show 2048 + e.val - 1024 - 1024 = e.val
  omega

variable (m : (ℓ : Loc nD τ sig) → Buf (Elt Ideal) ℓ) (c : Dev nD)
  (hq : m ((c : Thread nD τ).loc main_arg0) = q) (hk : m ((c : Thread nD τ).loc main_arg1) = k)
  (hv : m ((c : Thread nD τ).loc main_arg2) = v) (hg : m ((c : Thread nD τ).loc main_arg3) = g)

include hq hk hv hg in
/-- What the kernel starts from. -/
theorem starts : Starts m A c := by
  have p : V m c main_v1 = _ := projection_eq m c
  have o : V m c main_v29 = _ := saved_eq m c
  have d : V m c main_v30 = _ := cotangent_eq m c
  rw [show m (c, Proc.tc.devRef main_arg0) = q from hq, show m (c, Proc.tc.devRef main_arg1) = k from hk, show m (c, Proc.tc.devRef main_arg2) = v from hv] at p o
  rw [show m (c, Proc.tc.devRef main_arg3) = g from hg] at d
  refine ⟨fun R l => ?_, fun R l => ?_, fun R l => ?_, fun R l => ?_, fun R l => ?_⟩
  · rw [p]
    exact columns_real 0 (by omega) (columns_q H) (nothing _) _ _ R l
  · rw [p]
    exact columns_real 1024 (by omega) (columns_k H) (nothing _) _ _ R l
  · rw [p]
    exact columns_real 2048 (by omega) (columns_v H) (nothing _) _ _ R l
  · rw [o]
    refine (front_real (f := fun t c => A.o (240 + t.val) c.val) (output_real H) (nothing _) _ _ R l).trans (congrArg _ ?_)
    exact Stick.pad_output A R.isLt l.isLt
  · rw [d]
    exact front_real H.g (nothing _) _ _ R l

omit H in
theorem zeros (i) : V m c main_v32_0 i = (0 : EReal) := by
  rw [zeros_eq]
  exact Ideal.ofBits_zero_bf16

end Cert.StickIdeal.Gen
-- ==== Proof.StickReference.lean ====
module

public import proofs.«01_k».proof.Proof.StickForward
public import proofs.«01_k».proof.Proof.Gen.StickRefIdeal.Read
public import proofs.«01_k».proof.Proof.Finite

/-! # The derivative of the forward lines of stick-breaking attention -/

@[expose] public section
set_option maxRecDepth 16384

noncomputable section

namespace Cert.StickRefIdeal.Gradient

open Idealize.ShloMosaic Idealize.ShloMosaic.TcCoe Idealize.SL.Sem
open Cert.StickRefIdeal Cert.StickRefIdeal.Read
open Cert.StickIdeal.Gen (Holds seen eighth front_real nothing)
open Stick (ls N pad_at Sees Arrays)
open Finset

variable {A : Arrays} {q k v g : S8208x1024.Idx → EReal} (H : Holds A q k v g)

include H

theorem z_real (i : Fin 16) (t s : Fin 8208) : val_main_v11 (F := Ideal) q k (ix3 i t s) = (A.z i.val (240 + t.val) (240 + s.val) : EReal) := by
  pointwise [val_main_v11, val_main_v9, val_main_v10, val_main_cst, val_main_v4, val_main_v3, val_main_v0, val_main_v6, val_main_v5, val_main_v1]
  rw [eighth, Arrays.z, ← Finset.sum_mul, EReal.coe_mul, Norm.coe_sum]
  congr 1
  refine Finset.sum_congr rfl fun e _ => ?_
  have h : 64 * i.val + e.val = i.val * 64 + e.val := by rw [Nat.mul_comm]
  rw [H.q, H.k, ← EReal.coe_mul, h, pad_at A.q t (by omega), pad_at A.k s (by omega)]

theorem softplus_real (i : Fin 16) (t s : Fin 8208) : val_main_call0_v1_0 (F := Ideal) q k (ix3 i t s) = ((-ls (-A.z i.val (240 + t.val) (240 + s.val)) : ℝ) : EReal) := by
  pointwise [val_main_call0_v1_0, val_main_call0_call0_v4, val_main_call0_call0_v6, val_main_call0_call0_v11, val_main_call0_call0_v1, val_main_call0_call0_v10,
    val_main_call0_call0_v9, val_main_call0_call0_v8, val_main_call0_call0_v7, val_main_call0_call0_v3, val_main_call0_call0_v0, val_main_call0_call0_v2, val_main_call0_call0_v5,
    val_main_call0_call0_cst, val_main_call0_v0, val_main_v15]
  rw [if_neg (by simp), z_real H, Ideal.absf_def, ← EReal.coe_neg, ← EReal.coe_neg, neg_neg, Stick.softplus_coe]

theorem softplus_neg_real (i : Fin 16) (t s : Fin 8208) : val_main_call3_v1_0 (F := Ideal) q k (ix3 i t s) = ((-ls (A.z i.val (240 + t.val) (240 + s.val)) : ℝ) : EReal) := by
  pointwise [val_main_call3_v1_0, val_main_call3_call0_v4, val_main_call3_call0_v6, val_main_call3_call0_v11, val_main_call3_call0_v1, val_main_call3_call0_v10,
    val_main_call3_call0_v9, val_main_call3_call0_v8, val_main_call3_call0_v7, val_main_call3_call0_v3, val_main_call3_call0_v0, val_main_call3_call0_v2, val_main_call3_call0_v5,
    val_main_call3_call0_cst, val_main_call3_v0]
  rw [if_neg (by simp), z_real H, Ideal.absf_def, ← EReal.coe_neg, Stick.softplus_coe, neg_neg]

theorem sigma_real (i : Fin 16) (t s : Fin 8208) : val_main_v16_1 (F := Ideal) q k (ix3 i t s) = (Real.exp (ls (A.z i.val (240 + t.val) (240 + s.val))) : EReal) := by
  pointwise [val_main_v16_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3,
    val_main_call0_v0, val_main_v15]
  rw [softplus_real H, z_real H, Finite.inf_bits, neg_neg, if_neg (EReal.coe_ne_top _), if_neg (EReal.coe_ne_top _), ← EReal.coe_sub, Ideal.exp_coe, Stick.ls_neg]
  congr 2
  ring

theorem rest_real (i : Fin 16) (t s : Fin 8208) : val_main_v20_1 (F := Ideal) q k (ix3 i t s)
    = (Real.exp (ls (A.z i.val (240 + t.val) (240 + s.val)) - A.z i.val (240 + t.val) (240 + s.val)) : EReal) := by
  pointwise [val_main_v20_1, val_main_call3_call0_v21, val_main_call3_call0_v20, val_main_call3_call0_v19, val_main_call3_call0_v18, val_main_call3_call0_v17, val_main_call3_call0_v16,
    val_main_call3_call0_v15, val_main_call3_call0_v14, val_main_call3_call0_v13, val_main_call3_call0_cst_0, val_main_call3_call0_cst_1, val_main_call3_call0_cst_2, val_main_call3_call0_cst_3,
    val_main_call3_v0]
  rw [softplus_neg_real H, z_real H, Finite.inf_bits, ← EReal.coe_neg, if_neg (EReal.coe_ne_top _), if_neg (EReal.coe_ne_top _), ← EReal.coe_sub, Ideal.exp_coe]
  congr 2
  ring

omit H in
/-- Zero where a row does not look. -/
theorem seen_real (s t : Fin 8208) {x y : EReal} {r : ℝ} (hx : x = (r : EReal)) (hy : y = 0) :
    Scalar.select (IntOp.cmpi CmpIPredicate.slt (BitVec.ofNat 32 s.val) (BitVec.ofNat 32 t.val)) x y
      = ((if Sees (240 + t.val) (240 + s.val) then r else 0 : ℝ) : EReal) := by
  rw [seen, hx, hy, ← EReal.coe_zero]
  exact (apply_ite _ _ _ _).symm

theorem gone_real (i : Fin 16) (t s : Fin 8208) : val_main_v17_0 (F := Ideal) q k (ix3 i t s) = (Stick.gone (Sees (240 + t.val)) (A.z i.val (240 + t.val)) (240 + s.val) : EReal) := by
  pointwise [val_main_v17_0, val_main_v14, val_main_v13, val_main_v12, val_main_v16_0, val_main_call1_v1, val_main_call1_v0, val_main_cst_0]
  refine (seen_real s t (r := ls (A.z i.val (240 + t.val) (240 + s.val)) - A.z i.val (240 + t.val) (240 + s.val)) ?_ Ideal.ofBits_zero_f32).trans rfl
  rw [softplus_real H, ← EReal.coe_neg, neg_neg, Stick.ls_neg]

theorem after_real (i : Fin 16) (t s : Fin 8208) : val_main_v19 (F := Ideal) q k (ix3 i t s)
    = (Stick.after (Sees (240 + t.val)) (A.z i.val (240 + t.val)) (240 + s.val) : EReal) := by
  have e : val_main_v18 (F := Ideal) q k (ix3 i t s)
      = ((∑ u ∈ Ico s.val 8208, Stick.gone (Sees (240 + t.val)) (A.z i.val (240 + t.val)) (240 + u) : ℝ) : EReal) :=
    RunSum.behind (n := 8208) (d := 8207) rfl _ _ _ i t (fun u => gone_real H i t u) (fun _ => Ideal.ofBits_zero_f32) _ _ s
  pointwise [val_main_v19]
  rw [e, gone_real H, ← EReal.coe_sub, Stick.after_at]

/-- The weight before the mask. -/
theorem exp_real (i : Fin 16) (t s : Fin 8208) : val_main_v22 (F := Ideal) q k (ix3 i t s)
    = (Real.exp (ls (A.z i.val (240 + t.val) (240 + s.val)) + Stick.after (Sees (240 + t.val)) (A.z i.val (240 + t.val)) (240 + s.val)) : EReal) := by
  pointwise [val_main_v22, val_main_v21, val_main_v20_0]
  rw [after_real H, softplus_neg_real H, ← EReal.coe_neg, neg_neg, ← EReal.coe_add, Ideal.exp_coe]

theorem weight_real (i : Fin 16) (t s : Fin 8208) : val_main_v23_0 (F := Ideal) q k (ix3 i t s) = (A.wt i.val (240 + t.val) (240 + s.val) : EReal) := by
  pointwise [val_main_v23_0, val_main_v14, val_main_v13, val_main_v12, val_main_call4_v1, val_main_call4_v0, val_main_cst_1]
  exact (seen_real s t (exp_real H i t s) Ideal.ofBits_zero_f32).trans rfl

theorem product_real (i : Fin 16) (t s : Fin 8208) : val_main_v34 (F := Ideal) q k v g (ix3 i t s) = (A.pr i.val (240 + t.val) (240 + s.val) : EReal) := by
  pointwise [val_main_v34, val_main_v33, val_main_v32, val_main_v14, val_main_v13, val_main_v12, val_main_call5_v0, val_main_call5_cst,
    val_main_v29, val_main_v28, val_main_v27, val_main_v8, val_main_v7, val_main_v2]
  rw [exp_real H]
  refine (seen_real s t (congrArg (· * _) (?_ : _ = (A.w i.val (240 + t.val) (240 + s.val) : EReal)) |>.trans (EReal.coe_mul _ _).symm) rfl).trans (congrArg _ ?_)
  · rw [Arrays.w, Norm.coe_sum]
    refine Finset.sum_congr rfl fun e _ => ?_
    have h : 64 * i.val + e.val = i.val * 64 + e.val := by rw [Nat.mul_comm]
    rw [H.g, H.v, ← EReal.coe_mul, h, pad_at A.g t (by omega), pad_at A.v s (by omega)]
  · rw [Arrays.pr, Stick.pr, Stick.wt]
    split
    · exact mul_comm _ _
    · simp

theorem upto_real (i : Fin 16) (t s : Fin 8208) : val_main_v37 (F := Ideal) q k v g (ix3 i t s)
    = (Stick.upto (Sees (240 + t.val)) (A.z i.val (240 + t.val)) (A.w i.val (240 + t.val)) (240 + s.val) : EReal) :=
  (RunSum.before (n := 8208) (d := 8207) rfl _ _ (fun u => A.pr i.val (240 + t.val) (240 + u)) i t (fun u => product_real H i t u) (fun _ => Ideal.ofBits_zero_f32) _ _ s).trans
    (congrArg _ (Stick.upto_at _ _ _ (fun x hx => Stick.not_sees_key hx) s.val))

theorem dz_real (i : Fin 16) (t s : Fin 8208) : val_main_v44 (F := Ideal) q k v g (ix3 i t s) = ((A.dz i.val (240 + t.val) (240 + s.val) * (1 / 8) : ℝ) : EReal) := by
  pointwise [val_main_v44, val_main_v43, val_main_cst_2, val_main_v42, val_main_v41, val_main_v40, val_main_call9_v1, val_main_call9_v0, val_main_v39, val_main_call8_v0, val_main_call8_cst,
    val_main_v38, val_main_v36, val_main_v35, val_main_call6_v1, val_main_call6_v0, val_main_v14, val_main_v13, val_main_v12]
  rw [seen_real s t (r := -A.pr i.val (240 + t.val) (240 + s.val) + Stick.upto (Sees (240 + t.val)) (A.z i.val (240 + t.val)) (A.w i.val (240 + t.val)) (240 + s.val)) ?_ rfl,
    product_real H, sigma_real H, rest_real H, eighth]
  · simp only [← EReal.coe_neg, ← EReal.coe_mul, ← EReal.coe_add]
    congr 2
    have e := Stick.exp_ls (A.z i.val (240 + t.val) (240 + s.val))
    rw [Arrays.dz, Stick.dz]
    split
    · have e' : Real.exp (ls (A.z i.val (240 + t.val) (240 + s.val)) - A.z i.val (240 + t.val) (240 + s.val)) = 1 - Real.exp (ls (A.z i.val (240 + t.val) (240 + s.val))) := by linarith
      rw [e', Arrays.pr]
      ring
    · next h =>
      rw [show A.pr i.val (240 + t.val) (240 + s.val) = 0 by rw [Arrays.pr, Stick.pr, Stick.wt, if_neg h, zero_mul]]
      simp
  · rw [product_real H, upto_real H, ← EReal.coe_neg, ← EReal.coe_add]

/-- The gradient of the queries, -/
theorem dq_real (t : Fin 8208) (c : Fin 1024) : val_main_v53 (F := Ideal) q k v g (ix2 t c) = (A.dq (240 + t.val) c.val : EReal) := by
  pointwise [val_main_v53, val_main_v52, val_main_v51, val_main_v46, val_main_v6, val_main_v5, val_main_v1]
  rw [Arrays.dq, ← Stick.sum_positions _ fun x hx => ?_, Finset.sum_mul, Norm.coe_sum]
  · refine Finset.sum_congr rfl fun s _ => ?_
    rw [dz_real H, H.k, ← EReal.coe_mul, pad_at A.k s c.isLt]
    congr 1
    exact mul_right_comm _ _ _
  · rw [Arrays.dz, Stick.dz, if_neg (Stick.not_sees_key hx), zero_mul]

/-- of the keys, -/
theorem dk_real (s : Fin 8208) (c : Fin 1024) : val_main_v55 (F := Ideal) q k v g (ix2 s c) = (A.dk (240 + s.val) c.val : EReal) := by
  pointwise [val_main_v55, val_main_v50, val_main_v49, val_main_v45, val_main_v4, val_main_v3, val_main_v0]
  rw [Arrays.dk, ← Stick.sum_positions _ fun x hx => ?_, Norm.coe_sum]
  · refine Finset.sum_congr rfl fun t _ => ?_
    rw [dz_real H, H.q, ← EReal.coe_mul, pad_at A.q t c.isLt]
    congr 1
    ring
  · rw [Arrays.dz, Stick.dz, if_neg (Stick.not_sees_row hx), zero_mul]

/-- and of the values. -/
theorem dv_real (s : Fin 8208) (c : Fin 1024) : val_main_v57 (F := Ideal) q k g (ix2 s c) = (A.dv (240 + s.val) c.val : EReal) := by
  pointwise [val_main_v57, val_main_v48, val_main_v47, val_main_v31, val_main_v30, val_main_v29, val_main_v28, val_main_v27]
  rw [Arrays.dv, ← Stick.sum_positions _ fun x hx => ?_, Norm.coe_sum]
  · refine Finset.sum_congr rfl fun t _ => ?_
    rw [weight_real H, H.g, ← EReal.coe_mul, pad_at A.g t c.isLt]
    congr 1
    exact mul_comm _ _
  · rw [Arrays.wt, Stick.wt, if_neg (Stick.not_sees_row hx), zero_mul]

/-- The padded gradients. -/
theorem result_dk (R : Fin 8448) (l : Fin 1024) : val_main_v56 (F := Ideal) q k v g (ix2 R l) = (A.dk R.val l.val : EReal) :=
  (front_real (f := fun s c => A.dk (240 + s.val) c.val) (dk_real H) (nothing _) _ _ R l).trans (congrArg _ (Stick.pad_grad A.dk R.isLt l.isLt fun C hC c =>
    Finset.sum_eq_zero fun R _ => by rw [Arrays.dz, Stick.dz, if_neg (Stick.not_sees_key hC), zero_mul]))

theorem result_dv (R : Fin 8448) (l : Fin 1024) : val_main_v58 (F := Ideal) q k g (ix2 R l) = (A.dv R.val l.val : EReal) :=
  (front_real (f := fun s c => A.dv (240 + s.val) c.val) (dv_real H) (nothing _) _ _ R l).trans (congrArg _ (Stick.pad_grad A.dv R.isLt l.isLt fun C hC c =>
    Finset.sum_eq_zero fun R _ => by rw [Arrays.wt, Stick.wt, if_neg (Stick.not_sees_key hC), zero_mul]))

theorem result_dq (R : Fin 8448) (l : Fin 11264) : val_main_v54 (F := Ideal) q k v g (ix2 R l)
    = if 6144 ≤ l.val ∧ l.val < 7168 then (A.dq R.val (l.val - 6144) : EReal) else 0 := by
  unfold val_main_v54 pad
  pointwise []
  by_cases hl : 6144 ≤ l.val ∧ l.val < 7168
  · rw [if_pos hl, ← Stick.pad_grad A.dq R.isLt (by omega : l.val - 6144 < 1024) fun C hC c => by
      rw [Arrays.dq, Finset.sum_eq_zero fun R _ => by rw [Arrays.dz, Stick.dz, if_neg (Stick.not_sees_row hC), zero_mul], zero_mul]]
    by_cases hR : 240 ≤ R.val
    · rw [dif_pos (by omega), Stick.pad, dif_pos ⟨⟨hR, R.isLt⟩, by omega⟩]
      refine (congrArg (val_main_v53 (F := Ideal) q k v g) (funext fun a => Fin.ext ?_)).trans (dq_real H ⟨R.val - 240, by omega⟩ ⟨l.val - 6144, by omega⟩)
      match a with
      | ⟨0, _⟩ => show (R.val - 240) / 1 = R.val - 240; omega
      | ⟨1, _⟩ => show (l.val - 6144) / 1 = l.val - 6144; omega
    · rw [dif_neg (by omega), Stick.pad_front _ (by omega)]
      exact nothing .bf16 _
  · rw [if_neg hl, dif_neg (by omega)]
    exact nothing .bf16 _

end Cert.StickRefIdeal.Gradient
-- ==== Proof.StickClaims.lean ====
/- Stick-breaking attention, backward: the claims. -/
module

public import proofs.«01_k».proof.Defs
public import proofs.«01_k».proof.Proof.StickFrame
public import proofs.«01_k».proof.Proof.StickFinal
public import proofs.«01_k».proof.Proof.StickReference
public import proofs.«01_k».proof.Proof.Gen.StickRefIdeal.Run
public import proofs.«01_k».proof.Proof.Gen.Pre_stick_finite
public import Idealize.ShloMosaic.Lib.Quiescent

@[expose] public section

set_option maxRecDepth 16384

noncomputable section

open Idealize.ShloMosaic Idealize.ShloMosaic.TcCoe Idealize.SL.Sem

namespace Cert.StickClaims

theorem frame : Cert.quiescent_Stick := fun m ρ _ => Cert.Stick.Gen.frame m ρ

theorem frame_ideal : Cert.quiescent_StickIdeal := fun m ρ _ => Cert.StickIdeal.Gen.frame m ρ

theorem frame_ideal_finite : Cert.quiescent_StickIdeal_pre_stick_finite := fun m ρ _ => Cert.StickIdeal.Gen.frame m ρ

theorem frame_ref : Cert.quiescent_StickRefIdeal := fun m ρ _ =>
  (θ_run Cert.StickRefIdeal.defs _ _).mono (fun r h => ⟨fun c => (h c).2.2.2,
      Idealize.ShloMosaic.sem_eq_zero_of_no_sems (by decide) r.2⟩)
    (Cert.StickRefIdeal.Value.run (F := Ideal) m ρ)

theorem frame_ref_finite : Cert.quiescent_StickRefIdeal_pre_stick_finite := fun m ρ _ =>
  (θ_run Cert.StickRefIdeal.defs _ _).mono (fun r h => ⟨fun c => (h c).2.2.2,
      Idealize.ShloMosaic.sem_eq_zero_of_no_sems (by decide) r.2⟩)
    (Cert.StickRefIdeal.Value.run (F := Ideal) m ρ)

theorem preserves : Cert.preserves_Stick_StickIdeal :=
  IdealRules.named_const.statement Cert.StickIdeal.κ "dead" .f32 0xC2D00000#32 ⊥ rfl

open Cert.StickIdeal.Gen in
/-- Finite arguments are matrices of real numbers. -/
theorem holds {q k v g : Cert.StickIdeal.S8208x1024.Idx → EReal} (h : Cert.Pre_stick_finite.fn (F := Ideal) q k v g = fun _ => 1#1) :
    ∃ A, Holds A q k v g := by
  have h := congrFun h (fun k => k.elim0)
  simp only [Cert.Pre_stick_finite.fn] at h
  obtain ⟨h, h4⟩ := IntOp.andi_eq_one.mp h
  obtain ⟨h, h3⟩ := IntOp.andi_eq_one.mp h
  obtain ⟨h1, h2⟩ := IntOp.andi_eq_one.mp h
  choose q' hq using Finite.real_of_all _ _ _ _ _ _ h1
  choose k' hk using Finite.real_of_all _ _ _ _ _ _ h2
  choose v' hv using Finite.real_of_all _ _ _ _ _ _ h3
  choose g' hg using Finite.real_of_all _ _ _ _ _ _ h4
  exact ⟨⟨fun t c => q' (ix2 t c), fun t c => k' (ix2 t c), fun t c => v' (ix2 t c), fun t c => g' (ix2 t c)⟩,
    fun t c => hq _, fun t c => hk _, fun t c => hv _, fun t c => hg _⟩

set_option maxHeartbeats 1000000 in
open Cert.StickIdeal.Gen Cert.StickRefIdeal.Gradient in
theorem algebraic : Cert.algebraic_StickIdeal_StickRefIdeal_pre_stick_finite := by
  intro m ρ m' ρ' hpre hagree
  refine ⟨_, _, _, (θ_run Cert.StickIdeal.defs _ _).mono
    (fun r h c => ⟨(h.1 c).1 5, (h.1 c).1 6, (h.1 c).1 7, rest_eq m h.1 c⟩) (run_main_quiescent m ρ), ?_⟩
  refine (θ_run Cert.StickRefIdeal.defs _ _).mono (fun r h c => ?_) (Cert.StickRefIdeal.Value.run (F := Ideal) m' ρ')
  obtain ⟨A, H⟩ := holds (hpre c)
  obtain ⟨a0, a1, a2, a3⟩ := hagree c
  obtain ⟨h0, h1, h2, kept⟩ := h c
  have start := starts H m c rfl rfl rfl rfl
  refine ⟨?_, ?_, ?_, kept⟩
  · rw [h0, final5 start (zeros m c), Cert.StickRefIdeal.Read.val_main_v54_eq]
    show Cert.StickRefIdeal.Read.val_main_v54 (F := Ideal) (m' ((c.tc : Thread Cert.StickRefIdeal.nD Cert.StickRefIdeal.τ).loc Cert.StickRefIdeal.main_arg0)) (m' ((c.tc : Thread Cert.StickRefIdeal.nD Cert.StickRefIdeal.τ).loc Cert.StickRefIdeal.main_arg1)) (m' ((c.tc : Thread Cert.StickRefIdeal.nD Cert.StickRefIdeal.τ).loc Cert.StickRefIdeal.main_arg2)) (m' ((c.tc : Thread Cert.StickRefIdeal.nD Cert.StickRefIdeal.τ).loc Cert.StickRefIdeal.main_arg3)) = _
    rw [a0, a1, a2, a3]
    exact funext fun i => by idx_vars i; exact result_dq H _ _
  · rw [h1, final6 start, Cert.StickRefIdeal.Read.val_main_v56_eq]
    show Cert.StickRefIdeal.Read.val_main_v56 (F := Ideal) (m' ((c.tc : Thread Cert.StickRefIdeal.nD Cert.StickRefIdeal.τ).loc Cert.StickRefIdeal.main_arg0)) (m' ((c.tc : Thread Cert.StickRefIdeal.nD Cert.StickRefIdeal.τ).loc Cert.StickRefIdeal.main_arg1)) (m' ((c.tc : Thread Cert.StickRefIdeal.nD Cert.StickRefIdeal.τ).loc Cert.StickRefIdeal.main_arg2)) (m' ((c.tc : Thread Cert.StickRefIdeal.nD Cert.StickRefIdeal.τ).loc Cert.StickRefIdeal.main_arg3)) = _
    rw [a0, a1, a2, a3]
    exact funext fun i => by idx_vars i; exact result_dk H _ _
  · rw [h2, final7 start, Cert.StickRefIdeal.Read.val_main_v58_eq]
    show Cert.StickRefIdeal.Read.val_main_v58 (F := Ideal) (m' ((c.tc : Thread Cert.StickRefIdeal.nD Cert.StickRefIdeal.τ).loc Cert.StickRefIdeal.main_arg0)) (m' ((c.tc : Thread Cert.StickRefIdeal.nD Cert.StickRefIdeal.τ).loc Cert.StickRefIdeal.main_arg1)) (m' ((c.tc : Thread Cert.StickRefIdeal.nD Cert.StickRefIdeal.τ).loc Cert.StickRefIdeal.main_arg3)) = _
    rw [a0, a1, a3]
    exact funext fun i => by idx_vars i; exact result_dv H _ _

end Cert.StickClaims

end
-- ==== Proof.StickOutIdealModel.lean ====
module

public import proofs.«01_k».proof.Proof.Gen.StickOutIdeal.Launch
public import proofs.«01_k».proof.Proof.Gen.StickOutIdeal.Points
public import proofs.«01_k».proof.Proof.Gen.StickOutIdeal.Skeleton
public import Idealize.ShloMosaic.Lib.VecWindow

/-! # What the forward pass of stick-breaking attention computes

At a point of the grid the kernel has one block of 256 queries of a pair of heads, the two heads one above the other. It visits
the blocks of keys from its own block downwards to block 0, carries the running sum of the log-survivals, and gathers of every
block the weighted values. Here this is written with functions of values alone: the visit of the block of its own (`own`), of
an inner block (`inner`, walked down by `walk`), and of block 0 (`last`). -/

@[expose] public section

noncomputable section

namespace Cert.StickOutIdeal.Gen

open Idealize.ShloMosaic Idealize.ShloMosaic.TcCoe
open Idealize.ShloMosaic.VecWindow (window put)

variable {F : FTy → Type} [FloatOps F] [Named F]

/-- What changes as the blocks of keys are visited: the gathered values of the two heads and their running sums. -/
structure St (F : FTy → Type) where
  acc : Vec F S2x256x128 .f32
  run : FVec F S512x1 .f32

/-- What stays: the keys and the values of the pair of heads, the triangle of ones, and the queries of the two heads. -/
structure Row (F : FTy → Type) where
  k : Vec F S8448x128 .bf16
  v : Vec F S8448x128 .bf16
  past : FVec F S256x256 .bf16
  q : FVec F S512x128 .bf16

/-- The values of a point whose block of queries is `q`. -/
def row (q : Vec F S256x128 .bf16) (k v : Vec F S8448x128 .bf16) : Row F where
  k := k
  v := v
  past := k0_pay13
  q := k0_pay15 q

/-- The threshold below which a row of weights is taken to be spent. -/
abbrev dead : F .f32 := Named.named κ "dead" 0xC2D00000#32

/-- The visit of an inner block of keys, number `j`. -/
def inner (R : Row F) (j : BitVec 32) (h : k0_chk1 j) (s : St F) : St F :=
  let kj := window R.k (k0_off2 j) S256x128.size (k0_off2_inb j h)
  let vj := window R.v (k0_off2 j) S256x128.size (k0_off2_inb j h)
  let a1 := put s.acc ![0, 0, 0] S1x256x128.size (k0_pay31 R.q R.past s.run kj vj (window s.acc ![0, 0, 0] S1x256x128.size inb_S2x256x128_S1x256x128_0_0_0))
  { acc := put a1 ![1, 0, 0] S1x256x128.size (k0_pay8 (k0_pay32 R.q R.past s.run kj vj (window a1 ![1, 0, 0] S1x256x128.size inb_S2x256x128_S1x256x128_1_0_0)))
    run := k0_pay9 s.run (k0_pay29 R.q kj) }

/-- Whether after the visit of an inner block some row's weights are not yet spent, as the word the loop carries. -/
def alive (R : Row F) (j : BitVec 32) (h : k0_chk1 j) (s : St F) : BitVec 32 :=
  Scalar.extui (Scalar.cmpf .ogt (k0_pay10 s.run (k0_pay29 R.q (window R.k (k0_off2 j) S256x128.size (k0_off2_inb j h)))) (dead (F := F)))

/-- Every block number of the loop addresses a block of keys. -/
theorem block_inb : ∀ n : Fin 33, k0_chk1 (BitVec.ofNat 32 n.val) := by decide +kernel

/-- The walk from block `n` down to block 1, as long as some row is not spent. -/
def walk (R : Row F) : (n : ℕ) → n < 33 → BitVec 32 → St F → BitVec 32 × St F
  | 0, _, go, s => (go, s)
  | n + 1, h, go, s =>
    if Scalar.cmpi .sgt go 0#32 = 1#1 then
      walk R n (by omega) (alive R (BitVec.ofNat 32 (n + 1)) (block_inb ⟨n + 1, h⟩) s) (inner R (BitVec.ofNat 32 (n + 1)) (block_inb ⟨n + 1, h⟩) s)
    else (go, s)

/-- The numbers of the rows and of the columns of a block. -/
abbrev rows : IVec S256x256 32 := iota .tc S256x256 32 [0] iota_S256x256_d0_w32
abbrev cols : IVec S256x256 32 := iota .tc S256x256 32 [1] iota_S256x256_d1_w32

/-- The visit of the point's own block of keys, with nothing gathered yet. -/
def own (R : Row F) (i : grid0.Coords) : St F :=
  let kj := k0_pay17 (window R.k (k0_off1 i) S256x128.size (k0_off1_inb i))
  let vj := k0_pay18 (window R.v (k0_off1 i) S256x128.size (k0_off1_inb i))
  let b := BitVec.ofNat 32 (i 1).val
  let z := k0_pay16 (F := F)
  let a0 := k0_pay14 (F := F)
  let a1 := put a0 ![0, 0, 0] S1x256x128.size (k0_pay26 b cols R.past R.q z kj vj (k0_pay19 i) (k0_pay20 i) (window a0 ![0, 0, 0] S1x256x128.size inb_S2x256x128_S1x256x128_0_0_0))
  { acc := put a1 ![1, 0, 0] S1x256x128.size (k0_pay1 (k0_pay25 b cols R.past R.q z kj vj (k0_pay19 i) (k0_pay20 i)) (window a1 ![1, 0, 0] S1x256x128.size inb_S2x256x128_S1x256x128_1_0_0))
    run := k0_pay2 z (k0_pay24 b cols R.q kj (k0_pay19 i) (k0_pay20 i)) }

/-- Whether after the visit of its own block some row's weights are not yet spent. -/
def alive0 (R : Row F) (i : grid0.Coords) : BitVec 32 :=
  Scalar.extui (Scalar.cmpf .ogt (k0_pay3 k0_pay16 (k0_pay24 (BitVec.ofNat 32 (i 1).val) cols R.q
    (k0_pay17 (window R.k (k0_off1 i) S256x128.size (k0_off1_inb i))) (k0_pay19 i) (k0_pay20 i))) (dead (F := F)))

/-- The visit of block 0, whose first columns are padding. -/
def last (R : Row F) (i : grid0.Coords) (s : St F) : St F :=
  let x := k0_pay11 (BitVec.ofNat 32 (i 1).val) rows cols R.past R.q s.run (window R.k ![0, 0] S256x128.size inb_S8448x128_S256x128_0_0)
    (window R.v ![0, 0] S256x128.size inb_S8448x128_S256x128_0_0)
  let a1 := put s.acc ![0, 0, 0] S1x256x128.size (k0_pay4 x (window s.acc ![0, 0, 0] S1x256x128.size inb_S2x256x128_S1x256x128_0_0_0))
  { s with acc := put a1 ![1, 0, 0] S1x256x128.size (k0_pay5 x (window a1 ![1, 0, 0] S1x256x128.size inb_S2x256x128_S1x256x128_1_0_0)) }

/-- The number of the last inner block below the point's own: one less than its own number. -/
def below (i : grid0.Coords) : ℕ := (i 1).val - 1

theorem below_lt (i : grid0.Coords) : below i < 33 := by have := (i 1).isLt; unfold below; change (i 1).val < 33 at this; omega

/-- The walk down from the point's own block. -/
def walked (R : Row F) (i : grid0.Coords) : BitVec 32 × St F := walk R (below i) (below_lt i) (alive0 R i) (own R i)

/-- Whether block 0 is visited apart: it is not the point's own, and some row is not spent. -/
def toLast (i : grid0.Coords) (go : BitVec 32) : Prop :=
  Scalar.cmpi .ne (Scalar.extui (Scalar.andi (Scalar.cmpi .sgt (BitVec.ofNat 32 (i 1).val) 0#32) (Scalar.cmpi .sgt go 0#32))) 0#32 = 1#1

instance (i : grid0.Coords) (go : BitVec 32) : Decidable (toLast i go) := by unfold toLast; infer_instance

/-- All that a point does. -/
def point (R : Row F) (i : grid0.Coords) : St F :=
  if toLast i (walked R i).1 then last R i (walked R i).2 else (walked R i).2

/-- The two blocks of the output a point stores: rounded, and as gathered. -/
def outOf (s : St F) : Vec F S256x128 .bf16 := k0_pay7 k0_pay12 (window s.acc ![0, 0, 0] S1x256x128.size inb_S2x256x128_S1x256x128_0_0_0) (window s.acc ![1, 0, 0] S1x256x128.size inb_S2x256x128_S1x256x128_1_0_0)
def wideOf (s : St F) : Vec F S256x128 .f32 := k0_pay6 k0_pay12 (window s.acc ![0, 0, 0] S1x256x128.size inb_S2x256x128_S1x256x128_0_0_0) (window s.acc ![1, 0, 0] S1x256x128.size inb_S2x256x128_S1x256x128_1_0_0)

end Cert.StickOutIdeal.Gen
-- ==== Proof.StickOutHead.lean ====
/- Stick-breaking attention, forward: the visit of a block of keys, written once. -/
module

public import proofs.«01_k».proof.Proof.StickOutIdealModel

/-! # The visit of a block of keys

The kernel has the two heads of a block one under the other in 512 rows. Its three visits, of a point's own block, of an inner one and
of block 0, differ in their masks only. -/

@[expose] public section

set_option maxRecDepth 16384

noncomputable section

namespace Cert.StickOutIdeal.Gen

open Idealize.ShloMosaic Idealize.ShloMosaic.TcCoe
open Idealize.ShloMosaic.VecWindow (window put)

variable {F : FTy → Type} [FloatOps F] [Named F]

/-- The scores of a block. -/
def hZ (q : FVec F S512x128 .bf16) (k : FVec F S256x128 .bf16) : FVec F S512x256 .f32 :=
  matmul dot_S512x128_S256x128_S512x256_1_1_0_0_n_n none q k (constant S512x256 .f32 0x00000000#32)

/-- The logarithm of the sigmoid. -/
def hLs (z : FVec F S512x256 .f32) : FVec F S512x256 .f32 :=
  subf (minimumf z (broadcast S512x256 (Scalar.ofBits .f32 0x00000000#32)))
    (log (addf (broadcast S512x256 (Scalar.ofBits .f32 0x3F800000#32)) (exp (subf (broadcast S512x256 (Scalar.ofBits .f32 0x00000000#32)) (absf z)))))

/-- The log-survivals. -/
def hGone (sel : FVec F S512x256 .f32 → FVec F S512x256 .f32) (z : FVec F S512x256 .f32) : FVec F S512x256 .f32 := sel (subf (hLs z) z)

/-- The weights, from the sum `run` of the log-survivals of the later blocks. -/
def hWt (sel : FVec F S512x256 .f32 → FVec F S512x256 .f32) (past : FVec F S256x256 .bf16) (z : FVec F S512x256 .f32) (run : FVec F S512x1 .f32) : FVec F S512x256 .bf16 :=
  truncf .bf16 (sel (exp (addf (addf (hLs z)
    (matmul dot_S512x256_S256x256_S512x256_1_0_0_1_n_n none (truncf .bf16 (hGone sel z) bitsLt_bf16_f32) past (constant S512x256 .f32 0x00000000#32)))
    (broadcastTo S512x256 run broadcasts_S512x1_S512x256)))) bitsLt_bf16_f32

/-- The weighted values. -/
def hAv (a : FVec F S512x256 .bf16) (v : FVec F S256x128 .bf16) : FVec F S512x128 .f32 :=
  matmul dot_S512x256_S256x128_S512x128_1_0_0_1_n_n none a v (constant S512x128 .f32 0x00000000#32)

/-- What is added to the first head's output, -/
def hAcc0 (x : FVec F S512x128 .f32) (a : FVec F S1x256x128 .f32) : FVec F S1x256x128 .f32 :=
  shapeCast S1x256x128 (addf (shapeCast S256x128 a shapeCasts_S1x256x128_S256x128) (extractStridedSlice S256x128 ![0, 0] x slices_S512x128_o0_0_S256x128)) shapeCasts_S256x128_S1x256x128
/-- and to the second's. -/
def hAcc1 (x : FVec F S512x128 .f32) (a : FVec F S1x256x128 .f32) : FVec F S1x256x128 .f32 :=
  shapeCast S1x256x128 (addf (shapeCast S256x128 a shapeCasts_S1x256x128_S256x128) (extractStridedSlice S256x128 ![256, 0] x slices_S512x128_o256_0_S256x128)) shapeCasts_S256x128_S1x256x128

/-- The sum of each row. -/
def hSum (x : FVec F S512x256 .f32) : FVec F S512x1 .f32 :=
  shapeCast S512x1 (multiReduction .add [1] S512 x 0x00000000#32 reduces_S512x256_S512 (.inl rfl) rfl) shapeCasts_S512_S512x1

/-- Both heads' outputs with the weighted values added. -/
def hPut (x : FVec F S512x128 .f32) (acc : Vec F S2x256x128 .f32) : Vec F S2x256x128 .f32 :=
  let a1 := put acc ![0, 0, 0] S1x256x128.size (hAcc0 x (window acc ![0, 0, 0] S1x256x128.size inb_S2x256x128_S1x256x128_0_0_0))
  put a1 ![1, 0, 0] S1x256x128.size (hAcc1 x (window a1 ![1, 0, 0] S1x256x128.size inb_S2x256x128_S1x256x128_1_0_0))

/-- The visit of the block of keys at `off`. -/
def gvisit (sel : FVec F S512x256 .f32 → FVec F S512x256 .f32) (R : Row F) (off : Fin 2 → ℕ)
    (inb : ∀ a, off a + S256x128.size a ≤ S8448x128.size a) (s : St F) : St F :=
  let k := shapeCast S256x128 (window R.k off S256x128.size inb) shapeCasts_S256x128_S256x128
  let v := shapeCast S256x128 (window R.v off S256x128.size inb) shapeCasts_S256x128_S256x128
  { acc := hPut (hAv (hWt sel R.past (hZ R.q k) s.run) v) s.acc
    run := addf s.run (hSum (hGone sel (hZ R.q k))) }

/-- The mask `ok`. -/
def masked (ok : IVec S512x256 1) (x : FVec F S512x256 .f32) : FVec F S512x256 .f32 :=
  select ok x (broadcast S512x256 (Scalar.ofBits .f32 0x00000000#32))

/-- A mask of both heads' rows. -/
def both (x : IVec S256x256 1) : IVec S512x256 1 :=
  concatenate S512x256 0 [⟨S256x256, x⟩, ⟨S256x256, x⟩] concatenates_S256x256_S256x256_S512x256_d0

/-- The mask of block `c` of the keys, for block `b` of the queries: before the row's own position, and past the padding. -/
def causal (b c : BitVec 32) : IVec S256x256 1 :=
  andi (cmpi .slt (addi cols (broadcast S256x256 c)) (addi rows (broadcast S256x256 b))) (cmpi .sge (addi cols (broadcast S256x256 c)) (broadcast S256x256 240#32))

theorem own_eq (R : Row F) (i : grid0.Coords) :
    own R i = gvisit (masked (both (causal (Scalar.muli (BitVec.ofNat 32 (i 1).val) 256#32) (Scalar.muli (BitVec.ofNat 32 (i 1).val) 256#32)))) R (k0_off1 i) (k0_off1_inb i)
      { acc := k0_pay14, run := k0_pay16 } := rfl

theorem inner_eq (R : Row F) (j : BitVec 32) (h : k0_chk1 j) (s : St F) :
    inner R j h s = gvisit id R (k0_off2 j) (k0_off2_inb j h) s := rfl

theorem last_eq (R : Row F) (i : grid0.Coords) (s : St F) :
    last R i s = { gvisit (masked (both (causal (Scalar.muli (BitVec.ofNat 32 (i 1).val) 256#32) 0#32))) R ![0, 0] inb_S8448x128_S256x128_0_0 s with run := s.run } := rfl

/-- Whether some row is not spent, by the running sums. -/
def going (s : St F) : BitVec 32 :=
  Scalar.extui (Scalar.cmpf .ogt (extractAt ![0, 0, 0] (shapeCast S1x1x1 (multiReduction .maximumf [1, 2] S1 (shapeCast S1x512x1 s.run shapeCasts_S512x1_S1x512x1) 0xFF800000#32
    reduces_S1x512x1_S1 (.inl rfl) rfl) shapeCasts_S1_S1x1x1) inpos_S1x1x1_p0_0_0) (dead (F := F)))

theorem alive0_eq (R : Row F) (i : grid0.Coords) : alive0 R i = going (own R i) := rfl
theorem alive_eq (R : Row F) (j : BitVec 32) (h : k0_chk1 j) (s : St F) : alive R j h s = going (inner R j h s) := rfl

end Cert.StickOutIdeal.Gen
-- ==== Proof.StickOutVisit.lean ====
/- Stick-breaking attention, forward: what a visit gathers. -/
module

public import proofs.«01_k».proof.Proof.StickOutHead
public import proofs.«01_k».proof.Proof.StickWalk

/-! # What a visit gathers

The queries and the keys are real numbers; the values are not asked to be. A point has gathered the keys from position `c` on when the
outputs and the running sums are the sums over these keys, and the visit of the block at `b` takes a point that has gathered the keys
from `b + 256` on to one that has gathered those from `b` on. -/

@[expose] public section

set_option maxRecDepth 16384

noncomputable section

namespace Cert.StickOutIdeal.Gen

open Idealize.ShloMosaic Idealize.ShloMosaic.TcCoe
open Idealize.ShloMosaic.VecWindow (window put)
open Cert.StickIdeal.Gen (ls_coe window_rows window_head put_head word word0 sitofp_ofBool)
open Finset
open Stick (ls N)

/-! ## The parts of a visit -/

section
variable {sel : FVec Ideal S512x256 .f32 → FVec Ideal S512x256 .f32} {ok : Fin 512 → Fin 256 → Prop} [∀ r l, Decidable (ok r l)]
  (hsel : ∀ x r l, sel x (ix2 r l) = if ok r l then x (ix2 r l) else 0)

theorem hZ_real {q : FVec Ideal S512x128 .bf16} {k : FVec Ideal S256x128 .bf16} {Q : Fin 512 → Fin 128 → ℝ} {K : Fin 256 → Fin 128 → ℝ}
    (hq : ∀ r d, q (ix2 r d) = (Q r d : EReal)) (hk : ∀ r d, k (ix2 r d) = (K r d : EReal)) (r : Fin 512) (l : Fin 256) :
    hZ q k (ix2 r l) = ((∑ d, Q r d * K l d : ℝ) : EReal) := by
  pointwise [hZ]
  rw [Norm.coe_sum]
  exact Finset.sum_congr rfl fun d _ => by rw [hq, hk, EReal.coe_mul]

theorem hLs_real {z : FVec Ideal S512x256 .f32} {Z : Fin 512 → Fin 256 → ℝ} (hz : ∀ r l, z (ix2 r l) = (Z r l : EReal)) (r : Fin 512) (l : Fin 256) :
    hLs z (ix2 r l) = (ls (Z r l) : EReal) := by
  pointwise [hLs]
  rw [hz, Ideal.absf_def, ls_coe]

include hsel in
theorem hGone_real {z : FVec Ideal S512x256 .f32} {Z : Fin 512 → Fin 256 → ℝ} (hz : ∀ r l, z (ix2 r l) = (Z r l : EReal)) (r : Fin 512) (l : Fin 256) :
    hGone sel z (ix2 r l) = ((if ok r l then ls (Z r l) - Z r l else 0 : ℝ) : EReal) := by
  rw [hGone, hsel]
  split
  · show hLs z (ix2 r l) - z (ix2 r l) = _
    rw [hLs_real hz, hz, ← EReal.coe_sub]
  · rfl

include hsel in
theorem hWt_real {past : FVec Ideal S256x256 .bf16} (hpast : ∀ r l, past (ix2 r l) = ((if l < r then 1 else 0 : ℝ) : EReal))
    {z : FVec Ideal S512x256 .f32} {Z : Fin 512 → Fin 256 → ℝ} (hz : ∀ r l, z (ix2 r l) = (Z r l : EReal))
    {run : FVec Ideal S512x1 .f32} {L : Fin 512 → ℝ} (hl : ∀ r, run (ix2 r 0) = (L r : EReal)) (r : Fin 512) (l : Fin 256) :
    hWt sel past z run (ix2 r l) = ((if ok r l then Real.exp (ls (Z r l)
      + (∑ x, (if ok r x then ls (Z r x) - Z r x else 0) * (if l < x then 1 else 0) + L r)) else 0 : ℝ) : EReal) := by
  have e : hWt sel past z run (ix2 r l) = sel (exp (addf (addf (hLs z)
    (matmul dot_S512x256_S256x256_S512x256_1_0_0_1_n_n none (truncf .bf16 (hGone sel z) bitsLt_bf16_f32) past (constant S512x256 .f32 0x00000000#32)))
    (broadcastTo S512x256 run broadcasts_S512x1_S512x256))) (ix2 r l) := by pointwise [hWt]
  rw [e, hsel]
  split
  · pointwise []
    simp only [hLs_real hz, hGone_real hsel hz, hpast, hl, ← EReal.coe_mul, ← Norm.coe_sum, ← EReal.coe_add, Ideal.exp_coe]
    rw [add_assoc]
  · rfl
end

theorem hSum_real {x : FVec Ideal S512x256 .f32} {X : Fin 512 → Fin 256 → ℝ} (hx : ∀ r l, x (ix2 r l) = (X r l : EReal)) (r : Fin 512) :
    hSum x (ix2 r 0) = ((∑ l, X r l : ℝ) : EReal) := by
  pointwise [hSum]
  rw [Norm.coe_sum]
  exact Finset.sum_congr rfl fun l _ => by rw [hx]

theorem hAv_at (a : FVec Ideal S512x256 .bf16) (v : FVec Ideal S256x128 .bf16) (r : Fin 512) (d : Fin 128) :
    hAv a v (ix2 r d) = ∑ l : Fin 256, a (ix2 r l) * v (ix2 l d) := by
  pointwise [hAv]

/-- The row of head `h` that belongs to row `r` of a block. -/
def both_row (h : Fin 2) (r : Fin 256) : Fin 512 := ⟨256 * h.val + r.val, by omega⟩

theorem hAcc0_at (x : FVec Ideal S512x128 .f32) (a : FVec Ideal S1x256x128 .f32) (r : Fin 256) (d : Fin 128) :
    hAcc0 x a (ix3 0 r d) = a (ix3 0 r d) + x (ix2 (both_row 0 r) d) := by
  pointwise [hAcc0]
  exact congrArg (fun i => a (ix3 0 r d) + x (ix2 i d)) (Fin.ext (Nat.zero_add _).symm)
theorem hAcc1_at (x : FVec Ideal S512x128 .f32) (a : FVec Ideal S1x256x128 .f32) (r : Fin 256) (d : Fin 128) :
    hAcc1 x a (ix3 0 r d) = a (ix3 0 r d) + x (ix2 (both_row 1 r) d) := by
  pointwise [hAcc1]
  exact congrArg (fun i => a (ix3 0 r d) + x (ix2 i d)) (Fin.ext rfl)

theorem hPut_at (x : FVec Ideal S512x128 .f32) (acc : Vec Ideal S2x256x128 .f32) (h : Fin 2) (r : Fin 256) (d : Fin 128) :
    hPut x acc (ix3 h r d) = acc (ix3 h r d) + x (ix2 (both_row h r) d) := by
  unfold hPut
  rw [put_head _ 1 ![1, 0, 0] rfl]
  by_cases e : h = 1
  · subst e
    rw [if_pos rfl, hAcc1_at]
    exact congrArg (· + _) ((window_head _ 1 _ rfl _ r d).trans ((put_head acc 0 _ rfl _ 1 r d).trans (if_neg (by decide))))
  · obtain rfl : h = 0 := by omega
    rw [if_neg e, put_head _ 0 ![0, 0, 0] rfl, if_pos rfl, hAcc0_at]
    exact congrArg (· + _) (window_head acc 0 _ rfl _ r d)

/-! ## The numbers of a point -/

/-- The keys and values at all positions, the queries of the two heads, and the position of the block's first row. -/
structure Nums where
  K : ℕ → Fin 128 → ℝ
  V : ℕ → Fin 128 → EReal
  Q : Fin 512 → Fin 128 → ℝ
  row : ℕ

namespace Nums
variable (P : Nums) (r : Fin 512)

/-- The positions row `r` sees: no padding, and before its own. -/
def ok (C : ℕ) : Prop := 240 ≤ C ∧ C < P.row + r.val % 256
instance : DecidablePred (P.ok r) := fun _ => by unfold ok; infer_instance
def z (C : ℕ) : ℝ := ∑ d, P.Q r d * P.K C d
def gone (C : ℕ) : ℝ := Stick.gone (P.ok r) (P.z r) C
def wt (C : ℕ) : ℝ := Stick.wt (P.ok r) (P.z r) C
end Nums

/-- The values of a point are its numbers. -/
structure RowReal (R : Row Ideal) (P : Nums) : Prop where
  k : ∀ (C : Fin 8448) d, R.k (ix2 C d) = (P.K C.val d : EReal)
  v : ∀ (C : Fin 8448) d, R.v (ix2 C d) = P.V C.val d
  past : ∀ r l, R.past (ix2 r l) = ((if l < r then 1 else 0 : ℝ) : EReal)
  q : ∀ r d, R.q (ix2 r d) = (P.Q r d : EReal)

/-- The outputs, with the keys from `c` on gathered, -/
def Gathered (P : Nums) (c : ℕ) (s : St Ideal) : Prop :=
  ∀ h r d, s.acc (ix3 h r d) = ∑ x ∈ Ico c N, (P.wt (both_row h r) x : EReal) * P.V x d
/-- and the running sums. -/
def Running (P : Nums) (c : ℕ) (s : St Ideal) : Prop := ∀ r, s.run (ix2 r 0) = ((∑ x ∈ Ico c N, P.gone r x : ℝ) : EReal)

/-- The visit of the block at `b`. -/
theorem gvisit_real {R : Row Ideal} {P : Nums} (hR : RowReal R P) (b : ℕ) (hb : b + 256 ≤ N)
    {sel : FVec Ideal S512x256 .f32 → FVec Ideal S512x256 .f32}
    (hsel : ∀ x (r : Fin 512) (l : Fin 256), sel x (ix2 r l) = if P.ok r (b + l.val) then x (ix2 r l) else 0)
    {off : Fin 2 → ℕ} (inb : ∀ a, off a + S256x128.size a ≤ S8448x128.size a) (h0 : off 0 = b) (h1 : off 1 = 0) {s : St Ideal}
    (hg : Gathered P (b + 256) s) (hr : Running P (b + 256) s) :
    Gathered P b (gvisit sel R off inb s) ∧ Running P b (gvisit sel R off inb s) := by
  have hk : ∀ (l : Fin 256) (c : Fin 128), shapeCast S256x128 (window R.k off S256x128.size inb) shapeCasts_S256x128_S256x128 (ix2 l c) = (P.K (b + l.val) c : EReal) :=
    fun l c => by pointwise []; rw [window_rows _ off inb b h0 h1 hb, hR.k]
  have hv : ∀ (l : Fin 256) (c : Fin 128), shapeCast S256x128 (window R.v off S256x128.size inb) shapeCasts_S256x128_S256x128 (ix2 l c) = P.V (b + l.val) c :=
    fun l c => by pointwise []; rw [window_rows _ off inb b h0 h1 hb, hR.v]
  unfold gvisit
  generalize shapeCast S256x128 (window R.k off S256x128.size inb) shapeCasts_S256x128_S256x128 = k at hk ⊢
  generalize shapeCast S256x128 (window R.v off S256x128.size inb) shapeCasts_S256x128_S256x128 = v at hv ⊢
  have hz : ∀ (r : Fin 512) (l : Fin 256), hZ R.q k (ix2 r l) = (P.z r (b + l.val) : EReal) := hZ_real hR.q hk
  have hgo : ∀ (r : Fin 512) (l : Fin 256), hGone sel (hZ R.q k) (ix2 r l) = (P.gone r (b + l.val) : EReal) := fun r l => hGone_real hsel hz r l
  have ha : ∀ (r : Fin 512) (l : Fin 256), hWt sel R.past (hZ R.q k) s.run (ix2 r l) = (P.wt r (b + l.val) : EReal) := fun r l => by
    rw [hWt_real hsel hR.past hz hr]
    unfold Nums.wt Stick.wt
    rw [Stick.after_block _ _ b hb]; rfl
  refine ⟨fun h r d => ?_, fun r => ?_⟩
  · show hPut _ s.acc (ix3 h r d) = _
    rw [hPut_at, hAv_at, hg h r d, Stick.sum_from (fun x => (P.wt (both_row h r) x : EReal) * P.V x d) b hb]
    simp only [ha, hv]
  · show s.run (ix2 r 0) + hSum _ (ix2 r 0) = _
    rw [hSum_real hgo, hr, ← EReal.coe_add, Stick.sum_from _ b hb]

/-! ## Masks -/

theorem both_at (x : IVec S256x256 1) (r : Fin 512) (l : Fin 256) : both x (ix2 r l) = x (ix2 ⟨r.val % 256, Nat.mod_lt _ (by decide)⟩ l) := by
  have h := r.isLt
  pointwise [both]
  by_cases e : r.val < 256
  · rw [dif_pos e]; congr 2; exact Fin.ext (Nat.mod_eq_of_lt e).symm
  · rw [dif_neg e]; congr 2; exact Fin.ext (by show r.val - 256 = r.val % 256; omega)

theorem add_word (a b : ℕ) : IntOp.addi (BitVec.ofNat 32 a) (BitVec.ofNat 32 b) = BitVec.ofNat 32 (a + b) := (BitVec.ofNat_add ..).symm

/-- The mask of a block that starts at position `c`, for the block of queries that starts at `b`. -/
theorem mask_real (b c : ℕ) (hb : b < 8448) (hc : c < 8448) (x : FVec Ideal S512x256 .f32) (r : Fin 512) (l : Fin 256) :
    masked (both (causal (BitVec.ofNat 32 b) (BitVec.ofNat 32 c))) x (ix2 r l) = if 240 ≤ c + l.val ∧ c + l.val < b + r.val % 256 then x (ix2 r l) else 0 := by
  have h1 := r.isLt
  have h2 := l.isLt
  pointwise [masked]
  rw [both_at]
  pointwise [causal, rows, cols]
  rw [add_word, add_word, show (240#32) = BitVec.ofNat 32 240 from rfl, WordCmp.cmpi_slt_ofNat (by omega) (by omega), WordCmp.cmpi_sge_ofNat (by omega) (by omega),
    WordCmp.andi_ofBool, WordCmp.select_ofBool]
  refine if_congr ?_ rfl rfl
  simp only [Bool.and_eq_true, decide_eq_true_eq]
  omega

theorem start_word (i : ℕ) : Scalar.muli (BitVec.ofNat 32 i) 256#32 = BitVec.ofNat 32 (256 * i) := by
  rw [Nat.mul_comm, BitVec.ofNat_mul]; rfl

theorem past_real (r l : Fin 256) : k0_pay13 (F := Ideal) (ix2 r l) = ((if l < r then 1 else 0 : ℝ) : EReal) := by
  have h1 := r.isLt
  have h2 := l.isLt
  pointwise [k0_pay13]
  rw [WordCmp.cmpi_sgt_ofNat (by omega) (by omega), sitofp_ofBool]
  simp only [decide_eq_true_eq, Fin.lt_def]

/-! ## The walk -/

/-- The threshold is minus infinity. -/
theorem dead_eq : (dead (F := Ideal) : EReal) = ⊥ := IdealRules.named_const.ideal_named_scalar _ _ _ _ rfl

/-- A point whose running sums are real goes on. -/
theorem going_eq {P : Nums} {c : ℕ} {s : St Ideal} (h : Running P c s) : going s = 1#32 := by
  have e : extractAt ![0, 0, 0] (shapeCast S1x1x1 (multiReduction (F := Ideal) .maximumf [1, 2] S1 (shapeCast S1x512x1 s.run shapeCasts_S512x1_S1x512x1) 0xFF800000#32
    reduces_S1x512x1_S1 (.inl rfl) rfl) shapeCasts_S1_S1x1x1) inpos_S1x1x1_p0_0_0 > (⊥ : EReal) := by
    pointwise []
    rw [gt_iff_lt, Finset.lt_fold_max]
    refine .inr ⟨⟨0, ⟨0, by decide⟩⟩, mem_univ _, ?_⟩
    exact lt_of_lt_of_eq (EReal.bot_lt_coe _) (h 0).symm
  unfold going
  rw [dead_eq]
  have : Scalar.cmpf (F := Ideal) (φ := .f32) .ogt _ (⊥ : EReal) = 1#1 := (Ideal.cmp_ogt_eq_one _ _).mpr e
  rw [this]; rfl

/-- Nothing is gathered past a point's own block. -/
theorem wt_far (P : Nums) (r : Fin 512) (C : ℕ) (hC : P.row + 256 ≤ C) : P.wt r C = 0 := if_neg fun a => by
  have := a.2; omega
theorem gone_far (P : Nums) (r : Fin 512) (C : ℕ) (hC : P.row + 256 ≤ C) : P.gone r C = 0 := if_neg fun a => by
  have := a.2; omega

theorem off1_rows : ∀ i : Fin 33, k0_off2 (BitVec.ofNat 32 i.val) 0 = 256 * i.val ∧ k0_off2 (BitVec.ofNat 32 i.val) 1 = 0 := by decide +kernel

/-- The visit of a point's own block. -/
theorem own_real {R : Row Ideal} {P : Nums} (hR : RowReal R P) (i : grid0.Coords) (hi : P.row = 256 * (i 1).val) :
    Gathered P (256 * (i 1).val) (own R i) ∧ Running P (256 * (i 1).val) (own R i) := by
  have h33 : (i 1).val < 33 := (i 1).isLt
  rw [own_eq, start_word]
  refine gvisit_real hR _ (by show 256 * (i 1).val + 256 ≤ 8448; omega) (fun x r l => ?_) _ (off1_rows (i 1)).1 rfl (fun h r d => ?_) fun r => ?_
  · rw [mask_real _ _ (by omega) (by omega)]
    exact if_congr (by unfold Nums.ok; rw [hi]) rfl rfl
  · rw [sum_eq_zero fun x hx => by rw [wt_far P _ x (by rw [hi]; exact (mem_Ico.mp hx).1), EReal.coe_zero, zero_mul]]
    pointwise [k0_pay14]
  · rw [sum_eq_zero fun x hx => gone_far P r x (by rw [hi]; exact (mem_Ico.mp hx).1)]
    pointwise [k0_pay16]; rfl

/-- The walk down to block 1 visits every block. -/
theorem walk_real {R : Row Ideal} {P : Nums} (hR : RowReal R P) : ∀ (n : ℕ) (h : n < 33), 256 * (n + 1) ≤ P.row → ∀ s : St Ideal,
    Gathered P (256 * (n + 1)) s → Running P (256 * (n + 1)) s → (walk R n h 1#32 s).1 = 1#32
      ∧ Gathered P 256 (walk R n h 1#32 s).2 ∧ Running P 256 (walk R n h 1#32 s).2
  | 0, _, _, s, hg, hr => ⟨rfl, hg, hr⟩
  | n + 1, h, hrow, s, hg, hr => by
    obtain ⟨o0, o1⟩ := off1_rows ⟨n + 1, h⟩
    have v := gvisit_real hR (256 * (n + 1)) (by show 256 * (n + 1) + 256 ≤ 8448; omega) (sel := id) (fun x r l => (if_pos ⟨by omega, by omega⟩).symm)
      (k0_off2_inb (BitVec.ofNat 32 (n + 1)) (block_inb ⟨n + 1, h⟩)) o0 o1 hg hr
    rw [← inner_eq] at v
    have w := walk_real hR n (by omega) (by omega) _ v.1 v.2
    have a : alive R (BitVec.ofNat 32 (n + 1)) (block_inb ⟨n + 1, h⟩) s = 1#32 := by rw [alive_eq]; exact going_eq v.2
    unfold walk
    rw [if_pos (by decide), a]
    exact w

theorem toLast_iff : ∀ i : Fin 33, (Scalar.cmpi .ne (Scalar.extui (Scalar.andi (Scalar.cmpi .sgt (BitVec.ofNat 32 i.val) 0#32) (Scalar.cmpi .sgt 1#32 0#32))) 0#32 = 1#1) ↔ 0 < i.val := by
  decide +kernel

/-- A point gathers all keys. -/
theorem point_real {R : Row Ideal} {P : Nums} (hR : RowReal R P) (i : grid0.Coords) (hi : P.row = 256 * (i 1).val) : Gathered P 0 (point R i) := by
  have h33 : (i 1).val < 33 := (i 1).isLt
  obtain ⟨og, or⟩ := own_real hR i hi
  unfold point walked
  rw [alive0_eq, going_eq or]
  rcases Nat.eq_zero_or_pos (i 1).val with h | h
  · have e : ∀ (n : ℕ) (hn : n < 33) (s : St Ideal), n = 0 → walk R n hn 1#32 s = (1#32, s) := fun n hn s h0 => by subst h0; rfl
    have t : ¬toLast i 1#32 := fun a => by have := (toLast_iff (i 1)).mp a; omega
    rw [e _ (below_lt i) _ (by unfold below; omega), if_neg t]
    rw [h] at og
    exact og
  · have b : below i + 1 = (i 1).val := by unfold below; omega
    obtain ⟨w1, w2, w3⟩ := walk_real hR (below i) (below_lt i) (by rw [b, hi]) (own R i) (by rw [b]; exact og) (by rw [b]; exact or)
    have t : toLast i 1#32 := (toLast_iff (i 1)).mpr h
    rw [w1, if_pos t, last_eq, start_word]
    exact (gvisit_real hR 0 (by decide) (fun x r l => by
      rw [show (0#32) = BitVec.ofNat 32 0 from rfl, mask_real _ 0 (by omega) (by omega)]; exact if_congr (by unfold Nums.ok; rw [hi]) rfl rfl)
      inb_S8448x128_S256x128_0_0 rfl rfl w2 w3).1

end Cert.StickOutIdeal.Gen
-- ==== Proof.StickOutIdealLabel.lean ====
module

public import proofs.«01_k».proof.Proof.StickOutIdealModel
public import proofs.«01_k».proof.Proof.Owned
public import Idealize.ShloMosaic.Lib.Tactic
public import Idealize.ShloMosaic.Lib.Pipeline.Sound

/-! # The walk over the inner blocks of keys is the function `walk`

The kernel's loop is answered by one specification: given the buffers at the values of a state, it leaves them at those of
the state `walk` ends with, and gives back that state's running sums and the word that says whether some row is still not
spent. It is met by induction on the number of the block. -/

@[expose] public section

set_option maxRecDepth 16384

noncomputable section

namespace Cert.StickOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned

variable {F : FTy → Type} [FloatOps F] [Named F]

local notation "𝕄" => MT nD τ sig Unit (Elt F) ℕ (UR sig nD τ) ℕ

/-- The buffers the loop reads and writes: the keys and the values as they are, the gathered values at those of a state. -/
def held (c : Dev nD) (arg3 arg4 : Memref sig .tc .vmem S8448x128 .bf16) (arg7 : Memref sig .tc .vmem S2x256x128 .f32)
    (R : Row F) (s : St F) : sProp 𝕄 :=
  iprop(owns (c : Thread nD τ) arg3 fullShare R.k ∗ owns (c : Thread nD τ) arg4 fullShare R.v ∗ owns (c : Thread nD τ) arg7 fullShare s.acc)

/-- What the loop gives back besides the block it stopped at. -/
def given (r : BitVec 32 × St F) : BitVec 32 × FVec F S512x1 .f32 := (r.1, r.2.run)

section Label

variable (c : Dev nD) (arg3 arg4 : Memref sig .tc .vmem S8448x128 .bf16) (arg7 : Memref sig .tc .vmem S2x256x128 .f32) (R : Row F)

/-- The loop entered at block `n`: from a state's buffers it leaves those of the state the walk ends with. -/
def spec (n : ℕ) (hn : n < 33) (go : BitVec 32) (s : St F) : sWPT 𝕄 (BitVec 32 × BitVec 32 × FVec F S512x1 .f32) := do
  sWPT.consume (held c arg3 arg4 arg7 R s)
  let r ← sWPT.arbitrary
  sWPT.assume (r.2 = given (walk R n hn go s))
  sWPT.produce (held c arg3 arg4 arg7 R (walk R n hn go s).2)
  pure r

theorem spec_apply (n : ℕ) (hn : n < 33) (go : BitVec 32) (s : St F) (K : BitVec 32 × BitVec 32 × FVec F S512x1 .f32 → sProp 𝕄) :
    spec c arg3 arg4 arg7 R n hn go s K
      = iprop(held c arg3 arg4 arg7 R s ∗ ∀ r : BitVec 32 × BitVec 32 × FVec F S512x1 .f32,
          ⌜r.2 = given (walk R n hn go s)⌝ -∗ (held c arg3 arg4 arg7 R (walk R n hn go s).2 -∗ K r)) := rfl

/-- The loop's counter one block down. -/
theorem down : ∀ n : Fin 32, Scalar.subi (BitVec.ofNat 32 (n.val + 1)) 1#32 = BitVec.ofNat 32 n.val := by decide

/-- The loop's first test passes at every block but block 0. -/
theorem above : ∀ n : Fin 32, Scalar.cmpi .sge (BitVec.ofNat 32 (n.val + 1)) 1#32 = 1#1 := by decide

/-- The counter the walk starts with, one below the point's own block, is its number, or stops the loop at once. -/
theorem counter : ∀ n : Fin 33, (n.val - 1 = 0 → Scalar.cmpi .sge (Scalar.subi (BitVec.ofNat 32 n.val) 1#32) 1#32 = 0#1)
    ∧ (n.val - 1 ≠ 0 → Scalar.subi (BitVec.ofNat 32 n.val) 1#32 = BitVec.ofNat 32 (n.val - 1)) := by decide

theorem one_and (b : BitVec 1) : Scalar.andi 1#1 b = b := by revert b; decide

theorem zero_and (b : BitVec 1) : Scalar.andi 0#1 b = 0#1 := by revert b; decide

variable (harg3 : arg3.IsWhole) (harg4 : arg4.IsWhole) (harg7 : arg7.IsWhole)

theorem spec_le (i : grid0.Coords) (E : Set ℕ) :
    ∀ n (hn : n < 33) (j : BitVec 32) (hj : (n = 0 → Scalar.cmpi .sge j 1#32 = 0#1) ∧ (n ≠ 0 → j = BitVec.ofNat 32 n)) (go : BitVec 32) (s : St F) K, spec c arg3 arg4 arg7 R n hn go s K
      ⊢ wp frame (wpE (defs₀ (F := F)) Variants.nat (c : Thread nD τ) (some n)) E
          (defs₀ (F := F) .tc 1 ⟨i, arg3, harg3, arg4, harg4, R.q, R.past, arg7, harg7, j, go, s.run⟩) K := by
  intro n
  induction n with
  | zero =>
    intro hn j hj go s K
    rw [spec_apply]
    show _ ⊢ wp frame (wpE (defs₀ (F := F)) Variants.nat (c : Thread nD τ) (some 0)) E
      (cc0_while1 i arg3 harg3 arg4 harg4 R.q R.past arg7 harg7 j go s.run) K
    simp only [cc0_while1_eq_skeleton]; unfold cc0_while1_skel
    have h0 : Scalar.cmpi .sge j 1#32 = 0#1 := hj.1 rfl
    have h1 : ¬ (0#1 : BitVec 1) = 1#1 := by decide
    simp only [h0, zero_and, h1, ↓reduceIte, Prog.pure_eq_ret]
    iintro ⟨H, Hk⟩
    rw [wp_ret]; imodintro
    iapply Hk
    · ipureintro; rfl
    · iexact H
  | succ n ih =>
    intro hn j hj go s K
    obtain rfl : j = BitVec.ofNat 32 (n + 1) := hj.2 (Nat.succ_ne_zero n)
    rw [spec_apply]
    show _ ⊢ wp frame (wpE (defs₀ (F := F)) Variants.nat (c : Thread nD τ) (some (n + 1))) E
      (cc0_while1 i arg3 harg3 arg4 harg4 R.q R.past arg7 harg7 (BitVec.ofNat 32 (n + 1)) go s.run) K
    simp only [cc0_while1_eq_skeleton]; unfold cc0_while1_skel
    have h0 : Scalar.cmpi .sge (BitVec.ofNat 32 (n + 1)) 1#32 = 1#1 := above ⟨n, by omega⟩
    simp only [h0, one_and]
    by_cases hg : Scalar.cmpi .sgt go 0#32 = 1#1
    · have hw : walk R (n + 1) hn go s = walk R n (by omega) (alive R (BitVec.ofNat 32 (n + 1)) (block_inb ⟨n + 1, hn⟩) s) (inner R (BitVec.ofNat 32 (n + 1)) (block_inb ⟨n + 1, hn⟩) s) := by
        rw [walk, if_pos hg]
      rw [hw]
      simp only [hg, ↓reduceIte, k0_part4_eq_skeleton]
      unfold k0_part4_skel
      simp only [Prog.lift, Prog.bind_op, Prog.bind_ret, Prog.pure_eq_ret]
      unfold held
      iintro ⟨⟨H3, H4, H7⟩, Hk⟩
      iapply (wp_assume Variants.nat (c : Thread nD τ) (some (n + 1)) E (block_inb ⟨n + 1, hn⟩))
      iapply (wp_load_owned Variants.nat (c : Thread nD τ) (some (n + 1)) E (m := arg3)) $$ H3; iintro H3
      iapply (wp_load_owned Variants.nat (c : Thread nD τ) (some (n + 1)) E (m := arg4)) $$ H4; iintro H4
      iapply (wp_load_owned Variants.nat (c : Thread nD τ) (some (n + 1)) E (m := arg7)) $$ H7; iintro H7
      iapply (wp_load_owned Variants.nat (c : Thread nD τ) (some (n + 1)) E (m := arg7)) $$ H7; iintro H7
      iapply (wp_store_owned Variants.nat (c : Thread nD τ) (some (n + 1)) E (m := arg7)) $$ H7; iintro H7
      iapply (wp_load_owned Variants.nat (c : Thread nD τ) (some (n + 1)) E (m := arg7)) $$ H7; iintro H7
      iapply (wp_load_owned Variants.nat (c : Thread nD τ) (some (n + 1)) E (m := arg7)) $$ H7; iintro H7
      iapply (wp_store_owned Variants.nat (c : Thread nD τ) (some (n + 1)) E (m := arg7)) $$ H7; iintro H7
      rw [down ⟨n, by omega⟩]
      iapply (wp_call_spec Variants.nat (c : Thread nD τ) (some (n + 1)) E
        (spec c arg3 arg4 arg7 R n (by omega) (alive R (BitVec.ofNat 32 (n + 1)) (block_inb ⟨n + 1, hn⟩) s) (inner R (BitVec.ofNat 32 (n + 1)) (block_inb ⟨n + 1, hn⟩) s)) n
        (fun u hu => by cases hu; exact Nat.lt_succ_self n)
        (ih (by omega) (BitVec.ofNat 32 n) ⟨fun h => by subst h; decide, fun _ => rfl⟩ (alive R (BitVec.ofNat 32 (n + 1)) (block_inb ⟨n + 1, hn⟩) s) (inner R (BitVec.ofNat 32 (n + 1)) (block_inb ⟨n + 1, hn⟩) s)))
      rw [spec_apply]; unfold held
      isplitl [H3 H4 H7]
      · isplitl [H3]; · iexact H3
        isplitl [H4]; · iexact H4
        iexact H7
      iintro %r %hr H
      rw [wp_ret]; imodintro
      iapply Hk
      · ipureintro; exact hr
      · iexact H
    · have hw : walk R (n + 1) hn go s = (go, s) := by rw [walk, if_neg hg]
      rw [hw]
      simp only [hg, ↓reduceIte, Prog.pure_eq_ret]
      iintro ⟨H, Hk⟩
      rw [wp_ret]; imodintro
      iapply Hk
      · ipureintro; rfl
      · iexact H

end Label

end Cert.StickOutIdeal.Gen
-- ==== Proof.StickOutIdealBody.lean ====
module

public import proofs.«01_k».proof.Proof.StickOutIdealLabel

/-! # The kernel's body at a point is the function `point`

The staging and scratch buffers are held at known values; the body leaves the two blocks of the output as `point` says. -/

@[expose] public section

set_option maxRecDepth 16384

noncomputable section

namespace Cert.StickOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Owned

variable {F : FTy → Type} [FloatOps F] [Named F]

local notation "𝕄" => MT nD τ sig Unit (Elt F) ℕ (UR sig nD τ) ℕ

variable (c : Dev nD) (E : Set ℕ) (i : grid0.Coords)
  (arg2 : Memref sig .tc .vmem S256x128 .bf16) (harg2 : arg2.IsWhole) (arg3 : Memref sig .tc .vmem S8448x128 .bf16) (harg3 : arg3.IsWhole)
  (arg4 : Memref sig .tc .vmem S8448x128 .bf16) (harg4 : arg4.IsWhole) (arg5 : Memref sig .tc .vmem S256x128 .bf16) (harg5 : arg5.IsWhole)
  (arg6 : Memref sig .tc .vmem S256x128 .f32) (harg6 : arg6.IsWhole) (arg7 : Memref sig .tc .vmem S2x256x128 .f32) (harg7 : arg7.IsWhole)

set_option maxHeartbeats 4000000 in
/-- The body at a point. -/
theorem sound (q : Vec F S256x128 .bf16) (k v : Vec F S8448x128 .bf16) (x5 : Vec F S256x128 .bf16) (x6 : Vec F S256x128 .f32)
    (x7 : Vec F S2x256x128 .f32) (s : St F) (hs : s = point (row q k v) i) (K : PUnit → sProp 𝕄) :
    iprop((owns (c : Thread nD τ) arg2 fullShare q ∗ owns (c : Thread nD τ) arg3 fullShare k ∗ owns (c : Thread nD τ) arg4 fullShare v
        ∗ owns (c : Thread nD τ) arg5 fullShare x5 ∗ owns (c : Thread nD τ) arg6 fullShare x6 ∗ owns (c : Thread nD τ) arg7 fullShare x7)
      ∗ (iprop(owns (c : Thread nD τ) arg2 fullShare q ∗ owns (c : Thread nD τ) arg3 fullShare k ∗ owns (c : Thread nD τ) arg4 fullShare v
        ∗ owns (c : Thread nD τ) arg5 fullShare (outOf s) ∗ owns (c : Thread nD τ) arg6 fullShare (wideOf s) ∗ owns (c : Thread nD τ) arg7 fullShare s.acc)
        -∗ K ⟨⟩))
      ⊢ wp frame (wpE (defs₀ (F := F)) Variants.nat (c : Thread nD τ) none) E
          (cc0_sb_fwd i arg2 harg2 arg3 harg3 arg4 harg4 arg5 harg5 arg6 harg6 arg7 harg7) K := by
  simp only [cc0_sb_fwd_eq_skeleton]; unfold cc0_sb_fwd_skel
  iintro ⟨⟨H2, H3, H4, H5, H6, H7⟩, Hk⟩
  simp only [k0_part2_eq_skeleton, k0_part3_eq_skeleton]
  unfold k0_part2_skel k0_part3_skel
  simp only [Prog.lift, Prog.bind_op, Prog.bind_ret, Prog.pure_eq_ret]
  iapply (wp_load_all Variants.nat (c : Thread nD τ) none E (m := arg2)) $$ H2; iintro H2
  iapply (wp_load_all Variants.nat (c : Thread nD τ) none E (m := arg7)) $$ H7; iintro H7
  iapply (wp_store_all Variants.nat (c : Thread nD τ) none E (m := arg7)) $$ H7; iintro H7
  iapply (wp_load_owned Variants.nat (c : Thread nD τ) none E (m := arg3)) $$ H3; iintro H3
  iapply (wp_load_owned Variants.nat (c : Thread nD τ) none E (m := arg4)) $$ H4; iintro H4
  iapply (wp_load_owned Variants.nat (c : Thread nD τ) none E (m := arg7)) $$ H7; iintro H7
  iapply (wp_load_owned Variants.nat (c : Thread nD τ) none E (m := arg7)) $$ H7; iintro H7
  iapply (wp_store_owned Variants.nat (c : Thread nD τ) none E (m := arg7)) $$ H7; iintro H7
  iapply (wp_load_owned Variants.nat (c : Thread nD τ) none E (m := arg7)) $$ H7; iintro H7
  iapply (wp_load_owned Variants.nat (c : Thread nD τ) none E (m := arg7)) $$ H7; iintro H7
  iapply (wp_store_owned Variants.nat (c : Thread nD τ) none E (m := arg7)) $$ H7; iintro H7
  iapply (wp_call_spec Variants.nat (c : Thread nD τ) none E
    (spec c arg3 arg4 arg7 (row q k v) (below i) (below_lt i) (alive0 (row q k v) i) (own (row q k v) i)) (below i)
    (fun u hu => nomatch hu)
    (spec_le c arg3 arg4 arg7 (row q k v) harg3 harg4 harg7 i E (below i) (below_lt i)
      (Scalar.subi (BitVec.ofNat 32 (i 1).val) 1#32) (counter (i 1)) (alive0 (row q k v) i) (own (row q k v) i)))
  rw [spec_apply]; unfold held
  isplitl [H3 H4 H7]
  · isplitl [H3]; · iexact H3
    isplitl [H4]; · iexact H4
    iexact H7
  iintro %r %hr ⟨H3, H4, H7⟩
  obtain ⟨r0, r'⟩ := r
  dsimp only at hr
  subst hr
  unfold point walked at hs
  generalize walk (row q k v) (below i) (below_lt i) (alive0 (row q k v) i) (own (row q k v) i) = w at hs ⊢
  obtain ⟨go, w⟩ := w
  dsimp only [given] at hs ⊢
  rcases Classical.em (toLast i go) with hl | hl
  case' inl =>
    rw [if_pos hl] at hs
    unfold toLast at hl
    simp only [hl, ↓reduceIte, k0_part1_eq_skeleton]
    unfold k0_part1_skel
    simp only [Prog.lift, Prog.bind_op, Prog.bind_ret, Prog.pure_eq_ret]
    iapply (wp_load_owned Variants.nat (c : Thread nD τ) none E (m := arg3)) $$ H3; iintro H3
    iapply (wp_load_owned Variants.nat (c : Thread nD τ) none E (m := arg4)) $$ H4; iintro H4
    iapply (wp_load_owned Variants.nat (c : Thread nD τ) none E (m := arg7)) $$ H7; iintro H7
    iapply (wp_load_owned Variants.nat (c : Thread nD τ) none E (m := arg7)) $$ H7; iintro H7
    iapply (wp_store_owned Variants.nat (c : Thread nD τ) none E (m := arg7)) $$ H7; iintro H7
    iapply (wp_load_owned Variants.nat (c : Thread nD τ) none E (m := arg7)) $$ H7; iintro H7
    iapply (wp_load_owned Variants.nat (c : Thread nD τ) none E (m := arg7)) $$ H7; iintro H7
    iapply (wp_store_owned Variants.nat (c : Thread nD τ) none E (m := arg7)) $$ H7; iintro H7
  case' inr =>
    rw [if_neg hl] at hs
    unfold toLast at hl
    simp only [hl, ↓reduceIte, Prog.lift, Prog.bind_op, Prog.bind_ret, Prog.pure_eq_ret]
  all_goals
    subst hs
    iapply (wp_load_owned Variants.nat (c : Thread nD τ) none E (m := arg7)) $$ H7; iintro H7
    iapply (wp_load_owned Variants.nat (c : Thread nD τ) none E (m := arg7)) $$ H7; iintro H7
    iapply (wp_load_all Variants.nat (c : Thread nD τ) none E (m := arg5)) $$ H5; iintro H5
    iapply (wp_store_all Variants.nat (c : Thread nD τ) none E (m := arg5)) $$ H5; iintro H5
    iapply (wp_load_all Variants.nat (c : Thread nD τ) none E (m := arg6)) $$ H6; iintro H6
    iapply (wp_store_all Variants.nat (c : Thread nD τ) none E (m := arg6)) $$ H6; iintro H6
    rw [wp_ret]; imodintro
    iapply Hk
    isplitl [H2]; · iexact H2
    isplitl [H3]; · iexact H3
    isplitl [H4]; · iexact H4
    isplitl [H5]; · iexact H5
    isplitl [H6]; · iexact H6
    iexact H7

end Cert.StickOutIdeal.Gen
-- ==== Proof.StickOutIdealFrame.lean ====
module

public import proofs.«01_k».proof.Proof.StickOutIdealBody
public import Idealize.ShloMosaic.Lib.Pipeline.Frame
public import Idealize.ShloMosaic.Lib.Pipeline.FrameBody
public import Idealize.ShloMosaic.Lib.Pipeline.TableIdle
public import Idealize.ShloMosaic.Lib.Claim

/-! # The frame of the forward pass of stick-breaking attention

Nothing passes from a point to the next: the scratch is cleared at each. -/

@[expose] public section

set_option maxRecDepth 16384

noncomputable section

namespace Cert.StickOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the kernel -/

/-- The host operations, in order. -/
abbrev stretches : List (List (HloOp τ sig (Elt F))) := [hostOps0, hostOps0_1]

/-- What a buffer holds when the kernel starts. -/
abbrev V (c : Dev nD) (b : Ref sig .tc) : Buf (Elt F) ((c : Thread nD τ).loc b) := StableHlo.after stretches.flatten (fun b => m (c, b)) b

theorem stretches_fresh : (stretches : List (List (HloOp τ sig (Elt F)))).Forall fun ops => ops.Forall fun op => op.fresh = ∅ := by
  simp only [stretches, List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches ⟨hostOps0_sub, hostOps0_1_sub⟩ stretches_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, List.flatten_cons, List.flatten_nil, List.append_nil, List.cons_append,
      List.nil_append, List.Forall, StableHlo.nullary_writes, StableHlo.unary_writes, StableHlo.binary_writes, StableHlo.ternary_writes,
      StableHlo.nary_writes, StableHlo.reshape_writes, StableHlo.TRef.nullary, StableHlo.TRef.unary, StableHlo.TRef.binary, StableHlo.TRef.ternary, Finset.mem_singleton]
    repeat' apply And.intro
    all_goals exact StableHlo.devRef_ne_of_ne (by decide)))

/-! ## The windows' blocks -/

/-- The block of a window at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The values a point works on. -/
def rowAt (c : Dev nD) (t : Fin (cfg0 (F := F)).N) : Row F := row (iblk m c 0 t) (iblk m c 1 t) (iblk m c 2 t)

/-- What a point ends with. -/
def endAt (c : Dev nD) (t : Fin (cfg0 (F := F)).N) : St F := point (rowAt m c t) (grid0.coords t)

/-! ## The proof data -/

/-- What stands between two points: the scratch and the generator's register at anything. -/
def carried (c : Dev nD) : sProp 𝕄 :=
  iprop((∃ x7, owns (c : Thread nD τ) (Memref.whole cc0_scratch0) fullShare x7) ∗ ∃ r, prngReg c r)

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (endAt m c t)
    | ⟨4, _⟩ => wideOf (endAt m c t)
  Φ _ := carried c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = outOf (endAt m c t) := rfl
theorem after0_4 (c : Dev nD) (t : Fin (cfg0 (F := F)).N) : (dats m 0 c).after 4 t = wideOf (endAt m c t) := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1000000 in
theorem sound_point (c : Dev nD) (t : Fin (cfg0 (F := F)).N) :
    bodyPre m c t ⊢ wp frame (wpE (defs₀ (F := F)) Variants.nat (c : Thread nD τ) none) Set.univ (bodyAt0 t) (fun _ => bodyPost m c t) := by
  unfold bodyPre bodyPost
  simp only [before0_0, before0_1, before0_2]
  rw [show (dats m 0 c).Φ t.castSucc = carried c from rfl, show (dats m 0 c).Φ t.succ = carried c from rfl,
    show (dats m 0 c).owesAt () t.succ = (dats m 0 c).owesAt () t.castSucc from rfl,
    after0_0, after0_1, after0_2, after0_3, after0_4]
  unfold carried bodyAt0
  iintro ⟨⟨⟨%x7, H7⟩, Hp⟩, Ho, ⟨%d0, H0⟩, ⟨%d1, H1⟩, ⟨%d2, H2⟩, ⟨%d3, H3⟩, ⟨%d4, H4⟩⟩
  iapply (sound c Set.univ (grid0.coords t) (win0_0.stage ((cfg0 (F := F)).slots t 0)) _ (win0_1.stage ((cfg0 (F := F)).slots t 1)) _
    (win0_2.stage ((cfg0 (F := F)).slots t 2)) _ (win0_3.stage ((cfg0 (F := F)).slots t 3)) _ (win0_4.stage ((cfg0 (F := F)).slots t 4)) _
    (Memref.whole cc0_scratch0) _ (iblk m c 0 t) (iblk m c 1 t) (iblk m c 2 t) ((dats m 0 c).before 3 t d3) ((dats m 0 c).before 4 t d4) x7 (endAt m c t) rfl)
  isplitl [H0 H1 H2 H3 H4 H7]
  · isplitl [H0]; · iexact H0
    isplitl [H1]; · iexact H1
    isplitl [H2]; · iexact H2
    isplitl [H3]; · iexact H3
    isplitl [H4]; · iexact H4
    iexact H7
  iintro ⟨H0, H1, H2, H3, H4, H7⟩
  isplitl [H7 Hp]
  · isplitl [H7]; · iexists _; iexact H7
    iexact Hp
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (c : Dev nD) : BodyObligation (dats (F := F) m 0 c) (defs₀ (F := F)) Variants.nat () Set.univ := fun t => by
  rw [bigSep_W0, bigSep_W0, defs₀_row]
  exact triple_restated (sound_point m c t) rfl .rfl fun _ => .rfl

/-! ## The run and the frame -/

theorem carried_in (c : Dev nD) : Pipeline.ΦA spec0 c ⊢ (dats (F := F) m 0 c).Φ 0 := by
  rw [show (dats m 0 c).Φ 0 = carried c from rfl]
  unfold Pipeline.ΦA carried
  rw [scopedRest0_eq]
  simp only [owns_whole]
  iintro ⟨⟨%f0, H0⟩, Hp⟩
  isplitl [H0]; · iexists f0; iexact H0
  iexact Hp

theorem carried_out (c : Dev nD) : (dats (F := F) m 0 c).Φ (Fin.last (cfg0 (F := F)).N) ⊢ Pipeline.ΦA spec0 c := by
  rw [show (dats m 0 c).Φ (Fin.last (cfg0 (F := F)).N) = carried c from rfl]
  unfold Pipeline.ΦA carried
  rw [scopedRest0_eq]
  simp only [owns_whole]
  iintro ⟨⟨%f0, H0⟩, Hp⟩
  isplitl [H0]; · iexists f0; iexact H0
  iexact Hp

set_option backward.isDefEq.respectTransparency.types false in
/-- The launch: every array at what the library computes from the proof data, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun c w _ => rfl)
    (howed := fun _ _ => rfl) (V := V m) (hmain := hmain m Variants.nat) (hA := A_eq m) (hin := carried_in m) (hout := carried_out m)

/-- No window stages an argument. -/
theorem not_staged : ∀ w : Fin 5, (spec0 w).arr.view.ref ≠ main_arg0 ∧ (spec0 w).arr.view.ref ≠ main_arg1
    ∧ (spec0 w).arr.view.ref ≠ main_arg2 := by decide

theorem rest_eq {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) fun w => (not_staged w).1)).trans (V_main_arg0 m c),
   ((h c).2 main_arg1 (Pipeline.mem_restRefs_of main_arg1 (by decide) fun w => (not_staged w).2.1)).trans (V_main_arg1 m c),
   ((h c).2 main_arg2 (Pipeline.mem_restRefs_of main_arg2 (by decide) fun w => (not_staged w).2.2)).trans (V_main_arg2 m c)⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => rest_eq m h.1 c, h.2⟩) (run_main_quiescent m ρ)

end Cert.StickOutIdeal.Gen
-- ==== Proof.StickOutPoints.lean ====
/- Stick-breaking attention, forward: what the kernel leaves. -/
module

public import proofs.«01_k».proof.Proof.StickOutVisit
public import proofs.«01_k».proof.Proof.StickOutIdealFrame
public import proofs.«01_k».proof.Proof.StickForward
public import Idealize.ShloMosaic.Lib.Pipeline.ValueKit

/-! # What the points leave

Point `33 p + i` stores block `i` of the outputs of the pair of heads `p`. -/

@[expose] public section

set_option maxRecDepth 16384

noncomputable section

namespace Cert.StickOutIdeal.Gen

open Idealize.ShloMosaic Idealize.ShloMosaic.TcCoe Idealize.SL.Sem
open Idealize.ShloMosaic.Pipeline (Dat)
open Cert.StickIdeal.Gen (eighth half one_iff columns_at columns_real nothing)
open Finset
open Stick (N pad wide Arrays)

/-- The output at every position, from real scores and any values. -/
def out (A : Arrays) (v : Fin 8208 → Fin 1024 → EReal) (R c : ℕ) : EReal := ∑ C ∈ range N, (A.wt (c / 64) R C : EReal) * wide v C c

variable (A : Arrays) (w : Fin 8208 → Fin 1024 → EReal) (p i : ℕ)

/-- The numbers of block `i` of the queries of the pair of heads `p`. -/
def nums : Nums where
  K C d := pad A.k C (128 * p + d.val)
  V C d := wide w C (128 * p + d.val)
  Q r d := if d.val / 64 = r.val / 256 then pad A.q (256 * i + r.val % 256) (128 * p + d.val) * (1 / 8) else 0
  row := 256 * i

theorem nums_z (r : Fin 512) : (nums A w p i).z r = A.z (2 * p + r.val / 256) (256 * i + r.val % 256) := funext fun C => by
  show ∑ d : Fin 128, (if d.val / 64 = r.val / 256 then pad A.q (256 * i + r.val % 256) (128 * p + d.val) * (1 / 8) else 0) * pad A.k C (128 * p + d.val) = _
  have h : r.val / 256 < 2 := by omega
  simp only [ite_mul, zero_mul]
  rw [Stick.sum_half (fun d => pad A.q (256 * i + r.val % 256) (128 * p + d) * (1 / 8) * pad A.k C (128 * p + d)) ⟨r.val / 256, h⟩]
  refine sum_congr rfl fun e _ => ?_
  rw [show 128 * p + (64 * (r.val / 256) + e.val) = 64 * (2 * p + r.val / 256) + e.val by ring]
  ring

theorem nums_wt (r : Fin 512) (C : ℕ) : (nums A w p i).wt r C = A.wt (2 * p + r.val / 256) (256 * i + r.val % 256) C := by
  unfold Nums.wt; rw [nums_z]; rfl

variable {w}
variable {q : Vec Ideal S256x128 .bf16} {k v : Vec Ideal S8448x128 .bf16}

/-- The values of a point. -/
theorem row_real (hq : ∀ (r : Fin 256) (d : Fin 128), q (ix2 r d) = (pad A.q (256 * i + r.val) (128 * p + d.val) : EReal))
    (hk : ∀ (C : Fin 8448) (d : Fin 128), k (ix2 C d) = (pad A.k C.val (128 * p + d.val) : EReal))
    (hv : ∀ (C : Fin 8448) (d : Fin 128), v (ix2 C d) = wide w C.val (128 * p + d.val)) :
    RowReal (row q k v) (nums A w p i) where
  k := hk
  v := hv
  past := past_real
  q r d := by
    have h := r.isLt
    show k0_pay15 q (ix2 r d) = ((if d.val / 64 = r.val / 256 then _ else _ : ℝ) : EReal)
    pointwise [k0_pay15, k0_pay12]
    by_cases e : r.val < 256
    · rw [dif_pos e, half, hq, eighth, ← EReal.coe_mul, Nat.div_eq_of_lt e, Nat.mod_eq_of_lt e]
      exact (apply_ite _ _ _ _).symm
    · rw [dif_neg e, half, hq, eighth, ← EReal.coe_mul, ← ite_not, show r.val / 256 = 1 by omega, show r.val % 256 = r.val - 256 by omega]
      exact (if_congr (one_iff d).symm rfl rfl).trans (apply_ite _ _ _ _).symm

/-- The block of the output. -/
theorem wideOf_real {s : St Ideal} (hs : Gathered (nums A w p i) 0 s) (r : Fin 256) (d : Fin 128) :
    wideOf s (ix2 r d) = out A w (256 * i + r.val) (128 * p + d.val) := by
  have := d.isLt
  have hr := r.isLt
  have g : ∀ (h : Fin 2), s.acc (ix3 h r d) = ∑ x ∈ range N, (A.wt (2 * p + h.val) (256 * i + r.val) x : EReal) * wide w x (128 * p + d.val) := fun h => by
    rw [hs h r d, range_eq_Ico]
    simp only [nums_wt]
    have e1 : (both_row h r).val / 256 = h.val := by show (256 * h.val + r.val) / 256 = h.val; omega
    have e2 : (both_row h r).val % 256 = r.val := by show (256 * h.val + r.val) % 256 = r.val; omega
    rw [e1, e2]; rfl
  unfold wideOf
  pointwise [k0_pay6, k0_pay12]
  rw [half, Cert.StickIdeal.Gen.window_head _ 0 ![0, 0, 0] rfl, Cert.StickIdeal.Gen.window_head _ 1 ![1, 0, 0] rfl, g, g]
  rcases (show d.val / 64 = 0 ∨ d.val / 64 = 1 by omega) with h | h
  · rw [if_pos h, out, show (128 * p + d.val) / 64 = 2 * p + (0 : Fin 2).val by show _ = 2 * p + 0; omega]
  · rw [if_neg (by omega), out, show (128 * p + d.val) / 64 = 2 * p + (1 : Fin 2).val by show _ = 2 * p + 1; omega]

theorem outOf_eq (s : St Ideal) : outOf s = wideOf s := rfl

/-! ## The arrays -/

variable (m : (ℓ : Loc nD τ sig) → Buf (Elt Ideal) ℓ) (c : Dev nD)

theorem idx : ∀ t : Fin (cfg0 (F := Ideal)).N, win0_0.index t = ![t.val % 33, 48 + t.val / 33] ∧ win0_1.index t = ![0, 56 + t.val / 33]
    ∧ win0_2.index t = ![0, 64 + t.val / 33] ∧ win0_3.index t = ![t.val % 33, t.val / 33] ∧ win0_4.index t = ![t.val % 33, t.val / 33] ∧ (grid0.coords t 1).val = t.val % 33 :=
  (by decide +kernel : ∀ t : Fin grid0.N, win0_0.index t = ![t.val % 33, 48 + t.val / 33] ∧ win0_1.index t = ![0, 56 + t.val / 33]
    ∧ win0_2.index t = ![0, 64 + t.val / 33] ∧ win0_3.index t = ![t.val % 33, t.val / 33] ∧ win0_4.index t = ![t.val % 33, t.val / 33] ∧ (grid0.coords t 1).val = t.val % 33)

theorem points (t : Fin (cfg0 (F := Ideal)).N) : t.val < 264 := Nat.lt_of_lt_of_eq t.isLt N_0

theorem projection_eq : V m c main_v1 = Idealize.ShloMosaic.pad S8448x11264 ![240, 6144] ![0, 2048] ![0, 0]
    (concatenate S8208x3072 1 [⟨S8208x1024, m (c, Proc.tc.devRef main_arg0)⟩, ⟨S8208x1024, m (c, Proc.tc.devRef main_arg1)⟩, ⟨S8208x1024, m (c, Proc.tc.devRef main_arg2)⟩]
      concatenates_S8208x1024_S8208x1024_S8208x1024_S8208x3072_d1) (sitofp (F := Ideal) .bf16 (constantI S_ 32 0#32))
    pads_S8208x3072_S8448x11264_24000_614420480 h_S_ := by
  simp only [V, stretches, List.flatten_cons, List.flatten_nil, List.append_nil, List.cons_append, List.nil_append]
  entry_read
  rfl

/-- What the kernel starts from: the padded projections. -/
structure Starts (w : Fin 8208 → Fin 1024 → EReal) : Prop where
  q : ∀ (R : Fin 8448) (l : Fin 1024), V m c main_v1 (ix2 R ⟨6144 + l.val, by omega⟩) = (pad A.q R.val l.val : EReal)
  k : ∀ (R : Fin 8448) (l : Fin 1024), V m c main_v1 (ix2 R ⟨7168 + l.val, by omega⟩) = (pad A.k R.val l.val : EReal)
  v : ∀ (R : Fin 8448) (l : Fin 1024), V m c main_v1 (ix2 R ⟨8192 + l.val, by omega⟩) = wide w R.val l.val

variable {A} {m} {c} (hA : Starts A m c w) (t : Fin (cfg0 (F := Ideal)).N)

include hA

theorem iblk0_real (r : Fin 256) (d : Fin 128) : iblk m c 0 t (ix2 r d) = (pad A.q (256 * (t.val % 33) + r.val) (128 * (t.val / 33) + d.val) : EReal) := by
  have ht := points t
  obtain ⟨e, -⟩ := idx t
  have h := hA.q ⟨256 * (t.val % 33) + r.val, by omega⟩ ⟨128 * (t.val / 33) + d.val, by omega⟩
  rw [← h]
  show V m c main_v1 _ = V m c main_v1 _
  generalize V m c main_v1 = x
  blk_point [e]

theorem iblk1_real (C : Fin 8448) (d : Fin 128) : iblk m c 1 t (ix2 C d) = (pad A.k C.val (128 * (t.val / 33) + d.val) : EReal) := by
  have ht := points t
  obtain ⟨-, e, -⟩ := idx t
  have h := hA.k C ⟨128 * (t.val / 33) + d.val, by omega⟩
  rw [← h]
  show V m c main_v1 _ = V m c main_v1 _
  generalize V m c main_v1 = x
  blk_point [e]

theorem iblk2_real (C : Fin 8448) (d : Fin 128) : iblk m c 2 t (ix2 C d) = wide w C.val (128 * (t.val / 33) + d.val) := by
  have ht := points t
  obtain ⟨-, -, e, -⟩ := idx t
  have h := hA.v C ⟨128 * (t.val / 33) + d.val, by omega⟩
  rw [← h]
  show V m c main_v1 _ = V m c main_v1 _
  generalize V m c main_v1 = x
  blk_point [e]

theorem block_real (r : Fin 256) (d : Fin 128) :
    wideOf (endAt m c t) (ix2 r d) = out A w (256 * (t.val % 33) + r.val) (128 * (t.val / 33) + d.val) :=
  wideOf_real A _ _ (point_real (row_real A _ _ (iblk0_real hA t) (iblk1_real hA t) (iblk2_real hA t)) _ (by rw [(idx t).2.2.2.2.2]; rfl)) r d

/-- The output, as gathered, -/
theorem final4 : (dats m 0 c).arrAt 4 (cfg0 (F := Ideal)).N = fun i => out A w (i 0).val (i 1).val := by
  refine (dats m 0 c).arrAt_eq_of_covers 4 _ (by decide +kernel) fun t hf y => ?_
  have key (y : S256x128.Idx) : wideOf (endAt m c t) y = out A w (win0_4.index t 0 * 256 + (y 0).val) (win0_4.index t 1 * 128 + (y 1).val) := by
    obtain ⟨-, -, -, -, e, -⟩ := idx t
    idx_vars y
    refine (block_real hA t y0 y1).trans (congrArg₂ (out A w) ?_ ?_) <;> blk_simp [e] <;> exact congrArg (· + _) (Nat.mul_comm _ _)
  blk_simp
  rw [after0_4]
  exact key y

/-- and rounded. -/
theorem final3 : (dats m 0 c).arrAt 3 (cfg0 (F := Ideal)).N = fun i => out A w (i 0).val (i 1).val := by
  refine (dats m 0 c).arrAt_eq_of_covers 3 _ (by decide +kernel) fun t hf y => ?_
  have key (y : S256x128.Idx) : outOf (endAt m c t) y = out A w (win0_3.index t 0 * 256 + (y 0).val) (win0_3.index t 1 * 128 + (y 1).val) := by
    obtain ⟨-, -, -, e, -⟩ := idx t
    idx_vars y
    refine (block_real hA t y0 y1).trans (congrArg₂ (out A w) ?_ ?_) <;> blk_simp [e] <;> exact congrArg (· + _) (Nat.mul_comm _ _)
  blk_simp
  rw [after0_3]
  exact key y

end Cert.StickOutIdeal.Gen
-- ==== Proof.StickOutReference.lean ====
/- Stick-breaking attention, forward: the reference. -/
module

public import proofs.«01_k».proof.Proof.StickOutPoints
public import proofs.«01_k».proof.Proof.Gen.StickOutRefIdeal.Read

/-! # The forward lines of stick-breaking attention

The weights are those of the backward pair's host lines; the output gathers the values with them, and the padding is put in front. -/

@[expose] public section
set_option maxRecDepth 16384

noncomputable section

namespace Cert.StickOutRefIdeal.Forward

open Idealize.ShloMosaic Idealize.ShloMosaic.TcCoe Idealize.SL.Sem
open Cert.StickOutRefIdeal Cert.StickOutRefIdeal.Read
open Cert.StickIdeal.Gen (Holds front_at nothing columns_at columns_real)
open Cert.StickOutIdeal.Gen (out Starts)
open Stick (N wide Arrays)
open Finset

/-- Queries and keys are real numbers; the values need not be. -/
structure Scores (A : Arrays) (q k : S8208x1024.Idx → EReal) : Prop where
  q : ∀ t c, q (ix2 t c) = (A.q t c : EReal)
  k : ∀ t c, k (ix2 t c) = (A.k t c : EReal)

variable {A : Arrays} {q k : S8208x1024.Idx → EReal} (H : Scores A q k) (v : S8208x1024.Idx → EReal)

include H

theorem weights_eq (i : Fin 16) (t s : Fin 8208) : val_main_v23 (F := Ideal) q k (ix3 i t s) = (A.wt i.val (240 + t.val) (240 + s.val) : EReal) := by
  have h : Holds A q k (fun i => (A.v (i 0) (i 1) : EReal)) (fun i => (A.g (i 0) (i 1) : EReal)) := ⟨H.q, H.k, fun _ _ => rfl, fun _ _ => rfl⟩
  exact Cert.StickIdeal.Gen.weights_real h i t s

theorem output_eq (t : Fin 8208) (c : Fin 1024) : val_main_v26 (F := Ideal) q k v (ix2 t c) = out A (fun t c => v (ix2 t c)) (240 + t.val) c.val := by
  pointwise [val_main_v26, val_main_v25, val_main_v24, val_main_v8, val_main_v7, val_main_v2]
  rw [out, ← Stick.sum_positions _ fun x hx => ?_]
  · refine Finset.sum_congr rfl fun s _ => ?_
    rw [weights_eq H, Stick.wide_at _ s c.isLt]
  · rw [Arrays.wt, Stick.wt, if_neg (Stick.not_sees_key hx), EReal.coe_zero, zero_mul]

omit H in
/-- The output behind its padding: the rows of the padding see nothing. -/
theorem out_front (w : Fin 8208 → Fin 1024 → EReal) {R c : ℕ} (hR : R < N) (hc : c < 1024) : wide (fun t c => out A w (240 + t.val) c.val) R c = out A w R c := by
  by_cases h : 240 ≤ R
  · obtain ⟨t, rfl⟩ := Nat.exists_eq_add_of_le h
    exact Stick.wide_at _ ⟨t, by unfold N at hR; omega⟩ hc
  · rw [Stick.wide_front _ (by omega), out, sum_eq_zero fun C _ => by rw [Arrays.wt, Stick.wt, if_neg (Stick.not_sees_row (by omega)), EReal.coe_zero, zero_mul]]

theorem result_wide (R : Fin 8448) (l : Fin 1024) : val_main_v29 (F := Ideal) q k v (ix2 R l) = out A (fun t c => v (ix2 t c)) R.val l.val :=
  (front_at (f := fun t c => out A (fun t c => v (ix2 t c)) (240 + t.val) c.val) (output_eq H v) (nothing _) _ _ R l).trans (out_front _ R.isLt l.isLt)

theorem result_out (R : Fin 8448) (l : Fin 1024) : val_main_v28 (F := Ideal) q k v (ix2 R l) = out A (fun t c => v (ix2 t c)) R.val l.val :=
  (front_at (f := fun t c => out A (fun t c => v (ix2 t c)) (240 + t.val) c.val) (output_eq H v) (nothing _) _ _ R l).trans (out_front _ R.isLt l.isLt)

end Cert.StickOutRefIdeal.Forward

namespace Cert.StickOutIdeal.Gen

open Idealize.ShloMosaic Idealize.ShloMosaic.TcCoe Idealize.SL.Sem
open Cert.StickIdeal.Gen (columns_at columns_real columns_q columns_k Holds nothing)
open Cert.StickOutRefIdeal.Forward (Scores)
open Stick (Arrays)

variable {A : Arrays} {q k v : S8208x1024.Idx → EReal} (H : Scores A q k)
variable (m : (ℓ : Loc nD τ sig) → Buf (Elt Ideal) ℓ) (c : Dev nD)
  (hq : m ((c : Thread nD τ).loc main_arg0) = q) (hk : m ((c : Thread nD τ).loc main_arg1) = k) (hv : m ((c : Thread nD τ).loc main_arg2) = v)

include H hq hk hv in
/-- What the kernel starts from. -/
theorem starts : Starts A m c (fun t c => v (ix2 t c)) := by
  have p : V m c main_v1 = _ := projection_eq m c
  rw [show m (c, Proc.tc.devRef main_arg0) = q from hq, show m (c, Proc.tc.devRef main_arg1) = k from hk, show m (c, Proc.tc.devRef main_arg2) = v from hv] at p
  refine ⟨fun R l => ?_, fun R l => ?_, fun R l => ?_⟩
  · rw [p]
    refine columns_real 0 (by omega) (fun t e => ?_) (nothing _) _ _ R l
    pointwise []
    exact H.q t e
  · rw [p]
    refine columns_real 1024 (by omega) (fun t e => ?_) (nothing _) _ _ R l
    pointwise []
    exact H.k t e
  · rw [p]
    refine columns_at 2048 (by omega) (fun t e => ?_) (nothing _) _ _ R l
    pointwise []
    rw [dif_neg (by omega), dif_neg (by omega)]
    refine congrArg v (congrArg (ix2 t) (Fin.ext ?_))
    show 2048 + e.val - 1024 - 1024 = e.val
    omega

end Cert.StickOutIdeal.Gen
-- ==== Proof.StickOutClaims.lean ====
/- Stick-breaking attention, forward: the claims. -/
module

public import proofs.«01_k».proof.Defs
public import proofs.«01_k».proof.Proof.StickOutFrame
public import proofs.«01_k».proof.Proof.StickOutReference
public import proofs.«01_k».proof.Proof.Finite
public import proofs.«01_k».proof.Proof.Gen.StickOutRefIdeal.Run
public import proofs.«01_k».proof.Proof.Gen.Pre_scores_finite
public import Idealize.ShloMosaic.Lib.Quiescent

@[expose] public section

set_option maxRecDepth 16384

noncomputable section

open Idealize.ShloMosaic Idealize.ShloMosaic.TcCoe Idealize.SL.Sem

namespace Cert.StickOutClaims

theorem frame : Cert.quiescent_StickOut := fun m ρ _ => Cert.StickOut.Gen.frame m ρ

theorem frame_ideal : Cert.quiescent_StickOutIdeal := fun m ρ _ => Cert.StickOutIdeal.Gen.frame m ρ

theorem frame_ideal_finite : Cert.quiescent_StickOutIdeal_pre_scores_finite := fun m ρ _ => Cert.StickOutIdeal.Gen.frame m ρ

theorem frame_ref : Cert.quiescent_StickOutRefIdeal := fun m ρ _ =>
  (θ_run Cert.StickOutRefIdeal.defs _ _).mono (fun r h => ⟨fun c => (h c).2.2,
      Idealize.ShloMosaic.sem_eq_zero_of_no_sems (by decide) r.2⟩)
    (Cert.StickOutRefIdeal.Value.run (F := Ideal) m ρ)

theorem frame_ref_finite : Cert.quiescent_StickOutRefIdeal_pre_scores_finite := fun m ρ _ =>
  (θ_run Cert.StickOutRefIdeal.defs _ _).mono (fun r h => ⟨fun c => (h c).2.2,
      Idealize.ShloMosaic.sem_eq_zero_of_no_sems (by decide) r.2⟩)
    (Cert.StickOutRefIdeal.Value.run (F := Ideal) m ρ)

theorem preserves : Cert.preserves_StickOut_StickOutIdeal :=
  IdealRules.named_const.statement Cert.StickOutIdeal.κ "dead" .f32 0xC2D00000#32 ⊥ rfl

open Cert.StickOutRefIdeal.Forward in
/-- Finite queries and keys are matrices of real numbers. -/
theorem scores {q k v : Cert.StickOutIdeal.S8208x1024.Idx → EReal} (h : Cert.Pre_scores_finite.fn (F := Ideal) q k v = fun _ => 1#1) :
    ∃ A, Scores A q k := by
  have h := congrFun h (fun k => k.elim0)
  simp only [Cert.Pre_scores_finite.fn] at h
  obtain ⟨h1, h2⟩ := IntOp.andi_eq_one.mp h
  choose q' hq using Finite.real_of_all _ _ _ _ _ _ h1
  choose k' hk using Finite.real_of_all _ _ _ _ _ _ h2
  exact ⟨⟨fun t c => q' (ix2 t c), fun t c => k' (ix2 t c), 0, 0⟩, fun t c => hq _, fun t c => hk _⟩

set_option maxHeartbeats 1000000 in
open Cert.StickOutIdeal.Gen Cert.StickOutRefIdeal.Forward in
theorem algebraic : Cert.algebraic_StickOutIdeal_StickOutRefIdeal_pre_scores_finite := by
  intro m ρ m' ρ' hpre hagree
  refine ⟨_, _, (θ_run Cert.StickOutIdeal.defs _ _).mono
    (fun r h c => ⟨(h.1 c).1 3, (h.1 c).1 4, rest_eq m h.1 c⟩) (run_main_quiescent m ρ), ?_⟩
  refine (θ_run Cert.StickOutRefIdeal.defs _ _).mono (fun r h c => ?_) (Cert.StickOutRefIdeal.Value.run (F := Ideal) m' ρ')
  obtain ⟨A, H⟩ := scores (hpre c)
  obtain ⟨a0, a1, a2⟩ := hagree c
  obtain ⟨h0, h1, kept⟩ := h c
  have start := starts H m c rfl rfl rfl
  refine ⟨?_, ?_, kept⟩
  · rw [h0, final3 start, Cert.StickOutRefIdeal.Read.val_main_v28_eq]
    show Cert.StickOutRefIdeal.Read.val_main_v28 (F := Ideal) (m' ((c.tc : Thread Cert.StickOutRefIdeal.nD Cert.StickOutRefIdeal.τ).loc Cert.StickOutRefIdeal.main_arg0)) (m' ((c.tc : Thread Cert.StickOutRefIdeal.nD Cert.StickOutRefIdeal.τ).loc Cert.StickOutRefIdeal.main_arg1)) (m' ((c.tc : Thread Cert.StickOutRefIdeal.nD Cert.StickOutRefIdeal.τ).loc Cert.StickOutRefIdeal.main_arg2)) = _
    rw [a0, a1, a2]
    exact funext fun i => by idx_vars i; exact result_out H _ _ _
  · rw [h1, final4 start, Cert.StickOutRefIdeal.Read.val_main_v29_eq]
    show Cert.StickOutRefIdeal.Read.val_main_v29 (F := Ideal) (m' ((c.tc : Thread Cert.StickOutRefIdeal.nD Cert.StickOutRefIdeal.τ).loc Cert.StickOutRefIdeal.main_arg0)) (m' ((c.tc : Thread Cert.StickOutRefIdeal.nD Cert.StickOutRefIdeal.τ).loc Cert.StickOutRefIdeal.main_arg1)) (m' ((c.tc : Thread Cert.StickOutRefIdeal.nD Cert.StickOutRefIdeal.τ).loc Cert.StickOutRefIdeal.main_arg2)) = _
    rw [a0, a1, a2]
    exact funext fun i => by idx_vars i; exact result_wide H _ _ _

end Cert.StickOutClaims

end
-- ==== Proof.PreNorm.lean ====
/- The norm in front of the mixers: what the kernel leaves in its result array, index by index, and that the forward line
   gives the same array. -/
module

public import proofs.«01_k».proof.Proof.Norm
public import proofs.«01_k».proof.Proof.Gen.PreNormIdeal.Value
public import proofs.«01_k».proof.Proof.Gen.PreNormRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PreNormIdeal.Blocks

open Cert.PreNormIdeal Cert.PreNormIdeal.Gen

/-- The normalised row, scaled by the gain. -/
def normed (h : Vec Ideal S8448x1024 .f32) (g : Vec Ideal S1x1024 .f32) (r : Fin 8448) (l : Fin 1024) : EReal :=
  h (ix2 r l) * Norm.rstd (fun k => h (ix2 r k)) * g (ix2 0 l)

theorem pay1_apply (h : Vec Ideal S384x1024 .f32) (g : Vec Ideal S1x1024 .f32) (r : Fin 384) (l : Fin 1024) :
    k0_pay1 h g (ix2 r l) = h (ix2 r l) * Norm.rstd (fun k => h (ix2 r k)) * g (ix2 0 l) := by
  pointwise [k0_pay1]
  simp only [Norm.rstd, Norm.ms, Norm.ofBits_1024, Norm.ofBits_eps]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array of the result after the run. -/
theorem final2 (c : Dev nD) : (dats m 0 c).arrAt 2 cfg0.N = fun i => normed (m ((c : Thread nD τ).loc main_arg0))
    (m ((c : Thread nD τ).loc main_arg1)) (i 0) (i 1) := by
  refine (dats m 0 c).arrAt_eq_of_covers 2 _ (by decide +kernel) fun t hf y => ?_
  obtain ⟨e0, e1, e2⟩ := idx t
  blk_simp
  rw [after0_2]
  have key : k0_pay1 (iblk m c 0 t) (iblk m c 1 t) y = normed (m ((c : Thread nD τ).loc main_arg0)) (m ((c : Thread nD τ).loc main_arg1))
      (((View.whole main_v0).slice (win0_2.rect t)).emb y 0) (((View.whole main_v0).slice (win0_2.rect t)).emb y 1) := by
    idx_vars y
    erw [pay1_apply]
    simp only [normed]
    blk_point [iblk, V, e0, e1, e2]
  unfold out0_2
  frame_out
  exact key

end Cert.PreNormIdeal.Blocks

namespace Cert.PreNormRefIdeal.Forward

open Cert.PreNormRefIdeal Cert.PreNormRefIdeal.Read

theorem first (h : Vec Ideal S8448x1024 .f32) (g : Vec Ideal S1x1024 .f32) (r : Fin 8448) (l : Fin 1024) :
    val_main_v12 h g (ix2 r l) = Cert.PreNormIdeal.Blocks.normed h g r l := by
  pointwise [
    val_main_v0, val_main_cst, val_main_v1, val_main_v2, val_main_cst_0, val_main_v3, val_main_v4, val_main_cst_1, val_main_v5,
    val_main_v6, val_main_v7, val_main_v8, val_main_v9, val_main_v10, val_main_v11, val_main_v12]
  simp only [Cert.PreNormIdeal.Blocks.normed, Norm.rstd, Norm.ms, Norm.ofBits_1024, Norm.ofBits_eps]

end Cert.PreNormRefIdeal.Forward

end
-- ==== Proof.PreNormClaims.lean ====
/- The norm in front of the mixers: the claims. -/
module

public import proofs.«01_k».proof.Defs
public import proofs.«01_k».proof.Proof.PreNorm
public import proofs.«01_k».proof.Proof.Gen.PreNorm.Frame
public import proofs.«01_k».proof.Proof.Gen.PreNormRefIdeal.Run
public import Idealize.ShloMosaic.Lib.Quiescent

@[expose] public section

set_option maxRecDepth 16384

noncomputable section

open Idealize.ShloMosaic Idealize.ShloMosaic.TcCoe Idealize.SL.Sem

namespace Cert.PreNormClaims

theorem frame : Cert.quiescent_PreNorm := fun m ρ _ => Cert.PreNorm.Gen.frame m ρ

theorem frame_ideal : Cert.quiescent_PreNormIdeal := fun m ρ _ => Cert.PreNormIdeal.Gen.frame m ρ

theorem frame_ref : Cert.quiescent_PreNormRefIdeal := fun m ρ _ =>
  (θ_run Cert.PreNormRefIdeal.defs _ _).mono (fun r h => ⟨fun c => (h c).2,
      Idealize.ShloMosaic.sem_eq_zero_of_no_sems (by decide) r.2⟩)
    (Cert.PreNormRefIdeal.Value.run (F := Ideal) m ρ)

theorem preserves : Cert.preserves_PreNorm_PreNormIdeal := trivial

open Cert.PreNormIdeal.Blocks Cert.PreNormRefIdeal.Forward in
theorem algebraic : Cert.algebraic_PreNormIdeal_PreNormRefIdeal := by
  intro m ρ m' ρ' _ hagree
  refine ⟨_, Cert.PreNormIdeal.Value.run_blocks m ρ, ?_⟩
  refine (θ_run Cert.PreNormRefIdeal.defs _ _).mono (fun r h c => ?_) (Cert.PreNormRefIdeal.Value.run (F := Ideal) m' ρ')
  obtain ⟨a0, a1⟩ := hagree c
  obtain ⟨h0, kept⟩ := h c
  refine ⟨?_, kept⟩
  · rw [h0, final2, Cert.PreNormRefIdeal.Read.val_main_v12_eq, a0, a1]
    exact funext fun i => by idx_vars i; exact first _ _ _ _

end Cert.PreNormClaims

end
-- ==== Proof.Gates.lean ====
/- The gated merge of the two mixers: what the kernel leaves in its result array, index by index, and that the forward line
   gives the same array. -/
module

public import proofs.«01_k».proof.Proof.Gen.GatesIdeal.Value
public import proofs.«01_k».proof.Proof.Gen.GatesRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesIdeal.Blocks

open Cert.GatesIdeal Cert.GatesIdeal.Gen

/-- The logistic function as both programs spell it. -/
def logis (a : EReal) : EReal := Ideal.div 1 (1 + Ideal.exp (-a))

/-- Each mixer's output times the logistic function of its gate, added. -/
def merged (p : Vec Ideal S8448x11264 .bf16) (yr ys : Vec Ideal S8448x1024 .bf16) (r : Fin 8448) (l : Fin 1024) : EReal :=
  logis (p (ix2 r ⟨9216 + l.val, by omega⟩)) * yr (ix2 r l) + logis (p (ix2 r ⟨10240 + l.val, by omega⟩)) * ys (ix2 r l)

theorem pay1_apply (ga yr gb ys : Vec Ideal S384x1024 .bf16) (r : Fin 384) (l : Fin 1024) : k0_pay1 ga yr gb ys (ix2 r l)
    = logis (ga (ix2 r l)) * yr (ix2 r l) + logis (gb (ix2 r l)) * ys (ix2 r l) := by
  pointwise [k0_pay1]
  simp only [logis, zero_sub]

variable (m : (ℓ : Loc nD τ sig) → Buf (Elt Ideal) ℓ)

theorem idx : ∀ t : Fin cfg0.N, win0_0.index t = ![t.val, 9] ∧ win0_1.index t = ![t.val, 10] ∧ win0_2.index t = ![t.val, 0]
    ∧ win0_3.index t = ![t.val, 0] ∧ win0_4.index t = ![t.val, 0] :=
  (by decide +kernel : ∀ t : Fin grid0.N, win0_0.index t = ![t.val, 9] ∧ win0_1.index t = ![t.val, 10] ∧ win0_2.index t = ![t.val, 0]
    ∧ win0_3.index t = ![t.val, 0] ∧ win0_4.index t = ![t.val, 0])

/-- The array of the result after the run. -/
theorem final4 (c : Dev nD) : (dats m 0 c).arrAt 4 cfg0.N = fun i => merged (m ((c : Thread nD τ).loc main_arg0))
    (m ((c : Thread nD τ).loc main_arg1)) (m ((c : Thread nD τ).loc main_arg2)) (i 0) (i 1) := by
  refine (dats m 0 c).arrAt_eq_of_covers 4 _ (by decide +kernel) fun t hf y => ?_
  obtain ⟨e0, e1, e2, e3, e4⟩ := idx t
  blk_simp
  rw [after0_4]
  have key : k0_pay1 (iblk m c 0 t) (iblk m c 2 t) (iblk m c 1 t) (iblk m c 3 t) y
      = merged (m ((c : Thread nD τ).loc main_arg0)) (m ((c : Thread nD τ).loc main_arg1)) (m ((c : Thread nD τ).loc main_arg2))
        (((View.whole main_v0).slice (win0_4.rect t)).emb y 0) (((View.whole main_v0).slice (win0_4.rect t)).emb y 1) := by
    idx_vars y
    erw [pay1_apply]
    simp only [merged]
    blk_point [iblk, V, e0, e1, e2, e3, e4]
  unfold out0_4
  frame_out
  exact key

end Cert.GatesIdeal.Blocks

namespace Cert.GatesRefIdeal.Forward

open Cert.GatesRefIdeal Cert.GatesRefIdeal.Read

theorem first (p : Vec Ideal S8448x11264 .bf16) (yr ys : Vec Ideal S8448x1024 .bf16) (r : Fin 8448) (l : Fin 1024) :
    val_main_v21 p yr ys (ix2 r l) = Cert.GatesIdeal.Blocks.merged p yr ys r l := by
  pointwise [
    val_main_v0, val_main_v1, val_main_v2, val_main_v3, val_main_v4, val_main_v5, val_main_cst, val_main_v6, val_main_v7, val_main_cst_0,
    val_main_v8, val_main_v9, val_main_v10, val_main_v11, val_main_v12, val_main_v13, val_main_cst_1, val_main_v14, val_main_v15,
    val_main_cst_2, val_main_v16, val_main_v17, val_main_v18, val_main_v19, val_main_v20, val_main_v21]
  rfl

end Cert.GatesRefIdeal.Forward

end
-- ==== Proof.GatesClaims.lean ====
/- The gated merge of the two mixers: the claims. -/
module

public import proofs.«01_k».proof.Defs
public import proofs.«01_k».proof.Proof.Gates
public import proofs.«01_k».proof.Proof.Gen.Gates.Frame
public import proofs.«01_k».proof.Proof.Gen.GatesRefIdeal.Run
public import Idealize.ShloMosaic.Lib.Quiescent

@[expose] public section

set_option maxRecDepth 16384

noncomputable section

open Idealize.ShloMosaic Idealize.ShloMosaic.TcCoe Idealize.SL.Sem

namespace Cert.GatesClaims

theorem frame : Cert.quiescent_Gates := fun m ρ _ => Cert.Gates.Gen.frame m ρ

theorem frame_ideal : Cert.quiescent_GatesIdeal := fun m ρ _ => Cert.GatesIdeal.Gen.frame m ρ

theorem frame_ref : Cert.quiescent_GatesRefIdeal := fun m ρ _ =>
  (θ_run Cert.GatesRefIdeal.defs _ _).mono (fun r h => ⟨fun c => (h c).2,
      Idealize.ShloMosaic.sem_eq_zero_of_no_sems (by decide) r.2⟩)
    (Cert.GatesRefIdeal.Value.run (F := Ideal) m ρ)

theorem preserves : Cert.preserves_Gates_GatesIdeal := trivial

open Cert.GatesIdeal.Blocks Cert.GatesRefIdeal.Forward in
theorem algebraic : Cert.algebraic_GatesIdeal_GatesRefIdeal := by
  intro m ρ m' ρ' _ hagree
  refine ⟨_, Cert.GatesIdeal.Value.run_blocks m ρ, ?_⟩
  refine (θ_run Cert.GatesRefIdeal.defs _ _).mono (fun r h c => ?_) (Cert.GatesRefIdeal.Value.run (F := Ideal) m' ρ')
  obtain ⟨a0, a1, a2⟩ := hagree c
  obtain ⟨h0, kept⟩ := h c
  refine ⟨?_, kept⟩
  · rw [h0, final4, Cert.GatesRefIdeal.Read.val_main_v21_eq, a0, a1, a2]
    exact funext fun i => by idx_vars i; exact first _ _ _ _ _

end Cert.GatesClaims

end
-- ==== Proof.TwoNorms.lean ====
/- The norm behind the mixers, the residual path and the norm in front of the FFN: what the kernel leaves in its two result
   arrays, index by index, and that the forward lines give the same arrays. -/
module

public import proofs.«01_k».proof.Proof.Norm
public import proofs.«01_k».proof.Proof.Gen.TwoNormsIdeal.Value
public import proofs.«01_k».proof.Proof.Gen.TwoNormsRefIdeal.Read
public import Idealize.ShloMosaic.Lib.Tactic
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.TwoNormsIdeal.Blocks

open Cert.TwoNormsIdeal Cert.TwoNormsIdeal.Gen

/-- The residual path plus the normalised row of the mixers' output. -/
def hidden (h : Vec Ideal S8448x1024 .f32) (x : Vec Ideal S8448x1024 .bf16) (g : Vec Ideal S1x1024 .f32) (r : Fin 8448) (l : Fin 1024) : EReal :=
  h (ix2 r l) + x (ix2 r l) * Norm.rstd (fun k => x (ix2 r k)) * g (ix2 0 l)

/-- That sum, normalised and scaled by the second gain. -/
def renormed (h : Vec Ideal S8448x1024 .f32) (x : Vec Ideal S8448x1024 .bf16) (g g' : Vec Ideal S1x1024 .f32) (r : Fin 8448) (l : Fin 1024) : EReal :=
  hidden h x g r l * Norm.rstd (fun k => hidden h x g r k) * g' (ix2 0 l)

section Payloads
variable (h : Vec Ideal S384x1024 .f32) (x : Vec Ideal S384x1024 .bf16) (g g' : Vec Ideal S1x1024 .f32) (r : Fin 384) (l : Fin 1024)

theorem pay1_apply : k0_pay1 x h g (ix2 r l) = h (ix2 r l) + x (ix2 r l) * Norm.rstd (fun k => x (ix2 r k)) * g (ix2 0 l) := by
  pointwise [k0_pay1]
  simp only [Norm.rstd, Norm.ms, Norm.ofBits_1024, Norm.ofBits_eps]

theorem pay2_apply : k0_pay2 x h g g' (ix2 r l) = k0_pay1 x h g (ix2 r l) * Norm.rstd (fun k => k0_pay1 x h g (ix2 r k)) * g' (ix2 0 l) := by
  simp only [pay1_apply]
  pointwise [k0_pay2, k0_pay1]
  simp only [Norm.rstd, Norm.ms, Norm.ofBits_1024, Norm.ofBits_eps]

end Payloads

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0])

/-- The first result: the hidden rows. -/
theorem final4 (c : Dev nD) : (dats m 0 c).arrAt 4 cfg0.N = fun i => hidden (m ((c : Thread nD τ).loc main_arg0))
    (m ((c : Thread nD τ).loc main_arg1)) (m ((c : Thread nD τ).loc main_arg2)) (i 0) (i 1) := by
  refine (dats m 0 c).arrAt_eq_of_covers 4 _ (by decide +kernel) fun t hf y => ?_
  obtain ⟨e0, e1, e2, e3, e4, e5⟩ := idx t
  blk_simp
  rw [after0_4]
  have key : k0_pay1 (iblk m c 1 t) (iblk m c 0 t) (iblk m c 2 t) y
      = hidden (m ((c : Thread nD τ).loc main_arg0)) (m ((c : Thread nD τ).loc main_arg1)) (m ((c : Thread nD τ).loc main_arg2))
        (((View.whole main_v0_0).slice (win0_4.rect t)).emb y 0) (((View.whole main_v0_0).slice (win0_4.rect t)).emb y 1) := by
    idx_vars y
    erw [pay1_apply]
    simp only [hidden]
    blk_point [iblk, V, e0, e1, e2, e4]
  unfold out0_4
  frame_out
  exact key

/-- The second result: the hidden rows normalised. -/
theorem final5 (c : Dev nD) : (dats m 0 c).arrAt 5 cfg0.N = fun i => renormed (m ((c : Thread nD τ).loc main_arg0))
    (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  obtain ⟨e0, e1, e2, e3, e4, e5⟩ := idx t
  blk_simp
  rw [after0_5]
  have key : k0_pay2 (iblk m c 1 t) (iblk m c 0 t) (iblk m c 2 t) (iblk m c 3 t) y
      = renormed (m ((c : Thread nD τ).loc main_arg0)) (m ((c : Thread nD τ).loc main_arg1)) (m ((c : Thread nD τ).loc main_arg2))
        (m ((c : Thread nD τ).loc main_arg3)) (((View.whole main_v0_1).slice (win0_5.rect t)).emb y 0)
        (((View.whole main_v0_1).slice (win0_5.rect t)).emb y 1) := by
    idx_vars y
    erw [pay2_apply]
    simp only [pay1_apply, renormed, hidden]
    blk_point [iblk, V, e0, e1, e2, e3, e5]
  unfold out0_5
  frame_out
  exact key

end Cert.TwoNormsIdeal.Blocks

namespace Cert.TwoNormsRefIdeal.Forward

open Cert.TwoNormsRefIdeal Cert.TwoNormsRefIdeal.Read

variable (h : Vec Ideal S8448x1024 .f32) (x : Vec Ideal S8448x1024 .bf16) (g g' : Vec Ideal S1x1024 .f32) (r : Fin 8448) (l : Fin 1024)

theorem first : val_main_v13 h x g (ix2 r l) = Cert.TwoNormsIdeal.Blocks.hidden h x g r l := by
  pointwise [
    val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14,
    val_main_cst_2, val_main_v15, val_main_v16, val_main_cst_3, val_main_v17, val_main_v18, val_main_cst_4, val_main_v19, val_main_v20,
    val_main_v21, val_main_v22, val_main_v23, val_main_v24, val_main_v25, val_main_v26]
  simp only [Cert.TwoNormsIdeal.Blocks.hidden, Norm.rstd, Norm.ms, Norm.ofBits_1024, Norm.ofBits_eps]

theorem second : val_main_v26 h x g g' (ix2 r l) = Cert.TwoNormsIdeal.Blocks.renormed h x g g' r l := by
  pointwise [
    val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14,
    val_main_cst_2, val_main_v15, val_main_v16, val_main_cst_3, val_main_v17, val_main_v18, val_main_cst_4, val_main_v19, val_main_v20,
    val_main_v21, val_main_v22, val_main_v23, val_main_v24, val_main_v25, val_main_v26]
  simp only [Cert.TwoNormsIdeal.Blocks.renormed, Cert.TwoNormsIdeal.Blocks.hidden, Norm.rstd, Norm.ms, Norm.ofBits_1024, Norm.ofBits_eps]

end Cert.TwoNormsRefIdeal.Forward

end
-- ==== Proof.TwoNormsClaims.lean ====
/- The norm behind the mixers and the norm in front of the FFN: the claims. -/
module

public import proofs.«01_k».proof.Defs
public import proofs.«01_k».proof.Proof.TwoNorms
public import proofs.«01_k».proof.Proof.Gen.TwoNorms.Frame
public import proofs.«01_k».proof.Proof.Gen.TwoNormsRefIdeal.Run
public import Idealize.ShloMosaic.Lib.Quiescent

@[expose] public section

set_option maxRecDepth 16384

noncomputable section

open Idealize.ShloMosaic Idealize.ShloMosaic.TcCoe Idealize.SL.Sem

namespace Cert.TwoNormsClaims

theorem frame : Cert.quiescent_TwoNorms := fun m ρ _ => Cert.TwoNorms.Gen.frame m ρ

theorem frame_ideal : Cert.quiescent_TwoNormsIdeal := fun m ρ _ => Cert.TwoNormsIdeal.Gen.frame m ρ

theorem frame_ref : Cert.quiescent_TwoNormsRefIdeal := fun m ρ _ =>
  (θ_run Cert.TwoNormsRefIdeal.defs _ _).mono (fun r h => ⟨fun c => (h c).2.2,
      Idealize.ShloMosaic.sem_eq_zero_of_no_sems (by decide) r.2⟩)
    (Cert.TwoNormsRefIdeal.Value.run (F := Ideal) m ρ)

theorem preserves : Cert.preserves_TwoNorms_TwoNormsIdeal := trivial

open Cert.TwoNormsIdeal.Blocks Cert.TwoNormsRefIdeal.Forward in
theorem algebraic : Cert.algebraic_TwoNormsIdeal_TwoNormsRefIdeal := by
  intro m ρ m' ρ' _ hagree
  refine ⟨_, _, Cert.TwoNormsIdeal.Value.run_blocks m ρ, ?_⟩
  refine (θ_run Cert.TwoNormsRefIdeal.defs _ _).mono (fun r h c => ?_) (Cert.TwoNormsRefIdeal.Value.run (F := Ideal) m' ρ')
  obtain ⟨a0, a1, a2, a3⟩ := hagree c
  obtain ⟨h0, h1, kept⟩ := h c
  refine ⟨?_, ?_, kept⟩
  · rw [h0, final4, Cert.TwoNormsRefIdeal.Read.val_main_v13_eq, a0, a1, a2]
    exact funext fun i => by idx_vars i; exact first _ _ _ _ _
  · rw [h1, final5, Cert.TwoNormsRefIdeal.Read.val_main_v26_eq, a0, a1, a2, a3]
    exact funext fun i => by idx_vars i; exact second _ _ _ _ _ _

end Cert.TwoNormsClaims

end
-- ==== Proof.FfnIn.lean ====
/- The first product of the FFN and SwiGLU: what the kernel leaves in its three result arrays, index by index, and that the
   forward lines give the same arrays. -/
module

public import proofs.«01_k».proof.Proof.Gen.FfnInIdeal.Value
public import proofs.«01_k».proof.Proof.Gen.FfnInRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnInIdeal.Blocks

open Cert.FfnInIdeal Cert.FfnInIdeal.Gen

/-- The logistic function as both programs spell it. -/
def logis (a : EReal) : EReal := Ideal.div 1 (1 + Ideal.exp (-a))

/-- A row of the input times a column of the weights. -/
def inner (x : Vec Ideal S8448x1024 .bf16) (w : Vec Ideal S1024x5632 .bf16) (r : Fin 8448) (l : Fin 5632) : EReal :=
  ∑ k : Fin 1024, x (ix2 r k) * w (ix2 k l)

/-- The gate: the first half of the columns. -/
def gate (x : Vec Ideal S8448x1024 .bf16) (w : Vec Ideal S1024x5632 .bf16) (r : Fin 8448) (l : Fin 2816) : EReal :=
  inner x w r ⟨l.val, by omega⟩

/-- The gated value: the second half of the columns. -/
def up (x : Vec Ideal S8448x1024 .bf16) (w : Vec Ideal S1024x5632 .bf16) (r : Fin 8448) (l : Fin 2816) : EReal :=
  inner x w r ⟨2816 + l.val, by omega⟩

/-- The activation. -/
def act (x : Vec Ideal S8448x1024 .bf16) (w : Vec Ideal S1024x5632 .bf16) (r : Fin 8448) (l : Fin 2816) : EReal :=
  gate x w r l * logis (gate x w r l) * up x w r l

section Payloads
variable (v w : Vec Ideal S1408x1024 .bf16) (x : Vec Ideal S256x1024 .bf16) (r : Fin 256) (l : Fin 1408)

theorem pay9_apply : k0_pay9 v x (ix2 r l) = ∑ k : Fin 1024, x (ix2 r k) * v (ix2 l k) := by
  pointwise [k0_pay9, k0_pay7]

theorem pay10_apply : k0_pay10 w x (ix2 r l) = ∑ k : Fin 1024, x (ix2 r k) * w (ix2 l k) := by
  pointwise [k0_pay10, k0_pay8]

theorem pay13_apply : k0_pay13 v w x (ix2 r l) = (∑ k : Fin 1024, x (ix2 r k) * v (ix2 l k))
    * logis (∑ k : Fin 1024, x (ix2 r k) * v (ix2 l k)) * ∑ k : Fin 1024, x (ix2 r k) * w (ix2 l k) := by
  pointwise [k0_pay13, k0_pay9, k0_pay10, k0_pay8, k0_pay7]
  simp only [logis, zero_sub]

end Payloads

section Block
variable (x : Vec Ideal S768x1024 .bf16) (v w : Vec Ideal S1408x1024 .bf16)

/-- One block of a product at an index. -/
def block (y : S768x1408.Idx) : EReal := ∑ k : Fin 1024, x (ix2 (y 0) k) * v (ix2 (y 1) k)

/-- One block of the activation at an index. -/
def blockAct (y : S768x1408.Idx) : EReal := block x v y * logis (block x v y) * block x w y

/-- The three pieces of rows of a product, each as rows of the block. -/
theorem rows0 (r : Fin 256) (l : Fin 1408) : (∑ k : Fin 1024, View.ld x r0_1 (ix2 r k) * View.ld v r0_0 (ix2 l k)) = block x v (r0_2.emb (ix2 r l)) := by
  blk_point [block, r0_0, r0_1, r0_2]

theorem rows1 (r : Fin 256) (l : Fin 1408) : (∑ k : Fin 1024, View.ld x r0_3 (ix2 r k) * View.ld v r0_0 (ix2 l k)) = block x v (r0_4.emb (ix2 r l)) := by
  blk_point [block, r0_0, r0_3, r0_4]

theorem rows2 (r : Fin 256) (l : Fin 1408) : (∑ k : Fin 1024, View.ld x r0_5 (ix2 r k) * View.ld v r0_0 (ix2 l k)) = block x v (r0_6.emb (ix2 r l)) := by
  blk_point [block, r0_0, r0_5, r0_6]

/-- The three pieces of rows of each result are stored as one function of the block's index. -/
theorem out3_eq : out0_3 x v w = block x v := by
  funext y
  unfold_out out0_3
  refine View.canon_apply_of_pieces (Val := Elt Ideal) (block x v) _ ?_ y (cover0_3 _ _ _ y)
  simp only [List.mem_cons, List.not_mem_nil, or_false, forall_eq_or_imp, forall_eq]
  refine ⟨fun i => ?_, fun i => ?_, fun i => ?_⟩ <;> idx_vars i
  · exact (pay9_apply _ _ _ _).trans (rows2 x v _ _)
  · exact (pay9_apply _ _ _ _).trans (rows1 x v _ _)
  · exact (pay9_apply _ _ _ _).trans (rows0 x v _ _)

theorem out4_eq : out0_4 x v w = block x w := by
  funext y
  unfold_out out0_4
  refine View.canon_apply_of_pieces (Val := Elt Ideal) (block x w) _ ?_ y (cover0_4 _ _ _ y)
  simp only [List.mem_cons, List.not_mem_nil, or_false, forall_eq_or_imp, forall_eq]
  refine ⟨fun i => ?_, fun i => ?_, fun i => ?_⟩ <;> idx_vars i
  · exact (pay10_apply _ _ _ _).trans (rows2 x w _ _)
  · exact (pay10_apply _ _ _ _).trans (rows1 x w _ _)
  · exact (pay10_apply _ _ _ _).trans (rows0 x w _ _)

theorem out5_eq : out0_5 x v w = blockAct x v w := by
  funext y
  unfold_out out0_5
  refine View.canon_apply_of_pieces (Val := Elt Ideal) (blockAct x v w) _ ?_ y (cover0_5 _ _ _ y)
  simp only [List.mem_cons, List.not_mem_nil, or_false, forall_eq_or_imp, forall_eq]
  refine ⟨fun i => ?_, fun i => ?_, fun i => ?_⟩ <;> idx_vars i
  · refine (pay13_apply (View.ld v r0_0) (View.ld w r0_0) _ _ _).trans ?_
    rw [rows2, rows2, blockAct]
  · refine (pay13_apply (View.ld v r0_0) (View.ld w r0_0) _ _ _).trans ?_
    rw [rows1, rows1, blockAct]
  · refine (pay13_apply (View.ld v r0_0) (View.ld w r0_0) _ _ _).trans ?_
    rw [rows0, rows0, blockAct]

/-- Blocks that hold rows `ρ` and columns `κ` of whole arrays give those rows and columns of the product. -/
theorem block_eq (X : Vec Ideal S8448x1024 .bf16) (W : Vec Ideal S1024x5632 .bf16) (ρ : Fin 768 → Fin 8448) (κ : Fin 1408 → Fin 5632)
    (hx : ∀ r k, x (ix2 r k) = X (ix2 (ρ r) k)) (hv : ∀ l k, v (ix2 l k) = W (ix2 k (κ l))) (r : Fin 768) (l : Fin 1408) :
    block x v (ix2 r l) = inner X W (ρ r) (κ l) := by
  show ∑ k : Fin 1024, x (ix2 r k) * v (ix2 l k) = _
  simp only [hx, hv]
  rfl

end Block

variable (m : (ℓ : Loc nD τ sig) → Buf (Elt Ideal) ℓ)

theorem idx : ∀ t : Fin cfg0.N, win0_0.index t = ![t.val / 2, 0] ∧ win0_1.index t = ![t.val % 2, 0] ∧ win0_2.index t = ![2 + t.val % 2, 0]
    ∧ win0_3.index t = ![t.val / 2, t.val % 2] ∧ win0_4.index t = ![t.val / 2, t.val % 2] ∧ win0_5.index t = ![t.val / 2, t.val % 2] :=
  (by decide +kernel : ∀ t : Fin grid0.N, win0_0.index t = ![t.val / 2, 0] ∧ win0_1.index t = ![t.val % 2, 0]
    ∧ win0_2.index t = ![2 + t.val % 2, 0] ∧ win0_3.index t = ![t.val / 2, t.val % 2] ∧ win0_4.index t = ![t.val / 2, t.val % 2]
    ∧ win0_5.index t = ![t.val / 2, t.val % 2])

theorem points : cfg0.N = 22 := by decide +kernel

/-- Row `r` of the block of point `t` in the whole array. -/
def rowAt (t : Fin cfg0.N) (r : Fin 768) : Fin 8448 := ⟨t.val / 2 * 768 + r.val, by have := t.isLt; have := points; omega⟩

/-- Column `l` of the block of point `t` in a result. -/
def colAt (t : Fin cfg0.N) (l : Fin 1408) : Fin 2816 := ⟨t.val % 2 * 1408 + l.val, by have := l.isLt; omega⟩

/-- The weights as the call reads them: transposed. -/
theorem weights (c : Dev nD) (k : Fin 1024) (l : Fin 5632) :
    V m c main_v0 (ix2 l k) = m ((c : Thread nD τ).loc main_arg1) (ix2 k l) := by
  simp only [V]
  entry_read
  pointwise []

section Inputs
variable (c : Dev nD) (t : Fin cfg0.N) (r : Fin 768) (l : Fin 1408) (k : Fin 1024)

theorem iblk0 : iblk m c 0 t (ix2 r k) = m ((c : Thread nD τ).loc main_arg0) (ix2 (rowAt t r) k) := by
  obtain ⟨e, -⟩ := idx t
  simp only [rowAt]
  blk_point [iblk, V, e]

theorem iblk1 : iblk m c 1 t (ix2 l k) = m ((c : Thread nD τ).loc main_arg1) (ix2 k ⟨(colAt t l).val, by omega⟩) := by
  obtain ⟨-, e, -⟩ := idx t
  refine Eq.trans ?_ (weights m c _ _)
  simp only [colAt]
  blk_point [iblk, e]

theorem iblk2 : iblk m c 2 t (ix2 l k) = m ((c : Thread nD τ).loc main_arg1) (ix2 k ⟨2816 + (colAt t l).val, by omega⟩) := by
  obtain ⟨-, -, e, -⟩ := idx t
  refine Eq.trans ?_ (weights m c _ _)
  simp only [colAt]
  blk_point [iblk, e]

end Inputs

/-- The gate as the kernel leaves it. -/
theorem final3 (c : Dev nD) : (dats m 0 c).arrAt 3 cfg0.N = fun i => gate (m ((c : Thread nD τ).loc main_arg0))
    (m ((c : Thread nD τ).loc main_arg1)) (i 0) (i 1) := by
  refine (dats m 0 c).arrAt_eq_of_covers 3 _ (by decide +kernel) fun t hf y => ?_
  have key (y : S768x1408.Idx) : out0_3 (iblk m c 0 t) (iblk m c 1 t) (iblk m c 2 t) y
      = gate (m ((c : Thread nD τ).loc main_arg0)) (m ((c : Thread nD τ).loc main_arg1))
        (((View.whole main_v1_0).slice (win0_3.rect t)).emb y 0) (((View.whole main_v1_0).slice (win0_3.rect t)).emb y 1) := by
    obtain ⟨-, -, -, e, -⟩ := idx t
    rw [out3_eq]
    idx_vars y
    refine (block_eq _ _ _ _ (rowAt t) _ (iblk0 m c t) (iblk1 m c t) y0 y1).trans ?_
    show gate _ _ (rowAt t y0) (colAt t y1) = _
    refine congrArg₂ (gate _ _) (Fin.ext ?_) (Fin.ext ?_) <;> blk_simp [rowAt, colAt, e]
  blk_simp
  rw [after0_3]
  exact key y

/-- The gated value as the kernel leaves it. -/
theorem final4 (c : Dev nD) : (dats m 0 c).arrAt 4 cfg0.N = fun i => up (m ((c : Thread nD τ).loc main_arg0))
    (m ((c : Thread nD τ).loc main_arg1)) (i 0) (i 1) := by
  refine (dats m 0 c).arrAt_eq_of_covers 4 _ (by decide +kernel) fun t hf y => ?_
  have key (y : S768x1408.Idx) : out0_4 (iblk m c 0 t) (iblk m c 1 t) (iblk m c 2 t) y
      = up (m ((c : Thread nD τ).loc main_arg0)) (m ((c : Thread nD τ).loc main_arg1))
        (((View.whole main_v1_1).slice (win0_4.rect t)).emb y 0) (((View.whole main_v1_1).slice (win0_4.rect t)).emb y 1) := by
    obtain ⟨-, -, -, -, e, -⟩ := idx t
    rw [out4_eq]
    idx_vars y
    refine (block_eq _ _ _ _ (rowAt t) _ (iblk0 m c t) (iblk2 m c t) y0 y1).trans ?_
    show up _ _ (rowAt t y0) (colAt t y1) = _
    refine congrArg₂ (up _ _) (Fin.ext ?_) (Fin.ext ?_) <;> blk_simp [rowAt, colAt, e]
  blk_simp
  rw [after0_4]
  exact key y

/-- The activation as the kernel leaves it. -/
theorem final5 (c : Dev nD) : (dats m 0 c).arrAt 5 cfg0.N = fun i => act (m ((c : Thread nD τ).loc main_arg0))
    (m ((c : Thread nD τ).loc main_arg1)) (i 0) (i 1) := by
  refine (dats m 0 c).arrAt_eq_of_covers 5 _ (by decide +kernel) fun t hf y => ?_
  have key (y : S768x1408.Idx) : out0_5 (iblk m c 0 t) (iblk m c 1 t) (iblk m c 2 t) y
      = act (m ((c : Thread nD τ).loc main_arg0)) (m ((c : Thread nD τ).loc main_arg1))
        (((View.whole main_v1_2).slice (win0_5.rect t)).emb y 0) (((View.whole main_v1_2).slice (win0_5.rect t)).emb y 1) := by
    obtain ⟨-, -, -, -, -, e⟩ := idx t
    rw [out5_eq]
    idx_vars y
    rw [blockAct, block_eq _ _ _ _ (rowAt t) _ (iblk0 m c t) (iblk1 m c t) y0 y1, block_eq _ _ _ _ (rowAt t) _ (iblk0 m c t) (iblk2 m c t) y0 y1]
    show act _ _ (rowAt t y0) (colAt t y1) = _
    refine congrArg₂ (act _ _) (Fin.ext ?_) (Fin.ext ?_) <;> blk_simp [rowAt, colAt, e]
  blk_simp
  rw [after0_5]
  exact key y

end Cert.FfnInIdeal.Blocks

namespace Cert.FfnInRefIdeal.Forward

open Cert.FfnInRefIdeal Cert.FfnInRefIdeal.Read Cert.FfnInIdeal.Blocks

variable (x : Vec Ideal S8448x1024 .bf16) (w : Vec Ideal S1024x5632 .bf16) (r : Fin 8448) (l : Fin 2816)

theorem first : val_main_v5 x w (ix2 r l) = gate x w r l := by
  pointwise [val_main_v0, val_main_v1, val_main_v2, val_main_v3, val_main_v5]
  rfl

theorem second : val_main_v6 x w (ix2 r l) = up x w r l := by
  pointwise [val_main_v0, val_main_v1, val_main_v2, val_main_v4, val_main_v6]
  rfl

theorem third : val_main_v9 x w (ix2 r l) = act x w r l := by
  pointwise [
    val_main_v0, val_main_v1, val_main_v2, val_main_v3, val_main_v4, val_main_v5, val_main_v6, val_main_call0_v0, val_main_call0_v1,
    val_main_call0_cst, val_main_call0_v2, val_main_call0_v3, val_main_call0_cst_0, val_main_call0_v4, val_main_call0_v5, val_main_v7,
    val_main_v8, val_main_v9]
  rfl

end Cert.FfnInRefIdeal.Forward

end
-- ==== Proof.FfnInClaims.lean ====
/- The first product of the FFN and SwiGLU: the claims. -/
module

public import proofs.«01_k».proof.Defs
public import proofs.«01_k».proof.Proof.FfnIn
public import proofs.«01_k».proof.Proof.Gen.FfnIn.Frame
public import proofs.«01_k».proof.Proof.Gen.FfnInRefIdeal.Run
public import Idealize.ShloMosaic.Lib.Quiescent

@[expose] public section

set_option maxRecDepth 16384

noncomputable section

open Idealize.ShloMosaic Idealize.ShloMosaic.TcCoe Idealize.SL.Sem

namespace Cert.FfnInClaims

theorem frame : Cert.quiescent_FfnIn := fun m ρ _ => Cert.FfnIn.Gen.frame m ρ

theorem frame_ideal : Cert.quiescent_FfnInIdeal := fun m ρ _ => Cert.FfnInIdeal.Gen.frame m ρ

theorem frame_ref : Cert.quiescent_FfnInRefIdeal := fun m ρ _ =>
  (θ_run Cert.FfnInRefIdeal.defs _ _).mono (fun r h => ⟨fun c => (h c).2.2.2,
      Idealize.ShloMosaic.sem_eq_zero_of_no_sems (by decide) r.2⟩)
    (Cert.FfnInRefIdeal.Value.run (F := Ideal) m ρ)

theorem preserves : Cert.preserves_FfnIn_FfnInIdeal := trivial

open Cert.FfnInIdeal.Blocks Cert.FfnInRefIdeal.Forward in
theorem algebraic : Cert.algebraic_FfnInIdeal_FfnInRefIdeal := by
  intro m ρ m' ρ' _ hagree
  refine ⟨_, _, _, Cert.FfnInIdeal.Value.run_blocks m ρ, ?_⟩
  refine (θ_run Cert.FfnInRefIdeal.defs _ _).mono (fun r h c => ?_) (Cert.FfnInRefIdeal.Value.run (F := Ideal) m' ρ')
  obtain ⟨a0, a1⟩ := hagree c
  obtain ⟨h0, h1, h2, kept⟩ := h c
  refine ⟨?_, ?_, ?_, kept⟩
  · rw [h0, final3, Cert.FfnInRefIdeal.Read.val_main_v5_eq, a0, a1]
    exact funext fun i => by idx_vars i; exact first _ _ _ _
  · rw [h1, final4, Cert.FfnInRefIdeal.Read.val_main_v6_eq, a0, a1]
    exact funext fun i => by idx_vars i; exact second _ _ _ _
  · rw [h2, final5, Cert.FfnInRefIdeal.Read.val_main_v9_eq, a0, a1]
    exact funext fun i => by idx_vars i; exact third _ _ _ _

end Cert.FfnInClaims

end
-- ==== Proof.RetHead.lean ====
/- One head of the retention mixer at one chunk, as the kernel's payloads compute it: the four heads' payloads are one function
   of their loads, read here index by index. -/
module

public import proofs.«01_k».proof.Proof.Gen.RetIdeal.Skeleton
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.RetIdeal.Head

open Cert.RetIdeal Cert.RetIdeal.Gen

/-- The gate's activation, and one row less its mean over its deviation, as both programs spell them. -/
def silu (a : EReal) : EReal := a * Ideal.div 1 (1 + Ideal.exp (-a))
def mean (f : Fin 512 → EReal) : EReal := Ideal.div (∑ e, f e) (Ideal.ofBits .f32 0x44000000#32)
def normed (f : Fin 512 → EReal) (e : Fin 512) : EReal :=
  (f e - mean f) * Ideal.rsqrt (mean (fun e => (f e - mean f) * (f e - mean f)) + Ideal.ofBits .f32 0x3727C5AC#32)

section
variable (c s : Vec Ideal S128x128 .f32) (a b a' b' : Vec Ideal S128x128 .bf16) (q k : FVec Ideal S128x256 .bf16)
  (v g : Vec Ideal S128x512 .bf16) (xi zeta : Vec Ideal S1x128x1 .f32) (gch : Vec Ideal S1x1x1 .f32)
  (st : Vec Ideal S1x256x512 .f32) (dec : Vec Ideal S1x128x128 .f32)

/-- The rotated query rows, scaled; the rotated key rows. -/
def qR : FVec Ideal S128x256 .bf16 := k0_pay36 (k0_pay3 c) (k0_pay4 s) a b
def kR : FVec Ideal S128x256 .bf16 := k0_pay37 (k0_pay3 c) (k0_pay4 s) a b

/-- The head's rows, its gated normalised rows, the state it keeps and the state it leaves. -/
def outV : FVec Ideal S128x512 .f32 := k0_pay32 q k (k0_pay25 v) (k0_pay26 xi) st dec
def gateV : FVec Ideal S128x512 .bf16 := k0_pay34 (k0_pay33 q k (k0_pay25 v) (k0_pay26 xi) st dec) g
def keptV : FVec Ideal S1x1x256x512 .bf16 := k0_pay31 st
def nextV : FVec Ideal S1x256x512 .f32 := k0_pay35 k (k0_pay25 v) (k0_pay27 zeta) (k0_pay28 gch) (k0_pay29 st)

/-! The other heads' payloads are these. -/

theorem q0 : k0_pay5 c s a b = qR c s a b := rfl
theorem k0 : k0_pay11 (k0_pay8 c s a b) (k0_pay9 c s a b) k0_pay10 = kR c s a b := rfl
theorem q1 : k0_pay23 (k0_pay3 c) (k0_pay4 s) (k0_pay22 a) b = qR c s a b := rfl
theorem k1 : k0_pay24 (k0_pay3 c) (k0_pay4 s) a b = kR c s a b := rfl
theorem q2 : k0_pay36 (k0_pay3 c) (k0_pay4 s) a b = qR c s a b := rfl
theorem k2 : k0_pay37 (k0_pay3 c) (k0_pay4 s) a b = kR c s a b := rfl
theorem q3 : k0_pay50 (k0_pay3 c) (k0_pay4 s) a b = qR c s a b := rfl
theorem k3 : k0_pay56 (k0_pay53 (k0_pay3 c) (k0_pay4 s) a b) (k0_pay54 (k0_pay3 c) (k0_pay4 s) a b) k0_pay55 = kR c s a b := rfl

theorem out0 : k0_pay18 q (k0_pay8 c s a b) (k0_pay9 c s a b) k0_pay10 v xi st dec = outV q (kR c s a b) v xi st dec := rfl
theorem gate0 : k0_pay20 (k0_pay18 q (k0_pay8 c s a b) (k0_pay9 c s a b) k0_pay10 v xi st dec)
    (k0_pay19 q (k0_pay8 c s a b) (k0_pay9 c s a b) k0_pay10 v xi st dec) (Scalar.ofBits .f32 0x44000000#32) g
    = gateV q (kR c s a b) v g xi st dec := rfl
theorem kept0 : k0_pay17 st = keptV st := rfl
theorem next0 : k0_pay21 k (k0_pay12 v) (k0_pay13 zeta) (k0_pay14 gch) (k0_pay15 st) = nextV k v zeta gch st := rfl

theorem out1 : k0_pay32 q k (k0_pay25 v) (k0_pay26 xi) st dec = outV q k v xi st dec := rfl
theorem gate1 : k0_pay34 (k0_pay33 q k (k0_pay25 v) (k0_pay26 xi) st dec) g = gateV q k v g xi st dec := rfl
theorem kept1 : k0_pay31 st = keptV st := rfl
theorem next1 : k0_pay35 k (k0_pay25 v) (k0_pay27 zeta) (k0_pay28 gch) (k0_pay29 st) = nextV k v zeta gch st := rfl

theorem out2 : k0_pay46 q (k0_pay38 v) (k0_pay39 xi) (k0_pay43 st) (k0_pay45 (k0_pay3 c) (k0_pay4 s) q a b) dec
    = outV q (kR c s a b) v xi st dec := rfl
theorem gate2 : k0_pay47 q (k0_pay38 v) (k0_pay39 xi) (k0_pay43 st) (k0_pay45 (k0_pay3 c) (k0_pay4 s) q a b) dec g
    = gateV q (kR c s a b) v g xi st dec := rfl
theorem kept2 : k0_pay44 st = keptV st := rfl
theorem next2 : k0_pay49 k (k0_pay40 zeta) (k0_pay41 gch) (k0_pay42 st) (k0_pay48 (k0_pay38 v)) = nextV k v zeta gch st := rfl

theorem out3 : k0_pay63 q (k0_pay53 (k0_pay3 c) (k0_pay4 s) a b) (k0_pay54 (k0_pay3 c) (k0_pay4 s) a b) k0_pay55 v xi st dec
    = outV q (kR c s a b) v xi st dec := rfl
theorem gate3 : k0_pay65 (k0_pay63 q (k0_pay53 (k0_pay3 c) (k0_pay4 s) a b) (k0_pay54 (k0_pay3 c) (k0_pay4 s) a b) k0_pay55 v xi st dec)
    (k0_pay64 q (k0_pay53 (k0_pay3 c) (k0_pay4 s) a b) (k0_pay54 (k0_pay3 c) (k0_pay4 s) a b) k0_pay55 v xi st dec)
    (Scalar.ofBits .f32 0x44000000#32) g = gateV q (kR c s a b) v g xi st dec := rfl
theorem kept3 : k0_pay62 st = keptV st := rfl
theorem next3 : k0_pay1 (k0_pay66 k (k0_pay57 v) (k0_pay58 zeta) (k0_pay59 gch) (k0_pay60 st)) = nextV k v zeta gch st := rfl

/-! Index by index. -/

theorem qR_apply (r : Fin 128) (d : Fin 256) : qR c s a b (ix2 r d)
    = (if h : d.val < 128 then a (ix2 r ⟨d.val, h⟩) * c (ix2 r ⟨d.val, h⟩) - b (ix2 r ⟨d.val, h⟩) * s (ix2 r ⟨d.val, h⟩)
      else a (ix2 r ⟨d.val - 128, by omega⟩) * s (ix2 r ⟨d.val - 128, by omega⟩)
        + b (ix2 r ⟨d.val - 128, by omega⟩) * c (ix2 r ⟨d.val - 128, by omega⟩)) * Ideal.ofBits .f32 0x3D800000#32 := by
  unfold qR k0_pay36 k0_pay3 k0_pay4; pointwise []
  split <;> rfl

theorem kR_apply (r : Fin 128) (d : Fin 256) : kR c s a b (ix2 r d)
    = if h : d.val < 128 then a (ix2 r ⟨d.val, h⟩) * c (ix2 r ⟨d.val, h⟩) - b (ix2 r ⟨d.val, h⟩) * s (ix2 r ⟨d.val, h⟩)
      else a (ix2 r ⟨d.val - 128, by omega⟩) * s (ix2 r ⟨d.val - 128, by omega⟩)
        + b (ix2 r ⟨d.val - 128, by omega⟩) * c (ix2 r ⟨d.val - 128, by omega⟩) := by
  unfold kR k0_pay37 k0_pay3 k0_pay4; pointwise []

theorem outV_apply (r : Fin 128) (e : Fin 512) : outV q k v xi st dec (ix2 r e)
    = (∑ t : Fin 128, (∑ d : Fin 256, q (ix2 r d) * k (ix2 t d)) * dec (ix3 0 r t) * v (ix2 t e))
      + (∑ d : Fin 256, q (ix2 r d) * st (ix3 0 d e)) * xi (ix3 0 r 0) := by
  unfold outV k0_pay32; pointwise [k0_pay25, k0_pay26, k0_pay30, k0_pay29]
theorem gateV_apply (r : Fin 128) (e : Fin 512) : gateV q k v g xi st dec (ix2 r e)
    = silu (g (ix2 r e)) * normed (fun e => outV q k v xi st dec (ix2 r e)) e := by
  have hx : ∀ e, k0_pay32 q k (k0_pay25 v) (k0_pay26 xi) st dec (ix2 r e) = outV q k v xi st dec (ix2 r e) := fun _ => rfl
  unfold gateV k0_pay34 k0_pay33; pointwise []
  simp only [hx, zero_sub]
  rfl

theorem keptV_apply (d : Fin 256) (e : Fin 512) : keptV st (ix4 0 0 d e) = st (ix3 0 d e) := by
  unfold keptV k0_pay31; pointwise [k0_pay30, k0_pay29]
theorem nextV_apply (d : Fin 256) (e : Fin 512) : nextV k v zeta gch st (ix3 0 d e)
    = gch (ix3 0 0 0) * st (ix3 0 d e) + ∑ t : Fin 128, k (ix2 t d) * (v (ix2 t e) * zeta (ix3 0 t 0)) := by
  unfold nextV k0_pay35; pointwise [k0_pay25, k0_pay27, k0_pay28, k0_pay29]
end

end Cert.RetIdeal.Head

end
-- ==== Proof.RetBlocks.lean ====
/- What one visit of the retention mixer's kernel leaves in its result blocks and in the state it carries. -/
module

public import proofs.«01_k».proof.Proof.RetHead
public import proofs.«01_k».proof.Proof.Gen.RetIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetIdeal.Visit

open Cert.RetIdeal Cert.RetIdeal.Gen Cert.RetIdeal.Head

section
variable (X : Vec Ideal S128x6144 .bf16) (C S : Vec Ideal S128x128 .f32) (D T : Vec Ideal S4x128x128 .f32)
  (Z : Vec Ideal S4x256x512 .f32) (h : Fin 4)

/-- 128, and 512, columns of the block of projections; a head's plane of a table, a column of a head's coefficients and a
    head's state. -/
def half (n : ℕ) (hn : n + 128 ≤ 6144) : Vec Ideal S128x128 .bf16 := fun i => X (ix2 (i 0) ⟨n + (i 1).val, by have := (i 1).isLt; simp at this; omega⟩)
def wide (n : ℕ) (hn : n + 512 ≤ 6144) : Vec Ideal S128x512 .bf16 := fun i => X (ix2 (i 0) ⟨n + (i 1).val, by have := (i 1).isLt; simp at this; omega⟩)
def plane : Vec Ideal S1x128x128 .f32 := fun i => D (ix3 h (i 1) (i 2))
def column (n : Fin 128) : Vec Ideal S1x128x1 .f32 := fun i => T (ix3 h (i 1) n)
def single (n : Fin 128) : Vec Ideal S1x1x1 .f32 := fun i => T (ix3 h 0 n)
def held : Vec Ideal S1x256x512 .f32 := fun i => Z (ix3 h (i 1) (i 2))

/-- A head's query and key rows, value and gate columns. -/
def qB := qR C S (half X (256 * h.val) (by omega)) (half X (256 * h.val + 128) (by omega))
def kB := kR C S (half X (1024 + 256 * h.val) (by omega)) (half X (1024 + 256 * h.val + 128) (by omega))
def vB := wide X (2048 + 512 * h.val) (by omega)
def gB := wide X (4096 + 512 * h.val) (by omega)

/-- A head's results, from the block of projections, the tables and the state held. -/
def outH : Vec Ideal S128x512 .f32 := outV (qB X C S h) (kB X C S h) (vB X h) (column T h 0) (held Z h) (plane D h)
def gateH : Vec Ideal S128x512 .bf16 := gateV (qB X C S h) (kB X C S h) (vB X h) (gB X h) (column T h 0) (held Z h) (plane D h)
def keptH : Vec Ideal S1x1x256x512 .bf16 := keptV (held Z h)
def nextH : Vec Ideal S1x256x512 .f32 := nextV (kB X C S h) (vB X h) (column T h 1) (single T h 2) (held Z h)

/-! The same at a head and at columns given by number. -/

section
variable {k n0 n1 n2 n3 n4 n5 : ℕ} {hk : k < 4} {h0 : n0 + 128 ≤ 6144} {h1 : n1 + 128 ≤ 6144} {h2 : n2 + 128 ≤ 6144} {h3 : n3 + 128 ≤ 6144}
  {h4 : n4 + 512 ≤ 6144} {h5 : n5 + 512 ≤ 6144}

theorem outH_eq (e0 : n0 = 256 * k) (e1 : n1 = 256 * k + 128) (e2 : n2 = 1024 + 256 * k) (e3 : n3 = 1024 + 256 * k + 128) (e4 : n4 = 2048 + 512 * k) :
     outV (qR C S (half X n0 h0) (half X n1 h1)) (kR C S (half X n2 h2) (half X n3 h3)) (wide X n4 h4)
    (column T ⟨k, hk⟩ 0) (held Z ⟨k, hk⟩) (plane D ⟨k, hk⟩) = outH X C S D T Z ⟨k, hk⟩ := by subst e0 e1 e2 e3 e4; rfl
theorem gateH_eq (e0 : n0 = 256 * k) (e1 : n1 = 256 * k + 128) (e2 : n2 = 1024 + 256 * k) (e3 : n3 = 1024 + 256 * k + 128) (e4 : n4 = 2048 + 512 * k) (e5 : n5 = 4096 + 512 * k) :
     gateV (qR C S (half X n0 h0) (half X n1 h1)) (kR C S (half X n2 h2) (half X n3 h3)) (wide X n4 h4) (wide X n5 h5)
    (column T ⟨k, hk⟩ 0) (held Z ⟨k, hk⟩) (plane D ⟨k, hk⟩) = gateH X C S D T Z ⟨k, hk⟩ := by subst e0 e1 e2 e3 e4 e5; rfl
theorem nextH_eq (e2 : n2 = 1024 + 256 * k) (e3 : n3 = 1024 + 256 * k + 128) (e4 : n4 = 2048 + 512 * k) :
     nextV (kR C S (half X n2 h2) (half X n3 h3)) (wide X n4 h4)
    (column T ⟨k, hk⟩ 1) (single T ⟨k, hk⟩ 2) (held Z ⟨k, hk⟩) = nextH X C S T Z ⟨k, hk⟩ := by subst e2 e3 e4; rfl
end

/-- The place of a loaded entry along one axis. -/
theorem at_zero (x : ℕ) : 0 + 1 * x = x := by omega
theorem at_off (n x : ℕ) : n + 1 * x = n + x := by omega
theorem unit_axis (n : ℕ) (x : Fin 1) : n + 1 * x.val = n := by omega

theorem ld_half (n : ℕ) (inb) : View.ld X (Rect.unit (s := S128x6144) ![0, n] ![128, 128] inb) = half X n (by simpa using inb 1) := by
  funext i; refine congrArg X (funext fun a => Fin.ext ?_); fin_cases a <;> first | exact at_zero _ | exact at_off _ _ | exact unit_axis _ _
theorem ld_wide (n : ℕ) (inb) : View.ld X (Rect.unit (s := S128x6144) ![0, n] ![128, 512] inb) = wide X n (by simpa using inb 1) := by
  funext i; refine congrArg X (funext fun a => Fin.ext ?_); fin_cases a <;> first | exact at_zero _ | exact at_off _ _ | exact unit_axis _ _
theorem ld_plane (n : ℕ) (inb) : View.ld D (Rect.unit (s := S4x128x128) ![n, 0, 0] ![1, 128, 128] inb)
    = plane D ⟨n, by have := inb 0; simpa using this⟩ := by
  funext i; refine congrArg D (funext fun a => Fin.ext ?_); fin_cases a <;> first | exact at_zero _ | exact at_off _ _ | exact unit_axis _ _
theorem ld_column (n l : ℕ) (inb) : View.ld T (Rect.unit (s := S4x128x128) ![n, 0, l] ![1, 128, 1] inb)
    = column T ⟨n, by have := inb 0; simpa using this⟩ ⟨l, by have := inb 2; simpa using this⟩ := by
  funext i; refine congrArg T (funext fun a => Fin.ext ?_); fin_cases a <;> first | exact at_zero _ | exact at_off _ _ | exact unit_axis _ _
theorem ld_single (n l : ℕ) (inb) : View.ld T (Rect.unit (s := S4x128x128) ![n, 0, l] ![1, 1, 1] inb)
    = single T ⟨n, by have := inb 0; simpa using this⟩ ⟨l, by have := inb 2; simpa using this⟩ := by
  funext i; refine congrArg T (funext fun a => Fin.ext ?_); fin_cases a <;> first | exact at_zero _ | exact at_off _ _ | exact unit_axis _ _
theorem ld_held (n : ℕ) (inb) : View.ld Z (Rect.unit (s := S4x256x512) ![n, 0, 0] ![1, 256, 512] inb)
    = held Z ⟨n, by have := inb 0; simpa using this⟩ := by
  funext i; refine congrArg Z (funext fun a => Fin.ext ?_); fin_cases a <;> first | exact at_zero _ | exact at_off _ _ | exact unit_axis _ _
end

/-- Four heads' arrays side by side, and one under the other. -/
def beside {e : EltTy} (f : Fin 4 → Vec Ideal S128x512 e) : Vec Ideal S128x2048 e := fun i =>
  f ⟨(i 1).val / 512, by have := (i 1).isLt; simp at this; omega⟩ (ix2 (i 0) ⟨(i 1).val % 512, Nat.mod_lt _ (by decide)⟩)
def stacked (f : Fin 4 → Vec Ideal S1x256x512 .f32) : Vec Ideal S4x256x512 .f32 := fun i => f (i 0) (ix3 0 (i 1) (i 2))
def stacked' (f : Fin 4 → Vec Ideal S1x1x256x512 .bf16) : Vec Ideal S1x4x256x512 .bf16 := fun i => f (i 1) (ix4 0 0 (i 2) (i 3))

theorem beside_emb {e : EltTy} (f : Fin 4 → Vec Ideal S128x512 e) (h : Fin 4) (n : ℕ) (hn : n = 512 * h.val) (inb)
    (x : (Rect.unit (s := S128x2048) ![0, n] ![128, 512] inb).shape.Idx) :
    beside f ((Rect.unit (s := S128x2048) ![0, n] ![128, 512] inb).emb x) = f h x := by
  have l0 : (x 0).val < 128 := (x 0).isLt
  have l1 : (x 1).val < 512 := (x 1).isLt
  refine congrArg₂ f (Fin.ext ?_) (funext fun a => Fin.ext ?_)
  · show (n + 1 * (x 1).val) / 512 = h.val; omega
  · fin_cases a
    · exact at_zero _
    · show (n + 1 * (x 1).val) % 512 = (x 1).val; omega

theorem stacked_emb (f : Fin 4 → Vec Ideal S1x256x512 .f32) (h : Fin 4) (n : ℕ) (hn : n = h.val) (inb)
    (x : (Rect.unit (s := S4x256x512) ![n, 0, 0] ![1, 256, 512] inb).shape.Idx) :
    stacked f ((Rect.unit (s := S4x256x512) ![n, 0, 0] ![1, 256, 512] inb).emb x) = f h x := by
  have l0 : (x 0).val < 1 := (x 0).isLt
  refine congrArg₂ f (Fin.ext ?_) (funext fun a => Fin.ext ?_)
  · show n + 1 * (x 0).val = h.val; omega
  · fin_cases a
    · show 0 = (x 0).val; omega
    · exact at_zero _
    · exact at_zero _

theorem stacked'_emb (f : Fin 4 → Vec Ideal S1x1x256x512 .bf16) (h : Fin 4) (n : ℕ) (hn : n = h.val) (inb)
    (x : (Rect.unit (s := S1x4x256x512) ![0, n, 0, 0] ![1, 1, 256, 512] inb).shape.Idx) :
    stacked' f ((Rect.unit (s := S1x4x256x512) ![0, n, 0, 0] ![1, 1, 256, 512] inb).emb x) = f h x := by
  have l0 : (x 0).val < 1 := (x 0).isLt
  have l1 : (x 1).val < 1 := (x 1).isLt
  refine congrArg₂ f (Fin.ext ?_) (funext fun a => Fin.ext ?_)
  · show n + 1 * (x 1).val = h.val; omega
  · fin_cases a
    · show 0 = (x 0).val; omega
    · show 0 = (x 1).val; omega
    · exact at_zero _
    · exact at_zero _

variable (m : (ℓ : Loc nD τ sig) → Buf (Elt Ideal) ℓ)

/-- The state a visit finds: nothing at the first point of a sweep, what the visit before left at the others. -/
def found (c : Dev nD) (t : Fin cfg0.N) : Vec Ideal S4x256x512 .f32 :=
  if t.val % 66 = 0 then k0_pay2 (F := Ideal) else (outsAt0 m c (t.val - 1) (Nat.lt_of_le_of_lt (Nat.sub_le _ _) t.isLt)).2.2.2

/-- The rows. -/
theorem out_at (c : Dev nD) (t : Fin cfg0.N) :
    (outsAt0 m c t.val t.isLt).1 = beside (outH (X0_0 m c t) (iblk m c 1 t) (iblk m c 2 t) (iblk m c 3 t) (iblk m c 4 t) (found m c t)) := by
  funext y
  by_cases h0 : t.val % 66 = 0
  case' pos =>
    rw [outsAt0_A m c t h0, found, if_pos h0]
    frame_open
    simp (disch := decide) only [↓ View.readCov_skip, ↓ View.readCov_cons_toLoadRect, ↓ View.readCov_fill]
    frame_out
    generalize k0_pay2 (F := Ideal) = z
  case' neg =>
    rw [outsAt0_B m c t h0, found, if_neg h0]
    frame_out
    simp only [read_unread_whole]
    generalize (outsAt0 m c (t.val - 1) _).2.2.2 = z
  all_goals
    generalize X0_0 m c t = x0, iblk m c 1 t = x1, iblk m c 2 t = x2, iblk m c 3 t = x3, iblk m c 4 t = x4
    refine View.canon_apply_of_pieces (Val := Elt Ideal) (beside (outH x0 x1 x2 x3 x4 z)) _ ?_ y (View.cover_of_tiledL (s := S128x2048) _ S128x512.size (by sl_kernel_rfl) y)
    simp only [List.mem_cons, List.not_mem_nil, or_false, forall_eq_or_imp, forall_eq]
    simp only [q0, k0, q1, k1, q2, k2, q3, k3, out0, out1, out2, out3, ld_half, ld_wide, ld_plane, ld_column, ld_single, ld_held]
    exact ⟨fun x => (congrFun (outH_eq (k := 3) x0 x1 x2 x3 x4 z rfl rfl rfl rfl rfl ) x).trans (beside_emb (outH x0 x1 x2 x3 x4 z) ⟨3, by decide⟩ 1536 rfl _ x).symm,
      fun x => (congrFun (outH_eq (k := 2) x0 x1 x2 x3 x4 z rfl rfl rfl rfl rfl ) x).trans (beside_emb (outH x0 x1 x2 x3 x4 z) ⟨2, by decide⟩ 1024 rfl _ x).symm,
      fun x => (congrFun (outH_eq (k := 1) x0 x1 x2 x3 x4 z rfl rfl rfl rfl rfl ) x).trans (beside_emb (outH x0 x1 x2 x3 x4 z) ⟨1, by decide⟩ 512 rfl _ x).symm,
      fun x => (congrFun (outH_eq (k := 0) x0 x1 x2 x3 x4 z rfl rfl rfl rfl rfl ) x).trans (beside_emb (outH x0 x1 x2 x3 x4 z) ⟨0, by decide⟩ 0 rfl _ x).symm⟩

/-- The gated rows. -/
theorem gate_at (c : Dev nD) (t : Fin cfg0.N) :
    (outsAt0 m c t.val t.isLt).2.1 = beside (gateH (X0_0 m c t) (iblk m c 1 t) (iblk m c 2 t) (iblk m c 3 t) (iblk m c 4 t) (found m c t)) := by
  funext y
  by_cases h0 : t.val % 66 = 0
  case' pos =>
    rw [outsAt0_A m c t h0, found, if_pos h0]
    frame_open
    simp (disch := decide) only [↓ View.readCov_skip, ↓ View.readCov_cons_toLoadRect, ↓ View.readCov_fill]
    frame_out
    generalize k0_pay2 (F := Ideal) = z
  case' neg =>
    rw [outsAt0_B m c t h0, found, if_neg h0]
    frame_out
    simp only [read_unread_whole]
    generalize (outsAt0 m c (t.val - 1) _).2.2.2 = z
  all_goals
    generalize X0_0 m c t = x0, iblk m c 1 t = x1, iblk m c 2 t = x2, iblk m c 3 t = x3, iblk m c 4 t = x4
    refine View.canon_apply_of_pieces (Val := Elt Ideal) (beside (gateH x0 x1 x2 x3 x4 z)) _ ?_ y (View.cover_of_tiledL (s := S128x2048) _ S128x512.size (by sl_kernel_rfl) y)
    simp only [List.mem_cons, List.not_mem_nil, or_false, forall_eq_or_imp, forall_eq]
    simp only [q0, k0, q1, k1, q2, k2, q3, k3, gate0, gate1, gate2, gate3, ld_half, ld_wide, ld_plane, ld_column, ld_single, ld_held]
    exact ⟨fun x => (congrFun (gateH_eq (k := 3) x0 x1 x2 x3 x4 z rfl rfl rfl rfl rfl rfl ) x).trans (beside_emb (gateH x0 x1 x2 x3 x4 z) ⟨3, by decide⟩ 1536 rfl _ x).symm,
      fun x => (congrFun (gateH_eq (k := 2) x0 x1 x2 x3 x4 z rfl rfl rfl rfl rfl rfl ) x).trans (beside_emb (gateH x0 x1 x2 x3 x4 z) ⟨2, by decide⟩ 1024 rfl _ x).symm,
      fun x => (congrFun (gateH_eq (k := 1) x0 x1 x2 x3 x4 z rfl rfl rfl rfl rfl rfl ) x).trans (beside_emb (gateH x0 x1 x2 x3 x4 z) ⟨1, by decide⟩ 512 rfl _ x).symm,
      fun x => (congrFun (gateH_eq (k := 0) x0 x1 x2 x3 x4 z rfl rfl rfl rfl rfl rfl ) x).trans (beside_emb (gateH x0 x1 x2 x3 x4 z) ⟨0, by decide⟩ 0 rfl _ x).symm⟩

/-- The state kept for the gradient: the state held. -/
theorem kept_at (c : Dev nD) (t : Fin cfg0.N) :
    (outsAt0 m c t.val t.isLt).2.2.1 = stacked' (keptH (found m c t)) := by
  funext y
  by_cases h0 : t.val % 66 = 0
  case' pos =>
    rw [outsAt0_A m c t h0, found, if_pos h0]
    frame_open
    simp (disch := decide) only [↓ View.readCov_skip, ↓ View.readCov_cons_toLoadRect, ↓ View.readCov_fill]
    frame_out
    generalize k0_pay2 (F := Ideal) = z
  case' neg =>
    rw [outsAt0_B m c t h0, found, if_neg h0]
    frame_out
    simp only [read_unread_whole]
    generalize (outsAt0 m c (t.val - 1) _).2.2.2 = z
  all_goals
    generalize X0_0 m c t = x0, iblk m c 1 t = x1, iblk m c 2 t = x2, iblk m c 3 t = x3, iblk m c 4 t = x4
    refine View.canon_apply_of_pieces (Val := Elt Ideal) (stacked' (keptH z)) _ ?_ y (View.cover_of_tiledL (s := S1x4x256x512) _ S1x1x256x512.size (by sl_kernel_rfl) y)
    simp only [List.mem_cons, List.not_mem_nil, or_false, forall_eq_or_imp, forall_eq]
    simp only [q0, k0, q1, k1, q2, k2, q3, k3, kept0, kept1, kept2, kept3, ld_half, ld_wide, ld_plane, ld_column, ld_single, ld_held]
    exact ⟨fun x => (stacked'_emb (keptH z) 3 3 rfl _ x).symm, fun x => (stacked'_emb (keptH z) 2 2 rfl _ x).symm, fun x => (stacked'_emb (keptH z) 1 1 rfl _ x).symm, fun x => (stacked'_emb (keptH z) 0 0 rfl _ x).symm⟩

/-- The state carried on. -/
theorem next_at (c : Dev nD) (t : Fin cfg0.N) :
    (outsAt0 m c t.val t.isLt).2.2.2 = stacked (nextH (X0_0 m c t) (iblk m c 1 t) (iblk m c 2 t) (iblk m c 4 t) (found m c t)) := by
  funext y
  by_cases h0 : t.val % 66 = 0
  case' pos =>
    rw [outsAt0_A m c t h0, found, if_pos h0]
    frame_open
    simp (disch := decide) only [↓ View.readCov_skip, ↓ View.readCov_cons_toLoadRect, ↓ View.readCov_fill]
    frame_out
    generalize k0_pay2 (F := Ideal) = z
  case' neg =>
    rw [outsAt0_B m c t h0, found, if_neg h0]
    frame_out
    simp only [read_unread_whole]
    generalize (outsAt0 m c (t.val - 1) _).2.2.2 = z
  all_goals
    generalize X0_0 m c t = x0, iblk m c 1 t = x1, iblk m c 2 t = x2, iblk m c 3 t = x3, iblk m c 4 t = x4
    refine View.canon_append_of_pieces (Val := Elt Ideal) (stacked (nextH x0 x1 x2 x4 z)) _ [_, _, _, _] ?_ y (View.cover_of_tiledL (s := S4x256x512) _ S1x256x512.size (by sl_kernel_rfl) y)
    simp only [List.mem_cons, List.not_mem_nil, or_false, forall_eq_or_imp, forall_eq]
    simp only [q0, k0, q1, k1, q2, k2, q3, k3, next0, next1, next2, next3, ld_half, ld_wide, ld_plane, ld_column, ld_single, ld_held]
    exact ⟨fun x => (congrFun (nextH_eq (k := 3) x0 x1 x2 x4 z rfl rfl rfl ) x).trans (stacked_emb (nextH x0 x1 x2 x4 z) ⟨3, by decide⟩ 3 rfl _ x).symm,
      fun x => (congrFun (nextH_eq (k := 2) x0 x1 x2 x4 z rfl rfl rfl ) x).trans (stacked_emb (nextH x0 x1 x2 x4 z) ⟨2, by decide⟩ 2 rfl _ x).symm,
      fun x => (congrFun (nextH_eq (k := 1) x0 x1 x2 x4 z rfl rfl rfl ) x).trans (stacked_emb (nextH x0 x1 x2 x4 z) ⟨1, by decide⟩ 1 rfl _ x).symm,
      fun x => (congrFun (nextH_eq (k := 0) x0 x1 x2 x4 z rfl rfl rfl ) x).trans (stacked_emb (nextH x0 x1 x2 x4 z) ⟨0, by decide⟩ 0 rfl _ x).symm⟩

end Cert.RetIdeal.Visit

end
-- ==== Proof.RetReference.lean ====
module

public import proofs.«01_k».proof.Proof.Gen.RetRefIdeal.StepRun
public import Idealize.ShloMosaic.Lib.Pointwise
public import Idealize.ShloMosaic.Lib.DynamicIndex

/-! # The chunkwise retention of the reference, entry by entry

One trip of its scan, what the trips before have left, and the rows it starts from: the projections by heads, behind 112 rows of nothing,
turned by their positions. -/

@[expose] public section
set_option maxRecDepth 16384

noncomputable section

namespace Cert.RetRefIdeal.Step

open Idealize.ShloMosaic Cert.RetRefIdeal Cert.RetRefIdeal.Gen

section Trip
variable (s : State Ideal) (n : ℕ) (hn : n < 65)

theorem starts4 (start : Fin 4 → Int) (h0 : start 0 = n) (h1 : start 1 = 0) (h2 : start 2 = 0) (h3 : start 3 = 0) :
    ∀ a, start a = ((![n, 0, 0, 0] : Fin 4 → ℕ) a : Int) := by
  intro a; fin_cases a <;> simp [h0, h1, h2, h3]

/-- The chunk a trip takes. -/
theorem chunk_256 (x : S65x4x128x256.Idx → EReal) (start : Fin 4 → Int) (w) (h0 : start 0 = n) (h1 : start 1 = 0) (h2 : start 2 = 0) (h3 : start 3 = 0)
    (h : Fin 4) (r : Fin 128) (d : Fin 256) : Host.dynamicSlice S1x4x128x256 x start w (ix4 0 h r d) = x (ix4 ⟨n, hn⟩ h r d) := by
  rw [Host.dynamicSlice_eq_extractStridedSlice S1x4x128x256 x start ![n, 0, 0, 0] w ⟨rfl, fun a => by fin_cases a <;> simp <;> omega⟩ (starts4 n start h0 h1 h2 h3)]
  refine congrArg x (funext fun a => Fin.ext ?_)
  fin_cases a
  · exact Nat.add_zero n
  · exact Nat.zero_add _
  · exact Nat.zero_add _
  · exact Nat.zero_add _

theorem chunk_512 (x : S65x4x128x512.Idx → EReal) (start : Fin 4 → Int) (w) (h0 : start 0 = n) (h1 : start 1 = 0) (h2 : start 2 = 0) (h3 : start 3 = 0)
    (h : Fin 4) (r : Fin 128) (d : Fin 512) : Host.dynamicSlice S1x4x128x512 x start w (ix4 0 h r d) = x (ix4 ⟨n, hn⟩ h r d) := by
  rw [Host.dynamicSlice_eq_extractStridedSlice S1x4x128x512 x start ![n, 0, 0, 0] w ⟨rfl, fun a => by fin_cases a <;> simp <;> omega⟩ (starts4 n start h0 h1 h2 h3)]
  refine congrArg x (funext fun a => Fin.ext ?_)
  fin_cases a
  · exact Nat.add_zero n
  · exact Nat.zero_add _
  · exact Nat.zero_add _
  · exact Nat.zero_add _

theorem mark_row (x : S65x65.Idx → BitVec 1) (start : Fin 2 → Int) (w) (h0 : start 0 = n) (h1 : start 1 = 0) (g : Fin 65) :
    Host.dynamicSlice S1x65 x start w (ix2 0 g) = x (ix2 ⟨n, hn⟩ g) := by
  rw [Host.dynamicSlice_eq_extractStridedSlice S1x65 x start ![n, 0] w ⟨rfl, fun a => by fin_cases a <;> simp <;> omega⟩ (by
    intro a; fin_cases a
    · exact h0
    · exact h1)]
  refine congrArg x (funext fun a => Fin.ext ?_)
  fin_cases a
  · exact Nat.add_zero n
  · exact Nat.zero_add _

theorem number (hn : n < 65) : (BitVec.ofNat 32 n).toInt = n := toInt_ofNat_of_lt (by omega)

theorem query_at (h : Fin 4) (r : Fin 128) (d : Fin 256) : b7 n s (ix3 h r d) = s.main_v139_1 (ix4 ⟨n, hn⟩ h r d) := by
  pointwise [b7]
  unfold b6
  exact chunk_256 n hn s.main_v139_1 _ _ (number n hn) rfl rfl rfl h r d
theorem key_at (h : Fin 4) (r : Fin 128) (d : Fin 256) : b12 n s (ix3 h r d) = s.main_v139_2 (ix4 ⟨n, hn⟩ h r d) := by
  pointwise [b12]
  unfold b11
  exact chunk_256 n hn s.main_v139_2 _ _ (number n hn) rfl rfl rfl h r d
theorem value_at (h : Fin 4) (r : Fin 128) (d : Fin 512) : b17 n s (ix3 h r d) = s.main_v139_3 (ix4 ⟨n, hn⟩ h r d) := by
  pointwise [b17]
  unfold b16
  exact chunk_512 n hn s.main_v139_3 _ _ (number n hn) rfl rfl rfl h r d

/-- The state after. -/
theorem state_at (h : Fin 4) (d : Fin 256) (e : Fin 512) : b38 n s (ix3 h d e)
    = K_main_v122 (ix3 h 0 0) * s.main_v139_9 (ix3 h d e)
      + ∑ x, s.main_v139_2 (ix4 ⟨n, hn⟩ h x d) * (s.main_v139_3 (ix4 ⟨n, hn⟩ h x e) * K_main_v109 (ix3 h x 0)) := by
  pointwise [b38, b34, b33, b37, b36, b35]
  simp only [key_at s n hn, value_at s n hn]

/-- The rows. -/
theorem rows_at (h : Fin 4) (r : Fin 128) (e : Fin 512) : b25 n s (ix3 h r e)
    = (∑ x, (∑ d, s.main_v139_1 (ix4 ⟨n, hn⟩ h r d) * s.main_v139_2 (ix4 ⟨n, hn⟩ h x d)) * K_main_v100 (ix3 h r x) * s.main_v139_3 (ix4 ⟨n, hn⟩ h x e))
      + (∑ d, s.main_v139_1 (ix4 ⟨n, hn⟩ h r d) * s.main_v139_9 (ix3 h d e)) * K_main_v118 (ix3 h r 0) := by
  pointwise [b25, b20, b19, b18, b23, b22, b21]
  simp only [query_at s n hn, key_at s n hn, value_at s n hn]

/-- Whose turn it is. -/
theorem turn_at (hn : n < 65) (g : Fin 65) : b2 n s (ix1 g) = IntOp.cmpi .eq (BitVec.ofNat 32 n) (BitVec.ofNat 32 g.val) := by
  pointwise [b2]
  unfold b1
  refine (mark_row n hn K_main_v138 _ _ (number n hn) rfl g).trans ?_
  pointwise [K_main_v138, K_main_v137, K_main_v136, K_main_v135, K_main_v134, K_main_v133, K_main_v132]

theorem select_mine {α : Type} (x y : α) : Scalar.select (IntOp.cmpi .eq (BitVec.ofNat 32 n) (BitVec.ofNat 32 n)) x y = x := by
  simp [Scalar.select, IntOp.cmpi]
theorem select_other {α : Type} (hn : n < 65) (g : ℕ) (hg : g < 65) (ne : g ≠ n) (x y : α) :
    Scalar.select (IntOp.cmpi .eq (BitVec.ofNat 32 n) (BitVec.ofNat 32 g)) x y = y := by
  have e : ¬ BitVec.ofNat 32 n = BitVec.ofNat 32 g := fun e => ne (by
    have := congrArg BitVec.toNat e
    simp only [BitVec.toNat_ofNat] at this
    omega)
  have e' : (BitVec.ofNat 32 n == BitVec.ofNat 32 g) = false := beq_eq_false_iff_ne.mpr e
  simp [Scalar.select, IntOp.cmpi, e']

/-- A trip writes its own chunk's rows, and the state it found, and leaves the others. -/
theorem rows_mine (h : Fin 4) (r : Fin 128) (e : Fin 512) : b28 n s (ix4 ⟨n, hn⟩ h r e) = b25 n s (ix3 h r e) := by
  pointwise [b28, b27, b26, b24]
  rw [turn_at s n hn, select_mine]
theorem rows_other (hn : n < 65) (g : Fin 65) (ne : g.val ≠ n) (h : Fin 4) (r : Fin 128) (e : Fin 512) : b28 n s (ix4 g h r e) = s.main_v139_10 (ix4 g h r e) := by
  pointwise [b28, b27, b26, b24]
  rw [turn_at s n hn, select_other n hn g.val g.isLt ne]
theorem kept_mine (h : Fin 4) (r : Fin 256) (e : Fin 512) : b32 n s (ix4 ⟨n, hn⟩ h r e) = s.main_v139_9 (ix3 h r e) := by
  pointwise [b32, b31, b30, b29]
  rw [turn_at s n hn, select_mine]
theorem kept_other (hn : n < 65) (g : Fin 65) (ne : g.val ≠ n) (h : Fin 4) (r : Fin 256) (e : Fin 512) : b32 n s (ix4 g h r e) = s.main_v139_11 (ix4 g h r e) := by
  pointwise [b32, b31, b30, b29]
  rw [turn_at s n hn, select_other n hn g.val g.isLt ne]

end Trip

section Trips
variable (a0 a1 : (⟨S8208x1024, .bf16⟩ : BufTy).Contents (Elt Ideal)) (a2 : (⟨S8208x2048, .bf16⟩ : BufTy).Contents (Elt Ideal))

/-- The trips, from the start. -/
def trips : ℕ → State Ideal
  | 0 => init a0 a1 a2
  | n + 1 => step n (trips n)

theorem trips_query (n : ℕ) : (trips a0 a1 a2 n).main_v139_1 = A_main_v124 a0 a1 a2 := by
  induction n with
  | zero => rfl
  | succ n ih => exact ih
theorem trips_key (n : ℕ) : (trips a0 a1 a2 n).main_v139_2 = A_main_v126 a0 a1 a2 := by
  induction n with
  | zero => rfl
  | succ n ih => exact ih
theorem trips_value (n : ℕ) : (trips a0 a1 a2 n).main_v139_3 = A_main_v128 a0 a1 a2 := by
  induction n with
  | zero => rfl
  | succ n ih => exact ih

/-- A chunk's rows stand after its trip, and so does the state it found. -/
theorem trips_rows (N : ℕ) (hN : N ≤ 65) (g : Fin 65) (hg : g.val < N) (h : Fin 4) (r : Fin 128) (e : Fin 512) :
    (trips a0 a1 a2 N).main_v139_10 (ix4 g h r e) = b25 g.val (trips a0 a1 a2 g.val) (ix3 h r e) := by
  induction N with
  | zero => exact absurd hg (Nat.not_lt_zero _)
  | succ n ih =>
    by_cases eq : g.val = n
    · subst eq
      exact rows_mine _ _ g.isLt h r e
    · exact (rows_other _ n (by omega) g eq h r e).trans (ih (by omega) (by omega))
theorem trips_kept (N : ℕ) (hN : N ≤ 65) (g : Fin 65) (hg : g.val < N) (h : Fin 4) (r : Fin 256) (e : Fin 512) :
    (trips a0 a1 a2 N).main_v139_11 (ix4 g h r e) = (trips a0 a1 a2 g.val).main_v139_9 (ix3 h r e) := by
  induction N with
  | zero => exact absurd hg (Nat.not_lt_zero _)
  | succ n ih =>
    by_cases eq : g.val = n
    · subst eq
      exact kept_mine _ _ g.isLt h r e
    · exact (kept_other _ n (by omega) g eq h r e).trans (ih (by omega) (by omega))

/-- What the first trip finds. -/
theorem trips_start (i : S4x256x512.Idx) : (trips a0 a1 a2 0).main_v139_9 i = (0 : EReal) := by
  show K_main_v129 i = _
  pointwise [K_main_v129, K_main_cst_15]

end Trips
end Cert.RetRefIdeal.Step
end
-- ==== Proof.RetArrays.lean ====
module

public import proofs.«01_k».proof.Proof.RetReference
public import Idealize.ShloMosaic.Lib.KernelVsHost

/-! # Retention, the plain program: what its arrays hold

Every chunk of queries and keys is the projection turned by the angles of its places, every chunk of values the projection itself; 112 rows
of nothing stand in front of the sequence. -/

@[expose] public section
set_option maxHeartbeats 4000000

namespace Cert.RetRefIdeal.Step

open Idealize.ShloMosaic RetRefIdeal RetRefIdeal.Gen Finset

noncomputable section

variable (a0 a1 : (⟨S8208x1024, .bf16⟩ : BufTy).Contents (Elt Ideal)) (a2 : (⟨S8208x2048, .bf16⟩ : BufTy).Contents (Elt Ideal))

/-- An entry of a projection at a place of the padded sequence; nothing before the sequence begins. -/
def entry {w : ℕ} (x : (⟨2, ![8208, w]⟩ : Shape).Idx → EReal) (front p l : ℕ) : EReal :=
  if h : (front ≤ p ∧ p - front < 8208) ∧ l < w then x (ix2 ⟨p - front, h.1.2⟩ ⟨l, h.2⟩) else 0

theorem entry_eq {w : ℕ} (x : (⟨2, ![8208, w]⟩ : Shape).Idx → EReal) (front p l : ℕ) (hl : l < w) :
    entry x front p l = if h : front ≤ p ∧ p - front < 8208 then x (ix2 ⟨p - front, h.2⟩ ⟨l, hl⟩) else 0 := by
  unfold entry
  by_cases h : front ≤ p ∧ p - front < 8208
  · rw [dif_pos ⟨h, hl⟩, dif_pos h]
  · rw [dif_neg (fun a => h a.1), dif_neg h]

/-- The angle a place turns by. -/
def angle (before : BitVec 32) (p : ℕ) (j : Fin 128) : EReal :=
  (FloatOps.sitofp (F := Ideal) FTy.f32 (BitVec.ofNat 32 p) - Ideal.ofBits .f32 before)
    * Ideal.pow (Ideal.ofBits .f32 0x461C4000#32) (Ideal.div (-FloatOps.sitofp (F := Ideal) FTy.f32 (BitVec.ofNat 32 j.val)) (Ideal.ofBits .f32 0x43000000#32))

/-- A row turned by its position. -/
def turned (x : ℕ → EReal) (c s : Fin 128 → EReal) (d : Fin 256) : EReal :=
  if h : d.val < 128 then x d.val * c ⟨d.val, h⟩ - x (d.val + 128) * s ⟨d.val, h⟩
  else x (d.val - 128) * s ⟨d.val - 128, by omega⟩ + x d.val * c ⟨d.val - 128, by omega⟩

theorem cos_q (h : Fin 4) (p : Fin 8320) (j : Fin 128) : K_main_v23 (F := Ideal) (ix3 h p j) = Ideal.cos (angle 0x42E00000#32 p.val j) := by
  pointwise [K_main_v23, K_main_v22, K_main_v18, K_main_v17, K_main_v16, K_main_v15, K_main_v14, K_main_v13, K_main_v12, K_main_v11, K_main_cst_1, K_main_v10, K_main_v9, K_main_cst_0, K_main_v8, K_main_v7, K_main_v2, K_main_v1, K_main_v0, K_main_cst, angle]
theorem sin_q (h : Fin 4) (p : Fin 8320) (j : Fin 128) : K_main_v26 (F := Ideal) (ix3 h p j) = Ideal.sin (angle 0x42E00000#32 p.val j) := by
  pointwise [K_main_v26, K_main_v25, K_main_v19, K_main_v17, K_main_v16, K_main_v15, K_main_v14, K_main_v13, K_main_v12, K_main_v11, K_main_cst_1, K_main_v10, K_main_v9, K_main_cst_0, K_main_v8, K_main_v7, K_main_v2, K_main_v1, K_main_v0, K_main_cst, angle]
theorem sin_q2 (h : Fin 4) (p : Fin 8320) (j : Fin 128) : K_main_v30 (F := Ideal) (ix3 h p j) = Ideal.sin (angle 0x42E00000#32 p.val j) := by
  pointwise [K_main_v30, K_main_v29, K_main_v19, K_main_v17, K_main_v16, K_main_v15, K_main_v14, K_main_v13, K_main_v12, K_main_v11, K_main_cst_1, K_main_v10, K_main_v9, K_main_cst_0, K_main_v8, K_main_v7, K_main_v2, K_main_v1, K_main_v0, K_main_cst, angle]
theorem cos_q2 (h : Fin 4) (p : Fin 8320) (j : Fin 128) : K_main_v33 (F := Ideal) (ix3 h p j) = Ideal.cos (angle 0x42E00000#32 p.val j) := by
  pointwise [K_main_v33, K_main_v32, K_main_v18, K_main_v17, K_main_v16, K_main_v15, K_main_v14, K_main_v13, K_main_v12, K_main_v11, K_main_cst_1, K_main_v10, K_main_v9, K_main_cst_0, K_main_v8, K_main_v7, K_main_v2, K_main_v1, K_main_v0, K_main_cst, angle]
theorem cos_k (h : Fin 4) (p : Fin 8320) (j : Fin 128) : K_main_v59 (F := Ideal) (ix3 h p j) = Ideal.cos (angle 0x42E00000#32 p.val j) := by
  pointwise [K_main_v59, K_main_v58, K_main_v54, K_main_v53, K_main_v52, K_main_v51, K_main_v50, K_main_v49, K_main_v48, K_main_v47, K_main_cst_5, K_main_v46, K_main_v45, K_main_cst_4, K_main_v44, K_main_v43, K_main_v2, K_main_v1, K_main_v0, K_main_cst, angle]
theorem sin_k (h : Fin 4) (p : Fin 8320) (j : Fin 128) : K_main_v62 (F := Ideal) (ix3 h p j) = Ideal.sin (angle 0x42E00000#32 p.val j) := by
  pointwise [K_main_v62, K_main_v61, K_main_v55, K_main_v53, K_main_v52, K_main_v51, K_main_v50, K_main_v49, K_main_v48, K_main_v47, K_main_cst_5, K_main_v46, K_main_v45, K_main_cst_4, K_main_v44, K_main_v43, K_main_v2, K_main_v1, K_main_v0, K_main_cst, angle]
theorem sin_k2 (h : Fin 4) (p : Fin 8320) (j : Fin 128) : K_main_v66 (F := Ideal) (ix3 h p j) = Ideal.sin (angle 0x42E00000#32 p.val j) := by
  pointwise [K_main_v66, K_main_v65, K_main_v55, K_main_v53, K_main_v52, K_main_v51, K_main_v50, K_main_v49, K_main_v48, K_main_v47, K_main_cst_5, K_main_v46, K_main_v45, K_main_cst_4, K_main_v44, K_main_v43, K_main_v2, K_main_v1, K_main_v0, K_main_cst, angle]
theorem cos_k2 (h : Fin 4) (p : Fin 8320) (j : Fin 128) : K_main_v69 (F := Ideal) (ix3 h p j) = Ideal.cos (angle 0x42E00000#32 p.val j) := by
  pointwise [K_main_v69, K_main_v68, K_main_v54, K_main_v53, K_main_v52, K_main_v51, K_main_v50, K_main_v49, K_main_v48, K_main_v47, K_main_cst_5, K_main_v46, K_main_v45, K_main_cst_4, K_main_v44, K_main_v43, K_main_v2, K_main_v1, K_main_v0, K_main_cst, angle]

theorem nothing (φ : FTy) : FloatOps.sitofp (F := Ideal) φ (0#32) = (0 : EReal) := sitofp_zero (φ := φ)

theorem q_half (h : Fin 4) (p : Fin 8320) (j : Fin 256) : A_main_v6 (F := Ideal) a0 a1 a2 (ix3 h p j) = entry a0 112 p.val (256 * h.val + j.val) := by
  rw [entry_eq a0 112 p.val (256 * h.val + j.val) (by omega)]
  pointwise [A_main_v6, A_main_v5, A_main_v4, A_main_v3, K_main_call0_v0, K_main_c]
  rw [nothing]
  simp only [Nat.mul_comm h.val 256]

theorem k_half (h : Fin 4) (p : Fin 8320) (j : Fin 256) : A_main_v42 (F := Ideal) a0 a1 a2 (ix3 h p j) = entry a1 112 p.val (256 * h.val + j.val) := by
  rw [entry_eq a1 112 p.val (256 * h.val + j.val) (by omega)]
  pointwise [A_main_v42, A_main_v41, A_main_v40, A_main_v39, K_main_call1_v0, K_main_c_3]
  rw [nothing]
  simp only [Nat.mul_comm h.val 256]

theorem v_half (h : Fin 4) (p : Fin 8320) (j : Fin 512) : A_main_v76 (F := Ideal) a0 a1 a2 (ix3 h p j) = entry a2 112 p.val (512 * h.val + j.val) := by
  rw [entry_eq a2 112 p.val (512 * h.val + j.val) (by omega)]
  pointwise [A_main_v76, A_main_v75, A_main_v74, A_main_v73, K_main_call2_v0, K_main_c_6]
  rw [nothing]
  simp only [Nat.mul_comm h.val 512]

theorem query_entry (g : Fin 65) (h : Fin 4) (r : Fin 128) (d : Fin 256) : A_main_v124 a0 a1 a2 (ix4 g h r d)
    = turned (fun l => entry a0 112 (128 * g.val + r.val) (256 * h.val + l)) (fun j => Ideal.cos (angle 0x42E00000#32 (128 * g.val + r.val) j))
      (fun j => Ideal.sin (angle 0x42E00000#32 (128 * g.val + r.val) j)) d * Ideal.ofBits .f32 0x3D800000#32 := by
  pointwise [A_main_v124, A_main_v123, A_main_v38, A_main_v36, A_main_v35, A_main_v34, A_main_v31, A_main_v28, A_main_v27, A_main_v24, A_main_v20, A_main_v21, K_main_v37, K_main_cst_2]
  refine congrArg (fun x : EReal => x * Ideal.ofBits .f32 0x3D800000#32) ?_
  simp only [q_half, cos_q, sin_q, cos_q2, sin_q2, Nat.mul_comm g.val 128]
  unfold turned
  by_cases hd : d.val < 128
  · simp only [dif_pos hd, Nat.add_comm 128 d.val]
  · simp only [dif_neg hd, Nat.add_sub_cancel' (Nat.le_of_not_lt hd)]

theorem key_entry (g : Fin 65) (h : Fin 4) (r : Fin 128) (d : Fin 256) : A_main_v126 a0 a1 a2 (ix4 g h r d)
    = turned (fun l => entry a1 112 (128 * g.val + r.val) (256 * h.val + l)) (fun j => Ideal.cos (angle 0x42E00000#32 (128 * g.val + r.val) j))
      (fun j => Ideal.sin (angle 0x42E00000#32 (128 * g.val + r.val) j)) d := by
  pointwise [A_main_v126, A_main_v125, A_main_v72, A_main_v71, A_main_v70, A_main_v67, A_main_v64, A_main_v63, A_main_v60, A_main_v56, A_main_v57]
  simp only [k_half, cos_k, sin_k, cos_k2, sin_k2, Nat.mul_comm g.val 128]
  unfold turned
  by_cases hd : d.val < 128
  · simp only [dif_pos hd, Nat.add_comm 128 d.val]
  · simp only [dif_neg hd, Nat.add_sub_cancel' (Nat.le_of_not_lt hd)]

theorem value_entry (g : Fin 65) (h : Fin 4) (r : Fin 128) (e : Fin 512) : A_main_v128 a0 a1 a2 (ix4 g h r e)
    = entry a2 112 (128 * g.val + r.val) (512 * h.val + e.val) := by
  pointwise [A_main_v128, A_main_v127]
  simp only [v_half, Nat.mul_comm g.val 128]

end

end Cert.RetRefIdeal.Step
-- ==== Proof.RetHost.lean ====
module

public import proofs.«01_k».proof.Proof.RetBlocks
public import proofs.«01_k».proof.Proof.RetArrays
public import Idealize.ShloMosaic.Lib.Tactic
public import Idealize.ShloMosaic.Lib.StableHlo.ReadAt
public import Idealize.ShloMosaic.Lib.Pointwise
public import Idealize.ShloMosaic.Lib.Pipeline.ValueKit

@[expose] public section
set_option maxHeartbeats 4000000
set_option maxRecDepth 16384

noncomputable section

open Idealize.ShloMosaic Idealize.ShloMosaic.TcCoe Idealize.SL.Sem
open Idealize.ShloMosaic.Pipeline (Dat)

namespace Cert.RetIdeal.Visit

open Cert.RetIdeal Cert.RetIdeal.Gen
open Cert.RetRefIdeal.Step

variable (m : (ℓ : Loc nD τ sig) → Buf (Elt Ideal) ℓ) (c : Dev nD)

theorem projection_eq : V m c main_v1 = pad S8448x11264 ![240, 0] ![0, 5120] ![0, 0]
    (concatenate S8208x6144 1 [⟨S8208x1024, m (c, Proc.tc.devRef main_arg0)⟩, ⟨S8208x1024, m (c, Proc.tc.devRef main_arg1)⟩,
      ⟨S8208x2048, m (c, Proc.tc.devRef main_arg2)⟩, ⟨S8208x2048, m (c, Proc.tc.devRef main_arg3)⟩] concatenates_S8208x1024_S8208x1024_S8208x2048_S8208x2048_S8208x6144_d1)
    (sitofp (F := Ideal) .bf16 (constantI S_ 32 0#32)) pads_S8208x6144_S8448x11264_24000_051200 h_S_ := by
  simp only [V, List.flatten_cons, List.flatten_nil, List.append_nil, List.cons_append, List.nil_append]
  entry_read
  simp only [StableHlo.TRef.ofBuf_toBuf]
  rfl

theorem decay_eq : V m c main_v41 = Cert.RetRefIdeal.Step.K_main_v100 := by
  simp only [V, List.flatten_cons, List.flatten_nil, List.append_nil, List.cons_append, List.nil_append]
  entry_read
  simp only [StableHlo.TRef.ofBuf_toBuf]
  rfl

theorem cos_at (R : Fin 8448) (j : Fin 128) : V m c main_v16 (ix2 R j) = Ideal.cos (angle 0x43700000#32 R.val j) := by
  simp only [V, List.flatten_cons, List.flatten_nil, List.append_nil, List.cons_append, List.nil_append]
  entry_read
  pointwise [angle]

theorem sin_at (R : Fin 8448) (j : Fin 128) : V m c main_v17 (ix2 R j) = Ideal.sin (angle 0x43700000#32 R.val j) := by
  simp only [V, List.flatten_cons, List.flatten_nil, List.append_nil, List.cons_append, List.nil_append]
  entry_read
  pointwise [angle]

theorem query_part (R : Fin 8448) (l : ℕ) (hl : l < 1024) : V m c main_v1 (ix2 R ⟨l, by omega⟩)
    = entry (m (c, Proc.tc.devRef main_arg0)) 240 R.val l := by
  rw [projection_eq, entry_eq _ 240 R.val l hl]
  pointwise []
  rw [nothing]
  by_cases h : 240 ≤ R.val ∧ R.val - 240 < 8208
  · rw [dif_pos ⟨h, by omega⟩, dif_pos (by omega), dif_pos h]
    try exact congrArg (fun k => m (c, Proc.tc.devRef main_arg0) (ix2 _ k)) (Fin.ext (by simp; try omega))
  · rw [dif_neg (fun a => h a.1), dif_neg h]

theorem key_part (R : Fin 8448) (l : ℕ) (hl : l < 1024) : V m c main_v1 (ix2 R ⟨1024 + l, by omega⟩)
    = entry (m (c, Proc.tc.devRef main_arg1)) 240 R.val l := by
  rw [projection_eq, entry_eq _ 240 R.val l hl]
  pointwise []
  rw [nothing]
  by_cases h : 240 ≤ R.val ∧ R.val - 240 < 8208
  · rw [dif_pos ⟨h, by omega⟩, dif_pos (by omega), dif_pos h]
    try exact congrArg (fun k => m (c, Proc.tc.devRef main_arg1) (ix2 _ k)) (Fin.ext (by simp; try omega))
  · rw [dif_neg (fun a => h a.1), dif_neg h]

theorem value_part (R : Fin 8448) (l : ℕ) (hl : l < 2048) : V m c main_v1 (ix2 R ⟨2048 + l, by omega⟩)
    = entry (m (c, Proc.tc.devRef main_arg2)) 240 R.val l := by
  rw [projection_eq, entry_eq _ 240 R.val l hl]
  pointwise []
  rw [nothing]
  by_cases h : 240 ≤ R.val ∧ R.val - 240 < 8208
  · rw [dif_pos ⟨h, by omega⟩, dif_neg (by omega), dif_neg (by omega), dif_pos (by omega), dif_pos h]
    try exact congrArg (fun k => m (c, Proc.tc.devRef main_arg2) (ix2 _ k)) (Fin.ext (by simp; try omega))
  · rw [dif_neg (fun a => h a.1), dif_neg h]

theorem gate_part (R : Fin 8448) (l : ℕ) (hl : l < 2048) : V m c main_v1 (ix2 R ⟨4096 + l, by omega⟩)
    = entry (m (c, Proc.tc.devRef main_arg3)) 240 R.val l := by
  rw [projection_eq, entry_eq _ 240 R.val l hl]
  pointwise []
  rw [nothing]
  by_cases h : 240 ≤ R.val ∧ R.val - 240 < 8208
  · rw [dif_pos ⟨h, by omega⟩, dif_neg (by omega), dif_neg (by omega), dif_neg (by omega), dif_pos h]
    try exact congrArg (fun k => m (c, Proc.tc.devRef main_arg3) (ix2 _ k)) (Fin.ext (by simp; try omega))
  · rw [dif_neg (fun a => h a.1), dif_neg h]

theorem coef_0 (h : Fin 4) (r : Fin 128) : V m c main_v200 (ix3 h r 0) = K_main_v118 (F := Ideal) (ix3 h r 0) := by
  unfold V
  after_reads_at
  rw [StableHlo.nary_result']
  pointwise []
  after_reads_at
  pointwise [K_main_v118, K_main_v117, K_main_v116, K_main_v114, K_main_v110, K_main_v83, K_main_v82, K_main_v81, K_main_v80, K_main_cst_8, K_main_v79, K_main_v78, K_main_cst_7, K_main_v77, K_main_v115, K_main_v113, K_main_v112, K_main_v84, K_main_v111, K_main_cst_13]

theorem coef_1 (h : Fin 4) (r : Fin 128) : V m c main_v200 (ix3 h r 1) = K_main_v109 (F := Ideal) (ix3 h r 0) := by
  unfold V
  after_reads_at
  rw [StableHlo.nary_result']
  pointwise []
  after_reads_at
  pointwise [K_main_v109, K_main_v108, K_main_v107, K_main_v105, K_main_v101, K_main_v83, K_main_v82, K_main_v81, K_main_v80, K_main_cst_8, K_main_v79, K_main_v78, K_main_cst_7, K_main_v77, K_main_v106, K_main_v104, K_main_v103, K_main_v102, K_main_cst_12, K_main_v84]

theorem coef_2 (h : Fin 4) (r : Fin 128) : V m c main_v200 (ix3 h 0 2) = K_main_v122 (F := Ideal) (ix3 h 0 0) := by
  unfold V
  after_reads_at
  rw [StableHlo.nary_result']
  pointwise []
  after_reads_at
  pointwise [K_main_v122, K_main_v121, K_main_v120, K_main_v83, K_main_v82, K_main_v81, K_main_v80, K_main_cst_8, K_main_v79, K_main_v78, K_main_cst_7, K_main_v77, K_main_v119, K_main_cst_14]

theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![t.val, 0] ∧ win0_6.index t = ![t.val, 0]
    ∧ win0_7.index t = ![t.val, 0, 0, 0] :=
  (by decide +kernel : ∀ t : Fin grid0.N, win0_0.index t = ![t.val, 0] ∧ win0_1.index t = ![t.val, 0] ∧ win0_2.index t = ![t.val, 0]
    ∧ win0_3.index t = ![0, 0, 0] ∧ win0_4.index t = ![0, 0, 0] ∧ win0_5.index t = ![t.val, 0] ∧ win0_6.index t = ![t.val, 0]
    ∧ win0_7.index t = ![t.val, 0, 0, 0])

theorem points (t : Fin cfg0.N) : t.val < 66 := t.isLt

theorem X_at (t : Fin cfg0.N) (r : Fin 128) (l : Fin 6144) : X0_0 m c t (ix2 r l)
    = V m c main_v1 (ix2 ⟨128 * t.val + r.val, by have := points t; omega⟩ ⟨l.val, by omega⟩) := by
  obtain ⟨e0, e1, e2, e3, e4, e5, e6, e7⟩ := idx t
  unfold X0_0 Pipeline.Window.fill
  rw [dif_pos (moved0_0 t _)]
  blk_point [iblk, e0]

theorem cos_block (t : Fin cfg0.N) (r : Fin 128) (j : Fin 128) : iblk m c 1 t (ix2 r j) = Ideal.cos (angle 0x43700000#32 (128 * t.val + r.val) j) := by
  obtain ⟨e0, e1, e2, e3, e4, e5, e6, e7⟩ := idx t
  refine Eq.trans ?_ (cos_at m c ⟨128 * t.val + r.val, by have := points t; omega⟩ j)
  blk_point [iblk, e1]

theorem sin_block (t : Fin cfg0.N) (r : Fin 128) (j : Fin 128) : iblk m c 2 t (ix2 r j) = Ideal.sin (angle 0x43700000#32 (128 * t.val + r.val) j) := by
  obtain ⟨e0, e1, e2, e3, e4, e5, e6, e7⟩ := idx t
  refine Eq.trans ?_ (sin_at m c ⟨128 * t.val + r.val, by have := points t; omega⟩ j)
  blk_point [iblk, e2]

theorem decay_block (t : Fin cfg0.N) (h : Fin 4) (r x : Fin 128) : iblk m c 3 t (ix3 h r x) = K_main_v100 (F := Ideal) (ix3 h r x) := by
  obtain ⟨e0, e1, e2, e3, e4, e5, e6, e7⟩ := idx t
  rw [← decay_eq m c]
  blk_point [iblk, e3]

theorem coef_block (t : Fin cfg0.N) (h : Fin 4) (r x : Fin 128) : iblk m c 4 t (ix3 h r x) = V m c main_v200 (ix3 h r x) := by
  obtain ⟨e0, e1, e2, e3, e4, e5, e6, e7⟩ := idx t
  blk_point [iblk, e4]

end Cert.RetIdeal.Visit
-- ==== Proof.RetWalk.lean ====
module

public import proofs.«01_k».proof.Proof.RetHost
public import proofs.«01_k».proof.Proof.Norm

/-! # Retention: the kernel's visits and the trips of the plain scan

Visit `n + 1` of the kernel sees the places that chunk `n` of the plain scan holds, turned by the same angles, and finds the state that the
trips before `n` have left. The first visit sees only places in front of the sequence: its rows and its state are zero. -/

@[expose] public section
set_option maxHeartbeats 4000000
set_option maxRecDepth 16384

noncomputable section

open Idealize.ShloMosaic Idealize.ShloMosaic.TcCoe Idealize.SL.Sem Finset

namespace Cert.RetIdeal.Visit

open Cert.RetIdeal Cert.RetIdeal.Gen Cert.RetIdeal.Head Cert.RetRefIdeal.Step

theorem place (n : ℕ) (hn : n < 2 ^ 31) : FloatOps.sitofp (F := Ideal) FTy.f32 (BitVec.ofNat 32 n) = ((n : ℝ) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]
  simp

theorem ofBits_240 : Ideal.ofBits .f32 0x43700000#32 = ((240 : ℝ) : EReal) := by
  simp [Ideal.ofBits, Ideal.ieee, -EReal.coe_mul]; norm_num
theorem ofBits_112 : Ideal.ofBits .f32 0x42E00000#32 = ((112 : ℝ) : EReal) := by
  simp [Ideal.ofBits, Ideal.ieee, -EReal.coe_mul]; norm_num

/-- A chunk further on and 128 more in front: the same angle, -/
theorem angle_shift (n r : ℕ) (h : n < 65) (hr : r < 128) (j : Fin 128) :
    angle 0x43700000#32 (128 * (n + 1) + r) j = angle 0x42E00000#32 (128 * n + r) j := by
  unfold angle
  rw [place (128 * (n + 1) + r) (by omega), place (128 * n + r) (by omega), ofBits_240, ofBits_112, ← EReal.coe_sub, ← EReal.coe_sub]
  refine congrArg (fun x : EReal => x * _) (congrArg Real.toEReal ?_)
  push_cast; ring
/-- and the same entry. -/
theorem entry_shift {w : ℕ} (x : (⟨2, ![8208, w]⟩ : Shape).Idx → EReal) (n r l : ℕ) : entry x 240 (128 * (n + 1) + r) l = entry x 112 (128 * n + r) l := by
  have e : 128 * (n + 1) + r - 240 = 128 * n + r - 112 := by omega
  unfold entry
  simp only [e, show (240 ≤ 128 * (n + 1) + r) = (112 ≤ 128 * n + r) from propext (by omega)]
theorem entry_front {w : ℕ} (x : (⟨2, ![8208, w]⟩ : Shape).Idx → EReal) (p l : ℕ) (h : p < 240) : entry x 240 p l = 0 := by
  unfold entry; rw [dif_neg (by omega)]

variable (m : (ℓ : Loc nD τ sig) → Buf (Elt Ideal) ℓ) (c : Dev nD)

/-- The four projections. -/
abbrev A0 : (⟨S8208x1024, .bf16⟩ : BufTy).Contents (Elt Ideal) := m (c, Proc.tc.devRef main_arg0)
abbrev A1 : (⟨S8208x1024, .bf16⟩ : BufTy).Contents (Elt Ideal) := m (c, Proc.tc.devRef main_arg1)
abbrev A2 : (⟨S8208x2048, .bf16⟩ : BufTy).Contents (Elt Ideal) := m (c, Proc.tc.devRef main_arg2)
abbrev A3 : (⟨S8208x2048, .bf16⟩ : BufTy).Contents (Elt Ideal) := m (c, Proc.tc.devRef main_arg3)

section
variable (t : Fin cfg0.N) (h : Fin 4) (r : Fin 128)

theorem query_column (n : ℕ) (hn : n + 128 ≤ 1024) (w) (j : Fin 128) : half (X0_0 m c t) n w (ix2 r j) = entry (A0 m c) 240 (128 * t.val + r.val) (n + j.val) :=
  (X_at m c t r ⟨n + j.val, by omega⟩).trans (query_part m c ⟨128 * t.val + r.val, by have := points t; omega⟩ (n + j.val) (by omega))
theorem key_column (n : ℕ) (hn : n + 128 ≤ 1024) (k : ℕ) (e : k = 1024 + n) (w) (j : Fin 128) :
    half (X0_0 m c t) k w (ix2 r j) = entry (A1 m c) 240 (128 * t.val + r.val) (n + j.val) := by
  subst e
  refine (X_at m c t r ⟨1024 + n + j.val, by omega⟩).trans (Eq.trans ?_ (key_part m c ⟨128 * t.val + r.val, by have := points t; omega⟩ (n + j.val) (by omega)))
  exact congrArg (fun l => V m c main_v1 (ix2 _ l)) (Fin.ext (Nat.add_assoc _ _ _))
theorem value_column (e : Fin 512) : vB (X0_0 m c t) h (ix2 r e) = entry (A2 m c) 240 (128 * t.val + r.val) (512 * h.val + e.val) := by
  refine (X_at m c t r ⟨2048 + 512 * h.val + e.val, by omega⟩).trans
    (Eq.trans ?_ (value_part m c ⟨128 * t.val + r.val, by have := points t; omega⟩ (512 * h.val + e.val) (by omega)))
  exact congrArg (fun l => V m c main_v1 (ix2 _ l)) (Fin.ext (Nat.add_assoc _ _ _))
theorem gate_column (e : Fin 512) : gB (X0_0 m c t) h (ix2 r e) = entry (A3 m c) 240 (128 * t.val + r.val) (512 * h.val + e.val) := by
  refine (X_at m c t r ⟨4096 + 512 * h.val + e.val, by omega⟩).trans
    (Eq.trans ?_ (gate_part m c ⟨128 * t.val + r.val, by have := points t; omega⟩ (512 * h.val + e.val) (by omega)))
  exact congrArg (fun l => V m c main_v1 (ix2 _ l)) (Fin.ext (Nat.add_assoc _ _ _))

theorem query_row (d : Fin 256) : qB (X0_0 m c t) (iblk m c 1 t) (iblk m c 2 t) h (ix2 r d)
    = turned (fun l => entry (A0 m c) 240 (128 * t.val + r.val) (256 * h.val + l)) (fun j => Ideal.cos (angle 0x43700000#32 (128 * t.val + r.val) j))
      (fun j => Ideal.sin (angle 0x43700000#32 (128 * t.val + r.val) j)) d * Ideal.ofBits .f32 0x3D800000#32 := by
  unfold qB turned
  rw [qR_apply]
  by_cases hd : d.val < 128
  · simp only [dif_pos hd]
    rw [query_column m c t r _ (by omega), query_column m c t r _ (by omega), cos_block, sin_block, show 256 * h.val + 128 + d.val = 256 * h.val + (d.val + 128) by omega]
  · simp only [dif_neg hd]
    rw [query_column m c t r _ (by omega), query_column m c t r _ (by omega), cos_block, sin_block]
    simp only [show 256 * h.val + 128 + (d.val - 128) = 256 * h.val + d.val by omega]
theorem key_row (d : Fin 256) : kB (X0_0 m c t) (iblk m c 1 t) (iblk m c 2 t) h (ix2 r d)
    = turned (fun l => entry (A1 m c) 240 (128 * t.val + r.val) (256 * h.val + l)) (fun j => Ideal.cos (angle 0x43700000#32 (128 * t.val + r.val) j))
      (fun j => Ideal.sin (angle 0x43700000#32 (128 * t.val + r.val) j)) d := by
  unfold kB turned
  rw [kR_apply]
  by_cases hd : d.val < 128
  · simp only [dif_pos hd]
    rw [key_column m c t r (256 * h.val) (by omega) _ rfl, key_column m c t r (256 * h.val + 128) (by omega) _ (by omega), cos_block, sin_block, show 256 * h.val + 128 + d.val = 256 * h.val + (d.val + 128) by omega]
  · simp only [dif_neg hd]
    rw [key_column m c t r (256 * h.val) (by omega) _ rfl, key_column m c t r (256 * h.val + 128) (by omega) _ (by omega), cos_block, sin_block]
    simp only [show 256 * h.val + 128 + (d.val - 128) = 256 * h.val + d.val by omega]
end

/-! ### A visit behind the first, and the trip it is -/

section
variable (t : Fin cfg0.N) (g : Fin 65) (e : t.val = g.val + 1) (h : Fin 4) (r : Fin 128)
include e

theorem query_same (d : Fin 256) : qB (X0_0 m c t) (iblk m c 1 t) (iblk m c 2 t) h (ix2 r d) = A_main_v124 (A0 m c) (A1 m c) (A2 m c) (ix4 g h r d) := by
  rw [query_row, query_entry, e]
  simp only [angle_shift g.val r.val g.isLt r.isLt, entry_shift]
theorem key_same (d : Fin 256) : kB (X0_0 m c t) (iblk m c 1 t) (iblk m c 2 t) h (ix2 r d) = A_main_v126 (A0 m c) (A1 m c) (A2 m c) (ix4 g h r d) := by
  rw [key_row, key_entry, e]
  simp only [angle_shift g.val r.val g.isLt r.isLt, entry_shift]
theorem value_same (d : Fin 512) : vB (X0_0 m c t) h (ix2 r d) = A_main_v128 (A0 m c) (A1 m c) (A2 m c) (ix4 g h r d) := by
  rw [value_column, value_entry, e, entry_shift]
end

/-- The trips of the plain scan. -/
abbrev walk (n : ℕ) := trips (A0 m c) (A1 m c) (A2 m c) n

theorem zeta_at (t : Fin cfg0.N) (h : Fin 4) (r : Fin 128) : column (iblk m c 4 t) h 1 (ix3 0 r 0) = K_main_v109 (F := Ideal) (ix3 h r 0) :=
  (coef_block m c t h r 1).trans (coef_1 m c h r)
theorem xi_at (t : Fin cfg0.N) (h : Fin 4) (r : Fin 128) : column (iblk m c 4 t) h 0 (ix3 0 r 0) = K_main_v118 (F := Ideal) (ix3 h r 0) :=
  (coef_block m c t h r 0).trans (coef_0 m c h r)
theorem chunk_at (t : Fin cfg0.N) (h : Fin 4) : single (iblk m c 4 t) h 2 (ix3 0 0 0) = K_main_v122 (F := Ideal) (ix3 h 0 0) :=
  (coef_block m c t h 0 2).trans (coef_2 m c h 0)
theorem dec_at (t : Fin cfg0.N) (h : Fin 4) (r x : Fin 128) : plane (iblk m c 3 t) h (ix3 0 r x) = K_main_v100 (F := Ideal) (ix3 h r x) :=
  decay_block m c t h r x

/-- One visit of the state, -/
theorem next_same (t : Fin cfg0.N) (g : Fin 65) (e : t.val = g.val + 1) (Z : Vec Ideal S4x256x512 .f32) (hZ : Z = (walk m c g.val).main_v139_9)
    (h : Fin 4) (d : Fin 256) (l : Fin 512) : nextH (X0_0 m c t) (iblk m c 1 t) (iblk m c 2 t) (iblk m c 4 t) Z h (ix3 0 d l)
    = b38 g.val (walk m c g.val) (ix3 h d l) := by
  subst hZ
  unfold nextH
  rw [nextV_apply, state_at _ g.val g.isLt, trips_key, trips_value, chunk_at]
  simp only [key_same m c t g e, value_same m c t g e, zeta_at]
  rfl
/-- and of the rows. -/
theorem out_same (t : Fin cfg0.N) (g : Fin 65) (e : t.val = g.val + 1) (Z : Vec Ideal S4x256x512 .f32) (hZ : Z = (walk m c g.val).main_v139_9)
    (h : Fin 4) (r : Fin 128) (l : Fin 512) : outH (X0_0 m c t) (iblk m c 1 t) (iblk m c 2 t) (iblk m c 3 t) (iblk m c 4 t) Z h (ix2 r l)
    = b25 g.val (walk m c g.val) (ix3 h r l) := by
  subst hZ
  unfold outH
  rw [outV_apply, rows_at _ g.val g.isLt, trips_query, trips_key, trips_value, xi_at]
  simp only [query_same m c t g e, key_same m c t g e, value_same m c t g e, dec_at]
  rfl

/-- The first visit: no values, and no state. -/
theorem next_first (t : Fin cfg0.N) (e : t.val = 0) (Z : Vec Ideal S4x256x512 .f32) (hZ : Z = fun _ => (0 : EReal))
    (h : Fin 4) (d : Fin 256) (l : Fin 512) : nextH (X0_0 m c t) (iblk m c 1 t) (iblk m c 2 t) (iblk m c 4 t) Z h (ix3 0 d l) = (0 : EReal) := by
  subst hZ
  unfold nextH
  rw [nextV_apply]
  have hv : ∀ r : Fin 128, vB (X0_0 m c t) h (ix2 r l) = (0 : EReal) := fun r => by rw [value_column, e]; exact entry_front _ _ _ (by omega)
  simp only [hv, zero_mul, mul_zero, Finset.sum_const_zero, add_zero]
  exact mul_zero _
theorem out_first (t : Fin cfg0.N) (e : t.val = 0) (Z : Vec Ideal S4x256x512 .f32) (hZ : Z = fun _ => (0 : EReal))
    (h : Fin 4) (r : Fin 128) (l : Fin 512) : outH (X0_0 m c t) (iblk m c 1 t) (iblk m c 2 t) (iblk m c 3 t) (iblk m c 4 t) Z h (ix2 r l) = (0 : EReal) := by
  subst hZ
  unfold outH
  rw [outV_apply]
  have hv : ∀ r : Fin 128, vB (X0_0 m c t) h (ix2 r l) = (0 : EReal) := fun r => by rw [value_column, e]; exact entry_front _ _ _ (by omega)
  have hz : ∀ d : Fin 256, held (fun _ => (0 : EReal)) h (ix3 0 d l) = (0 : EReal) := fun _ => rfl
  simp only [hv, hz, zero_mul, mul_zero, Finset.sum_const_zero, add_zero]

theorem fresh : (k0_pay2 (F := Ideal) : Vec Ideal S4x256x512 .f32) = fun _ => (0 : EReal) := by
  funext i; idx_vars i
  pointwise [k0_pay2]

theorem found_first (t : Fin cfg0.N) (e : t.val = 0) : found m c t = fun _ => (0 : EReal) := by
  rw [found, if_pos (by omega), fresh]

theorem start : (walk m c 0).main_v139_9 = fun _ => (0 : EReal) := funext fun i => trips_start (A0 m c) (A1 m c) (A2 m c) i

/-- A visit finds what the trips before it have left. -/
theorem found_same (n : ℕ) (hn : n < 65) : found m c ⟨n + 1, Nat.succ_lt_succ hn⟩ = (walk m c n).main_v139_9 := by
  induction n with
  | zero =>
    rw [found, if_neg (show ¬(0 + 1) % 66 = 0 by decide), start]
    refine (next_at m c ⟨0, by decide⟩).trans (funext fun i => ?_)
    exact next_first m c ⟨0, by decide⟩ rfl _ (found_first m c _ rfl) _ _ _
  | succ n ih =>
    rw [found, if_neg (show ¬(n + 1 + 1) % 66 = 0 by omega)]
    refine (next_at m c ⟨n + 1, Nat.succ_lt_succ (by omega)⟩).trans (funext fun i => ?_)
    refine (next_same m c ⟨n + 1, Nat.succ_lt_succ (by omega)⟩ ⟨n, by omega⟩ rfl _ (ih (by omega)) (i 0) (i 1) (i 2)).trans ?_
    idx_vars i
    rfl

end Cert.RetIdeal.Visit
-- ==== Proof.RetFinal.lean ====
module

public import proofs.«01_k».proof.Proof.RetWalk

/-! # Retention: the three result arrays

Each block that a visit writes is the block of the plain program's result. -/

@[expose] public section
set_option maxHeartbeats 4000000
set_option maxRecDepth 16384

noncomputable section

open Idealize.ShloMosaic Idealize.ShloMosaic.TcCoe Idealize.SL.Sem Finset
open Idealize.ShloMosaic.Pipeline (Dat)

namespace Cert.RetRefIdeal.Step

open Cert.RetRefIdeal Cert.RetRefIdeal.Gen
open Cert.RetIdeal.Head (silu normed mean)

/-! ### The plain program's results, index by index -/

theorem rows_result (s : State Ideal) (R : Fin 8448) (d : Fin 2048) : R_main_v169 s (ix2 R d)
    = if h : 128 ≤ R.val ∧ R.val - 128 < 8320 then
      s.main_v139_10 (ix4 ⟨(R.val - 128) / 128, by omega⟩ ⟨d.val / 512, by omega⟩ ⟨(R.val - 128) % 128, by omega⟩ ⟨d.val % 512, by omega⟩)
    else (0 : EReal) := by
  pointwise [R_main_v169]
  rw [nothing]

theorem gated_result (s : State Ideal) (a3 : (⟨S8208x2048, .bf16⟩ : BufTy).Contents (Elt Ideal)) (R : Fin 8448) (d : Fin 2048) : R_main_v170 s a3 (ix2 R d)
    = if h : 240 ≤ R.val ∧ R.val - 240 < 8208 then
      silu (a3 (ix2 ⟨R.val - 240, h.2⟩ d)) * normed (fun e => s.main_v139_10 (ix4 ⟨(112 + (R.val - 240)) / 128, by omega⟩ ⟨d.val / 512, by omega⟩
        ⟨(112 + (R.val - 240)) % 128, by omega⟩ e)) ⟨d.val % 512, by omega⟩
    else (0 : EReal) := by
  generalize hz : (if h : 240 ≤ R.val ∧ R.val - 240 < 8208 then _ else (0 : EReal)) = z
  pointwise [R_main_v170]
  subst hz
  refine dite_congr rfl (fun h => ?_) (fun _ => nothing _)
  simp only [silu, normed, mean]

theorem kept_result (s : State Ideal) (t : Fin 66) (h : Fin 4) (d : Fin 256) (e : Fin 512) : R_main_v172 s (ix4 t h d e)
    = if h_1 : 1 ≤ t.val ∧ t.val - 1 < 65 then s.main_v139_11 (ix4 ⟨t.val - 1, h_1.2⟩ h d e) else (0 : EReal) := by
  pointwise [R_main_v172]
  rw [nothing]

end Cert.RetRefIdeal.Step

namespace Cert.RetIdeal.Visit

open Cert.RetIdeal Cert.RetIdeal.Gen Cert.RetIdeal.Head Cert.RetRefIdeal.Step

variable (m : (ℓ : Loc nD τ sig) → Buf (Elt Ideal) ℓ) (c : Dev nD)

/-- A point is the first or one behind a chunk. -/
theorem point_cases (t : Fin cfg0.N) : t.val = 0 ∨ ∃ g : Fin 65, t.val = g.val + 1 := by
  have := points t
  rcases Nat.eq_zero_or_pos t.val with h | h
  · exact Or.inl h
  · exact Or.inr ⟨⟨t.val - 1, by omega⟩, by show t.val = t.val - 1 + 1; omega⟩

theorem found_at (t : Fin cfg0.N) (g : Fin 65) (e : t.val = g.val + 1) : found m c t = (walk m c g.val).main_v139_9 := by
  obtain rfl : t = ⟨g.val + 1, Nat.succ_lt_succ g.isLt⟩ := Fin.ext e
  exact found_same m c g.val g.isLt

/-- A head's rows at a visit. -/
abbrev rowsAt (t : Fin cfg0.N) (h : Fin 4) : Vec Ideal S128x512 .f32 :=
  outH (X0_0 m c t) (iblk m c 1 t) (iblk m c 2 t) (iblk m c 3 t) (iblk m c 4 t) (found m c t) h

theorem rows_chunk (t : Fin cfg0.N) (g : Fin 65) (e : t.val = g.val + 1) (h : Fin 4) (r : Fin 128) (l : Fin 512) :
    rowsAt m c t h (ix2 r l) = (walk m c 65).main_v139_10 (ix4 g h r l) :=
  (out_same m c t g e _ (found_at m c t g e) h r l).trans (trips_rows _ _ _ 65 (Nat.le_refl _) g g.isLt h r l).symm

theorem rows_block (t : Fin cfg0.N) (r : Fin 128) (d : Fin 2048) :
    beside (rowsAt m c t) (ix2 r d) = R_main_v169 (walk m c 65) (ix2 ⟨128 * t.val + r.val, by have := points t; omega⟩ d) := by
  rw [rows_result]
  show rowsAt m c t ⟨d.val / 512, by omega⟩ (ix2 r ⟨d.val % 512, by omega⟩) = _
  rcases point_cases t with e | ⟨g, e⟩
  · rw [dif_neg (by show ¬(128 ≤ 128 * t.val + r.val ∧ _); omega)]
    exact out_first m c t e _ (found_first m c t e) _ _ _
  · rw [dif_pos (by show 128 ≤ 128 * t.val + r.val ∧ 128 * t.val + r.val - 128 < 8320; omega), rows_chunk m c t g e]
    exact congrArg₂ (fun a b => (walk m c 65).main_v139_10 (ix4 a _ b _)) (Fin.ext (by show g.val = (128 * t.val + r.val - 128) / 128; omega))
      (Fin.ext (by show r.val = (128 * t.val + r.val - 128) % 128; omega))

theorem gated_block (t : Fin cfg0.N) (r : Fin 128) (d : Fin 2048) :
    beside (gateH (X0_0 m c t) (iblk m c 1 t) (iblk m c 2 t) (iblk m c 3 t) (iblk m c 4 t) (found m c t)) (ix2 r d)
      = R_main_v170 (walk m c 65) (A3 m c) (ix2 ⟨128 * t.val + r.val, by have := points t; omega⟩ d) := by
  rw [gated_result]
  show gateH (X0_0 m c t) (iblk m c 1 t) (iblk m c 2 t) (iblk m c 3 t) (iblk m c 4 t) (found m c t) ⟨d.val / 512, by omega⟩ (ix2 r ⟨d.val % 512, by omega⟩) = _
  unfold gateH
  rw [gateV_apply, gate_column, entry_eq _ _ _ _ (by show 512 * (d.val / 512) + d.val % 512 < 2048; omega)]
  by_cases hR : 240 ≤ 128 * t.val + r.val
  · have hp : 240 ≤ 128 * t.val + r.val ∧ 128 * t.val + r.val - 240 < 8208 := ⟨hR, by have := points t; omega⟩
    rw [dif_pos hp, dif_pos hp]
    rcases point_cases t with e | ⟨g, e⟩
    · omega
    · refine congrArg₂ (· * ·) (congrArg silu (congrArg (fun k => A3 m c (ix2 _ k)) (Fin.ext (Nat.div_add_mod _ _)))) (congrArg (fun f => normed f _) (funext fun l => ?_))
      refine (rows_chunk m c t g e _ r l).trans ?_
      exact congrArg₂ (fun a b => (walk m c 65).main_v139_10 (ix4 a _ b _)) (Fin.ext (by show g.val = (112 + (128 * t.val + r.val - 240)) / 128; omega))
        (Fin.ext (by show r.val = (112 + (128 * t.val + r.val - 240)) % 128; omega))
  · rw [dif_neg (fun h => hR h.1), dif_neg (fun h => hR h.1)]
    unfold silu
    rw [zero_mul, zero_mul]

theorem kept_block (t : Fin cfg0.N) (h : Fin 4) (d : Fin 256) (l : Fin 512) :
    stacked' (keptH (found m c t)) (ix4 0 h d l) = R_main_v172 (walk m c 65) (ix4 ⟨t.val, points t⟩ h d l) := by
  rw [kept_result]
  show keptH (found m c t) h (ix4 0 0 d l) = _
  unfold keptH
  rw [keptV_apply]
  show found m c t (ix3 h d l) = _
  rcases point_cases t with e | ⟨g, e⟩
  · rw [dif_neg (by show ¬(1 ≤ t.val ∧ _); omega), found_first m c t e]
  · have ht : 1 ≤ t.val ∧ t.val - 1 < 65 := by omega
    rw [dif_pos ht, found_at m c t g e]
    refine (trips_kept _ _ _ 65 (Nat.le_refl _) g g.isLt h d l).symm.trans ?_
    exact congrArg (fun a => (walk m c 65).main_v139_11 (ix4 a _ _ _)) (Fin.ext (by show g.val = t.val - 1; omega))

/-! ### The result arrays -/

theorem final_rows : (dats m 0 c).arrAt 5 cfg0.N = R_main_v169 (walk m c 65) := by
  refine (dats m 0 c).arrAt_eq_of_covers 5 _ (by decide +kernel) fun t hf y => ?_
  obtain ⟨e0, e1, e2, e3, e4, e5, e6, e7⟩ := idx t
  blk_simp
  rw [after0_5, out_at]
  idx_vars y
  refine (rows_block m c t _ _).trans ?_
  blk_ext [e5]

theorem final_gated : (dats m 0 c).arrAt 6 cfg0.N = R_main_v170 (walk m c 65) (A3 m c) := by
  refine (dats m 0 c).arrAt_eq_of_covers 6 _ (by decide +kernel) fun t hf y => ?_
  obtain ⟨e0, e1, e2, e3, e4, e5, e6, e7⟩ := idx t
  blk_simp
  rw [after0_6, gate_at]
  idx_vars y
  refine (gated_block m c t _ _).trans ?_
  blk_ext [e6]

theorem final_kept : (dats m 0 c).arrAt 7 cfg0.N = R_main_v172 (walk m c 65) := by
  refine (dats m 0 c).arrAt_eq_of_covers 7 _ (by decide +kernel) fun t hf y => ?_
  obtain ⟨e0, e1, e2, e3, e4, e5, e6, e7⟩ := idx t
  blk_simp
  rw [after0_7, kept_at]
  idx_vars y
  refine (kept_block m c t _ _ _).trans ?_
  blk_ext [e7]

end Cert.RetIdeal.Visit
-- ==== Proof.RetClaims.lean ====
/- Retention, forward: the claims. -/
module

public import proofs.«01_k».proof.Defs
public import proofs.«01_k».proof.Proof.RetFinal
public import proofs.«01_k».proof.Proof.Gen.Ret.Frame
public import Idealize.ShloMosaic.Lib.Quiescent

@[expose] public section

set_option maxRecDepth 16384

noncomputable section

open Idealize.ShloMosaic Idealize.ShloMosaic.TcCoe Idealize.SL.Sem

namespace Cert.RetClaims

theorem frame : Cert.quiescent_Ret := fun m ρ _ => Cert.Ret.Gen.frame m ρ

theorem frame_ideal : Cert.quiescent_RetIdeal := fun m ρ _ => Cert.RetIdeal.Gen.frame m ρ

theorem frame_ref : Cert.quiescent_RetRefIdeal := fun m ρ _ =>
  (θ_run Cert.RetRefIdeal.defs _ _).mono (fun r h => ⟨fun c => (h c).2.2.2,
      Idealize.ShloMosaic.sem_eq_zero_of_no_sems (by decide) r.2⟩)
    (Cert.RetRefIdeal.Value.run (F := Ideal) m ρ)

theorem preserves : Cert.preserves_Ret_RetIdeal := trivial

open Cert.RetRefIdeal.Step in
theorem algebraic : Cert.algebraic_RetIdeal_RetRefIdeal := by
  intro m ρ m' ρ' _ hagree
  refine ⟨_, _, _, Cert.RetIdeal.Value.run_blocks m ρ, ?_⟩
  refine (θ_run Cert.RetRefIdeal.defs _ _).mono (fun r h c => ?_) (Cert.RetRefIdeal.StepRun.run_iter m' ρ'
    (fun c n => trips (m' ((c.tc : Thread Cert.RetRefIdeal.nD Cert.RetRefIdeal.τ).loc Cert.RetRefIdeal.main_arg0))
      (m' ((c.tc : Thread Cert.RetRefIdeal.nD Cert.RetRefIdeal.τ).loc Cert.RetRefIdeal.main_arg1))
      (m' ((c.tc : Thread Cert.RetRefIdeal.nD Cert.RetRefIdeal.τ).loc Cert.RetRefIdeal.main_arg2)) n) (fun _ => rfl) (fun _ _ => rfl))
  obtain ⟨a0, a1, a2, a3⟩ := hagree c
  obtain ⟨h0, h1, h2, kept⟩ := h c
  rw [a0, a1, a2] at h0 h1 h2
  rw [a3] at h1
  exact ⟨h0.trans (Cert.RetIdeal.Visit.final_rows m c).symm, h1.trans (Cert.RetIdeal.Visit.final_gated m c).symm,
    h2.trans (Cert.RetIdeal.Visit.final_kept m c).symm, kept⟩

end Cert.RetClaims

end
-- ==== Proof.Proj.lean ====
/- The projection in front of the mixers: what the kernel leaves in its result array, index by index, and that the reference's
   product gives the same array. -/
module

public import proofs.«01_k».proof.Proof.Gen.ProjIdeal.Value
public import proofs.«01_k».proof.Proof.Gen.ProjRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Blocks

open Cert.ProjIdeal Cert.ProjIdeal.Gen

/-- A row of the input times a column of the weights. -/
def inner (x : Vec Ideal S8448x1024 .bf16) (w : Vec Ideal S1024x11264 .bf16) (r : Fin 8448) (l : Fin 11264) : EReal :=
  ∑ k : Fin 1024, x (ix2 r k) * w (ix2 k l)

theorem pay1_apply (x : Vec Ideal S1408x1024 .bf16) (w : Vec Ideal S1024x1024 .bf16) (r : Fin 1408) (l : Fin 1024) :
    k0_pay1 x w (ix2 r l) = ∑ k : Fin 1024, x (ix2 r k) * w (ix2 l k) := by
  pointwise [k0_pay1]

variable (m : (ℓ : Loc nD τ sig) → Buf (Elt Ideal) ℓ)

theorem idx : ∀ t : Fin cfg0.N, win0_0.index t = ![t.val / 11, 0] ∧ win0_1.index t = ![t.val % 11, 0] ∧ win0_2.index t = ![t.val / 11, t.val % 11] :=
  (by decide +kernel : ∀ t : Fin grid0.N, win0_0.index t = ![t.val / 11, 0] ∧ win0_1.index t = ![t.val % 11, 0]
    ∧ win0_2.index t = ![t.val / 11, t.val % 11])

theorem points : cfg0.N = 66 := by decide +kernel

/-- Row `r` of the block of point `t` in the whole array. -/
def rowAt (t : Fin cfg0.N) (r : Fin 1408) : Fin 8448 := ⟨t.val / 11 * 1408 + r.val, by have := t.isLt; have := points; omega⟩

/-- Column `l` of the block of point `t` in the result. -/
def colAt (t : Fin cfg0.N) (l : Fin 1024) : Fin 11264 := ⟨t.val % 11 * 1024 + l.val, by omega⟩

section Inputs
variable (c : Dev nD) (t : Fin cfg0.N) (r : Fin 1408) (l : Fin 1024) (k : Fin 1024)

theorem iblk0 : iblk m c 0 t (ix2 r k) = m ((c : Thread nD τ).loc main_arg0) (ix2 (rowAt t r) k) := by
  obtain ⟨e, -⟩ := idx t
  simp only [rowAt]
  blk_point [iblk, V, e]

/-- The call reads the weights transposed. -/
theorem iblk1 : iblk m c 1 t (ix2 l k) = m ((c : Thread nD τ).loc main_arg1) (ix2 k (colAt t l)) := by
  obtain ⟨-, e, -⟩ := idx t
  have whole (j : Fin 11264) : V m c main_v0 (ix2 j k) = m ((c : Thread nD τ).loc main_arg1) (ix2 k j) := by
    simp only [V]
    entry_read
    pointwise []
  refine Eq.trans ?_ (whole _)
  simp only [colAt]
  blk_point [iblk, e]

end Inputs

/-- The array of the result after the run. -/
theorem final2 (c : Dev nD) : (dats m 0 c).arrAt 2 cfg0.N = fun i => inner (m ((c : Thread nD τ).loc main_arg0))
    (m ((c : Thread nD τ).loc main_arg1)) (i 0) (i 1) := by
  refine (dats m 0 c).arrAt_eq_of_covers 2 _ (by decide +kernel) fun t hf y => ?_
  obtain ⟨-, -, e⟩ := idx t
  blk_simp
  rw [after0_2]
  have key (y : S1408x1024.Idx) : k0_pay1 (iblk m c 0 t) (iblk m c 1 t) y
      = inner (m ((c : Thread nD τ).loc main_arg0)) (m ((c : Thread nD τ).loc main_arg1)) (rowAt t (y 0)) (colAt t (y 1)) := by
    idx_vars y
    erw [pay1_apply]
    simp only [iblk0, iblk1]
    rfl
  unfold out0_2
  frame_out
  refine (key y).trans (congrArg₂ (inner _ _) (Fin.ext ?_) (Fin.ext ?_)) <;> blk_simp [rowAt, colAt, e]

end Cert.ProjIdeal.Blocks

namespace Cert.ProjRefIdeal.Forward

open Cert.ProjRefIdeal Cert.ProjRefIdeal.Read Cert.ProjIdeal.Blocks

theorem first (x : Vec Ideal S8448x1024 .bf16) (w : Vec Ideal S1024x11264 .bf16) (r : Fin 8448) (l : Fin 11264) :
    val_main_v3 x w (ix2 r l) = inner x w r l := by
  pointwise [val_main_v0, val_main_v1, val_main_v2, val_main_v3]
  rfl

end Cert.ProjRefIdeal.Forward

end
-- ==== Proof.ProjClaims.lean ====
/- The projection in front of the mixers: the claims. -/
module

public import proofs.«01_k».proof.Defs
public import proofs.«01_k».proof.Proof.Proj
public import proofs.«01_k».proof.Proof.Gen.Proj.Frame
public import proofs.«01_k».proof.Proof.Gen.ProjRefIdeal.Run
public import Idealize.ShloMosaic.Lib.Quiescent

@[expose] public section

set_option maxRecDepth 16384

noncomputable section

open Idealize.ShloMosaic Idealize.ShloMosaic.TcCoe Idealize.SL.Sem

namespace Cert.ProjClaims

theorem frame : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

theorem preserves : Cert.preserves_Proj_ProjIdeal := trivial

open Cert.ProjIdeal.Blocks Cert.ProjRefIdeal.Forward in
theorem algebraic : Cert.algebraic_ProjIdeal_ProjRefIdeal := by
  intro m ρ m' ρ' _ hagree
  refine ⟨_, Cert.ProjIdeal.Value.run_blocks m ρ, ?_⟩
  refine (θ_run Cert.ProjRefIdeal.defs _ _).mono (fun r h c => ?_) (Cert.ProjRefIdeal.Value.run (F := Ideal) m' ρ')
  obtain ⟨a0, a1⟩ := hagree c
  obtain ⟨h0, kept⟩ := h c
  refine ⟨?_, kept⟩
  · rw [h0, final2, Cert.ProjRefIdeal.Read.val_main_v3_eq, a0, a1]
    exact funext fun i => by idx_vars i; exact first _ _ _ _

end Cert.ProjClaims

end
-- ==== Proof.AdamW.lean ====
/- The optimiser: what the kernel leaves in its three result arrays, index by index, and that the reference's lines give the
   same arrays. -/
module

public import proofs.«01_k».proof.Proof.Gen.AdamWIdeal.Value
public import proofs.«01_k».proof.Proof.Gen.AdamWRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWIdeal.Blocks

open Cert.AdamWIdeal Cert.AdamWIdeal.Gen

/-- The float whose word is `b`. -/
abbrev word (b : BitVec 32) : EReal := Ideal.ofBits .f32 b

/-- The first moment after the step: 0.9 times the old one plus 0.1 times the gradient. -/
def first (g m : EReal) : EReal := word 0x3F666666#32 * m + word 0x3DCCCCCD#32 * g

/-- The second moment after the step: 0.999 times the old one plus 0.001 times the squared gradient. -/
def second (g v : EReal) : EReal := word 0x3F7FBE77#32 * v + word 0x3A83126F#32 * (g * g)

/-- What is added to the weight: the corrected first moment over the root of the corrected second one, and the weight's decay. -/
def delta (w g m v : EReal) : EReal := word 0xBA83126F#32 * (Ideal.div (Ideal.div (first g m) (word 0x3F26BD02#32))
  (Ideal.sqrt (Ideal.div (second g v) (word 0x3C231ACC#32)) + word 0x322BCC77#32) + word 0x3C23D70A#32 * w)

section Payloads
variable (w g m v : Vec Ideal S256x1408 .f32) (r : Fin 256) (l : Fin 1408)

theorem pay2_apply : k0_pay2 g m (ix2 r l) = first (g (ix2 r l)) (m (ix2 r l)) := by
  pointwise [k0_pay2, k0_pay1]
  rfl

theorem pay3_apply : k0_pay3 g v (ix2 r l) = second (g (ix2 r l)) (v (ix2 r l)) := by
  pointwise [k0_pay3, k0_pay1]
  rfl

theorem pay4_apply : k0_pay4 g m v w (ix2 r l) = delta (w (ix2 r l)) (g (ix2 r l)) (m (ix2 r l)) (v (ix2 r l)) := by
  pointwise [k0_pay4, k0_pay3, k0_pay2, k0_pay1]
  rfl

end Payloads

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

theorem points : cfg0.N = 4 := by decide +kernel

/-- Row `r` of the block of point `t` in a whole array. -/
def rowAt (t : Fin cfg0.N) (r : Fin 256) : Fin 1024 := ⟨t.val * 256 + r.val, by have := t.isLt; have := points; omega⟩

section Inputs
variable (c : Dev nD) (t : Fin cfg0.N) (r : Fin 256) (l : Fin 1408)

theorem iblk0 : iblk m c 0 t (ix2 r l) = m ((c : Thread nD τ).loc main_arg0) (ix3 0 (rowAt t r) l) := by
  have e := (idx t).1
  have whole (i : Fin 1024) : V m c main_v0 (ix2 i l) = m ((c : Thread nD τ).loc main_arg0) (ix3 0 i l) := by
    simp only [V]
    entry_read
    pointwise []
  refine Eq.trans ?_ (whole _)
  simp only [rowAt]
  blk_point [iblk, e]

theorem iblk1 : iblk m c 1 t (ix2 r l) = m ((c : Thread nD τ).loc main_arg1) (ix3 0 (rowAt t r) l) := by
  have e := (idx t).2.1
  have whole (i : Fin 1024) : V m c main_v1 (ix2 i l) = m ((c : Thread nD τ).loc main_arg1) (ix3 0 i l) := by
    simp only [V]
    entry_read
    pointwise []
  refine Eq.trans ?_ (whole _)
  simp only [rowAt]
  blk_point [iblk, e]

theorem iblk2 : iblk m c 2 t (ix2 r l) = m ((c : Thread nD τ).loc main_arg2) (ix3 0 (rowAt t r) l) := by
  have e := (idx t).2.2.1
  have whole (i : Fin 1024) : V m c main_v2 (ix2 i l) = m ((c : Thread nD τ).loc main_arg2) (ix3 0 i l) := by
    simp only [V]
    entry_read
    pointwise []
  refine Eq.trans ?_ (whole _)
  simp only [rowAt]
  blk_point [iblk, e]

theorem iblk3 : iblk m c 3 t (ix2 r l) = m ((c : Thread nD τ).loc main_arg3) (ix3 0 (rowAt t r) l) := by
  have e := (idx t).2.2.2.1
  have whole (i : Fin 1024) : V m c main_v3 (ix2 i l) = m ((c : Thread nD τ).loc main_arg3) (ix3 0 i l) := by
    simp only [V]
    entry_read
    pointwise []
  refine Eq.trans ?_ (whole _)
  simp only [rowAt]
  blk_point [iblk, e]

end Inputs

/-- What is added to the weight, as the kernel leaves it. -/
theorem final4 (c : Dev nD) : (dats m 0 c).arrAt 4 cfg0.N = fun i => delta (m ((c : Thread nD τ).loc main_arg0) (ix3 0 (i 0) (i 1))) (m ((c : Thread nD τ).loc main_arg1) (ix3 0 (i 0) (i 1))) (m ((c : Thread nD τ).loc main_arg2) (ix3 0 (i 0) (i 1))) (m ((c : Thread nD τ).loc main_arg3) (ix3 0 (i 0) (i 1))) := by
  refine (dats m 0 c).arrAt_eq_of_covers 4 _ (by decide +kernel) fun t hf y => ?_
  have e := (idx t).2.2.2.2.1
  blk_simp
  rw [after0_4]
  have key (y : S256x1408.Idx) : k0_pay4 (iblk m c 1 t) (iblk m c 2 t) (iblk m c 3 t) (iblk m c 0 t) y = delta (m ((c : Thread nD τ).loc main_arg0) (ix3 0 (rowAt t (y 0)) (y 1))) (m ((c : Thread nD τ).loc main_arg1) (ix3 0 (rowAt t (y 0)) (y 1))) (m ((c : Thread nD τ).loc main_arg2) (ix3 0 (rowAt t (y 0)) (y 1))) (m ((c : Thread nD τ).loc main_arg3) (ix3 0 (rowAt t (y 0)) (y 1))) := by
    idx_vars y
    erw [pay4_apply]
    rw [iblk0, iblk1, iblk2, iblk3]
  unfold out0_4
  frame_out
  refine (key y).trans ?_
  idx_vars y
  blk_point [rowAt, e]

/-- The first moment as the kernel leaves it. -/
theorem final5 (c : Dev nD) : (dats m 0 c).arrAt 5 cfg0.N = fun i => first (m ((c : Thread nD τ).loc main_arg1) (ix3 0 (i 0) (i 1))) (m ((c : Thread nD τ).loc main_arg2) (ix3 0 (i 0) (i 1))) := by
  refine (dats m 0 c).arrAt_eq_of_covers 5 _ (by decide +kernel) fun t hf y => ?_
  have e := (idx t).2.2.2.2.2.1
  blk_simp
  rw [after0_5]
  have key (y : S256x1408.Idx) : k0_pay2 (iblk m c 1 t) (iblk m c 2 t) y = first (m ((c : Thread nD τ).loc main_arg1) (ix3 0 (rowAt t (y 0)) (y 1))) (m ((c : Thread nD τ).loc main_arg2) (ix3 0 (rowAt t (y 0)) (y 1))) := by
    idx_vars y
    erw [pay2_apply]
    rw [iblk1, iblk2]
  unfold out0_5
  frame_out
  refine (key y).trans ?_
  idx_vars y
  blk_point [rowAt, e]

/-- The second moment as the kernel leaves it. -/
theorem final6 (c : Dev nD) : (dats m 0 c).arrAt 6 cfg0.N = fun i => second (m ((c : Thread nD τ).loc main_arg1) (ix3 0 (i 0) (i 1))) (m ((c : Thread nD τ).loc main_arg3) (ix3 0 (i 0) (i 1))) := by
  refine (dats m 0 c).arrAt_eq_of_covers 6 _ (by decide +kernel) fun t hf y => ?_
  have e := (idx t).2.2.2.2.2.2
  blk_simp
  rw [after0_6]
  have key (y : S256x1408.Idx) : k0_pay3 (iblk m c 1 t) (iblk m c 3 t) y = second (m ((c : Thread nD τ).loc main_arg1) (ix3 0 (rowAt t (y 0)) (y 1))) (m ((c : Thread nD τ).loc main_arg3) (ix3 0 (rowAt t (y 0)) (y 1))) := by
    idx_vars y
    erw [pay3_apply]
    rw [iblk1, iblk3]
  unfold out0_6
  frame_out
  refine (key y).trans ?_
  idx_vars y
  blk_point [rowAt, e]

end Cert.AdamWIdeal.Blocks

namespace Cert.AdamWRefIdeal.Forward

open Cert.AdamWRefIdeal Cert.AdamWRefIdeal.Read Cert.AdamWIdeal.Blocks

variable (w g m v : Vec Ideal S1x1024x1408 .f32) (r : Fin 1024) (l : Fin 1408)

theorem first_eq : val_main_v25 g m (ix2 r l) = first (g (ix3 0 r l)) (m (ix3 0 r l)) := by
  pointwise [val_main_cst, val_main_v0, val_main_v1, val_main_cst_0, val_main_v2, val_main_v3, val_main_v4, val_main_v25]
  rfl

theorem second_eq : val_main_v26 g v (ix2 r l) = second (g (ix3 0 r l)) (v (ix3 0 r l)) := by
  pointwise [val_main_cst_1, val_main_v5, val_main_v6, val_main_v7, val_main_cst_2, val_main_v8, val_main_v9, val_main_v10, val_main_v26]
  rfl

theorem delta_eq : val_main_v24 w g m v (ix2 r l) = delta (w (ix3 0 r l)) (g (ix3 0 r l)) (m (ix3 0 r l)) (v (ix3 0 r l)) := by
  pointwise [
    val_main_cst, val_main_v0, val_main_v1, val_main_cst_0, val_main_v2, val_main_v3, val_main_v4, val_main_cst_1, val_main_v5,
    val_main_v6, val_main_v7, val_main_cst_2, val_main_v8, val_main_v9, val_main_v10, val_main_cst_3, val_main_v11, val_main_v12,
    val_main_cst_4, val_main_v13, val_main_v14, val_main_v15, val_main_cst_5, val_main_v16, val_main_v17, val_main_v18,
    val_main_cst_6, val_main_v19, val_main_v20, val_main_v21, val_main_cst_7, val_main_v22, val_main_v23, val_main_v24]
  rfl

end Cert.AdamWRefIdeal.Forward

end
-- ==== Proof.AdamWClaims.lean ====
/- The optimiser: the claims. -/
module

public import proofs.«01_k».proof.Defs
public import proofs.«01_k».proof.Proof.AdamW
public import proofs.«01_k».proof.Proof.Gen.AdamW.Frame
public import proofs.«01_k».proof.Proof.Gen.AdamWRefIdeal.Run
public import Idealize.ShloMosaic.Lib.Quiescent

@[expose] public section

set_option maxRecDepth 16384

noncomputable section

open Idealize.ShloMosaic Idealize.ShloMosaic.TcCoe Idealize.SL.Sem

namespace Cert.AdamWClaims

theorem frame : Cert.quiescent_AdamW := fun m ρ _ => Cert.AdamW.Gen.frame m ρ

theorem frame_ideal : Cert.quiescent_AdamWIdeal := fun m ρ _ => Cert.AdamWIdeal.Gen.frame m ρ

theorem frame_ref : Cert.quiescent_AdamWRefIdeal := fun m ρ _ =>
  (θ_run Cert.AdamWRefIdeal.defs _ _).mono (fun r h => ⟨fun c => (h c).2.2.2,
      Idealize.ShloMosaic.sem_eq_zero_of_no_sems (by decide) r.2⟩)
    (Cert.AdamWRefIdeal.Value.run (F := Ideal) m ρ)

theorem preserves : Cert.preserves_AdamW_AdamWIdeal := trivial

open Cert.AdamWIdeal.Blocks Cert.AdamWRefIdeal.Forward in
theorem algebraic : Cert.algebraic_AdamWIdeal_AdamWRefIdeal := by
  intro m ρ m' ρ' _ hagree
  refine ⟨_, _, _, Cert.AdamWIdeal.Value.run_blocks m ρ, ?_⟩
  refine (θ_run Cert.AdamWRefIdeal.defs _ _).mono (fun r h c => ?_) (Cert.AdamWRefIdeal.Value.run (F := Ideal) m' ρ')
  obtain ⟨a0, a1, a2, a3⟩ := hagree c
  obtain ⟨h0, h1, h2, kept⟩ := h c
  refine ⟨?_, ?_, ?_, kept⟩
  · rw [h0, final4, Cert.AdamWRefIdeal.Read.val_main_v24_eq, a0, a1, a2, a3]
    exact funext fun i => by idx_vars i; exact delta_eq _ _ _ _ _ _
  · rw [h1, final5, Cert.AdamWRefIdeal.Read.val_main_v25_eq, a1, a2]
    exact funext fun i => by idx_vars i; exact first_eq _ _ _ _
  · rw [h2, final6, Cert.AdamWRefIdeal.Read.val_main_v26_eq, a1, a3]
    exact funext fun i => by idx_vars i; exact second_eq _ _ _ _

end Cert.AdamWClaims

end
-- ==== Proof.Slots.lean ====
/- The sum of the parts of a gradient that the devices send: what the kernel leaves in its result array, index by index, and
   that the reference's sum gives the same array. -/
module

public import proofs.«01_k».proof.Proof.Gen.SlotsIdeal.Value
public import proofs.«01_k».proof.Proof.Gen.SlotsRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SlotsIdeal.Blocks

open Cert.SlotsIdeal Cert.SlotsIdeal.Gen

/-- The eight parts of one element, added up. -/
def total (x : Vec Ideal S8x1408x1024 .bf16) (r : Fin 1408) (l : Fin 1024) : EReal := ∑ p : Fin 8, x (ix3 p r l)

theorem pay1_apply (x : Fin 8 → Vec Ideal S1x352x1024 .bf16) (r : Fin 352) (l : Fin 1024) :
    k0_pay1 (x 0) (x 1) (x 2) (x 3) (x 4) (x 5) (x 6) (x 7) (ix2 r l) = ∑ p : Fin 8, x p (ix3 0 r l) := by
  pointwise [k0_pay1]
  simp only [Fin.sum_univ_eight]

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

/-- The array of the result after the run. -/
theorem final1 (c : Dev nD) : (dats m 0 c).arrAt 1 cfg0.N = fun i => total (m ((c : Thread nD τ).loc main_arg0)) (i 0) (i 1) := by
  refine (dats m 0 c).arrAt_eq_of_covers 1 _ (by decide +kernel) fun t hf y => ?_
  obtain ⟨e0, e1⟩ := idx t
  blk_simp
  rw [after0_1]
  unfold out0_1
  frame_out
  idx_vars y
  refine (pay1_apply (fun p => ![View.ld (iblk m c 0 t) r0_0, View.ld (iblk m c 0 t) r0_1, View.ld (iblk m c 0 t) r0_2,
    View.ld (iblk m c 0 t) r0_3, View.ld (iblk m c 0 t) r0_4, View.ld (iblk m c 0 t) r0_5, View.ld (iblk m c 0 t) r0_6,
    View.ld (iblk m c 0 t) r0_7] p) y0 y1).trans ?_
  unfold total
  refine Finset.sum_congr rfl fun p _ => ?_
  fin_cases p <;> blk_point [iblk, V, e0, e1, r0_0, r0_1, r0_2, r0_3, r0_4, r0_5, r0_6, r0_7]

end Cert.SlotsIdeal.Blocks

namespace Cert.SlotsRefIdeal.Forward

open Cert.SlotsRefIdeal Cert.SlotsRefIdeal.Read Cert.SlotsIdeal.Blocks

theorem first (x : Vec Ideal S8x1408x1024 .bf16) (r : Fin 1408) (l : Fin 1024) : val_main_v1 x (ix2 r l) = total x r l := by
  pointwise [val_main_v0, val_main_cst, val_main_v1]
  rfl

end Cert.SlotsRefIdeal.Forward

end
-- ==== Proof.SlotsClaims.lean ====
/- The sum of the gradients' parts: the claims. -/
module

public import proofs.«01_k».proof.Defs
public import proofs.«01_k».proof.Proof.Slots
public import proofs.«01_k».proof.Proof.Gen.Slots.Frame
public import proofs.«01_k».proof.Proof.Gen.SlotsRefIdeal.Run
public import Idealize.ShloMosaic.Lib.Quiescent

@[expose] public section

set_option maxRecDepth 16384

noncomputable section

open Idealize.ShloMosaic Idealize.ShloMosaic.TcCoe Idealize.SL.Sem

namespace Cert.SlotsClaims

theorem frame : Cert.quiescent_Slots := fun m ρ _ => Cert.Slots.Gen.frame m ρ

theorem frame_ideal : Cert.quiescent_SlotsIdeal := fun m ρ _ => Cert.SlotsIdeal.Gen.frame m ρ

theorem frame_ref : Cert.quiescent_SlotsRefIdeal := fun m ρ _ =>
  (θ_run Cert.SlotsRefIdeal.defs _ _).mono (fun r h => ⟨fun c => (h c).2,
      Idealize.ShloMosaic.sem_eq_zero_of_no_sems (by decide) r.2⟩)
    (Cert.SlotsRefIdeal.Value.run (F := Ideal) m ρ)

theorem preserves : Cert.preserves_Slots_SlotsIdeal := trivial

open Cert.SlotsIdeal.Blocks Cert.SlotsRefIdeal.Forward in
theorem algebraic : Cert.algebraic_SlotsIdeal_SlotsRefIdeal := by
  intro m ρ m' ρ' _ hagree
  refine ⟨_, Cert.SlotsIdeal.Value.run_blocks m ρ, ?_⟩
  refine (θ_run Cert.SlotsRefIdeal.defs _ _).mono (fun r h c => ?_) (Cert.SlotsRefIdeal.Value.run (F := Ideal) m' ρ')
  have a0 := hagree c
  obtain ⟨h0, kept⟩ := h c
  refine ⟨?_, kept⟩
  · rw [h0, final1, Cert.SlotsRefIdeal.Read.val_main_v1_eq, a0]
    exact funext fun i => by idx_vars i; exact first _ _ _

end Cert.SlotsClaims

end
-- ==== Proof.Accumulate.lean ====
/- A product whose inner sum is cut over grid points: an accumulator is set at the first point of a run, added to at the later
   ones, and the last point writes it out with its own part added. -/
module

public import Idealize.ShloMosaic.Lib.Pipeline.ValueKit

@[expose] public section

noncomputable section

namespace Accumulate

variable {k N : ℕ} (S : (n : ℕ) → n < N → EReal) (part : ℕ → EReal)

/-- What the accumulator holds after point `q` of run `c`, when that isn't the run's last point. -/
theorem held (first : ∀ n h, n % k = 0 → S n h = part n)
    (later : ∀ n (h : n < N), ¬n % k = 0 → n % k + 1 < k → S n h = S (n - 1) (Nat.lt_of_le_of_lt (Nat.sub_le _ _) h) + part n) (c : ℕ) :
    ∀ q (h : k * c + q < N), q + 1 < k → S (k * c + q) h = ∑ p ∈ Finset.range (q + 1), part (k * c + p)
  | 0, h, hq => by rw [first _ h (by simp), Finset.sum_range_one]
  | q + 1, h, hq => by
    have hm : (k * c + (q + 1)) % k = q + 1 := by rw [Nat.mul_add_mod, Nat.mod_eq_of_lt (by omega)]
    rw [later _ h (by omega) (by omega), Finset.sum_range_succ _ (q + 1)]
    exact congrArg (· + _) (held first later c q (by omega) (by omega))

/-- What the last point of a run writes out: the sum of the parts of the run's points. -/
theorem total (first : ∀ n h, n % k = 0 → S n h = part n)
    (later : ∀ n (h : n < N), ¬n % k = 0 → n % k + 1 < k → S n h = S (n - 1) (Nat.lt_of_le_of_lt (Nat.sub_le _ _) h) + part n)
    (hk : 1 < k) (n : ℕ) (h : n < N) (last : n % k + 1 = k) :
    S (n - 1) (Nat.lt_of_le_of_lt (Nat.sub_le _ _) h) + part n = ∑ p : Fin k, part (k * (n / k) + p.val) := by
  obtain ⟨q, rfl⟩ : ∃ q, k = q + 2 := ⟨k - 2, by omega⟩
  have hn : n = (q + 2) * (n / (q + 2)) + (q + 1) := by have := Nat.div_add_mod n (q + 2); omega
  have hS := held S part first later (n / (q + 2)) q (by omega) (by omega)
  have e : n - 1 = (q + 2) * (n / (q + 2)) + q := by omega
  rw [Fin.sum_univ_eq_sum_range (fun p => part ((q + 2) * (n / (q + 2)) + p)), Finset.sum_range_succ, ← hS, ← hn]
  congr 2

end Accumulate

end
-- ==== Proof.WeightGrad.lean ====
/- The gradient of the projection's weights: what the kernel leaves in its result array, index by index, and that the
   reference's product gives the same array. -/
module

public import proofs.«01_k».proof.Proof.Accumulate
public import Idealize.ShloMosaic.Lib.Pipeline.ReadBack
public import proofs.«01_k».proof.Proof.Gen.WeightGradIdeal.Value
public import proofs.«01_k».proof.Proof.Gen.WeightGradRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WeightGradIdeal.Blocks

open Cert.WeightGradIdeal Cert.WeightGradIdeal.Gen

/-- A column of the one array times a column of the other. -/
def inner (d : Vec Ideal S8448x11264 .bf16) (h : Vec Ideal S8448x1024 .bf16) (i : Fin 11264) (j : Fin 1024) : EReal :=
  ∑ r : Fin 8448, d (ix2 r i) * h (ix2 r j)

/-- A column of one block of rows times a column of the other array's. -/
def blockSum (d h : Vec Ideal S1408x1024 .bf16) (i j : Fin 1024) : EReal := ∑ k : Fin 1408, d (ix2 k i) * h (ix2 k j)

/-- Row `k` of block `p` of rows. -/
def rowAt (p : ℕ) (k : Fin 1408) : Fin 8448 := ⟨(p * 1408 + k.val) % 8448, Nat.mod_lt _ (by decide)⟩

/-- Column `i` of block `q` of columns. -/
def colAt (q : ℕ) (i : Fin 1024) : Fin 11264 := ⟨(q * 1024 + i.val) % 11264, Nat.mod_lt _ (by decide)⟩

/-- The part of an element that grid point `n` adds: one block of rows. -/
def part (d : Vec Ideal S8448x11264 .bf16) (h : Vec Ideal S8448x1024 .bf16) (i j : Fin 1024) (n : ℕ) : EReal :=
  ∑ k : Fin 1408, d (ix2 (rowAt (n % 6) k) (colAt (n / 6) i)) * h (ix2 (rowAt (n % 6) k) j)

section Payloads
variable (a : Vec Ideal S1024x1024 .f32) (d h : Vec Ideal S1408x1024 .bf16) (i j : Fin 1024)

theorem pay1_apply : k0_pay1 d h (ix2 i j) = blockSum d h i j := by
  pointwise [k0_pay1]
  rfl

theorem pay2_apply : k0_pay2 a d h (ix2 i j) = a (ix2 i j) + blockSum d h i j := by
  pointwise [k0_pay2]
  rfl

theorem pay3_apply : k0_pay3 a d h (ix2 i j) = a (ix2 i j) + blockSum d h i j := by
  pointwise [k0_pay3]
  rfl

end Payloads

variable (m : (ℓ : Loc nD τ sig) → Buf (Elt Ideal) ℓ)

theorem idx : ∀ t : Fin cfg0.N, win0_0.index t = ![t.val % 6, t.val / 6] ∧ win0_1.index t = ![t.val % 6, 0] ∧ win0_2.index t = ![t.val / 6, 0] :=
  (by decide +kernel : ∀ t : Fin grid0.N, win0_0.index t = ![t.val % 6, t.val / 6] ∧ win0_1.index t = ![t.val % 6, 0]
    ∧ win0_2.index t = ![t.val / 6, 0])

theorem points : cfg0.N = 66 := by decide +kernel

/-- Column `i` of the block of point `t` in the result. -/
def outCol (t : Fin cfg0.N) (i : Fin 1024) : Fin 11264 := ⟨t.val / 6 * 1024 + i.val, by
  have := lt_of_lt_of_eq t.isLt points
  omega⟩

theorem colAt_eq (t : Fin cfg0.N) (i : Fin 1024) : colAt (t.val / 6) i = outCol t i :=
  Fin.ext (Nat.mod_eq_of_lt (outCol t i).isLt)

section Inputs
variable (c : Dev nD) (t : Fin cfg0.N) (i j : Fin 1024) (k : Fin 1408)

theorem iblk0 : iblk m c 0 t (ix2 k i) = m ((c : Thread nD τ).loc main_arg0) (ix2 (rowAt (t.val % 6) k) (colAt (t.val / 6) i)) := by
  obtain ⟨e, -⟩ := idx t
  have := lt_of_lt_of_eq t.isLt points
  have hr : rowAt (t.val % 6) k = ⟨t.val % 6 * 1408 + k.val, by omega⟩ := Fin.ext (Nat.mod_eq_of_lt (by omega))
  have hc : colAt (t.val / 6) i = ⟨t.val / 6 * 1024 + i.val, by omega⟩ := Fin.ext (Nat.mod_eq_of_lt (by omega))
  rw [hr, hc]
  blk_point [iblk, V, e]

theorem iblk1 : iblk m c 1 t (ix2 k j) = m ((c : Thread nD τ).loc main_arg1) (ix2 (rowAt (t.val % 6) k) j) := by
  obtain ⟨-, e, -⟩ := idx t
  have hr : rowAt (t.val % 6) k = ⟨t.val % 6 * 1408 + k.val, by omega⟩ := Fin.ext (Nat.mod_eq_of_lt (by omega))
  rw [hr]
  blk_point [iblk, V, e]

theorem point : blockSum (iblk m c 0 t) (iblk m c 1 t) i j
    = part (m ((c : Thread nD τ).loc main_arg0)) (m ((c : Thread nD τ).loc main_arg1)) i j t.val :=
  Finset.sum_congr rfl fun k _ => by rw [iblk0, iblk1]

/-- The first point of a run sets the accumulator. -/
theorem first (n : ℕ) (h : n < cfg0.N) (h0 : n % 6 = 0) : (outsAt0 m c n h).2 (ix2 i j) = part (m ((c : Thread nD τ).loc main_arg0)) (m ((c : Thread nD τ).loc main_arg1)) i j n := by
  rw [show outsAt0 m c n h = _ from outsAt0_A m c ⟨n, h⟩ h0 (by dsimp only; omega) (by dsimp only; omega)]
  frame_out
  exact (pay1_apply _ _ _ _).trans (point m c ⟨n, h⟩ i j)

/-- The points between add to it. -/
theorem later (n : ℕ) (h : n < cfg0.N) (h0 : ¬n % 6 = 0) (h1 : n % 6 + 1 < 6) : (outsAt0 m c n h).2 (ix2 i j)
    = (outsAt0 m c (n - 1) (Nat.lt_of_le_of_lt (Nat.sub_le _ _) h)).2 (ix2 i j)
      + part (m ((c : Thread nD τ).loc main_arg0)) (m ((c : Thread nD τ).loc main_arg1)) i j n := by
  rw [show outsAt0 m c n h = _ from outsAt0_B m c ⟨n, h⟩ h0 (by dsimp only; omega) (by dsimp only; omega)]
  frame_out
  simp only [read_unread_whole]
  exact (pay2_apply _ _ _ _ _).trans (congrArg _ (point m c ⟨n, h⟩ i j))

/-- The last point writes the sum of the run's parts out: the whole column. -/
theorem written (h2 : t.val % 6 = 5) : (outsAt0 m c t.val t.isLt).1 (ix2 i j)
    = inner (m ((c : Thread nD τ).loc main_arg0)) (m ((c : Thread nD τ).loc main_arg1)) (outCol t i) j := by
  rw [outsAt0_C m c t (by omega) (by omega) h2]
  frame_out
  simp only [read_unread_whole]
  refine (pay3_apply _ _ _ _ _).trans ?_
  rw [point, ← colAt_eq, Accumulate.total (fun n h => (outsAt0 m c n h).2 (ix2 i j)) (part (m ((c : Thread nD τ).loc main_arg0)) (m ((c : Thread nD τ).loc main_arg1)) i j) (first m c i j) (later m c i j) (by decide) t.val t.isLt (by omega)]
  refine Fin.sum_mul_add_congr fun p k hl => ?_
  have hm : (6 * (t.val / 6) + p.val) % 6 = p.val := by omega
  have hd : (6 * (t.val / 6) + p.val) / 6 = t.val / 6 := by omega
  rw [hm, hd, show rowAt p.val k = ⟨p.val * 1408 + k.val, hl⟩ from Fin.ext (Nat.mod_eq_of_lt hl)]

end Inputs

/-- The array of the result after the run. -/
theorem final2_eq (c : Dev nD) : (dats m 0 c).arrAt 2 cfg0.N = fun i => inner (m ((c : Thread nD τ).loc main_arg0))
    (m ((c : Thread nD τ).loc main_arg1)) (i 0) (i 1) := by
  refine (dats m 0 c).arrAt_eq_of_covers 2 _ (by decide +kernel) fun t hf y => ?_
  obtain ⟨-, -, e⟩ := idx t
  have h2 : t.val % 6 = 5 := (flush0_2 t).mp hf
  blk_simp
  rw [after0_2]
  have key (y : S1024x1024.Idx) : (outsAt0 m c t.val t.isLt).1 y = inner (m ((c : Thread nD τ).loc main_arg0))
      (m ((c : Thread nD τ).loc main_arg1)) (outCol t (y 0)) (y 1) := by
    idx_vars y
    exact written m c t y0 y1 h2
  refine (key y).trans (congrArg₂ (inner _ _) (Fin.ext ?_) (Fin.ext ?_)) <;> blk_simp [outCol, e]

end Cert.WeightGradIdeal.Blocks

namespace Cert.WeightGradRefIdeal.Forward

open Cert.WeightGradRefIdeal Cert.WeightGradRefIdeal.Read Cert.WeightGradIdeal.Blocks

theorem product (d : Vec Ideal S8448x11264 .bf16) (h : Vec Ideal S8448x1024 .bf16) (i : Fin 11264) (j : Fin 1024) :
    val_main_v4 d h (ix2 i j) = inner d h i j := by
  pointwise [val_main_v0, val_main_v1, val_main_v2, val_main_v3, val_main_v4]
  rfl

end Cert.WeightGradRefIdeal.Forward

end
-- ==== Proof.WeightGradClaims.lean ====
/- The gradient of the projection's weights: the claims. -/
module

public import proofs.«01_k».proof.Defs
public import proofs.«01_k».proof.Proof.WeightGrad
public import proofs.«01_k».proof.Proof.Gen.WeightGrad.Frame
public import proofs.«01_k».proof.Proof.Gen.WeightGradRefIdeal.Run
public import Idealize.ShloMosaic.Lib.Quiescent

@[expose] public section

set_option maxRecDepth 16384

noncomputable section

open Idealize.ShloMosaic Idealize.ShloMosaic.TcCoe Idealize.SL.Sem

namespace Cert.WeightGradClaims

theorem frame : Cert.quiescent_WeightGrad := fun m ρ _ => Cert.WeightGrad.Gen.frame m ρ

theorem frame_ideal : Cert.quiescent_WeightGradIdeal := fun m ρ _ => Cert.WeightGradIdeal.Gen.frame m ρ

theorem frame_ref : Cert.quiescent_WeightGradRefIdeal := fun m ρ _ =>
  (θ_run Cert.WeightGradRefIdeal.defs _ _).mono (fun r h => ⟨fun c => (h c).2,
      Idealize.ShloMosaic.sem_eq_zero_of_no_sems (by decide) r.2⟩)
    (Cert.WeightGradRefIdeal.Value.run (F := Ideal) m ρ)

theorem preserves : Cert.preserves_WeightGrad_WeightGradIdeal := trivial

open Cert.WeightGradIdeal.Blocks Cert.WeightGradRefIdeal.Forward in
theorem algebraic : Cert.algebraic_WeightGradIdeal_WeightGradRefIdeal := by
  intro m ρ m' ρ' _ hagree
  refine ⟨_, Cert.WeightGradIdeal.Value.run_blocks m ρ, ?_⟩
  refine (θ_run Cert.WeightGradRefIdeal.defs _ _).mono (fun r h c => ?_) (Cert.WeightGradRefIdeal.Value.run (F := Ideal) m' ρ')
  obtain ⟨a0, a1⟩ := hagree c
  obtain ⟨h0, kept⟩ := h c
  refine ⟨?_, kept⟩
  · rw [h0, final2_eq, Cert.WeightGradRefIdeal.Read.val_main_v4_eq, a0, a1]
    exact funext fun i => by idx_vars i; exact product _ _ _ _

end Cert.WeightGradClaims

end
-- ==== Proof.FfnBack.lean ====
/- The gradient in front of the FFN, from the gradients of its two halves: what the kernel leaves in its result array, index by
   index, and that the reference's product over both halves together gives the same array. -/
module

public import Idealize.ShloMosaic.Lib.Pipeline.ReadBack
public import proofs.«01_k».proof.Proof.Gen.FfnBackIdeal.Value
public import proofs.«01_k».proof.Proof.Gen.FfnBackRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnBackIdeal.Blocks

open Cert.FfnBackIdeal Cert.FfnBackIdeal.Gen

/-- A row of the two halves, one after the other, times a row of the weights. -/
def inner (a b : Vec Ideal S8448x2816 .bf16) (w : Vec Ideal S1024x5632 .bf16) (r : Fin 8448) (j : Fin 1024) : EReal :=
  (∑ k : Fin 2816, a (ix2 r k) * w (ix2 j ⟨k.val, by omega⟩)) + ∑ k : Fin 2816, b (ix2 r k) * w (ix2 j ⟨2816 + k.val, by omega⟩)

/-- A row of one half's block times a column of that half's weights. -/
def halfSum (a : Vec Ideal S768x2816 .bf16) (w : Vec Ideal S2816x1024 .bf16) (r : Fin 768) (j : Fin 1024) : EReal :=
  ∑ k : Fin 2816, a (ix2 r k) * w (ix2 k j)

section Payloads
variable (acc : Vec Ideal S768x1024 .f32) (a : Vec Ideal S768x2816 .bf16) (w : Vec Ideal S2816x1024 .bf16) (r : Fin 768) (j : Fin 1024)

theorem pay1_apply : k0_pay1 a w (ix2 r j) = halfSum a w r j := by
  pointwise [k0_pay1]
  rfl

theorem pay2_apply : k0_pay2 acc a w (ix2 r j) = acc (ix2 r j) + halfSum a w r j := by
  pointwise [k0_pay2]
  rfl

end Payloads

variable (m : (ℓ : Loc nD τ sig) → Buf (Elt Ideal) ℓ)

theorem idx : ∀ t : Fin cfg0.N, win0_0.index t = ![t.val / 2, 0] ∧ win0_1.index t = ![t.val / 2, 0] ∧ win0_2.index t = ![t.val % 2, 0]
    ∧ win0_3.index t = ![t.val / 2, 0] :=
  (by decide +kernel : ∀ t : Fin grid0.N, win0_0.index t = ![t.val / 2, 0] ∧ win0_1.index t = ![t.val / 2, 0] ∧ win0_2.index t = ![t.val % 2, 0]
    ∧ win0_3.index t = ![t.val / 2, 0])

theorem points : cfg0.N = 22 := by decide +kernel

/-- Row `r` of the block of point `t` in the whole array. -/
def rowAt (t : Fin cfg0.N) (r : Fin 768) : Fin 8448 := ⟨t.val / 2 * 768 + r.val, by
  have := lt_of_lt_of_eq t.isLt points
  omega⟩

section Inputs
variable (c : Dev nD) (t : Fin cfg0.N) (r : Fin 768) (j : Fin 1024) (k : Fin 2816)

theorem iblk0 : iblk m c 0 t (ix2 r k) = m ((c : Thread nD τ).loc main_arg0) (ix2 (rowAt t r) k) := by
  obtain ⟨e, -⟩ := idx t
  simp only [rowAt]
  blk_point [iblk, V, e]

theorem iblk1 : iblk m c 1 t (ix2 r k) = m ((c : Thread nD τ).loc main_arg1) (ix2 (rowAt t r) k) := by
  obtain ⟨-, e, -⟩ := idx t
  simp only [rowAt]
  blk_point [iblk, V, e]

/-- The call reads the weights transposed, one half of them at a point. -/
theorem iblk2 (q : Fin 5632) (hq : t.val % 2 * 2816 + k.val = q.val) :
    iblk m c 2 t (ix2 k j) = m ((c : Thread nD τ).loc main_arg2) (ix2 j q) := by
  obtain ⟨-, -, e, -⟩ := idx t
  have whole (q : Fin 5632) : V m c main_v0 (ix2 q j) = m ((c : Thread nD τ).loc main_arg2) (ix2 j q) := by
    simp only [V]
    entry_read
    pointwise []
  refine Eq.trans ?_ ((whole ⟨t.val % 2 * 2816 + k.val, by omega⟩).trans
    (congrArg (fun q => m ((c : Thread nD τ).loc main_arg2) (ix2 j q)) (Fin.ext hq)))
  blk_point [iblk, e]

/-- The point of the first half sets the accumulator. -/
theorem first (h0 : t.val % 2 = 0) : (outsAt0 m c t.val t.isLt).2 (ix2 r j)
    = halfSum (iblk m c 0 t) (iblk m c 2 t) r j := by
  rw [outsAt0_A m c t h0 (by omega)]
  frame_out
  exact pay1_apply _ _ _ _

/-- The point of the second half writes the sum of both halves out. -/
theorem written (h1 : t.val % 2 = 1) : (outsAt0 m c t.val t.isLt).1 (ix2 r j)
    = inner (m ((c : Thread nD τ).loc main_arg0)) (m ((c : Thread nD τ).loc main_arg1)) (m ((c : Thread nD τ).loc main_arg2)) (rowAt t r) j := by
  rw [outsAt0_B m c t (by omega) h1]
  frame_out
  simp only [read_unread_whole]
  refine (pay2_apply _ _ _ _ _).trans ?_
  have hp : t.val - 1 < cfg0.N := Nat.lt_of_le_of_lt (Nat.sub_le _ _) t.isLt
  have hrow : rowAt ⟨t.val - 1, hp⟩ r = rowAt t r := Fin.ext (by simp only [rowAt]; omega)
  refine congrArg₂ (· + ·) ((first m c ⟨t.val - 1, hp⟩ r j (by dsimp only; omega)).trans ?_) ?_
  · refine Finset.sum_congr rfl fun k _ => ?_
    rw [iblk0, iblk2 m c ⟨t.val - 1, hp⟩ j k ⟨k.val, by omega⟩ (by dsimp only; omega), hrow]
  · refine Finset.sum_congr rfl fun k _ => ?_
    rw [iblk1, iblk2 m c t j k ⟨2816 + k.val, by omega⟩ (by dsimp only; omega)]

end Inputs

/-- The array of the result after the run. -/
theorem final3_eq (c : Dev nD) : (dats m 0 c).arrAt 3 cfg0.N = fun i => inner (m ((c : Thread nD τ).loc main_arg0))
    (m ((c : Thread nD τ).loc main_arg1)) (m ((c : Thread nD τ).loc main_arg2)) (i 0) (i 1) := by
  refine (dats m 0 c).arrAt_eq_of_covers 3 _ (by decide +kernel) fun t hf y => ?_
  obtain ⟨-, -, -, e⟩ := idx t
  have h1 : t.val % 2 = 1 := (flush0_3 t).mp hf
  blk_simp
  rw [after0_3]
  have key (y : S768x1024.Idx) : (outsAt0 m c t.val t.isLt).1 y = inner (m ((c : Thread nD τ).loc main_arg0))
      (m ((c : Thread nD τ).loc main_arg1)) (m ((c : Thread nD τ).loc main_arg2)) (rowAt t (y 0)) (y 1) := by
    idx_vars y
    exact written m c t y0 y1 h1
  refine (key y).trans (congrArg₂ (inner _ _ _) (Fin.ext ?_) (Fin.ext ?_)) <;> blk_simp [rowAt, e]

end Cert.FfnBackIdeal.Blocks

namespace Cert.FfnBackRefIdeal.Forward

open Cert.FfnBackRefIdeal Cert.FfnBackRefIdeal.Read Cert.FfnBackIdeal.Blocks

section Columns
variable (a b : Vec Ideal S8448x2816 .bf16) (r : Fin 8448) (k : Fin 2816)

theorem columns_a : val_main_v0 a b (ix2 r ⟨0 + k.val, by omega⟩) = a (ix2 r k) := by
  pointwise [val_main_v0]

theorem columns_b : val_main_v0 a b (ix2 r ⟨2816 + k.val, by omega⟩) = b (ix2 r k) := by
  pointwise [val_main_v0]

end Columns

theorem product (a b : Vec Ideal S8448x2816 .bf16) (w : Vec Ideal S1024x5632 .bf16) (r : Fin 8448) (j : Fin 1024) :
    val_main_v5 a b w (ix2 r j) = inner a b w r j := by
  have whole : val_main_v5 a b w (ix2 r j) = ∑ k : Fin 5632, val_main_v0 a b (ix2 r k) * w (ix2 j k) := by
    pointwise [val_main_v1, val_main_v2, val_main_v3, val_main_v4, val_main_v5]
  rw [whole]
  refine (Fin.sum_univ_add (a := 2816) (b := 2816) (fun k : Fin 5632 => val_main_v0 a b (ix2 r k) * w (ix2 j k))).trans ?_
  refine congrArg₂ (· + ·) (Finset.sum_congr rfl fun k _ => ?_) (Finset.sum_congr rfl fun k _ => ?_)
  · rw [← columns_a a b r k]
    refine congrArg₂ (· * ·) (congrArg _ (congrArg (ix2 r) (Fin.ext ?_))) rfl
    simp
  · rw [← columns_b a b r k]
    rfl

end Cert.FfnBackRefIdeal.Forward

end
-- ==== Proof.FfnBackClaims.lean ====
/- The gradient in front of the FFN: the claims. -/
module

public import proofs.«01_k».proof.Defs
public import proofs.«01_k».proof.Proof.FfnBack
public import proofs.«01_k».proof.Proof.Gen.FfnBack.Frame
public import proofs.«01_k».proof.Proof.Gen.FfnBackRefIdeal.Run
public import Idealize.ShloMosaic.Lib.Quiescent

@[expose] public section

set_option maxRecDepth 16384

noncomputable section

open Idealize.ShloMosaic Idealize.ShloMosaic.TcCoe Idealize.SL.Sem

namespace Cert.FfnBackClaims

theorem frame : Cert.quiescent_FfnBack := fun m ρ _ => Cert.FfnBack.Gen.frame m ρ

theorem frame_ideal : Cert.quiescent_FfnBackIdeal := fun m ρ _ => Cert.FfnBackIdeal.Gen.frame m ρ

theorem frame_ref : Cert.quiescent_FfnBackRefIdeal := fun m ρ _ =>
  (θ_run Cert.FfnBackRefIdeal.defs _ _).mono (fun r h => ⟨fun c => (h c).2,
      Idealize.ShloMosaic.sem_eq_zero_of_no_sems (by decide) r.2⟩)
    (Cert.FfnBackRefIdeal.Value.run (F := Ideal) m ρ)

theorem preserves : Cert.preserves_FfnBack_FfnBackIdeal := trivial

open Cert.FfnBackIdeal.Blocks Cert.FfnBackRefIdeal.Forward in
theorem algebraic : Cert.algebraic_FfnBackIdeal_FfnBackRefIdeal := by
  intro m ρ m' ρ' _ hagree
  refine ⟨_, Cert.FfnBackIdeal.Value.run_blocks m ρ, ?_⟩
  refine (θ_run Cert.FfnBackRefIdeal.defs _ _).mono (fun r h c => ?_) (Cert.FfnBackRefIdeal.Value.run (F := Ideal) m' ρ')
  obtain ⟨a0, a1, a2⟩ := hagree c
  obtain ⟨h0, kept⟩ := h c
  refine ⟨?_, kept⟩
  · rw [h0, final3_eq, Cert.FfnBackRefIdeal.Read.val_main_v5_eq, a0, a1, a2]
    exact funext fun i => by idx_vars i; exact product _ _ _ _ _

end Cert.FfnBackClaims

end
-- ==== Proof.ProjBack.lean ====
/- The gradient in front of the projection: what the kernel leaves in its result array, index by index, and that the reference's
   product gives the same array. -/
module

public import proofs.«01_k».proof.Proof.Accumulate
public import Idealize.ShloMosaic.Lib.Pipeline.ReadBack
public import proofs.«01_k».proof.Proof.Gen.ProjBackIdeal.Value
public import proofs.«01_k».proof.Proof.Gen.ProjBackRefIdeal.Read
public import Idealize.ShloMosaic.Lib.Tactic
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjBackIdeal.Blocks

open Cert.ProjBackIdeal Cert.ProjBackIdeal.Gen

/-- A row of the gradient times a row of the weights. -/
def inner (d : Vec Ideal S8448x11264 .bf16) (w : Vec Ideal S1024x11264 .bf16) (r : Fin 8448) (j : Fin 1024) : EReal :=
  ∑ k : Fin 11264, d (ix2 r k) * w (ix2 j k)

/-- A row of one block times a column of the other. -/
def blockSum (d : Vec Ideal S768x2816 .bf16) (w : Vec Ideal S2816x1024 .bf16) (r : Fin 768) (j : Fin 1024) : EReal :=
  ∑ k : Fin 2816, d (ix2 r k) * w (ix2 k j)

/-- Row `r` of block `q` of rows. -/
def rowAt (q : ℕ) (r : Fin 768) : Fin 8448 := ⟨(q * 768 + r.val) % 8448, Nat.mod_lt _ (by decide)⟩

/-- Column `k` of block `p` of columns. -/
def colAt (p : ℕ) (k : Fin 2816) : Fin 11264 := ⟨(p * 2816 + k.val) % 11264, Nat.mod_lt _ (by decide)⟩

/-- The part of an element that grid point `n` adds: one block of columns. -/
def part (d : Vec Ideal S8448x11264 .bf16) (w : Vec Ideal S1024x11264 .bf16) (r : Fin 768) (j : Fin 1024) (n : ℕ) : EReal :=
  ∑ k : Fin 2816, d (ix2 (rowAt (n / 4) r) (colAt (n % 4) k)) * w (ix2 j (colAt (n % 4) k))

section Payloads
variable (acc : Vec Ideal S768x1024 .f32) (d : Vec Ideal S768x2816 .bf16) (w : Vec Ideal S2816x1024 .bf16) (r : Fin 768) (j : Fin 1024)

theorem pay1_apply : k0_pay1 d w (ix2 r j) = blockSum d w r j := by
  pointwise [k0_pay1]
  rfl

theorem pay2_apply : k0_pay2 acc d w (ix2 r j) = acc (ix2 r j) + blockSum d w r j := by
  pointwise [k0_pay2]
  rfl

theorem pay3_apply : k0_pay3 acc d w (ix2 r j) = acc (ix2 r j) + blockSum d w r j := by
  pointwise [k0_pay3]
  rfl

end Payloads

variable (m : (ℓ : Loc nD τ sig) → Buf (Elt Ideal) ℓ)

theorem idx : ∀ t : Fin cfg0.N, win0_0.index t = ![t.val / 4, t.val % 4] ∧ win0_1.index t = ![t.val % 4, 0] ∧ win0_2.index t = ![t.val / 4, 0] :=
  (by decide +kernel : ∀ t : Fin grid0.N, win0_0.index t = ![t.val / 4, t.val % 4] ∧ win0_1.index t = ![t.val % 4, 0]
    ∧ win0_2.index t = ![t.val / 4, 0])

theorem points : cfg0.N = 44 := by decide +kernel

/-- Row `r` of the block of point `t` in the result. -/
def outRow (t : Fin cfg0.N) (r : Fin 768) : Fin 8448 := ⟨t.val / 4 * 768 + r.val, by
  have := lt_of_lt_of_eq t.isLt points
  omega⟩

theorem rowAt_eq (t : Fin cfg0.N) (r : Fin 768) : rowAt (t.val / 4) r = outRow t r :=
  Fin.ext (Nat.mod_eq_of_lt (outRow t r).isLt)

section Inputs
variable (c : Dev nD) (t : Fin cfg0.N) (r : Fin 768) (j : Fin 1024) (k : Fin 2816)

theorem iblk0 : iblk m c 0 t (ix2 r k) = m ((c : Thread nD τ).loc main_arg0) (ix2 (rowAt (t.val / 4) r) (colAt (t.val % 4) k)) := by
  obtain ⟨e, -⟩ := idx t
  have hc : colAt (t.val % 4) k = ⟨t.val % 4 * 2816 + k.val, by omega⟩ := Fin.ext (Nat.mod_eq_of_lt (by omega))
  rw [rowAt_eq, hc]
  simp only [outRow]
  blk_point [iblk, V, e]

/-- The call reads the weights transposed. -/
theorem iblk1 : iblk m c 1 t (ix2 k j) = m ((c : Thread nD τ).loc main_arg1) (ix2 j (colAt (t.val % 4) k)) := by
  obtain ⟨-, e, -⟩ := idx t
  have whole (q : Fin 11264) : V m c main_v0 (ix2 q j) = m ((c : Thread nD τ).loc main_arg1) (ix2 j q) := by
    simp only [V]
    entry_read
    pointwise []
  have hc : colAt (t.val % 4) k = ⟨t.val % 4 * 2816 + k.val, by omega⟩ := Fin.ext (Nat.mod_eq_of_lt (by omega))
  rw [hc]
  refine Eq.trans ?_ (whole _)
  blk_point [iblk, e]

theorem point : blockSum (iblk m c 0 t) (iblk m c 1 t) r j
    = part (m ((c : Thread nD τ).loc main_arg0)) (m ((c : Thread nD τ).loc main_arg1)) r j t.val :=
  Finset.sum_congr rfl fun k _ => by rw [iblk0, iblk1]

/-- The first point of a run sets the accumulator. -/
theorem first (n : ℕ) (h : n < cfg0.N) (h0 : n % 4 = 0) : (outsAt0 m c n h).2 (ix2 r j)
    = part (m ((c : Thread nD τ).loc main_arg0)) (m ((c : Thread nD τ).loc main_arg1)) r j n := by
  rw [show outsAt0 m c n h = _ from outsAt0_A m c ⟨n, h⟩ h0 (by dsimp only; omega) (by dsimp only; omega)]
  frame_out
  exact (pay1_apply _ _ _ _).trans (point m c ⟨n, h⟩ r j)

/-- The points between add to it. -/
theorem later (n : ℕ) (h : n < cfg0.N) (h0 : ¬n % 4 = 0) (h1 : n % 4 + 1 < 4) : (outsAt0 m c n h).2 (ix2 r j)
    = (outsAt0 m c (n - 1) (Nat.lt_of_le_of_lt (Nat.sub_le _ _) h)).2 (ix2 r j)
      + part (m ((c : Thread nD τ).loc main_arg0)) (m ((c : Thread nD τ).loc main_arg1)) r j n := by
  rw [show outsAt0 m c n h = _ from outsAt0_B m c ⟨n, h⟩ h0 (by dsimp only; omega) (by dsimp only; omega)]
  frame_out
  simp only [read_unread_whole]
  exact (pay2_apply _ _ _ _ _).trans (congrArg _ (point m c ⟨n, h⟩ r j))

/-- The last point writes the sum of the run's parts out: the whole row. -/
theorem written (h2 : t.val % 4 = 3) : (outsAt0 m c t.val t.isLt).1 (ix2 r j)
    = inner (m ((c : Thread nD τ).loc main_arg0)) (m ((c : Thread nD τ).loc main_arg1)) (outRow t r) j := by
  rw [outsAt0_C m c t (by omega) (by omega) h2]
  frame_out
  simp only [read_unread_whole]
  refine (pay3_apply _ _ _ _ _).trans ?_
  rw [point, ← rowAt_eq, Accumulate.total (fun n h => (outsAt0 m c n h).2 (ix2 r j))
    (part (m ((c : Thread nD τ).loc main_arg0)) (m ((c : Thread nD τ).loc main_arg1)) r j) (first m c r j) (later m c r j) (by decide) t.val t.isLt (by omega)]
  refine Fin.sum_mul_add_congr fun p k hl => ?_
  have hm : (4 * (t.val / 4) + p.val) % 4 = p.val := by omega
  have hd : (4 * (t.val / 4) + p.val) / 4 = t.val / 4 := by omega
  rw [hm, hd, show colAt p.val k = ⟨p.val * 2816 + k.val, hl⟩ from Fin.ext (Nat.mod_eq_of_lt hl)]

end Inputs

/-- The array of the result after the run. -/
theorem final2_eq (c : Dev nD) : (dats m 0 c).arrAt 2 cfg0.N = fun i => inner (m ((c : Thread nD τ).loc main_arg0))
    (m ((c : Thread nD τ).loc main_arg1)) (i 0) (i 1) := by
  refine (dats m 0 c).arrAt_eq_of_covers 2 _ (by decide +kernel) fun t hf y => ?_
  obtain ⟨-, -, e⟩ := idx t
  have h2 : t.val % 4 = 3 := (flush0_2 t).mp hf
  blk_simp
  rw [after0_2]
  have key (y : S768x1024.Idx) : (outsAt0 m c t.val t.isLt).1 y = inner (m ((c : Thread nD τ).loc main_arg0))
      (m ((c : Thread nD τ).loc main_arg1)) (outRow t (y 0)) (y 1) := by
    idx_vars y
    exact written m c t y0 y1 h2
  refine (key y).trans (congrArg₂ (inner _ _) (Fin.ext ?_) (Fin.ext ?_)) <;> blk_simp [outRow, e]

end Cert.ProjBackIdeal.Blocks

namespace Cert.ProjBackRefIdeal.Forward

open Cert.ProjBackRefIdeal Cert.ProjBackRefIdeal.Read Cert.ProjBackIdeal.Blocks

theorem product (d : Vec Ideal S8448x11264 .bf16) (w : Vec Ideal S1024x11264 .bf16) (r : Fin 8448) (j : Fin 1024) :
    val_main_v4 d w (ix2 r j) = inner d w r j := by
  pointwise [val_main_v0, val_main_v1, val_main_v2, val_main_v3, val_main_v4]
  rfl

end Cert.ProjBackRefIdeal.Forward

end
-- ==== Proof.ProjBackClaims.lean ====
/- The gradient in front of the projection: the claims. -/
module

public import proofs.«01_k».proof.Defs
public import proofs.«01_k».proof.Proof.ProjBack
public import proofs.«01_k».proof.Proof.Gen.ProjBack.Frame
public import proofs.«01_k».proof.Proof.Gen.ProjBackRefIdeal.Run
public import Idealize.ShloMosaic.Lib.Quiescent

@[expose] public section

set_option maxRecDepth 16384

noncomputable section

open Idealize.ShloMosaic Idealize.ShloMosaic.TcCoe Idealize.SL.Sem

namespace Cert.ProjBackClaims

theorem frame : Cert.quiescent_ProjBack := fun m ρ _ => Cert.ProjBack.Gen.frame m ρ

theorem frame_ideal : Cert.quiescent_ProjBackIdeal := fun m ρ _ => Cert.ProjBackIdeal.Gen.frame m ρ

theorem frame_ref : Cert.quiescent_ProjBackRefIdeal := fun m ρ _ =>
  (θ_run Cert.ProjBackRefIdeal.defs _ _).mono (fun r h => ⟨fun c => (h c).2,
      Idealize.ShloMosaic.sem_eq_zero_of_no_sems (by decide) r.2⟩)
    (Cert.ProjBackRefIdeal.Value.run (F := Ideal) m ρ)

theorem preserves : Cert.preserves_ProjBack_ProjBackIdeal := trivial

open Cert.ProjBackIdeal.Blocks Cert.ProjBackRefIdeal.Forward in
theorem algebraic : Cert.algebraic_ProjBackIdeal_ProjBackRefIdeal := by
  intro m ρ m' ρ' _ hagree
  refine ⟨_, Cert.ProjBackIdeal.Value.run_blocks m ρ, ?_⟩
  refine (θ_run Cert.ProjBackRefIdeal.defs _ _).mono (fun r h c => ?_) (Cert.ProjBackRefIdeal.Value.run (F := Ideal) m' ρ')
  obtain ⟨a0, a1⟩ := hagree c
  obtain ⟨h0, kept⟩ := h c
  refine ⟨?_, kept⟩
  · rw [h0, final2_eq, Cert.ProjBackRefIdeal.Read.val_main_v4_eq, a0, a1]
    exact funext fun i => by idx_vars i; exact product _ _ _ _

end Cert.ProjBackClaims

end
-- ==== Proof.lean ====
/- The claims about the gradients of one training step, assembled: each call's module proves its own. -/
module

public import proofs.«01_k».proof.Defs
public import proofs.«01_k».proof.Proof.Gen.Merge
public import proofs.«01_k».proof.Proof.Gen.MergeIdeal
public import proofs.«01_k».proof.Proof.Gen.MergeRefIdeal
public import proofs.«01_k».proof.Proof.Gen.PreMix
public import proofs.«01_k».proof.Proof.Gen.PreMixIdeal
public import proofs.«01_k».proof.Proof.Gen.PreMixRefIdeal
public import proofs.«01_k».proof.Proof.Gen.PostMix
public import proofs.«01_k».proof.Proof.Gen.PostMixIdeal
public import proofs.«01_k».proof.Proof.Gen.PostMixRefIdeal
public import proofs.«01_k».proof.Proof.Gen.LossHead
public import proofs.«01_k».proof.Proof.Gen.LossHeadIdeal
public import proofs.«01_k».proof.Proof.Gen.LossHeadRefIdeal
public import proofs.«01_k».proof.Proof.Gen.Swiglu
public import proofs.«01_k».proof.Proof.Gen.SwigluIdeal
public import proofs.«01_k».proof.Proof.Gen.SwigluRefIdeal
public import proofs.«01_k».proof.Proof.Gen.Stick
public import proofs.«01_k».proof.Proof.Gen.StickIdeal
public import proofs.«01_k».proof.Proof.Gen.StickRefIdeal
public import proofs.«01_k».proof.Proof.Gen.StickOut
public import proofs.«01_k».proof.Proof.Gen.StickOutIdeal
public import proofs.«01_k».proof.Proof.Gen.StickOutRefIdeal
public import proofs.«01_k».proof.Proof.Gen.PreNorm
public import proofs.«01_k».proof.Proof.Gen.PreNormIdeal
public import proofs.«01_k».proof.Proof.Gen.PreNormRefIdeal
public import proofs.«01_k».proof.Proof.Gen.Gates
public import proofs.«01_k».proof.Proof.Gen.GatesIdeal
public import proofs.«01_k».proof.Proof.Gen.GatesRefIdeal
public import proofs.«01_k».proof.Proof.Gen.TwoNorms
public import proofs.«01_k».proof.Proof.Gen.TwoNormsIdeal
public import proofs.«01_k».proof.Proof.Gen.TwoNormsRefIdeal
public import proofs.«01_k».proof.Proof.Gen.FfnIn
public import proofs.«01_k».proof.Proof.Gen.FfnInIdeal
public import proofs.«01_k».proof.Proof.Gen.FfnInRefIdeal
public import proofs.«01_k».proof.Proof.Gen.Ret
public import proofs.«01_k».proof.Proof.Gen.RetIdeal
public import proofs.«01_k».proof.Proof.Gen.RetRefIdeal
public import proofs.«01_k».proof.Proof.Gen.Proj
public import proofs.«01_k».proof.Proof.Gen.ProjIdeal
public import proofs.«01_k».proof.Proof.Gen.ProjRefIdeal
public import proofs.«01_k».proof.Proof.Gen.AdamW
public import proofs.«01_k».proof.Proof.Gen.AdamWIdeal
public import proofs.«01_k».proof.Proof.Gen.AdamWRefIdeal
public import proofs.«01_k».proof.Proof.Gen.Slots
public import proofs.«01_k».proof.Proof.Gen.SlotsIdeal
public import proofs.«01_k».proof.Proof.Gen.SlotsRefIdeal
public import proofs.«01_k».proof.Proof.Gen.WeightGrad
public import proofs.«01_k».proof.Proof.Gen.WeightGradIdeal
public import proofs.«01_k».proof.Proof.Gen.WeightGradRefIdeal
public import proofs.«01_k».proof.Proof.Gen.FfnBack
public import proofs.«01_k».proof.Proof.Gen.FfnBackIdeal
public import proofs.«01_k».proof.Proof.Gen.FfnBackRefIdeal
public import proofs.«01_k».proof.Proof.Gen.ProjBack
public import proofs.«01_k».proof.Proof.Gen.ProjBackIdeal
public import proofs.«01_k».proof.Proof.Gen.ProjBackRefIdeal
public import proofs.«01_k».proof.Proof.Gen.Pre_swiglu_finite
public import proofs.«01_k».proof.Proof.Gen.Pre_stick_finite
public import proofs.«01_k».proof.Proof.Gen.Pre_scores_finite
public import proofs.«01_k».proof.Proof.Gen.On_gate_columns
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.Gen.PreMix.Frame
public import proofs.«01_k».proof.Proof.Gen.PreMixIdeal.Frame
public import proofs.«01_k».proof.Proof.Gen.PreMixIdeal.Value
public import proofs.«01_k».proof.Proof.Gen.PreMixRefIdeal.Run
public import proofs.«01_k».proof.Proof.Gen.PreMixRefIdeal.Read
public import proofs.«01_k».proof.Proof.Gen.PostMix.Frame
public import proofs.«01_k».proof.Proof.Gen.PostMixIdeal.Frame
public import proofs.«01_k».proof.Proof.Gen.PostMixIdeal.Value
public import proofs.«01_k».proof.Proof.Gen.PostMixRefIdeal.Run
public import proofs.«01_k».proof.Proof.Gen.PostMixRefIdeal.Read
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.Swiglu.Frame
public import proofs.«01_k».proof.Proof.Gen.SwigluIdeal.Frame
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.StickRefIdeal.Run
public import proofs.«01_k».proof.Proof.Gen.StickRefIdeal.Read
public import proofs.«01_k».proof.Proof.Gen.StickOutRefIdeal.Run
public import proofs.«01_k».proof.Proof.Gen.StickOutRefIdeal.Read
public import proofs.«01_k».proof.Proof.Gen.PreNorm.Frame
public import proofs.«01_k».proof.Proof.Gen.PreNormIdeal.Frame
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.TwoNorms.Frame
public import proofs.«01_k».proof.Proof.Gen.TwoNormsIdeal.Frame
public import proofs.«01_k».proof.Proof.Gen.TwoNormsIdeal.Value
public import proofs.«01_k».proof.Proof.Gen.TwoNormsRefIdeal.Run
public import proofs.«01_k».proof.Proof.Gen.TwoNormsRefIdeal.Read
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.Ret.Frame
public import proofs.«01_k».proof.Proof.Gen.RetIdeal.Frame
public import proofs.«01_k».proof.Proof.Gen.RetIdeal.Value
public import proofs.«01_k».proof.Proof.Gen.RetRefIdeal.Run
public import proofs.«01_k».proof.Proof.Gen.RetRefIdeal.Step
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.Gen.AdamWRefIdeal.Read
public import proofs.«01_k».proof.Proof.Gen.Slots.Frame
public import proofs.«01_k».proof.Proof.Gen.SlotsIdeal.Frame
public import proofs.«01_k».proof.Proof.Gen.SlotsIdeal.Value
public import proofs.«01_k».proof.Proof.Gen.SlotsRefIdeal.Run
public import proofs.«01_k».proof.Proof.Gen.SlotsRefIdeal.Read
public import proofs.«01_k».proof.Proof.Gen.WeightGrad.Frame
public import proofs.«01_k».proof.Proof.Gen.WeightGradIdeal.Frame
public import proofs.«01_k».proof.Proof.Gen.WeightGradIdeal.Value
public import proofs.«01_k».proof.Proof.Gen.WeightGradRefIdeal.Run
public import proofs.«01_k».proof.Proof.Gen.WeightGradRefIdeal.Read
public import proofs.«01_k».proof.Proof.Gen.FfnBack.Frame
public import proofs.«01_k».proof.Proof.Gen.FfnBackIdeal.Frame
public import proofs.«01_k».proof.Proof.Gen.FfnBackIdeal.Value
public import proofs.«01_k».proof.Proof.Gen.FfnBackRefIdeal.Run
public import proofs.«01_k».proof.Proof.Gen.FfnBackRefIdeal.Read
public import proofs.«01_k».proof.Proof.Gen.ProjBack.Frame
public import proofs.«01_k».proof.Proof.Gen.ProjBackIdeal.Frame
public import proofs.«01_k».proof.Proof.Gen.ProjBackIdeal.Value
public import proofs.«01_k».proof.Proof.Gen.ProjBackRefIdeal.Run
public import proofs.«01_k».proof.Proof.Gen.ProjBackRefIdeal.Read
public import proofs.«01_k».proof.Proof.MergeClaims
public import proofs.«01_k».proof.Proof.PreMixClaims
public import proofs.«01_k».proof.Proof.PostMixClaims
public import proofs.«01_k».proof.Proof.LossHeadClaims
public import proofs.«01_k».proof.Proof.SwigluClaims
public import proofs.«01_k».proof.Proof.StickClaims
public import proofs.«01_k».proof.Proof.StickOutClaims
public import proofs.«01_k».proof.Proof.PreNormClaims
public import proofs.«01_k».proof.Proof.GatesClaims
public import proofs.«01_k».proof.Proof.TwoNormsClaims
public import proofs.«01_k».proof.Proof.FfnInClaims
public import proofs.«01_k».proof.Proof.RetClaims
public import proofs.«01_k».proof.Proof.ProjClaims
public import proofs.«01_k».proof.Proof.AdamWClaims
public import proofs.«01_k».proof.Proof.SlotsClaims
public import proofs.«01_k».proof.Proof.WeightGradClaims
public import proofs.«01_k».proof.Proof.FfnBackClaims
public import proofs.«01_k».proof.Proof.ProjBackClaims

@[expose] public section

noncomputable section

namespace Cert.Proof

theorem claim : Cert.Claim :=
  ⟨Cert.Merge.Gen.facts,
    Cert.MergeIdeal.Gen.facts,
    Cert.MergeRefIdeal.Gen.facts,
    Cert.PreMix.Gen.facts,
    Cert.PreMixIdeal.Gen.facts,
    Cert.PreMixRefIdeal.Gen.facts,
    Cert.PostMix.Gen.facts,
    Cert.PostMixIdeal.Gen.facts,
    Cert.PostMixRefIdeal.Gen.facts,
    Cert.LossHead.Gen.facts,
    Cert.LossHeadIdeal.Gen.facts,
    Cert.LossHeadRefIdeal.Gen.facts,
    Cert.Swiglu.Gen.facts,
    Cert.SwigluIdeal.Gen.facts,
    Cert.SwigluRefIdeal.Gen.facts,
    Cert.Stick.Gen.facts,
    Cert.StickIdeal.Gen.facts,
    Cert.StickRefIdeal.Gen.facts,
    Cert.StickOut.Gen.facts,
    Cert.StickOutIdeal.Gen.facts,
    Cert.StickOutRefIdeal.Gen.facts,
    Cert.PreNorm.Gen.facts,
    Cert.PreNormIdeal.Gen.facts,
    Cert.PreNormRefIdeal.Gen.facts,
    Cert.Gates.Gen.facts,
    Cert.GatesIdeal.Gen.facts,
    Cert.GatesRefIdeal.Gen.facts,
    Cert.TwoNorms.Gen.facts,
    Cert.TwoNormsIdeal.Gen.facts,
    Cert.TwoNormsRefIdeal.Gen.facts,
    Cert.FfnIn.Gen.facts,
    Cert.FfnInIdeal.Gen.facts,
    Cert.FfnInRefIdeal.Gen.facts,
    Cert.Ret.Gen.facts,
    Cert.RetIdeal.Gen.facts,
    Cert.RetRefIdeal.Gen.facts,
    Cert.Proj.Gen.facts,
    Cert.ProjIdeal.Gen.facts,
    Cert.ProjRefIdeal.Gen.facts,
    Cert.AdamW.Gen.facts,
    Cert.AdamWIdeal.Gen.facts,
    Cert.AdamWRefIdeal.Gen.facts,
    Cert.Slots.Gen.facts,
    Cert.SlotsIdeal.Gen.facts,
    Cert.SlotsRefIdeal.Gen.facts,
    Cert.WeightGrad.Gen.facts,
    Cert.WeightGradIdeal.Gen.facts,
    Cert.WeightGradRefIdeal.Gen.facts,
    Cert.FfnBack.Gen.facts,
    Cert.FfnBackIdeal.Gen.facts,
    Cert.FfnBackRefIdeal.Gen.facts,
    Cert.ProjBack.Gen.facts,
    Cert.ProjBackIdeal.Gen.facts,
    Cert.ProjBackRefIdeal.Gen.facts,
    Cert.Pre_swiglu_finite.Gen.facts,
    Cert.Pre_stick_finite.Gen.facts,
    Cert.Pre_scores_finite.Gen.facts,
    Cert.On_gate_columns.Gen.facts,
    Cert.MergeClaims.frame,
    Cert.MergeClaims.frame_ideal,
    Cert.MergeClaims.frame_ref,
    Cert.PreMixClaims.frame,
    Cert.PreMixClaims.frame_ideal,
    Cert.PreMixClaims.frame_ref,
    Cert.PostMixClaims.frame,
    Cert.PostMixClaims.frame_ideal,
    Cert.PostMixClaims.frame_ref,
    Cert.LossHeadClaims.frame,
    Cert.LossHeadClaims.frame_ideal,
    Cert.LossHeadClaims.frame_ref,
    Cert.SwigluClaims.frame,
    Cert.SwigluClaims.frame_ideal,
    Cert.SwigluClaims.frame_ideal_finite,
    Cert.SwigluClaims.frame_ref,
    Cert.SwigluClaims.frame_ref_finite,
    Cert.StickClaims.frame,
    Cert.StickClaims.frame_ideal,
    Cert.StickClaims.frame_ideal_finite,
    Cert.StickClaims.frame_ref,
    Cert.StickClaims.frame_ref_finite,
    Cert.StickOutClaims.frame,
    Cert.StickOutClaims.frame_ideal,
    Cert.StickOutClaims.frame_ideal_finite,
    Cert.StickOutClaims.frame_ref,
    Cert.StickOutClaims.frame_ref_finite,
    Cert.PreNormClaims.frame,
    Cert.PreNormClaims.frame_ideal,
    Cert.PreNormClaims.frame_ref,
    Cert.GatesClaims.frame,
    Cert.GatesClaims.frame_ideal,
    Cert.GatesClaims.frame_ref,
    Cert.TwoNormsClaims.frame,
    Cert.TwoNormsClaims.frame_ideal,
    Cert.TwoNormsClaims.frame_ref,
    Cert.FfnInClaims.frame,
    Cert.FfnInClaims.frame_ideal,
    Cert.FfnInClaims.frame_ref,
    Cert.RetClaims.frame,
    Cert.RetClaims.frame_ideal,
    Cert.RetClaims.frame_ref,
    Cert.ProjClaims.frame,
    Cert.ProjClaims.frame_ideal,
    Cert.ProjClaims.frame_ref,
    Cert.AdamWClaims.frame,
    Cert.AdamWClaims.frame_ideal,
    Cert.AdamWClaims.frame_ref,
    Cert.SlotsClaims.frame,
    Cert.SlotsClaims.frame_ideal,
    Cert.SlotsClaims.frame_ref,
    Cert.WeightGradClaims.frame,
    Cert.WeightGradClaims.frame_ideal,
    Cert.WeightGradClaims.frame_ref,
    Cert.FfnBackClaims.frame,
    Cert.FfnBackClaims.frame_ideal,
    Cert.FfnBackClaims.frame_ref,
    Cert.ProjBackClaims.frame,
    Cert.ProjBackClaims.frame_ideal,
    Cert.ProjBackClaims.frame_ref,
    Cert.MergeClaims.preserves,
    Cert.MergeClaims.algebraic,
    Cert.PreMixClaims.preserves,
    Cert.PreMixClaims.algebraic,
    Cert.PostMixClaims.preserves,
    Cert.PostMixClaims.algebraic,
    Cert.LossHeadClaims.preserves,
    Cert.LossHeadClaims.algebraic,
    Cert.SwigluClaims.preserves,
    Cert.SwigluClaims.algebraic,
    Cert.StickClaims.preserves,
    Cert.StickClaims.algebraic,
    Cert.StickOutClaims.preserves,
    Cert.StickOutClaims.algebraic,
    Cert.PreNormClaims.preserves,
    Cert.PreNormClaims.algebraic,
    Cert.GatesClaims.preserves,
    Cert.GatesClaims.algebraic,
    Cert.TwoNormsClaims.preserves,
    Cert.TwoNormsClaims.algebraic,
    Cert.FfnInClaims.preserves,
    Cert.FfnInClaims.algebraic,
    Cert.RetClaims.preserves,
    Cert.RetClaims.algebraic,
    Cert.ProjClaims.preserves,
    Cert.ProjClaims.algebraic,
    Cert.AdamWClaims.preserves,
    Cert.AdamWClaims.algebraic,
    Cert.SlotsClaims.preserves,
    Cert.SlotsClaims.algebraic,
    Cert.WeightGradClaims.preserves,
    Cert.WeightGradClaims.algebraic,
    Cert.FfnBackClaims.preserves,
    Cert.FfnBackClaims.algebraic,
    Cert.ProjBackClaims.preserves,
    Cert.ProjBackClaims.algebraic⟩

end Cert.Proof

end
